-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ffn [hPre_finite_ffn : Cert.Pre_finite_ffn.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ffn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ffn [hPre_finite_ffn : Cert.Pre_finite_ffn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ffn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_up [hPre_finite_up : Cert.Pre_finite_up.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_up.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_up [hPre_finite_up : Cert.Pre_finite_up.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_up.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_loss [hPre_finite_loss : Cert.Pre_finite_loss.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_loss.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_loss [hPre_finite_loss : Cert.Pre_finite_loss.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_loss.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_in [hPre_finite_in : Cert.Pre_finite_in.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_in.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8)) (m ((c.tc : Thread Cert.Kernel14Ideal.nD Cert.Kernel14Ideal.τ).loc Cert.Kernel14Ideal.main_arg9))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_in [hPre_finite_in : Cert.Pre_finite_in.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_in.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8)) (m ((c.tc : Thread Cert.Reference14Ideal.nD Cert.Reference14Ideal.τ).loc Cert.Reference14Ideal.main_arg9))) = (fun _ => 1#1)

def Pre_Kernel15 [hPre_causal_attention : Cert.Pre_causal_attention.Facts] (m : (ℓ : Loc Cert.Kernel15.nD Cert.Kernel15.τ Cert.Kernel15.sig) → Buf (Elt Bits) ℓ) : Prop :=
  ∀ c : Dev Cert.Kernel15.nD,
    (Cert.Pre_causal_attention.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3)) (m ((c.tc : Thread Cert.Kernel15.nD Cert.Kernel15.τ).loc Cert.Kernel15.main_arg4)) (m ((c.tc : Thread Cert.Kernel15.nD Cert.Kernel15.τ).loc Cert.Kernel15.main_arg5))) = (fun _ => 1#1)

def Pre_Kernel15Ideal [hPre_causal_attention : Cert.Pre_causal_attention.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_causal_attention.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_causal_attention [hPre_causal_attention : Cert.Pre_causal_attention.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_causal_attention.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_ffn [hKernelIdeal : Cert.KernelIdeal.Facts] [hPre_finite_ffn : Cert.Pre_finite_ffn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ffn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ffn [hReferenceIdeal : Cert.ReferenceIdeal.Facts] [hPre_finite_ffn : Cert.Pre_finite_ffn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ffn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_up [hKernel3Ideal : Cert.Kernel3Ideal.Facts] [hPre_finite_up : Cert.Pre_finite_up.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_up m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_up [hReference3Ideal : Cert.Reference3Ideal.Facts] [hPre_finite_up : Cert.Pre_finite_up.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_up m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_finite_loss [hKernel12Ideal : Cert.Kernel12Ideal.Facts] [hPre_finite_loss : Cert.Pre_finite_loss.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_loss m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_finite_loss [hReference12Ideal : Cert.Reference12Ideal.Facts] [hPre_finite_loss : Cert.Pre_finite_loss.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_loss m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ r.2.sem = fun _ => 0)

def quiescent_Kernel14Ideal_pre_finite_in [hKernel14Ideal : Cert.Kernel14Ideal.Facts] [hPre_finite_in : Cert.Pre_finite_in.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_in m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9))
      ∧ r.2.sem = fun _ => 0)

def quiescent_Reference14Ideal_pre_finite_in [hReference14Ideal : Cert.Reference14Ideal.Facts] [hPre_finite_in : Cert.Pre_finite_in.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_in m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9))
      ∧ r.2.sem = fun _ => 0)

def quiescent_Kernel15 [hKernel15 : Cert.Kernel15.Facts] [hPre_causal_attention : Cert.Pre_causal_attention.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] [hPre_causal_attention : Cert.Pre_causal_attention.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Reference15Ideal_pre_causal_attention [hReference15Ideal : Cert.Reference15Ideal.Facts] [hPre_causal_attention : Cert.Pre_causal_attention.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_causal_attention m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def preserves_Kernel_KernelIdeal : Prop :=
  True

def algebraic_KernelIdeal_ReferenceIdeal_pre_finite_ffn [hKernelIdeal : Cert.KernelIdeal.Facts] [hReferenceIdeal : Cert.ReferenceIdeal.Facts] [hPre_finite_ffn : Cert.Pre_finite_ffn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ffn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_up [hKernel3Ideal : Cert.Kernel3Ideal.Facts] [hReference3Ideal : Cert.Reference3Ideal.Facts] [hPre_finite_up : Cert.Pre_finite_up.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_up m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_v17) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal_pre_finite_loss [hKernel12Ideal : Cert.Kernel12Ideal.Facts] [hReference12Ideal : Cert.Reference12Ideal.Facts] [hPre_finite_loss : Cert.Pre_finite_loss.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_loss m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v88) = v0 c
          ∧ r.2.mem ((c.tc : Thread Cert.Reference12Ideal.nD Cert.Reference12Ideal.τ).loc Cert.Reference12Ideal.main_v91) = v1 c
          ∧ r.2.mem ((c.tc : Thread Cert.Reference12Ideal.nD Cert.Reference12Ideal.τ).loc Cert.Reference12Ideal.main_v72) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel14_Kernel14Ideal : Prop :=
  True

def algebraic_Kernel14Ideal_Reference14Ideal_pre_finite_in [hKernel14Ideal : Cert.Kernel14Ideal.Facts] [hReference14Ideal : Cert.Reference14Ideal.Facts] [hPre_finite_in : Cert.Pre_finite_in.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_in m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v39) = v0 c
          ∧ r.2.mem ((c.tc : Thread Cert.Reference14Ideal.nD Cert.Reference14Ideal.τ).loc Cert.Reference14Ideal.main_v22) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9))

def preserves_Kernel15_Kernel15Ideal : Prop :=
  IdealRules.named_const.Statement Cert.Kernel15Ideal.κ "mask" .f32 0xF149F2CA#32 ⊥

def algebraic_Kernel15Ideal_Reference15Ideal [hKernel15Ideal : Cert.Kernel15Ideal.Facts] [hReference15Ideal : Cert.Reference15Ideal.Facts] [hPre_causal_attention : Cert.Pre_causal_attention.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v36) = v0 c
          ∧ r.2.mem ((c.tc : Thread Cert.Reference15Ideal.nD Cert.Reference15Ideal.τ).loc Cert.Reference15Ideal.main_v38) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_ffn : Cert.Pre_finite_ffn.Facts) (hPre_finite_up : Cert.Pre_finite_up.Facts) (hPre_finite_loss : Cert.Pre_finite_loss.Facts) (hPre_finite_in : Cert.Pre_finite_in.Facts) (hPre_causal_attention : Cert.Pre_causal_attention.Facts),
    quiescent_Kernel (hKernel := hKernel)
    ∧ quiescent_KernelIdeal (hKernelIdeal := hKernelIdeal)
    ∧ quiescent_KernelIdeal_pre_finite_ffn (hKernelIdeal := hKernelIdeal) (hPre_finite_ffn := hPre_finite_ffn)
    ∧ quiescent_ReferenceIdeal (hReferenceIdeal := hReferenceIdeal)
    ∧ quiescent_ReferenceIdeal_pre_finite_ffn (hReferenceIdeal := hReferenceIdeal) (hPre_finite_ffn := hPre_finite_ffn)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_up (hKernel3Ideal := hKernel3Ideal) (hPre_finite_up := hPre_finite_up)
    ∧ quiescent_Reference3Ideal (hReference3Ideal := hReference3Ideal)
    ∧ quiescent_Reference3Ideal_pre_finite_up (hReference3Ideal := hReference3Ideal) (hPre_finite_up := hPre_finite_up)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_loss (hKernel12Ideal := hKernel12Ideal) (hPre_finite_loss := hPre_finite_loss)
    ∧ quiescent_Reference12Ideal (hReference12Ideal := hReference12Ideal)
    ∧ quiescent_Reference12Ideal_pre_finite_loss (hReference12Ideal := hReference12Ideal) (hPre_finite_loss := hPre_finite_loss)
    ∧ quiescent_Kernel14 (hKernel14 := hKernel14)
    ∧ quiescent_Kernel14Ideal (hKernel14Ideal := hKernel14Ideal)
    ∧ quiescent_Kernel14Ideal_pre_finite_in (hKernel14Ideal := hKernel14Ideal) (hPre_finite_in := hPre_finite_in)
    ∧ quiescent_Reference14Ideal (hReference14Ideal := hReference14Ideal)
    ∧ quiescent_Reference14Ideal_pre_finite_in (hReference14Ideal := hReference14Ideal) (hPre_finite_in := hPre_finite_in)
    ∧ quiescent_Kernel15 (hKernel15 := hKernel15) (hPre_causal_attention := hPre_causal_attention)
    ∧ quiescent_Kernel15Ideal (hKernel15Ideal := hKernel15Ideal) (hPre_causal_attention := hPre_causal_attention)
    ∧ quiescent_Reference15Ideal (hReference15Ideal := hReference15Ideal)
    ∧ quiescent_Reference15Ideal_pre_causal_attention (hReference15Ideal := hReference15Ideal) (hPre_causal_attention := hPre_causal_attention)
    ∧ preserves_Kernel_KernelIdeal
    ∧ algebraic_KernelIdeal_ReferenceIdeal_pre_finite_ffn (hKernelIdeal := hKernelIdeal) (hReferenceIdeal := hReferenceIdeal) (hPre_finite_ffn := hPre_finite_ffn)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_up (hKernel3Ideal := hKernel3Ideal) (hReference3Ideal := hReference3Ideal) (hPre_finite_up := hPre_finite_up)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_loss (hKernel12Ideal := hKernel12Ideal) (hReference12Ideal := hReference12Ideal) (hPre_finite_loss := hPre_finite_loss)
    ∧ preserves_Kernel14_Kernel14Ideal
    ∧ algebraic_Kernel14Ideal_Reference14Ideal_pre_finite_in (hKernel14Ideal := hKernel14Ideal) (hReference14Ideal := hReference14Ideal) (hPre_finite_in := hPre_finite_in)
    ∧ preserves_Kernel15_Kernel15Ideal
    ∧ algebraic_Kernel15Ideal_Reference15Ideal (hKernel15Ideal := hKernel15Ideal) (hReference15Ideal := hReference15Ideal) (hPre_causal_attention := hPre_causal_attention)
-- ==== Pre_causal_attention.lean ====
abbrev S136 : Shape := ⟨1, ![136]⟩
abbrev S8192x1024 : Shape := ⟨2, ![8192, 1024]⟩
abbrev S16x1024x512 : Shape := ⟨3, ![16, 1024, 512]⟩
abbrev S1024x512 : Shape := ⟨2, ![1024, 512]⟩
abbrev S_ : Shape := ⟨0, ![]⟩
abbrev S16x8x128x512 : Shape := ⟨4, ![16, 8, 128, 512]⟩
abbrev S16x8x1x512 : Shape := ⟨4, ![16, 8, 1, 512]⟩
abbrev S16x8x512 : Shape := ⟨3, ![16, 8, 512]⟩

class Facts : Prop where
  reducesTo_S136_S_d0 : S136.ReducesTo [0] S_
  h_S_ : 0 < S_.numel
  shapeCasts_S16x1024x512_S16x8x128x512 : S16x1024x512.ShapeCasts S16x8x128x512
  slices_S16x8x128x512_S16x8x1x512_0_0_64_0 : S16x8x128x512.Slices ![0, 0, 64, 0] S16x8x1x512
  shapeCasts_S16x8x1x512_S16x8x512 : S16x8x1x512.ShapeCasts S16x8x512
  bcast_S_S16x8x512 : S_.BroadcastsInDim S16x8x512 (![] : Fin 0 → Fin S16x8x512.rank)
  reducesTo_S16x8x512_S_d0_1_2 : S16x8x512.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn_part1 {F : FTy → Type} [FloatOps F] (main_arg3 : FVec F S8192x1024 .bf16) (main_v11 : IVec S_ 1) (main_v15 : IVec S_ 1) : IVec S_ 1 :=
  let main_v16 : FVec F S8192x1024 .bf16 := Host.absf main_arg3
  let main_cst_6 : FVec F S_ .bf16 := constant S_ .bf16 0x7F80#16
  let main_v17 : FVec F S8192x1024 .bf16 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v15 main_v19
  let main_v21 : IVec S_ 1 := andi main_v11 main_v20
  main_v21

def fn {F : FTy → Type} [FloatOps F] (main_arg0 : IVec S136 32) (main_arg1 : IVec S136 32) (main_arg2 : FVec F S8192x1024 .bf16) (main_arg3 : FVec F S8192x1024 .bf16) (main_arg4 : FVec F S16x1024x512 .bf16) (main_arg5 : FVec F S1024x512 .bf16) : IVec S_ 1 :=
  let main_c : IVec S136 32 := fun i => lit0 (S136.rowMajor i)
  let main_c_0 : IVec S136 32 := fun i => lit1 (S136.rowMajor i)
  let main_v0 : IVec S136 1 := cmpi .eq main_arg0 main_c
  let main_c_1 : IVec S_ 1 := constantI S_ 1 1#1
  let main_v1 : IVec S_ 1 := (fun x v => Host.reduce IntOp.andi x v reducesTo_S136_S_d0 h_S_) main_v0 main_c_1
  let main_v2 : IVec S136 1 := cmpi .eq main_arg1 main_c_0
  let main_c_2 : IVec S_ 1 := constantI S_ 1 1#1
  let main_v3 : IVec S_ 1 := (fun x v => Host.reduce IntOp.andi x v reducesTo_S136_S_d0 h_S_) main_v2 main_c_2
  let main_v4 : IVec S_ 1 := andi main_v1 main_v3
  let main_v5 : FVec F S16x8x128x512 .bf16 := shapeCast S16x8x128x512 main_arg4 shapeCasts_S16x1024x512_S16x8x128x512
  let main_v6 : FVec F S16x8x1x512 .bf16 := (extractStridedSlice S16x8x1x512 ![0, 0, 64, 0] · slices_S16x8x128x512_S16x8x1x512_0_0_64_0) main_v5
  let main_v7 : FVec F S16x8x512 .bf16 := shapeCast S16x8x512 main_v6 shapeCasts_S16x8x1x512_S16x8x512
  let main_cst : FVec F S_ .bf16 := constant S_ .bf16 0x3F80#16
  let main_v8 : FVec F S16x8x512 .bf16 := broadcastInDim S16x8x512 ![] bcast_S_S16x8x512 main_cst
  let main_v9 : IVec S16x8x512 1 := cmpf .oeq main_v7 main_v8
  let main_c_3 : IVec S_ 1 := constantI S_ 1 1#1
  let main_v10 : IVec S_ 1 := (fun x v => Host.reduce IntOp.andi x v reducesTo_S16x8x512_S_d0_1_2 h_S_) main_v9 main_c_3
  let main_v11 : IVec S_ 1 := andi main_v4 main_v10
  let main_v12 : FVec F S8192x1024 .bf16 := Host.absf main_arg2
  let main_cst_4 : FVec F S_ .bf16 := constant S_ .bf16 0x7F80#16
  let main_v13 : FVec F S8192x1024 .bf16 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_arg3 main_v11 main_v15
-- ==== Pre_finite_ffn.lean ====
abbrev S8192x1024 : Shape := ⟨2, ![8192, 1024]⟩
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x5632 : S_.BroadcastsInDim S8192x5632 (![] : Fin 0 → Fin S8192x5632.rank)
  reducesTo_S8192x5632_S_d0_1 : S8192x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .bf16) (main_v3 : IVec S_ 1) (main_v7 : IVec S_ 1) (main_v11 : IVec S_ 1) (main_v15 : IVec S_ 1) : IVec S_ 1 :=
  let main_v16 : FVec F S2816x1024 .bf16 := Host.absf main_arg4
  let main_cst_6 : FVec F S_ .bf16 := constant S_ .bf16 0x7F80#16
  let main_v17 : FVec F S2816x1024 .bf16 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x1024 .f32) (main_arg1 : FVec F S8192x5632 .bf16) (main_arg2 : FVec F S3x5632 .f32) (main_arg3 : FVec F S1x5632 .f32) (main_arg4 : FVec F S2816x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x5632 .bf16 := Host.absf main_arg1
  let main_cst_0 : FVec F S_ .bf16 := constant S_ .bf16 0x7F80#16
  let main_v5 : FVec F S8192x5632 .bf16 := broadcastInDim S8192x5632 ![] bcast_S_S8192x5632 main_cst_0
  let main_v6 : IVec S8192x5632 1 := cmpf .olt main_v4 main_v5
  let main_c_1 : IVec S_ 1 := constantI S_ 1 1#1
  let main_v7 : IVec S_ 1 := (fun x v => Host.reduce IntOp.andi x v reducesTo_S8192x5632_S_d0_1 h_S_) main_v6 main_c_1
  let main_v8 : FVec F S3x5632 .f32 := Host.absf main_arg2
  let main_cst_2 : FVec F S_ .f32 := constant S_ .f32 0x7F800000#32
  let main_v9 : FVec F S3x5632 .f32 := broadcastInDim S3x5632 ![] bcast_S_S3x5632 main_cst_2
  let main_v10 : IVec S3x5632 1 := cmpf .olt main_v8 main_v9
  let main_c_3 : IVec S_ 1 := constantI S_ 1 1#1
  let main_v11 : IVec S_ 1 := (fun x v => Host.reduce IntOp.andi x v reducesTo_S3x5632_S_d0_1 h_S_) main_v10 main_c_3
  let main_v12 : FVec F S1x5632 .f32 := Host.absf main_arg3
  let main_cst_4 : FVec F S_ .f32 := constant S_ .f32 0x7F800000#32
  let main_v13 : FVec F S1x5632 .f32 := broadcastInDim S1x5632 ![] bcast_S_S1x5632 main_cst_4
  let main_v14 : IVec S1x5632 1 := cmpf .olt main_v12 main_v13
  let main_c_5 : IVec S_ 1 := constantI S_ 1 1#1
  let main_v15 : IVec S_ 1 := (fun x v => Host.reduce IntOp.andi x v reducesTo_S1x5632_S_d0_1 h_S_) main_v14 main_c_5
  fn_part1 (F := F) main_arg4 main_v3 main_v7 main_v11 main_v15
-- ==== Pre_finite_in.lean ====
abbrev S8192x512 : Shape := ⟨2, ![8192, 512]⟩
abbrev S8192x128 : Shape := ⟨2, ![8192, 128]⟩
abbrev S1024x2688 : Shape := ⟨2, ![1024, 2688]⟩
abbrev S8192x1024 : Shape := ⟨2, ![8192, 1024]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S1024x2688 : S_.BroadcastsInDim S1024x2688 (![] : Fin 0 → Fin S1024x2688.rank)
  reducesTo_S1024x2688_S_d0_1 : S1024x2688.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x1024 .f32) (main_arg9 : FVec F S8192x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : FVec F S8192x1024 .f32 := Host.absf main_arg9
  let main_cst_16 : FVec F S_ .f32 := constant S_ .f32 0x7F800000#32
  let main_v37 : FVec F S8192x1024 .f32 := broadcastInDim S8192x1024 ![] bcast_S_S8192x1024 main_cst_16
  let main_v38 : IVec S8192x1024 1 := cmpf .olt main_v36 main_v37
  let main_c_17 : IVec S_ 1 := constantI S_ 1 1#1
  let main_v39 : IVec S_ 1 := (fun x v => Host.reduce IntOp.andi x v reducesTo_S8192x1024_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S8192x512 .bf16) (main_arg5 : FVec F S8192x128 .bf16) (main_arg6 : FVec F S1024x2688 .bf16) (main_arg7 : FVec F S8192x1024 .f32) (main_arg8 : FVec F S1x1024 .f32) (main_arg9 : FVec F S8192x1024 .f32) (main_v3 : IVec S_ 1) (main_v7 : IVec S_ 1) (main_v11 : IVec S_ 1) (main_v15 : IVec S_ 1) : IVec S_ 1 :=
  let main_v16 : FVec F S8192x512 .bf16 := Host.absf main_arg4
  let main_cst_6 : FVec F S_ .bf16 := constant S_ .bf16 0x7F80#16
  let main_v17 : FVec F S8192x512 .bf16 := broadcastInDim S8192x512 ![] bcast_S_S8192x512 main_cst_6
  let main_v18 : IVec S8192x512 1 := cmpf .olt main_v16 main_v17
  let main_c_7 : IVec S_ 1 := constantI S_ 1 1#1
  let main_v19 : IVec S_ 1 := (fun x v => Host.reduce IntOp.andi x v reducesTo_S8192x512_S_d0_1 h_S_) main_v18 main_c_7
  let main_v20 : FVec F S8192x128 .bf16 := Host.absf main_arg5
  let main_cst_8 : FVec F S_ .bf16 := constant S_ .bf16 0x7F80#16
  let main_v21 : FVec F S8192x128 .bf16 := broadcastInDim S8192x128 ![] bcast_S_S8192x128 main_cst_8
  let main_v22 : IVec S8192x128 1 := cmpf .olt main_v20 main_v21
  let main_c_9 : IVec S_ 1 := constantI S_ 1 1#1
  let main_v23 : IVec S_ 1 := (fun x v => Host.reduce IntOp.andi x v reducesTo_S8192x128_S_d0_1 h_S_) main_v22 main_c_9
  let main_v24 : FVec F S1024x2688 .bf16 := Host.absf main_arg6
  let main_cst_10 : FVec F S_ .bf16 := constant S_ .bf16 0x7F80#16
  let main_v25 : FVec F S1024x2688 .bf16 := broadcastInDim S1024x2688 ![] bcast_S_S1024x2688 main_cst_10
  let main_v26 : IVec S1024x2688 1 := cmpf .olt main_v24 main_v25
  let main_c_11 : IVec S_ 1 := constantI S_ 1 1#1
  let main_v27 : IVec S_ 1 := (fun x v => Host.reduce IntOp.andi x v reducesTo_S1024x2688_S_d0_1 h_S_) main_v26 main_c_11
  let main_v28 : FVec F S8192x1024 .f32 := Host.absf main_arg7
  let main_cst_12 : FVec F S_ .f32 := constant S_ .f32 0x7F800000#32
  let main_v29 : FVec F S8192x1024 .f32 := broadcastInDim S8192x1024 ![] bcast_S_S8192x1024 main_cst_12
  let main_v30 : IVec S8192x1024 1 := cmpf .olt main_v28 main_v29
  let main_c_13 : IVec S_ 1 := constantI S_ 1 1#1
  let main_v31 : IVec S_ 1 := (fun x v => Host.reduce IntOp.andi x v reducesTo_S8192x1024_S_d0_1 h_S_) main_v30 main_c_13
  fn_part2 (F := F) main_arg8 main_arg9 main_v3 main_v7 main_v11 main_v15 main_v19 main_v23 main_v27 main_v31

def fn {F : FTy → Type} [FloatOps F] (main_arg0 : FVec F S8192x512 .bf16) (main_arg1 : FVec F S8192x512 .bf16) (main_arg2 : FVec F S8192x512 .bf16) (main_arg3 : FVec F S8192x512 .bf16) (main_arg4 : FVec F S8192x512 .bf16) (main_arg5 : FVec F S8192x128 .bf16) (main_arg6 : FVec F S1024x2688 .bf16) (main_arg7 : FVec F S8192x1024 .f32) (main_arg8 : FVec F S1x1024 .f32) (main_arg9 : FVec F S8192x1024 .f32) : IVec S_ 1 :=
  let main_v0 : FVec F S8192x512 .bf16 := Host.absf main_arg0
  let main_cst : FVec F S_ .bf16 := constant S_ .bf16 0x7F80#16
  let main_v1 : FVec F S8192x512 .bf16 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .bf16 := Host.absf main_arg1
  let main_cst_0 : FVec F S_ .bf16 := constant S_ .bf16 0x7F80#16
  let main_v5 : FVec F S8192x512 .bf16 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S8192x512 .bf16 := Host.absf main_arg2
  let main_cst_2 : FVec F S_ .bf16 := constant S_ .bf16 0x7F80#16
  let main_v9 : FVec F S8192x512 .bf16 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S8192x512 .bf16 := Host.absf main_arg3
  let main_cst_4 : FVec F S_ .bf16 := constant S_ .bf16 0x7F80#16
  let main_v13 : FVec F S8192x512 .bf16 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_arg4 main_arg5 main_arg6 main_arg7 main_arg8 main_arg9 main_v3 main_v7 main_v11 main_v15
-- ==== Pre_finite_loss.lean ====
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_arg5 : FVec F S1x1024 .f32) (main_arg6 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x5632 .bf16) (main_arg1 : FVec F S3x5632 .f32) (main_arg2 : FVec F S1x5632 .f32) (main_arg3 : FVec F S2816x1024 .bf16) (main_arg4 : FVec F S8192x1024 .f32) (main_arg5 : FVec F S1x1024 .f32) (main_arg6 : FVec F S8192x1024 .f32) : IVec S_ 1 :=
  let main_v0 : FVec F S8192x5632 .bf16 := Host.absf main_arg0
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : FVec F S1x5632 .f32 := Host.absf main_arg2
  let main_cst_2 : FVec F S_ .f32 := constant S_ .f32 0x7F800000#32
  let main_v9 : FVec F S1x5632 .f32 := broadcastInDim S1x5632 ![] bcast_S_S1x5632 main_cst_2
  let main_v10 : IVec S1x5632 1 := cmpf .olt main_v8 main_v9
  let main_c_3 : IVec S_ 1 := constantI S_ 1 1#1
  let main_v11 : IVec S_ 1 := (fun x v => Host.reduce IntOp.andi x v reducesTo_S1x5632_S_d0_1 h_S_) main_v10 main_c_3
  let main_v12 : FVec F S2816x1024 .bf16 := Host.absf main_arg3
  let main_cst_4 : FVec F S_ .bf16 := constant S_ .bf16 0x7F80#16
  let main_v13 : FVec F S2816x1024 .bf16 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_arg5 main_arg6 main_v3 main_v7 main_v11 main_v15
-- ==== Pre_finite_up.lean ====
abbrev S8192x5632 : Shape := ⟨2, ![8192, 5632]⟩
abbrev S4x1024x1408 : Shape := ⟨3, ![4, 1024, 1408]⟩
abbrev S8192x1024 : Shape := ⟨2, ![8192, 1024]⟩
abbrev S1x1024 : Shape := ⟨2, ![1, 1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x5632 .bf16) (main_arg1 : FVec F S4x1024x1408 .bf16) (main_arg2 : FVec F S8192x1024 .f32) (main_arg3 : FVec F S1x1024 .f32) (main_arg4 : FVec F S8192x1024 .f32) : IVec S_ 1 :=
  let main_v0 : FVec F S8192x5632 .bf16 := Host.absf main_arg0
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S4x1024x1408 .bf16 := Host.absf main_arg1
  let main_cst_0 : FVec F S_ .bf16 := constant S_ .bf16 0x7F80#16
  let main_v5 : FVec F S4x1024x1408 .bf16 := broadcastInDim S4x1024x1408 ![] bcast_S_S4x1024x1408 main_cst_0
  let main_v6 : IVec S4x1024x1408 1 := cmpf .olt main_v4 main_v5
  let main_c_1 : IVec S_ 1 := constantI S_ 1 1#1
  let main_v7 : IVec S_ 1 := (fun x v => Host.reduce IntOp.andi x v reducesTo_S4x1024x1408_S_d0_1_2 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_v3 main_v7 main_v11 main_v15
-- ==== Kernel.lean ====
abbrev S8192x1024 : Shape := ⟨2, ![8192, 1024]⟩
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S8192x2816 : Shape := ⟨2, ![8192, 2816]⟩
abbrev S8x5632 : Shape := ⟨2, ![8, 5632]⟩
abbrev S256x1024 : Shape := ⟨2, ![256, 1024]⟩
abbrev S256x2816 : Shape := ⟨2, ![256, 2816]⟩
abbrev S8x2816 : Shape := ⟨2, ![8, 2816]⟩
abbrev S3x2816 : Shape := ⟨2, ![3, 2816]⟩
abbrev S1x2816 : Shape := ⟨2, ![1, 2816]⟩
abbrev S256x5632 : Shape := ⟨2, ![256, 5632]⟩
abbrev S256x256 : Shape := ⟨2, ![256, 256]⟩
abbrev S8x256 : Shape := ⟨2, ![8, 256]⟩
abbrev S248x256 : Shape := ⟨2, ![248, 256]⟩
abbrev S1x256 : Shape := ⟨2, ![1, 256]⟩
abbrev S256 : Shape := ⟨1, ![256]⟩

abbrev nBuf : Space → Nat
  | .hbm => 9
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S3x5632, .f32⟩
  | .hbm, ⟨3, _⟩ => ⟨S1x5632, .f32⟩
  | .hbm, ⟨4, _⟩ => ⟨S2816x1024, .bf16⟩
  | .hbm, ⟨5, _⟩ => ⟨S8192x5632, .bf16⟩
  | .hbm, ⟨6, _⟩ => ⟨S8192x2816, .bf16⟩
  | .hbm, ⟨7, _⟩ => ⟨S8x5632, .f32⟩
  | .hbm, ⟨8, _⟩ => ⟨S1x5632, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S8x2816, .bf16⟩
  | .local _ .vmem, ⟨7, _⟩ => ⟨S8x2816, .bf16⟩
  | .local _ .vmem, ⟨8, _⟩ => ⟨S8x2816, .bf16⟩
  | .local _ .vmem, ⟨9, _⟩ => ⟨S8x2816, .bf16⟩
  | .local _ .vmem, ⟨10, _⟩ => ⟨S3x2816, .f32⟩
  | .local _ .vmem, ⟨11, _⟩ => ⟨S3x2816, .f32⟩
  | .local _ .vmem, ⟨12, _⟩ => ⟨S1x2816, .f32⟩
  | .local _ .vmem, ⟨13, _⟩ => ⟨S1x2816, .f32⟩
  | .local _ .vmem, ⟨14, _⟩ => ⟨S2816x1024, .bf16⟩
  | .local _ .vmem, ⟨15, _⟩ => ⟨S256x5632, .bf16⟩
  | .local _ .vmem, ⟨16, _⟩ => ⟨S256x5632, .bf16⟩
  | .local _ .vmem, ⟨17, _⟩ => ⟨S256x2816, .bf16⟩
  | .local _ .vmem, ⟨18, _⟩ => ⟨S256x2816, .bf16⟩
  | .local _ .vmem, ⟨19, _⟩ => ⟨S8x5632, .f32⟩
  | .local _ .vmem, ⟨20, _⟩ => ⟨S1x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8191x5632 : Shape := ⟨2, ![8191, 5632]⟩
abbrev S2x5632 : Shape := ⟨2, ![2, 5632]⟩
abbrev S8190x5632 : Shape := ⟨2, ![8190, 5632]⟩
abbrev S8192x2816 : Shape := ⟨2, ![8192, 2816]⟩
abbrev S5632 : Shape := ⟨1, ![5632]⟩
abbrev S8x5632 : Shape := ⟨2, ![8, 5632]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S3x5632, .f32⟩
  | .hbm, ⟨3, _⟩ => ⟨S1x5632, .f32⟩
  | .hbm, ⟨4, _⟩ => ⟨S2816x1024, .bf16⟩
  | .hbm, ⟨5, _⟩ => ⟨S8192x5632, .f32⟩
  | .hbm, ⟨6, _⟩ => ⟨S2816x1024, .f32⟩
  | .hbm, ⟨7, _⟩ => ⟨S_, .f32⟩
  | .hbm, ⟨8, _⟩ => ⟨S1x5632, .f32⟩
  | .hbm, ⟨9, _⟩ => ⟨S8191x5632, .f32⟩
  | .hbm, ⟨10, _⟩ => ⟨S8192x5632, .f32⟩
  | .hbm, ⟨11, _⟩ => ⟨S_, .f32⟩
  | .hbm, ⟨12, _⟩ => ⟨S2x5632, .f32⟩
  | .hbm, ⟨13, _⟩ => ⟨S8190x5632, .f32⟩
  | .hbm, ⟨14, _⟩ => ⟨S8192x5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x5632, .f32⟩
  | .hbm, ⟨53, _⟩ => ⟨S_, .f32⟩
  | .hbm, ⟨54, _⟩ => ⟨S5632, .f32⟩
  | .hbm, ⟨55, _⟩ => ⟨S1x5632, .f32⟩
  | .hbm, ⟨56, _⟩ => ⟨S8192x5632, .f32⟩
  | .hbm, ⟨57, _⟩ => ⟨S_, .f32⟩
  | .hbm, ⟨58, _⟩ => ⟨S5632, .f32⟩
  | .hbm, ⟨59, _⟩ => ⟨S1x5632, .f32⟩
  | .hbm, ⟨60, _⟩ => ⟨S_, .f32⟩
  | .hbm, ⟨61, _⟩ => ⟨S3x5632, .f32⟩
  | .hbm, ⟨62, _⟩ => ⟨S8192x5632, .f32⟩
  | .hbm, ⟨63, _⟩ => ⟨S_, .f32⟩
  | .hbm, ⟨64, _⟩ => ⟨S5632, .f32⟩
  | .hbm, ⟨65, _⟩ => ⟨S1x5632, .f32⟩
  | .hbm, ⟨66, _⟩ => ⟨S_, .f32⟩
  | .hbm, ⟨67, _⟩ => ⟨S3x5632, .f32⟩
  | .hbm, ⟨68, _⟩ => ⟨S3x5632, .f32⟩
  | .hbm, ⟨69, _⟩ => ⟨S8192x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S_, .f32⟩
  | .hbm, ⟨74, _⟩ => ⟨S3x5632, .f32⟩
  | .hbm, ⟨75, _⟩ => ⟨S3x5632, .f32⟩
  | .hbm, ⟨76, _⟩ => ⟨S8192x5632, .bf16⟩
  | .hbm, ⟨77, _⟩ => ⟨S8192x2816, .f32⟩
  | .hbm, ⟨78, _⟩ => ⟨S8192x2816, .f32⟩
  | .hbm, ⟨79, _⟩ => ⟨S8192x2816, .f32⟩
  | .hbm, ⟨80, _⟩ => ⟨S8192x2816, .f32⟩
  | .hbm, ⟨81, _⟩ => ⟨S_, .f32⟩
  | .hbm, ⟨82, _⟩ => ⟨S8192x2816, .f32⟩
  | .hbm, ⟨83, _⟩ => ⟨S8192x2816, .f32⟩
  | .hbm, ⟨84, _⟩ => ⟨S_, .f32⟩
  | .hbm, ⟨85, _⟩ => ⟨S8192x2816, .f32⟩
  | .hbm, ⟨86, _⟩ => ⟨S8192x2816, .f32⟩
  | .hbm, ⟨87, _⟩ => ⟨S8192x2816, .f32⟩
  | .hbm, ⟨88, _⟩ => ⟨S8192x2816, .f32⟩
  | .hbm, ⟨89, _⟩ => ⟨S8192x2816, .bf16⟩
  | .hbm, ⟨90, _⟩ => ⟨S_, .i32⟩
  | .hbm, ⟨91, _⟩ => ⟨S_, .f32⟩
  | .hbm, ⟨92, _⟩ => ⟨S8x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v23_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v23_1 : Ref sig .tc := ⟨.hbm, 41, rfl⟩
abbrev main_v23_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_2 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c : Ref sig .tc := ⟨.hbm, 90, rfl⟩
abbrev main_call3_v0 : Ref sig .tc := ⟨.hbm, 91, rfl⟩
abbrev main_v53 : Ref sig .tc := ⟨.hbm, 92, rfl⟩

abbrev nD : Nat := 1
abbrev τ : Topo := Topo.v7x

variable {F : FTy → Type} [FloatOps F]
-- ==== Kernel2.lean ====
abbrev S8192x5632 : Shape := ⟨2, ![8192, 5632]⟩
abbrev S3x5632 : Shape := ⟨2, ![3, 5632]⟩
abbrev S256x2816 : Shape := ⟨2, ![256, 2816]⟩
abbrev S8x2816 : Shape := ⟨2, ![8, 2816]⟩
abbrev S3x2816 : Shape := ⟨2, ![3, 2816]⟩
abbrev S256x256 : Shape := ⟨2, ![256, 256]⟩
abbrev S8x256 : Shape := ⟨2, ![8, 256]⟩
abbrev S1x256 : Shape := ⟨2, ![1, 256]⟩
abbrev S248x256 : Shape := ⟨2, ![248, 256]⟩

abbrev nBuf : Space → Nat
  | .hbm => 3
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S8192x5632, .bf16⟩
  | .local _ .vmem, ⟨0, _⟩ => ⟨S256x2816, .bf16⟩
  | .local _ .vmem, ⟨1, _⟩ => ⟨S256x2816, .bf16⟩
  | .local _ .vmem, ⟨2, _⟩ => ⟨S8x2816, .bf16⟩
  | .local _ .vmem, ⟨3, _⟩ => ⟨S8x2816, .bf16⟩
  | .local _ .vmem, ⟨4, _⟩ => ⟨S3x2816, .f32⟩
  | .local _ .vmem, ⟨5, _⟩ => ⟨S3x2816, .f32⟩
  | .local _ .vmem, ⟨6, _⟩ => ⟨S256x2816, .bf16⟩
  | .local _ .vmem, ⟨7, _⟩ => ⟨S256x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x5632 : Shape := ⟨2, ![8192, 5632]⟩
abbrev S3x5632 : Shape := ⟨2, ![3, 5632]⟩
abbrev S_ : Shape := ⟨0, ![]⟩
abbrev S1x5632 : Shape := ⟨2, ![1, 5632]⟩
abbrev S8191x5632 : Shape := ⟨2, ![8191, 5632]⟩
abbrev S2x5632 : Shape := ⟨2, ![2, 5632]⟩
abbrev S8190x5632 : Shape := ⟨2, ![8190, 5632]⟩

abbrev nBuf : Space → Nat
  | .hbm => 49
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S_, .f32⟩
  | .hbm, ⟨3, _⟩ => ⟨S8192x5632, .f32⟩
  | .hbm, ⟨4, _⟩ => ⟨S_, .f32⟩
  | .hbm, ⟨5, _⟩ => ⟨S1x5632, .f32⟩
  | .hbm, ⟨6, _⟩ => ⟨S_, .f32⟩
  | .hbm, ⟨7, _⟩ => ⟨S1x5632, .f32⟩
  | .hbm, ⟨8, _⟩ => ⟨S8191x5632, .f32⟩
  | .hbm, ⟨9, _⟩ => ⟨S8192x5632, .f32⟩
  | .hbm, ⟨10, _⟩ => ⟨S_, .f32⟩
  | .hbm, ⟨11, _⟩ => ⟨S1x5632, .f32⟩
  | .hbm, ⟨12, _⟩ => ⟨S_, .f32⟩
  | .hbm, ⟨13, _⟩ => ⟨S2x5632, .f32⟩
  | .hbm, ⟨14, _⟩ => ⟨S8190x5632, .f32⟩
  | .hbm, ⟨15, _⟩ => ⟨S8192x5632, .f32⟩
  | .hbm, ⟨16, _⟩ => ⟨S_, .f32⟩
  | .hbm, ⟨17, _⟩ => ⟨S2x5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S2x5632, .f32⟩
  | .hbm, ⟨39, _⟩ => ⟨S8190x5632, .f32⟩
  | .hbm, ⟨40, _⟩ => ⟨S_, .f32⟩
  | .hbm, ⟨41, _⟩ => ⟨S8192x5632, .f32⟩
  | .hbm, ⟨42, _⟩ => ⟨S8192x5632, .f32⟩
  | .hbm, ⟨43, _⟩ => ⟨S1x5632, .f32⟩
  | .hbm, ⟨44, _⟩ => ⟨S8191x5632, .f32⟩
  | .hbm, ⟨45, _⟩ => ⟨S_, .f32⟩
  | .hbm, ⟨46, _⟩ => ⟨S8192x5632, .f32⟩
  | .hbm, ⟨47, _⟩ => ⟨S8192x5632, .f32⟩
  | .hbm, ⟨48, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel3.lean ====
abbrev S8192x5632 : Shape := ⟨2, ![8192, 5632]⟩
abbrev S4x1024x1408 : Shape := ⟨3, ![4, 1024, 1408]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8192x5632 : Shape := ⟨2, ![8192, 5632]⟩
abbrev S4x1024x1408 : Shape := ⟨3, ![4, 1024, 1408]⟩
abbrev S8192x1024 : Shape := ⟨2, ![8192, 1024]⟩
abbrev S1x1024 : Shape := ⟨2, ![1, 1024]⟩
abbrev S1x1024x1408 : Shape := ⟨3, ![1, 1024, 1408]⟩
abbrev S1024x1408 : Shape := ⟨2, ![1024, 1408]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024x1408, .bf16⟩
  | .hbm, ⟨6, _⟩ => ⟨S1024x1408, .bf16⟩
  | .hbm, ⟨7, _⟩ => ⟨S1x1024x1408, .bf16⟩
  | .hbm, ⟨8, _⟩ => ⟨S1024x1408, .bf16⟩
  | .hbm, ⟨9, _⟩ => ⟨S1x1024x1408, .bf16⟩
  | .hbm, ⟨10, _⟩ => ⟨S1024x1408, .bf16⟩
  | .hbm, ⟨11, _⟩ => ⟨S1x1024x1408, .bf16⟩
  | .hbm, ⟨12, _⟩ => ⟨S1024x1408, .bf16⟩
  | .hbm, ⟨13, _⟩ => ⟨S1024x5632, .bf16⟩
  | .hbm, ⟨14, _⟩ => ⟨S1024x5632, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x5632, .f32⟩
  | .hbm, ⟨35, _⟩ => ⟨S8192x5632, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S8192x5632 : Shape := ⟨2, ![8192, 5632]⟩
abbrev S4x1024x1408 : Shape := ⟨3, ![4, 1024, 1408]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .f32⟩
  | .local _ .vmem, ⟨5, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel6.lean ====
abbrev S8192x1024 : Shape := ⟨2, ![8192, 1024]⟩
abbrev S4x1024x1408 : Shape := ⟨3, ![4, 1024, 1408]⟩
abbrev S8192x5632 : Shape := ⟨2, ![8192, 5632]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .bf16⟩
  | .local _ .vmem, ⟨5, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x1024 : Shape := ⟨2, ![8192, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S1x1024x1408, .bf16⟩
  | .hbm, ⟨3, _⟩ => ⟨S1024x1408, .bf16⟩
  | .hbm, ⟨4, _⟩ => ⟨S1x1024x1408, .bf16⟩
  | .hbm, ⟨5, _⟩ => ⟨S1024x1408, .bf16⟩
  | .hbm, ⟨6, _⟩ => ⟨S1x1024x1408, .bf16⟩
  | .hbm, ⟨7, _⟩ => ⟨S1024x1408, .bf16⟩
  | .hbm, ⟨8, _⟩ => ⟨S1x1024x1408, .bf16⟩
  | .hbm, ⟨9, _⟩ => ⟨S1024x1408, .bf16⟩
  | .hbm, ⟨10, _⟩ => ⟨S1024x5632, .bf16⟩
  | .hbm, ⟨11, _⟩ => ⟨S1024x5632, .f32⟩
  | .hbm, ⟨12, _⟩ => ⟨S8192x1024, .f32⟩
  | .hbm, ⟨13, _⟩ => ⟨S8192x5632, .f32⟩
  | .hbm, ⟨14, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x512 : Shape := ⟨2, ![8192, 512]⟩
abbrev S8192x1024 : Shape := ⟨2, ![8192, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S1024x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference8Ideal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S8192x512 : Shape := ⟨2, ![8192, 512]⟩
abbrev S8192x128 : Shape := ⟨2, ![8192, 128]⟩
abbrev S1024x2688 : Shape := ⟨2, ![1024, 2688]⟩
abbrev S512x1024 : Shape := ⟨2, ![512, 1024]⟩
abbrev S512x512 : Shape := ⟨2, ![512, 512]⟩
abbrev S512x128 : Shape := ⟨2, ![512, 128]⟩
abbrev S1024x512 : Shape := ⟨2, ![1024, 512]⟩
abbrev S1024x128 : Shape := ⟨2, ![1024, 128]⟩

abbrev nBuf : Space → Nat
  | .hbm => 8
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x128, .bf16⟩
  | .hbm, ⟨7, _⟩ => ⟨S1024x2688, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S1024x2688, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2688 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S8192x1024 : Shape := ⟨2, ![8192, 1024]⟩
abbrev S8192x512 : Shape := ⟨2, ![8192, 512]⟩
abbrev S8192x128 : Shape := ⟨2, ![8192, 128]⟩
abbrev S8192x2688 : Shape := ⟨2, ![8192, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x128, .bf16⟩
  | .hbm, ⟨7, _⟩ => ⟨S8192x2688, .bf16⟩
  | .hbm, ⟨8, _⟩ => ⟨S8192x2688, .f32⟩
  | .hbm, ⟨9, _⟩ => ⟨S_, .f32⟩
  | .hbm, ⟨10, _⟩ => ⟨S1024x2688, .f32⟩
  | .hbm, ⟨11, _⟩ => ⟨S8192x1024, .f32⟩
  | .hbm, ⟨12, _⟩ => ⟨S8192x2688, .f32⟩
  | .hbm, ⟨13, _⟩ => ⟨S2688x1024, .f32⟩
  | .hbm, ⟨14, _⟩ => ⟨S1024x2688, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x2688 : Shape := ⟨2, ![1024, 2688]⟩
abbrev S8192x2560 : Shape := ⟨2, ![8192, 2560]⟩
abbrev S8192x128 : Shape := ⟨2, ![8192, 128]⟩
abbrev S512x1024 : Shape := ⟨2, ![512, 1024]⟩
abbrev S512x2560 : Shape := ⟨2, ![512, 2560]⟩
abbrev S512x128 : Shape := ⟨2, ![512, 128]⟩
abbrev S512 : Shape := ⟨1, ![512]⟩
abbrev S512x1 : Shape := ⟨2, ![512, 1]⟩
abbrev S512x2688 : Shape := ⟨2, ![512, 2688]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2688, .bf16⟩
  | .hbm, ⟨3, _⟩ => ⟨S8192x2560, .bf16⟩
  | .hbm, ⟨4, _⟩ => ⟨S8192x128, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x2560, .bf16⟩
  | .local _ .vmem, ⟨5, _⟩ => ⟨S512x2560, .bf16⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8192x1024 : Shape := ⟨2, ![8192, 1024]⟩
abbrev S1x1024 : Shape := ⟨2, ![1, 1024]⟩
abbrev S1024x2688 : Shape := ⟨2, ![1024, 2688]⟩
abbrev S_ : Shape := ⟨0, ![]⟩
abbrev S8192 : Shape := ⟨1, ![8192]⟩
abbrev S8192x1 : Shape := ⟨2, ![8192, 1]⟩
abbrev S8192x2688 : Shape := ⟨2, ![8192, 2688]⟩
abbrev S8192x2560 : Shape := ⟨2, ![8192, 2560]⟩
abbrev S8192x128 : Shape := ⟨2, ![8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2688, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x2688, .f32⟩
  | .hbm, ⟨19, _⟩ => ⟨S8192x2688, .f32⟩
  | .hbm, ⟨20, _⟩ => ⟨S8192x2560, .f32⟩
  | .hbm, ⟨21, _⟩ => ⟨S8192x2560, .bf16⟩
  | .hbm, ⟨22, _⟩ => ⟨S8192x128, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel11.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel12.lean ====
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S8x2816 : Shape := ⟨2, ![8, 2816]⟩
abbrev S3x2816 : Shape := ⟨2, ![3, 2816]⟩
abbrev S1x2816 : Shape := ⟨2, ![1, 2816]⟩
abbrev S512x1024 : Shape := ⟨2, ![512, 1024]⟩
abbrev S512x256 : Shape := ⟨2, ![512, 256]⟩
abbrev S8x256 : Shape := ⟨2, ![8, 256]⟩
abbrev S504x256 : Shape := ⟨2, ![504, 256]⟩
abbrev S1x256 : Shape := ⟨2, ![1, 256]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 22
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S8x2816, .bf16⟩
  | .local _ .vmem, ⟨5, _⟩ => ⟨S8x2816, .bf16⟩
  | .local _ .vmem, ⟨6, _⟩ => ⟨S8x2816, .bf16⟩
  | .local _ .vmem, ⟨7, _⟩ => ⟨S8x2816, .bf16⟩
  | .local _ .vmem, ⟨8, _⟩ => ⟨S3x2816, .f32⟩
  | .local _ .vmem, ⟨9, _⟩ => ⟨S3x2816, .f32⟩
  | .local _ .vmem, ⟨10, _⟩ => ⟨S1x2816, .f32⟩
  | .local _ .vmem, ⟨11, _⟩ => ⟨S1x2816, .f32⟩
  | .local _ .vmem, ⟨12, _⟩ => ⟨S2816x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference12Ideal.lean ====
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8191x5632 : Shape := ⟨2, ![8191, 5632]⟩
abbrev S2x5632 : Shape := ⟨2, ![2, 5632]⟩
abbrev S8190x5632 : Shape := ⟨2, ![8190, 5632]⟩
abbrev S8192x2816 : Shape := ⟨2, ![8192, 2816]⟩
abbrev S8192 : Shape := ⟨1, ![8192]⟩
abbrev S8192x1 : Shape := ⟨2, ![8192, 1]⟩
abbrev S1024 : Shape := ⟨1, ![1024]⟩

abbrev nBuf : Space → Nat
  | .hbm => 129
  | .vmem => 0
  | .smem => 0
  | _ => 0

abbrev hbmTy0_0 (i : Nat) : BufTy := match i % 128 with
  | 0 => ⟨S8192x5632, .bf16⟩
  | 1 => ⟨S3x5632, .f32⟩
  | 2 => ⟨S1x5632, .f32⟩
  | 3 => ⟨S2816x1024, .bf16⟩
  | 4 => ⟨S8192x1024, .f32⟩
  | 5 => ⟨S1x1024, .f32⟩
  | 6 => ⟨S8192x1024, .f32⟩
  | 7 => ⟨S8192x5632, .f32⟩
  | 8 => ⟨S_, .f32⟩
  | 9 => ⟨S1x5632, .f32⟩
  | 10 => ⟨S8191x5632, .f32⟩
  | 11 => ⟨S8192x5632, .f32⟩
  | 12 => ⟨S_, .f32⟩
  | 13 => ⟨S2x5632, .f32⟩
  | 14 => ⟨S8190x5632, .f32⟩
  | 15 => ⟨S8192x5632, .f32⟩
  | 16 => ⟨S1x5632, .f32⟩
  | 17 => ⟨S8192x5632, .f32⟩
  | 18 => ⟨S8192x5632, .f32⟩
  | 19 => ⟨S1x5632, .f32⟩
  | 20 => ⟨S8192x5632, .f32⟩
  | 21 => ⟨S8192x5632, .f32⟩
  | 22 => ⟨S8192x5632, .f32⟩
  | 23 => ⟨S1x5632, .f32⟩
  | 24 => ⟨S8192x5632, .f32⟩
  | 25 => ⟨S8192x5632, .f32⟩
  | 26 => ⟨S8192x5632, .f32⟩
  | 27 => ⟨S8192x5632, .f32⟩
  | 28 => ⟨S8192x5632, .f32⟩
  | 29 => ⟨S8192x2816, .f32⟩
  | 30 => ⟨S8192x2816, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S2816x1024, .f32⟩
  | 42 => ⟨S8192x1024, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192, .f32⟩
  | 86 => ⟨S_, .f32⟩
  | 87 => ⟨S8192, .f32⟩
  | 88 => ⟨S8192, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S8192, .f32⟩
  | 97 => ⟨S_, .f32⟩
  | 98 => ⟨S8192, .f32⟩
  | 99 => ⟨S8192, .f32⟩
  | 100 => ⟨S8192x1024, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S_, .f32⟩
  | 110 => ⟨S8192, .f32⟩
  | 111 => ⟨S8192x1, .f32⟩
  | 112 => ⟨S8192x1024, .f32⟩
  | 113 => ⟨S8192x1024, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S_, .f32⟩
  | 127 => ⟨S1024, .f32⟩
  | _ => ⟨S8192x5632, .bf16⟩

abbrev hbmTy0_1 (i : Nat) : BufTy := match i % 128 with
  | 0 => ⟨S1x1024, .f32⟩
  | _ => ⟨S8192x5632, .bf16⟩

abbrev hbmTy (i : Nat) : BufTy := match i / 128 with
  | 0 => hbmTy0_0 i
  | 1 => hbmTy0_1 i
  | _ => ⟨S8192x5632, .bf16⟩

abbrev bufTy : (tb : Table) → Fin (tcTables nBuf tb) → BufTy
  | .hbm, ⟨i, _⟩ => hbmTy i
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_cst_13 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_17 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_18 : Ref sig .tc := ⟨.hbm, 115, rfl⟩
abbrev main_v81 : Ref sig .tc := ⟨.hbm, 116, rfl⟩
abbrev main_v82 : Ref sig .tc := ⟨.hbm, 117, rfl⟩
abbrev main_cst_19 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_20 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]
-- ==== Kernel14.lean ====
abbrev S8192x512 : Shape := ⟨2, ![8192, 512]⟩
abbrev S8192x128 : Shape := ⟨2, ![8192, 128]⟩
abbrev S1024x2688 : Shape := ⟨2, ![1024, 2688]⟩
abbrev S8192x1024 : Shape := ⟨2, ![8192, 1024]⟩
abbrev S1x1024 : Shape := ⟨2, ![1, 1024]⟩
abbrev S512x512 : Shape := ⟨2, ![512, 512]⟩
abbrev S512x128 : Shape := ⟨2, ![512, 128]⟩
abbrev S512x1024 : Shape := ⟨2, ![512, 1024]⟩
abbrev S1024x512 : Shape := ⟨2, ![1024, 512]⟩
abbrev S1024x128 : Shape := ⟨2, ![1024, 128]⟩
abbrev S512 : Shape := ⟨1, ![512]⟩
abbrev S512x1 : Shape := ⟨2, ![512, 1]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x128, .bf16⟩
  | .hbm, ⟨6, _⟩ => ⟨S1024x2688, .bf16⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S1024x2688, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2688 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference14Ideal.lean ====
abbrev S8192x512 : Shape := ⟨2, ![8192, 512]⟩
abbrev S8192x128 : Shape := ⟨2, ![8192, 128]⟩
abbrev S1024x2688 : Shape := ⟨2, ![1024, 2688]⟩
abbrev S8192x1024 : Shape := ⟨2, ![8192, 1024]⟩
abbrev S1x1024 : Shape := ⟨2, ![1, 1024]⟩
abbrev S8192x2688 : Shape := ⟨2, ![8192, 2688]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x128, .bf16⟩
  | .hbm, ⟨6, _⟩ => ⟨S1024x2688, .bf16⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x2688, .bf16⟩
  | .hbm, ⟨11, _⟩ => ⟨S8192x2688, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x2688, .f32⟩
  | .hbm, ⟨32, _⟩ => ⟨S8192x2688, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Kernel15.lean ====
abbrev S136 : Shape := ⟨1, ![136]⟩
abbrev S8192x1024 : Shape := ⟨2, ![8192, 1024]⟩
abbrev S16x1024x512 : Shape := ⟨3, ![16, 1024, 512]⟩
abbrev S1024x512 : Shape := ⟨2, ![1024, 512]⟩
abbrev S8192x512 : Shape := ⟨2, ![8192, 512]⟩
abbrev S16x8192 : Shape := ⟨2, ![16, 8192]⟩
abbrev S512x1024 : Shape := ⟨2, ![512, 1024]⟩
abbrev S1 : Shape := ⟨1, ![1]⟩
abbrev S1x1024x512 : Shape := ⟨3, ![1, 1024, 512]⟩
abbrev S512x512 : Shape := ⟨2, ![512, 512]⟩
abbrev S16x512 : Shape := ⟨2, ![16, 512]⟩
abbrev S8x8x512 : Shape := ⟨3, ![8, 8, 512]⟩
abbrev S8x128x512 : Shape := ⟨3, ![8, 128, 512]⟩
abbrev S512x128 : Shape := ⟨2, ![512, 128]⟩
abbrev S512 : Shape := ⟨1, ![512]⟩
abbrev S1x512 : Shape := ⟨2, ![1, 512]⟩
abbrev S1x8x512 : Shape := ⟨3, ![1, 8, 512]⟩
abbrev S8x512 : Shape := ⟨2, ![8, 512]⟩
abbrev S1x128x512 : Shape := ⟨3, ![1, 128, 512]⟩
abbrev S128x512 : Shape := ⟨2, ![128, 512]⟩

abbrev nBuf : Space → Nat
  | .hbm => 6
  | .vmem => 16
  | .smem => 2
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S16x1024x512, .bf16⟩
  | .hbm, ⟨3, _⟩ => ⟨S1024x512, .bf16⟩
  | .hbm, ⟨4, _⟩ => ⟨S8192x512, .bf16⟩
  | .hbm, ⟨5, _⟩ => ⟨S16x8192, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .bf16⟩
  | .local _ .vmem, ⟨7, _⟩ => ⟨S512x512, .bf16⟩
  | .local _ .vmem, ⟨8, _⟩ => ⟨S512x512, .bf16⟩
  | .local _ .vmem, ⟨9, _⟩ => ⟨S16x512, .f32⟩
  | .local _ .vmem, ⟨10, _⟩ => ⟨S16x512, .f32⟩
  | .local _ .vmem, ⟨11, _⟩ => ⟨S8x8x512, .f32⟩
  | .local _ .vmem, ⟨12, _⟩ => ⟨S8x128x512, .f32⟩
  | .local _ .vmem, ⟨13, _⟩ => ⟨S1024x512, .bf16⟩
  | .local _ .vmem, ⟨14, _⟩ => ⟨S512x512, .f32⟩
  | .local _ .vmem, ⟨15, _⟩ => ⟨S512x512, .f32⟩
  | .local _ .smem, ⟨0, _⟩ => ⟨S136, .i32⟩
  | .local _ .smem, ⟨1, _⟩ => ⟨S136, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0_0 : Ref sig .tc := ⟨.hbm, 4, rfl⟩
abbrev main_v0_1 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![c0_i32.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel15Ideal.lean ====
variable {F : FTy → Type} [FloatOps F] [Named F]
def κ : String → Option EReal := fun
  | "mask" => some ⊥
  | _ => none
-- ==== Reference15Ideal.lean ====
abbrev S136 : Shape := ⟨1, ![136]⟩
abbrev S8192x1024 : Shape := ⟨2, ![8192, 1024]⟩
abbrev S16x1024x512 : Shape := ⟨3, ![16, 1024, 512]⟩
abbrev S1024x512 : Shape := ⟨2, ![1024, 512]⟩
abbrev S16x512x1024 : Shape := ⟨3, ![16, 512, 1024]⟩
abbrev S8192x8x128 : Shape := ⟨3, ![8192, 8, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x512 : Shape := ⟨2, ![8192, 512]⟩
abbrev S16x8192 : Shape := ⟨2, ![16, 8192]⟩

abbrev nBuf : Space → Nat
  | .hbm => 54
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S8192x1024, .bf16⟩
  | .hbm, ⟨3, _⟩ => ⟨S8192x1024, .bf16⟩
  | .hbm, ⟨4, _⟩ => ⟨S16x1024x512, .bf16⟩
  | .hbm, ⟨5, _⟩ => ⟨S1024x512, .bf16⟩
  | .hbm, ⟨6, _⟩ => ⟨S16x512x1024, .bf16⟩
  | .hbm, ⟨7, _⟩ => ⟨S8192x1024, .bf16⟩
  | .hbm, ⟨8, _⟩ => ⟨S8192x1024, .f32⟩
  | .hbm, ⟨9, _⟩ => ⟨S8192x8x128, .f32⟩
  | .hbm, ⟨10, _⟩ => ⟨S8192x1024, .f32⟩
  | .hbm, ⟨11, _⟩ => ⟨S8192x8x128, .f32⟩
  | .hbm, ⟨12, _⟩ => ⟨S8192x1024, .f32⟩
  | .hbm, ⟨13, _⟩ => ⟨S8192x8x128, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x128x8192, .f32⟩
  | .hbm, ⟨40, _⟩ => ⟨S8192x8x128, .f32⟩
  | .hbm, ⟨41, _⟩ => ⟨S8192x1024, .f32⟩
  | .hbm, ⟨42, _⟩ => ⟨S1024x512, .f32⟩
  | .hbm, ⟨43, _⟩ => ⟨S8192x512, .f32⟩
  | .hbm, ⟨44, _⟩ => ⟨S8x8192x1, .f32⟩
  | .hbm, ⟨45, _⟩ => ⟨S_, .f32⟩
  | .hbm, ⟨46, _⟩ => ⟨S8x8192x1, .f32⟩
  | .hbm, ⟨47, _⟩ => ⟨S8x8192x1, .f32⟩
  | .hbm, ⟨48, _⟩ => ⟨S8x8192x1, .f32⟩
  | .hbm, ⟨49, _⟩ => ⟨S8x8192, .f32⟩
  | .hbm, ⟨50, _⟩ => ⟨S8192x512, .bf16⟩
  | .hbm, ⟨51, _⟩ => ⟨S_, .f32⟩
  | .hbm, ⟨52, _⟩ => ⟨S8x8192, .f32⟩
  | .hbm, ⟨53, _⟩ => ⟨S16x8192, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Proof.Ffn.Common.lean ====
/- What the value proofs of this certificate share: arrays addressed by natural numbers, a long sum cut into tiles of
   consecutive terms, and a matrix product read at an element. -/
module

public import Idealize.ShloMosaic.Lib.Pipeline.Value
public import Idealize.ShloMosaic.Lib.ValueIdx
public import Idealize.ShloMosaic.PureOps.Ideal.Laws

@[expose] public section

noncomputable section

namespace Cert.Common

open Idealize.ShloMosaic

/-- The element of a matrix in row `p` and column `q`, zero outside the matrix. -/
def at2 {a b : ℕ} (x : (⟨2, ![a, b]⟩ : Shape).Idx → EReal) (p q : ℕ) : EReal :=
  if h : p < a ∧ q < b then x (ValueIdx.ix2 ⟨p, h.1⟩ ⟨q, h.2⟩) else 0

/-- Inside the matrix `at2` is the matrix at any index with these coordinates. -/
theorem at2_of_val {a b : ℕ} (x : (⟨2, ![a, b]⟩ : Shape).Idx → EReal) (i : (⟨2, ![a, b]⟩ : Shape).Idx) (p q : ℕ)
    (hp : (i 0).val = p) (hq : (i 1).val = q) : x i = at2 x p q := by
  subst hp hq
  unfold at2
  rw [dif_pos ⟨(i 0).isLt, (i 1).isLt⟩]
  exact congrArg x (ValueIdx.eq_ix2 i)

/-- The element of a rank-three array at `(o, p, q)`, zero outside the array. -/
def at3 {a b d : ℕ} (x : (⟨3, ![a, b, d]⟩ : Shape).Idx → EReal) (o p q : ℕ) : EReal :=
  if h : o < a ∧ p < b ∧ q < d then x (ValueIdx.ix3 ⟨o, h.1⟩ ⟨p, h.2.1⟩ ⟨q, h.2.2⟩) else 0

/-- Inside the array `at3` is the array at any index with these coordinates. -/
theorem at3_of_val {a b d : ℕ} (x : (⟨3, ![a, b, d]⟩ : Shape).Idx → EReal) (i : (⟨3, ![a, b, d]⟩ : Shape).Idx) (o p q : ℕ)
    (ho : (i 0).val = o) (hp : (i 1).val = p) (hq : (i 2).val = q) : x i = at3 x o p q := by
  subst ho hp hq
  unfold at3
  rw [dif_pos ⟨(i 0).isLt, (i 1).isLt, (i 2).isLt⟩]
  exact congrArg x (ValueIdx.eq_ix3 i)

/-- A sum of `n · b` consecutive terms is the sum over `n` tiles of the sums of `b` terms each. -/
theorem sum_tiles (n b : ℕ) (f : ℕ → EReal) :
    ∑ s ∈ Finset.range n, ∑ r : Fin b, f (b * s + r.val) = ∑ k : Fin (n * b), f k.val := by
  rw [← Finset.sum_range (fun k => f k)]
  induction n with
  | zero => simp
  | succ n ih =>
    rw [Finset.sum_range_succ, ih, Nat.succ_mul, Finset.sum_range_add, ← Finset.sum_range (fun r => f (b * n + r))]
    simp only [Nat.mul_comm b n]

/-- A matrix product with one contracted axis of `n` positions, read at `j`: what it is added to, plus the sum of the
    products of the operands' elements that the caller names by the position. -/
theorem matmul_sum {sl sr so : Shape} {φ₁ φ₂ : FTy} (d : DotDims sl sr so) (n : ℕ) (hr : d.contr.rank = 1)
    (hs : d.contr.size ⟨0, by omega⟩ = n) (p : Option ContractPrecision)
    (l : FVec Ideal sl φ₁) (r : FVec Ideal sr φ₂) (acc : FVec Ideal so .f32) (j : so.Idx) (L R : ℕ → EReal)
    (hl : ∀ k : d.contr.Idx, l (d.lhsIdx j k) = L (k ⟨0, by omega⟩).val)
    (hR : ∀ k : d.contr.Idx, r (d.rhsIdx j k) = R (k ⟨0, by omega⟩).val) :
    matmul d p l r acc j = acc j + ∑ k : Fin n, L k.val * R k.val := by
  refine (Ideal.matmul_apply_of_eq d p l r acc j _ _ hl hR).trans ?_
  rw [← Equiv.sum_comp (ValueIdx.contrEquiv1 d n hr hs).symm]
  refine congrArg _ (Finset.sum_congr rfl fun k _ => ?_)
  have hk := ValueIdx.contrEquiv1_symm_val d n hr hs k
  rw [show (((ValueIdx.contrEquiv1 d n hr hs).symm k) ⟨0, by omega⟩).val = k.val from hk]

end Cert.Common

end
-- ==== Proof.Ffn.Finite.lean ====
/- What a finiteness precondition says: an array whose elements all compare below infinity in absolute value holds reals. -/
module

public import proofs.«01_k».proof.Proof.Ffn.Common
public import Idealize.ShloMosaic.Lib.ReduceAll
public import Idealize.ShloMosaic.Lib.WordCmp

@[expose] public section

namespace Cert.Finite

open Idealize.ShloMosaic Cert.Common

/-- The two literals of the comparisons are positive infinity. -/
theorem inf_f32 : Ideal.ofBits .f32 0x7F800000#32 = ⊤ := by
  simp [Ideal.ofBits, Ideal.ieee]

theorem inf_bf16 : Ideal.ofBits .bf16 0x7F80#16 = ⊤ := by
  simp [Ideal.ofBits, Ideal.ieee]

/-- An extended real whose absolute value is below infinity is a real. -/
theorem real_of_abs_lt (a : EReal) (h : max a (-a) < ⊤) : ∃ z : ℝ, a = z := by
  induction a with
  | bot => exact absurd h (by simp)
  | coe z => exact ⟨z, rfl⟩
  | top => exact absurd h (by simp)

instance : Subsingleton (⟨0, ![]⟩ : Shape).Idx := ⟨fun a b => funext fun x => x.elim0⟩

/-- An array that passes the test holds a real at every index. -/
theorem real_of_all {s : Shape} {φ : FTy} {axes : List (Fin s.rank)} (w : BitVec φ.bits) (hw : Ideal.ofBits φ w = ⊤)
    (a : FVec Ideal s φ) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (h : Host.reduce IntOp.andi (cmpf .olt (Host.absf a) (broadcastInDim s ![] hb (constant ⟨0, ![]⟩ φ w)))
      (constantI ⟨0, ![]⟩ 1 1#1) hr hu j = 1#1) (i : s.Idx) : ∃ z : ℝ, a i = z := by
  have h1 := Host.reduce_andi_all _ _ hr hu j h i
  refine real_of_abs_lt _ ?_
  have h2 : BitVec.ofBool (decide (max (a i) (-(a i)) < Ideal.ofBits φ w)) = 1#1 := h1
  rw [hw] at h2
  by_contra h3
  rw [decide_eq_false h3] at h2
  exact absurd h2 (by decide)

/-- Addressed by natural numbers too. -/
theorem real_at2 {a b : ℕ} (x : (⟨2, ![a, b]⟩ : Shape).Idx → EReal) (h : ∀ i, ∃ z : ℝ, x i = z) (p q : ℕ) : ∃ z : ℝ, at2 x p q = z := by
  unfold at2
  split
  · exact h _
  · exact ⟨0, rfl⟩

theorem real_at3 {a b d : ℕ} (x : (⟨3, ![a, b, d]⟩ : Shape).Idx → EReal) (h : ∀ i, ∃ z : ℝ, x i = z) (o p q : ℕ) :
    ∃ z : ℝ, at3 x o p q = z := by
  unfold at3
  split
  · exact h _
  · exact ⟨0, rfl⟩

end Cert.Finite
-- ==== Proof.Ffn.Shift.lean ====
/- The causal convolution's shifted tiles. A kernel moves the rows of a tile by a matrix product with a matrix of zeros and
   ones, and fills the rows that come from the neighbouring tile from a rotated block of eight rows. Here: such a matrix at
   an element, its product with a tile, and the filled tile at an element, for rows moved up and for rows moved down. -/
module

public import Idealize.ShloMosaic.Lib.Pointwise
public import proofs.«01_k».proof.Proof.Ffn.Common

@[expose] public section

namespace Cert.Shift

open Idealize.ShloMosaic Cert.Common

/-- A tile of 256 rows and 256 columns. -/
abbrev T : Shape := ⟨2, ![256, 256]⟩
/-- A halo of eight rows and 256 columns. -/
abbrev H : Shape := ⟨2, ![8, 256]⟩
/-- The part of a tile of 248 rows. -/
abbrev L : Shape := ⟨2, ![248, 256]⟩

/-- The words of two small numbers, one of them moved by a small distance, are equal exactly when the numbers are. -/
theorem word_eq (a : ℕ) (ha : a ≤ 2) (p r : ℕ) (hp : p < 256) (hr : r < 256) :
    IntOp.cmpi .eq (IntOp.addi (BitVec.ofNat 32 p) (BitVec.ofNat 32 a)) (BitVec.ofNat 32 r) = BitVec.ofBool (decide (p + a = r)) := by
  unfold IntOp.cmpi IntOp.addi
  congr 1
  rw [Bool.eq_iff_iff]
  simp only [beq_iff_eq, decide_eq_true_eq]
  rw [← BitVec.toNat_inj]
  simp only [BitVec.toNat_add, BitVec.toNat_ofNat]
  omega

/-- The bit of a condition as an extended real: one where it holds and zero where it does not. -/
theorem bit_value (P : Prop) [Decidable P] :
    (FloatOps.sitofp .f32 ((BitVec.ofBool (decide P)).setWidth 32) : Ideal .f32) = (if P then (1 : EReal) else 0) := by
  by_cases h : P
  · simp only [h, decide_true, if_true]
    show ((((BitVec.ofBool true).setWidth 32).toInt : ℝ) : EReal) = 1
    have : ((BitVec.ofBool true).setWidth 32).toInt = 1 := by decide
    rw [this]; norm_num
  · simp only [h, decide_false, if_false]
    show ((((BitVec.ofBool false).setWidth 32).toInt : ℝ) : EReal) = 0
    have : ((BitVec.ofBool false).setWidth 32).toInt = 0 := by decide
    rw [this]; norm_num

/-- The matrix that moves rows up by `a` has a one where the row moved by `a` is the column, and zeros elsewhere. -/
theorem upMat (a : ℕ) (ha : a ≤ 2) (w : BitVec 32) (hw : w = BitVec.ofNat 32 a) (h0 : T.Iotas .tc 32 [0]) (h1 : T.Iotas .tc 32 [1])
    (h2 : 1 < 32) (h3 : FTy.bf16.bits < FTy.f32.bits) (j : T.Idx) :
    (truncf .bf16 (sitofp .f32 (extui 32 (cmpi .eq (addi (iota .tc T 32 [0] h0) (broadcast T w)) (iota .tc T 32 [1] h1)) h2)
      : FVec Ideal T .f32) h3 : FVec Ideal T .bf16) j = if (j 0).val + a = (j 1).val then (1 : EReal) else 0 := by
  subst hw
  rw [← bit_value]
  refine congrArg (fun b : BitVec 1 => (FloatOps.sitofp .f32 (b.setWidth 32) : Ideal .f32)) ?_
  pointwise
  exact word_eq a ha _ _ (j 0).isLt (j 1).isLt

/-- The matrix that moves rows down by `a` has a one where the column moved by `a` is the row, and zeros elsewhere. -/
theorem downMat (a : ℕ) (ha : a ≤ 2) (w : BitVec 32) (hw : w = BitVec.ofNat 32 a) (h0 : T.Iotas .tc 32 [0]) (h1 : T.Iotas .tc 32 [1])
    (h2 : 1 < 32) (h3 : FTy.bf16.bits < FTy.f32.bits) (j : T.Idx) :
    (truncf .bf16 (sitofp .f32 (extui 32 (cmpi .eq (iota .tc T 32 [0] h0) (addi (iota .tc T 32 [1] h1) (broadcast T w))) h2)
      : FVec Ideal T .f32) h3 : FVec Ideal T .bf16) j = if (j 1).val + a = (j 0).val then (1 : EReal) else 0 := by
  subst hw
  rw [← bit_value]
  refine congrArg (fun b : BitVec 1 => (FloatOps.sitofp .f32 (b.setWidth 32) : Ideal .f32)) ?_
  rw [← word_eq a ha _ _ (j 1).isLt (j 0).isLt]
  pointwise
  unfold IntOp.cmpi
  exact congrArg BitVec.ofBool (Bool.beq_comm)

/-- The product of the matrix that moves rows up with a tile reads the tile `a` rows further down, and zero past its end. -/
theorem upSum (a : ℕ) (U x : T.Idx → EReal) (hU : ∀ j, U j = if (j 0).val + a = (j 1).val then (1 : EReal) else 0)
    (p q : Fin 256) : (∑ k : Fin 256, U (ValueIdx.ix2 p k) * x (ValueIdx.ix2 k q)) = if p.val + a < 256 then at2 x (p.val + a) q.val else 0 := by
  simp only [hU]
  by_cases h : p.val + a < 256
  · rw [if_pos h, Finset.sum_eq_single ⟨p.val + a, h⟩]
    · rw [if_pos (show p.val + a = p.val + a from rfl), one_mul]
      exact at2_of_val x _ _ _ rfl rfl
    · intro k _ hk
      rw [if_neg (fun e : p.val + a = k.val => hk (Fin.ext e.symm)), zero_mul]
    · intro hk; exact absurd (Finset.mem_univ _) hk
  · rw [if_neg h]
    refine Finset.sum_eq_zero fun k _ => ?_
    rw [if_neg (fun e : p.val + a = k.val => h (e ▸ k.isLt)), zero_mul]

/-- The product of the matrix that moves rows down with a tile reads the tile `a` rows further up, and zero before its start. -/
theorem downSum (a : ℕ) (U x : T.Idx → EReal) (hU : ∀ j, U j = if (j 1).val + a = (j 0).val then (1 : EReal) else 0)
    (p q : Fin 256) : (∑ k : Fin 256, U (ValueIdx.ix2 p k) * x (ValueIdx.ix2 k q)) = if a ≤ p.val then at2 x (p.val - a) q.val else 0 := by
  simp only [hU]
  by_cases h : a ≤ p.val
  · have hp := p.isLt
    rw [if_pos h, Finset.sum_eq_single ⟨p.val - a, by omega⟩]
    · rw [if_pos (show p.val - a + a = p.val by omega), one_mul]
      exact at2_of_val x _ _ _ rfl rfl
    · intro k _ hk
      rw [if_neg (fun e : k.val + a = p.val => hk (Fin.ext (by show k.val = p.val - a; omega))), zero_mul]
    · intro hk; exact absurd (Finset.mem_univ _) hk
  · rw [if_neg h]
    refine Finset.sum_eq_zero fun k _ => ?_
    rw [if_neg (fun e : k.val + a = p.val => h (by omega)), zero_mul]

/-- The signed comparison of the words of two numbers below eight is the comparison of the numbers. -/
theorem sge_word (a : ℕ) (ha : 1 ≤ a ∧ a ≤ 2) (r : ℕ) (hr : r < 8) :
    IntOp.cmpi .sge (BitVec.ofNat 32 r) (BitVec.ofNat 32 (8 - a)) = BitVec.ofBool (decide (8 - a ≤ r)) := by
  obtain ⟨h1, h2⟩ := ha
  interval_cases a <;> interval_cases r <;> rfl

/-- The tile whose rows were moved up by `a`, its last rows filled from the next block's first rows: row `p` is row `p + a`
    of the tile and, past its end, row `p + a - 256` of the next block. -/
theorem upFill (a : ℕ) (ha : 1 ≤ a ∧ a ≤ 2) (w : BitVec 32) (hw : w = BitVec.ofNat 32 (8 - a)) (x : T.Idx → EReal)
    (M : FVec Ideal T .f32) (hM : ∀ j : T.Idx, M j = if (j 0).val + a < 256 then at2 x ((j 0).val + a) (j 1).val else 0)
    (nx : FVec Ideal H .f32) (z : Ideal .f32) (hz : z = 0) (h0 : H.Iotas .tc 32 [0]) (h1 : T.Slices ![0, 0] L) (h2 : T.Slices ![248, 0] H)
    (h3 : H.Rotates 0 none) (h4 : Shape.Concatenates [L, H] T 0) (j : T.Idx) :
    concatenate T 0 [⟨L, extractStridedSlice L ![0, 0] M h1⟩,
      ⟨H, addf (extractStridedSlice H ![248, 0] M h2)
        (select (cmpi .sge (iota .tc H 32 [0] h0) (broadcast H w)) (dynamicRotate 0 w none nx h3) (broadcast H z))⟩] h4 j
      = if (j 0).val + a < 256 then at2 x ((j 0).val + a) (j 1).val else at2 nx ((j 0).val + a - 256) (j 1).val := by
  obtain ⟨p, q, rfl⟩ : ∃ (p : Fin 256) (q : Fin 256), j = ValueIdx.ix2 p q := ⟨j 0, j 1, ValueIdx.eq_ix2 j⟩
  have hp := p.isLt
  subst hz
  pointwise
  by_cases h : p.val < 248
  · rw [dif_pos h, hM]
    simp only [Nat.zero_add]
    have h' : p.val + a < 256 := by omega
    exact (if_pos h').trans (if_pos h').symm
  · rw [dif_neg h, hM]
    have hw8 : IntOp.cmpi .sge (BitVec.ofNat 32 (p.val - 248)) w = BitVec.ofBool (decide (256 ≤ p.val + a)) := by
      subst hw
      have hr : p.val - 248 < 8 := by omega
      have hd : (256 ≤ p.val + a) ↔ 8 - a ≤ p.val - 248 := by omega
      exact (sge_word a ha _ hr).trans (congrArg BitVec.ofBool (decide_eq_decide.mpr hd.symm))
    rw [hw8]
    have hrow : 248 + (p.val - 248) = p.val := by omega
    by_cases h' : p.val + a < 256
    · rw [decide_eq_false (by omega)]
      simp only [hrow]
      refine (congrArg (· + _) (if_pos h')).trans (Eq.trans ?_ (if_pos h').symm)
      exact add_zero _
    · rw [decide_eq_true (by omega)]
      simp only [hrow]
      refine (congrArg (· + _) (if_neg h')).trans (Eq.trans ?_ (if_neg h').symm)
      refine (zero_add _).trans ?_
      refine at2_of_val nx _ _ _ ?_ rfl
      show (p.val - 248 + 8 - w.toNat % 8) % 8 = p.val + a - 256
      have : w.toNat = 8 - a := by subst hw; rw [BitVec.toNat_ofNat]; omega
      rw [this]; omega

/-- The tile whose rows were moved down by `a`, its first rows filled from the previous block's last rows: row `p` is row
    `p - a` of the tile and, before its start, row `p + 8 - a` of the previous block's last eight rows. -/
theorem downFill (a : ℕ) (ha : 1 ≤ a ∧ a ≤ 2) (w : BitVec 32) (hw : w = BitVec.ofNat 32 a) (x : T.Idx → EReal)
    (M : FVec Ideal T .f32) (hM : ∀ j : T.Idx, M j = if a ≤ (j 0).val then at2 x ((j 0).val - a) (j 1).val else 0)
    (nx : FVec Ideal H .f32) (z : Ideal .f32) (hz : z = 0) (h0 : H.Iotas .tc 32 [0]) (h1 : T.Slices ![8, 0] L) (h2 : T.Slices ![0, 0] H)
    (h3 : H.Rotates 0 none) (h4 : Shape.Concatenates [H, L] T 0) (j : T.Idx) :
    concatenate T 0 [⟨H, addf (extractStridedSlice H ![0, 0] M h2)
        (select (cmpi .slt (iota .tc H 32 [0] h0) (broadcast H w)) (dynamicRotate 0 w none nx h3) (broadcast H z))⟩,
      ⟨L, extractStridedSlice L ![8, 0] M h1⟩] h4 j
      = if a ≤ (j 0).val then at2 x ((j 0).val - a) (j 1).val else at2 nx ((j 0).val + 8 - a) (j 1).val := by
  obtain ⟨p, q, rfl⟩ : ∃ (p : Fin 256) (q : Fin 256), j = ValueIdx.ix2 p q := ⟨j 0, j 1, ValueIdx.eq_ix2 j⟩
  have hp := p.isLt
  subst hz
  pointwise
  by_cases h : p.val < 8
  · rw [dif_pos h, hM]
    have hw8 : IntOp.cmpi .slt (BitVec.ofNat 32 (ValueIdx.ix2 p q 0).val) w = BitVec.ofBool (decide (p.val < a)) := by
      show IntOp.cmpi .slt (BitVec.ofNat 32 p.val) w = _
      subst hw
      generalize p.val = r at h
      obtain ⟨h1, h2⟩ := ha
      interval_cases a <;> interval_cases r <;> rfl
    rw [hw8]
    simp only [Nat.zero_add]
    by_cases h' : a ≤ p.val
    · rw [decide_eq_false (by omega)]
      refine (congrArg (· + _) (if_pos h')).trans (Eq.trans ?_ (if_pos h').symm)
      exact add_zero _
    · rw [decide_eq_true (by omega)]
      refine (congrArg (· + _) (if_neg h')).trans (Eq.trans ?_ (if_neg h').symm)
      refine (zero_add _).trans ?_
      refine at2_of_val nx _ _ _ ?_ rfl
      show (p.val + 8 - w.toNat % 8) % 8 = p.val + 8 - a
      have : w.toNat = a := by subst hw; rw [BitVec.toNat_ofNat]; omega
      rw [this]; omega
  · rw [dif_neg h, hM]
    have hrow : 8 + (p.val - 8) = p.val := by omega
    have h' : a ≤ p.val := by omega
    simp only [hrow]
    exact (if_pos h').trans (if_pos h').symm

/-- The two parts of a tile, the long one first, make up a tile. -/
theorem parts_up : Shape.Concatenates [L, H] T 0 := by decide
/-- The two parts of a tile, the short one first, make up a tile. -/
theorem parts_down : Shape.Concatenates [H, L] T 0 := by decide

section Tiles
variable {F : FTy → Type} [FloatOps F]

/-- The dimension numbers of a product of two tiles. -/
noncomputable def dims : DotDims T T T where
  lhsContracting := [1]
  rhsContracting := [0]
  lhsNonContracting := [0]
  rhsNonContracting := [1]
  lhsBatch := []
  rhsBatch := []

/-- The matrix of zeros and ones that moves rows up. -/
noncomputable def upMatrix (w : BitVec 32) : FVec F T .bf16 :=
  truncf .bf16 (sitofp .f32 (extui 32 (cmpi .eq (addi (iota .tc T 32 [0] (by decide)) (broadcast T w)) (iota .tc T 32 [1] (by decide))) (by decide))) (by decide)

/-- The matrix of zeros and ones that moves rows down. -/
noncomputable def downMatrix (w : BitVec 32) : FVec F T .bf16 :=
  truncf .bf16 (sitofp .f32 (extui 32 (cmpi .eq (iota .tc T 32 [0] (by decide)) (addi (iota .tc T 32 [1] (by decide)) (broadcast T w))) (by decide))) (by decide)

/-- A tile times a matrix of zeros and ones, from zero. -/
noncomputable def moved (U : FVec F T .bf16) (x : FVec F T .bf16) : FVec F T .f32 :=
  matmul dims none U x (constant T .f32 0x00000000#32)

/-- A tile moved up and filled from the next block's first rows. -/
noncomputable def upTile (w v : BitVec 32) (x : FVec F T .bf16) (nx : FVec F H .f32) : FVec F T .f32 :=
  concatenate T 0 [⟨L, extractStridedSlice L ![0, 0] (moved (upMatrix w) x) (by decide)⟩,
      ⟨H, addf (extractStridedSlice H ![248, 0] (moved (upMatrix w) x) (by decide))
        (select (cmpi .sge (iota .tc H 32 [0] (by decide)) (broadcast H v)) (dynamicRotate 0 v none nx (by decide))
          (broadcast H (Scalar.ofBits .f32 0x00000000#32)))⟩] parts_up

/-- A tile moved down and filled from the previous block's last rows. -/
noncomputable def downTile (w : BitVec 32) (x : FVec F T .bf16) (nx : FVec F H .f32) : FVec F T .f32 :=
  concatenate T 0 [⟨H, addf (extractStridedSlice H ![0, 0] (moved (downMatrix w) x) (by decide))
        (select (cmpi .slt (iota .tc H 32 [0] (by decide)) (broadcast H w)) (dynamicRotate 0 w none nx (by decide))
          (broadcast H (Scalar.ofBits .f32 0x00000000#32)))⟩,
      ⟨L, extractStridedSlice L ![8, 0] (moved (downMatrix w) x) (by decide)⟩] parts_down

end Tiles

/-- `upTile` at an element. -/
theorem upTile_apply (a : ℕ) (ha : 1 ≤ a ∧ a ≤ 2) (x : FVec Ideal T .bf16) (nx : FVec Ideal H .f32) (j : T.Idx) :
    upTile (BitVec.ofNat 32 a) (BitVec.ofNat 32 (8 - a)) x nx j
      = if (j 0).val + a < 256 then at2 x ((j 0).val + a) (j 1).val else at2 nx ((j 0).val + a - 256) (j 1).val := by
  refine upFill a ha _ rfl x _ (fun j => ?_) nx _ Ideal.ofBits_zero_f32 _ _ _ _ _ j
  unfold moved dims
  pointwise
  exact upSum a _ _ (fun i => upMat a ha.2 _ rfl _ _ _ _ i) (j 0) (j 1)

/-- `downTile` at an element. -/
theorem downTile_apply (a : ℕ) (ha : 1 ≤ a ∧ a ≤ 2) (x : FVec Ideal T .bf16) (nx : FVec Ideal H .f32) (j : T.Idx) :
    downTile (BitVec.ofNat 32 a) x nx j
      = if a ≤ (j 0).val then at2 x ((j 0).val - a) (j 1).val else at2 nx ((j 0).val + 8 - a) (j 1).val := by
  refine downFill a ha _ rfl x _ (fun j => ?_) nx _ Ideal.ofBits_zero_f32 _ _ _ _ _ j
  unfold moved dims
  pointwise
  exact downSum a _ _ (fun i => downMat a ha.2 _ rfl _ _ _ _ i) (j 0) (j 1)

end Cert.Shift
-- ==== Proof.Ffn.GateTile.lean ====
/- The backward pass of the gate, one chunk of 256 columns of a tile of 256 rows at a time: the convolution's output, the
   gate's product, the gradients at the convolution's output, and what a tile adds to the sums over the rows. Each as the
   kernel computes it, and at an element, in terms of the whole arrays. -/
module

public import proofs.«01_k».proof.Proof.Ffn.Shift
public import proofs.«01_k».proof.Proof.Gen.KernelIdeal.Value

@[expose] public section

namespace Cert.Gate

open Idealize.ShloMosaic Idealize.ShloMosaic.TcCoe Idealize.SL.Sem
open Cert.KernelIdeal Cert.KernelIdeal.Gen Cert.Common Cert.Shift

section Chunk
variable {F : FTy → Type} [FloatOps F]

/-- The factor of the previous tile's rows: zero for the first tile and one otherwise. -/
noncomputable def factor (i : grid0.Coords) : F .f32 :=
  Scalar.select (Scalar.cmpi .eq (BitVec.ofNat 32 (i 0).val) 0#32) (Scalar.ofBits .f32 0x00000000#32) (Scalar.ofBits .f32 0x3F800000#32)

/-- The tile moved down by `w` rows, filled from the previous tile's last rows times `s`. -/
noncomputable def tapT (w : BitVec 32) (s : F .f32) (a : FVec F T .bf16) (h : FVec F H .bf16) : FVec F T .f32 :=
  downTile w a (mulf (extf .f32 h bitsLt_bf16_f32) (broadcast H s))

/-- The tile's columns themselves. -/
noncomputable def tap0T (a : FVec F T .bf16) : FVec F T .f32 := extf .f32 a bitsLt_bf16_f32

/-- The convolution's output. -/
noncomputable def preT (s : F .f32) (a : FVec F T .bf16) (h : FVec F H .bf16) (w2 w1 w0 b : FVec F S1x256 .f32) : FVec F T .f32 :=
  addf (addf (addf (mulf (broadcastTo T w2 broadcasts_S1x256_S256x256) (tap0T a))
    (mulf (broadcastTo T w1 broadcasts_S1x256_S256x256) (tapT 1#32 s a h)))
    (mulf (broadcastTo T w0 broadcasts_S1x256_S256x256) (tapT 2#32 s a h))) (broadcastTo T b broadcasts_S1x256_S256x256)

/-- The logistic function by way of the hyperbolic tangent. -/
noncomputable def sigT (g : FVec F T .f32) : FVec F T .f32 :=
  addf (mulf (broadcast T (Scalar.ofBits .f32 0x3F000000#32)) (tanh (mulf (broadcast T (Scalar.ofBits .f32 0x3F000000#32)) g)))
    (broadcast T (Scalar.ofBits .f32 0x3F000000#32))

/-- The gate's activation. -/
noncomputable def actT (g : FVec F T .f32) : FVec F T .f32 := mulf g (sigT g)

/-- The gradient at the gate's product. -/
noncomputable def dyT (d : FVec F S256x1024 .f32) (w : FVec F S256x1024 .bf16) : FVec F T .f32 :=
  matmul dot_S256x1024_S256x1024_S256x256_1_1_0_0_n_n none (truncf .bf16 d bitsLt_bf16_f32) w (constant T .f32 0x00000000#32)

/-- The gradient at the gate's input. -/
noncomputable def dgT (g v dy : FVec F T .f32) : FVec F T .f32 :=
  mulf (mulf dy v) (subf (addf (sigT g) (actT g)) (mulf (actT g) (sigT g)))

/-- The gradient at the gated value. -/
noncomputable def dvT (g dy : FVec F T .f32) : FVec F T .f32 := mulf dy (actT g)

/-- A row of sums, and to it the sums over a tile's rows. -/
noncomputable def accT (x : FVec F T .f32) (xo : FVec F S1x256 .f32) : FVec F S1x256 .f32 :=
  addf (shapeCast S1x256 xo shapeCasts_S1x256_S1x256)
    (shapeCast S1x256 (multiReduction .add [0] S256 x 0x00000000#32 reduces_S256x256_S256 (.inl rfl) rfl) shapeCasts_S256_S1x256)

end Chunk

/-- The element `k` rows above row `R`, zero above the first row. -/
noncomputable def tap {a b : ℕ} (A : (⟨2, ![a, b]⟩ : Shape).Idx → EReal) (R Q k : ℕ) : EReal := if k ≤ R then at2 A (R - k) Q else 0

/-- The convolution's output in row `R` and column `Q`. -/
noncomputable def cv (A : S8192x5632.Idx → EReal) (W : S3x5632.Idx → EReal) (B : S1x5632.Idx → EReal) (R Q : ℕ) : EReal :=
  at2 W 2 Q * tap A R Q 0 + at2 W 1 Q * tap A R Q 1 + at2 W 0 Q * tap A R Q 2 + at2 B 0 Q

/-- The logistic function of an extended real, as the kernel computes it. -/
noncomputable def sg (x : EReal) : EReal :=
  Ideal.ofBits .f32 0x3F000000#32 * Ideal.tanh (Ideal.ofBits .f32 0x3F000000#32 * x) + Ideal.ofBits .f32 0x3F000000#32

/-- The gradient at the gate's product. -/
noncomputable def dy (D : S8192x1024.Idx → EReal) (Wd : S2816x1024.Idx → EReal) (R q : ℕ) : EReal :=
  ∑ k : Fin 1024, at2 D R k.val * at2 Wd q k.val

section Elements

/-- A tile's columns moved down by `a` rows, at an element, from the whole array. -/
theorem tapT_apply (a : ℕ) (ha : 1 ≤ a ∧ a ≤ 2) (A : S8192x5632.Idx → EReal) (b c0 o : ℕ) (ho : o + 256 ≤ 2816) (s : EReal)
    (x : S256x2816.Idx → EReal) (hx : ∀ j, x j = at2 A (b + (j 0).val) (c0 + (j 1).val))
    (n : S8x2816.Idx → EReal) (hn : ∀ j, n j * s = if 8 ≤ b + (j 0).val then at2 A (b + (j 0).val - 8) (c0 + (j 1).val) else 0)
    (h0 h1) (j : T.Idx) :
    tapT (F := Ideal) (BitVec.ofNat 32 a) s (View.ld (Val := Elt Ideal) (e' := .bf16) x (Rect.unit (s := S256x2816) ![0, o] ![256, 256] h0))
      (View.ld (Val := Elt Ideal) (e' := .bf16) n (Rect.unit (s := S8x2816) ![0, o] ![8, 256] h1)) j
      = tap A (b + (j 0).val) (c0 + (o + (j 1).val)) a := by
  have hj0 : (j 0).val < 256 := (j 0).isLt
  have hj1 : (j 1).val < 256 := (j 1).isLt
  unfold tapT tap
  rw [downTile_apply a ha]
  by_cases h : a ≤ (j 0).val
  · rw [if_pos h, if_pos (by omega)]
    rw [← at2_of_val (a := 256) (b := 256) _ (ValueIdx.ix2 ⟨(j 0).val - a, by omega⟩ ⟨(j 1).val, hj1⟩) _ _ rfl rfl]
    refine (hx _).trans ?_
    refine congrArg₂ (at2 A) ?_ ?_
    · show b + (0 + 1 * ((j 0).val - a)) = _; omega
    · show c0 + (o + 1 * (j 1).val) = _; omega
  · rw [if_neg h]
    rw [← at2_of_val (a := 8) (b := 256) _ (ValueIdx.ix2 ⟨(j 0).val + 8 - a, by omega⟩ ⟨(j 1).val, hj1⟩) _ _ rfl rfl]
    refine (hn _).trans ?_
    show (if 8 ≤ b + (0 + 1 * ((j 0).val + 8 - a)) then at2 A (b + (0 + 1 * ((j 0).val + 8 - a)) - 8) (c0 + (o + 1 * (j 1).val)) else 0) = _
    by_cases h' : a ≤ b + (j 0).val
    · rw [if_pos h', if_pos (by omega)]
      refine congrArg₂ (at2 A) ?_ ?_ <;> omega
    · rw [if_neg h', if_neg (by omega)]

/-- A tile's columns at an element, from the whole array. -/
theorem tap0T_apply (A : S8192x5632.Idx → EReal) (b c0 o : ℕ)
    (x : S256x2816.Idx → EReal) (hx : ∀ j, x j = at2 A (b + (j 0).val) (c0 + (j 1).val)) (h0) (j : T.Idx) :
    tap0T (F := Ideal) (View.ld (Val := Elt Ideal) (e' := .bf16) x (Rect.unit (s := S256x2816) ![0, o] ![256, 256] h0)) j
      = tap A (b + (j 0).val) (c0 + (o + (j 1).val)) 0 := by
  unfold tap
  rw [if_pos (Nat.zero_le _)]
  refine (hx _).trans ?_
  refine congrArg₂ (at2 A) ?_ ?_
  · show b + (0 + 1 * (j 0).val) = _; omega
  · show c0 + (o + 1 * (j 1).val) = _; omega

/-- A row cut out of a block of rows, spread over a tile, at an element. -/
theorem row_apply {n : ℕ} (W : (⟨2, ![n, 5632]⟩ : Shape).Idx → EReal) (c0 o u : ℕ) (x : (⟨2, ![n, 2816]⟩ : Shape).Idx → EReal)
    (hx : ∀ j, x j = at2 W (j 0).val (c0 + (j 1).val)) (h) (j : T.Idx) :
    broadcastTo T (View.ld (Val := Elt Ideal) (e' := .f32) x (Rect.unit (s := ⟨2, ![n, 2816]⟩) ![u, o] ![1, 256] h) : FVec Ideal S1x256 .f32)
      broadcasts_S1x256_S256x256 j = at2 W u (c0 + (o + (j 1).val)) := by
  pointwise
  refine (hx _).trans ?_
  refine congrArg₂ (at2 W) ?_ ?_
  · rfl
  · rfl

/-- The gradient at the gate's product at an element, from the whole arrays. -/
theorem dyT_apply (D : S8192x1024.Idx → EReal) (Wd : S2816x1024.Idx → EReal) (b o : ℕ)
    (d : S256x1024.Idx → EReal) (hd : ∀ j, d j = at2 D (b + (j 0).val) (j 1).val)
    (w : S2816x1024.Idx → EReal) (hw : ∀ j, w j = at2 Wd (j 0).val (j 1).val) (h) (j : T.Idx) :
    dyT (F := Ideal) d (View.ld (Val := Elt Ideal) (e' := .bf16) w (Rect.unit (s := S2816x1024) ![o, 0] ![256, 1024] h)) j
      = dy D Wd (b + (j 0).val) (o + (j 1).val) := by
  unfold dyT dy
  pointwise []
  refine Finset.sum_congr rfl fun k _ => ?_
  refine congrArg₂ (· * ·) (hd _) ((hw _).trans ?_)
  refine congrArg₂ (at2 Wd) ?_ ?_
  · rfl
  · rfl

/-- The convolution's output for a chunk at an element, from the whole arrays. -/
theorem preT_apply (A : S8192x5632.Idx → EReal) (W : S3x5632.Idx → EReal) (B : S1x5632.Idx → EReal) (b c0 o : ℕ) (ho : o + 256 ≤ 2816) (s : EReal)
    (x : S256x2816.Idx → EReal) (hx : ∀ j, x j = at2 A (b + (j 0).val) (c0 + (j 1).val))
    (n : S8x2816.Idx → EReal) (hn : ∀ j, n j * s = if 8 ≤ b + (j 0).val then at2 A (b + (j 0).val - 8) (c0 + (j 1).val) else 0)
    (w : S3x2816.Idx → EReal) (hw : ∀ j, w j = at2 W (j 0).val (c0 + (j 1).val))
    (v : S1x2816.Idx → EReal) (hv : ∀ j, v j = at2 B (j 0).val (c0 + (j 1).val))
    (h0 h1 h2 h3 h4 h5) (j : T.Idx) :
    preT (F := Ideal) s (View.ld (Val := Elt Ideal) (e' := .bf16) x (Rect.unit (s := S256x2816) ![0, o] ![256, 256] h0))
      (View.ld (Val := Elt Ideal) (e' := .bf16) n (Rect.unit (s := S8x2816) ![0, o] ![8, 256] h1))
      (View.ld (Val := Elt Ideal) (e' := .f32) w (Rect.unit (s := S3x2816) ![2, o] ![1, 256] h2))
      (View.ld (Val := Elt Ideal) (e' := .f32) w (Rect.unit (s := S3x2816) ![1, o] ![1, 256] h3))
      (View.ld (Val := Elt Ideal) (e' := .f32) w (Rect.unit (s := S3x2816) ![0, o] ![1, 256] h4))
      (View.ld (Val := Elt Ideal) (e' := .f32) v (Rect.unit (s := S1x2816) ![0, o] ![1, 256] h5)) j
      = cv A W B (b + (j 0).val) (c0 + (o + (j 1).val)) := by
  unfold cv
  rw [← tap0T_apply A b c0 o x hx h0 j, ← tapT_apply 1 ⟨by omega, by omega⟩ A b c0 o ho s x hx n hn h0 h1 j,
    ← tapT_apply 2 ⟨by omega, by omega⟩ A b c0 o ho s x hx n hn h0 h1 j,
    ← row_apply W c0 o 2 w hw h2 j, ← row_apply W c0 o 1 w hw h3 j, ← row_apply W c0 o 0 w hw h4 j, ← row_apply B c0 o 0 v hv h5 j]
  rfl

/-- A row of sums at an element. -/
theorem accT_apply (x : T.Idx → EReal) (xo : S1x256.Idx → EReal) (f : ℕ → ℕ → EReal) (hx : ∀ j, x j = f (j 0).val (j 1).val) (j : S1x256.Idx) :
    accT (F := Ideal) x xo j = xo j + ∑ r : Fin 256, f r.val (j 1).val := by
  unfold accT
  pointwise []
  simp only [hx]
  rfl

end Elements

end Cert.Gate
-- ==== Proof.Ffn.GateBlocks.lean ====
/- What one grid point leaves in the four result blocks of the gate's backward pass, at an element, in terms of the whole
   arrays its input blocks are cut out of. -/
module

public import proofs.«01_k».proof.Proof.Ffn.GateTile
public import Idealize.ShloMosaic.Lib.Pipeline.ReadBack

@[expose] public section

namespace Cert.Gate

open Idealize.ShloMosaic Idealize.ShloMosaic.TcCoe Idealize.SL.Sem
open Cert.KernelIdeal Cert.KernelIdeal.Gen Cert.Common Cert.Shift

theorem hz : (![0, 0] : Fin 2 → Nat) = fun _ => 0 := funext fun a => by fin_cases a <;> rfl

/-- A rectangle of whole rows' columns lies inside its block. -/
theorem inb {n m u o r q : ℕ} (h0 : u + r ≤ n) (h1 : o + q ≤ m) : ∀ a : Fin 2, (![u, o] : Fin 2 → ℕ) a + (![r, q] : Fin 2 → ℕ) a ≤ (![n, m] : Fin 2 → ℕ) a := by
  intro a
  match a with
  | ⟨0, _⟩ => exact h0
  | ⟨1, _⟩ => exact h1

section Chunks
variable {F : FTy → Type} [FloatOps F]

/-- The convolution's output in 256 columns from column `o` of a tile. -/
noncomputable def gC (s : F .f32) (x : Vec F S256x2816 .bf16) (n : Vec F S8x2816 .bf16) (w : Vec F S3x2816 .f32) (v : Vec F S1x2816 .f32) (o : ℕ) (h : o + 256 ≤ 2816) : FVec F T .f32 :=
  preT s (View.ld (Val := Elt F) x (Rect.unit (s := S256x2816) ![0, o] ![256, 256] (inb (by omega) h)))
    (View.ld (Val := Elt F) n (Rect.unit (s := S8x2816) ![0, o] ![8, 256] (inb (by omega) h)))
    (View.ld (Val := Elt F) w (Rect.unit (s := S3x2816) ![2, o] ![1, 256] (inb (by omega) h)))
    (View.ld (Val := Elt F) w (Rect.unit (s := S3x2816) ![1, o] ![1, 256] (inb (by omega) h)))
    (View.ld (Val := Elt F) w (Rect.unit (s := S3x2816) ![0, o] ![1, 256] (inb (by omega) h)))
    (View.ld (Val := Elt F) v (Rect.unit (s := S1x2816) ![0, o] ![1, 256] (inb (by omega) h)))

/-- The tile's columns from column `o`, moved down by `k` rows. -/
noncomputable def tC (k : ℕ) (s : F .f32) (x : Vec F S256x2816 .bf16) (n : Vec F S8x2816 .bf16) (o : ℕ) (h : o + 256 ≤ 2816) : FVec F T .f32 :=
  tapT (BitVec.ofNat 32 k) s (View.ld (Val := Elt F) x (Rect.unit (s := S256x2816) ![0, o] ![256, 256] (inb (by omega) h)))
    (View.ld (Val := Elt F) n (Rect.unit (s := S8x2816) ![0, o] ![8, 256] (inb (by omega) h)))

/-- The tile's columns from column `o`. -/
noncomputable def t0C (x : Vec F S256x2816 .bf16) (o : ℕ) (h : o + 256 ≤ 2816) : FVec F T .f32 :=
  tap0T (View.ld (Val := Elt F) x (Rect.unit (s := S256x2816) ![0, o] ![256, 256] (inb (by omega) h)))

/-- The gradient at the gate's product in 256 columns from column `o`. -/
noncomputable def dC (d : Vec F S256x1024 .f32) (w : Vec F S2816x1024 .bf16) (o : ℕ) (h : o + 256 ≤ 2816) : FVec F T .f32 :=
  dyT d (View.ld (Val := Elt F) w (Rect.unit (s := S2816x1024) ![o, 0] ![256, 1024] (inb h (by omega))))

end Chunks

section Global
variable (D : S8192x1024.Idx → EReal) (A : S8192x5632.Idx → EReal) (W : S3x5632.Idx → EReal) (B : S1x5632.Idx → EReal) (Wd : S2816x1024.Idx → EReal)

/-- The gate's activation in row `R` and column `q`. -/
noncomputable def act (R q : ℕ) : EReal := cv A W B R (0 + q) * sg (cv A W B R (0 + q))

/-- The gate's product. -/
noncomputable def yv (R q : ℕ) : EReal := act A W B R q * cv A W B R (2816 + q)

/-- The gradient at the gate's input. -/
noncomputable def dg (R q : ℕ) : EReal :=
  dy D Wd R q * cv A W B R (2816 + q) * (sg (cv A W B R (0 + q)) + act A W B R q - act A W B R q * sg (cv A W B R (0 + q)))

/-- The gradient at the gated value. -/
noncomputable def dv (R q : ℕ) : EReal := dy D Wd R q * act A W B R q

/-- The gradient at the convolution's output. -/
noncomputable def dcv (R Q : ℕ) : EReal := if Q < 2816 then dg D A W B Wd R Q else dv D A W B Wd R (Q - 2816)

end Global

/-- One tile's blocks, cut out of the whole arrays at row `b`. -/
structure Tile (D : S8192x1024.Idx → EReal) (A : S8192x5632.Idx → EReal) (W : S3x5632.Idx → EReal) (B : S1x5632.Idx → EReal) (Wd : S2816x1024.Idx → EReal)
    (b : ℕ) (s : EReal) (x0 : Vec Ideal S256x1024 .f32) (x1 x2 : Vec Ideal S256x2816 .bf16) (x3 x4 : Vec Ideal S8x2816 .bf16)
    (x5 x6 : Vec Ideal S3x2816 .f32) (x7 x8 : Vec Ideal S1x2816 .f32) (x9 : Vec Ideal S2816x1024 .bf16) : Prop where
  h0 : ∀ j, (x0 j : EReal) = at2 D (b + (j 0).val) (j 1).val
  h1 : ∀ j, (x1 j : EReal) = at2 A (b + (j 0).val) (0 + (j 1).val)
  h2 : ∀ j, (x2 j : EReal) = at2 A (b + (j 0).val) (2816 + (j 1).val)
  h3 : ∀ j, (x3 j : EReal) * s = if 8 ≤ b + (j 0).val then at2 A (b + (j 0).val - 8) (0 + (j 1).val) else 0
  h4 : ∀ j, (x4 j : EReal) * s = if 8 ≤ b + (j 0).val then at2 A (b + (j 0).val - 8) (2816 + (j 1).val) else 0
  h5 : ∀ j, (x5 j : EReal) = at2 W (j 0).val (0 + (j 1).val)
  h6 : ∀ j, (x6 j : EReal) = at2 W (j 0).val (2816 + (j 1).val)
  h7 : ∀ j, (x7 j : EReal) = at2 B (j 0).val (0 + (j 1).val)
  h8 : ∀ j, (x8 j : EReal) = at2 B (j 0).val (2816 + (j 1).val)
  h9 : ∀ j, (x9 j : EReal) = at2 Wd (j 0).val (j 1).val

section Elements
variable {D : S8192x1024.Idx → EReal} {A : S8192x5632.Idx → EReal} {W : S3x5632.Idx → EReal} {B : S1x5632.Idx → EReal} {Wd : S2816x1024.Idx → EReal}
  {b : ℕ} {s : EReal} {x0 : Vec Ideal S256x1024 .f32} {x1 x2 : Vec Ideal S256x2816 .bf16} {x3 x4 : Vec Ideal S8x2816 .bf16}
  {x5 x6 : Vec Ideal S3x2816 .f32} {x7 x8 : Vec Ideal S1x2816 .f32} {x9 : Vec Ideal S2816x1024 .bf16}
  (t : Tile D A W B Wd b s x0 x1 x2 x3 x4 x5 x6 x7 x8 x9) (o : ℕ) (h : o + 256 ≤ 2816)

include t in
/-- The convolution's output in the gate's half. -/
theorem gC1 (j : T.Idx) : gC (F := Ideal) s x1 x3 x5 x7 o h j = cv A W B (b + (j 0).val) (0 + (o + (j 1).val)) :=
  preT_apply A W B b 0 o h s x1 t.h1 x3 t.h3 x5 t.h5 x7 t.h7 _ _ _ _ _ _ j

include t in
/-- The convolution's output in the value's half. -/
theorem gC2 (j : T.Idx) : gC (F := Ideal) s x2 x4 x6 x8 o h j = cv A W B (b + (j 0).val) (2816 + (o + (j 1).val)) :=
  preT_apply A W B b 2816 o h s x2 t.h2 x4 t.h4 x6 t.h6 x8 t.h8 _ _ _ _ _ _ j

include t in
/-- The gradient at the gate's product. -/
theorem dC1 (j : T.Idx) : dC (F := Ideal) x0 x9 o h j = dy D Wd (b + (j 0).val) (o + (j 1).val) :=
  dyT_apply D Wd b o x0 t.h0 x9 t.h9 _ j

include t in
/-- The gate's activation of a chunk at an element. -/
theorem actT1 (j : T.Idx) : actT (F := Ideal) (gC (F := Ideal) s x1 x3 x5 x7 o h) j = act A W B (b + (j 0).val) (o + (j 1).val) := by
  unfold act
  rw [← gC1 t o h j]
  rfl

include t in
/-- The gate's product of a chunk at an element. -/
theorem yT1 (j : T.Idx) : mulf (F := Ideal) (actT (F := Ideal) (gC (F := Ideal) s x1 x3 x5 x7 o h)) (gC (F := Ideal) s x2 x4 x6 x8 o h) j
    = yv A W B (b + (j 0).val) (o + (j 1).val) := by
  unfold yv
  rw [← actT1 t o h j, ← gC2 t o h j]
  rfl

include t in
/-- The gradient at the gate's input, of a chunk at an element. -/
theorem dgT1 (j : T.Idx) : dgT (F := Ideal) (gC (F := Ideal) s x1 x3 x5 x7 o h) (gC (F := Ideal) s x2 x4 x6 x8 o h) (dC (F := Ideal) x0 x9 o h) j
    = dcv D A W B Wd (b + (j 0).val) (o + (j 1).val) := by
  have hj1 : (j 1).val < 256 := (j 1).isLt
  unfold dcv
  rw [if_pos (by omega)]
  unfold dg
  rw [← actT1 t o h j, ← gC2 t o h j, ← gC1 t o h j, ← dC1 t o h j]
  rfl

include t in
/-- The gradient at the gated value, of a chunk at an element. -/
theorem dvT1 (j : T.Idx) : dvT (F := Ideal) (gC (F := Ideal) s x1 x3 x5 x7 o h) (dC (F := Ideal) x0 x9 o h) j
    = dcv D A W B Wd (b + (j 0).val) (2816 + o + (j 1).val) := by
  unfold dcv
  rw [if_neg (by omega), show 2816 + o + (j 1).val - 2816 = o + (j 1).val by omega]
  unfold dv
  rw [← actT1 t o h j, ← dC1 t o h j]
  rfl

include t in
/-- The gate's half of the tile moved down by one or two rows. -/
theorem tC1 (k : ℕ) (hk : 1 ≤ k ∧ k ≤ 2) (j : T.Idx) : tC (F := Ideal) k s x1 x3 o h j = tap A (b + (j 0).val) (o + (j 1).val) k :=
  (tapT_apply k hk A b 0 o h s x1 t.h1 x3 t.h3 _ _ j).trans (by rw [Nat.zero_add])

include t in
/-- The value's half of the tile moved down by one or two rows. -/
theorem tC2 (k : ℕ) (hk : 1 ≤ k ∧ k ≤ 2) (j : T.Idx) : tC (F := Ideal) k s x2 x4 o h j = tap A (b + (j 0).val) (2816 + o + (j 1).val) k :=
  (tapT_apply k hk A b 2816 o h s x2 t.h2 x4 t.h4 _ _ j).trans (by rw [Nat.add_assoc])

include t in
/-- The gate's half of the tile itself. -/
theorem t0C1 (j : T.Idx) : t0C (F := Ideal) x1 o h j = tap A (b + (j 0).val) (o + (j 1).val) 0 :=
  (tap0T_apply A b 0 o x1 t.h1 _ j).trans (by rw [Nat.zero_add])

include t in
/-- The value's half of the tile itself. -/
theorem t0C2 (j : T.Idx) : t0C (F := Ideal) x2 o h j = tap A (b + (j 0).val) (2816 + o + (j 1).val) 0 :=
  (tap0T_apply A b 2816 o x2 t.h2 _ j).trans (by rw [Nat.add_assoc])

/-- A row of sums in 256 columns from column `p`: the sums over the tile's rows are added to what stood there. -/
theorem acc_eq {n : ℕ} (X : (⟨2, ![n, 5632]⟩ : Shape).Idx → EReal) (f : ℕ → ℕ → EReal) (u p : ℕ) (hb) (z : FVec Ideal T .f32)
    (hzf : ∀ j, z j = f (j 0).val (p + (j 1).val)) (x : S1x256.Idx) :
    accT (F := Ideal) z (View.ld (Val := Elt Ideal) (e' := .f32) X (Rect.unit (s := ⟨2, ![n, 5632]⟩) ![u, p] ![1, 256] hb)) x
      = X ((Rect.unit (s := ⟨2, ![n, 5632]⟩) ![u, p] ![1, 256] hb).emb x)
        + ∑ r : Fin 256, f r.val ((Rect.unit (s := ⟨2, ![n, 5632]⟩) ![u, p] ![1, 256] hb).emb x 1).val := by
  rw [accT_apply z _ (fun r q => f r (p + q)) hzf x]
  refine congrArg₂ (· + ·) rfl (Finset.sum_congr rfl fun r _ => congrArg (f r.val) ?_)
  show p + (x 1).val = p + 1 * (x 1).val
  omega

end Elements

/-- A piece's corner, extent and strides. -/
def corner {Val : EltTy → Type} {n : ℕ} {e : EltTy} (p : View.Piece Val ⟨2, ![n, 5632]⟩ e) : ℕ × ℕ × ℕ × ℕ × ℕ × ℕ :=
  (p.1.off 0, p.1.off 1, p.1.size 0, p.1.size 1, p.1.stride 0, p.1.stride 1)

/-- The corners of the stores of `m` rows, 256 columns at a time, the last store first. -/
def corners (m : ℕ) : List (ℕ × ℕ × ℕ × ℕ × ℕ × ℕ) :=
  ((List.range 22).reverse.map fun k => (List.range m).reverse.map fun u => (u, 256 * (k / 2 + 11 * (k % 2)), 1, 256, 1, 1)).flatten

/-- A position of one of the first rows lies in one of the stores. -/
theorem mem_rows {Val : EltTy → Type} {n : ℕ} {e : EltTy} (m : ℕ) (hm : m = 1 ∨ m = 3) (L : List (View.Piece Val ⟨2, ![n, 5632]⟩ e))
    (hL : L.map corner = corners m) (y : (⟨2, ![n, 5632]⟩ : Shape).Idx) (hy : (y 0).val < m) : ∃ p ∈ L, y ∈ p.1.set := by
  have h1 : (y 1).val < 5632 := (y 1).isLt
  have hc : ∀ (u : Fin m) (k : Fin 22), (u.val, 256 * k.val, 1, 256, 1, 1) ∈ corners m := by
    rcases hm with rfl | rfl <;> decide +kernel
  have h := hc ⟨_, hy⟩ ⟨(y 1).val / 256, by omega⟩
  rw [← hL, List.mem_map] at h
  obtain ⟨p, hp, e⟩ := h
  unfold corner at e
  simp only [Prod.mk.injEq] at e
  obtain ⟨e0, e1, e2, e3, e4, e5⟩ := e
  refine ⟨p, hp, ?_⟩
  rw [LoadRect.mem_set]
  intro a
  match a with
  | ⟨0, _⟩ => exact ⟨0, by show 0 < p.1.size 0; omega, by show (y 0).val = p.1.off 0 + p.1.stride 0 * 0; omega⟩
  | ⟨1, _⟩ => exact ⟨(y 1).val % 256, by show _ < p.1.size 1; omega, by show (y 1).val = p.1.off 1 + p.1.stride 1 * _; rw [e5]; omega⟩

/-- A position past the first rows lies in none of the stores. -/
theorem not_mem_rows {Val : EltTy → Type} {n : ℕ} {e : EltTy} (m : ℕ) (hm : m = 1 ∨ m = 3) (L : List (View.Piece Val ⟨2, ![n, 5632]⟩ e))
    (hL : L.map corner = corners m) (y : (⟨2, ![n, 5632]⟩ : Shape).Idx) (hy : m ≤ (y 0).val) : ∀ p ∈ L, y ∉ p.1.set := by
  intro p hp hmem
  have h : corner p ∈ corners m := hL ▸ List.mem_map_of_mem hp
  have hc : ∀ q ∈ corners m, q.1 < m ∧ q.2.2.1 = 1 ∧ q.2.2.2.2.1 = 1 := by
    rcases hm with rfl | rfl <;> decide +kernel
  obtain ⟨c1, c2, c3⟩ := hc _ h
  unfold corner at c1 c2 c3
  rw [LoadRect.mem_set] at hmem
  obtain ⟨j, hj, ej⟩ := hmem 0
  have c2' : p.1.size 0 = 1 := c2
  have c3' : p.1.stride 0 = 1 := c3
  have c1' : p.1.off 0 < m := c1
  rw [c3'] at ej
  omega

/-- Stores over the first rows that are blocks of `G`, made into a buffer: `G` in those rows, and the buffer's contents past them. -/
theorem read_rows {Val : EltTy → Type} {sig : RefSig} {κ : Kind} {sp : Space} {n : ℕ} {e : EltTy} (v : View sig κ sp ⟨2, ![n, 5632]⟩ e) (f) (m : ℕ) (hm : m = 1 ∨ m = 3)
    (L : List (View.Piece Val ⟨2, ![n, 5632]⟩ e)) (G : (⟨2, ![n, 5632]⟩ : Shape).Idx → Val e)
    (hG : ∀ p ∈ L, ∀ x : p.1.shape.Idx, p.2 x = G (p.1.emb x)) (hL : L.map corner = corners m) (y : (⟨2, ![n, 5632]⟩ : Shape).Idx) :
    v.read Val (v.writes Val f L) y = if (y 0).val < m then G y else v.read Val f y := by
  by_cases h : (y 0).val < m
  · rw [if_pos h]
    exact View.read_writes_apply_of_pieces v f G L hG y (mem_rows m hm L hL y h)
  · rw [if_neg h]
    exact View.read_writes_apply_of_forall_not_mem v f y L (not_mem_rows m hm L hL y (by omega))

/-- The same for a buffer read after stores alone, the first of which fills it. -/
theorem canon_rows {Val : EltTy → Type} [∀ e, Nonempty (Val e)] {n : ℕ} {e : EltTy} (m : ℕ) (hm : m = 1 ∨ m = 3)
    (L : List (View.Piece Val ⟨2, ![n, 5632]⟩ e)) (Z : (⟨2, ![n, 5632]⟩ : Shape).Idx → Val e) (G : (⟨2, ![n, 5632]⟩ : Shape).Idx → Val e) (hb)
    (hG : ∀ p ∈ L, ∀ x : p.1.shape.Idx, p.2 x = G (p.1.emb x)) (hL : L.map corner = corners m) (y : (⟨2, ![n, 5632]⟩ : Shape).Idx) :
    View.canon (L ++ [⟨Rect.unit (s := ⟨2, ![n, 5632]⟩) ![0, 0] ![n, 5632] hb, Z⟩]) y = if (y 0).val < m then G y else Z y := by
  by_cases h : (y 0).val < m
  · rw [if_pos h]
    exact View.canon_append_of_pieces G _ L hG y (mem_rows m hm L hL y h)
  · rw [if_neg h]
    have hn := not_mem_rows m hm L hL y (by omega)
    clear hG hL h
    induction L with
    | nil => exact congrFun (View.canon_unit_zero (S := ⟨2, ![n, 5632]⟩) hz hb Z) y
    | cons p L ih =>
      rw [List.cons_append, View.canon_cons_of_not_mem p _ (hn p List.mem_cons_self)]
      exact ih fun q hq => hn q (List.mem_cons_of_mem _ hq)

/-- A tile of 256 columns from column `p` stored in a block of 256 rows. -/
theorem blk_eq {n : ℕ} (f : ℕ → ℕ → EReal) (b p : ℕ) (hb) (z : T.Idx → EReal) (hzf : ∀ j, z j = f (b + (j 0).val) (p + (j 1).val)) (x : T.Idx) :
    z x = f (b + ((Rect.unit (s := ⟨2, ![256, n]⟩) ![0, p] ![256, 256] hb).emb x 0).val) ((Rect.unit (s := ⟨2, ![256, n]⟩) ![0, p] ![256, 256] hb).emb x 1).val := by
  rw [hzf]
  refine congrArg₂ f ?_ ?_
  · show b + (x 0).val = b + (0 + 1 * (x 0).val); omega
  · show p + (x 1).val = p + 1 * (x 1).val; omega

/-- A row of sums in 256 columns from column `p`, whose terms depend on the row it is in. -/
theorem acc_eq3 {n : ℕ} (X : (⟨2, ![n, 5632]⟩ : Shape).Idx → EReal) (f : ℕ → ℕ → ℕ → EReal) (u p : ℕ) (hb) (z : FVec Ideal T .f32)
    (hzf : ∀ j, z j = f u (j 0).val (p + (j 1).val)) (x : S1x256.Idx) :
    accT (F := Ideal) z (View.ld (Val := Elt Ideal) (e' := .f32) X (Rect.unit (s := ⟨2, ![n, 5632]⟩) ![u, p] ![1, 256] hb)) x
      = X ((Rect.unit (s := ⟨2, ![n, 5632]⟩) ![u, p] ![1, 256] hb).emb x)
        + ∑ r : Fin 256, f ((Rect.unit (s := ⟨2, ![n, 5632]⟩) ![u, p] ![1, 256] hb).emb x 0).val r.val
          ((Rect.unit (s := ⟨2, ![n, 5632]⟩) ![u, p] ![1, 256] hb).emb x 1).val := by
  have hx : (x 0).val < 1 := (x 0).isLt
  have hu : ((Rect.unit (s := ⟨2, ![n, 5632]⟩) ![u, p] ![1, 256] hb).emb x 0).val = u := by
    show u + 1 * (x 0).val = u
    omega
  rw [hu]
  exact acc_eq X (f u) u p hb z hzf x

/-- The convolution weight's gradient from one tile, in row `u` and column `Q`: nothing in the rows past the third. -/
noncomputable def dwt (D : S8192x1024.Idx → EReal) (A : S8192x5632.Idx → EReal) (W : S3x5632.Idx → EReal) (B : S1x5632.Idx → EReal) (Wd : S2816x1024.Idx → EReal)
    (b u Q : ℕ) : EReal :=
  if u < 3 then ∑ r : Fin 256, dcv D A W B Wd (b + r.val) Q * tap A (b + r.val) Q (2 - u) else 0

end Cert.Gate
-- ==== Proof.Ffn.GateOut.lean ====
/- What one grid point leaves in the gradient at the convolution's output and in the gate's product. -/
module

public import proofs.«01_k».proof.Proof.Ffn.GateBlocks

@[expose] public section

namespace Cert.Gate

open Idealize.ShloMosaic Idealize.ShloMosaic.TcCoe Idealize.SL.Sem
open Cert.KernelIdeal Cert.KernelIdeal.Gen Cert.Common Cert.Shift

/-- The gradient at the convolution's output that a point leaves, at the first point. -/
theorem out10_A (c : Dev nD) (i : grid0.Coords)
    (a1 : Memref sig .tc .vmem S256x1024 .f32) (h1 : a1.IsWhole) (a2 : Memref sig .tc .vmem S256x2816 .bf16) (h2 : a2.IsWhole) (a3 : Memref sig .tc .vmem S256x2816 .bf16) (h3 : a3.IsWhole)
    (a4 : Memref sig .tc .vmem S8x2816 .bf16) (h4 : a4.IsWhole) (a5 : Memref sig .tc .vmem S8x2816 .bf16) (h5 : a5.IsWhole) (a6 : Memref sig .tc .vmem S3x2816 .f32) (h6 : a6.IsWhole)
    (a7 : Memref sig .tc .vmem S3x2816 .f32) (h7 : a7.IsWhole) (a8 : Memref sig .tc .vmem S1x2816 .f32) (h8 : a8.IsWhole) (a9 : Memref sig .tc .vmem S1x2816 .f32) (h9 : a9.IsWhole)
    (a10 : Memref sig .tc .vmem S2816x1024 .bf16) (h10 : a10.IsWhole) (a11 : Memref sig .tc .vmem S256x5632 .bf16) (h11 : a11.IsWhole) (a12 : Memref sig .tc .vmem S256x2816 .bf16) (h12 : a12.IsWhole)
    (a13 : Memref sig .tc .vmem S8x5632 .f32) (h13 : a13.IsWhole) (a14 : Memref sig .tc .vmem S1x5632 .f32) (h14 : a14.IsWhole) (hc : cond0_0 i)
    (x0 : Vec Ideal S256x1024 .f32) (x1 x2 : Vec Ideal S256x2816 .bf16) (x3 x4 : Vec Ideal S8x2816 .bf16)
    (x5 x6 : Vec Ideal S3x2816 .f32) (x7 x8 : Vec Ideal S1x2816 .f32) (x9 : Vec Ideal S2816x1024 .bf16)
    (D : S8192x1024.Idx → EReal) (A : S8192x5632.Idx → EReal) (W : S3x5632.Idx → EReal) (B : S1x5632.Idx → EReal) (Wd : S2816x1024.Idx → EReal) (b : ℕ)
    (t : Tile D A W B Wd b (factor (F := Ideal) i) x0 x1 x2 x3 x4 x5 x6 x7 x8 x9) (y : S256x5632.Idx) :
    (out0_A_10 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 y : EReal) = dcv D A W B Wd (b + (y 0).val) (y 1).val := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc x0 x1 x2 x3 x4 x5 x6 x7 x8 x9)]
  refine View.canon_apply_of_pieces (Val := Elt Ideal) (S := S256x5632) (e := .bf16) (fun y : S256x5632.Idx => (dcv D A W B Wd (b + (y 0).val) (y 1).val : EReal)) _ ?_ y (cover0_A_10 c i a1 h1 a2 h2 a3 h3 a4 h4 a5 h5 a6 h6 a7 h7 a8 h8 a9 h9 a10 h10 a11 h11 a12 h12 a13 h13 a14 h14 hc x0 x1 x2 x3 x4 x5 x6 x7 x8 x9 y)
  have kg : ∀ (o : ℕ) (h : o + 256 ≤ 2816) (x : T.Idx), truncf (F := Ideal) .bf16 (dgT (F := Ideal) (gC (F := Ideal) (factor (F := Ideal) i) x1 x3 x5 x7 o h) (gC (F := Ideal) (factor (F := Ideal) i) x2 x4 x6 x8 o h) (dC (F := Ideal) x0 x9 o h)) bitsLt_bf16_f32 x = _ :=
    fun o h x => blk_eq (n := 5632) (fun R Q => dcv D A W B Wd R Q) b o (inb (by omega) (by omega)) _ (dgT1 t o h) x
  have kv : ∀ (o p : ℕ) (h : o + 256 ≤ 2816) (hp : p = 2816 + o) (x : T.Idx), truncf (F := Ideal) .bf16 (dvT (F := Ideal) (gC (F := Ideal) (factor (F := Ideal) i) x1 x3 x5 x7 o h) (dC (F := Ideal) x0 x9 o h)) bitsLt_bf16_f32 x = _ :=
    fun o p h hp x => blk_eq (n := 5632) (fun R Q => dcv D A W B Wd R Q) b p (inb (by omega) (by omega)) _ (hp ▸ dvT1 t o h) x
  have kg0 := kg 0 (by decide)
  have kv0 := kv 0 2816 (by decide) rfl
  have kg256 := kg 256 (by decide)
  have kv256 := kv 256 3072 (by decide) rfl
  have kg512 := kg 512 (by decide)
  have kv512 := kv 512 3328 (by decide) rfl
  have kg768 := kg 768 (by decide)
  have kv768 := kv 768 3584 (by decide) rfl
  have kg1024 := kg 1024 (by decide)
  have kv1024 := kv 1024 3840 (by decide) rfl
  have kg1280 := kg 1280 (by decide)
  have kv1280 := kv 1280 4096 (by decide) rfl
  have kg1536 := kg 1536 (by decide)
  have kv1536 := kv 1536 4352 (by decide) rfl
  have kg1792 := kg 1792 (by decide)
  have kv1792 := kv 1792 4608 (by decide) rfl
  have kg2048 := kg 2048 (by decide)
  have kv2048 := kv 2048 4864 (by decide) rfl
  have kg2304 := kg 2304 (by decide)
  have kv2304 := kv 2304 5120 (by decide) rfl
  have kg2560 := kg 2560 (by decide)
  have kv2560 := kv 2560 5376 (by decide) rfl
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz]
  simp only [List.forall_mem_cons]
  refine ⟨?_, ?_, ?_, ?_, ?_, ?_, ?_, ?_, ?_, ?_, ?_, ?_, ?_, ?_, ?_, ?_, ?_, ?_, ?_, ?_, ?_, ?_, fun p hp => absurd hp List.not_mem_nil⟩
  · exact kv2560
  · exact kg2560
  · exact kv2304
  · exact kg2304
  · exact kv2048
  · exact kg2048
  · exact kv1792
  · exact kg1792
  · exact kv1536
  · exact kg1536
  · exact kv1280
  · exact kg1280
  · exact kv1024
  · exact kg1024
  · exact kv768
  · exact kg768
  · exact kv512
  · exact kg512
  · exact kv256
  · exact kg256
  · exact kv0
  · exact kg0

/-- The gradient at the convolution's output that a point leaves, at a later point. -/
theorem out10_B (c : Dev nD) (i : grid0.Coords)
    (a1 : Memref sig .tc .vmem S256x1024 .f32) (h1 : a1.IsWhole) (a2 : Memref sig .tc .vmem S256x2816 .bf16) (h2 : a2.IsWhole) (a3 : Memref sig .tc .vmem S256x2816 .bf16) (h3 : a3.IsWhole)
    (a4 : Memref sig .tc .vmem S8x2816 .bf16) (h4 : a4.IsWhole) (a5 : Memref sig .tc .vmem S8x2816 .bf16) (h5 : a5.IsWhole) (a6 : Memref sig .tc .vmem S3x2816 .f32) (h6 : a6.IsWhole)
    (a7 : Memref sig .tc .vmem S3x2816 .f32) (h7 : a7.IsWhole) (a8 : Memref sig .tc .vmem S1x2816 .f32) (h8 : a8.IsWhole) (a9 : Memref sig .tc .vmem S1x2816 .f32) (h9 : a9.IsWhole)
    (a10 : Memref sig .tc .vmem S2816x1024 .bf16) (h10 : a10.IsWhole) (a11 : Memref sig .tc .vmem S256x5632 .bf16) (h11 : a11.IsWhole) (a12 : Memref sig .tc .vmem S256x2816 .bf16) (h12 : a12.IsWhole)
    (a13 : Memref sig .tc .vmem S8x5632 .f32) (h13 : a13.IsWhole) (a14 : Memref sig .tc .vmem S1x5632 .f32) (h14 : a14.IsWhole) (hc : ¬cond0_0 i)
    (x0 : Vec Ideal S256x1024 .f32) (x1 x2 : Vec Ideal S256x2816 .bf16) (x3 x4 : Vec Ideal S8x2816 .bf16)
    (x5 x6 : Vec Ideal S3x2816 .f32) (x7 x8 : Vec Ideal S1x2816 .f32) (x9 : Vec Ideal S2816x1024 .bf16) (xo12 : Vec Ideal S8x5632 .f32) (xo13 : Vec Ideal S1x5632 .f32)
    (D : S8192x1024.Idx → EReal) (A : S8192x5632.Idx → EReal) (W : S3x5632.Idx → EReal) (B : S1x5632.Idx → EReal) (Wd : S2816x1024.Idx → EReal) (b : ℕ)
    (t : Tile D A W B Wd b (factor (F := Ideal) i) x0 x1 x2 x3 x4 x5 x6 x7 x8 x9) (y : S256x5632.Idx) :
    (out0_B_10 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 xo12 xo13 y : EReal) = dcv D A W B Wd (b + (y 0).val) (y 1).val := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc x0 x1 x2 x3 x4 x5 x6 x7 x8 x9 xo12 xo13)]
  refine View.canon_apply_of_pieces (Val := Elt Ideal) (S := S256x5632) (e := .bf16) (fun y : S256x5632.Idx => (dcv D A W B Wd (b + (y 0).val) (y 1).val : EReal)) _ ?_ y (cover0_B_10 c i a1 h1 a2 h2 a3 h3 a4 h4 a5 h5 a6 h6 a7 h7 a8 h8 a9 h9 a10 h10 a11 h11 a12 h12 a13 h13 a14 h14 hc x0 x1 x2 x3 x4 x5 x6 x7 x8 x9 xo12 xo13 y)
  have kg : ∀ (o : ℕ) (h : o + 256 ≤ 2816) (x : T.Idx), truncf (F := Ideal) .bf16 (dgT (F := Ideal) (gC (F := Ideal) (factor (F := Ideal) i) x1 x3 x5 x7 o h) (gC (F := Ideal) (factor (F := Ideal) i) x2 x4 x6 x8 o h) (dC (F := Ideal) x0 x9 o h)) bitsLt_bf16_f32 x = _ :=
    fun o h x => blk_eq (n := 5632) (fun R Q => dcv D A W B Wd R Q) b o (inb (by omega) (by omega)) _ (dgT1 t o h) x
  have kv : ∀ (o p : ℕ) (h : o + 256 ≤ 2816) (hp : p = 2816 + o) (x : T.Idx), truncf (F := Ideal) .bf16 (dvT (F := Ideal) (gC (F := Ideal) (factor (F := Ideal) i) x1 x3 x5 x7 o h) (dC (F := Ideal) x0 x9 o h)) bitsLt_bf16_f32 x = _ :=
    fun o p h hp x => blk_eq (n := 5632) (fun R Q => dcv D A W B Wd R Q) b p (inb (by omega) (by omega)) _ (hp ▸ dvT1 t o h) x
  have kg0 := kg 0 (by decide)
  have kv0 := kv 0 2816 (by decide) rfl
  have kg256 := kg 256 (by decide)
  have kv256 := kv 256 3072 (by decide) rfl
  have kg512 := kg 512 (by decide)
  have kv512 := kv 512 3328 (by decide) rfl
  have kg768 := kg 768 (by decide)
  have kv768 := kv 768 3584 (by decide) rfl
  have kg1024 := kg 1024 (by decide)
  have kv1024 := kv 1024 3840 (by decide) rfl
  have kg1280 := kg 1280 (by decide)
  have kv1280 := kv 1280 4096 (by decide) rfl
  have kg1536 := kg 1536 (by decide)
  have kv1536 := kv 1536 4352 (by decide) rfl
  have kg1792 := kg 1792 (by decide)
  have kv1792 := kv 1792 4608 (by decide) rfl
  have kg2048 := kg 2048 (by decide)
  have kv2048 := kv 2048 4864 (by decide) rfl
  have kg2304 := kg 2304 (by decide)
  have kv2304 := kv 2304 5120 (by decide) rfl
  have kg2560 := kg 2560 (by decide)
  have kv2560 := kv 2560 5376 (by decide) rfl
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz]
  simp only [List.forall_mem_cons]
  refine ⟨?_, ?_, ?_, ?_, ?_, ?_, ?_, ?_, ?_, ?_, ?_, ?_, ?_, ?_, ?_, ?_, ?_, ?_, ?_, ?_, ?_, ?_, fun p hp => absurd hp List.not_mem_nil⟩
  · exact kv2560
  · exact kg2560
  · exact kv2304
  · exact kg2304
  · exact kv2048
  · exact kg2048
  · exact kv1792
  · exact kg1792
  · exact kv1536
  · exact kg1536
  · exact kv1280
  · exact kg1280
  · exact kv1024
  · exact kg1024
  · exact kv768
  · exact kg768
  · exact kv512
  · exact kg512
  · exact kv256
  · exact kg256
  · exact kv0
  · exact kg0

/-- The gate's product that a point leaves, at the first point. -/
theorem out11_A (c : Dev nD) (i : grid0.Coords)
    (a1 : Memref sig .tc .vmem S256x1024 .f32) (h1 : a1.IsWhole) (a2 : Memref sig .tc .vmem S256x2816 .bf16) (h2 : a2.IsWhole) (a3 : Memref sig .tc .vmem S256x2816 .bf16) (h3 : a3.IsWhole)
    (a4 : Memref sig .tc .vmem S8x2816 .bf16) (h4 : a4.IsWhole) (a5 : Memref sig .tc .vmem S8x2816 .bf16) (h5 : a5.IsWhole) (a6 : Memref sig .tc .vmem S3x2816 .f32) (h6 : a6.IsWhole)
    (a7 : Memref sig .tc .vmem S3x2816 .f32) (h7 : a7.IsWhole) (a8 : Memref sig .tc .vmem S1x2816 .f32) (h8 : a8.IsWhole) (a9 : Memref sig .tc .vmem S1x2816 .f32) (h9 : a9.IsWhole)
    (a10 : Memref sig .tc .vmem S2816x1024 .bf16) (h10 : a10.IsWhole) (a11 : Memref sig .tc .vmem S256x5632 .bf16) (h11 : a11.IsWhole) (a12 : Memref sig .tc .vmem S256x2816 .bf16) (h12 : a12.IsWhole)
    (a13 : Memref sig .tc .vmem S8x5632 .f32) (h13 : a13.IsWhole) (a14 : Memref sig .tc .vmem S1x5632 .f32) (h14 : a14.IsWhole) (hc : cond0_0 i)
    (x0 : Vec Ideal S256x1024 .f32) (x1 x2 : Vec Ideal S256x2816 .bf16) (x3 x4 : Vec Ideal S8x2816 .bf16)
    (x5 x6 : Vec Ideal S3x2816 .f32) (x7 x8 : Vec Ideal S1x2816 .f32) (x9 : Vec Ideal S2816x1024 .bf16)
    (D : S8192x1024.Idx → EReal) (A : S8192x5632.Idx → EReal) (W : S3x5632.Idx → EReal) (B : S1x5632.Idx → EReal) (Wd : S2816x1024.Idx → EReal) (b : ℕ)
    (t : Tile D A W B Wd b (factor (F := Ideal) i) x0 x1 x2 x3 x4 x5 x6 x7 x8 x9) (y : S256x2816.Idx) :
    (out0_A_11 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 y : EReal) = yv A W B (b + (y 0).val) (y 1).val := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc x0 x1 x2 x3 x4 x5 x6 x7 x8 x9)]
  refine View.canon_apply_of_pieces (Val := Elt Ideal) (S := S256x2816) (e := .bf16) (fun y : S256x2816.Idx => (yv A W B (b + (y 0).val) (y 1).val : EReal)) _ ?_ y (cover0_A_11 c i a1 h1 a2 h2 a3 h3 a4 h4 a5 h5 a6 h6 a7 h7 a8 h8 a9 h9 a10 h10 a11 h11 a12 h12 a13 h13 a14 h14 hc x0 x1 x2 x3 x4 x5 x6 x7 x8 x9 y)
  have ky : ∀ (o : ℕ) (h : o + 256 ≤ 2816) (x : T.Idx), truncf (F := Ideal) .bf16 (mulf (F := Ideal) (actT (F := Ideal) (gC (F := Ideal) (factor (F := Ideal) i) x1 x3 x5 x7 o h)) (gC (F := Ideal) (factor (F := Ideal) i) x2 x4 x6 x8 o h)) bitsLt_bf16_f32 x = _ :=
    fun o h x => blk_eq (n := 2816) (fun R Q => yv A W B R Q) b o (inb (by omega) (by omega)) _ (yT1 t o h) x
  have ky0 := ky 0 (by decide)
  have ky256 := ky 256 (by decide)
  have ky512 := ky 512 (by decide)
  have ky768 := ky 768 (by decide)
  have ky1024 := ky 1024 (by decide)
  have ky1280 := ky 1280 (by decide)
  have ky1536 := ky 1536 (by decide)
  have ky1792 := ky 1792 (by decide)
  have ky2048 := ky 2048 (by decide)
  have ky2304 := ky 2304 (by decide)
  have ky2560 := ky 2560 (by decide)
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz]
  simp only [List.forall_mem_cons]
  refine ⟨?_, ?_, ?_, ?_, ?_, ?_, ?_, ?_, ?_, ?_, ?_, fun p hp => absurd hp List.not_mem_nil⟩
  · exact ky2560
  · exact ky2304
  · exact ky2048
  · exact ky1792
  · exact ky1536
  · exact ky1280
  · exact ky1024
  · exact ky768
  · exact ky512
  · exact ky256
  · exact ky0

/-- The gate's product that a point leaves, at a later point. -/
theorem out11_B (c : Dev nD) (i : grid0.Coords)
    (a1 : Memref sig .tc .vmem S256x1024 .f32) (h1 : a1.IsWhole) (a2 : Memref sig .tc .vmem S256x2816 .bf16) (h2 : a2.IsWhole) (a3 : Memref sig .tc .vmem S256x2816 .bf16) (h3 : a3.IsWhole)
    (a4 : Memref sig .tc .vmem S8x2816 .bf16) (h4 : a4.IsWhole) (a5 : Memref sig .tc .vmem S8x2816 .bf16) (h5 : a5.IsWhole) (a6 : Memref sig .tc .vmem S3x2816 .f32) (h6 : a6.IsWhole)
    (a7 : Memref sig .tc .vmem S3x2816 .f32) (h7 : a7.IsWhole) (a8 : Memref sig .tc .vmem S1x2816 .f32) (h8 : a8.IsWhole) (a9 : Memref sig .tc .vmem S1x2816 .f32) (h9 : a9.IsWhole)
    (a10 : Memref sig .tc .vmem S2816x1024 .bf16) (h10 : a10.IsWhole) (a11 : Memref sig .tc .vmem S256x5632 .bf16) (h11 : a11.IsWhole) (a12 : Memref sig .tc .vmem S256x2816 .bf16) (h12 : a12.IsWhole)
    (a13 : Memref sig .tc .vmem S8x5632 .f32) (h13 : a13.IsWhole) (a14 : Memref sig .tc .vmem S1x5632 .f32) (h14 : a14.IsWhole) (hc : ¬cond0_0 i)
    (x0 : Vec Ideal S256x1024 .f32) (x1 x2 : Vec Ideal S256x2816 .bf16) (x3 x4 : Vec Ideal S8x2816 .bf16)
    (x5 x6 : Vec Ideal S3x2816 .f32) (x7 x8 : Vec Ideal S1x2816 .f32) (x9 : Vec Ideal S2816x1024 .bf16) (xo12 : Vec Ideal S8x5632 .f32) (xo13 : Vec Ideal S1x5632 .f32)
    (D : S8192x1024.Idx → EReal) (A : S8192x5632.Idx → EReal) (W : S3x5632.Idx → EReal) (B : S1x5632.Idx → EReal) (Wd : S2816x1024.Idx → EReal) (b : ℕ)
    (t : Tile D A W B Wd b (factor (F := Ideal) i) x0 x1 x2 x3 x4 x5 x6 x7 x8 x9) (y : S256x2816.Idx) :
    (out0_B_11 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 xo12 xo13 y : EReal) = yv A W B (b + (y 0).val) (y 1).val := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc x0 x1 x2 x3 x4 x5 x6 x7 x8 x9 xo12 xo13)]
  refine View.canon_apply_of_pieces (Val := Elt Ideal) (S := S256x2816) (e := .bf16) (fun y : S256x2816.Idx => (yv A W B (b + (y 0).val) (y 1).val : EReal)) _ ?_ y (cover0_B_11 c i a1 h1 a2 h2 a3 h3 a4 h4 a5 h5 a6 h6 a7 h7 a8 h8 a9 h9 a10 h10 a11 h11 a12 h12 a13 h13 a14 h14 hc x0 x1 x2 x3 x4 x5 x6 x7 x8 x9 xo12 xo13 y)
  have ky : ∀ (o : ℕ) (h : o + 256 ≤ 2816) (x : T.Idx), truncf (F := Ideal) .bf16 (mulf (F := Ideal) (actT (F := Ideal) (gC (F := Ideal) (factor (F := Ideal) i) x1 x3 x5 x7 o h)) (gC (F := Ideal) (factor (F := Ideal) i) x2 x4 x6 x8 o h)) bitsLt_bf16_f32 x = _ :=
    fun o h x => blk_eq (n := 2816) (fun R Q => yv A W B R Q) b o (inb (by omega) (by omega)) _ (yT1 t o h) x
  have ky0 := ky 0 (by decide)
  have ky256 := ky 256 (by decide)
  have ky512 := ky 512 (by decide)
  have ky768 := ky 768 (by decide)
  have ky1024 := ky 1024 (by decide)
  have ky1280 := ky 1280 (by decide)
  have ky1536 := ky 1536 (by decide)
  have ky1792 := ky 1792 (by decide)
  have ky2048 := ky 2048 (by decide)
  have ky2304 := ky 2304 (by decide)
  have ky2560 := ky 2560 (by decide)
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz]
  simp only [List.forall_mem_cons]
  refine ⟨?_, ?_, ?_, ?_, ?_, ?_, ?_, ?_, ?_, ?_, ?_, fun p hp => absurd hp List.not_mem_nil⟩
  · exact ky2560
  · exact ky2304
  · exact ky2048
  · exact ky1792
  · exact ky1536
  · exact ky1280
  · exact ky1024
  · exact ky768
  · exact ky512
  · exact ky256
  · exact ky0

end Cert.Gate
-- ==== Proof.Ffn.GateSums.lean ====
/- What one grid point leaves in the bias's gradient. -/
module

public import proofs.«01_k».proof.Proof.Ffn.GateBlocks

@[expose] public section

namespace Cert.Gate

open Idealize.ShloMosaic Idealize.ShloMosaic.TcCoe Idealize.SL.Sem
open Cert.KernelIdeal Cert.KernelIdeal.Gen Cert.Common Cert.Shift

/-- The first point leaves its tile's sums in the bias's gradient. -/
theorem out13_A (c : Dev nD) (i : grid0.Coords)
    (a1 : Memref sig .tc .vmem S256x1024 .f32) (h1 : a1.IsWhole) (a2 : Memref sig .tc .vmem S256x2816 .bf16) (h2 : a2.IsWhole) (a3 : Memref sig .tc .vmem S256x2816 .bf16) (h3 : a3.IsWhole)
    (a4 : Memref sig .tc .vmem S8x2816 .bf16) (h4 : a4.IsWhole) (a5 : Memref sig .tc .vmem S8x2816 .bf16) (h5 : a5.IsWhole) (a6 : Memref sig .tc .vmem S3x2816 .f32) (h6 : a6.IsWhole)
    (a7 : Memref sig .tc .vmem S3x2816 .f32) (h7 : a7.IsWhole) (a8 : Memref sig .tc .vmem S1x2816 .f32) (h8 : a8.IsWhole) (a9 : Memref sig .tc .vmem S1x2816 .f32) (h9 : a9.IsWhole)
    (a10 : Memref sig .tc .vmem S2816x1024 .bf16) (h10 : a10.IsWhole) (a11 : Memref sig .tc .vmem S256x5632 .bf16) (h11 : a11.IsWhole) (a12 : Memref sig .tc .vmem S256x2816 .bf16) (h12 : a12.IsWhole)
    (a13 : Memref sig .tc .vmem S8x5632 .f32) (h13 : a13.IsWhole) (a14 : Memref sig .tc .vmem S1x5632 .f32) (h14 : a14.IsWhole) (hc : cond0_0 i)
    (x0 : Vec Ideal S256x1024 .f32) (x1 x2 : Vec Ideal S256x2816 .bf16) (x3 x4 : Vec Ideal S8x2816 .bf16)
    (x5 x6 : Vec Ideal S3x2816 .f32) (x7 x8 : Vec Ideal S1x2816 .f32) (x9 : Vec Ideal S2816x1024 .bf16)
    (D : S8192x1024.Idx → EReal) (A : S8192x5632.Idx → EReal) (W : S3x5632.Idx → EReal) (B : S1x5632.Idx → EReal) (Wd : S2816x1024.Idx → EReal) (b : ℕ)
    (t : Tile D A W B Wd b (factor (F := Ideal) i) x0 x1 x2 x3 x4 x5 x6 x7 x8 x9) (y : S1x5632.Idx) :
    (out0_A_13 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 y : EReal) = ∑ r : Fin 256, dcv D A W B Wd (b + r.val) (y 1).val := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc x0 x1 x2 x3 x4 x5 x6 x7 x8 x9)]
  have kg : ∀ (o : ℕ) (h : o + 256 ≤ 2816) (x : S1x256.Idx), accT (F := Ideal) (dgT (F := Ideal) (gC (F := Ideal) (factor (F := Ideal) i) x1 x3 x5 x7 o h) (gC (F := Ideal) (factor (F := Ideal) i) x2 x4 x6 x8 o h) (dC (F := Ideal) x0 x9 o h))
      (View.ld (Val := Elt Ideal) (e' := .f32) (k0_pay6 (F := Ideal)) (Rect.unit (s := S1x5632) ![0, o] ![1, 256] (inb (by omega) (by omega)))) x = _ :=
    fun o h x => acc_eq (k0_pay6 (F := Ideal)) (fun r Q => dcv D A W B Wd (b + r) Q) 0 o (inb (by omega) (by omega)) _ (dgT1 t o h) x
  have kv : ∀ (o p : ℕ) (h : o + 256 ≤ 2816) (hp : p = 2816 + o) (x : S1x256.Idx), accT (F := Ideal) (dvT (F := Ideal) (gC (F := Ideal) (factor (F := Ideal) i) x1 x3 x5 x7 o h) (dC (F := Ideal) x0 x9 o h))
      (View.ld (Val := Elt Ideal) (e' := .f32) (k0_pay6 (F := Ideal)) (Rect.unit (s := S1x5632) ![0, p] ![1, 256] (inb (by omega) (by omega)))) x = _ :=
    fun o p h hp x => acc_eq (k0_pay6 (F := Ideal)) (fun r Q => dcv D A W B Wd (b + r) Q) 0 p (inb (by omega) (by omega)) _ (hp ▸ dvT1 t o h) x
  have kg0 := kg 0 (by decide)
  have kv0 := kv 0 2816 (by decide) rfl
  have kg256 := kg 256 (by decide)
  have kv256 := kv 256 3072 (by decide) rfl
  have kg512 := kg 512 (by decide)
  have kv512 := kv 512 3328 (by decide) rfl
  have kg768 := kg 768 (by decide)
  have kv768 := kv 768 3584 (by decide) rfl
  have kg1024 := kg 1024 (by decide)
  have kv1024 := kv 1024 3840 (by decide) rfl
  have kg1280 := kg 1280 (by decide)
  have kv1280 := kv 1280 4096 (by decide) rfl
  have kg1536 := kg 1536 (by decide)
  have kv1536 := kv 1536 4352 (by decide) rfl
  have kg1792 := kg 1792 (by decide)
  have kv1792 := kv 1792 4608 (by decide) rfl
  have kg2048 := kg 2048 (by decide)
  have kv2048 := kv 2048 4864 (by decide) rfl
  have kg2304 := kg 2304 (by decide)
  have kv2304 := kv 2304 5120 (by decide) rfl
  have kg2560 := kg 2560 (by decide)
  have kv2560 := kv 2560 5376 (by decide) rfl
  unfold kernelRun0_A
  dsimp only
  sl_unfold_words
  simp (disch := first | rfl | decide) only [↓View.readCov_skip, ↓View.readCov_fill]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz]
  refine (canon_rows (n := 1) 1 (.inl rfl) [_, _, _, _, _, _, _, _, _, _, _, _, _, _, _, _, _, _, _, _, _, _] _ (fun y => k0_pay6 (F := Ideal) y + ∑ r : Fin 256, dcv D A W B Wd (b + r.val) (y 1).val) _ ?_ rfl y).trans ?_
  · simp only [List.forall_mem_cons]
    refine ⟨?_, ?_, ?_, ?_, ?_, ?_, ?_, ?_, ?_, ?_, ?_, ?_, ?_, ?_, ?_, ?_, ?_, ?_, ?_, ?_, ?_, ?_, fun p hp => absurd hp List.not_mem_nil⟩
    · exact kv2560
    · exact kg2560
    · exact kv2304
    · exact kg2304
    · exact kv2048
    · exact kg2048
    · exact kv1792
    · exact kg1792
    · exact kv1536
    · exact kg1536
    · exact kv1280
    · exact kg1280
    · exact kv1024
    · exact kg1024
    · exact kv768
    · exact kg768
    · exact kv512
    · exact kg512
    · exact kv256
    · exact kg256
    · exact kv0
    · exact kg0
  · have hZ : ∀ y, k0_pay6 (F := Ideal) y = (0 : EReal) := fun _ => Ideal.ofBits_zero_f32
    have h : (y 0).val < 1 := (y 0).isLt
    rw [if_pos h, hZ, zero_add]

/-- A later point adds to the bias's gradient its tile's sums. -/
theorem out13_B (c : Dev nD) (i : grid0.Coords)
    (a1 : Memref sig .tc .vmem S256x1024 .f32) (h1 : a1.IsWhole) (a2 : Memref sig .tc .vmem S256x2816 .bf16) (h2 : a2.IsWhole) (a3 : Memref sig .tc .vmem S256x2816 .bf16) (h3 : a3.IsWhole)
    (a4 : Memref sig .tc .vmem S8x2816 .bf16) (h4 : a4.IsWhole) (a5 : Memref sig .tc .vmem S8x2816 .bf16) (h5 : a5.IsWhole) (a6 : Memref sig .tc .vmem S3x2816 .f32) (h6 : a6.IsWhole)
    (a7 : Memref sig .tc .vmem S3x2816 .f32) (h7 : a7.IsWhole) (a8 : Memref sig .tc .vmem S1x2816 .f32) (h8 : a8.IsWhole) (a9 : Memref sig .tc .vmem S1x2816 .f32) (h9 : a9.IsWhole)
    (a10 : Memref sig .tc .vmem S2816x1024 .bf16) (h10 : a10.IsWhole) (a11 : Memref sig .tc .vmem S256x5632 .bf16) (h11 : a11.IsWhole) (a12 : Memref sig .tc .vmem S256x2816 .bf16) (h12 : a12.IsWhole)
    (a13 : Memref sig .tc .vmem S8x5632 .f32) (h13 : a13.IsWhole) (a14 : Memref sig .tc .vmem S1x5632 .f32) (h14 : a14.IsWhole) (hc : ¬cond0_0 i)
    (x0 : Vec Ideal S256x1024 .f32) (x1 x2 : Vec Ideal S256x2816 .bf16) (x3 x4 : Vec Ideal S8x2816 .bf16)
    (x5 x6 : Vec Ideal S3x2816 .f32) (x7 x8 : Vec Ideal S1x2816 .f32) (x9 : Vec Ideal S2816x1024 .bf16) (xo12 : Vec Ideal S8x5632 .f32) (xo13 : Vec Ideal S1x5632 .f32)
    (D : S8192x1024.Idx → EReal) (A : S8192x5632.Idx → EReal) (W : S3x5632.Idx → EReal) (B : S1x5632.Idx → EReal) (Wd : S2816x1024.Idx → EReal) (b : ℕ)
    (t : Tile D A W B Wd b (factor (F := Ideal) i) x0 x1 x2 x3 x4 x5 x6 x7 x8 x9) (y : S1x5632.Idx) :
    (out0_B_13 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 xo12 xo13 y : EReal) = xo13 y + ∑ r : Fin 256, dcv D A W B Wd (b + r.val) (y 1).val := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc x0 x1 x2 x3 x4 x5 x6 x7 x8 x9 xo12 xo13)]
  refine View.canon_apply_of_pieces (Val := Elt Ideal) (S := S1x5632) (e := .f32) (fun y : S1x5632.Idx => (xo13 y + ∑ r : Fin 256, dcv D A W B Wd (b + r.val) (y 1).val : EReal)) _ ?_ y (cover0_B_13 c i a1 h1 a2 h2 a3 h3 a4 h4 a5 h5 a6 h6 a7 h7 a8 h8 a9 h9 a10 h10 a11 h11 a12 h12 a13 h13 a14 h14 hc x0 x1 x2 x3 x4 x5 x6 x7 x8 x9 xo12 xo13 y)
  have kg : ∀ (o : ℕ) (h : o + 256 ≤ 2816) (x : S1x256.Idx), accT (F := Ideal) (dgT (F := Ideal) (gC (F := Ideal) (factor (F := Ideal) i) x1 x3 x5 x7 o h) (gC (F := Ideal) (factor (F := Ideal) i) x2 x4 x6 x8 o h) (dC (F := Ideal) x0 x9 o h))
      (View.ld (Val := Elt Ideal) (e' := .f32) xo13 (Rect.unit (s := S1x5632) ![0, o] ![1, 256] (inb (by omega) (by omega)))) x = _ :=
    fun o h x => acc_eq xo13 (fun r Q => dcv D A W B Wd (b + r) Q) 0 o (inb (by omega) (by omega)) _ (dgT1 t o h) x
  have kv : ∀ (o p : ℕ) (h : o + 256 ≤ 2816) (hp : p = 2816 + o) (x : S1x256.Idx), accT (F := Ideal) (dvT (F := Ideal) (gC (F := Ideal) (factor (F := Ideal) i) x1 x3 x5 x7 o h) (dC (F := Ideal) x0 x9 o h))
      (View.ld (Val := Elt Ideal) (e' := .f32) xo13 (Rect.unit (s := S1x5632) ![0, p] ![1, 256] (inb (by omega) (by omega)))) x = _ :=
    fun o p h hp x => acc_eq xo13 (fun r Q => dcv D A W B Wd (b + r) Q) 0 p (inb (by omega) (by omega)) _ (hp ▸ dvT1 t o h) x
  have kg0 := kg 0 (by decide)
  have kv0 := kv 0 2816 (by decide) rfl
  have kg256 := kg 256 (by decide)
  have kv256 := kv 256 3072 (by decide) rfl
  have kg512 := kg 512 (by decide)
  have kv512 := kv 512 3328 (by decide) rfl
  have kg768 := kg 768 (by decide)
  have kv768 := kv 768 3584 (by decide) rfl
  have kg1024 := kg 1024 (by decide)
  have kv1024 := kv 1024 3840 (by decide) rfl
  have kg1280 := kg 1280 (by decide)
  have kv1280 := kv 1280 4096 (by decide) rfl
  have kg1536 := kg 1536 (by decide)
  have kv1536 := kv 1536 4352 (by decide) rfl
  have kg1792 := kg 1792 (by decide)
  have kv1792 := kv 1792 4608 (by decide) rfl
  have kg2048 := kg 2048 (by decide)
  have kv2048 := kv 2048 4864 (by decide) rfl
  have kg2304 := kg 2304 (by decide)
  have kv2304 := kv 2304 5120 (by decide) rfl
  have kg2560 := kg 2560 (by decide)
  have kv2560 := kv 2560 5376 (by decide) rfl
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz]
  simp only [List.forall_mem_cons]
  refine ⟨?_, ?_, ?_, ?_, ?_, ?_, ?_, ?_, ?_, ?_, ?_, ?_, ?_, ?_, ?_, ?_, ?_, ?_, ?_, ?_, ?_, ?_, fun p hp => absurd hp List.not_mem_nil⟩
  · exact kv2560
  · exact kg2560
  · exact kv2304
  · exact kg2304
  · exact kv2048
  · exact kg2048
  · exact kv1792
  · exact kg1792
  · exact kv1536
  · exact kg1536
  · exact kv1280
  · exact kg1280
  · exact kv1024
  · exact kg1024
  · exact kv768
  · exact kg768
  · exact kv512
  · exact kg512
  · exact kv256
  · exact kg256
  · exact kv0
  · exact kg0

end Cert.Gate
-- ==== Proof.Ffn.GateWeightA.lean ====
/- What the first grid point leaves in the weight's gradient. -/
module

public import proofs.«01_k».proof.Proof.Ffn.GateBlocks

@[expose] public section

namespace Cert.Gate

open Idealize.ShloMosaic Idealize.ShloMosaic.TcCoe Idealize.SL.Sem
open Cert.KernelIdeal Cert.KernelIdeal.Gen Cert.Common Cert.Shift

set_option maxHeartbeats 4000000 in
/-- The first point leaves its tile's sums in the weight's gradient. -/
theorem out12_A (c : Dev nD) (i : grid0.Coords)
    (a1 : Memref sig .tc .vmem S256x1024 .f32) (h1 : a1.IsWhole) (a2 : Memref sig .tc .vmem S256x2816 .bf16) (h2 : a2.IsWhole) (a3 : Memref sig .tc .vmem S256x2816 .bf16) (h3 : a3.IsWhole)
    (a4 : Memref sig .tc .vmem S8x2816 .bf16) (h4 : a4.IsWhole) (a5 : Memref sig .tc .vmem S8x2816 .bf16) (h5 : a5.IsWhole) (a6 : Memref sig .tc .vmem S3x2816 .f32) (h6 : a6.IsWhole)
    (a7 : Memref sig .tc .vmem S3x2816 .f32) (h7 : a7.IsWhole) (a8 : Memref sig .tc .vmem S1x2816 .f32) (h8 : a8.IsWhole) (a9 : Memref sig .tc .vmem S1x2816 .f32) (h9 : a9.IsWhole)
    (a10 : Memref sig .tc .vmem S2816x1024 .bf16) (h10 : a10.IsWhole) (a11 : Memref sig .tc .vmem S256x5632 .bf16) (h11 : a11.IsWhole) (a12 : Memref sig .tc .vmem S256x2816 .bf16) (h12 : a12.IsWhole)
    (a13 : Memref sig .tc .vmem S8x5632 .f32) (h13 : a13.IsWhole) (a14 : Memref sig .tc .vmem S1x5632 .f32) (h14 : a14.IsWhole) (hc : cond0_0 i)
    (x0 : Vec Ideal S256x1024 .f32) (x1 x2 : Vec Ideal S256x2816 .bf16) (x3 x4 : Vec Ideal S8x2816 .bf16)
    (x5 x6 : Vec Ideal S3x2816 .f32) (x7 x8 : Vec Ideal S1x2816 .f32) (x9 : Vec Ideal S2816x1024 .bf16)
    (D : S8192x1024.Idx → EReal) (A : S8192x5632.Idx → EReal) (W : S3x5632.Idx → EReal) (B : S1x5632.Idx → EReal) (Wd : S2816x1024.Idx → EReal) (b : ℕ)
    (t : Tile D A W B Wd b (factor (F := Ideal) i) x0 x1 x2 x3 x4 x5 x6 x7 x8 x9) (y : S8x5632.Idx) :
    (out0_A_12 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 y : EReal) = dwt D A W B Wd b (y 0).val (y 1).val := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc x0 x1 x2 x3 x4 x5 x6 x7 x8 x9)]
  have kg0_ : ∀ (o : ℕ) (h : o + 256 ≤ 2816) (x : S1x256.Idx), accT (F := Ideal) (mulf (F := Ideal) (dgT (F := Ideal) (gC (F := Ideal) (factor (F := Ideal) i) x1 x3 x5 x7 o h) (gC (F := Ideal) (factor (F := Ideal) i) x2 x4 x6 x8 o h) (dC (F := Ideal) x0 x9 o h)) (tC (F := Ideal) 2 (factor (F := Ideal) i) x1 x3 o h))
      (View.ld (Val := Elt Ideal) (e' := .f32) (k0_pay5 (F := Ideal)) (Rect.unit (s := S8x5632) ![0, o] ![1, 256] (inb (by omega) (by omega)))) x = _ :=
    fun o h x => acc_eq3 (k0_pay5 (F := Ideal)) (fun u r Q => dcv D A W B Wd (b + r) Q * tap A (b + r) Q (2 - u)) 0 o (inb (by omega) (by omega)) _
      (fun j => congrArg₂ (· * ·) (dgT1 t o h j) (tC1 t o h 2 ⟨by decide, by decide⟩ j)) x
  have kv0_ : ∀ (o p : ℕ) (h : o + 256 ≤ 2816) (hp : p = 2816 + o) (x : S1x256.Idx), accT (F := Ideal) (mulf (F := Ideal) (dvT (F := Ideal) (gC (F := Ideal) (factor (F := Ideal) i) x1 x3 x5 x7 o h) (dC (F := Ideal) x0 x9 o h)) (tC (F := Ideal) 2 (factor (F := Ideal) i) x2 x4 o h))
      (View.ld (Val := Elt Ideal) (e' := .f32) (k0_pay5 (F := Ideal)) (Rect.unit (s := S8x5632) ![0, p] ![1, 256] (inb (by omega) (by omega)))) x = _ :=
    fun o p h hp x => acc_eq3 (k0_pay5 (F := Ideal)) (fun u r Q => dcv D A W B Wd (b + r) Q * tap A (b + r) Q (2 - u)) 0 p (inb (by omega) (by omega)) _
      (fun j => congrArg₂ (· * ·) (hp ▸ dvT1 t o h j) (hp ▸ tC2 t o h 2 ⟨by decide, by decide⟩ j)) x
  have kg1_ : ∀ (o : ℕ) (h : o + 256 ≤ 2816) (x : S1x256.Idx), accT (F := Ideal) (mulf (F := Ideal) (dgT (F := Ideal) (gC (F := Ideal) (factor (F := Ideal) i) x1 x3 x5 x7 o h) (gC (F := Ideal) (factor (F := Ideal) i) x2 x4 x6 x8 o h) (dC (F := Ideal) x0 x9 o h)) (tC (F := Ideal) 1 (factor (F := Ideal) i) x1 x3 o h))
      (View.ld (Val := Elt Ideal) (e' := .f32) (k0_pay5 (F := Ideal)) (Rect.unit (s := S8x5632) ![1, o] ![1, 256] (inb (by omega) (by omega)))) x = _ :=
    fun o h x => acc_eq3 (k0_pay5 (F := Ideal)) (fun u r Q => dcv D A W B Wd (b + r) Q * tap A (b + r) Q (2 - u)) 1 o (inb (by omega) (by omega)) _
      (fun j => congrArg₂ (· * ·) (dgT1 t o h j) (tC1 t o h 1 ⟨by decide, by decide⟩ j)) x
  have kv1_ : ∀ (o p : ℕ) (h : o + 256 ≤ 2816) (hp : p = 2816 + o) (x : S1x256.Idx), accT (F := Ideal) (mulf (F := Ideal) (dvT (F := Ideal) (gC (F := Ideal) (factor (F := Ideal) i) x1 x3 x5 x7 o h) (dC (F := Ideal) x0 x9 o h)) (tC (F := Ideal) 1 (factor (F := Ideal) i) x2 x4 o h))
      (View.ld (Val := Elt Ideal) (e' := .f32) (k0_pay5 (F := Ideal)) (Rect.unit (s := S8x5632) ![1, p] ![1, 256] (inb (by omega) (by omega)))) x = _ :=
    fun o p h hp x => acc_eq3 (k0_pay5 (F := Ideal)) (fun u r Q => dcv D A W B Wd (b + r) Q * tap A (b + r) Q (2 - u)) 1 p (inb (by omega) (by omega)) _
      (fun j => congrArg₂ (· * ·) (hp ▸ dvT1 t o h j) (hp ▸ tC2 t o h 1 ⟨by decide, by decide⟩ j)) x
  have kg2_ : ∀ (o : ℕ) (h : o + 256 ≤ 2816) (x : S1x256.Idx), accT (F := Ideal) (mulf (F := Ideal) (dgT (F := Ideal) (gC (F := Ideal) (factor (F := Ideal) i) x1 x3 x5 x7 o h) (gC (F := Ideal) (factor (F := Ideal) i) x2 x4 x6 x8 o h) (dC (F := Ideal) x0 x9 o h)) (t0C (F := Ideal) x1 o h))
      (View.ld (Val := Elt Ideal) (e' := .f32) (k0_pay5 (F := Ideal)) (Rect.unit (s := S8x5632) ![2, o] ![1, 256] (inb (by omega) (by omega)))) x = _ :=
    fun o h x => acc_eq3 (k0_pay5 (F := Ideal)) (fun u r Q => dcv D A W B Wd (b + r) Q * tap A (b + r) Q (2 - u)) 2 o (inb (by omega) (by omega)) _
      (fun j => congrArg₂ (· * ·) (dgT1 t o h j) (t0C1 t o h j)) x
  have kv2_ : ∀ (o p : ℕ) (h : o + 256 ≤ 2816) (hp : p = 2816 + o) (x : S1x256.Idx), accT (F := Ideal) (mulf (F := Ideal) (dvT (F := Ideal) (gC (F := Ideal) (factor (F := Ideal) i) x1 x3 x5 x7 o h) (dC (F := Ideal) x0 x9 o h)) (t0C (F := Ideal) x2 o h))
      (View.ld (Val := Elt Ideal) (e' := .f32) (k0_pay5 (F := Ideal)) (Rect.unit (s := S8x5632) ![2, p] ![1, 256] (inb (by omega) (by omega)))) x = _ :=
    fun o p h hp x => acc_eq3 (k0_pay5 (F := Ideal)) (fun u r Q => dcv D A W B Wd (b + r) Q * tap A (b + r) Q (2 - u)) 2 p (inb (by omega) (by omega)) _
      (fun j => congrArg₂ (· * ·) (hp ▸ dvT1 t o h j) (hp ▸ t0C2 t o h j)) x
  have kg0_0 := kg0_ 0 (by decide)
  have kv0_0 := kv0_ 0 2816 (by decide) rfl
  have kg1_0 := kg1_ 0 (by decide)
  have kv1_0 := kv1_ 0 2816 (by decide) rfl
  have kg2_0 := kg2_ 0 (by decide)
  have kv2_0 := kv2_ 0 2816 (by decide) rfl
  have kg0_256 := kg0_ 256 (by decide)
  have kv0_256 := kv0_ 256 3072 (by decide) rfl
  have kg1_256 := kg1_ 256 (by decide)
  have kv1_256 := kv1_ 256 3072 (by decide) rfl
  have kg2_256 := kg2_ 256 (by decide)
  have kv2_256 := kv2_ 256 3072 (by decide) rfl
  have kg0_512 := kg0_ 512 (by decide)
  have kv0_512 := kv0_ 512 3328 (by decide) rfl
  have kg1_512 := kg1_ 512 (by decide)
  have kv1_512 := kv1_ 512 3328 (by decide) rfl
  have kg2_512 := kg2_ 512 (by decide)
  have kv2_512 := kv2_ 512 3328 (by decide) rfl
  have kg0_768 := kg0_ 768 (by decide)
  have kv0_768 := kv0_ 768 3584 (by decide) rfl
  have kg1_768 := kg1_ 768 (by decide)
  have kv1_768 := kv1_ 768 3584 (by decide) rfl
  have kg2_768 := kg2_ 768 (by decide)
  have kv2_768 := kv2_ 768 3584 (by decide) rfl
  have kg0_1024 := kg0_ 1024 (by decide)
  have kv0_1024 := kv0_ 1024 3840 (by decide) rfl
  have kg1_1024 := kg1_ 1024 (by decide)
  have kv1_1024 := kv1_ 1024 3840 (by decide) rfl
  have kg2_1024 := kg2_ 1024 (by decide)
  have kv2_1024 := kv2_ 1024 3840 (by decide) rfl
  have kg0_1280 := kg0_ 1280 (by decide)
  have kv0_1280 := kv0_ 1280 4096 (by decide) rfl
  have kg1_1280 := kg1_ 1280 (by decide)
  have kv1_1280 := kv1_ 1280 4096 (by decide) rfl
  have kg2_1280 := kg2_ 1280 (by decide)
  have kv2_1280 := kv2_ 1280 4096 (by decide) rfl
  have kg0_1536 := kg0_ 1536 (by decide)
  have kv0_1536 := kv0_ 1536 4352 (by decide) rfl
  have kg1_1536 := kg1_ 1536 (by decide)
  have kv1_1536 := kv1_ 1536 4352 (by decide) rfl
  have kg2_1536 := kg2_ 1536 (by decide)
  have kv2_1536 := kv2_ 1536 4352 (by decide) rfl
  have kg0_1792 := kg0_ 1792 (by decide)
  have kv0_1792 := kv0_ 1792 4608 (by decide) rfl
  have kg1_1792 := kg1_ 1792 (by decide)
  have kv1_1792 := kv1_ 1792 4608 (by decide) rfl
  have kg2_1792 := kg2_ 1792 (by decide)
  have kv2_1792 := kv2_ 1792 4608 (by decide) rfl
  have kg0_2048 := kg0_ 2048 (by decide)
  have kv0_2048 := kv0_ 2048 4864 (by decide) rfl
  have kg1_2048 := kg1_ 2048 (by decide)
  have kv1_2048 := kv1_ 2048 4864 (by decide) rfl
  have kg2_2048 := kg2_ 2048 (by decide)
  have kv2_2048 := kv2_ 2048 4864 (by decide) rfl
  have kg0_2304 := kg0_ 2304 (by decide)
  have kv0_2304 := kv0_ 2304 5120 (by decide) rfl
  have kg1_2304 := kg1_ 2304 (by decide)
  have kv1_2304 := kv1_ 2304 5120 (by decide) rfl
  have kg2_2304 := kg2_ 2304 (by decide)
  have kv2_2304 := kv2_ 2304 5120 (by decide) rfl
  have kg0_2560 := kg0_ 2560 (by decide)
  have kv0_2560 := kv0_ 2560 5376 (by decide) rfl
  have kg1_2560 := kg1_ 2560 (by decide)
  have kv1_2560 := kv1_ 2560 5376 (by decide) rfl
  have kg2_2560 := kg2_ 2560 (by decide)
  have kv2_2560 := kv2_ 2560 5376 (by decide) rfl
  unfold kernelRun0_A
  dsimp only
  sl_unfold_words
  simp (disch := first | rfl | decide) only [↓View.readCov_skip, ↓View.readCov_fill]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz]
  refine (canon_rows (n := 8) 3 (.inr rfl) [_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _] _ (fun y => k0_pay5 (F := Ideal) y + ∑ r : Fin 256, dcv D A W B Wd (b + r.val) (y 1).val * tap A (b + r.val) (y 1).val (2 - (y 0).val)) _ ?_ rfl y).trans ?_
  · simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
    · exact kv2_2560
    · exact kv1_2560
    · exact kv0_2560
    · exact kg2_2560
    · exact kg1_2560
    · exact kg0_2560
    · exact kv2_2304
    · exact kv1_2304
    · exact kv0_2304
    · exact kg2_2304
    · exact kg1_2304
    · exact kg0_2304
    · exact kv2_2048
    · exact kv1_2048
    · exact kv0_2048
    · exact kg2_2048
    · exact kg1_2048
    · exact kg0_2048
    · exact kv2_1792
    · exact kv1_1792
    · exact kv0_1792
    · exact kg2_1792
    · exact kg1_1792
    · exact kg0_1792
    · exact kv2_1536
    · exact kv1_1536
    · exact kv0_1536
    · exact kg2_1536
    · exact kg1_1536
    · exact kg0_1536
    · exact kv2_1280
    · exact kv1_1280
    · exact kv0_1280
    · exact kg2_1280
    · exact kg1_1280
    · exact kg0_1280
    · exact kv2_1024
    · exact kv1_1024
    · exact kv0_1024
    · exact kg2_1024
    · exact kg1_1024
    · exact kg0_1024
    · exact kv2_768
    · exact kv1_768
    · exact kv0_768
    · exact kg2_768
    · exact kg1_768
    · exact kg0_768
    · exact kv2_512
    · exact kv1_512
    · exact kv0_512
    · exact kg2_512
    · exact kg1_512
    · exact kg0_512
    · exact kv2_256
    · exact kv1_256
    · exact kv0_256
    · exact kg2_256
    · exact kg1_256
    · exact kg0_256
    · exact kv2_0
    · exact kv1_0
    · exact kv0_0
    · exact kg2_0
    · exact kg1_0
    · exact kg0_0
  · have hZ : ∀ y, k0_pay5 (F := Ideal) y = (0 : EReal) := fun _ => Ideal.ofBits_zero_f32
    unfold dwt
    by_cases h : (y 0).val < 3
    · rw [if_pos h, if_pos h, hZ, zero_add]
    · rw [if_neg h, if_neg h, hZ]

end Cert.Gate
-- ==== Proof.Ffn.GateWeightB.lean ====
/- What a later grid point leaves in the weight's gradient. -/
module

public import proofs.«01_k».proof.Proof.Ffn.GateBlocks

@[expose] public section

namespace Cert.Gate

open Idealize.ShloMosaic Idealize.ShloMosaic.TcCoe Idealize.SL.Sem
open Cert.KernelIdeal Cert.KernelIdeal.Gen Cert.Common Cert.Shift

/-- A later point adds to the weight's gradient its tile's sums. -/
theorem out12_B (c : Dev nD) (i : grid0.Coords)
    (a1 : Memref sig .tc .vmem S256x1024 .f32) (h1 : a1.IsWhole) (a2 : Memref sig .tc .vmem S256x2816 .bf16) (h2 : a2.IsWhole) (a3 : Memref sig .tc .vmem S256x2816 .bf16) (h3 : a3.IsWhole)
    (a4 : Memref sig .tc .vmem S8x2816 .bf16) (h4 : a4.IsWhole) (a5 : Memref sig .tc .vmem S8x2816 .bf16) (h5 : a5.IsWhole) (a6 : Memref sig .tc .vmem S3x2816 .f32) (h6 : a6.IsWhole)
    (a7 : Memref sig .tc .vmem S3x2816 .f32) (h7 : a7.IsWhole) (a8 : Memref sig .tc .vmem S1x2816 .f32) (h8 : a8.IsWhole) (a9 : Memref sig .tc .vmem S1x2816 .f32) (h9 : a9.IsWhole)
    (a10 : Memref sig .tc .vmem S2816x1024 .bf16) (h10 : a10.IsWhole) (a11 : Memref sig .tc .vmem S256x5632 .bf16) (h11 : a11.IsWhole) (a12 : Memref sig .tc .vmem S256x2816 .bf16) (h12 : a12.IsWhole)
    (a13 : Memref sig .tc .vmem S8x5632 .f32) (h13 : a13.IsWhole) (a14 : Memref sig .tc .vmem S1x5632 .f32) (h14 : a14.IsWhole) (hc : ¬cond0_0 i)
    (x0 : Vec Ideal S256x1024 .f32) (x1 x2 : Vec Ideal S256x2816 .bf16) (x3 x4 : Vec Ideal S8x2816 .bf16)
    (x5 x6 : Vec Ideal S3x2816 .f32) (x7 x8 : Vec Ideal S1x2816 .f32) (x9 : Vec Ideal S2816x1024 .bf16) (xo12 : Vec Ideal S8x5632 .f32) (xo13 : Vec Ideal S1x5632 .f32)
    (D : S8192x1024.Idx → EReal) (A : S8192x5632.Idx → EReal) (W : S3x5632.Idx → EReal) (B : S1x5632.Idx → EReal) (Wd : S2816x1024.Idx → EReal) (b : ℕ)
    (t : Tile D A W B Wd b (factor (F := Ideal) i) x0 x1 x2 x3 x4 x5 x6 x7 x8 x9) (y : S8x5632.Idx) :
    (out0_B_12 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 xo12 xo13 y : EReal) = xo12 y + dwt D A W B Wd b (y 0).val (y 1).val := by
  unfold out0_B_12
  have kg0_ : ∀ (o : ℕ) (h : o + 256 ≤ 2816) (x : S1x256.Idx), accT (F := Ideal) (mulf (F := Ideal) (dgT (F := Ideal) (gC (F := Ideal) (factor (F := Ideal) i) x1 x3 x5 x7 o h) (gC (F := Ideal) (factor (F := Ideal) i) x2 x4 x6 x8 o h) (dC (F := Ideal) x0 x9 o h)) (tC (F := Ideal) 2 (factor (F := Ideal) i) x1 x3 o h))
      (View.ld (Val := Elt Ideal) (e' := .f32) xo12 (Rect.unit (s := S8x5632) ![0, o] ![1, 256] (inb (by omega) (by omega)))) x = _ :=
    fun o h x => acc_eq3 xo12 (fun u r Q => dcv D A W B Wd (b + r) Q * tap A (b + r) Q (2 - u)) 0 o (inb (by omega) (by omega)) _
      (fun j => congrArg₂ (· * ·) (dgT1 t o h j) (tC1 t o h 2 ⟨by decide, by decide⟩ j)) x
  have kv0_ : ∀ (o p : ℕ) (h : o + 256 ≤ 2816) (hp : p = 2816 + o) (x : S1x256.Idx), accT (F := Ideal) (mulf (F := Ideal) (dvT (F := Ideal) (gC (F := Ideal) (factor (F := Ideal) i) x1 x3 x5 x7 o h) (dC (F := Ideal) x0 x9 o h)) (tC (F := Ideal) 2 (factor (F := Ideal) i) x2 x4 o h))
      (View.ld (Val := Elt Ideal) (e' := .f32) xo12 (Rect.unit (s := S8x5632) ![0, p] ![1, 256] (inb (by omega) (by omega)))) x = _ :=
    fun o p h hp x => acc_eq3 xo12 (fun u r Q => dcv D A W B Wd (b + r) Q * tap A (b + r) Q (2 - u)) 0 p (inb (by omega) (by omega)) _
      (fun j => congrArg₂ (· * ·) (hp ▸ dvT1 t o h j) (hp ▸ tC2 t o h 2 ⟨by decide, by decide⟩ j)) x
  have kg1_ : ∀ (o : ℕ) (h : o + 256 ≤ 2816) (x : S1x256.Idx), accT (F := Ideal) (mulf (F := Ideal) (dgT (F := Ideal) (gC (F := Ideal) (factor (F := Ideal) i) x1 x3 x5 x7 o h) (gC (F := Ideal) (factor (F := Ideal) i) x2 x4 x6 x8 o h) (dC (F := Ideal) x0 x9 o h)) (tC (F := Ideal) 1 (factor (F := Ideal) i) x1 x3 o h))
      (View.ld (Val := Elt Ideal) (e' := .f32) xo12 (Rect.unit (s := S8x5632) ![1, o] ![1, 256] (inb (by omega) (by omega)))) x = _ :=
    fun o h x => acc_eq3 xo12 (fun u r Q => dcv D A W B Wd (b + r) Q * tap A (b + r) Q (2 - u)) 1 o (inb (by omega) (by omega)) _
      (fun j => congrArg₂ (· * ·) (dgT1 t o h j) (tC1 t o h 1 ⟨by decide, by decide⟩ j)) x
  have kv1_ : ∀ (o p : ℕ) (h : o + 256 ≤ 2816) (hp : p = 2816 + o) (x : S1x256.Idx), accT (F := Ideal) (mulf (F := Ideal) (dvT (F := Ideal) (gC (F := Ideal) (factor (F := Ideal) i) x1 x3 x5 x7 o h) (dC (F := Ideal) x0 x9 o h)) (tC (F := Ideal) 1 (factor (F := Ideal) i) x2 x4 o h))
      (View.ld (Val := Elt Ideal) (e' := .f32) xo12 (Rect.unit (s := S8x5632) ![1, p] ![1, 256] (inb (by omega) (by omega)))) x = _ :=
    fun o p h hp x => acc_eq3 xo12 (fun u r Q => dcv D A W B Wd (b + r) Q * tap A (b + r) Q (2 - u)) 1 p (inb (by omega) (by omega)) _
      (fun j => congrArg₂ (· * ·) (hp ▸ dvT1 t o h j) (hp ▸ tC2 t o h 1 ⟨by decide, by decide⟩ j)) x
  have kg2_ : ∀ (o : ℕ) (h : o + 256 ≤ 2816) (x : S1x256.Idx), accT (F := Ideal) (mulf (F := Ideal) (dgT (F := Ideal) (gC (F := Ideal) (factor (F := Ideal) i) x1 x3 x5 x7 o h) (gC (F := Ideal) (factor (F := Ideal) i) x2 x4 x6 x8 o h) (dC (F := Ideal) x0 x9 o h)) (t0C (F := Ideal) x1 o h))
      (View.ld (Val := Elt Ideal) (e' := .f32) xo12 (Rect.unit (s := S8x5632) ![2, o] ![1, 256] (inb (by omega) (by omega)))) x = _ :=
    fun o h x => acc_eq3 xo12 (fun u r Q => dcv D A W B Wd (b + r) Q * tap A (b + r) Q (2 - u)) 2 o (inb (by omega) (by omega)) _
      (fun j => congrArg₂ (· * ·) (dgT1 t o h j) (t0C1 t o h j)) x
  have kv2_ : ∀ (o p : ℕ) (h : o + 256 ≤ 2816) (hp : p = 2816 + o) (x : S1x256.Idx), accT (F := Ideal) (mulf (F := Ideal) (dvT (F := Ideal) (gC (F := Ideal) (factor (F := Ideal) i) x1 x3 x5 x7 o h) (dC (F := Ideal) x0 x9 o h)) (t0C (F := Ideal) x2 o h))
      (View.ld (Val := Elt Ideal) (e' := .f32) xo12 (Rect.unit (s := S8x5632) ![2, p] ![1, 256] (inb (by omega) (by omega)))) x = _ :=
    fun o p h hp x => acc_eq3 xo12 (fun u r Q => dcv D A W B Wd (b + r) Q * tap A (b + r) Q (2 - u)) 2 p (inb (by omega) (by omega)) _
      (fun j => congrArg₂ (· * ·) (hp ▸ dvT1 t o h j) (hp ▸ t0C2 t o h j)) x
  have kg0_0 := kg0_ 0 (by decide)
  have kv0_0 := kv0_ 0 2816 (by decide) rfl
  have kg1_0 := kg1_ 0 (by decide)
  have kv1_0 := kv1_ 0 2816 (by decide) rfl
  have kg2_0 := kg2_ 0 (by decide)
  have kv2_0 := kv2_ 0 2816 (by decide) rfl
  have kg0_256 := kg0_ 256 (by decide)
  have kv0_256 := kv0_ 256 3072 (by decide) rfl
  have kg1_256 := kg1_ 256 (by decide)
  have kv1_256 := kv1_ 256 3072 (by decide) rfl
  have kg2_256 := kg2_ 256 (by decide)
  have kv2_256 := kv2_ 256 3072 (by decide) rfl
  have kg0_512 := kg0_ 512 (by decide)
  have kv0_512 := kv0_ 512 3328 (by decide) rfl
  have kg1_512 := kg1_ 512 (by decide)
  have kv1_512 := kv1_ 512 3328 (by decide) rfl
  have kg2_512 := kg2_ 512 (by decide)
  have kv2_512 := kv2_ 512 3328 (by decide) rfl
  have kg0_768 := kg0_ 768 (by decide)
  have kv0_768 := kv0_ 768 3584 (by decide) rfl
  have kg1_768 := kg1_ 768 (by decide)
  have kv1_768 := kv1_ 768 3584 (by decide) rfl
  have kg2_768 := kg2_ 768 (by decide)
  have kv2_768 := kv2_ 768 3584 (by decide) rfl
  have kg0_1024 := kg0_ 1024 (by decide)
  have kv0_1024 := kv0_ 1024 3840 (by decide) rfl
  have kg1_1024 := kg1_ 1024 (by decide)
  have kv1_1024 := kv1_ 1024 3840 (by decide) rfl
  have kg2_1024 := kg2_ 1024 (by decide)
  have kv2_1024 := kv2_ 1024 3840 (by decide) rfl
  have kg0_1280 := kg0_ 1280 (by decide)
  have kv0_1280 := kv0_ 1280 4096 (by decide) rfl
  have kg1_1280 := kg1_ 1280 (by decide)
  have kv1_1280 := kv1_ 1280 4096 (by decide) rfl
  have kg2_1280 := kg2_ 1280 (by decide)
  have kv2_1280 := kv2_ 1280 4096 (by decide) rfl
  have kg0_1536 := kg0_ 1536 (by decide)
  have kv0_1536 := kv0_ 1536 4352 (by decide) rfl
  have kg1_1536 := kg1_ 1536 (by decide)
  have kv1_1536 := kv1_ 1536 4352 (by decide) rfl
  have kg2_1536 := kg2_ 1536 (by decide)
  have kv2_1536 := kv2_ 1536 4352 (by decide) rfl
  have kg0_1792 := kg0_ 1792 (by decide)
  have kv0_1792 := kv0_ 1792 4608 (by decide) rfl
  have kg1_1792 := kg1_ 1792 (by decide)
  have kv1_1792 := kv1_ 1792 4608 (by decide) rfl
  have kg2_1792 := kg2_ 1792 (by decide)
  have kv2_1792 := kv2_ 1792 4608 (by decide) rfl
  have kg0_2048 := kg0_ 2048 (by decide)
  have kv0_2048 := kv0_ 2048 4864 (by decide) rfl
  have kg1_2048 := kg1_ 2048 (by decide)
  have kv1_2048 := kv1_ 2048 4864 (by decide) rfl
  have kg2_2048 := kg2_ 2048 (by decide)
  have kv2_2048 := kv2_ 2048 4864 (by decide) rfl
  have kg0_2304 := kg0_ 2304 (by decide)
  have kv0_2304 := kv0_ 2304 5120 (by decide) rfl
  have kg1_2304 := kg1_ 2304 (by decide)
  have kv1_2304 := kv1_ 2304 5120 (by decide) rfl
  have kg2_2304 := kg2_ 2304 (by decide)
  have kv2_2304 := kv2_ 2304 5120 (by decide) rfl
  have kg0_2560 := kg0_ 2560 (by decide)
  have kv0_2560 := kv0_ 2560 5376 (by decide) rfl
  have kg1_2560 := kg1_ 2560 (by decide)
  have kv1_2560 := kv1_ 2560 5376 (by decide) rfl
  have kg2_2560 := kg2_ 2560 (by decide)
  have kv2_2560 := kv2_ 2560 5376 (by decide) rfl
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz]
  refine (read_rows (n := 8) a13.view _ 3 (.inr rfl) _ (fun y => xo12 y + ∑ r : Fin 256, dcv D A W B Wd (b + r.val) (y 1).val * tap A (b + r.val) (y 1).val (2 - (y 0).val)) ?_ rfl y).trans ?_
  · simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
    · exact kv2_2560
    · exact kv1_2560
    · exact kv0_2560
    · exact kg2_2560
    · exact kg1_2560
    · exact kg0_2560
    · exact kv2_2304
    · exact kv1_2304
    · exact kv0_2304
    · exact kg2_2304
    · exact kg1_2304
    · exact kg0_2304
    · exact kv2_2048
    · exact kv1_2048
    · exact kv0_2048
    · exact kg2_2048
    · exact kg1_2048
    · exact kg0_2048
    · exact kv2_1792
    · exact kv1_1792
    · exact kv0_1792
    · exact kg2_1792
    · exact kg1_1792
    · exact kg0_1792
    · exact kv2_1536
    · exact kv1_1536
    · exact kv0_1536
    · exact kg2_1536
    · exact kg1_1536
    · exact kg0_1536
    · exact kv2_1280
    · exact kv1_1280
    · exact kv0_1280
    · exact kg2_1280
    · exact kg1_1280
    · exact kg0_1280
    · exact kv2_1024
    · exact kv1_1024
    · exact kv0_1024
    · exact kg2_1024
    · exact kg1_1024
    · exact kg0_1024
    · exact kv2_768
    · exact kv1_768
    · exact kv0_768
    · exact kg2_768
    · exact kg1_768
    · exact kg0_768
    · exact kv2_512
    · exact kv1_512
    · exact kv0_512
    · exact kg2_512
    · exact kg1_512
    · exact kg0_512
    · exact kv2_256
    · exact kv1_256
    · exact kv0_256
    · exact kg2_256
    · exact kg1_256
    · exact kg0_256
    · exact kv2_0
    · exact kv1_0
    · exact kv0_0
    · exact kg2_0
    · exact kg1_0
    · exact kg0_0
  · unfold dwt
    by_cases h : (y 0).val < 3
    · rw [if_pos h, if_pos h]
    · rw [if_neg h, if_neg h, h13.read_unread, add_zero]

end Cert.Gate
-- ==== Proof.Ffn.Gate.lean ====
/- The backward pass of the gate: what the kernel's four result arrays hold after the run, element by element. -/
module

public import proofs.«01_k».proof.Proof.Ffn.GateOut
public import proofs.«01_k».proof.Proof.Ffn.GateSums
public import proofs.«01_k».proof.Proof.Ffn.GateWeightA
public import proofs.«01_k».proof.Proof.Ffn.GateWeightB

@[expose] public section

namespace Cert.Gate

open Idealize.ShloMosaic Idealize.ShloMosaic.TcCoe Idealize.SL.Sem
open Cert.KernelIdeal Cert.KernelIdeal.Gen Cert.Common Cert.Shift

variable (m : (ℓ : Loc nD τ sig) → Buf (Elt Ideal) ℓ)

/-- The gradient at the output of the down projection. -/
abbrev gD (c : Dev nD) : S8192x1024.Idx → EReal := m ((c : Thread nD τ).loc main_arg0)
/-- The convolution's input. -/
abbrev gA (c : Dev nD) : S8192x5632.Idx → EReal := m ((c : Thread nD τ).loc main_arg1)
/-- The convolution's weight. -/
abbrev gW (c : Dev nD) : S3x5632.Idx → EReal := m ((c : Thread nD τ).loc main_arg2)
/-- The convolution's bias. -/
abbrev gB (c : Dev nD) : S1x5632.Idx → EReal := m ((c : Thread nD τ).loc main_arg3)
/-- The down projection's weight. -/
abbrev gE (c : Dev nD) : S2816x1024.Idx → EReal := m ((c : Thread nD τ).loc main_arg4)

/-- Which blocks of the arrays a grid point reads and writes. -/
theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 1)
    ∧ (win0_3.index t 0 = 32 * t.val - 1 ∧ win0_3.index t 1 = 0)
    ∧ (win0_4.index t 0 = 32 * t.val - 1 ∧ win0_4.index t 1 = 1)
    ∧ (win0_5.index t 0 = 0 ∧ win0_5.index t 1 = 0)
    ∧ (win0_6.index t 0 = 0 ∧ win0_6.index t 1 = 1)
    ∧ (win0_7.index t 0 = 0 ∧ win0_7.index t 1 = 0)
    ∧ (win0_8.index t 0 = 0 ∧ win0_8.index t 1 = 1)
    ∧ (win0_9.index t 0 = 0 ∧ win0_9.index t 1 = 0)
    ∧ (win0_10.index t 0 = t.val ∧ win0_10.index t 1 = 0)
    ∧ (win0_11.index t 0 = t.val ∧ win0_11.index t 1 = 0)
    ∧ (win0_12.index t 0 = 0 ∧ win0_12.index t 1 = 0)
    ∧ (win0_13.index t 0 = 0 ∧ win0_13.index t 1 = 0)
    ∧ (grid0.coords t 0).val = t.val :=
  (by decide +kernel : ∀ t : Fin grid0.N, _)

/-- The rows of the output's gradient that point `t` reads. -/
theorem iblk0 (c : Dev nD) (t : Fin cfg0.N) (j : S256x1024.Idx) : (iblk m c 0 t : Vec Ideal S256x1024 .f32) j = at2 (gD m c) (256 * t.val + (j 0).val) ((j 1).val) := by
  obtain ⟨⟨e0, e1⟩, -, -, -, -, -, -, -, -, -, -, -, -, -, -⟩ := idx t
  unfold iblk
  rw [View.read_apply]
  refine at2_of_val (gD m c) _ _ _ ?_ ?_
  · show win0_0.index t 0 * 256 + 1 * (j 0).val = _; rw [e0]; omega
  · show win0_0.index t 1 * 1024 + 1 * (j 1).val = _; rw [e1]; omega

/-- The gate's half of the tile. -/
theorem iblk1 (c : Dev nD) (t : Fin cfg0.N) (j : S256x2816.Idx) : (iblk m c 1 t : Vec Ideal S256x2816 .bf16) j = at2 (gA m c) (256 * t.val + (j 0).val) (0 + (j 1).val) := by
  obtain ⟨-, ⟨e0, e1⟩, -, -, -, -, -, -, -, -, -, -, -, -, -⟩ := idx t
  unfold iblk
  rw [View.read_apply]
  refine at2_of_val (gA m c) _ _ _ ?_ ?_
  · show win0_1.index t 0 * 256 + 1 * (j 0).val = _; rw [e0]; omega
  · show win0_1.index t 1 * 2816 + 1 * (j 1).val = _; rw [e1]; omega

/-- The value's half of the tile. -/
theorem iblk2 (c : Dev nD) (t : Fin cfg0.N) (j : S256x2816.Idx) : (iblk m c 2 t : Vec Ideal S256x2816 .bf16) j = at2 (gA m c) (256 * t.val + (j 0).val) (2816 + (j 1).val) := by
  obtain ⟨-, -, ⟨e0, e1⟩, -, -, -, -, -, -, -, -, -, -, -, -⟩ := idx t
  unfold iblk
  rw [View.read_apply]
  refine at2_of_val (gA m c) _ _ _ ?_ ?_
  · show win0_2.index t 0 * 256 + 1 * (j 0).val = _; rw [e0]; omega
  · show win0_2.index t 1 * 2816 + 1 * (j 1).val = _; rw [e1]; omega

/-- The gate's half of the rows before the tile. -/
theorem iblk3 (c : Dev nD) (t : Fin cfg0.N) (j : S8x2816.Idx) : (iblk m c 3 t : Vec Ideal S8x2816 .bf16) j = at2 (gA m c) (8 * (32 * t.val - 1) + (j 0).val) (0 + (j 1).val) := by
  obtain ⟨-, -, -, ⟨e0, e1⟩, -, -, -, -, -, -, -, -, -, -, -⟩ := idx t
  unfold iblk
  rw [View.read_apply]
  refine at2_of_val (gA m c) _ _ _ ?_ ?_
  · show win0_3.index t 0 * 8 + 1 * (j 0).val = _; rw [e0]; omega
  · show win0_3.index t 1 * 2816 + 1 * (j 1).val = _; rw [e1]; omega

/-- The value's half of the rows before the tile. -/
theorem iblk4 (c : Dev nD) (t : Fin cfg0.N) (j : S8x2816.Idx) : (iblk m c 4 t : Vec Ideal S8x2816 .bf16) j = at2 (gA m c) (8 * (32 * t.val - 1) + (j 0).val) (2816 + (j 1).val) := by
  obtain ⟨-, -, -, -, ⟨e0, e1⟩, -, -, -, -, -, -, -, -, -, -⟩ := idx t
  unfold iblk
  rw [View.read_apply]
  refine at2_of_val (gA m c) _ _ _ ?_ ?_
  · show win0_4.index t 0 * 8 + 1 * (j 0).val = _; rw [e0]; omega
  · show win0_4.index t 1 * 2816 + 1 * (j 1).val = _; rw [e1]; omega

/-- The gate's half of the weight. -/
theorem iblk5 (c : Dev nD) (t : Fin cfg0.N) (j : S3x2816.Idx) : (iblk m c 5 t : Vec Ideal S3x2816 .f32) j = at2 (gW m c) ((j 0).val) (0 + (j 1).val) := by
  obtain ⟨-, -, -, -, -, ⟨e0, e1⟩, -, -, -, -, -, -, -, -, -⟩ := idx t
  unfold iblk
  rw [View.read_apply]
  refine at2_of_val (gW m c) _ _ _ ?_ ?_
  · show win0_5.index t 0 * 3 + 1 * (j 0).val = _; rw [e0]; omega
  · show win0_5.index t 1 * 2816 + 1 * (j 1).val = _; rw [e1]; omega

/-- The value's half of the weight. -/
theorem iblk6 (c : Dev nD) (t : Fin cfg0.N) (j : S3x2816.Idx) : (iblk m c 6 t : Vec Ideal S3x2816 .f32) j = at2 (gW m c) ((j 0).val) (2816 + (j 1).val) := by
  obtain ⟨-, -, -, -, -, -, ⟨e0, e1⟩, -, -, -, -, -, -, -, -⟩ := idx t
  unfold iblk
  rw [View.read_apply]
  refine at2_of_val (gW m c) _ _ _ ?_ ?_
  · show win0_6.index t 0 * 3 + 1 * (j 0).val = _; rw [e0]; omega
  · show win0_6.index t 1 * 2816 + 1 * (j 1).val = _; rw [e1]; omega

/-- The gate's half of the bias. -/
theorem iblk7 (c : Dev nD) (t : Fin cfg0.N) (j : S1x2816.Idx) : (iblk m c 7 t : Vec Ideal S1x2816 .f32) j = at2 (gB m c) ((j 0).val) (0 + (j 1).val) := by
  obtain ⟨-, -, -, -, -, -, -, ⟨e0, e1⟩, -, -, -, -, -, -, -⟩ := idx t
  unfold iblk
  rw [View.read_apply]
  refine at2_of_val (gB m c) _ _ _ ?_ ?_
  · show win0_7.index t 0 * 1 + 1 * (j 0).val = _; rw [e0]; omega
  · show win0_7.index t 1 * 2816 + 1 * (j 1).val = _; rw [e1]; omega

/-- The value's half of the bias. -/
theorem iblk8 (c : Dev nD) (t : Fin cfg0.N) (j : S1x2816.Idx) : (iblk m c 8 t : Vec Ideal S1x2816 .f32) j = at2 (gB m c) ((j 0).val) (2816 + (j 1).val) := by
  obtain ⟨-, -, -, -, -, -, -, -, ⟨e0, e1⟩, -, -, -, -, -, -⟩ := idx t
  unfold iblk
  rw [View.read_apply]
  refine at2_of_val (gB m c) _ _ _ ?_ ?_
  · show win0_8.index t 0 * 1 + 1 * (j 0).val = _; rw [e0]; omega
  · show win0_8.index t 1 * 2816 + 1 * (j 1).val = _; rw [e1]; omega

/-- Every point reads the whole weight of the down projection. -/
theorem iblk9 (c : Dev nD) (t : Fin cfg0.N) (j : S2816x1024.Idx) : (iblk m c 9 t : Vec Ideal S2816x1024 .bf16) j = at2 (gE m c) ((j 0).val) ((j 1).val) := by
  obtain ⟨-, -, -, -, -, -, -, -, -, ⟨e0, e1⟩, -, -, -, -, -⟩ := idx t
  unfold iblk
  rw [View.read_apply]
  refine at2_of_val (gE m c) _ _ _ ?_ ?_
  · show win0_9.index t 0 * 2816 + 1 * (j 0).val = _; rw [e0]; omega
  · show win0_9.index t 1 * 1024 + 1 * (j 1).val = _; rw [e1]; omega

/-- The factor of the previous tile's rows at point `t`. -/
theorem factor_eq (t : Fin cfg0.N) : factor (F := Ideal) (grid0.coords t) = if t.val = 0 then (0 : EReal) else 1 := by
  obtain ⟨-, -, -, -, -, -, -, -, -, -, -, -, -, -, e⟩ := idx t
  have hN : cfg0.N = 32 := N_0
  have ht : t.val < 32 := by have := t.isLt; omega
  unfold factor
  rw [e]
  generalize t.val = r at ht
  by_cases h : r = 0
  · subst h; exact Ideal.ofBits_zero_f32
  · rw [if_neg h]
    refine Eq.trans ?_ Ideal.ofBits_one_f32
    have : (Scalar.cmpi .eq (BitVec.ofNat 32 r) 0#32 : BitVec 1) = 0#1 := by
      interval_cases r <;> first | rfl | exact absurd rfl h
    rw [this]; rfl

/-- A row before the tile, times the factor: the array's row, or zero before the first row. -/
theorem halo (A : S8192x5632.Idx → EReal) (t : Fin cfg0.N) (r q : ℕ) (hr : r < 8) :
    at2 A (8 * (32 * t.val - 1) + r) q * factor (F := Ideal) (grid0.coords t)
      = if 8 ≤ 256 * t.val + r then at2 A (256 * t.val + r - 8) q else 0 := by
  rw [factor_eq]
  by_cases h : t.val = 0
  · rw [if_pos h, mul_zero, if_neg (by omega)]
  · rw [if_neg h, mul_one, if_pos (by omega)]
    exact congrArg (fun k => at2 A k q) (by omega)

/-- The blocks point `t` reads are cut out of the arrays at row `256 t`. -/
theorem tile (c : Dev nD) (t : Fin cfg0.N) : Tile (gD m c) (gA m c) (gW m c) (gB m c) (gE m c) (256 * t.val) (factor (F := Ideal) (grid0.coords t))
    (iblk m c 0 t) (iblk m c 1 t) (iblk m c 2 t) (iblk m c 3 t) (iblk m c 4 t) (iblk m c 5 t) (iblk m c 6 t) (iblk m c 7 t) (iblk m c 8 t) (iblk m c 9 t) where
  h0 := iblk0 m c t
  h1 := iblk1 m c t
  h2 := iblk2 m c t
  h3 := fun j => (congrArg (fun x : EReal => x * factor (F := Ideal) (grid0.coords t)) (iblk3 m c t j)).trans (halo _ t _ _ (j 0).isLt)
  h4 := fun j => (congrArg (fun x : EReal => x * factor (F := Ideal) (grid0.coords t)) (iblk4 m c t j)).trans (halo _ t _ _ (j 0).isLt)
  h5 := iblk5 m c t
  h6 := iblk6 m c t
  h7 := iblk7 m c t
  h8 := iblk8 m c t
  h9 := iblk9 m c t

/-- What every point leaves in the block of the gradient at the convolution's output. -/
theorem outs10 (c : Dev nD) (t : Fin cfg0.N) (j : S256x5632.Idx) : (outsAt0 m c t.val t.isLt).1 j = dcv (gD m c) (gA m c) (gW m c) (gB m c) (gE m c) (256 * t.val + (j 0).val) (j 1).val := by
  by_cases h : t.val % 32 = 0
  · rw [outsAt0_A m c t h]
    dsimp only
    exact out10_A _ _ _ _ _ _ _ _ _ _ _ _ _ _ _ _ _ _ _ _ _ _ _ _ _ _ _ _ _ _ _ _ _ _ _ _ _ _ _ _ _ _ _ _ _ _ _ (tile m c t) j
  · rw [outsAt0_B m c t h]
    dsimp only
    exact out10_B _ _ _ _ _ _ _ _ _ _ _ _ _ _ _ _ _ _ _ _ _ _ _ _ _ _ _ _ _ _ _ _ _ _ _ _ _ _ _ _ _ _ _ _ _ _ _ _ _ (tile m c t) j

/-- What every point leaves in the block of the gate's product. -/
theorem outs11 (c : Dev nD) (t : Fin cfg0.N) (j : S256x2816.Idx) : (outsAt0 m c t.val t.isLt).2.1 j = yv (gA m c) (gW m c) (gB m c) (256 * t.val + (j 0).val) (j 1).val := by
  by_cases h : t.val % 32 = 0
  · rw [outsAt0_A m c t h]
    dsimp only
    exact out11_A _ _ _ _ _ _ _ _ _ _ _ _ _ _ _ _ _ _ _ _ _ _ _ _ _ _ _ _ _ _ _ _ _ _ _ _ _ _ _ _ _ _ _ _ _ _ _ (tile m c t) j
  · rw [outsAt0_B m c t h]
    dsimp only
    exact out11_B _ _ _ _ _ _ _ _ _ _ _ _ _ _ _ _ _ _ _ _ _ _ _ _ _ _ _ _ _ _ _ _ _ _ _ _ _ _ _ _ _ _ _ _ _ _ _ _ _ (tile m c t) j

/-- What the block of the weight's gradient holds after point `n`: the sums over the rows of the tiles so far. -/
theorem outs12 (c : Dev nD) : ∀ (n : ℕ) (hn : n < cfg0.N) (j : S8x5632.Idx), (outsAt0 m c n hn).2.2.1 j = ∑ s ∈ Finset.range (n + 1), dwt (gD m c) (gA m c) (gW m c) (gB m c) (gE m c) (256 * s) (j 0).val (j 1).val
  | 0, hn, j => by
    rw [outsAt0_A m c ⟨0, hn⟩ rfl]
    dsimp only
    rw [Finset.sum_range_one]
    exact out12_A _ _ _ _ _ _ _ _ _ _ _ _ _ _ _ _ _ _ _ _ _ _ _ _ _ _ _ _ _ _ _ _ _ _ _ _ _ _ _ _ _ _ _ _ _ _ _ (tile m c ⟨0, hn⟩) j
  | n + 1, hn, j => by
    have hN : cfg0.N = 32 := N_0
    have hB : ¬(⟨n + 1, hn⟩ : Fin cfg0.N).val % 32 = 0 := by dsimp only; omega
    rw [outsAt0_B m c ⟨n + 1, hn⟩ hB]
    dsimp only
    refine (out12_B _ _ _ _ _ _ _ _ _ _ _ _ _ _ _ _ _ _ _ _ _ _ _ _ _ _ _ _ _ _ _ _ _ _ _ _ _ _ _ _ _ _ _ _ _ _ _ _ _ (tile m c ⟨n + 1, hn⟩) j).trans ?_
    rw [Finset.sum_range_succ _ (n + 1)]
    exact congrArg (· + _) (outs12 c n _ j)

/-- What the block of the bias's gradient holds after point `n`: the sums over the rows of the tiles so far. -/
theorem outs13 (c : Dev nD) : ∀ (n : ℕ) (hn : n < cfg0.N) (j : S1x5632.Idx), (outsAt0 m c n hn).2.2.2 j = ∑ s ∈ Finset.range (n + 1), ∑ r : Fin 256, dcv (gD m c) (gA m c) (gW m c) (gB m c) (gE m c) (256 * s + r.val) (j 1).val
  | 0, hn, j => by
    rw [outsAt0_A m c ⟨0, hn⟩ rfl]
    dsimp only
    rw [Finset.sum_range_one]
    exact out13_A _ _ _ _ _ _ _ _ _ _ _ _ _ _ _ _ _ _ _ _ _ _ _ _ _ _ _ _ _ _ _ _ _ _ _ _ _ _ _ _ _ _ _ _ _ _ _ (tile m c ⟨0, hn⟩) j
  | n + 1, hn, j => by
    have hN : cfg0.N = 32 := N_0
    have hB : ¬(⟨n + 1, hn⟩ : Fin cfg0.N).val % 32 = 0 := by dsimp only; omega
    rw [outsAt0_B m c ⟨n + 1, hn⟩ hB]
    dsimp only
    refine (out13_B _ _ _ _ _ _ _ _ _ _ _ _ _ _ _ _ _ _ _ _ _ _ _ _ _ _ _ _ _ _ _ _ _ _ _ _ _ _ _ _ _ _ _ _ _ _ _ _ _ (tile m c ⟨n + 1, hn⟩) j).trans ?_
    rw [Finset.sum_range_succ _ (n + 1)]
    exact congrArg (· + _) (outs13 c n _ j)

/-- The weight's gradient in row `u` and column `Q`: over all rows, the gradient at the convolution's output times the input as many rows
    further up as the tap looks back; nothing in the rows past the third. -/
noncomputable def dw (D : S8192x1024.Idx → EReal) (A : S8192x5632.Idx → EReal) (W : S3x5632.Idx → EReal) (B : S1x5632.Idx → EReal) (Wd : S2816x1024.Idx → EReal)
    (u Q : ℕ) : EReal :=
  if u < 3 then ∑ R : Fin 8192, dcv D A W B Wd R.val Q * tap A R.val Q (2 - u) else 0

/-- The bias's gradient in column `Q`: over all rows, the gradient at the convolution's output. -/
noncomputable def db (D : S8192x1024.Idx → EReal) (A : S8192x5632.Idx → EReal) (W : S3x5632.Idx → EReal) (B : S1x5632.Idx → EReal) (Wd : S2816x1024.Idx → EReal)
    (Q : ℕ) : EReal :=
  ∑ R : Fin 8192, dcv D A W B Wd R.val Q

/-- The tiles' parts of the weight's gradient add up to it. -/
theorem dw_tiles (D : S8192x1024.Idx → EReal) (A : S8192x5632.Idx → EReal) (W : S3x5632.Idx → EReal) (B : S1x5632.Idx → EReal) (Wd : S2816x1024.Idx → EReal)
    (u Q : ℕ) : ∑ s ∈ Finset.range 32, dwt D A W B Wd (256 * s) u Q = dw D A W B Wd u Q := by
  unfold dwt dw
  by_cases h : u < 3
  · simp only [if_pos h]
    exact sum_tiles 32 256 (fun R => dcv D A W B Wd R Q * tap A R Q (2 - u))
  · simp only [if_neg h, Finset.sum_const_zero]

/-- The gradient at the convolution's output that the call leaves. -/
noncomputable def whole10 (c : Dev nD) : Buf (Elt Ideal) ((c : Thread nD τ).loc main_v0_0) :=
  fun (i : S8192x5632.Idx) => (dcv (gD m c) (gA m c) (gW m c) (gB m c) (gE m c) (i 0).val (i 1).val : EReal)

/-- That array at an element. -/
theorem whole10_apply (c : Dev nD) (i : S8192x5632.Idx) (p k : ℕ) (h0 : (i 0).val = p) (h : (i 1).val = k) : whole10 m c i = dcv (gD m c) (gA m c) (gW m c) (gB m c) (gE m c) p k := by
  subst h0 h
  rfl

/-- The gate's product that the call leaves. -/
noncomputable def whole11 (c : Dev nD) : Buf (Elt Ideal) ((c : Thread nD τ).loc main_v0_1) :=
  fun (i : S8192x2816.Idx) => (yv (gA m c) (gW m c) (gB m c) (i 0).val (i 1).val : EReal)

/-- That array at an element. -/
theorem whole11_apply (c : Dev nD) (i : S8192x2816.Idx) (p k : ℕ) (h0 : (i 0).val = p) (h : (i 1).val = k) : whole11 m c i = yv (gA m c) (gW m c) (gB m c) p k := by
  subst h0 h
  rfl

/-- The weight's gradient that the call leaves, padded to eight rows. -/
noncomputable def whole12 (c : Dev nD) : Buf (Elt Ideal) ((c : Thread nD τ).loc main_v0_2) :=
  fun (i : S8x5632.Idx) => (dw (gD m c) (gA m c) (gW m c) (gB m c) (gE m c) (i 0).val (i 1).val : EReal)

/-- That array at an element. -/
theorem whole12_apply (c : Dev nD) (i : S8x5632.Idx) (p k : ℕ) (h0 : (i 0).val = p) (h : (i 1).val = k) : whole12 m c i = dw (gD m c) (gA m c) (gW m c) (gB m c) (gE m c) p k := by
  subst h0 h
  rfl

/-- The bias's gradient that the call leaves. -/
noncomputable def whole13 (c : Dev nD) : Buf (Elt Ideal) ((c : Thread nD τ).loc main_v0_3) :=
  fun (i : S1x5632.Idx) => (db (gD m c) (gA m c) (gW m c) (gB m c) (gE m c) (i 1).val : EReal)

/-- That array at an element. -/
theorem whole13_apply (c : Dev nD) (i : S1x5632.Idx) (p k : ℕ) (h0 : (i 0).val = p) (h : (i 1).val = k) : whole13 m c i = db (gD m c) (gA m c) (gW m c) (gB m c) (gE m c) k := by
  subst h0 h
  rfl

theorem flushed_eq10 (c : Dev nD) (t : Fin cfg0.N) :
    (dats m 0 c).flushed 10 t = ((cfg0.win 10).blk t).view.read (Elt Ideal) (whole10 m c) := by
  obtain ⟨-, -, -, -, -, -, -, -, -, -, ⟨e0, e1⟩, -, -, -, -⟩ := idx t
  rw [Value.flushed10]
  funext (y : S256x5632.Idx)
  refine (outs10 m c t y).trans ?_
  rw [View.read_apply, cast_eq]
  refine (whole10_apply m c _ _ _ ?_ ?_).symm
  · show win0_10.index t 0 * 256 + 1 * (y 0).val = _; rw [e0]; omega
  · show win0_10.index t 1 * 5632 + 1 * (y 1).val = _; rw [e1]; omega

theorem flushed_eq11 (c : Dev nD) (t : Fin cfg0.N) :
    (dats m 0 c).flushed 11 t = ((cfg0.win 11).blk t).view.read (Elt Ideal) (whole11 m c) := by
  obtain ⟨-, -, -, -, -, -, -, -, -, -, -, ⟨e0, e1⟩, -, -, -⟩ := idx t
  rw [Value.flushed11]
  funext (y : S256x2816.Idx)
  refine (outs11 m c t y).trans ?_
  rw [View.read_apply, cast_eq]
  refine (whole11_apply m c _ _ _ ?_ ?_).symm
  · show win0_11.index t 0 * 256 + 1 * (y 0).val = _; rw [e0]; omega
  · show win0_11.index t 1 * 2816 + 1 * (y 1).val = _; rw [e1]; omega

theorem flushed_eq12 (c : Dev nD) (t : Fin cfg0.N) (hf : (cfg0.win 12).flush t = true) :
    (dats m 0 c).flushed 12 t = ((cfg0.win 12).blk t).view.read (Elt Ideal) (whole12 m c) := by
  obtain ⟨-, -, -, -, -, -, -, -, -, -, -, -, ⟨e0, e1⟩, -, -⟩ := idx t
  have hN : cfg0.N = 32 := N_0
  have h31 : t.val = 31 := by have := (flush0_12 t).mp hf; have := t.isLt; omega
  rw [Value.flushed12]
  funext (y : S8x5632.Idx)
  have hv : ((cfg0.win 12).blk t).view.read (Elt Ideal) (whole12 m c) y = dw (gD m c) (gA m c) (gW m c) (gB m c) (gE m c) (y 0).val (y 1).val := by
    rw [View.read_apply, cast_eq]
    refine whole12_apply m c _ _ _ ?_ ?_
    · show win0_12.index t 0 * 8 + 1 * (y 0).val = _; rw [e0]; omega
    · show win0_12.index t 1 * 5632 + 1 * (y 1).val = _; rw [e1]; omega
  rw [hv]
  refine (outs12 m c t.val t.isLt y).trans ?_
  rw [h31]
  exact dw_tiles _ _ _ _ _ _ _

theorem flushed_eq13 (c : Dev nD) (t : Fin cfg0.N) (hf : (cfg0.win 13).flush t = true) :
    (dats m 0 c).flushed 13 t = ((cfg0.win 13).blk t).view.read (Elt Ideal) (whole13 m c) := by
  obtain ⟨-, -, -, -, -, -, -, -, -, -, -, -, -, ⟨e0, e1⟩, -⟩ := idx t
  have hN : cfg0.N = 32 := N_0
  have h31 : t.val = 31 := by have := (flush0_13 t).mp hf; have := t.isLt; omega
  rw [Value.flushed13]
  funext (y : S1x5632.Idx)
  have hv : ((cfg0.win 13).blk t).view.read (Elt Ideal) (whole13 m c) y = db (gD m c) (gA m c) (gW m c) (gB m c) (gE m c) (y 1).val := by
    rw [View.read_apply, cast_eq]
    refine whole13_apply m c _ _ _ rfl ?_
    · show win0_13.index t 1 * 5632 + 1 * (y 1).val = _; rw [e1]; omega
  rw [hv]
  refine (outs13 m c t.val t.isLt y).trans ?_
  rw [h31]
  unfold db
  exact sum_tiles 32 256 (fun R => dcv (gD m c) (gA m c) (gW m c) (gB m c) (gE m c) R (y 1).val)

theorem cover10 (i : S8192x5632.Idx) : ∃ t : Fin cfg0.N, (cfg0.win 10).flush t = true ∧ i ∈ ((cfg0.win 10).blk t).view.set := by
  have h0 : (i 0).val < 8192 := (i 0).isLt
  have h1 : (i 1).val < 5632 := (i 1).isLt
  have hN : cfg0.N = 32 := N_0
  refine ⟨⟨(i 0).val / 256, by omega⟩, flush0_10 _, ?_⟩
  generalize ht : (⟨(i 0).val / 256, _⟩ : Fin cfg0.N) = t
  have ht' : t.val = (i 0).val / 256 := by rw [← ht]
  obtain ⟨-, -, -, -, -, -, -, -, -, -, ⟨e0, e1⟩, -, -, -, -⟩ := idx t
  show i ∈ ((View.whole main_v0_0).slice (win0_10.rect t)).set
  rw [View.set_slice_whole, Rect.mem_set_unit]
  intro a
  match a with
  | ⟨0, _⟩ => exact ⟨by show win0_10.index t 0 * 256 ≤ (i 0).val; rw [e0]; omega, by show (i 0).val < win0_10.index t 0 * 256 + 256; rw [e0]; omega⟩
  | ⟨1, _⟩ => exact ⟨by show win0_10.index t 1 * 5632 ≤ (i 1).val; rw [e1]; omega, by show (i 1).val < win0_10.index t 1 * 5632 + 5632; rw [e1]; omega⟩

theorem cover11 (i : S8192x2816.Idx) : ∃ t : Fin cfg0.N, (cfg0.win 11).flush t = true ∧ i ∈ ((cfg0.win 11).blk t).view.set := by
  have h0 : (i 0).val < 8192 := (i 0).isLt
  have h1 : (i 1).val < 2816 := (i 1).isLt
  have hN : cfg0.N = 32 := N_0
  refine ⟨⟨(i 0).val / 256, by omega⟩, flush0_11 _, ?_⟩
  generalize ht : (⟨(i 0).val / 256, _⟩ : Fin cfg0.N) = t
  have ht' : t.val = (i 0).val / 256 := by rw [← ht]
  obtain ⟨-, -, -, -, -, -, -, -, -, -, -, ⟨e0, e1⟩, -, -, -⟩ := idx t
  show i ∈ ((View.whole main_v0_1).slice (win0_11.rect t)).set
  rw [View.set_slice_whole, Rect.mem_set_unit]
  intro a
  match a with
  | ⟨0, _⟩ => exact ⟨by show win0_11.index t 0 * 256 ≤ (i 0).val; rw [e0]; omega, by show (i 0).val < win0_11.index t 0 * 256 + 256; rw [e0]; omega⟩
  | ⟨1, _⟩ => exact ⟨by show win0_11.index t 1 * 2816 ≤ (i 1).val; rw [e1]; omega, by show (i 1).val < win0_11.index t 1 * 2816 + 2816; rw [e1]; omega⟩

theorem cover12 (i : S8x5632.Idx) : ∃ t : Fin cfg0.N, (cfg0.win 12).flush t = true ∧ i ∈ ((cfg0.win 12).blk t).view.set := by
  have h0 : (i 0).val < 8 := (i 0).isLt
  have h1 : (i 1).val < 5632 := (i 1).isLt
  have hN : cfg0.N = 32 := N_0
  refine ⟨⟨31, by omega⟩, (flush0_12 _).mpr rfl, ?_⟩
  generalize ht : (⟨31, _⟩ : Fin cfg0.N) = t
  have ht' : t.val = 31 := by rw [← ht]
  obtain ⟨-, -, -, -, -, -, -, -, -, -, -, -, ⟨e0, e1⟩, -, -⟩ := idx t
  show i ∈ ((View.whole main_v0_2).slice (win0_12.rect t)).set
  rw [View.set_slice_whole, Rect.mem_set_unit]
  intro a
  match a with
  | ⟨0, _⟩ => exact ⟨by show win0_12.index t 0 * 8 ≤ (i 0).val; rw [e0]; omega, by show (i 0).val < win0_12.index t 0 * 8 + 8; rw [e0]; omega⟩
  | ⟨1, _⟩ => exact ⟨by show win0_12.index t 1 * 5632 ≤ (i 1).val; rw [e1]; omega, by show (i 1).val < win0_12.index t 1 * 5632 + 5632; rw [e1]; omega⟩

theorem cover13 (i : S1x5632.Idx) : ∃ t : Fin cfg0.N, (cfg0.win 13).flush t = true ∧ i ∈ ((cfg0.win 13).blk t).view.set := by
  have h0 : (i 0).val < 1 := (i 0).isLt
  have h1 : (i 1).val < 5632 := (i 1).isLt
  have hN : cfg0.N = 32 := N_0
  refine ⟨⟨31, by omega⟩, (flush0_13 _).mpr rfl, ?_⟩
  generalize ht : (⟨31, _⟩ : Fin cfg0.N) = t
  have ht' : t.val = 31 := by rw [← ht]
  obtain ⟨-, -, -, -, -, -, -, -, -, -, -, -, -, ⟨e0, e1⟩, -⟩ := idx t
  show i ∈ ((View.whole main_v0_3).slice (win0_13.rect t)).set
  rw [View.set_slice_whole, Rect.mem_set_unit]
  intro a
  match a with
  | ⟨0, _⟩ => exact ⟨by show win0_13.index t 0 * 1 ≤ (i 0).val; rw [e0]; omega, by show (i 0).val < win0_13.index t 0 * 1 + 1; rw [e0]; omega⟩
  | ⟨1, _⟩ => exact ⟨by show win0_13.index t 1 * 5632 ≤ (i 1).val; rw [e1]; omega, by show (i 1).val < win0_13.index t 1 * 5632 + 5632; rw [e1]; omega⟩

/-- That result's array after the run. -/
theorem result10 (c : Dev nD) : (dats m 0 c).arrAt 10 cfg0.N = whole10 m c :=
  (dats m 0 c).arrAt_eq_of_cover 10 (whole10 m c) (fun t _ => flushed_eq10 m c t) cover10

/-- That result's array after the run. -/
theorem result11 (c : Dev nD) : (dats m 0 c).arrAt 11 cfg0.N = whole11 m c :=
  (dats m 0 c).arrAt_eq_of_cover 11 (whole11 m c) (fun t _ => flushed_eq11 m c t) cover11

/-- That result's array after the run. -/
theorem result12 (c : Dev nD) : (dats m 0 c).arrAt 12 cfg0.N = whole12 m c :=
  (dats m 0 c).arrAt_eq_of_cover 12 (whole12 m c) (flushed_eq12 m c) cover12

/-- That result's array after the run. -/
theorem result13 (c : Dev nD) : (dats m 0 c).arrAt 13 cfg0.N = whole13 m c :=
  (dats m 0 c).arrAt_eq_of_cover 13 (whole13 m c) (flushed_eq13 m c) cover13

end Cert.Gate
-- ==== Proof.Ffn.UpBwd.lean ====
/- The backward pass of the up projection and of the norm before it: what the kernel's arrays hold after the run, and what
   the reference computes. The gain's gradient is one sum over the rows; the input's gradient is compared over the reals. -/
module

public import proofs.«01_k».proof.Proof.Ffn.Common
public import proofs.«01_k».proof.Proof.Gen.Kernel3Ideal.Value
public import proofs.«01_k».proof.Proof.Gen.Reference3Ideal.Read
public import Idealize.ShloMosaic.Lib.Pointwise

@[expose] public section

namespace Cert.UpBwd

open Idealize.ShloMosaic Idealize.ShloMosaic.TcCoe Idealize.SL.Sem
open Cert.Kernel3Ideal Cert.Kernel3Ideal.Gen Cert.Common

theorem hz : (![0, 0] : Fin 2 → Nat) = fun _ => 0 := funext fun a => by fin_cases a <;> rfl

/-- The gradient at the norm's output, for a tile of rows. -/
noncomputable def dhT {F : FTy → Type} [FloatOps F] (x0 : Vec F S512x5632 .bf16) (x1 : Vec F S4x1024x1408 .bf16) : FVec F S512x1024 .f32 :=
  k0_pay6 (View.ld (Val := Elt F) x0 (Rect.unit (s := S512x5632) ![0, 0] S512x1408.size inb_S512x5632_S512x1408_0_0)) (View.ld (Val := Elt F) x1 (Rect.unit (s := S4x1024x1408) ![0, 0, 0] S1x1024x1408.size inb_S4x1024x1408_S1x1024x1408_0_0_0))
    (View.ld (Val := Elt F) x0 (Rect.unit (s := S512x5632) ![0, 1408] S512x1408.size inb_S512x5632_S512x1408_0_1408)) (View.ld (Val := Elt F) x1 (Rect.unit (s := S4x1024x1408) ![1, 0, 0] S1x1024x1408.size inb_S4x1024x1408_S1x1024x1408_1_0_0))
    (View.ld (Val := Elt F) x0 (Rect.unit (s := S512x5632) ![0, 2816] S512x1408.size inb_S512x5632_S512x1408_0_2816)) (View.ld (Val := Elt F) x1 (Rect.unit (s := S4x1024x1408) ![2, 0, 0] S1x1024x1408.size inb_S4x1024x1408_S1x1024x1408_2_0_0))
    (View.ld (Val := Elt F) x0 (Rect.unit (s := S512x5632) ![0, 4224] S512x1408.size inb_S512x5632_S512x1408_0_4224)) (View.ld (Val := Elt F) x1 (Rect.unit (s := S4x1024x1408) ![3, 0, 0] S1x1024x1408.size inb_S4x1024x1408_S1x1024x1408_3_0_0))

section Cases
variable {F : FTy → Type} [FloatOps F]

/-- A later point leaves in the input gradient's block what the body computes from the blocks read. -/
theorem out5_B (c : Dev nD) (i : grid0.Coords) (a1 : Memref sig .tc .vmem S512x5632 .bf16) (h1 : a1.IsWhole) (a2 : Memref sig .tc .vmem S4x1024x1408 .bf16) (h2 : a2.IsWhole)
    (a3 : Memref sig .tc .vmem S512x1024 .f32) (h3 : a3.IsWhole) (a4 : Memref sig .tc .vmem S1x1024 .f32) (h4 : a4.IsWhole) (a5 : Memref sig .tc .vmem S512x1024 .f32) (h5 : a5.IsWhole)
    (a6 : Memref sig .tc .vmem S512x1024 .f32) (h6 : a6.IsWhole) (a7 : Memref sig .tc .vmem S1x1024 .f32) (h7 : a7.IsWhole) (hc : ¬cond0_0 i)
    (x0 : Vec F S512x5632 .bf16) (x1 : Vec F S4x1024x1408 .bf16) (x2 : Vec F S512x1024 .f32) (x3 : Vec F S1x1024 .f32) (x4 : Vec F S512x1024 .f32) (xo : Vec F S1x1024 .f32) :
    out0_B_5 c i a1 h1 a2 h2 a3 h3 a4 h4 a5 h5 a6 h6 a7 h7 hc x0 x1 x2 x3 x4 xo = k0_pay4 (dhT x0 x1) x2 x3 (k0_pay7 x2) x4 := by
  unfold out0_B_5
  rw [View.read_writes_eq_canon _ _ _ (cover0_B_5 c i a1 h1 a2 h2 a3 h3 a4 h4 a5 h5 a6 h6 a7 h7 hc x0 x1 x2 x3 x4 xo)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S512x1024) hz, View.ld_unit_zero (S := S1x1024) hz]
  rfl

/-- The first point leaves the same in the input gradient's block. -/
theorem out5_A (c : Dev nD) (i : grid0.Coords) (a1 : Memref sig .tc .vmem S512x5632 .bf16) (h1 : a1.IsWhole) (a2 : Memref sig .tc .vmem S4x1024x1408 .bf16) (h2 : a2.IsWhole)
    (a3 : Memref sig .tc .vmem S512x1024 .f32) (h3 : a3.IsWhole) (a4 : Memref sig .tc .vmem S1x1024 .f32) (h4 : a4.IsWhole) (a5 : Memref sig .tc .vmem S512x1024 .f32) (h5 : a5.IsWhole)
    (a6 : Memref sig .tc .vmem S512x1024 .f32) (h6 : a6.IsWhole) (a7 : Memref sig .tc .vmem S1x1024 .f32) (h7 : a7.IsWhole) (hc : cond0_0 i)
    (x0 : Vec F S512x5632 .bf16) (x1 : Vec F S4x1024x1408 .bf16) (x2 : Vec F S512x1024 .f32) (x3 : Vec F S1x1024 .f32) (x4 : Vec F S512x1024 .f32) :
    out0_A_5 c i a1 h1 a2 h2 a3 h3 a4 h4 a5 h5 a6 h6 a7 h7 hc x0 x1 x2 x3 x4 = k0_pay4 (dhT x0 x1) x2 x3 (k0_pay7 x2) x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h7.read_unread,
    View.ld_unit_zero (S := S512x1024) hz, View.ld_unit_zero (S := S1x1024) hz]
  rfl

/-- A later point adds its tile's part of the gain's gradient to what the point before left. -/
theorem out6_B (c : Dev nD) (i : grid0.Coords) (a1 : Memref sig .tc .vmem S512x5632 .bf16) (h1 : a1.IsWhole) (a2 : Memref sig .tc .vmem S4x1024x1408 .bf16) (h2 : a2.IsWhole)
    (a3 : Memref sig .tc .vmem S512x1024 .f32) (h3 : a3.IsWhole) (a4 : Memref sig .tc .vmem S1x1024 .f32) (h4 : a4.IsWhole) (a5 : Memref sig .tc .vmem S512x1024 .f32) (h5 : a5.IsWhole)
    (a6 : Memref sig .tc .vmem S512x1024 .f32) (h6 : a6.IsWhole) (a7 : Memref sig .tc .vmem S1x1024 .f32) (h7 : a7.IsWhole) (hc : ¬cond0_0 i)
    (x0 : Vec F S512x5632 .bf16) (x1 : Vec F S4x1024x1408 .bf16) (x2 : Vec F S512x1024 .f32) (x3 : Vec F S1x1024 .f32) (x4 : Vec F S512x1024 .f32) (xo : Vec F S1x1024 .f32) :
    out0_B_6 c i a1 h1 a2 h2 a3 h3 a4 h4 a5 h5 a6 h6 a7 h7 hc x0 x1 x2 x3 x4 xo = k0_pay3 (dhT x0 x1) x2 (k0_pay7 x2) xo := by
  unfold out0_B_6
  rw [View.read_writes_eq_canon _ _ _ (cover0_B_6 c i a1 h1 a2 h2 a3 h3 a4 h4 a5 h5 a6 h6 a7 h7 hc x0 x1 x2 x3 x4 xo)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S512x1024) hz, View.ld_unit_zero (S := S1x1024) hz]
  rfl

/-- The first point adds its tile's part of the gain's gradient to zero. -/
theorem out6_A (c : Dev nD) (i : grid0.Coords) (a1 : Memref sig .tc .vmem S512x5632 .bf16) (h1 : a1.IsWhole) (a2 : Memref sig .tc .vmem S4x1024x1408 .bf16) (h2 : a2.IsWhole)
    (a3 : Memref sig .tc .vmem S512x1024 .f32) (h3 : a3.IsWhole) (a4 : Memref sig .tc .vmem S1x1024 .f32) (h4 : a4.IsWhole) (a5 : Memref sig .tc .vmem S512x1024 .f32) (h5 : a5.IsWhole)
    (a6 : Memref sig .tc .vmem S512x1024 .f32) (h6 : a6.IsWhole) (a7 : Memref sig .tc .vmem S1x1024 .f32) (h7 : a7.IsWhole) (hc : cond0_0 i)
    (x0 : Vec F S512x5632 .bf16) (x1 : Vec F S4x1024x1408 .bf16) (x2 : Vec F S512x1024 .f32) (x3 : Vec F S1x1024 .f32) (x4 : Vec F S512x1024 .f32) :
    out0_A_6 c i a1 h1 a2 h2 a3 h3 a4 h4 a5 h5 a6 h6 a7 h7 hc x0 x1 x2 x3 x4 = k0_pay3 (dhT x0 x1) x2 (k0_pay7 x2) k0_pay5 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h7.read_unread,
    View.ld_unit_zero (S := S512x1024) hz, View.ld_unit_zero (S := S1x1024) hz]
  rfl

end Cases

/-- The gradient at the norm's output in row `r` and column `k`: the four quarters of the sum over the hidden columns. -/
noncomputable def dh (D : S8192x5632.Idx → EReal) (W : S4x1024x1408.Idx → EReal) (r k : ℕ) : EReal :=
  ∑ x : Fin 1408, at2 D r x.val * at3 W 0 k x.val + ∑ x : Fin 1408, at2 D r (1408 + x.val) * at3 W 1 k x.val
    + ∑ x : Fin 1408, at2 D r (2816 + x.val) * at3 W 2 k x.val + ∑ x : Fin 1408, at2 D r (4224 + x.val) * at3 W 3 k x.val

/-- The mean of the squares of row `r`, plus the norm's small constant. -/
noncomputable def msq (X : S8192x1024.Idx → EReal) (r : ℕ) : EReal :=
  Ideal.div (∑ x : Fin 1024, at2 X r x.val * at2 X r x.val) (Ideal.ofBits .f32 0x44800000#32) + Ideal.ofBits .f32 0x358637BD#32

/-- The norm's factor of row `r`. -/
noncomputable def rs (X : S8192x1024.Idx → EReal) (r : ℕ) : EReal := Ideal.rsqrt (msq X r)

/-- One row's term of the gain's gradient. -/
noncomputable def gterm (D : S8192x5632.Idx → EReal) (W : S4x1024x1408.Idx → EReal) (X : S8192x1024.Idx → EReal) (k r : ℕ) : EReal :=
  dh D W r k * (at2 X r k * rs X r)

/-- The gain's gradient in column `k`: the sum over all rows. -/
noncomputable def gsum (D : S8192x5632.Idx → EReal) (W : S4x1024x1408.Idx → EReal) (X : S8192x1024.Idx → EReal) (k : ℕ) : EReal :=
  ∑ r : Fin 8192, gterm D W X k r.val

/-- The input's gradient in row `r` and column `k`, as the kernel computes it. -/
noncomputable def inp (D : S8192x5632.Idx → EReal) (W : S4x1024x1408.Idx → EReal) (X : S8192x1024.Idx → EReal) (G : S1x1024.Idx → EReal)
    (E : S8192x1024.Idx → EReal) (r k : ℕ) : EReal :=
  at2 E r k + rs X r * (dh D W r k * at2 G 0 k - at2 X r k * rs X r
    * Ideal.div (∑ x : Fin 1024, dh D W r x.val * at2 G 0 x.val * (at2 X r x.val * rs X r)) (Ideal.ofBits .f32 0x44800000#32))

section Tile
variable (D : S8192x5632.Idx → EReal) (W : S4x1024x1408.Idx → EReal) (X : S8192x1024.Idx → EReal) (G : S1x1024.Idx → EReal) (E : S8192x1024.Idx → EReal)
variable (b : ℕ) (x0 : S512x5632.Idx → EReal) (x1 : S4x1024x1408.Idx → EReal) (x2 : S512x1024.Idx → EReal) (x3 : S1x1024.Idx → EReal) (x4 : S512x1024.Idx → EReal)
variable (h0 : ∀ j, x0 j = at2 D (b + (j 0).val) (j 1).val) (h1 : ∀ j, x1 j = at3 W (j 0).val (j 1).val (j 2).val)
  (h2 : ∀ j, x2 j = at2 X (b + (j 0).val) (j 1).val) (h3 : ∀ j, x3 j = at2 G (j 0).val (j 1).val) (h4 : ∀ j, x4 j = at2 E (b + (j 0).val) (j 1).val)

include h0 h1 in
/-- The tile's gradient at the norm's output at an element. -/
theorem dhT_apply (j : S512x1024.Idx) : dhT (F := Ideal) x0 x1 j = dh D W (b + (j 0).val) (j 1).val := by
  unfold dhT k0_pay6
  pointwise []
  simp only [h0, h1]
  rfl

include h0 h1 h2 h3 h4 in
/-- The tile's input gradient at an element. -/
theorem pay4_apply (j : S512x1024.Idx) :
    k0_pay4 (F := Ideal) (dhT x0 x1) x2 x3 (k0_pay7 (F := Ideal) x2) x4 j = inp D W X G E (b + (j 0).val) (j 1).val := by
  unfold k0_pay4 k0_pay2 k0_pay1 k0_pay7
  pointwise []
  simp only [h2, h3, h4, dhT_apply D W b x0 x1 h0 h1]
  rfl

include h0 h1 h2 in
/-- The tile's part of the gain's gradient at an element. -/
theorem pay3_apply (xo : S1x1024.Idx → EReal) (j : S1x1024.Idx) :
    k0_pay3 (F := Ideal) (dhT x0 x1) x2 (k0_pay7 (F := Ideal) x2) xo j = xo j + ∑ r : Fin 512, gterm D W X (j 1).val (b + r.val) := by
  unfold k0_pay3 k0_pay2 k0_pay1 k0_pay7
  pointwise []
  simp only [h2, dhT_apply D W b x0 x1 h0 h1]
  rfl

end Tile

variable (m : (ℓ : Loc nD τ sig) → Buf (Elt Ideal) ℓ)

/-- The gradient at the hidden columns. -/
abbrev gD (c : Dev nD) : S8192x5632.Idx → EReal := m ((c : Thread nD τ).loc main_arg0)
/-- The weight, in quarters of columns. -/
abbrev gW (c : Dev nD) : S4x1024x1408.Idx → EReal := m ((c : Thread nD τ).loc main_arg1)
/-- The norm's input. -/
abbrev gX (c : Dev nD) : S8192x1024.Idx → EReal := m ((c : Thread nD τ).loc main_arg2)
/-- The norm's gain. -/
abbrev gG (c : Dev nD) : S1x1024.Idx → EReal := m ((c : Thread nD τ).loc main_arg3)
/-- The gradient that arrives beside the norm. -/
abbrev gE (c : Dev nD) : S8192x1024.Idx → EReal := m ((c : Thread nD τ).loc main_arg4)

theorem idx : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, _)

/-- The rows of the hidden gradient that point `t` reads. -/
theorem iblk0 (c : Dev nD) (t : Fin cfg0.N) (j : S512x5632.Idx) :
    (iblk m c 0 t : Vec Ideal S512x5632 .bf16) j = at2 (gD m c) (512 * t.val + (j 0).val) (j 1).val := by
  obtain ⟨⟨e0, e1⟩, -⟩ := idx t
  unfold iblk
  rw [View.read_apply]
  refine at2_of_val (gD m c) _ _ _ ?_ ?_
  · show win0_0.index t 0 * 512 + 1 * (j 0).val = _; rw [e0]; omega
  · show win0_0.index t 1 * 5632 + 1 * (j 1).val = _; rw [e1]; omega

/-- Every point reads the whole weight. -/
theorem iblk1 (c : Dev nD) (t : Fin cfg0.N) (j : S4x1024x1408.Idx) :
    (iblk m c 1 t : Vec Ideal S4x1024x1408 .bf16) j = at3 (gW m c) (j 0).val (j 1).val (j 2).val := by
  obtain ⟨-, ⟨e0, e1, e2⟩, -⟩ := idx t
  unfold iblk
  rw [View.read_apply]
  refine at3_of_val (gW m c) _ _ _ _ ?_ ?_ ?_
  · show win0_1.index t 0 * 4 + 1 * (j 0).val = _; rw [e0]; omega
  · show win0_1.index t 1 * 1024 + 1 * (j 1).val = _; rw [e1]; omega
  · show win0_1.index t 2 * 1408 + 1 * (j 2).val = _; rw [e2]; omega

/-- The rows of the norm's input that point `t` reads. -/
theorem iblk2 (c : Dev nD) (t : Fin cfg0.N) (j : S512x1024.Idx) :
    (iblk m c 2 t : Vec Ideal S512x1024 .f32) j = at2 (gX m c) (512 * t.val + (j 0).val) (j 1).val := by
  obtain ⟨-, -, ⟨e0, e1⟩, -⟩ := idx t
  unfold iblk
  rw [View.read_apply]
  refine at2_of_val (gX m c) _ _ _ ?_ ?_
  · show win0_2.index t 0 * 512 + 1 * (j 0).val = _; rw [e0]; omega
  · show win0_2.index t 1 * 1024 + 1 * (j 1).val = _; rw [e1]; omega

/-- Every point reads the whole gain. -/
theorem iblk3 (c : Dev nD) (t : Fin cfg0.N) (j : S1x1024.Idx) :
    (iblk m c 3 t : Vec Ideal S1x1024 .f32) j = at2 (gG m c) (j 0).val (j 1).val := by
  obtain ⟨-, -, -, ⟨e0, e1⟩, -⟩ := idx t
  unfold iblk
  rw [View.read_apply]
  refine at2_of_val (gG m c) _ _ _ ?_ ?_
  · show win0_3.index t 0 * 1 + 1 * (j 0).val = _; rw [e0]; omega
  · show win0_3.index t 1 * 1024 + 1 * (j 1).val = _; rw [e1]; omega

/-- The rows of the gradient beside the norm that point `t` reads. -/
theorem iblk4 (c : Dev nD) (t : Fin cfg0.N) (j : S512x1024.Idx) :
    (iblk m c 4 t : Vec Ideal S512x1024 .f32) j = at2 (gE m c) (512 * t.val + (j 0).val) (j 1).val := by
  obtain ⟨-, -, -, -, ⟨e0, e1⟩, -⟩ := idx t
  unfold iblk
  rw [View.read_apply]
  refine at2_of_val (gE m c) _ _ _ ?_ ?_
  · show win0_4.index t 0 * 512 + 1 * (j 0).val = _; rw [e0]; omega
  · show win0_4.index t 1 * 1024 + 1 * (j 1).val = _; rw [e1]; omega

/-- What every point leaves in the input gradient's block. -/
theorem outs5 (c : Dev nD) (t : Fin cfg0.N) (j : S512x1024.Idx) :
    (outsAt0 m c t.val t.isLt).1 j = inp (gD m c) (gW m c) (gX m c) (gG m c) (gE m c) (512 * t.val + (j 0).val) (j 1).val := by
  by_cases h : t.val % 16 = 0
  · rw [outsAt0_A m c t h]
    dsimp only
    rw [out5_A]
    exact pay4_apply _ _ _ _ _ _ _ _ _ _ _ (iblk0 m c t) (iblk1 m c t) (iblk2 m c t) (iblk3 m c t) (iblk4 m c t) j
  · rw [outsAt0_B m c t h]
    dsimp only
    rw [out5_B]
    exact pay4_apply _ _ _ _ _ _ _ _ _ _ _ (iblk0 m c t) (iblk1 m c t) (iblk2 m c t) (iblk3 m c t) (iblk4 m c t) j

/-- What the gain gradient's block holds after point `n`: the sum over the rows of the tiles so far. -/
theorem outs6 (c : Dev nD) : ∀ (n : ℕ) (hn : n < cfg0.N) (j : S1x1024.Idx),
    (outsAt0 m c n hn).2 j = ∑ s ∈ Finset.range (n + 1), ∑ r : Fin 512, gterm (gD m c) (gW m c) (gX m c) (j 1).val (512 * s + r.val)
  | 0, hn, j => by
    rw [outsAt0_A m c ⟨0, hn⟩ rfl]
    dsimp only
    rw [out6_A]
    refine (pay3_apply _ _ _ _ _ _ _ (iblk0 m c ⟨0, hn⟩) (iblk1 m c ⟨0, hn⟩) (iblk2 m c ⟨0, hn⟩) _ j).trans ?_
    rw [Finset.sum_range_one]
    refine (congrArg (· + _) ?_).trans (zero_add _)
    exact Ideal.ofBits_zero_f32
  | n + 1, hn, j => by
    have hN : cfg0.N = 16 := N_0
    have hB : ¬(⟨n + 1, hn⟩ : Fin cfg0.N).val % 16 = 0 := by dsimp only; omega
    rw [outsAt0_B m c ⟨n + 1, hn⟩ hB]
    dsimp only
    rw [out6_B]
    refine (pay3_apply _ _ _ _ _ _ _ (iblk0 m c ⟨n + 1, hn⟩) (iblk1 m c ⟨n + 1, hn⟩) (iblk2 m c ⟨n + 1, hn⟩) _ j).trans ?_
    rw [Finset.sum_range_succ _ (n + 1)]
    exact congrArg (· + _) (outs6 c n _ j)

/-- The input's gradient that the call leaves. -/
noncomputable def whole5 (c : Dev nD) : Buf (Elt Ideal) ((c : Thread nD τ).loc main_v0_0) :=
  fun (i : S8192x1024.Idx) => (inp (gD m c) (gW m c) (gX m c) (gG m c) (gE m c) (i 0).val (i 1).val : EReal)

/-- The gain's gradient that the call leaves: the sum over all rows. -/
noncomputable def whole6 (c : Dev nD) : Buf (Elt Ideal) ((c : Thread nD τ).loc main_v0_1) :=
  fun (i : S1x1024.Idx) => (gsum (gD m c) (gW m c) (gX m c) (i 1).val : EReal)

/-- The gain's gradient at an element whose column is `k`. -/
theorem whole6_apply (c : Dev nD) (i : S1x1024.Idx) (k : ℕ) (h : (i 1).val = k) :
    whole6 m c i = gsum (gD m c) (gW m c) (gX m c) k := by
  subst h
  rfl

theorem flushed_eq5 (c : Dev nD) (t : Fin cfg0.N) :
    (dats m 0 c).flushed 5 t = ((cfg0.win 5).blk t).view.read (Elt Ideal) (whole5 m c) := by
  obtain ⟨-, -, -, -, -, ⟨e0, e1⟩, -⟩ := idx t
  rw [Value.flushed5]
  funext (y : S512x1024.Idx)
  rw [View.read_apply]
  refine (outs5 m c t y).trans ?_
  show _ = inp _ _ _ _ _ (win0_5.index t 0 * 512 + 1 * (y 0).val) (win0_5.index t 1 * 1024 + 1 * (y 1).val)
  rw [e0, e1]
  congr 1 <;> omega

theorem flushed_eq6 (c : Dev nD) (t : Fin cfg0.N) (hf : (cfg0.win 6).flush t = true) :
    (dats m 0 c).flushed 6 t = ((cfg0.win 6).blk t).view.read (Elt Ideal) (whole6 m c) := by
  obtain ⟨-, -, -, -, -, -, ⟨e0, e1⟩⟩ := idx t
  have hN : cfg0.N = 16 := N_0
  have h15 : t.val = 15 := by have := (flush0_6 t).mp hf; have := t.isLt; omega
  rw [Value.flushed6]
  funext (y : S1x1024.Idx)
  have hv : ((cfg0.win 6).blk t).view.read (Elt Ideal) (whole6 m c) y = gsum (gD m c) (gW m c) (gX m c) (y 1).val := by
    rw [View.read_apply]
    have hk : win0_6.index t 1 * 1024 + 1 * (y 1).val = (y 1).val := by rw [e1]; omega
    rw [cast_eq]
    exact whole6_apply m c _ _ hk
  rw [hv]
  refine (outs6 m c t.val t.isLt y).trans ?_
  rw [h15]
  unfold gsum
  exact sum_tiles 16 512 (gterm (gD m c) (gW m c) (gX m c) (y 1).val)

theorem cover5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hN : cfg0.N = 16 := N_0
  refine ⟨⟨(i 0).val / 512, by omega⟩, flush0_5 _, ?_⟩
  generalize ht : (⟨(i 0).val / 512, _⟩ : Fin cfg0.N) = t
  have ht' : t.val = (i 0).val / 512 := by rw [← ht]
  obtain ⟨-, -, -, -, -, ⟨e0, e1⟩, -⟩ := idx t
  show i ∈ ((View.whole main_v0_0).slice (win0_5.rect t)).set
  rw [View.set_slice_whole, Rect.mem_set_unit]
  intro a
  match a with
  | ⟨0, _⟩ => exact ⟨by show win0_5.index t 0 * 512 ≤ (i 0).val; rw [e0]; omega, by show (i 0).val < win0_5.index t 0 * 512 + 512; rw [e0]; omega⟩
  | ⟨1, _⟩ => exact ⟨by show win0_5.index t 1 * 1024 ≤ (i 1).val; rw [e1]; omega, by show (i 1).val < win0_5.index t 1 * 1024 + 1024; rw [e1]; omega⟩

theorem cover6 (i : S1x1024.Idx) : ∃ t : Fin cfg0.N, (cfg0.win 6).flush t = true ∧ i ∈ ((cfg0.win 6).blk t).view.set := by
  have h0 : (i 0).val < 1 := (i 0).isLt
  have h1 : (i 1).val < 1024 := (i 1).isLt
  have hN : cfg0.N = 16 := N_0
  refine ⟨⟨15, by omega⟩, (flush0_6 _).mpr rfl, ?_⟩
  generalize ht : (⟨15, _⟩ : Fin cfg0.N) = t
  obtain ⟨-, -, -, -, -, -, ⟨e0, e1⟩⟩ := idx t
  show i ∈ ((View.whole main_v0_1).slice (win0_6.rect t)).set
  rw [View.set_slice_whole, Rect.mem_set_unit]
  intro a
  match a with
  | ⟨0, _⟩ => exact ⟨by show win0_6.index t 0 * 1 ≤ (i 0).val; rw [e0]; omega, by show (i 0).val < win0_6.index t 0 * 1 + 1; rw [e0]; omega⟩
  | ⟨1, _⟩ => exact ⟨by show win0_6.index t 1 * 1024 ≤ (i 1).val; rw [e1]; omega, by show (i 1).val < win0_6.index t 1 * 1024 + 1024; rw [e1]; omega⟩

/-- The input gradient's array after the run. -/
theorem result5 (c : Dev nD) : (dats m 0 c).arrAt 5 cfg0.N = whole5 m c :=
  (dats m 0 c).arrAt_eq_of_cover 5 (whole5 m c) (fun t _ => flushed_eq5 m c t) cover5

/-- The gain gradient's array after the run. -/
theorem result6 (c : Dev nD) : (dats m 0 c).arrAt 6 cfg0.N = whole6 m c :=
  (dats m 0 c).arrAt_eq_of_cover 6 (whole6 m c) (flushed_eq6 m c) cover6

/-! ## The reference -/

/-- The weight's column `k` of the joined quarters. -/
theorem quarter (W : S4x1024x1408.Idx → EReal) (p : Fin 1024) (x : Fin 5632) :
    (if h : x.val < 1408 then W (ValueIdx.ix3 0 p ⟨x.val, h⟩)
      else if h' : x.val - 1408 < 1408 then W (ValueIdx.ix3 1 p ⟨x.val - 1408, h'⟩)
      else if h'' : x.val - 1408 - 1408 < 1408 then W (ValueIdx.ix3 2 p ⟨x.val - 1408 - 1408, h''⟩)
      else W (ValueIdx.ix3 3 p ⟨x.val - 1408 - 1408 - 1408, by omega⟩)) = at3 W (x.val / 1408) p.val (x.val % 1408) := by
  have hx := x.isLt
  by_cases h : x.val < 1408
  · rw [dif_pos h]
    exact at3_of_val W _ _ _ _ (by show 0 = _; omega) rfl (by show x.val = _; omega)
  rw [dif_neg h]
  by_cases h' : x.val - 1408 < 1408
  · rw [dif_pos h']
    exact at3_of_val W _ _ _ _ (by show 1 = _; omega) rfl (by show x.val - 1408 = _; omega)
  rw [dif_neg h']
  by_cases h'' : x.val - 1408 - 1408 < 1408
  · rw [dif_pos h'']
    exact at3_of_val W _ _ _ _ (by show 2 = _; omega) rfl (by show x.val - 1408 - 1408 = _; omega)
  rw [dif_neg h'']
  exact at3_of_val W _ _ _ _ (by show 3 = _; omega) rfl (by show x.val - 1408 - 1408 - 1408 = _; omega)

open Cert.Reference3Ideal.Read in
/-- The reference's gradient at the norm's output. -/
theorem reference_dh (x0 : S8192x5632.Idx → EReal) (x1 : S4x1024x1408.Idx → EReal) (i : S8192x1024.Idx) :
    val_main_v27 (F := Ideal) x0 x1 i = dh x0 x1 (i 0).val (i 1).val := by
  pointwise [val_main_v27, val_main_v26, val_main_v9, val_main_v8, val_main_v7, val_main_v6, val_main_v5, val_main_v4, val_main_v3, val_main_v2, val_main_v1, val_main_v0]
  refine (Finset.sum_congr rfl fun x _ => congrArg₂ (· * ·) (at2_of_val x0 (ValueIdx.ix2 (i 0) x) (i 0).val x.val rfl rfl) (quarter x1 (i 1) x)).trans ?_
  refine (sum_tiles 4 1408 (fun x => at2 x0 (i 0).val x * at3 x1 (x / 1408) (i 1).val (x % 1408))).symm.trans ?_
  have hq : ∀ s : ℕ, ∑ r : Fin 1408, at2 x0 (i 0).val (1408 * s + r.val) * at3 x1 ((1408 * s + r.val) / 1408) (i 1).val ((1408 * s + r.val) % 1408)
      = ∑ r : Fin 1408, at2 x0 (i 0).val (1408 * s + r.val) * at3 x1 s (i 1).val r.val := fun s =>
    Finset.sum_congr rfl fun r _ => by
      have hr := r.isLt
      rw [show (1408 * s + r.val) / 1408 = s by omega, show (1408 * s + r.val) % 1408 = r.val by omega]
  simp only [Finset.sum_range_succ, Finset.sum_range_zero, hq, zero_add, mul_zero, mul_one]
  rfl

open Cert.Reference3Ideal.Read in
/-- The reference's gain gradient. -/
theorem reference_dg (x0 : S8192x5632.Idx → EReal) (x1 : S4x1024x1408.Idx → EReal) (x2 : S8192x1024.Idx → EReal) (i : S1x1024.Idx) :
    val_main_v30 (F := Ideal) x0 x1 x2 i = gsum x0 x1 x2 (i 1).val := by
  have h2 : ∀ j : S8192x1024.Idx, x2 j = at2 x2 (j 0).val (j 1).val := fun j => at2_of_val x2 j _ _ rfl rfl
  pointwise [val_main_v30, val_main_v29, val_main_v28, val_main_v22, val_main_v21, val_main_v17, val_main_v16, val_main_v15, val_main_v14, val_main_v13, val_main_v12, val_main_v11, val_main_v10, val_main_cst, val_main_cst_0, val_main_cst_1, val_main_cst_3]
  refine Finset.sum_congr rfl fun r _ => ?_
  rw [reference_dh, mul_comm]
  refine congrArg₂ (· * ·) rfl (congrArg₂ (· * ·) (h2 _) (congrArg (fun z => Ideal.rsqrt (Ideal.div z _ + _)) (Finset.sum_congr rfl fun x _ => ?_)))
  exact congrArg₂ (· * ·) (h2 _) (h2 _)

/-- The input's gradient as the reference computes it, from one row: the gradient at the norm's output times the gain, less the mean's part. -/
noncomputable def refInp (e s v : EReal) (x y : Fin 1024 → EReal) (k : Fin 1024) : EReal :=
  e + y k * s + x k * (∑ _u : Fin 1, Ideal.div ((∑ a, x a * y a) * (Ideal.ofBits .f32 0xBF000000#32 * Ideal.div s v)) (Ideal.ofBits .f32 0x44800000#32))
    + (∑ _u : Fin 1, Ideal.div ((∑ a, x a * y a) * (Ideal.ofBits .f32 0xBF000000#32 * Ideal.div s v)) (Ideal.ofBits .f32 0x44800000#32)) * x k

open Cert.Reference3Ideal.Read in
/-- The reference's input gradient at an element. -/
theorem reference_dx (x0 : S8192x5632.Idx → EReal) (x1 : S4x1024x1408.Idx → EReal) (x2 : S8192x1024.Idx → EReal) (x3 : S1x1024.Idx → EReal)
    (x4 : S8192x1024.Idx → EReal) (p : Fin 8192) (q : Fin 1024) :
    val_main_v47 (F := Ideal) x0 x1 x2 x3 x4 (ValueIdx.ix2 p q)
      = refInp (at2 x4 p.val q.val) (rs x2 p.val) (msq x2 p.val) (fun a => at2 x2 p.val a.val)
        (fun a => dh x0 x1 p.val a.val * at2 x3 0 a.val) q := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v22, val_main_v21, val_main_v20, val_main_v19, val_main_v18, val_main_v17, val_main_v16, val_main_v15, val_main_v14, val_main_v13, val_main_v12, val_main_v11, val_main_v10, val_main_cst, val_main_cst_0, val_main_cst_1, val_main_cst_2, val_main_cst_4, val_main_cst_5, val_main_cst_6]
  have hx : ∀ a : Fin 1024, x2 (ValueIdx.ix2 p a) = at2 x2 p.val a.val := fun a => at2_of_val x2 _ _ _ rfl rfl
  have hm : Ideal.div (∑ x, x2 (ValueIdx.ix2 p x) * x2 (ValueIdx.ix2 p x)) (Ideal.ofBits .f32 0x44800000#32) + Ideal.ofBits .f32 0x358637BD#32
      = msq x2 p.val :=
    congrArg (fun z => Ideal.div z _ + _) (Finset.sum_congr rfl fun x _ => congrArg₂ (· * ·) (hx x) (hx x))
  have hy : ∀ a : Fin 1024, val_main_v27 (F := Ideal) x0 x1 (ValueIdx.ix2 p a) * x3 (ValueIdx.ix2 0 a)
      = dh x0 x1 p.val a.val * at2 x3 0 a.val := fun a => congrArg₂ (· * ·) (reference_dh _ _ _) (at2_of_val x3 _ _ _ rfl rfl)
  have h4 : x4 (ValueIdx.ix2 p q) = at2 x4 p.val q.val := at2_of_val x4 _ _ _ rfl rfl
  refine Eq.trans (b := refInp (x4 (ValueIdx.ix2 p q)) (Ideal.rsqrt (Ideal.div (∑ x, x2 (ValueIdx.ix2 p x) * x2 (ValueIdx.ix2 p x)) (Ideal.ofBits .f32 0x44800000#32) + Ideal.ofBits .f32 0x358637BD#32))
    (Ideal.div (∑ x, x2 (ValueIdx.ix2 p x) * x2 (ValueIdx.ix2 p x)) (Ideal.ofBits .f32 0x44800000#32) + Ideal.ofBits .f32 0x358637BD#32)
    (fun a => x2 (ValueIdx.ix2 p a)) (fun a => val_main_v27 (F := Ideal) x0 x1 (ValueIdx.ix2 p a) * x3 (ValueIdx.ix2 0 a)) q) rfl ?_
  rw [hm, h4, funext hx, funext hy]
  rfl

/-! ## The comparison over the reals -/

/-- The constants of the norm: the row's length and a positive number. -/
theorem const_len : Ideal.ofBits .f32 0x44800000#32 = ((1024 : ℝ) : EReal) := by
  simp [Ideal.ofBits, Ideal.ieee, -EReal.coe_mul]; norm_num

theorem const_half : Ideal.ofBits .f32 0xBF000000#32 = ((-(1 / 2) : ℝ) : EReal) := by
  simp [Ideal.ofBits, Ideal.ieee, -EReal.coe_mul]; norm_num

theorem const_eps : ∃ e : ℝ, 0 < e ∧ Ideal.ofBits .f32 0x358637BD#32 = (e : EReal) := by
  refine ⟨(8796093 : ℝ) / 2 ^ 43, by norm_num, ?_⟩
  simp [Ideal.ofBits, Ideal.ieee, -EReal.coe_mul]; norm_num

/-- A sum of reals is a real. -/
theorem coe_sum {n : ℕ} (f : Fin n → ℝ) : ∑ a, (f a : EReal) = ((∑ a, f a : ℝ) : EReal) := by
  classical
  refine Finset.induction_on Finset.univ (by simp) fun a s ha h => ?_
  rw [Finset.sum_insert ha, Finset.sum_insert ha, h, EReal.coe_add]

/-- The two forms of the input's gradient agree over the reals: the norm's factor is the reciprocal root of a positive number. -/
theorem identity (x y : Fin 1024 → ℝ) (e : ℝ) (k : Fin 1024) (v s : EReal)
    (hv : v = Ideal.div (∑ a, (x a : EReal) * (x a : EReal)) (Ideal.ofBits .f32 0x44800000#32) + Ideal.ofBits .f32 0x358637BD#32)
    (hs : s = Ideal.rsqrt v) :
    refInp e s v (fun a => (x a : EReal)) (fun a => (y a : EReal)) k
      = (e : EReal) + s * ((y k : EReal) - (x k : EReal) * s
        * Ideal.div (∑ a, (y a : EReal) * ((x a : EReal) * s)) (Ideal.ofBits .f32 0x44800000#32)) := by
  obtain ⟨eps, heps, he⟩ := const_eps
  have h1024 : (1024 : ℝ) ≠ 0 := by norm_num
  obtain ⟨v', hv', hvp⟩ : ∃ v' : ℝ, v = (v' : EReal) ∧ 0 < v' := by
    refine ⟨(∑ a, x a * x a) * (1 / 1024) + eps, ?_, ?_⟩
    · rw [hv, he, const_len, Ideal.div_coe h1024]
      simp only [← EReal.coe_mul, coe_sum, ← EReal.coe_add]
    · have : 0 ≤ ∑ a, x a * x a := Finset.sum_nonneg fun a _ => mul_self_nonneg _
      positivity
  have hs' : s = (((Real.sqrt v')⁻¹ : ℝ) : EReal) := by
    rw [hs, hv', Ideal.rsqrt_coe, if_neg (not_lt.mpr hvp.le), if_neg hvp.ne']
  have hsq : 1 / v' = (Real.sqrt v')⁻¹ * (Real.sqrt v')⁻¹ := by
    rw [← mul_inv, Real.mul_self_sqrt hvp.le, one_div]
  unfold refInp
  rw [hs', hv', const_len, const_half]
  generalize (Real.sqrt v')⁻¹ = q at *
  simp only [Ideal.div_coe h1024, Ideal.div_coe hvp.ne', ← EReal.coe_mul, coe_sum, ← EReal.coe_add, ← EReal.coe_sub, hsq]
  refine congrArg _ ?_
  have : ∑ a, y a * (x a * q) = q * ∑ a, x a * y a := by
    rw [Finset.mul_sum]; exact Finset.sum_congr rfl fun a _ => by ring
  rw [this, Fin.sum_univ_one]
  ring

/-- Over finite arrays the kernel's input gradient is the reference's. -/
theorem inp_eq (D : S8192x5632.Idx → EReal) (W : S4x1024x1408.Idx → EReal) (X : S8192x1024.Idx → EReal) (G : S1x1024.Idx → EReal)
    (E : S8192x1024.Idx → EReal) (r : ℕ) (k : Fin 1024)
    (hD : ∀ p q, ∃ z : ℝ, at2 D p q = z) (hW : ∀ o p q, ∃ z : ℝ, at3 W o p q = z) (hX : ∀ p q, ∃ z : ℝ, at2 X p q = z)
    (hG : ∀ p q, ∃ z : ℝ, at2 G p q = z) (hE : ∀ p q, ∃ z : ℝ, at2 E p q = z) :
    refInp (at2 E r k.val) (rs X r) (msq X r) (fun a => at2 X r a.val) (fun a => dh D W r a.val * at2 G 0 a.val) k = inp D W X G E r k.val := by
  choose d hd using hD
  choose w hw using hW
  choose x hx using hX
  choose g hg using hG
  choose e he using hE
  have hy : ∀ a : ℕ, ∃ z : ℝ, dh D W r a * at2 G 0 a = z := fun a => by
    unfold dh
    simp only [hd, hw, hg, ← EReal.coe_mul, coe_sum, ← EReal.coe_add]
    exact ⟨_, rfl⟩
  choose y hy using hy
  refine Eq.trans ?_ ((identity (fun a => x r a.val) (fun a => y a.val) (e r k.val) k (msq X r) (rs X r) ?_ rfl).trans ?_)
  · rw [he]
    congr 1
    · exact funext fun a => hx r a.val
    · exact funext fun a => hy a.val
  · unfold msq
    simp only [hx]
  · unfold inp
    simp only [hy, hx, he]

end Cert.UpBwd
-- ==== Proof.Ffn.GateRef.lean ====
/- The backward pass of the gate: what the reference computes, element by element, and that over finite arrays it is what the
   kernel computes. -/
module

public import proofs.«01_k».proof.Proof.Ffn.Gate
public import proofs.«01_k».proof.Proof.Ffn.UpBwd
public import proofs.«01_k».proof.Proof.Gen.ReferenceIdeal.Read
public import Idealize.ShloMosaic.Lib.Pointwise

@[expose] public section

namespace Cert.GateRef

open Idealize.ShloMosaic
open Cert.ReferenceIdeal Cert.ReferenceIdeal.Gen Cert.ReferenceIdeal.Read Cert.Common
open Cert.Gate (tap cv sg dy act yv dg dv dcv dw db)

variable (x0 : S8192x1024.Idx → EReal) (x1 : S8192x5632.Idx → EReal) (x2 : S3x5632.Idx → EReal) (x3 : S1x5632.Idx → EReal) (x4 : S2816x1024.Idx → EReal)

/-- The input itself. -/
theorem v0_apply (i : S8192x5632.Idx) : val_main_v0 (F := Ideal) x1 i = tap x1 (i 0).val (i 1).val 0 := by
  pointwise [val_main_v0]
  unfold tap
  rw [if_pos (Nat.zero_le _)]
  exact at2_of_val x1 _ _ _ rfl rfl

/-- The input moved down by one row. -/
theorem v4_apply (i : S8192x5632.Idx) : val_main_v4 (F := Ideal) x1 i = tap x1 (i 0).val (i 1).val 1 := by
  pointwise [val_main_v4, val_main_v3, val_main_v2, val_main_v0, val_main_cst]
  unfold tap
  by_cases h : (i 0).val < 1
  · rw [dif_pos h, if_neg (by omega)]
  · rw [dif_neg h]
    exact (at2_of_val x1 _ _ _ rfl rfl).trans (if_pos (by omega)).symm

/-- The input moved down by two rows. -/
theorem v7_apply (i : S8192x5632.Idx) : val_main_v7 (F := Ideal) x1 i = tap x1 (i 0).val (i 1).val 2 := by
  pointwise [val_main_v7, val_main_v6, val_main_v5, val_main_v0, val_main_cst_0]
  unfold tap
  by_cases h : (i 0).val < 2
  · rw [dif_pos h, if_neg (by omega)]
  · rw [dif_neg h]
    exact (at2_of_val x1 _ _ _ rfl rfl).trans (if_pos (by omega)).symm

/-- The convolution's output: the reference adds the taps in the other order. -/
theorem v20_apply (p : Fin 8192) (q : Fin 5632) : val_main_v20 (F := Ideal) x1 x2 x3 (ValueIdx.ix2 p q) = cv x1 x2 x3 p.val q.val := by
  pointwise [val_main_v20, val_main_v19, val_main_v18, val_main_v17, val_main_v16, val_main_v15, val_main_v14, val_main_v13, val_main_v12, val_main_v11, val_main_v10, val_main_v9, val_main_v8]
  unfold cv
  refine congrArg₂ (· + ·) ?_ (at2_of_val x3 _ _ _ rfl rfl)
  refine Eq.trans (b := at2 x2 0 q.val * tap x1 p.val q.val 2 + at2 x2 1 q.val * tap x1 p.val q.val 1 + at2 x2 2 q.val * tap x1 p.val q.val 0)
    (congrArg₂ (· + ·) (congrArg₂ (· + ·)
      (congrArg₂ (· * ·) (at2_of_val x2 _ _ _ rfl rfl) (v7_apply x1 _)) (congrArg₂ (· * ·) (at2_of_val x2 _ _ _ rfl rfl) (v4_apply x1 _)))
      (congrArg₂ (· * ·) (at2_of_val x2 _ _ _ rfl rfl) (v0_apply x1 _))) ?_
  rw [add_comm, add_comm (at2 x2 0 q.val * tap x1 p.val q.val 2), add_assoc]

/-- The gradient at the gate's product. -/
theorem v26_apply (p : Fin 8192) (q : Fin 2816) : val_main_v26 (F := Ideal) x0 x4 (ValueIdx.ix2 p q) = dy x0 x4 p.val q.val := by
  pointwise [val_main_v26, val_main_v1]
  exact Finset.sum_congr rfl fun k _ => congrArg₂ (· * ·) (at2_of_val x0 _ _ _ rfl rfl) (at2_of_val x4 _ _ _ rfl rfl)

/-- The gate's input. -/
theorem v21_apply (p : Fin 8192) (q : Fin 2816) : val_main_v21 (F := Ideal) x1 x2 x3 (ValueIdx.ix2 p q) = cv x1 x2 x3 p.val q.val := by
  pointwise [val_main_v21]
  exact v20_apply x1 x2 x3 p ⟨q.val, _⟩

/-- The gated value. -/
theorem v22_apply (p : Fin 8192) (q : Fin 2816) : val_main_v22 (F := Ideal) x1 x2 x3 (ValueIdx.ix2 p q) = cv x1 x2 x3 p.val (2816 + q.val) := by
  pointwise [val_main_v22]
  exact v20_apply x1 x2 x3 p ⟨2816 + q.val, _⟩

/-- The same two, taken again for the recomputed product. -/
theorem v48_apply (p : Fin 8192) (q : Fin 2816) : val_main_v48 (F := Ideal) x1 x2 x3 (ValueIdx.ix2 p q) = cv x1 x2 x3 p.val q.val := by
  pointwise [val_main_v48]
  exact v20_apply x1 x2 x3 p ⟨q.val, _⟩

theorem v49_apply (p : Fin 8192) (q : Fin 2816) : val_main_v49 (F := Ideal) x1 x2 x3 (ValueIdx.ix2 p q) = cv x1 x2 x3 p.val (2816 + q.val) := by
  pointwise [val_main_v49]
  exact v20_apply x1 x2 x3 p ⟨2816 + q.val, _⟩

/-- The logistic function as the reference computes it: `1 / (1 + exp (-x))`. -/
noncomputable def lg (x : EReal) : EReal :=
  Ideal.div 1 (1 + Ideal.exp (-x))

/-- The gradient at the gated value, as the reference computes it. -/
theorem v27_apply (p : Fin 8192) (q : Fin 2816) : val_main_v27 (F := Ideal) x0 x1 x2 x3 x4 (ValueIdx.ix2 p q)
    = cv x1 x2 x3 p.val q.val * lg (cv x1 x2 x3 p.val q.val) * dy x0 x4 p.val q.val := by
  pointwise [val_main_v27, val_main_v23_0, val_main_v23_2, val_main_call0_v4, val_main_call0_v3, val_main_call0_v2, val_main_call0_v1, val_main_call0_v0, val_main_call0_cst, val_main_call0_cst_0]
  rw [v21_apply, v26_apply]
  rfl

/-- The gradient at the gate's input, as the reference computes it. -/
theorem v29_apply (p : Fin 8192) (q : Fin 2816) : val_main_v29 (F := Ideal) x0 x1 x2 x3 x4 (ValueIdx.ix2 p q)
    = dy x0 x4 p.val q.val * cv x1 x2 x3 p.val (2816 + q.val) * lg (cv x1 x2 x3 p.val q.val)
      + cv x1 x2 x3 p.val q.val * (dy x0 x4 p.val q.val * cv x1 x2 x3 p.val (2816 + q.val))
        * (lg (cv x1 x2 x3 p.val q.val) * (1 - lg (cv x1 x2 x3 p.val q.val))) := by
  pointwise [val_main_v29, val_main_call1_v0, val_main_call1_v1, val_main_call1_v2, val_main_v28, val_main_v23_1, val_main_call0_v7, val_main_call0_v6, val_main_call0_cst_1, val_main_v23_2, val_main_call0_v4, val_main_call0_v3, val_main_call0_v2, val_main_call0_v1, val_main_call0_v0, val_main_call0_cst, val_main_call0_cst_0]
  rw [v21_apply, v22_apply, v26_apply]
  rfl

/-- The gate's product, as the reference computes it. -/
theorem v52_apply (p : Fin 8192) (q : Fin 2816) : val_main_v52 (F := Ideal) x1 x2 x3 (ValueIdx.ix2 p q)
    = cv x1 x2 x3 p.val q.val * lg (cv x1 x2 x3 p.val q.val) * cv x1 x2 x3 p.val (2816 + q.val) := by
  pointwise [val_main_v52, val_main_v51, val_main_v50, val_main_call2_v5, val_main_call2_v4, val_main_call2_v3, val_main_call2_v2, val_main_call2_v1, val_main_call2_v0, val_main_call2_cst, val_main_call2_cst_0]
  rw [v48_apply, v49_apply]
  rfl

/-! ## The comparison over the reals -/

theorem const_half : Ideal.ofBits .f32 0x3F000000#32 = ((1 / 2 : ℝ) : EReal) := by
  simp [Ideal.ofBits, Ideal.ieee, -EReal.coe_mul]; norm_num

/-- The two forms of the logistic function agree at a real, where the value is a real. -/
theorem lg_coe (x : ℝ) : lg (x : EReal) = ((1 / (1 + Real.exp (-x)) : ℝ) : EReal) := by
  have hp : (1 + Real.exp (-x)) ≠ 0 := (by positivity : (0 : ℝ) < 1 + Real.exp (-x)).ne'
  unfold lg
  rw [← EReal.coe_neg, Ideal.exp_coe, ← EReal.coe_one, ← EReal.coe_add, Ideal.div_coe hp, ← EReal.coe_mul, one_mul]

theorem sg_coe (x : ℝ) : sg (x : EReal) = ((1 / (1 + Real.exp (-x)) : ℝ) : EReal) := by
  unfold sg
  rw [const_half, ← EReal.coe_mul, Ideal.tanh_coe, ← EReal.coe_mul, ← EReal.coe_add]
  refine congrArg _ ?_
  rw [Real.tanh_eq_sinh_div_cosh, Real.sinh_eq, Real.cosh_eq]
  have e1 : Real.exp (-x) = Real.exp (-(1 / 2 * x)) * Real.exp (-(1 / 2 * x)) := by rw [← Real.exp_add]; congr 1; ring
  have e2 : Real.exp (1 / 2 * x) * Real.exp (-(1 / 2 * x)) = 1 := by rw [← Real.exp_add]; simp
  rw [e1]
  have h1 : 0 < Real.exp (1 / 2 * x) := Real.exp_pos _
  have h2 : 0 < Real.exp (-(1 / 2 * x)) := Real.exp_pos _
  generalize Real.exp (1 / 2 * x) = u at *
  generalize Real.exp (-(1 / 2 * x)) = v at *
  have hv : 1 + v * v ≠ 0 := (by positivity : (0 : ℝ) < 1 + v * v).ne'
  have hu : u + v ≠ 0 := (by positivity : (0 : ℝ) < u + v).ne'
  field_simp
  nlinarith [e2]

/-- Every element of an array is a real. -/
abbrev Finite2 {a b : ℕ} (x : (⟨2, ![a, b]⟩ : Shape).Idx → EReal) : Prop := ∀ p q, ∃ z : ℝ, at2 x p q = z

/-- Over finite arrays the convolution's output is a real. -/
theorem cv_real (h1 : Finite2 x1) (h2 : Finite2 x2) (h3 : Finite2 x3) (R Q : ℕ) : ∃ z : ℝ, cv x1 x2 x3 R Q = z := by
  choose a ha using h1
  choose w hw using h2
  choose b hb using h3
  have ht : ∀ k, ∃ z : ℝ, tap x1 R Q k = z := fun k => by
    unfold tap
    split
    · exact ⟨_, ha _ _⟩
    · exact ⟨0, rfl⟩
  choose t ht using ht
  unfold cv
  simp only [hw, hb, ht, ← EReal.coe_mul, ← EReal.coe_add]
  exact ⟨_, rfl⟩

/-- Over finite arrays the gradient at the gate's product is a real. -/
theorem dy_real (h0 : Finite2 x0) (h4 : Finite2 x4) (R q : ℕ) : ∃ z : ℝ, dy x0 x4 R q = z := by
  choose d hd using h0
  choose w hw using h4
  unfold dy
  simp only [hd, hw, ← EReal.coe_mul, Cert.UpBwd.coe_sum]
  exact ⟨_, rfl⟩

/-- The gate's product is the kernel's. -/
theorem v52_eq (h1 : Finite2 x1) (h2 : Finite2 x2) (h3 : Finite2 x3) (i : S8192x2816.Idx) :
    val_main_v52 (F := Ideal) x1 x2 x3 i = yv x1 x2 x3 (i 0).val (i 1).val := by
  refine (congrArg _ (ValueIdx.eq_ix2 i)).trans ((v52_apply x1 x2 x3 (i 0) (i 1)).trans ?_)
  unfold yv act
  rw [Nat.zero_add]
  obtain ⟨g, hg⟩ := cv_real x1 x2 x3 h1 h2 h3 (i 0).val (i 1).val
  rw [hg, lg_coe, sg_coe]

/-- The gradient at the convolution's output is the kernel's: at the gate's half the two forms of the derivative agree over the
    reals, at the value's half only the factors' order differs. -/
theorem v30_eq (h0 : Finite2 x0) (h1 : Finite2 x1) (h2 : Finite2 x2) (h3 : Finite2 x3) (h4 : Finite2 x4) (i : S8192x5632.Idx) :
    val_main_v30 (F := Ideal) x0 x1 x2 x3 x4 i = dcv x0 x1 x2 x3 x4 (i 0).val (i 1).val := by
  have hi : (i 1).val < 5632 := (i 1).isLt
  pointwise [val_main_v30]
  unfold dcv
  by_cases h : (i 1).val < 2816
  · rw [dif_pos h, if_pos h]
    refine (v29_apply x0 x1 x2 x3 x4 (i 0) ⟨(i 1).val, h⟩).trans ?_
    show dy x0 x4 (i 0).val (i 1).val * cv x1 x2 x3 (i 0).val (2816 + (i 1).val) * lg (cv x1 x2 x3 (i 0).val (i 1).val)
      + cv x1 x2 x3 (i 0).val (i 1).val * (dy x0 x4 (i 0).val (i 1).val * cv x1 x2 x3 (i 0).val (2816 + (i 1).val))
        * (lg (cv x1 x2 x3 (i 0).val (i 1).val) * (1 - lg (cv x1 x2 x3 (i 0).val (i 1).val))) = _
    unfold dg act
    rw [Nat.zero_add]
    obtain ⟨g, hg⟩ := cv_real x1 x2 x3 h1 h2 h3 (i 0).val (i 1).val
    obtain ⟨v, hv⟩ := cv_real x1 x2 x3 h1 h2 h3 (i 0).val (2816 + (i 1).val)
    obtain ⟨d, hd⟩ := dy_real x0 x4 h0 h4 (i 0).val (i 1).val
    rw [hg, hv, hd, lg_coe, sg_coe]
    generalize 1 / (1 + Real.exp (-g)) = s
    rw [← EReal.coe_one]
    simp only [← EReal.coe_mul, ← EReal.coe_add, ← EReal.coe_sub]
    exact congrArg _ (by ring)
  · rw [dif_neg h, if_neg h]
    refine (v27_apply x0 x1 x2 x3 x4 (i 0) ⟨(i 1).val - 2816, by omega⟩).trans ?_
    show cv x1 x2 x3 (i 0).val ((i 1).val - 2816) * lg (cv x1 x2 x3 (i 0).val ((i 1).val - 2816)) * dy x0 x4 (i 0).val ((i 1).val - 2816) = _
    unfold dv act
    rw [Nat.zero_add]
    obtain ⟨g, hg⟩ := cv_real x1 x2 x3 h1 h2 h3 (i 0).val ((i 1).val - 2816)
    rw [hg, lg_coe, sg_coe, mul_comm]

/-- The rounded gradient too: rounding is the identity here. -/
theorem v47_eq (h0 : Finite2 x0) (h1 : Finite2 x1) (h2 : Finite2 x2) (h3 : Finite2 x3) (h4 : Finite2 x4) (i : S8192x5632.Idx) :
    val_main_v47 (F := Ideal) x0 x1 x2 x3 x4 i = dcv x0 x1 x2 x3 x4 (i 0).val (i 1).val := by
  pointwise [val_main_v47]
  exact v30_eq x0 x1 x2 x3 x4 h0 h1 h2 h3 h4 i

/-- The bias's gradient is the kernel's. -/
theorem v32_eq (h0 : Finite2 x0) (h1 : Finite2 x1) (h2 : Finite2 x2) (h3 : Finite2 x3) (h4 : Finite2 x4) (i : S1x5632.Idx) :
    val_main_v32 (F := Ideal) x0 x1 x2 x3 x4 i = db x0 x1 x2 x3 x4 (i 1).val := by
  pointwise [val_main_v32, val_main_v31, val_main_cst_1]
  exact Finset.sum_congr rfl fun R _ => v30_eq x0 x1 x2 x3 x4 h0 h1 h2 h3 h4 _

/-- The literal that fills the padding is zero. -/
theorem sitofp_zero : (FloatOps.sitofp FTy.f32 0#32 : Ideal .f32) = (0 : EReal) := by
  show (((0#32 : BitVec 32).toInt : ℝ) : EReal) = 0
  simp

/-- The weight's gradient, padded to eight rows, is the kernel's. -/
theorem v53_eq (h0 : Finite2 x0) (h1 : Finite2 x1) (h2 : Finite2 x2) (h3 : Finite2 x3) (h4 : Finite2 x4) (i : S8x5632.Idx) :
    val_main_v53 (F := Ideal) x0 x1 x2 x3 x4 i = dw x0 x1 x2 x3 x4 (i 0).val (i 1).val := by
  have hi : (i 0).val < 8 := (i 0).isLt
  pointwise [val_main_v53, val_main_v46, val_main_v45, val_main_v44, val_main_v43, val_main_v42, val_main_v41, val_main_v40, val_main_v39, val_main_v38, val_main_v37, val_main_v36, val_main_v35, val_main_v34, val_main_v33, val_main_call3_v0, val_main_c, val_main_cst_2, val_main_cst_3, val_main_cst_4, val_main_cst_5, val_main_cst_6, val_main_cst_7]
  have hs : ∀ (t : S8192x5632.Idx → EReal) (k : ℕ), (∀ j, t j = tap x1 (j 0).val (j 1).val k) →
      ∑ x : Fin 8192, val_main_v30 (F := Ideal) x0 x1 x2 x3 x4 (ValueIdx.ix2 x (i 1)) * t (ValueIdx.ix2 x (i 1))
        = ∑ R : Fin 8192, dcv x0 x1 x2 x3 x4 R.val (i 1).val * tap x1 R.val (i 1).val k :=
    fun t k ht => Finset.sum_congr rfl fun R _ => congrArg₂ (· * ·) (v30_eq x0 x1 x2 x3 x4 h0 h1 h2 h3 h4 _) (ht _)
  have e0 := hs _ 0 (v0_apply x1)
  have e1 := hs _ 1 (v4_apply x1)
  have e2 := hs _ 2 (v7_apply x1)
  refine Eq.trans (b := if (i 0).val < 3 then
      ((if 2 ≤ (i 0).val ∧ (i 0).val - 2 < 1 then
          ∑ x : Fin 8192, val_main_v30 (F := Ideal) x0 x1 x2 x3 x4 (ValueIdx.ix2 x (i 1)) * val_main_v0 (F := Ideal) x1 (ValueIdx.ix2 x (i 1)) else 0)
        + if 1 ≤ (i 0).val ∧ (i 0).val - 1 < 1 then
          ∑ x : Fin 8192, val_main_v30 (F := Ideal) x0 x1 x2 x3 x4 (ValueIdx.ix2 x (i 1)) * val_main_v4 (F := Ideal) x1 (ValueIdx.ix2 x (i 1)) else 0)
        + if (i 0).val < 1 then
          ∑ x : Fin 8192, val_main_v30 (F := Ideal) x0 x1 x2 x3 x4 (ValueIdx.ix2 x (i 1)) * val_main_v7 (F := Ideal) x1 (ValueIdx.ix2 x (i 1)) else 0
      else (FloatOps.sitofp FTy.f32 0#32 : Ideal .f32)) rfl ?_
  rw [e0, e1, e2, sitofp_zero]
  unfold dw
  generalize (i 0).val = u at hi ⊢
  interval_cases u <;> simp

end Cert.GateRef
-- ==== Proof.Ffn.GateClaim.lean ====
/- The claim of the gate's backward call: over finite arrays the kernel and the reference end with the same four results. -/
module

public import proofs.«01_k».proof.Defs
public import proofs.«01_k».proof.Proof.Ffn.Finite
public import proofs.«01_k».proof.Proof.Ffn.GateRef
public import proofs.«01_k».proof.Proof.Gen.ReferenceIdeal.Run
public import proofs.«01_k».proof.Proof.Gen.Pre_finite_ffn
public import Idealize.ShloMosaic.Lib.Quiescent

@[expose] public section

namespace Cert.GateClaim

open Idealize.ShloMosaic Idealize.SL.Sem Cert.Common

/-- The precondition says that every element of the five arguments is a real. -/
theorem finite (x0 : FVec Ideal ⟨2, ![8192, 1024]⟩ .f32) (x1 : FVec Ideal ⟨2, ![8192, 5632]⟩ .bf16) (x2 : FVec Ideal ⟨2, ![3, 5632]⟩ .f32)
    (x3 : FVec Ideal ⟨2, ![1, 5632]⟩ .f32) (x4 : FVec Ideal ⟨2, ![2816, 1024]⟩ .bf16)
    (h : Cert.Pre_finite_ffn.fn (F := Ideal) x0 x1 x2 x3 x4 = fun _ => 1#1) :
    (∀ i, ∃ z : ℝ, x0 i = z) ∧ (∀ i, ∃ z : ℝ, x1 i = z) ∧ (∀ i, ∃ z : ℝ, x2 i = z) ∧ (∀ i, ∃ z : ℝ, x3 i = z)
      ∧ (∀ i, ∃ z : ℝ, x4 i = z) := by
  have h := congrFun h (fun a : Fin 0 => a.elim0)
  unfold Cert.Pre_finite_ffn.fn at h
  dsimp only at h
  unfold Cert.Pre_finite_ffn.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Cert.Finite.real_of_all _ Cert.Finite.inf_f32 x0 _ _ _ _ h0, Cert.Finite.real_of_all _ Cert.Finite.inf_bf16 x1 _ _ _ _ h1,
    Cert.Finite.real_of_all _ Cert.Finite.inf_f32 x2 _ _ _ _ h2, Cert.Finite.real_of_all _ Cert.Finite.inf_f32 x3 _ _ _ _ h3,
    Cert.Finite.real_of_all _ Cert.Finite.inf_bf16 x4 _ _ _ _ h4⟩

/-- The reference of the gate's backward call runs, keeps its arguments and leaves no semaphore counted up. -/
theorem frame1 : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Over finite arrays the kernel and the reference end with the same gradient at the convolution's output, the same product, and
    the same gradients of the convolution's weight and bias. -/
theorem algebraic1 : Cert.algebraic_KernelIdeal_ReferenceIdeal_pre_finite_ffn := by
  intro m ρ m' ρ' hpre hagree
  refine ⟨fun c => Cert.Gate.whole10 m c, fun c => Cert.Gate.whole11 m c, fun c => Cert.Gate.whole12 m c, fun c => Cert.Gate.whole13 m c, ?_, ?_⟩
  · exact (θ_run Cert.KernelIdeal.defs _ _).mono
      (fun r h c => ⟨(h c).1.trans (Cert.Gate.result10 m c), (h c).2.1.trans (Cert.Gate.result11 m c),
        (h c).2.2.1.trans (Cert.Gate.result12 m c), (h c).2.2.2.1.trans (Cert.Gate.result13 m c), (h c).2.2.2.2⟩)
      (Cert.KernelIdeal.Value.run_blocks (F := Ideal) m ρ)
  · refine (θ_run Cert.ReferenceIdeal.defs _ _).mono (fun r h c => ⟨(h c).1.trans ?_, (h c).2.1.trans ?_, (h c).2.2.1.trans ?_,
        (h c).2.2.2.1.trans ?_, (h c).2.2.2.2⟩) (Cert.ReferenceIdeal.Value.run (F := Ideal) m' ρ')
    · refine (Cert.ReferenceIdeal.Read.val_main_v47_eq _ _).trans (funext fun i => ?_)
      obtain ⟨a0, a1, a2, a3, a4⟩ := hagree c
      rw [a0, a1, a2, a3, a4]
      obtain ⟨f0, f1, f2, f3, f4⟩ := finite _ _ _ _ _ (hpre c)
      exact Cert.GateRef.v47_eq _ _ _ _ _ (Cert.Finite.real_at2 _ f0) (Cert.Finite.real_at2 _ f1) (Cert.Finite.real_at2 _ f2)
        (Cert.Finite.real_at2 _ f3) (Cert.Finite.real_at2 _ f4) i
    · refine (Cert.ReferenceIdeal.Read.val_main_v52_eq _ _).trans (funext fun i => ?_)
      obtain ⟨a0, a1, a2, a3, a4⟩ := hagree c
      rw [a1, a2, a3]
      obtain ⟨f0, f1, f2, f3, f4⟩ := finite _ _ _ _ _ (hpre c)
      exact Cert.GateRef.v52_eq _ _ _ (Cert.Finite.real_at2 _ f1) (Cert.Finite.real_at2 _ f2) (Cert.Finite.real_at2 _ f3) i
    · refine (Cert.ReferenceIdeal.Read.val_main_v53_eq _ _).trans (funext fun i => ?_)
      obtain ⟨a0, a1, a2, a3, a4⟩ := hagree c
      rw [a0, a1, a2, a3, a4]
      obtain ⟨f0, f1, f2, f3, f4⟩ := finite _ _ _ _ _ (hpre c)
      exact Cert.GateRef.v53_eq _ _ _ _ _ (Cert.Finite.real_at2 _ f0) (Cert.Finite.real_at2 _ f1) (Cert.Finite.real_at2 _ f2)
        (Cert.Finite.real_at2 _ f3) (Cert.Finite.real_at2 _ f4) i
    · refine (Cert.ReferenceIdeal.Read.val_main_v32_eq _ _).trans (funext fun i => ?_)
      obtain ⟨a0, a1, a2, a3, a4⟩ := hagree c
      rw [a0, a1, a2, a3, a4]
      obtain ⟨f0, f1, f2, f3, f4⟩ := finite _ _ _ _ _ (hpre c)
      exact Cert.GateRef.v32_eq _ _ _ _ _ (Cert.Finite.real_at2 _ f0) (Cert.Finite.real_at2 _ f1) (Cert.Finite.real_at2 _ f2)
        (Cert.Finite.real_at2 _ f3) (Cert.Finite.real_at2 _ f4) i

end Cert.GateClaim
-- ==== Proof.Ffn.ConvBwd.lean ====
/- The gradient of the causal convolution with respect to its input: what the kernel's array holds after the run, and what
   the reference computes, both as the sum over the three taps of the weight times the gradient further down the rows. -/
module

public import proofs.«01_k».proof.Proof.Ffn.Shift
public import proofs.«01_k».proof.Proof.Gen.Kernel2Ideal.Value
public import proofs.«01_k».proof.Proof.Gen.Reference2Ideal.Read

@[expose] public section

namespace Cert.ConvBwd

open Idealize.ShloMosaic Idealize.ShloMosaic.TcCoe Idealize.SL.Sem
open Cert.Kernel2Ideal Cert.Kernel2Ideal.Gen Cert.Common Cert.Shift

section Chunk
variable {F : FTy → Type} [FloatOps F]

/-- One chunk of 256 columns of the output: the gradient's tile `d`, the next tile's first rows `nx` times `s`, and the
    three rows of the weight, the last first. -/
noncomputable def chunk (s : F .f32) (d : FVec F T .bf16) (nx : FVec F H .bf16) (w2 w1 w0 : FVec F ⟨2, ![1, 256]⟩ .f32) : FVec F T .bf16 :=
  truncf .bf16 (addf (addf (mulf (broadcastTo T w2 broadcasts_S1x256_S256x256) (extf .f32 d bitsLt_bf16_f32))
    (mulf (broadcastTo T w1 broadcasts_S1x256_S256x256) (upTile 1#32 7#32 d (mulf (extf .f32 nx bitsLt_bf16_f32) (broadcast H s)))))
    (mulf (broadcastTo T w0 broadcasts_S1x256_S256x256) (upTile 2#32 6#32 d (mulf (extf .f32 nx bitsLt_bf16_f32) (broadcast H s))))) bitsLt_bf16_f32

/-- The factor of the next tile's rows: zero for the last tile and one otherwise. -/
noncomputable def factor (i : grid0.Coords) : F .f32 :=
  Scalar.select (Scalar.cmpi .eq (BitVec.ofNat 32 (i 0).val) 31#32) (Scalar.ofBits .f32 0x00000000#32) (Scalar.ofBits .f32 0x3F800000#32)

end Chunk

/-- A row of the tile, continued past its end by the next tile's rows times `s`. -/
noncomputable def row (s : EReal) (x0 : S256x2816.Idx → EReal) (x1 : S8x2816.Idx → EReal) (r q : ℕ) : EReal :=
  if r < 256 then at2 x0 r q else at2 x1 (r - 256) q * s

/-- One element of the output's block from the blocks read. -/
noncomputable def blkF (s : EReal) (x0 : S256x2816.Idx → EReal) (x1 : S8x2816.Idx → EReal) (x2 : S3x2816.Idx → EReal) (p q : ℕ) : EReal :=
  at2 x2 2 q * row s x0 x1 p q + at2 x2 1 q * row s x0 x1 (p + 1) q + at2 x2 0 q * row s x0 x1 (p + 2) q

/-- A block cut out of a matrix at an element. -/
theorem ld_at2 {a b c d : ℕ} (X : (⟨2, ![a, b]⟩ : Shape).Idx → EReal) (u o : ℕ) (h) (p q : ℕ) (hp : p < c) (hq : q < d) :
    at2 (a := c) (b := d) (fun x => X ((Rect.unit (s := ⟨2, ![a, b]⟩) ![u, o] ![c, d] h).idx x)) p q = at2 X (u + p) (o + q) := by
  rw [← at2_of_val (a := c) (b := d) _ (ValueIdx.ix2 ⟨p, hp⟩ ⟨q, hq⟩) p q rfl rfl]
  refine at2_of_val X _ _ _ ?_ ?_
  · show u + 1 * p = u + p; omega
  · show o + 1 * q = o + q; omega

/-- A chunk of the output at an element, from the blocks its operands are cut out of at column `o`. -/
theorem chunk_apply (s : EReal) (x0 : S256x2816.Idx → EReal) (x1 : S8x2816.Idx → EReal) (x2 : S3x2816.Idx → EReal) (o : ℕ)
    (h0 h1 h2 h3 h4) (j : T.Idx) :
    chunk (F := Ideal) s (fun x => x0 ((Rect.unit (s := S256x2816) ![0, o] ![256, 256] h0).idx x))
      (fun x => x1 ((Rect.unit (s := S8x2816) ![0, o] ![8, 256] h1).idx x))
      (fun x => x2 ((Rect.unit (s := S3x2816) ![2, o] ![1, 256] h2).idx x))
      (fun x => x2 ((Rect.unit (s := S3x2816) ![1, o] ![1, 256] h3).idx x))
      (fun x => x2 ((Rect.unit (s := S3x2816) ![0, o] ![1, 256] h4).idx x)) j
      = blkF s x0 x1 x2 (j 0).val (o + (j 1).val) := by
  have hj0 : (j 0).val < 256 := (j 0).isLt
  have hj1 : (j 1).val < 256 := (j 1).isLt
  have hrow : ∀ a, 1 ≤ a ∧ a ≤ 2 → upTile (F := Ideal) (BitVec.ofNat 32 a) (BitVec.ofNat 32 (8 - a))
      (fun x => x0 ((Rect.unit (s := S256x2816) ![0, o] ![256, 256] h0).idx x) : FVec Ideal T .bf16)
      (mulf (extf .f32 (fun x => x1 ((Rect.unit (s := S8x2816) ![0, o] ![8, 256] h1).idx x) : FVec Ideal H .bf16) bitsLt_bf16_f32)
        (broadcast H (s : Ideal .f32))) j = row s x0 x1 ((j 0).val + a) (o + (j 1).val) := by
    intro a ha
    rw [upTile_apply a ha]
    unfold row
    by_cases h : (j 0).val + a < 256
    · rw [if_pos h, if_pos h, ld_at2 x0 0 o h0 _ _ h hj1, Nat.zero_add]
    · rw [if_neg h, if_neg h]
      rw [← at2_of_val (a := 8) (b := 256) _ (ValueIdx.ix2 ⟨(j 0).val + a - 256, by omega⟩ ⟨(j 1).val, hj1⟩) _ _ rfl rfl]
      refine congrArg (· * s) ?_
      refine at2_of_val x1 _ _ _ ?_ ?_
      · show 0 + 1 * ((j 0).val + a - 256) = _; omega
      · show o + 1 * (j 1).val = _; omega
  have hw : ∀ (u : ℕ) (h), broadcastTo T (fun x => x2 ((Rect.unit (s := S3x2816) ![u, o] ![1, 256] h).idx x) : FVec Ideal ⟨2, ![1, 256]⟩ .f32)
      broadcasts_S1x256_S256x256 j = at2 x2 u (o + (j 1).val) := by
    intro u h
    pointwise
    exact at2_of_val x2 _ _ _ rfl rfl
  have hd : (fun x => x0 ((Rect.unit (s := S256x2816) ![0, o] ![256, 256] h0).idx x)) j = row s x0 x1 (j 0).val (o + (j 1).val) := by
    unfold row
    rw [if_pos hj0]
    refine at2_of_val x0 _ _ _ ?_ ?_
    · show 0 + 1 * (j 0).val = _; omega
    · show o + 1 * (j 1).val = _; omega
  unfold blkF
  rw [← hrow 1 (by omega), ← hrow 2 (by omega), ← hd, ← hw 2 h2, ← hw 1 h3, ← hw 0 h4]
  rfl

/-- The block the body leaves, at an element. -/
theorem out_apply (i : grid0.Coords) (x0 : Vec Ideal S256x2816 .bf16) (x1 : Vec Ideal S8x2816 .bf16) (x2 : Vec Ideal S3x2816 .f32) (y : S256x2816.Idx) :
    out0_3 i x0 x1 x2 y = blkF (factor (F := Ideal) i) x0 x1 x2 (y 0).val (y 1).val := by
  unfold out0_3
  refine View.canon_apply_of_pieces (Val := Elt Ideal) (S := S256x2816) (e := .bf16) (fun y => blkF (factor (F := Ideal) i) x0 x1 x2 (y 0).val (y 1).val) _ ?_ y (cover0_3 _ _ _ _ _ _ _ _ _ _ _ y)
  have key : ∀ (o : ℕ) (h0 h1 h2 h3 h4) (x : T.Idx),
      chunk (F := Ideal) (factor (F := Ideal) i) (fun x => x0 ((Rect.unit (s := S256x2816) ![0, o] ![256, 256] h0).idx x))
      (fun x => x1 ((Rect.unit (s := S8x2816) ![0, o] ![8, 256] h1).idx x))
      (fun x => x2 ((Rect.unit (s := S3x2816) ![2, o] ![1, 256] h2).idx x))
      (fun x => x2 ((Rect.unit (s := S3x2816) ![1, o] ![1, 256] h3).idx x))
      (fun x => x2 ((Rect.unit (s := S3x2816) ![0, o] ![1, 256] h4).idx x)) x
      = (fun y : S256x2816.Idx => blkF (factor (F := Ideal) i) x0 x1 x2 (y 0).val (y 1).val)
        ((Rect.unit (s := S256x2816) ![0, o] ![256, 256] h0).emb x) := by
    intro o h0 h1 h2 h3 h4 x
    rw [chunk_apply]
    show _ = blkF _ x0 x1 x2 (0 + 1 * (x 0).val) (o + 1 * (x 1).val)
    rw [Nat.zero_add, Nat.one_mul, Nat.one_mul]
  simp only [List.forall_mem_cons]
  refine ⟨?_, ?_, ?_, ?_, ?_, ?_, ?_, ?_, ?_, ?_, ?_, fun p hp => absurd hp List.not_mem_nil⟩ <;>
    exact fun x => key _ _ _ _ _ _ x

variable (m : (ℓ : Loc nD τ sig) → Buf (Elt Ideal) ℓ)

/-- The gradient of the convolution's output. -/
abbrev grad (c : Dev nD) : (⟨2, ![8192, 5632]⟩ : Shape).Idx → EReal := m ((c : Thread nD τ).loc main_arg0)
/-- The convolution's weight. -/
abbrev weight (c : Dev nD) : (⟨2, ![3, 5632]⟩ : Shape).Idx → EReal := m ((c : Thread nD τ).loc main_arg1)

/-- The gradient of the convolution's input at an element: over the taps, the weight times the gradient as many rows
    further down as the tap looks back. -/
noncomputable def value (d : (⟨2, ![8192, 5632]⟩ : Shape).Idx → EReal) (w : (⟨2, ![3, 5632]⟩ : Shape).Idx → EReal) (p q : ℕ) : EReal :=
  at2 w 2 q * at2 d p q + at2 w 1 q * at2 d (p + 1) q + at2 w 0 q * at2 d (p + 2) q

/-- Which blocks of the arrays a grid point reads and writes. -/
theorem idx : ∀ t : Fin cfg0.N, (win0_0.index t 0 = t.val / 2 ∧ win0_0.index t 1 = t.val % 2)
    ∧ (win0_1.index t 0 = min (32 * (t.val / 2 + 1)) 1023 ∧ win0_1.index t 1 = t.val % 2)
    ∧ (win0_2.index t 0 = 0 ∧ win0_2.index t 1 = t.val % 2)
    ∧ (win0_3.index t 0 = t.val / 2 ∧ win0_3.index t 1 = t.val % 2) ∧ (grid0.coords t 0).val = t.val / 2 :=
  (by decide +kernel : ∀ t : Fin grid0.N, _)

/-- The tile of the gradient that point `t` reads. -/
theorem iblk0 (c : Dev nD) (t : Fin cfg0.N) (j : S256x2816.Idx) :
    (iblk m c 0 t : Vec Ideal S256x2816 .bf16) j = at2 (grad m c) (256 * (t.val / 2) + (j 0).val) (2816 * (t.val % 2) + (j 1).val) := by
  obtain ⟨⟨e0, e1⟩, -, -, -, -⟩ := idx t
  unfold iblk
  rw [View.read_apply]
  refine at2_of_val (grad m c) _ _ _ ?_ ?_
  · show win0_0.index t 0 * 256 + 1 * (j 0).val = _; rw [e0]; omega
  · show win0_0.index t 1 * 2816 + 1 * (j 1).val = _; rw [e1]; omega

/-- The rows of the next tile that point `t` reads. -/
theorem iblk1 (c : Dev nD) (t : Fin cfg0.N) (j : S8x2816.Idx) :
    (iblk m c 1 t : Vec Ideal S8x2816 .bf16) j
      = at2 (grad m c) (8 * min (32 * (t.val / 2 + 1)) 1023 + (j 0).val) (2816 * (t.val % 2) + (j 1).val) := by
  obtain ⟨-, ⟨e0, e1⟩, -, -, -⟩ := idx t
  unfold iblk
  rw [View.read_apply]
  refine at2_of_val (grad m c) _ _ _ ?_ ?_
  · show win0_1.index t 0 * 8 + 1 * (j 0).val = _; rw [e0]; omega
  · show win0_1.index t 1 * 2816 + 1 * (j 1).val = _; rw [e1]; omega

/-- The columns of the weight that point `t` reads. -/
theorem iblk2 (c : Dev nD) (t : Fin cfg0.N) (j : S3x2816.Idx) :
    (iblk m c 2 t : Vec Ideal S3x2816 .f32) j = at2 (weight m c) (j 0).val (2816 * (t.val % 2) + (j 1).val) := by
  obtain ⟨-, -, ⟨e0, e1⟩, -, -⟩ := idx t
  unfold iblk
  rw [View.read_apply]
  refine at2_of_val (weight m c) _ _ _ ?_ ?_
  · show win0_2.index t 0 * 3 + 1 * (j 0).val = _; rw [e0]; omega
  · show win0_2.index t 1 * 2816 + 1 * (j 1).val = _; rw [e1]; omega

/-- The factor of the next tile's rows at point `t`. -/
theorem factor_eq (t : Fin cfg0.N) : factor (F := Ideal) (grid0.coords t) = if t.val / 2 = 31 then (0 : EReal) else 1 := by
  obtain ⟨-, -, -, -, e⟩ := idx t
  have hN : cfg0.N = 64 := N_0
  have ht : t.val / 2 < 32 := by have := t.isLt; omega
  unfold factor
  rw [e]
  generalize t.val / 2 = r at ht
  by_cases h : r = 31
  · subst h; exact Ideal.ofBits_zero_f32
  · rw [if_neg h]
    refine Eq.trans ?_ Ideal.ofBits_one_f32
    have : (Scalar.cmpi .eq (BitVec.ofNat 32 r) 31#32 : BitVec 1) = 0#1 := by
      interval_cases r <;> first | rfl | exact absurd rfl h
    rw [this]; rfl

/-- The tile continued by the next tile's rows is the gradient, further down the rows and zero past the last row. -/
theorem row_eq (c : Dev nD) (t : Fin cfg0.N) (r q : ℕ) (hr : r < 258) (hq : q < 2816) :
    row (factor (F := Ideal) (grid0.coords t)) (iblk m c 0 t) (iblk m c 1 t) r q
      = at2 (grad m c) (256 * (t.val / 2) + r) (2816 * (t.val % 2) + q) := by
  have hN : cfg0.N = 64 := N_0
  have ht : t.val < 64 := hN ▸ t.isLt
  unfold row
  by_cases h : r < 256
  · rw [if_pos h]
    exact (at2_of_val (a := 256) (b := 2816) (iblk m c 0 t) (ValueIdx.ix2 ⟨r, h⟩ ⟨q, hq⟩) r q rfl rfl).symm.trans (iblk0 m c t _)
  · rw [if_neg h, factor_eq]
    by_cases h' : t.val / 2 = 31
    · rw [if_pos h', mul_zero]
      unfold at2
      rw [dif_neg]
      omega
    · rw [if_neg h', mul_one]
      refine (at2_of_val (a := 8) (b := 2816) (iblk m c 1 t) (ValueIdx.ix2 ⟨r - 256, by omega⟩ ⟨q, hq⟩) _ q rfl rfl).symm.trans
        ((iblk1 m c t _).trans ?_)
      refine congrArg (fun k => at2 (grad m c) k _) ?_
      show 8 * min (32 * (t.val / 2 + 1)) 1023 + (r - 256) = _
      omega

/-- The array the call leaves. -/
noncomputable def whole (c : Dev nD) : Buf (Elt Ideal) ((c : Thread nD τ).loc main_v0) :=
  fun (i : S8192x5632.Idx) => (value (grad m c) (weight m c) (i 0).val (i 1).val : EReal)

/-- What point `t` writes back is its block of the gradient. -/
theorem flushed_eq (c : Dev nD) (t : Fin cfg0.N) :
    (dats m 0 c).flushed 3 t = ((cfg0.win 3).blk t).view.read (Elt Ideal) (whole m c) := by
  obtain ⟨-, -, -, ⟨e0, e1⟩, -⟩ := idx t
  rw [Value.flushed3]
  funext (y : S256x2816.Idx)
  have h0 : (y 0).val < 256 := (y 0).isLt
  have h1 : (y 1).val < 2816 := (y 1).isLt
  have hv : ((cfg0.win 3).blk t).view.read (Elt Ideal) (whole m c) y
      = value (grad m c) (weight m c) (256 * (t.val / 2) + (y 0).val) (2816 * (t.val % 2) + (y 1).val) := by
    rw [View.read_apply]
    show value (grad m c) (weight m c) (win0_3.index t 0 * 256 + 1 * (y 0).val) (win0_3.index t 1 * 2816 + 1 * (y 1).val) = _
    rw [e0, e1]
    congr 1 <;> omega
  rw [hv]
  refine (out_apply (grid0.coords t) (iblk m c 0 t) (iblk m c 1 t) (iblk m c 2 t) y).trans ?_
  have hw : ∀ u, u < 3 → at2 (a := 3) (b := 2816) (iblk m c 2 t) u (y 1).val = at2 (weight m c) u (2816 * (t.val % 2) + (y 1).val) := fun u hu =>
    (at2_of_val (a := 3) (b := 2816) (iblk m c 2 t) (ValueIdx.ix2 ⟨u, hu⟩ ⟨(y 1).val, h1⟩) u _ rfl rfl).symm.trans (iblk2 m c t _)
  unfold blkF value
  rw [row_eq m c t _ _ (by omega) h1, row_eq m c t _ _ (by omega) h1, row_eq m c t _ _ (by omega) h1,
    hw 2 (by omega), hw 1 (by omega), hw 0 (by omega), Nat.add_assoc, Nat.add_assoc]

/-- Every element of the array is in the block of some point. -/
theorem cover (i : S8192x5632.Idx) : ∃ t : Fin cfg0.N, (cfg0.win 3).flush t = true ∧ i ∈ ((cfg0.win 3).blk t).view.set := by
  have h0 : (i 0).val < 8192 := (i 0).isLt
  have h1 : (i 1).val < 5632 := (i 1).isLt
  have hN : cfg0.N = 64 := N_0
  refine ⟨⟨2 * ((i 0).val / 256) + (i 1).val / 2816, by omega⟩, flush0_3 _, ?_⟩
  generalize ht : (⟨2 * ((i 0).val / 256) + (i 1).val / 2816, _⟩ : Fin cfg0.N) = t
  have ht' : t.val = 2 * ((i 0).val / 256) + (i 1).val / 2816 := by rw [← ht]
  obtain ⟨-, -, -, ⟨e0, e1⟩, -⟩ := idx t
  show i ∈ ((View.whole main_v0).slice (win0_3.rect t)).set
  rw [View.set_slice_whole, Rect.mem_set_unit]
  intro a
  match a with
  | ⟨0, _⟩ => exact ⟨by show win0_3.index t 0 * 256 ≤ (i 0).val; rw [e0]; omega, by show (i 0).val < win0_3.index t 0 * 256 + 256; rw [e0]; omega⟩
  | ⟨1, _⟩ => exact ⟨by show win0_3.index t 1 * 2816 ≤ (i 1).val; rw [e1]; omega, by show (i 1).val < win0_3.index t 1 * 2816 + 2816; rw [e1]; omega⟩

/-- The array after the run. -/
theorem result (c : Dev nD) : (dats m 0 c).arrAt 3 cfg0.N = whole m c :=
  (dats m 0 c).arrAt_eq_of_cover 3 (whole m c) (fun t _ => flushed_eq m c t) cover

open Cert.Reference2Ideal.Read in
/-- The reference's result at an element. -/
theorem reference (x0 : S8192x5632.Idx → EReal) (x1 : S3x5632.Idx → EReal) (i : S8192x5632.Idx) :
    val_main_v38 (F := Ideal) x0 x1 i = value x0 x1 (i 0).val (i 1).val := by
  have h0 : (i 0).val < 8192 := (i 0).isLt
  have h1 : (i 1).val < 5632 := (i 1).isLt
  pointwise [val_main_v38, val_main_v37, val_main_v33, val_main_v36, val_main_v25, val_main_v32, val_main_v24, val_main_v23,
    val_main_v35, val_main_v31, val_main_v27, val_main_v29, val_main_v26, val_main_v28, val_main_v17, val_main_v13, val_main_v10,
    val_main_cst_5, val_main_cst_6]
  have hn : ∀ a u : ℕ, (hu : u < 3) → (if h : (i 0).val < 8192 - a then x1 (ValueIdx.ix2 ⟨u, hu⟩ (i 1)) * x0 (ValueIdx.ix2 ⟨a + (i 0).val, by omega⟩ (i 1)) else 0)
      = at2 x1 u (i 1).val * at2 x0 ((i 0).val + a) (i 1).val := by
    intro a u hu
    by_cases h : (i 0).val < 8192 - a
    · rw [dif_pos h]
      exact congrArg₂ (· * ·) (at2_of_val x1 _ _ _ rfl rfl) (at2_of_val x0 _ _ _ (Nat.add_comm a (i 0).val) rfl)
    · rw [dif_neg h]
      have : at2 x0 ((i 0).val + a) (i 1).val = 0 := by unfold at2; rw [dif_neg]; omega
      rw [this, mul_zero]
  unfold value
  rw [add_right_comm]
  exact congrArg₂ (· + ·) (congrArg₂ (· + ·) (congrArg₂ (· * ·) (at2_of_val x1 _ _ _ rfl rfl) (at2_of_val x0 _ _ _ rfl rfl))
    (hn 1 1 (by omega))) (hn 2 0 (by omega))

end Cert.ConvBwd
-- ==== Proof.Ffn.DwDown.lean ====
/- The gradient of the down-projection's weights: the call `dw_down` sums, over sixteen tiles of 512 tokens, the products
   of the gated activations and the block's gradient, and its reference is the product over all 8192 tokens. -/
module

public import proofs.«01_k».proof.Proof.Ffn.Common
public import proofs.«01_k».proof.Proof.Gen.Kernel4Ideal.Value
public import proofs.«01_k».proof.Proof.Gen.Reference4Ideal.Read

@[expose] public section

noncomputable section

namespace Cert.DwDown

open Cert.Kernel4Ideal Cert.Kernel4Ideal.Gen Idealize.ShloMosaic Idealize.ShloMosaic.TcCoe Idealize.SL.Sem
open Cert.Common

variable (m : (ℓ : Loc nD τ sig) → Buf (Elt Ideal) ℓ)

/-- The gated activations, one row per token. -/
abbrev act (c : Dev nD) : (⟨2, ![8192, 2816]⟩ : Shape).Idx → EReal := m ((c : Thread nD τ).loc main_arg0)
/-- The gradient of the block's output, one row per token. -/
abbrev grad (c : Dev nD) : (⟨2, ![8192, 1024]⟩ : Shape).Idx → EReal := m ((c : Thread nD τ).loc main_arg1)

/-- Which tile of the two operands a grid point reads. -/
theorem idx_in : ∀ t : Fin cfg0.N, win0_0.index t 0 = t.val % 16 ∧ win0_0.index t 1 = t.val / 16
    ∧ win0_1.index t 0 = t.val % 16 ∧ win0_1.index t 1 = 0 :=
  (by decide +kernel : ∀ t : Fin grid0.N, _)

/-- The tile of the activations that point `t` reads. -/
theorem iblk0 (c : Dev nD) (t : Fin cfg0.N) (j : S512x1408.Idx) :
    (iblk m c 0 t : Vec Ideal S512x1408 .bf16) j
      = at2 (act m c) (512 * (t.val % 16) + (j 0).val) (1408 * (t.val / 16) + (j 1).val) := by
  obtain ⟨e0, e1, -, -⟩ := idx_in t
  unfold iblk
  rw [View.read_apply]
  refine at2_of_val (act m c) _ _ _ ?_ ?_
  · show win0_0.index t 0 * 512 + 1 * (j 0).val = _; rw [e0]; omega
  · show win0_0.index t 1 * 1408 + 1 * (j 1).val = _; rw [e1]; omega

/-- The tile of the gradient that point `t` reads. -/
theorem iblk1 (c : Dev nD) (t : Fin cfg0.N) (j : S512x1024.Idx) :
    (iblk m c 1 t : Vec Ideal S512x1024 .f32) j = at2 (grad m c) (512 * (t.val % 16) + (j 0).val) (j 1).val := by
  obtain ⟨-, -, e0, e1⟩ := idx_in t
  unfold iblk
  rw [View.read_apply]
  refine at2_of_val (grad m c) _ _ _ ?_ ?_
  · show win0_1.index t 0 * 512 + 1 * (j 0).val = _; rw [e0]; omega
  · show win0_1.index t 1 * 1024 + 1 * (j 1).val = _; rw [e1]; omega

/-- The product of one token's activation and gradient that enters the weight in row `p` and column `q`. -/
def term (c : Dev nD) (p q k : ℕ) : EReal := at2 (act m c) k p * at2 (grad m c) k q

/-- What one grid point adds to the block: the sum over its 512 tokens. -/
theorem pay (c : Dev nD) (t : Fin cfg0.N) (acc : Vec Ideal S1408x1024 .f32) (i : S1408x1024.Idx) :
    k0_pay2 acc (iblk m c 0 t) (iblk m c 1 t) i
      = acc i + ∑ r : Fin 512, term m c (1408 * (t.val / 16) + (i 0).val) (i 1).val (512 * (t.val % 16) + r.val) := by
  unfold k0_pay2
  simp only [shapeCast_self]
  refine congrArg (acc i + ·) ?_
  refine (matmul_sum dot_S512x1408_S512x1024_S1408x1024_0_0_1_1_n_n 512 rfl rfl none _ _ _ i
    (fun k => at2 (act m c) (512 * (t.val % 16) + k) (1408 * (t.val / 16) + (i 0).val))
    (fun k => at2 (grad m c) (512 * (t.val % 16) + k) (i 1).val) (fun k => ?_) (fun k => ?_)).trans ?_
  · exact iblk0 m c t _
  · exact iblk1 m c t _
  · show Ideal.ofBits .f32 0x00000000#32 + _ = _
    rw [Ideal.ofBits_zero_f32, zero_add]
    rfl

/-- The weight's gradient that the call leaves: the sum over all 8192 tokens. -/
theorem result (c : Dev nD) (i : S2816x1024.Idx) :
    Value.G2 m c i = ∑ k : Fin 8192, term m c (i 0).val (i 1).val k.val := by
  have h0 : (i 0).val < 2816 := (i 0).isLt
  have h1 : (i 1).val < 1024 := (i 1).isLt
  have hN : cfg0.N = 32 := N_0
  have hR : Value.run2Of i = (i 0).val / 1408 := by unfold Value.run2Of; omega
  unfold Value.G2
  rw [dif_pos (by rw [hR, hN]; omega)]
  refine (Pipeline.accAt_add_apply (Value.reset2 m c) (Value.step2 m c) (fun _ => 0)
    (fun n j => ∑ r : Fin 512, term m c (1408 * (n / 16) + (j 0).val) (j 1).val (512 * (n % 16) + r.val))
    (16 * Value.run2Of i) 15 (fun h j => ?_) (fun n h acc j _ _ => ?_) 15 le_rfl _ _).trans ?_
  · refine (pay m c ⟨_, h⟩ _ j).trans (congrArg (· + _) ?_)
    exact Ideal.ofBits_zero_f32
  · exact pay m c ⟨n, h⟩ acc j
  · rw [zero_add, hR]
    refine (Finset.sum_congr rfl fun s hs => ?_).trans (sum_tiles 16 512 (term m c (i 0).val (i 1).val))
    have hs' : s < 16 := Finset.mem_range.mp hs
    refine Finset.sum_congr rfl fun r _ => ?_
    have e0 : 1408 * ((16 * ((i 0).val / 1408) + s) / 16) + (i 0).val % 1408 = (i 0).val := by omega
    have e1 : (i 1).val % 1024 = (i 1).val := by omega
    have e2 : (16 * ((i 0).val / 1408) + s) % 16 = s := by omega
    show term m c (1408 * ((16 * ((i 0).val / 1408) + s) / 16) + (i 0).val % 1408) ((i 1).val % 1024) _ = _
    rw [e0, e1, e2]

/-- The reference's gradient at an element: the same sum. -/
theorem reference (x0 : (⟨2, ![8192, 2816]⟩ : Shape).Idx → EReal) (x1 : (⟨2, ![8192, 1024]⟩ : Shape).Idx → EReal)
    (i : S2816x1024.Idx) :
    Reference4Ideal.Read.val_main_v4 (F := Ideal) x0 x1 i
      = ∑ k : Fin 8192, at2 x0 k.val (i 0).val * at2 x1 k.val (i 1).val := by
  rw [Reference4Ideal.Read.val_main_v4_apply, Reference4Ideal.Read.val_main_v3_apply]
  refine Finset.sum_congr rfl fun k _ => ?_
  rw [Reference4Ideal.Read.val_main_v1_apply, mul_comm]
  refine congrArg₂ (· * ·) ?_ ?_
  · exact at2_of_val x0 _ _ _ rfl rfl
  · exact at2_of_val x1 _ _ _ rfl rfl

end Cert.DwDown

end
-- ==== Proof.Ffn.DwUp.lean ====
/- The gradient of the up-projection's weights: the call `dw_up` sums, for each quarter of the weight's columns, over
   sixteen tiles of 512 tokens the products of the normalised input and the pre-activation's gradient, and its reference
   is the product over all 8192 tokens, cut into the four quarters. -/
module

public import proofs.«01_k».proof.Proof.Ffn.Common
public import proofs.«01_k».proof.Proof.Gen.Kernel5Ideal.Value
public import proofs.«01_k».proof.Proof.Gen.Reference5Ideal.Read
public import Idealize.ShloMosaic.Lib.ValueLayout

@[expose] public section

noncomputable section

namespace Cert.DwUp

open Cert.Kernel5Ideal Cert.Kernel5Ideal.Gen Idealize.ShloMosaic Idealize.ShloMosaic.TcCoe Idealize.SL.Sem
open Cert.Common

variable (m : (ℓ : Loc nD τ sig) → Buf (Elt Ideal) ℓ)

/-- The normalised input of the up-projection, one row per token. -/
abbrev inp (c : Dev nD) : (⟨2, ![8192, 1024]⟩ : Shape).Idx → EReal := m ((c : Thread nD τ).loc main_arg0)
/-- The gradient of the up-projection's output, one row per token. -/
abbrev grad (c : Dev nD) : (⟨2, ![8192, 5632]⟩ : Shape).Idx → EReal := m ((c : Thread nD τ).loc main_arg1)

/-- Which tile of the two operands a grid point reads. -/
theorem idx_in : ∀ t : Fin cfg0.N, win0_0.index t 0 = t.val % 16 ∧ win0_0.index t 1 = 0
    ∧ win0_1.index t 0 = t.val % 16 ∧ win0_1.index t 1 = t.val / 16 :=
  (by decide +kernel : ∀ t : Fin grid0.N, _)

/-- The tile of the input that point `t` reads. -/
theorem iblk0 (c : Dev nD) (t : Fin cfg0.N) (j : S512x1024.Idx) :
    (iblk m c 0 t : Vec Ideal S512x1024 .bf16) j = at2 (inp m c) (512 * (t.val % 16) + (j 0).val) (j 1).val := by
  obtain ⟨e0, e1, -, -⟩ := idx_in t
  unfold iblk
  rw [View.read_apply]
  refine at2_of_val (inp m c) _ _ _ ?_ ?_
  · show win0_0.index t 0 * 512 + 1 * (j 0).val = _; rw [e0]; omega
  · show win0_0.index t 1 * 1024 + 1 * (j 1).val = _; rw [e1]; omega

/-- The tile of the gradient that point `t` reads. -/
theorem iblk1 (c : Dev nD) (t : Fin cfg0.N) (j : S512x1408.Idx) :
    (iblk m c 1 t : Vec Ideal S512x1408 .bf16) j
      = at2 (grad m c) (512 * (t.val % 16) + (j 0).val) (1408 * (t.val / 16) + (j 1).val) := by
  obtain ⟨-, -, e0, e1⟩ := idx_in t
  unfold iblk
  rw [View.read_apply]
  refine at2_of_val (grad m c) _ _ _ ?_ ?_
  · show win0_1.index t 0 * 512 + 1 * (j 0).val = _; rw [e0]; omega
  · show win0_1.index t 1 * 1408 + 1 * (j 1).val = _; rw [e1]; omega

/-- The product of one token's input and gradient that enters the weight in row `p` and column `q`. -/
def term (c : Dev nD) (p q k : ℕ) : EReal := at2 (inp m c) k p * at2 (grad m c) k q

/-- What one grid point adds to the block: the sum over its 512 tokens. -/
theorem pay (c : Dev nD) (t : Fin cfg0.N) (acc : Vec Ideal S1x1024x1408 .f32) (i : S1x1024x1408.Idx) :
    k0_pay2 acc (iblk m c 0 t) (iblk m c 1 t) i
      = acc i + ∑ r : Fin 512, term m c (i 1).val (1408 * (t.val / 16) + (i 2).val) (512 * (t.val % 16) + r.val) := by
  obtain ⟨u, p, q, rfl⟩ : ∃ (u : Fin 1) (p : Fin 1024) (q : Fin 1408), i = ValueIdx.ix3 u p q :=
    ⟨i 0, i 1, i 2, ValueIdx.eq_ix3 i⟩
  obtain rfl : u = 0 := Subsingleton.elim _ _
  unfold k0_pay2
  refine (ValueIdx.shapeCast_ab_1ab_apply _ _ _ p q).trans (congrArg₂ (· + ·) ?_ ?_)
  · exact ValueIdx.shapeCast_1ab_ab_apply acc _ p q
  refine (matmul_sum dot_S512x1024_S512x1408_S1024x1408_0_0_1_1_n_n 512 rfl rfl none _ _ _ (ValueIdx.ix2 p q)
    (fun k => at2 (inp m c) (512 * (t.val % 16) + k) p.val)
    (fun k => at2 (grad m c) (512 * (t.val % 16) + k) (1408 * (t.val / 16) + q.val)) (fun k => ?_) (fun k => ?_)).trans ?_
  · exact iblk0 m c t _
  · exact iblk1 m c t _
  · show Ideal.ofBits .f32 0x00000000#32 + _ = _
    rw [Ideal.ofBits_zero_f32, zero_add]
    rfl

/-- The weight's gradient that the call leaves, by quarters: the sum over all 8192 tokens. -/
theorem result (c : Dev nD) (i : S4x1024x1408.Idx) :
    Value.G2 m c i = ∑ k : Fin 8192, term m c (i 1).val (1408 * (i 0).val + (i 2).val) k.val := by
  have h0 : (i 0).val < 4 := (i 0).isLt
  have h1 : (i 1).val < 1024 := (i 1).isLt
  have h2 : (i 2).val < 1408 := (i 2).isLt
  have hN : cfg0.N = 64 := N_0
  have hR : Value.run2Of i = (i 0).val := by unfold Value.run2Of; omega
  unfold Value.G2
  rw [dif_pos (by rw [hR, hN]; omega)]
  refine (Pipeline.accAt_add_apply (Value.reset2 m c) (Value.step2 m c) (fun _ => 0)
    (fun n j => ∑ r : Fin 512, term m c (j 1).val (1408 * (n / 16) + (j 2).val) (512 * (n % 16) + r.val))
    (16 * Value.run2Of i) 15 (fun h j => ?_) (fun n h acc j _ _ => ?_) 15 le_rfl _ _).trans ?_
  · refine (pay m c ⟨_, h⟩ _ j).trans (congrArg (· + _) ?_)
    exact Ideal.ofBits_zero_f32
  · exact pay m c ⟨n, h⟩ acc j
  · rw [zero_add, hR]
    refine (Finset.sum_congr rfl fun s hs => ?_).trans
      (sum_tiles 16 512 (term m c (i 1).val (1408 * (i 0).val + (i 2).val)))
    have hs' : s < 16 := Finset.mem_range.mp hs
    refine Finset.sum_congr rfl fun r _ => ?_
    have e0 : (i 1).val % 1024 = (i 1).val := by omega
    have e1 : 1408 * ((16 * (i 0).val + s) / 16) + (i 2).val % 1408 = 1408 * (i 0).val + (i 2).val := by omega
    have e2 : (16 * (i 0).val + s) % 16 = s := by omega
    show term m c ((i 1).val % 1024) (1408 * ((16 * (i 0).val + s) / 16) + (i 2).val % 1408) _ = _
    rw [e0, e1, e2]

section reference

open Reference5Ideal.Read

variable (x0 : (⟨2, ![8192, 1024]⟩ : Shape).Idx → EReal) (x1 : (⟨2, ![8192, 5632]⟩ : Shape).Idx → EReal)

/-- The reference's gradient before it is cut into quarters, at row `p` and column `q`. -/
theorem whole (i : Reference5Ideal.S1024x5632.Idx) (p q : ℕ) (hp : (i 0).val = p) (hq : (i 1).val = q) :
    val_main_v5 (F := Ideal) x0 x1 i = ∑ k : Fin 8192, at2 x0 k.val p * at2 x1 k.val q := by
  rw [val_main_v5_apply, val_main_v4_apply]
  refine Finset.sum_congr rfl fun k _ => ?_
  rw [mul_comm]
  refine congrArg₂ (· * ·) ?_ ?_
  · exact at2_of_val x0 _ _ _ rfl hp
  · exact at2_of_val x1 _ _ _ rfl hq

/-- The reference's gradient at an element of the quarters: the same sum. -/
theorem reference (i : S4x1024x1408.Idx) :
    val_main_v14 (F := Ideal) x0 x1 i
      = ∑ k : Fin 8192, at2 x0 k.val (i 1).val * at2 x1 k.val (1408 * (i 0).val + (i 2).val) := by
  have hc := concatenate_ofFn_unit_apply (t := S4x1024x1408) (s₁ := S1x1024x1408) 0 (N := 4)
    ![val_main_v10 (F := Ideal) x0 x1, val_main_v11 (F := Ideal) x0 x1, val_main_v12 (F := Ideal) x0 x1,
      val_main_v13 (F := Ideal) x0 x1]
    Reference5Ideal.Facts₀.concatenates_S1x1024x1408_S1x1024x1408_S1x1024x1408_S1x1024x1408_S4x1024x1408_d0 rfl rfl i (i 0) rfl
    (ValueIdx.ix3 0 (i 1) (i 2)) (fun b hb => by fin_cases b <;> first | rfl | exact absurd rfl hb)
  refine Eq.trans hc ?_
  generalize hq : i 0 = q
  fin_cases q
  · exact (val_main_v10_apply (F := Ideal) x0 x1 _).trans ((val_main_v6_apply (F := Ideal) x0 x1 _).trans (whole x0 x1 _ _ _ rfl
      (by show (i 2).val = 1408 * 0 + (i 2).val; omega)))
  · exact (val_main_v11_apply (F := Ideal) x0 x1 _).trans ((val_main_v7_apply (F := Ideal) x0 x1 _).trans (whole x0 x1 _ _ _ rfl
      (by show 1408 + (i 2).val = 1408 * 1 + (i 2).val; omega)))
  · exact (val_main_v12_apply (F := Ideal) x0 x1 _).trans ((val_main_v8_apply (F := Ideal) x0 x1 _).trans (whole x0 x1 _ _ _ rfl
      (by show 2816 + (i 2).val = 1408 * 2 + (i 2).val; omega)))
  · exact (val_main_v13_apply (F := Ideal) x0 x1 _).trans ((val_main_v9_apply (F := Ideal) x0 x1 _).trans (whole x0 x1 _ _ _ rfl
      (by show 4224 + (i 2).val = 1408 * 3 + (i 2).val; omega)))

end reference

end Cert.DwUp

end
-- ==== Proof.Ffn.Linear.lean ====
/- The claims of the three calls that need no precondition: the gradient of the convolution's input, and the gradients of
   the down-projection's and the up-projection's weights. -/
module

public import proofs.«01_k».proof.Defs
public import proofs.«01_k».proof.Proof.Ffn.ConvBwd
public import proofs.«01_k».proof.Proof.Ffn.DwDown
public import proofs.«01_k».proof.Proof.Ffn.DwUp
public import proofs.«01_k».proof.Proof.Gen.Reference2Ideal.Run
public import proofs.«01_k».proof.Proof.Gen.Reference4Ideal.Run
public import proofs.«01_k».proof.Proof.Gen.Reference5Ideal.Run
public import Idealize.ShloMosaic.Lib.Quiescent

@[expose] public section

namespace Cert.Linear

open Idealize.ShloMosaic Idealize.SL.Sem

/-- The reference of the convolution's gradient runs, keeps its arguments and leaves no semaphore counted up. -/
theorem frame2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of the down-projection's weight gradient runs, keeps its arguments and leaves no semaphore counted up. -/
theorem frame4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference of the up-projection's weight gradient runs, keeps its arguments and leaves no semaphore counted up. -/
theorem frame5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The convolution's gradient: kernel and reference end with the same array. -/
theorem algebraic2 : Cert.algebraic_Kernel2Ideal_Reference2Ideal := by
  intro m ρ m' ρ' _ hagree
  refine ⟨fun c => Cert.ConvBwd.whole m c, ?_, ?_⟩
  · exact (θ_run Cert.Kernel2Ideal.defs _ _).mono (fun r h c => ⟨(h c).1.trans (Cert.ConvBwd.result m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Value.run (F := Ideal) m' ρ')
    refine (Cert.Reference2Ideal.Read.val_main_v38_eq _ _).trans (funext fun i => ?_)
    rw [(hagree c).1, (hagree c).2]
    exact Cert.ConvBwd.reference _ _ i

/-- The down-projection's weight gradient: kernel and reference end with the same array. -/
theorem algebraic4 : Cert.algebraic_Kernel4Ideal_Reference4Ideal := by
  intro m ρ m' ρ' _ hagree
  refine ⟨fun c => Cert.Kernel4Ideal.Value.G2 m c, Cert.Kernel4Ideal.Value.run (F := Ideal) m ρ, ?_⟩
  refine (θ_run Cert.Reference4Ideal.defs _ _).mono (fun r h c => ⟨(h c).1.trans ?_, (h c).2⟩)
    (Cert.Reference4Ideal.Value.run (F := Ideal) m' ρ')
  refine (Cert.Reference4Ideal.Read.val_main_v4_eq _ _).trans (funext fun i => ?_)
  rw [(hagree c).1, (hagree c).2]
  exact (Cert.DwDown.reference _ _ i).trans (Cert.DwDown.result m c i).symm

/-- The up-projection's weight gradient: kernel and reference end with the same array. -/
theorem algebraic5 : Cert.algebraic_Kernel5Ideal_Reference5Ideal := by
  intro m ρ m' ρ' _ hagree
  refine ⟨fun c => Cert.Kernel5Ideal.Value.G2 m c, Cert.Kernel5Ideal.Value.run (F := Ideal) m ρ, ?_⟩
  refine (θ_run Cert.Reference5Ideal.defs _ _).mono (fun r h c => ⟨(h c).1.trans ?_, (h c).2⟩)
    (Cert.Reference5Ideal.Value.run (F := Ideal) m' ρ')
  refine (Cert.Reference5Ideal.Read.val_main_v14_eq _ _).trans (funext fun i => ?_)
  rw [(hagree c).1, (hagree c).2]
  exact (Cert.DwUp.reference _ _ i).trans (Cert.DwUp.result m c i).symm

end Cert.Linear
-- ==== Proof.Ffn.Up.lean ====
/- The claim of the up projection's backward call: over finite arrays the kernel and the reference end with the same two
   gradients. -/
module

public import proofs.«01_k».proof.Defs
public import proofs.«01_k».proof.Proof.Ffn.Finite
public import proofs.«01_k».proof.Proof.Ffn.UpBwd
public import proofs.«01_k».proof.Proof.Gen.Reference3Ideal.Run
public import proofs.«01_k».proof.Proof.Gen.Pre_finite_up
public import Idealize.ShloMosaic.Lib.Quiescent

@[expose] public section

namespace Cert.Up

open Idealize.ShloMosaic Idealize.SL.Sem Cert.Common

/-- The precondition says that every element of the five arguments is a real. -/
theorem finite (x0 : FVec Ideal ⟨2, ![8192, 5632]⟩ .bf16) (x1 : FVec Ideal ⟨3, ![4, 1024, 1408]⟩ .bf16) (x2 : FVec Ideal ⟨2, ![8192, 1024]⟩ .f32)
    (x3 : FVec Ideal ⟨2, ![1, 1024]⟩ .f32) (x4 : FVec Ideal ⟨2, ![8192, 1024]⟩ .f32)
    (h : Cert.Pre_finite_up.fn (F := Ideal) x0 x1 x2 x3 x4 = fun _ => 1#1) :
    (∀ i, ∃ z : ℝ, x0 i = z) ∧ (∀ i, ∃ z : ℝ, x1 i = z) ∧ (∀ i, ∃ z : ℝ, x2 i = z) ∧ (∀ i, ∃ z : ℝ, x3 i = z)
      ∧ (∀ i, ∃ z : ℝ, x4 i = z) := by
  have h := congrFun h (fun a : Fin 0 => a.elim0)
  unfold Cert.Pre_finite_up.fn at h
  dsimp only at h
  unfold Cert.Pre_finite_up.fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Cert.Finite.real_of_all _ Cert.Finite.inf_bf16 x0 _ _ _ _ h0, Cert.Finite.real_of_all _ Cert.Finite.inf_bf16 x1 _ _ _ _ h1,
    Cert.Finite.real_of_all _ Cert.Finite.inf_f32 x2 _ _ _ _ h2, Cert.Finite.real_of_all _ Cert.Finite.inf_f32 x3 _ _ _ _ h3,
    Cert.Finite.real_of_all _ Cert.Finite.inf_f32 x4 _ _ _ _ h4⟩

/-- The reference of the up projection's backward call runs, keeps its arguments and leaves no semaphore counted up. -/
theorem frame3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Over finite arrays the kernel and the reference end with the same gradient of the input and of the norm's gain. -/
theorem algebraic3 : Cert.algebraic_Kernel3Ideal_Reference3Ideal_pre_finite_up := by
  intro m ρ m' ρ' hpre hagree
  refine ⟨fun c => Cert.UpBwd.whole5 m c, fun c => Cert.UpBwd.whole6 m c, ?_, ?_⟩
  · exact (θ_run Cert.Kernel3Ideal.defs _ _).mono
      (fun r h c => ⟨(h c).1.trans (Cert.UpBwd.result5 m c), (h c).2.1.trans (Cert.UpBwd.result6 m c), (h c).2.2⟩)
      (Cert.Kernel3Ideal.Value.run_blocks (F := Ideal) m ρ)
  · refine (θ_run Cert.Reference3Ideal.defs _ _).mono (fun r h c => ⟨(h c).1.trans ?_, (h c).2.1.trans ?_, (h c).2.2⟩)
      (Cert.Reference3Ideal.Value.run (F := Ideal) m' ρ')
    · refine (Cert.Reference3Ideal.Read.val_main_v47_eq _ _).trans (funext fun i => ?_)
      obtain ⟨a0, a1, a2, a3, a4⟩ := hagree c
      rw [a0, a1, a2, a3, a4]
      obtain ⟨f0, f1, f2, f3, f4⟩ := finite _ _ _ _ _ (hpre c)
      refine (congrArg _ (ValueIdx.eq_ix2 i)).trans ((Cert.UpBwd.reference_dx _ _ _ _ _ _ _).trans ?_)
      exact Cert.UpBwd.inp_eq _ _ _ _ _ _ _ (Cert.Finite.real_at2 _ f0) (Cert.Finite.real_at3 _ f1) (Cert.Finite.real_at2 _ f2)
        (Cert.Finite.real_at2 _ f3) (Cert.Finite.real_at2 _ f4)
    · refine (Cert.Reference3Ideal.Read.val_main_v30_eq _ _ _).trans (funext fun i => ?_)
      obtain ⟨a0, a1, a2, a3, a4⟩ := hagree c
      rw [a0, a1, a2]
      exact Cert.UpBwd.reference_dg _ _ _ i

end Cert.Up
-- ==== Proof.Step.UpProj.lean ====
/- The up projection: each grid point computes the product of 512 rows with one quarter of the weight, and the reference the
   product with the joined quarters. -/
module

public import proofs.«01_k».proof.Proof.Ffn.Common
public import proofs.«01_k».proof.Proof.Gen.Kernel6Ideal.Value
public import proofs.«01_k».proof.Proof.Gen.Reference6Ideal.Read
public import Idealize.ShloMosaic.Lib.Pointwise
public import proofs.«01_k».proof.Proof.Ffn.UpBwd

@[expose] public section

namespace Cert.UpProj

open Idealize.ShloMosaic Idealize.ShloMosaic.TcCoe Idealize.SL.Sem
open Cert.Kernel6Ideal Cert.Kernel6Ideal.Gen Cert.Common

theorem hz : (![0, 0] : Fin 2 → Nat) = fun _ => 0 := funext fun a => by fin_cases a <;> rfl

theorem hz3 : (![0, 0, 0] : Fin 3 → Nat) = fun _ => 0 := funext fun a => by fin_cases a <;> rfl

/-- The product at row `p` and column `q`. -/
noncomputable def value (H : S8192x1024.Idx → EReal) (W : S4x1024x1408.Idx → EReal) (p q : ℕ) : EReal :=
  ∑ x : Fin 1024, at2 H p x.val * at3 W (q / 1408) x.val (q % 1408)

variable (m : (ℓ : Loc nD τ sig) → Buf (Elt Ideal) ℓ)

/-- The normalised input, one row per token. -/
abbrev gH (c : Dev nD) : S8192x1024.Idx → EReal := m ((c : Thread nD τ).loc main_arg0)
/-- The weight, in quarters of columns. -/
abbrev gW (c : Dev nD) : S4x1024x1408.Idx → EReal := m ((c : Thread nD τ).loc main_arg1)

/-- Which block of each array a grid point reads or writes. -/
theorem idx : ∀ t : Fin cfg0.N, (win0_0.index t 0 = t.val % 16 ∧ win0_0.index t 1 = 0)
    ∧ (win0_1.index t 0 = t.val / 16 ∧ win0_1.index t 1 = 0 ∧ win0_1.index t 2 = 0)
    ∧ (win0_2.index t 0 = t.val % 16 ∧ win0_2.index t 1 = t.val / 16) :=
  (by decide +kernel : ∀ t : Fin grid0.N, _)

/-- The part of the normalised input that point `t` reads. -/
theorem iblk0 (c : Dev nD) (t : Fin cfg0.N) (j : S512x1024.Idx) :
    (iblk m c 0 t : Vec Ideal S512x1024 .bf16) j = at2 (gH m c) (512 * (t.val % 16) + (j 0).val) (j 1).val := by
  obtain ⟨⟨e0, e1⟩, -⟩ := idx t
  unfold iblk
  rw [View.read_apply]
  refine at2_of_val (gH m c) _ _ _ ?_ ?_
  · show win0_0.index t 0 * 512 + 1 * (j 0).val = _; rw [e0]; omega
  · show win0_0.index t 1 * 1024 + 1 * (j 1).val = _; rw [e1]; omega

/-- The part of the weight that point `t` reads. -/
theorem iblk1 (c : Dev nD) (t : Fin cfg0.N) (j : S1x1024x1408.Idx) :
    (iblk m c 1 t : Vec Ideal S1x1024x1408 .bf16) j = at3 (gW m c) (1 * (t.val / 16) + (j 0).val) (j 1).val (j 2).val := by
  obtain ⟨-, ⟨e0, e1, e2⟩, -⟩ := idx t
  unfold iblk
  rw [View.read_apply]
  refine at3_of_val (gW m c) _ _ _ _ ?_ ?_ ?_
  · show win0_1.index t 0 * 1 + 1 * (j 0).val = _; rw [e0]; omega
  · show win0_1.index t 1 * 1024 + 1 * (j 1).val = _; rw [e1]; omega
  · show win0_1.index t 2 * 1408 + 1 * (j 2).val = _; rw [e2]; omega

/-- What point `t` computes, at an element of its block. -/
theorem out (c : Dev nD) (t : Fin cfg0.N) (y : S512x1408.Idx) :
    out0_2 (F := Ideal) (iblk m c 0 t) (iblk m c 1 t) y = value (gH m c) (gW m c) (512 * (t.val % 16) + (y 0).val) (1408 * (t.val / 16) + (y 1).val) := by
  have h1 : (y 1).val < 1408 := (y 1).isLt
  unfold out0_2 r0_0 r0_1 r0_2
  rw [View.canon_unit_zero hz, View.ld_unit_zero (S := S512x1024) hz, View.ld_unit_zero (S := S1x1024x1408) hz3]
  generalize hx0 : (iblk m c 0 t : Vec Ideal S512x1024 .bf16) = x0
  generalize hx1 : (iblk m c 1 t : Vec Ideal S1x1024x1408 .bf16) = x1
  have e0 : ∀ j, x0 j = _ := fun j => hx0 ▸ iblk0 m c t j
  have e1 : ∀ j, x1 j = _ := fun j => hx1 ▸ iblk1 m c t j
  unfold k0_pay1
  pointwise []
  simp only [e0, e1]
  refine Finset.sum_congr rfl fun x _ => congrArg₂ (· * ·) rfl ?_
  have a1 : (1408 * (t.val / 16) + (y 1).val) / 1408 = t.val / 16 := by omega
  have a2 : (1408 * (t.val / 16) + (y 1).val) % 1408 = (y 1).val := by omega
  rw [a1, a2]
  show at3 _ (1 * (t.val / 16) + 0) _ _ = _
  rw [Nat.one_mul]
  rfl

/-- The array that the call leaves in its result. -/
noncomputable def whole2 (c : Dev nD) : Buf (Elt Ideal) ((c : Thread nD τ).loc main_v0) :=
  fun (i : S8192x5632.Idx) => (value (gH m c) (gW m c) (i 0).val (i 1).val : EReal)

/-- What point `t` writes back is its block of that array. -/
theorem flushed_eq2 (c : Dev nD) (t : Fin cfg0.N) :
    (dats m 0 c).flushed 2 t = ((cfg0.win 2).blk t).view.read (Elt Ideal) (whole2 m c) := by
  obtain ⟨-, -, ⟨e0, e1⟩⟩ := idx t
  rw [Value.flushed2]
  funext (y : S512x1408.Idx)
  have h0 : (y 0).val < 512 := (y 0).isLt
  have h1 : (y 1).val < 1408 := (y 1).isLt
  have hv : ((cfg0.win 2).blk t).view.read (Elt Ideal) (whole2 m c) y = value (gH m c) (gW m c) (512 * (t.val % 16) + (y 0).val) (1408 * (t.val / 16) + (y 1).val) := by
    rw [View.read_apply, cast_eq]
    show value (gH m c) (gW m c) (win0_2.index t 0 * 512 + 1 * (y 0).val) (win0_2.index t 1 * 1408 + 1 * (y 1).val) = _
    rw [e0, e1]
    congr 1 <;> omega
  rw [hv]
  exact out m c t y

/-- Every element of the array is in the block of some point. -/
theorem cover2 (i : S8192x5632.Idx) : ∃ t : Fin cfg0.N, (cfg0.win 2).flush t = true ∧ i ∈ ((cfg0.win 2).blk t).view.set := by
  have h0 : (i 0).val < 8192 := (i 0).isLt
  have h1 : (i 1).val < 5632 := (i 1).isLt
  have hN : cfg0.N = 64 := N_0
  refine ⟨⟨16 * ((i 1).val / 1408) + (i 0).val / 512, by omega⟩, flush0_2 _, ?_⟩
  generalize ht : (⟨16 * ((i 1).val / 1408) + (i 0).val / 512, _⟩ : Fin cfg0.N) = t
  have ht' : t.val = 16 * ((i 1).val / 1408) + (i 0).val / 512 := by rw [← ht]
  obtain ⟨-, -, ⟨e0, e1⟩⟩ := idx t
  show i ∈ ((View.whole main_v0).slice (win0_2.rect t)).set
  rw [View.set_slice_whole, Rect.mem_set_unit]
  intro a
  match a with
  | ⟨0, _⟩ => exact ⟨by show win0_2.index t 0 * 512 ≤ (i 0).val; rw [e0]; omega, by show (i 0).val < win0_2.index t 0 * 512 + 512; rw [e0]; omega⟩
  | ⟨1, _⟩ => exact ⟨by show win0_2.index t 1 * 1408 ≤ (i 1).val; rw [e1]; omega, by show (i 1).val < win0_2.index t 1 * 1408 + 1408; rw [e1]; omega⟩

/-- The array after the run. -/
theorem result2 (c : Dev nD) : (dats m 0 c).arrAt 2 cfg0.N = whole2 m c :=
  (dats m 0 c).arrAt_eq_of_cover 2 (whole2 m c) (fun t _ => flushed_eq2 m c t) cover2

open Cert.Reference6Ideal.Read in
/-- The reference's product at an element. -/
theorem reference (x0 : S8192x1024.Idx → EReal) (x1 : S4x1024x1408.Idx → EReal) (i : S8192x5632.Idx) :
    val_main_v12 (F := Ideal) x0 x1 i = value x0 x1 (i 0).val (i 1).val := by
  pointwise [val_main_v12, val_main_v11, val_main_v10, val_main_v9, val_main_v8, val_main_v7, val_main_v6, val_main_v5, val_main_v4, val_main_v3, val_main_v2, val_main_v1, val_main_v0]
  exact Finset.sum_congr rfl fun x _ => congrArg₂ (· * ·) (at2_of_val x0 (ValueIdx.ix2 (i 0) x) (i 0).val x.val rfl rfl) (Cert.UpBwd.quarter x1 x (i 1))

end Cert.UpProj
-- ==== Proof.Step.OutBwd.lean ====
/- The gradient through the output projection: each grid point multiplies 512 rows with the transposed weight. -/
module

public import proofs.«01_k».proof.Proof.Ffn.Common
public import proofs.«01_k».proof.Proof.Gen.Kernel7Ideal.Value
public import proofs.«01_k».proof.Proof.Gen.Reference7Ideal.Read
public import Idealize.ShloMosaic.Lib.Pointwise

@[expose] public section

namespace Cert.OutBwd

open Idealize.ShloMosaic Idealize.ShloMosaic.TcCoe Idealize.SL.Sem
open Cert.Kernel7Ideal Cert.Kernel7Ideal.Gen Cert.Common

theorem hz : (![0, 0] : Fin 2 → Nat) = fun _ => 0 := funext fun a => by fin_cases a <;> rfl

/-- The gradient at row `p` and column `q`. -/
noncomputable def value (D : S8192x1024.Idx → EReal) (W : S1024x1024.Idx → EReal) (p q : ℕ) : EReal :=
  ∑ x : Fin 1024, at2 D p x.val * at2 W q x.val

variable (m : (ℓ : Loc nD τ sig) → Buf (Elt Ideal) ℓ)

/-- The gradient at the projection's output, one row per token. -/
abbrev gD (c : Dev nD) : S8192x1024.Idx → EReal := m ((c : Thread nD τ).loc main_arg0)
/-- The weight. -/
abbrev gW (c : Dev nD) : S1024x1024.Idx → EReal := m ((c : Thread nD τ).loc main_arg1)

/-- Which block of each array a grid point reads or writes. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

/-- The part of the gradient that point `t` reads. -/
theorem iblk0 (c : Dev nD) (t : Fin cfg0.N) (j : S512x1024.Idx) :
    (iblk m c 0 t : Vec Ideal S512x1024 .f32) j = at2 (gD m c) (512 * t.val + (j 0).val) (j 1).val := by
  obtain ⟨⟨e0, e1⟩, -⟩ := idx t
  unfold iblk
  rw [View.read_apply]
  refine at2_of_val (gD m c) _ _ _ ?_ ?_
  · show win0_0.index t 0 * 512 + 1 * (j 0).val = _; rw [e0]; omega
  · show win0_0.index t 1 * 1024 + 1 * (j 1).val = _; rw [e1]; omega

/-- The part of the weight that point `t` reads. -/
theorem iblk1 (c : Dev nD) (t : Fin cfg0.N) (j : S1024x1024.Idx) :
    (iblk m c 1 t : Vec Ideal S1024x1024 .bf16) j = at2 (gW m c) (j 0).val (j 1).val := by
  obtain ⟨-, ⟨e0, e1⟩, -⟩ := idx t
  unfold iblk
  rw [View.read_apply]
  refine at2_of_val (gW m c) _ _ _ ?_ ?_
  · show win0_1.index t 0 * 1024 + 1 * (j 0).val = _; rw [e0]; omega
  · show win0_1.index t 1 * 1024 + 1 * (j 1).val = _; rw [e1]; omega

/-- What point `t` computes, at an element of its block. -/
theorem out (c : Dev nD) (t : Fin cfg0.N) (y : S512x1024.Idx) :
    out0_2 (F := Ideal) (iblk m c 0 t) (iblk m c 1 t) y = value (gD m c) (gW m c) (512 * t.val + (y 0).val) (y 1).val := by
  unfold out0_2 r0_0 r0_1
  rw [View.canon_unit_zero hz, View.ld_unit_zero (S := S512x1024) hz, View.ld_unit_zero (S := S1024x1024) hz]
  generalize hx0 : (iblk m c 0 t : Vec Ideal S512x1024 .f32) = x0
  generalize hx1 : (iblk m c 1 t : Vec Ideal S1024x1024 .bf16) = x1
  have e0 : ∀ j, x0 j = _ := fun j => hx0 ▸ iblk0 m c t j
  have e1 : ∀ j, x1 j = _ := fun j => hx1 ▸ iblk1 m c t j
  unfold k0_pay1
  pointwise []
  simp only [e0, e1]
  rfl

/-- The array that the call leaves in its result. -/
noncomputable def whole2 (c : Dev nD) : Buf (Elt Ideal) ((c : Thread nD τ).loc main_v0) :=
  fun (i : S8192x1024.Idx) => (value (gD m c) (gW m c) (i 0).val (i 1).val : EReal)

/-- What point `t` writes back is its block of that array. -/
theorem flushed_eq2 (c : Dev nD) (t : Fin cfg0.N) :
    (dats m 0 c).flushed 2 t = ((cfg0.win 2).blk t).view.read (Elt Ideal) (whole2 m c) := by
  obtain ⟨-, -, ⟨e0, e1⟩⟩ := idx t
  rw [Value.flushed2]
  funext (y : S512x1024.Idx)
  have h0 : (y 0).val < 512 := (y 0).isLt
  have h1 : (y 1).val < 1024 := (y 1).isLt
  have hv : ((cfg0.win 2).blk t).view.read (Elt Ideal) (whole2 m c) y = value (gD m c) (gW m c) (512 * t.val + (y 0).val) (y 1).val := by
    rw [View.read_apply, cast_eq]
    show value (gD m c) (gW m c) (win0_2.index t 0 * 512 + 1 * (y 0).val) (win0_2.index t 1 * 1024 + 1 * (y 1).val) = _
    rw [e0, e1]
    congr 1 <;> omega
  rw [hv]
  exact out m c t y

/-- Every element of the array is in the block of some point. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 16 := N_0
  refine ⟨⟨(i 0).val / 512, by omega⟩, flush0_2 _, ?_⟩
  generalize ht : (⟨(i 0).val / 512, _⟩ : Fin cfg0.N) = t
  have ht' : t.val = (i 0).val / 512 := by rw [← ht]
  obtain ⟨-, -, ⟨e0, e1⟩⟩ := idx t
  show i ∈ ((View.whole main_v0).slice (win0_2.rect t)).set
  rw [View.set_slice_whole, Rect.mem_set_unit]
  intro a
  match a with
  | ⟨0, _⟩ => exact ⟨by show win0_2.index t 0 * 512 ≤ (i 0).val; rw [e0]; omega, by show (i 0).val < win0_2.index t 0 * 512 + 512; rw [e0]; omega⟩
  | ⟨1, _⟩ => exact ⟨by show win0_2.index t 1 * 1024 ≤ (i 1).val; rw [e1]; omega, by show (i 1).val < win0_2.index t 1 * 1024 + 1024; rw [e1]; omega⟩

/-- The array after the run. -/
theorem result2 (c : Dev nD) : (dats m 0 c).arrAt 2 cfg0.N = whole2 m c :=
  (dats m 0 c).arrAt_eq_of_cover 2 (whole2 m c) (fun t _ => flushed_eq2 m c t) cover2

open Cert.Reference7Ideal.Read in
/-- The reference's gradient at an element. -/
theorem reference (x0 : S8192x1024.Idx → EReal) (x1 : S1024x1024.Idx → EReal) (i : S8192x1024.Idx) :
    val_main_v4 (F := Ideal) x0 x1 i = value x0 x1 (i 0).val (i 1).val := by
  pointwise [val_main_v4, val_main_v3, val_main_v2, val_main_v1, val_main_v0]
  exact Finset.sum_congr rfl fun x _ => congrArg₂ (· * ·) (at2_of_val x0 (ValueIdx.ix2 (i 0) x) (i 0).val x.val rfl rfl)
    (at2_of_val x1 (ValueIdx.ix2 (i 1) x) (i 1).val x.val rfl rfl)

end Cert.OutBwd
-- ==== Proof.Step.Accum.lean ====
/- A block of a matrix written in parts: what the parts stored so far hold, and what a load of a part not yet stored reads. -/
module

public import Idealize.ShloMosaic.Lib.Pointwise
public import proofs.«01_k».proof.Proof.Ffn.Common

@[expose] public section

namespace Cert.Accum

open Idealize.ShloMosaic Idealize.ShloMosaic.TcCoe Idealize.SL.Sem

variable {m n a b o p : ℕ} {Val : EltTy → Type} [∀ e, Nonempty (Val e)] {e : EltTy}

/-- The rectangle of `a` rows and `b` columns from row `o` and column `p`. -/
abbrev part (inb : ∀ x, (![o, p] : Fin 2 → ℕ) x + (![a, b] : Fin 2 → ℕ) x ≤ (⟨2, ![m, n]⟩ : Shape).size x) : Rect ⟨2, ![m, n]⟩ :=
  Rect.unit (s := ⟨2, ![m, n]⟩) ![o, p] ![a, b] inb

/-- An element lies in the rectangle exactly when its row and column do. -/
theorem mem_part (inb : ∀ x, (![o, p] : Fin 2 → ℕ) x + (![a, b] : Fin 2 → ℕ) x ≤ (⟨2, ![m, n]⟩ : Shape).size x) (y : (⟨2, ![m, n]⟩ : Shape).Idx) :
    y ∈ (part inb).set ↔ (o ≤ (y 0).val ∧ (y 0).val < o + a) ∧ (p ≤ (y 1).val ∧ (y 1).val < p + b) := by
  rw [Rect.mem_set_unit]
  constructor
  · intro h
    exact ⟨h 0, h 1⟩
  · rintro ⟨h0, h1⟩ x
    match x with
    | ⟨0, _⟩ => exact h0
    | ⟨1, _⟩ => exact h1

/-- A stored part that holds `N` extends the region on which the block holds `N`. -/
theorem stored (inb : ∀ x, (![o, p] : Fin 2 → ℕ) x + (![a, b] : Fin 2 → ℕ) x ≤ (⟨2, ![m, n]⟩ : Shape).size x) (w : (⟨2, ![a, b]⟩ : Shape).Idx → Val e)
    (L : List (View.Piece Val ⟨2, ![m, n]⟩ e)) (N : ℕ → ℕ → Val e) (D E : ℕ → ℕ → Prop)
    (hL : ∀ y : (⟨2, ![m, n]⟩ : Shape).Idx, D (y 0).val (y 1).val → (View.canon L y) = N (y 0).val (y 1).val)
    (hw : ∀ j, w j = N (o + (j 0).val) (p + (j 1).val))
    (hD : ∀ u v, u < m → v < n → E u v → ((o ≤ u ∧ u < o + a) ∧ (p ≤ v ∧ v < p + b)) ∨ D u v) (y : (⟨2, ![m, n]⟩ : Shape).Idx)
    (hy : E (y 0).val (y 1).val) : (View.canon (⟨part inb, w⟩ :: L : List (View.Piece Val ⟨2, ![m, n]⟩ e)) y) = N (y 0).val (y 1).val := by
  have y0 : (y 0).val < m := (y 0).isLt
  have y1 : (y 1).val < n := (y 1).isLt
  by_cases h : y ∈ (part inb).set
  · obtain ⟨h0, h1⟩ := (mem_part inb y).mp h
    obtain ⟨j, j0, j1⟩ : ∃ j : (⟨2, ![a, b]⟩ : Shape).Idx, (j 0).val = (y 0).val - o ∧ (j 1).val = (y 1).val - p :=
      ⟨ValueIdx.ix2 ⟨(y 0).val - o, by omega⟩ ⟨(y 1).val - p, by omega⟩, rfl, rfl⟩
    have hj : (part inb).emb j = y := funext fun x => Fin.ext (by
      match x with
      | ⟨0, _⟩ => show o + 1 * (j 0).val = (y 0).val; omega
      | ⟨1, _⟩ => show p + 1 * (j 1).val = (y 1).val; omega)
    have hw' := hw j
    rw [j0, j1, Nat.add_sub_cancel' h0.1, Nat.add_sub_cancel' h1.1] at hw'
    rw [← hw', ← hj]
    exact View.canon_cons_emb (part inb) w L j
  · refine (View.canon_cons_of_not_mem (⟨part inb, w⟩ : View.Piece Val ⟨2, ![m, n]⟩ e) L h).trans (hL y ?_)
    rcases hD _ _ y0 y1 hy with h' | h'
    · exact absurd ((mem_part inb y).mpr h') h
    · exact h'

/-- Outside the stored parts the block is what it was. -/
theorem kept (inb : ∀ x, (![o, p] : Fin 2 → ℕ) x + (![a, b] : Fin 2 → ℕ) x ≤ (⟨2, ![m, n]⟩ : Shape).size x) (w : (⟨2, ![a, b]⟩ : Shape).Idx → Val e)
    (L : List (View.Piece Val ⟨2, ![m, n]⟩ e)) (B : ℕ → ℕ → Val e) (D E : ℕ → ℕ → Prop)
    (hL : ∀ y : (⟨2, ![m, n]⟩ : Shape).Idx, D (y 0).val (y 1).val → (View.canon L y) = B (y 0).val (y 1).val)
    (hD : ∀ u v, E u v → D u v ∧ ¬((o ≤ u ∧ u < o + a) ∧ (p ≤ v ∧ v < p + b))) (y : (⟨2, ![m, n]⟩ : Shape).Idx)
    (hy : E (y 0).val (y 1).val) : (View.canon (⟨part inb, w⟩ :: L : List (View.Piece Val ⟨2, ![m, n]⟩ e)) y) = B (y 0).val (y 1).val := by
  have h := hD _ _ hy
  have hn : y ∉ (part inb).set := fun h' => h.2 ((mem_part inb y).mp h')
  exact (View.canon_cons_of_not_mem (⟨part inb, w⟩ : View.Piece Val ⟨2, ![m, n]⟩ e) L hn).trans (hL y h.1)

/-- A load of a part on which the block holds `B`. -/
theorem load {sig : RefSig} {κ : Kind} {sp : Space} (v : View sig κ sp (⟨2, ![m, n]⟩ : Shape) e)
    (inb : ∀ x, (![o, p] : Fin 2 → ℕ) x + (![a, b] : Fin 2 → ℕ) x ≤ (⟨2, ![m, n]⟩ : Shape).size x)
    (L : List (View.Piece Val ⟨2, ![m, n]⟩ e)) (B : ℕ → ℕ → Val e) (D : ℕ → ℕ → Prop)
    (hL : ∀ y : (⟨2, ![m, n]⟩ : Shape).Idx, D (y 0).val (y 1).val → (View.canon L y) = B (y 0).val (y 1).val)
    (j : (⟨2, ![a, b]⟩ : Shape).Idx) (hj : D (o + 1 * (j 0).val) (p + 1 * (j 1).val)) :
    (v.readCov L (part inb).toLoadRect j) = B (o + (j 0).val) (p + (j 1).val) := by
  rw [View.readCov_eq_canon']
  refine (hL ((part inb).toLoadRect.idx j) hj).trans ?_
  show B (o + 1 * (j 0).val) (p + 1 * (j 1).val) = _
  rw [Nat.one_mul, Nat.one_mul]

end Cert.Accum
-- ==== Proof.Step.DwOut.lean ====
/- The gradient of the output projection's weight: each grid point adds the products of 512 tokens to two halves of the block;
   the reference multiplies the joined mixers with the gradient over all tokens. -/
module

public import proofs.«01_k».proof.Proof.Ffn.Common
public import proofs.«01_k».proof.Proof.Gen.Kernel8Ideal.Value
public import proofs.«01_k».proof.Proof.Gen.Reference8Ideal.Read
public import Idealize.ShloMosaic.Lib.Pointwise
public import proofs.«01_k».proof.Proof.Step.Accum

@[expose] public section

namespace Cert.DwOut

open Idealize.ShloMosaic Idealize.ShloMosaic.TcCoe Idealize.SL.Sem
open Cert.Accum Cert.Kernel8Ideal Cert.Kernel8Ideal.Gen Cert.Common

theorem hz : (![0, 0] : Fin 2 → Nat) = fun _ => 0 := funext fun a => by fin_cases a <;> rfl

/-- The two mixers' outputs side by side, at token `k` and column `p`. -/
noncomputable def left (A B : S8192x512.Idx → EReal) (k p : ℕ) : EReal := if p < 512 then at2 A k p else at2 B k (p - 512)

/-- The product that token `k` gives to the gradient in row `p` and column `q`. -/
noncomputable def term (A B : S8192x512.Idx → EReal) (X : S8192x1024.Idx → EReal) (p q k : ℕ) : EReal := left A B k p * at2 X k q

/-- The part of the sum that the 512 tokens of tile `s` give. -/
noncomputable def tile (A : S8192x512.Idx → EReal) (B : S8192x512.Idx → EReal) (X : S8192x1024.Idx → EReal) (s p q : ℕ) : EReal :=
  ∑ r : Fin 512, term A B X p q (512 * s + r.val)

section Step
variable (A : S8192x512.Idx → EReal) (B : S8192x512.Idx → EReal) (X : S8192x1024.Idx → EReal)
variable (s : ℕ) (x0 : Vec Ideal S512x512 .bf16) (x1 : Vec Ideal S512x512 .bf16) (x2 : Vec Ideal S512x1024 .f32)
variable (h0 : ∀ j, x0 j = at2 A (512 * s + (j 0).val) (j 1).val) (h1 : ∀ j, x1 j = at2 B (512 * s + (j 0).val) (j 1).val) (h2 : ∀ j, x2 j = at2 X (512 * s + (j 0).val) (j 1).val)
variable (v : View sig .tc .vmem S1024x1024 .f32) (y : S1024x1024.Idx)

include h0 h2 in
/-- What the store of part 1 writes: what was there plus the tile's products. -/
theorem pay1_apply (acc : Vec Ideal S512x1024 .f32) (j : S512x1024.Idx) :
    k0_pay3 (F := Ideal) x2 acc x0 j = acc j + tile A B X s (0 + (j 0).val) (0 + (j 1).val) := by
  have j0 : (j 0).val < 512 := (j 0).isLt
  have j1 : (j 1).val < 1024 := (j 1).isLt
  unfold k0_pay3 k0_pay2
  pointwise []
  refine congrArg (acc j + ·) (Finset.sum_congr rfl fun r _ => (congrArg₂ (· * ·) (h0 _) (h2 _)).trans ?_)
  show at2 A (512 * s + r.val) (j 0).val * at2 X (512 * s + r.val) (j 1).val = _
  unfold term left
  rw [if_pos (by omega)]

include h1 h2 in
/-- What the store of part 2 writes: what was there plus the tile's products. -/
theorem pay2_apply (acc : Vec Ideal S512x1024 .f32) (j : S512x1024.Idx) :
    k0_pay4 (F := Ideal) x2 acc x1 j = acc j + tile A B X s (512 + (j 0).val) (0 + (j 1).val) := by
  have j0 : (j 0).val < 512 := (j 0).isLt
  have j1 : (j 1).val < 1024 := (j 1).isLt
  unfold k0_pay4 k0_pay2
  pointwise []
  refine congrArg (acc j + ·) (Finset.sum_congr rfl fun r _ => (congrArg₂ (· * ·) (h1 _) (h2 _)).trans ?_)
  show at2 B (512 * s + r.val) (j 0).val * at2 X (512 * s + r.val) (j 1).val = _
  unfold term left
  rw [if_neg (by omega)]
  simp only [Nat.zero_add, Nat.add_sub_cancel_left]

/-- The stores of the first point: the zeros, -/
noncomputable def first0 : List (View.Piece (Elt Ideal) S1024x1024 .f32) :=
  [⟨Rect.unit (s := S1024x1024) ![0, 0] S1024x1024.size inb_S1024x1024_S1024x1024_0_0, k0_pay1 (F := Ideal)⟩]

/-- which hold zero everywhere. -/
theorem first0_zero (_ : True) : (View.canon first0 y : EReal) = 0 := by
  unfold first0
  rw [View.canon_unit_zero hz]
  exact Ideal.ofBits_zero_f32

/-- then part 1. -/
noncomputable def first1 (v : View sig .tc .vmem S1024x1024 .f32) (x0 : Vec Ideal S512x512 .bf16) (x1 : Vec Ideal S512x512 .bf16) (x2 : Vec Ideal S512x1024 .f32) : List (View.Piece (Elt Ideal) S1024x1024 .f32) :=
  ⟨(Rect.unit (s := S1024x1024) ![0, 0] S512x1024.size inb_S1024x1024_S512x1024_0_0), k0_pay3 (F := Ideal) x2 (v.readCov first0 (Rect.unit (s := S1024x1024) ![0, 0] S512x1024.size inb_S1024x1024_S512x1024_0_0).toLoadRect) x0⟩ :: first0

/-- The rest still holds zero. -/
theorem first1_zero (hy : 512 ≤ (y 0).val) : (View.canon (first1 v x0 x1 x2) y : EReal) = 0 :=
  kept (m := 1024) (n := 1024) (o := 0) (p := 0) (a := 512) (b := 1024) inb_S1024x1024_S512x1024_0_0 _ first0 (fun _ _ => 0) (fun u _ => 0 ≤ u) (fun u _ => 512 ≤ u) (fun y h => first0_zero y trivial)
    (fun u w h => by constructor <;> omega) y hy

include h0 h1 h2 in
/-- The parts stored so far hold the tile's sums. -/
theorem first1_apply (hy : (y 0).val < 512) : (View.canon (first1 v x0 x1 x2) y : EReal) = tile A B X s (y 0).val (y 1).val :=
  stored (m := 1024) (n := 1024) (o := 0) (p := 0) (a := 512) (b := 1024) inb_S1024x1024_S512x1024_0_0 _ first0 (tile A B X s) (fun u _ => u < 0) (fun u _ => u < 512) (fun _ h => absurd h (Nat.not_lt_zero _))
    (fun j => by
      refine (pay1_apply A B X s x0 x2 h0 h2 _ j).trans ?_
      refine (congrArg (· + _) (load (m := 1024) (n := 1024) (o := 0) (p := 0) (a := 512) (b := 1024) v inb_S1024x1024_S512x1024_0_0 first0 (fun _ _ => 0) (fun u _ => 0 ≤ u) (fun y h => first0_zero y trivial) j (by dsimp only; omega))).trans ?_
      exact zero_add _)
    (fun u w hu hw h => by omega) y hy

/-- then part 2. -/
noncomputable def first2 (v : View sig .tc .vmem S1024x1024 .f32) (x0 : Vec Ideal S512x512 .bf16) (x1 : Vec Ideal S512x512 .bf16) (x2 : Vec Ideal S512x1024 .f32) : List (View.Piece (Elt Ideal) S1024x1024 .f32) :=
  ⟨(Rect.unit (s := S1024x1024) ![512, 0] S512x1024.size inb_S1024x1024_S512x1024_512_0), k0_pay4 (F := Ideal) x2 (v.readCov (first1 v x0 x1 x2) (Rect.unit (s := S1024x1024) ![512, 0] S512x1024.size inb_S1024x1024_S512x1024_512_0).toLoadRect) x1⟩ :: (first1 v x0 x1 x2)

/-- The rest still holds zero. -/
theorem first2_zero (hy : 1024 ≤ (y 0).val) : (View.canon (first2 v x0 x1 x2) y : EReal) = 0 :=
  kept (m := 1024) (n := 1024) (o := 512) (p := 0) (a := 512) (b := 1024) inb_S1024x1024_S512x1024_512_0 _ (first1 v x0 x1 x2) (fun _ _ => 0) (fun u _ => 512 ≤ u) (fun u _ => 1024 ≤ u) (first1_zero x0 x1 x2 v)
    (fun u w h => by constructor <;> omega) y hy

include h0 h1 h2 in
/-- The parts stored so far hold the tile's sums. -/
theorem first2_apply (hy : (y 0).val < 1024) : (View.canon (first2 v x0 x1 x2) y : EReal) = tile A B X s (y 0).val (y 1).val :=
  stored (m := 1024) (n := 1024) (o := 512) (p := 0) (a := 512) (b := 1024) inb_S1024x1024_S512x1024_512_0 _ (first1 v x0 x1 x2) (tile A B X s) (fun u _ => u < 512) (fun u _ => u < 1024) (first1_apply A B X s x0 x1 x2 h0 h1 h2 v)
    (fun j => by
      refine (pay2_apply A B X s x1 x2 h1 h2 _ j).trans ?_
      refine (congrArg (· + _) (load (m := 1024) (n := 1024) (o := 512) (p := 0) (a := 512) (b := 1024) v inb_S1024x1024_S512x1024_512_0 (first1 v x0 x1 x2) (fun _ _ => 0) (fun u _ => 512 ≤ u) (first1_zero x0 x1 x2 v) j (by dsimp only; omega))).trans ?_
      exact zero_add _)
    (fun u w hu hw h => by omega) y hy

variable (xo : Vec Ideal S1024x1024 .f32)

/-- The stores of a later point: nothing, -/
noncomputable def later0 : List (View.Piece (Elt Ideal) S1024x1024 .f32) := []

/-- then part 1. -/
noncomputable def later1 (x0 : Vec Ideal S512x512 .bf16) (x1 : Vec Ideal S512x512 .bf16) (x2 : Vec Ideal S512x1024 .f32) (xo : Vec Ideal S1024x1024 .f32) : List (View.Piece (Elt Ideal) S1024x1024 .f32) :=
  ⟨(Rect.unit (s := S1024x1024) ![0, 0] S512x1024.size inb_S1024x1024_S512x1024_0_0), k0_pay3 (F := Ideal) x2 (View.ld (Val := Elt Ideal) xo (Rect.unit (s := S1024x1024) ![0, 0] S512x1024.size inb_S1024x1024_S512x1024_0_0)) x0⟩ :: later0

include h0 h1 h2 in
/-- The parts stored so far hold what was there plus the tile's sums. -/
theorem later1_apply (y : S1024x1024.Idx) (hy : (y 0).val < 512) :
    (View.canon (later1 x0 x1 x2 xo) y : EReal) = at2 xo (y 0).val (y 1).val + tile A B X s (y 0).val (y 1).val :=
  stored (m := 1024) (n := 1024) (o := 0) (p := 0) (a := 512) (b := 1024) inb_S1024x1024_S512x1024_0_0 _ later0 (fun u w => at2 xo u w + tile A B X s u w) (fun u _ => u < 0) (fun u _ => u < 512) (fun _ h => absurd h (Nat.not_lt_zero _))
    (fun j => by
      refine (pay1_apply A B X s x0 x2 h0 h2 _ j).trans (congrArg (· + _) ?_)
      refine at2_of_val xo _ _ _ ?_ ?_
      · show 0 + 1 * (j 0).val = _; omega
      · show 0 + 1 * (j 1).val = _; omega)
    (fun u w hu hw h => by omega) y hy

/-- then part 2. -/
noncomputable def later2 (x0 : Vec Ideal S512x512 .bf16) (x1 : Vec Ideal S512x512 .bf16) (x2 : Vec Ideal S512x1024 .f32) (xo : Vec Ideal S1024x1024 .f32) : List (View.Piece (Elt Ideal) S1024x1024 .f32) :=
  ⟨(Rect.unit (s := S1024x1024) ![512, 0] S512x1024.size inb_S1024x1024_S512x1024_512_0), k0_pay4 (F := Ideal) x2 (View.ld (Val := Elt Ideal) xo (Rect.unit (s := S1024x1024) ![512, 0] S512x1024.size inb_S1024x1024_S512x1024_512_0)) x1⟩ :: (later1 x0 x1 x2 xo)

include h0 h1 h2 in
/-- The parts stored so far hold what was there plus the tile's sums. -/
theorem later2_apply (y : S1024x1024.Idx) (hy : (y 0).val < 1024) :
    (View.canon (later2 x0 x1 x2 xo) y : EReal) = at2 xo (y 0).val (y 1).val + tile A B X s (y 0).val (y 1).val :=
  stored (m := 1024) (n := 1024) (o := 512) (p := 0) (a := 512) (b := 1024) inb_S1024x1024_S512x1024_512_0 _ (later1 x0 x1 x2 xo) (fun u w => at2 xo u w + tile A B X s u w) (fun u _ => u < 512) (fun u _ => u < 1024) (later1_apply A B X s x0 x1 x2 h0 h1 h2 xo)
    (fun j => by
      refine (pay2_apply A B X s x1 x2 h1 h2 _ j).trans (congrArg (· + _) ?_)
      refine at2_of_val xo _ _ _ ?_ ?_
      · show 512 + 1 * (j 0).val = _; omega
      · show 0 + 1 * (j 1).val = _; omega)
    (fun u w hu hw h => by omega) y hy

end Step

section Cases

/-- What the first point leaves: its stores. -/
theorem outA (c : Dev nD) (i : grid0.Coords) (a1 : Memref sig .tc .vmem S512x512 .bf16) (h1 : a1.IsWhole) (a2 : Memref sig .tc .vmem S512x512 .bf16) (h2 : a2.IsWhole) (a3 : Memref sig .tc .vmem S512x1024 .f32) (h3 : a3.IsWhole) (a4 : Memref sig .tc .vmem S1024x1024 .f32) (h4 : a4.IsWhole) (hc : cond0_0 i) (x0 : Vec Ideal S512x512 .bf16) (x1 : Vec Ideal S512x512 .bf16) (x2 : Vec Ideal S512x1024 .f32) :
    out0_A_3 (F := Ideal) c i a1 h1 a2 h2 a3 h3 a4 h4 hc x0 x1 x2 = View.canon (first2 a4.view x0 x1 x2) := by
  unfold out0_A_3
  rw [View.read_writes_eq_canon _ _ _ (cover0_A_3 c i a1 h1 a2 h2 a3 h3 a4 h4 hc x0 x1 x2)]
  unfold kernelRun0_A
  dsimp only
  sl_unfold_words
  simp only [View.readAt_eq_ld, h1.read_unread, h2.read_unread, h3.read_unread, h4.read_unread, View.ld_unit_zero (S := S512x1024) hz, View.ld_unit_zero (S := S512x512) hz]
  rfl

/-- What the a later point leaves: its stores. -/
theorem outB (c : Dev nD) (i : grid0.Coords) (a1 : Memref sig .tc .vmem S512x512 .bf16) (h1 : a1.IsWhole) (a2 : Memref sig .tc .vmem S512x512 .bf16) (h2 : a2.IsWhole) (a3 : Memref sig .tc .vmem S512x1024 .f32) (h3 : a3.IsWhole) (a4 : Memref sig .tc .vmem S1024x1024 .f32) (h4 : a4.IsWhole) (hc : ¬cond0_0 i) (x0 : Vec Ideal S512x512 .bf16) (x1 : Vec Ideal S512x512 .bf16) (x2 : Vec Ideal S512x1024 .f32) (xo : Vec Ideal S1024x1024 .f32) :
    out0_B_3 (F := Ideal) c i a1 h1 a2 h2 a3 h3 a4 h4 hc x0 x1 x2 xo = View.canon (later2 x0 x1 x2 xo) := by
  unfold out0_B_3
  rw [View.read_writes_eq_canon _ _ _ (cover0_B_3 c i a1 h1 a2 h2 a3 h3 a4 h4 hc x0 x1 x2 xo)]
  unfold kernelRun0_B
  dsimp only
  sl_unfold_words
  simp only [View.readAt_eq_ld, h1.read_unread, h2.read_unread, h3.read_unread, h4.read_unread, View.ld_unit_zero (S := S512x1024) hz, View.ld_unit_zero (S := S512x512) hz]
  rfl

end Cases

variable (m : (ℓ : Loc nD τ sig) → Buf (Elt Ideal) ℓ)

/-- The first mixer's output, one row per token. -/
abbrev gA (c : Dev nD) : S8192x512.Idx → EReal := m ((c : Thread nD τ).loc main_arg0)
/-- The second mixer's output, one row per token. -/
abbrev gB (c : Dev nD) : S8192x512.Idx → EReal := m ((c : Thread nD τ).loc main_arg1)
/-- The gradient of the residual stream, one row per token. -/
abbrev gX (c : Dev nD) : S8192x1024.Idx → EReal := m ((c : Thread nD τ).loc main_arg2)

/-- Which block of each array a grid point reads or writes. -/
theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0) :=
  (by decide +kernel : ∀ t : Fin grid0.N, _)

/-- The part of the first mixer's output that point `t` reads. -/
theorem iblk0 (c : Dev nD) (t : Fin cfg0.N) (j : S512x512.Idx) :
    (iblk m c 0 t : Vec Ideal S512x512 .bf16) j = at2 (gA m c) (512 * t.val + (j 0).val) (j 1).val := by
  obtain ⟨⟨e0, e1⟩, -⟩ := idx t
  unfold iblk
  rw [View.read_apply]
  refine at2_of_val (gA m c) _ _ _ ?_ ?_
  · show win0_0.index t 0 * 512 + 1 * (j 0).val = _; rw [e0]; omega
  · show win0_0.index t 1 * 512 + 1 * (j 1).val = _; rw [e1]; omega

/-- The part of the second mixer's output that point `t` reads. -/
theorem iblk1 (c : Dev nD) (t : Fin cfg0.N) (j : S512x512.Idx) :
    (iblk m c 1 t : Vec Ideal S512x512 .bf16) j = at2 (gB m c) (512 * t.val + (j 0).val) (j 1).val := by
  obtain ⟨-, ⟨e0, e1⟩, -⟩ := idx t
  unfold iblk
  rw [View.read_apply]
  refine at2_of_val (gB m c) _ _ _ ?_ ?_
  · show win0_1.index t 0 * 512 + 1 * (j 0).val = _; rw [e0]; omega
  · show win0_1.index t 1 * 512 + 1 * (j 1).val = _; rw [e1]; omega

/-- The part of the gradient that point `t` reads. -/
theorem iblk2 (c : Dev nD) (t : Fin cfg0.N) (j : S512x1024.Idx) :
    (iblk m c 2 t : Vec Ideal S512x1024 .f32) j = at2 (gX m c) (512 * t.val + (j 0).val) (j 1).val := by
  obtain ⟨-, -, ⟨e0, e1⟩, -⟩ := idx t
  unfold iblk
  rw [View.read_apply]
  refine at2_of_val (gX m c) _ _ _ ?_ ?_
  · show win0_2.index t 0 * 512 + 1 * (j 0).val = _; rw [e0]; omega
  · show win0_2.index t 1 * 1024 + 1 * (j 1).val = _; rw [e1]; omega

/-- What the block holds after point `n`: the sum over the tiles so far. -/
theorem outs (c : Dev nD) : ∀ (n : ℕ) (hn : n < cfg0.N) (j : S1024x1024.Idx),
    (outsAt0 m c n hn j : EReal) = ∑ s ∈ Finset.range (n + 1), tile (gA m c) (gB m c) (gX m c) s (j 0).val (j 1).val
  | 0, hn, j => by
    rw [outsAt0_A m c ⟨0, hn⟩ rfl, outA]
    rw [Finset.sum_range_one]
    exact first2_apply _ _ _ _ (iblk m c 0 ⟨0, hn⟩) (iblk m c 1 ⟨0, hn⟩) (iblk m c 2 ⟨0, hn⟩) (iblk0 m c ⟨0, hn⟩) (iblk1 m c ⟨0, hn⟩) (iblk2 m c ⟨0, hn⟩) _ j (j 0).isLt
  | n + 1, hn, j => by
    have hN : cfg0.N = 16 := N_0
    have hB : ¬(⟨n + 1, hn⟩ : Fin cfg0.N).val % 16 = 0 := by dsimp only; omega
    rw [outsAt0_B m c ⟨n + 1, hn⟩ hB, outB]
    refine (later2_apply _ _ _ _ (iblk m c 0 ⟨n + 1, hn⟩) (iblk m c 1 ⟨n + 1, hn⟩) (iblk m c 2 ⟨n + 1, hn⟩) (iblk0 m c ⟨n + 1, hn⟩) (iblk1 m c ⟨n + 1, hn⟩) (iblk2 m c ⟨n + 1, hn⟩) _ j (j 0).isLt).trans ?_
    rw [Finset.sum_range_succ _ (n + 1)]
    refine congrArg₂ (· + ·) ((at2_of_val _ j _ _ rfl rfl).symm.trans (outs c n _ j)) rfl

/-- The whole sum over the 8192 tokens. -/
noncomputable def value (A : S8192x512.Idx → EReal) (B : S8192x512.Idx → EReal) (X : S8192x1024.Idx → EReal) (p q : ℕ) : EReal := ∑ k : Fin 8192, term A B X p q k.val

/-- The array that the call leaves in the weight's gradient. -/
noncomputable def whole3 (c : Dev nD) : Buf (Elt Ideal) ((c : Thread nD τ).loc main_v0) :=
  fun (i : S1024x1024.Idx) => (value (gA m c) (gB m c) (gX m c) (i 0).val (i 1).val : EReal)

/-- What point `t` writes back is its block of that array. -/
theorem flushed_eq3 (c : Dev nD) (t : Fin cfg0.N) (hf : (cfg0.win 3).flush t = true) :
    (dats m 0 c).flushed 3 t = ((cfg0.win 3).blk t).view.read (Elt Ideal) (whole3 m c) := by
  obtain ⟨-, -, -, ⟨e0, e1⟩⟩ := idx t
  rw [Value.flushed3]
  funext (y : S1024x1024.Idx)
  have h0 : (y 0).val < 1024 := (y 0).isLt
  have h1 : (y 1).val < 1024 := (y 1).isLt
  have hv : ((cfg0.win 3).blk t).view.read (Elt Ideal) (whole3 m c) y = value (gA m c) (gB m c) (gX m c) (y 0).val (y 1).val := by
    rw [View.read_apply, cast_eq]
    show value (gA m c) (gB m c) (gX m c) (win0_3.index t 0 * 1024 + 1 * (y 0).val) (win0_3.index t 1 * 1024 + 1 * (y 1).val) = _
    rw [e0, e1]
    congr 1 <;> omega
  rw [hv]
  show (outsAt0 m c t.val t.isLt y : EReal) = _
  have hN : cfg0.N = 16 := N_0
  have ht : t.val = 15 := by have := (flush0_3 t).mp hf; have := t.isLt; omega
  refine (outs m c t.val t.isLt y).trans ?_
  rw [ht]
  exact sum_tiles 16 512 (term (gA m c) (gB m c) (gX m c) (y 0).val (y 1).val)

/-- Every element of the array is in the block of some point. -/
theorem cover3 (i : S1024x1024.Idx) : ∃ t : Fin cfg0.N, (cfg0.win 3).flush t = true ∧ i ∈ ((cfg0.win 3).blk t).view.set := by
  have h0 : (i 0).val < 1024 := (i 0).isLt
  have h1 : (i 1).val < 1024 := (i 1).isLt
  have hN : cfg0.N = 16 := N_0
  refine ⟨⟨15, by omega⟩, (flush0_3 _).mpr (by dsimp only), ?_⟩
  generalize ht : (⟨15, _⟩ : Fin cfg0.N) = t
  have ht' : t.val = 15 := by rw [← ht]
  obtain ⟨-, -, -, ⟨e0, e1⟩⟩ := idx t
  show i ∈ ((View.whole main_v0).slice (win0_3.rect t)).set
  rw [View.set_slice_whole, Rect.mem_set_unit]
  intro a
  match a with
  | ⟨0, _⟩ => exact ⟨by show win0_3.index t 0 * 1024 ≤ (i 0).val; rw [e0]; omega, by show (i 0).val < win0_3.index t 0 * 1024 + 1024; rw [e0]; omega⟩
  | ⟨1, _⟩ => exact ⟨by show win0_3.index t 1 * 1024 ≤ (i 1).val; rw [e1]; omega, by show (i 1).val < win0_3.index t 1 * 1024 + 1024; rw [e1]; omega⟩

/-- The array after the run. -/
theorem result3 (c : Dev nD) : (dats m 0 c).arrAt 3 cfg0.N = whole3 m c :=
  (dats m 0 c).arrAt_eq_of_cover 3 (whole3 m c) (flushed_eq3 m c) cover3

open Cert.Reference8Ideal.Read in
/-- The reference's gradient at an element: the same sum. -/
theorem reference (x0 x1 : S8192x512.Idx → EReal) (x2 : S8192x1024.Idx → EReal) (i : S1024x1024.Idx) :
    val_main_v5 (F := Ideal) x0 x1 x2 i = value x0 x1 x2 (i 0).val (i 1).val := by
  pointwise [val_main_v5, val_main_v4, val_main_v1, val_main_v0]
  refine Finset.sum_congr rfl fun k _ => ?_
  rw [mul_comm]
  refine congrArg₂ (· * ·) ?_ (at2_of_val x2 _ _ _ rfl rfl)
  unfold left
  by_cases h : (i 0).val < 512
  · rw [dif_pos h, if_pos h]
    exact at2_of_val x0 _ _ _ rfl rfl
  · rw [dif_neg h, if_neg h]
    exact at2_of_val x1 _ _ _ rfl rfl

end Cert.DwOut
-- ==== Proof.Step.DwIn.lean ====
/- The gradient of the input projections' weight: each grid point adds the products of 512 tokens to six parts of the block;
   the reference multiplies the normalised input with the joined gradient over all tokens. -/
module

public import proofs.«01_k».proof.Proof.Ffn.Common
public import proofs.«01_k».proof.Proof.Gen.Kernel9Ideal.Value
public import proofs.«01_k».proof.Proof.Gen.Reference9Ideal.Read
public import Idealize.ShloMosaic.Lib.Pointwise
public import proofs.«01_k».proof.Proof.Step.Accum

@[expose] public section

namespace Cert.DwIn

open Idealize.ShloMosaic Idealize.ShloMosaic.TcCoe Idealize.SL.Sem
open Cert.Accum Cert.Kernel9Ideal Cert.Kernel9Ideal.Gen Cert.Common

theorem hz : (![0, 0] : Fin 2 → Nat) = fun _ => 0 := funext fun a => by fin_cases a <;> rfl

/-- The six parts of the gradient side by side, at token `k` and column `q`. -/
noncomputable def joined (Z1 Z2 Z3 Z4 Z5 : S8192x512.Idx → EReal) (Z6 : S8192x128.Idx → EReal) (k q : ℕ) : EReal :=
  if q < 512 then at2 Z1 k q else if q < 1024 then at2 Z2 k (q - 512) else if q < 1536 then at2 Z3 k (q - 1024)
  else if q < 2048 then at2 Z4 k (q - 1536) else if q < 2560 then at2 Z5 k (q - 2048) else at2 Z6 k (q - 2560)

/-- The product that token `k` gives to the gradient in row `p` and column `q`. -/
noncomputable def term (H : S8192x1024.Idx → EReal) (Z1 Z2 Z3 Z4 Z5 : S8192x512.Idx → EReal) (Z6 : S8192x128.Idx → EReal) (p q k : ℕ) : EReal := at2 H k p * joined Z1 Z2 Z3 Z4 Z5 Z6 k q

/-- The part of the sum that the 512 tokens of tile `s` give. -/
noncomputable def tile (H : S8192x1024.Idx → EReal) (Z1 : S8192x512.Idx → EReal) (Z2 : S8192x512.Idx → EReal) (Z3 : S8192x512.Idx → EReal) (Z4 : S8192x512.Idx → EReal) (Z5 : S8192x512.Idx → EReal) (Z6 : S8192x128.Idx → EReal) (s p q : ℕ) : EReal :=
  ∑ r : Fin 512, term H Z1 Z2 Z3 Z4 Z5 Z6 p q (512 * s + r.val)

section Step
variable (H : S8192x1024.Idx → EReal) (Z1 : S8192x512.Idx → EReal) (Z2 : S8192x512.Idx → EReal) (Z3 : S8192x512.Idx → EReal) (Z4 : S8192x512.Idx → EReal) (Z5 : S8192x512.Idx → EReal) (Z6 : S8192x128.Idx → EReal)
variable (s : ℕ) (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16)
variable (h0 : ∀ j, x0 j = at2 H (512 * s + (j 0).val) (j 1).val) (h1 : ∀ j, x1 j = at2 Z1 (512 * s + (j 0).val) (j 1).val) (h2 : ∀ j, x2 j = at2 Z2 (512 * s + (j 0).val) (j 1).val) (h3 : ∀ j, x3 j = at2 Z3 (512 * s + (j 0).val) (j 1).val) (h4 : ∀ j, x4 j = at2 Z4 (512 * s + (j 0).val) (j 1).val) (h5 : ∀ j, x5 j = at2 Z5 (512 * s + (j 0).val) (j 1).val) (h6 : ∀ j, x6 j = at2 Z6 (512 * s + (j 0).val) (j 1).val)
variable (v : View sig .tc .vmem S1024x2688 .f32) (y : S1024x2688.Idx)

include h0 h1 in
/-- What the store of part 1 writes: what was there plus the tile's products. -/
theorem pay1_apply (acc : Vec Ideal S1024x512 .f32) (j : S1024x512.Idx) :
    k0_pay5 (F := Ideal) acc x0 x1 j = acc j + tile H Z1 Z2 Z3 Z4 Z5 Z6 s (0 + (j 0).val) (0 + (j 1).val) := by
  have j0 : (j 0).val < 1024 := (j 0).isLt
  have j1 : (j 1).val < 512 := (j 1).isLt
  unfold k0_pay5
  pointwise []
  refine congrArg (acc j + ·) (Finset.sum_congr rfl fun r _ => (congrArg₂ (· * ·) (h0 _) (h1 _)).trans ?_)
  show at2 H (512 * s + r.val) (j 0).val * at2 Z1 (512 * s + r.val) (j 1).val = _
  unfold term joined
  rw [if_pos (by omega)]

include h0 h2 in
/-- What the store of part 2 writes: what was there plus the tile's products. -/
theorem pay2_apply (acc : Vec Ideal S1024x512 .f32) (j : S1024x512.Idx) :
    k0_pay6 (F := Ideal) acc x0 x2 j = acc j + tile H Z1 Z2 Z3 Z4 Z5 Z6 s (0 + (j 0).val) (512 + (j 1).val) := by
  have j0 : (j 0).val < 1024 := (j 0).isLt
  have j1 : (j 1).val < 512 := (j 1).isLt
  unfold k0_pay6
  pointwise []
  refine congrArg (acc j + ·) (Finset.sum_congr rfl fun r _ => (congrArg₂ (· * ·) (h0 _) (h2 _)).trans ?_)
  show at2 H (512 * s + r.val) (j 0).val * at2 Z2 (512 * s + r.val) (j 1).val = _
  unfold term joined
  rw [if_neg (by omega)]
  rw [if_pos (by omega)]
  simp only [Nat.zero_add, Nat.add_sub_cancel_left]

include h0 h3 in
/-- What the store of part 3 writes: what was there plus the tile's products. -/
theorem pay3_apply (acc : Vec Ideal S1024x512 .f32) (j : S1024x512.Idx) :
    k0_pay7 (F := Ideal) acc x0 x3 j = acc j + tile H Z1 Z2 Z3 Z4 Z5 Z6 s (0 + (j 0).val) (1024 + (j 1).val) := by
  have j0 : (j 0).val < 1024 := (j 0).isLt
  have j1 : (j 1).val < 512 := (j 1).isLt
  unfold k0_pay7
  pointwise []
  refine congrArg (acc j + ·) (Finset.sum_congr rfl fun r _ => (congrArg₂ (· * ·) (h0 _) (h3 _)).trans ?_)
  show at2 H (512 * s + r.val) (j 0).val * at2 Z3 (512 * s + r.val) (j 1).val = _
  unfold term joined
  rw [if_neg (by omega)]
  rw [if_neg (by omega)]
  rw [if_pos (by omega)]
  simp only [Nat.zero_add, Nat.add_sub_cancel_left]

include h0 h4 in
/-- What the store of part 4 writes: what was there plus the tile's products. -/
theorem pay4_apply (acc : Vec Ideal S1024x512 .f32) (j : S1024x512.Idx) :
    k0_pay1 (F := Ideal) acc x0 x4 j = acc j + tile H Z1 Z2 Z3 Z4 Z5 Z6 s (0 + (j 0).val) (1536 + (j 1).val) := by
  have j0 : (j 0).val < 1024 := (j 0).isLt
  have j1 : (j 1).val < 512 := (j 1).isLt
  unfold k0_pay1
  pointwise []
  refine congrArg (acc j + ·) (Finset.sum_congr rfl fun r _ => (congrArg₂ (· * ·) (h0 _) (h4 _)).trans ?_)
  show at2 H (512 * s + r.val) (j 0).val * at2 Z4 (512 * s + r.val) (j 1).val = _
  unfold term joined
  rw [if_neg (by omega)]
  rw [if_neg (by omega)]
  rw [if_neg (by omega)]
  rw [if_pos (by omega)]
  simp only [Nat.zero_add, Nat.add_sub_cancel_left]

include h0 h5 in
/-- What the store of part 5 writes: what was there plus the tile's products. -/
theorem pay5_apply (acc : Vec Ideal S1024x512 .f32) (j : S1024x512.Idx) :
    k0_pay2 (F := Ideal) acc x0 x5 j = acc j + tile H Z1 Z2 Z3 Z4 Z5 Z6 s (0 + (j 0).val) (2048 + (j 1).val) := by
  have j0 : (j 0).val < 1024 := (j 0).isLt
  have j1 : (j 1).val < 512 := (j 1).isLt
  unfold k0_pay2
  pointwise []
  refine congrArg (acc j + ·) (Finset.sum_congr rfl fun r _ => (congrArg₂ (· * ·) (h0 _) (h5 _)).trans ?_)
  show at2 H (512 * s + r.val) (j 0).val * at2 Z5 (512 * s + r.val) (j 1).val = _
  unfold term joined
  rw [if_neg (by omega)]
  rw [if_neg (by omega)]
  rw [if_neg (by omega)]
  rw [if_neg (by omega)]
  rw [if_pos (by omega)]
  simp only [Nat.zero_add, Nat.add_sub_cancel_left]

include h0 h6 in
/-- What the store of part 6 writes: what was there plus the tile's products. -/
theorem pay6_apply (acc : Vec Ideal S1024x128 .f32) (j : S1024x128.Idx) :
    k0_pay3 (F := Ideal) acc x0 x6 j = acc j + tile H Z1 Z2 Z3 Z4 Z5 Z6 s (0 + (j 0).val) (2560 + (j 1).val) := by
  have j0 : (j 0).val < 1024 := (j 0).isLt
  have j1 : (j 1).val < 128 := (j 1).isLt
  unfold k0_pay3
  pointwise []
  refine congrArg (acc j + ·) (Finset.sum_congr rfl fun r _ => (congrArg₂ (· * ·) (h0 _) (h6 _)).trans ?_)
  show at2 H (512 * s + r.val) (j 0).val * at2 Z6 (512 * s + r.val) (j 1).val = _
  unfold term joined
  rw [if_neg (by omega)]
  rw [if_neg (by omega)]
  rw [if_neg (by omega)]
  rw [if_neg (by omega)]
  rw [if_neg (by omega)]
  simp only [Nat.zero_add, Nat.add_sub_cancel_left]

/-- The stores of the first point: the zeros, -/
noncomputable def first0 : List (View.Piece (Elt Ideal) S1024x2688 .f32) :=
  [⟨Rect.unit (s := S1024x2688) ![0, 0] S1024x2688.size inb_S1024x2688_S1024x2688_0_0, k0_pay4 (F := Ideal)⟩]

/-- which hold zero everywhere. -/
theorem first0_zero (_ : True) : (View.canon first0 y : EReal) = 0 := by
  unfold first0
  rw [View.canon_unit_zero hz]
  exact Ideal.ofBits_zero_f32

/-- then part 1. -/
noncomputable def first1 (v : View sig .tc .vmem S1024x2688 .f32) (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) : List (View.Piece (Elt Ideal) S1024x2688 .f32) :=
  ⟨(Rect.unit (s := S1024x2688) ![0, 0] S1024x512.size inb_S1024x2688_S1024x512_0_0), k0_pay5 (F := Ideal) (v.readCov first0 (Rect.unit (s := S1024x2688) ![0, 0] S1024x512.size inb_S1024x2688_S1024x512_0_0).toLoadRect) x0 x1⟩ :: first0

/-- The rest still holds zero. -/
theorem first1_zero (hy : 512 ≤ (y 1).val) : (View.canon (first1 v x0 x1 x2 x3 x4 x5 x6) y : EReal) = 0 :=
  kept (m := 1024) (n := 2688) (o := 0) (p := 0) (a := 1024) (b := 512) inb_S1024x2688_S1024x512_0_0 _ first0 (fun _ _ => 0) (fun _ w => 0 ≤ w) (fun _ w => 512 ≤ w) (fun y h => first0_zero y trivial)
    (fun u w h => by constructor <;> omega) y hy

include h0 h1 h2 h3 h4 h5 h6 in
/-- The parts stored so far hold the tile's sums. -/
theorem first1_apply (hy : (y 1).val < 512) : (View.canon (first1 v x0 x1 x2 x3 x4 x5 x6) y : EReal) = tile H Z1 Z2 Z3 Z4 Z5 Z6 s (y 0).val (y 1).val :=
  stored (m := 1024) (n := 2688) (o := 0) (p := 0) (a := 1024) (b := 512) inb_S1024x2688_S1024x512_0_0 _ first0 (tile H Z1 Z2 Z3 Z4 Z5 Z6 s) (fun _ w => w < 0) (fun _ w => w < 512) (fun _ h => absurd h (Nat.not_lt_zero _))
    (fun j => by
      refine (pay1_apply H Z1 Z2 Z3 Z4 Z5 Z6 s x0 x1 h0 h1 _ j).trans ?_
      refine (congrArg (· + _) (load (m := 1024) (n := 2688) (o := 0) (p := 0) (a := 1024) (b := 512) v inb_S1024x2688_S1024x512_0_0 first0 (fun _ _ => 0) (fun _ w => 0 ≤ w) (fun y h => first0_zero y trivial) j (by dsimp only; omega))).trans ?_
      exact zero_add _)
    (fun u w hu hw h => by omega) y hy

/-- then part 2. -/
noncomputable def first2 (v : View sig .tc .vmem S1024x2688 .f32) (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) : List (View.Piece (Elt Ideal) S1024x2688 .f32) :=
  ⟨(Rect.unit (s := S1024x2688) ![0, 512] S1024x512.size inb_S1024x2688_S1024x512_0_512), k0_pay6 (F := Ideal) (v.readCov (first1 v x0 x1 x2 x3 x4 x5 x6) (Rect.unit (s := S1024x2688) ![0, 512] S1024x512.size inb_S1024x2688_S1024x512_0_512).toLoadRect) x0 x2⟩ :: (first1 v x0 x1 x2 x3 x4 x5 x6)

/-- The rest still holds zero. -/
theorem first2_zero (hy : 1024 ≤ (y 1).val) : (View.canon (first2 v x0 x1 x2 x3 x4 x5 x6) y : EReal) = 0 :=
  kept (m := 1024) (n := 2688) (o := 0) (p := 512) (a := 1024) (b := 512) inb_S1024x2688_S1024x512_0_512 _ (first1 v x0 x1 x2 x3 x4 x5 x6) (fun _ _ => 0) (fun _ w => 512 ≤ w) (fun _ w => 1024 ≤ w) (first1_zero x0 x1 x2 x3 x4 x5 x6 v)
    (fun u w h => by constructor <;> omega) y hy

include h0 h1 h2 h3 h4 h5 h6 in
/-- The parts stored so far hold the tile's sums. -/
theorem first2_apply (hy : (y 1).val < 1024) : (View.canon (first2 v x0 x1 x2 x3 x4 x5 x6) y : EReal) = tile H Z1 Z2 Z3 Z4 Z5 Z6 s (y 0).val (y 1).val :=
  stored (m := 1024) (n := 2688) (o := 0) (p := 512) (a := 1024) (b := 512) inb_S1024x2688_S1024x512_0_512 _ (first1 v x0 x1 x2 x3 x4 x5 x6) (tile H Z1 Z2 Z3 Z4 Z5 Z6 s) (fun _ w => w < 512) (fun _ w => w < 1024) (first1_apply H Z1 Z2 Z3 Z4 Z5 Z6 s x0 x1 x2 x3 x4 x5 x6 h0 h1 h2 h3 h4 h5 h6 v)
    (fun j => by
      refine (pay2_apply H Z1 Z2 Z3 Z4 Z5 Z6 s x0 x2 h0 h2 _ j).trans ?_
      refine (congrArg (· + _) (load (m := 1024) (n := 2688) (o := 0) (p := 512) (a := 1024) (b := 512) v inb_S1024x2688_S1024x512_0_512 (first1 v x0 x1 x2 x3 x4 x5 x6) (fun _ _ => 0) (fun _ w => 512 ≤ w) (first1_zero x0 x1 x2 x3 x4 x5 x6 v) j (by dsimp only; omega))).trans ?_
      exact zero_add _)
    (fun u w hu hw h => by omega) y hy

/-- then part 3. -/
noncomputable def first3 (v : View sig .tc .vmem S1024x2688 .f32) (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) : List (View.Piece (Elt Ideal) S1024x2688 .f32) :=
  ⟨(Rect.unit (s := S1024x2688) ![0, 1024] S1024x512.size inb_S1024x2688_S1024x512_0_1024), k0_pay7 (F := Ideal) (v.readCov (first2 v x0 x1 x2 x3 x4 x5 x6) (Rect.unit (s := S1024x2688) ![0, 1024] S1024x512.size inb_S1024x2688_S1024x512_0_1024).toLoadRect) x0 x3⟩ :: (first2 v x0 x1 x2 x3 x4 x5 x6)

/-- The rest still holds zero. -/
theorem first3_zero (hy : 1536 ≤ (y 1).val) : (View.canon (first3 v x0 x1 x2 x3 x4 x5 x6) y : EReal) = 0 :=
  kept (m := 1024) (n := 2688) (o := 0) (p := 1024) (a := 1024) (b := 512) inb_S1024x2688_S1024x512_0_1024 _ (first2 v x0 x1 x2 x3 x4 x5 x6) (fun _ _ => 0) (fun _ w => 1024 ≤ w) (fun _ w => 1536 ≤ w) (first2_zero x0 x1 x2 x3 x4 x5 x6 v)
    (fun u w h => by constructor <;> omega) y hy

include h0 h1 h2 h3 h4 h5 h6 in
/-- The parts stored so far hold the tile's sums. -/
theorem first3_apply (hy : (y 1).val < 1536) : (View.canon (first3 v x0 x1 x2 x3 x4 x5 x6) y : EReal) = tile H Z1 Z2 Z3 Z4 Z5 Z6 s (y 0).val (y 1).val :=
  stored (m := 1024) (n := 2688) (o := 0) (p := 1024) (a := 1024) (b := 512) inb_S1024x2688_S1024x512_0_1024 _ (first2 v x0 x1 x2 x3 x4 x5 x6) (tile H Z1 Z2 Z3 Z4 Z5 Z6 s) (fun _ w => w < 1024) (fun _ w => w < 1536) (first2_apply H Z1 Z2 Z3 Z4 Z5 Z6 s x0 x1 x2 x3 x4 x5 x6 h0 h1 h2 h3 h4 h5 h6 v)
    (fun j => by
      refine (pay3_apply H Z1 Z2 Z3 Z4 Z5 Z6 s x0 x3 h0 h3 _ j).trans ?_
      refine (congrArg (· + _) (load (m := 1024) (n := 2688) (o := 0) (p := 1024) (a := 1024) (b := 512) v inb_S1024x2688_S1024x512_0_1024 (first2 v x0 x1 x2 x3 x4 x5 x6) (fun _ _ => 0) (fun _ w => 1024 ≤ w) (first2_zero x0 x1 x2 x3 x4 x5 x6 v) j (by dsimp only; omega))).trans ?_
      exact zero_add _)
    (fun u w hu hw h => by omega) y hy

/-- then part 4. -/
noncomputable def first4 (v : View sig .tc .vmem S1024x2688 .f32) (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) : List (View.Piece (Elt Ideal) S1024x2688 .f32) :=
  ⟨(Rect.unit (s := S1024x2688) ![0, 1536] S1024x512.size inb_S1024x2688_S1024x512_0_1536), k0_pay1 (F := Ideal) (v.readCov (first3 v x0 x1 x2 x3 x4 x5 x6) (Rect.unit (s := S1024x2688) ![0, 1536] S1024x512.size inb_S1024x2688_S1024x512_0_1536).toLoadRect) x0 x4⟩ :: (first3 v x0 x1 x2 x3 x4 x5 x6)

/-- The rest still holds zero. -/
theorem first4_zero (hy : 2048 ≤ (y 1).val) : (View.canon (first4 v x0 x1 x2 x3 x4 x5 x6) y : EReal) = 0 :=
  kept (m := 1024) (n := 2688) (o := 0) (p := 1536) (a := 1024) (b := 512) inb_S1024x2688_S1024x512_0_1536 _ (first3 v x0 x1 x2 x3 x4 x5 x6) (fun _ _ => 0) (fun _ w => 1536 ≤ w) (fun _ w => 2048 ≤ w) (first3_zero x0 x1 x2 x3 x4 x5 x6 v)
    (fun u w h => by constructor <;> omega) y hy

include h0 h1 h2 h3 h4 h5 h6 in
/-- The parts stored so far hold the tile's sums. -/
theorem first4_apply (hy : (y 1).val < 2048) : (View.canon (first4 v x0 x1 x2 x3 x4 x5 x6) y : EReal) = tile H Z1 Z2 Z3 Z4 Z5 Z6 s (y 0).val (y 1).val :=
  stored (m := 1024) (n := 2688) (o := 0) (p := 1536) (a := 1024) (b := 512) inb_S1024x2688_S1024x512_0_1536 _ (first3 v x0 x1 x2 x3 x4 x5 x6) (tile H Z1 Z2 Z3 Z4 Z5 Z6 s) (fun _ w => w < 1536) (fun _ w => w < 2048) (first3_apply H Z1 Z2 Z3 Z4 Z5 Z6 s x0 x1 x2 x3 x4 x5 x6 h0 h1 h2 h3 h4 h5 h6 v)
    (fun j => by
      refine (pay4_apply H Z1 Z2 Z3 Z4 Z5 Z6 s x0 x4 h0 h4 _ j).trans ?_
      refine (congrArg (· + _) (load (m := 1024) (n := 2688) (o := 0) (p := 1536) (a := 1024) (b := 512) v inb_S1024x2688_S1024x512_0_1536 (first3 v x0 x1 x2 x3 x4 x5 x6) (fun _ _ => 0) (fun _ w => 1536 ≤ w) (first3_zero x0 x1 x2 x3 x4 x5 x6 v) j (by dsimp only; omega))).trans ?_
      exact zero_add _)
    (fun u w hu hw h => by omega) y hy

/-- then part 5. -/
noncomputable def first5 (v : View sig .tc .vmem S1024x2688 .f32) (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) : List (View.Piece (Elt Ideal) S1024x2688 .f32) :=
  ⟨(Rect.unit (s := S1024x2688) ![0, 2048] S1024x512.size inb_S1024x2688_S1024x512_0_2048), k0_pay2 (F := Ideal) (v.readCov (first4 v x0 x1 x2 x3 x4 x5 x6) (Rect.unit (s := S1024x2688) ![0, 2048] S1024x512.size inb_S1024x2688_S1024x512_0_2048).toLoadRect) x0 x5⟩ :: (first4 v x0 x1 x2 x3 x4 x5 x6)

/-- The rest still holds zero. -/
theorem first5_zero (hy : 2560 ≤ (y 1).val) : (View.canon (first5 v x0 x1 x2 x3 x4 x5 x6) y : EReal) = 0 :=
  kept (m := 1024) (n := 2688) (o := 0) (p := 2048) (a := 1024) (b := 512) inb_S1024x2688_S1024x512_0_2048 _ (first4 v x0 x1 x2 x3 x4 x5 x6) (fun _ _ => 0) (fun _ w => 2048 ≤ w) (fun _ w => 2560 ≤ w) (first4_zero x0 x1 x2 x3 x4 x5 x6 v)
    (fun u w h => by constructor <;> omega) y hy

include h0 h1 h2 h3 h4 h5 h6 in
/-- The parts stored so far hold the tile's sums. -/
theorem first5_apply (hy : (y 1).val < 2560) : (View.canon (first5 v x0 x1 x2 x3 x4 x5 x6) y : EReal) = tile H Z1 Z2 Z3 Z4 Z5 Z6 s (y 0).val (y 1).val :=
  stored (m := 1024) (n := 2688) (o := 0) (p := 2048) (a := 1024) (b := 512) inb_S1024x2688_S1024x512_0_2048 _ (first4 v x0 x1 x2 x3 x4 x5 x6) (tile H Z1 Z2 Z3 Z4 Z5 Z6 s) (fun _ w => w < 2048) (fun _ w => w < 2560) (first4_apply H Z1 Z2 Z3 Z4 Z5 Z6 s x0 x1 x2 x3 x4 x5 x6 h0 h1 h2 h3 h4 h5 h6 v)
    (fun j => by
      refine (pay5_apply H Z1 Z2 Z3 Z4 Z5 Z6 s x0 x5 h0 h5 _ j).trans ?_
      refine (congrArg (· + _) (load (m := 1024) (n := 2688) (o := 0) (p := 2048) (a := 1024) (b := 512) v inb_S1024x2688_S1024x512_0_2048 (first4 v x0 x1 x2 x3 x4 x5 x6) (fun _ _ => 0) (fun _ w => 2048 ≤ w) (first4_zero x0 x1 x2 x3 x4 x5 x6 v) j (by dsimp only; omega))).trans ?_
      exact zero_add _)
    (fun u w hu hw h => by omega) y hy

/-- then part 6. -/
noncomputable def first6 (v : View sig .tc .vmem S1024x2688 .f32) (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) : List (View.Piece (Elt Ideal) S1024x2688 .f32) :=
  ⟨(Rect.unit (s := S1024x2688) ![0, 2560] S1024x128.size inb_S1024x2688_S1024x128_0_2560), k0_pay3 (F := Ideal) (v.readCov (first5 v x0 x1 x2 x3 x4 x5 x6) (Rect.unit (s := S1024x2688) ![0, 2560] S1024x128.size inb_S1024x2688_S1024x128_0_2560).toLoadRect) x0 x6⟩ :: (first5 v x0 x1 x2 x3 x4 x5 x6)

/-- The rest still holds zero. -/
theorem first6_zero (hy : 2688 ≤ (y 1).val) : (View.canon (first6 v x0 x1 x2 x3 x4 x5 x6) y : EReal) = 0 :=
  kept (m := 1024) (n := 2688) (o := 0) (p := 2560) (a := 1024) (b := 128) inb_S1024x2688_S1024x128_0_2560 _ (first5 v x0 x1 x2 x3 x4 x5 x6) (fun _ _ => 0) (fun _ w => 2560 ≤ w) (fun _ w => 2688 ≤ w) (first5_zero x0 x1 x2 x3 x4 x5 x6 v)
    (fun u w h => by constructor <;> omega) y hy

include h0 h1 h2 h3 h4 h5 h6 in
/-- The parts stored so far hold the tile's sums. -/
theorem first6_apply (hy : (y 1).val < 2688) : (View.canon (first6 v x0 x1 x2 x3 x4 x5 x6) y : EReal) = tile H Z1 Z2 Z3 Z4 Z5 Z6 s (y 0).val (y 1).val :=
  stored (m := 1024) (n := 2688) (o := 0) (p := 2560) (a := 1024) (b := 128) inb_S1024x2688_S1024x128_0_2560 _ (first5 v x0 x1 x2 x3 x4 x5 x6) (tile H Z1 Z2 Z3 Z4 Z5 Z6 s) (fun _ w => w < 2560) (fun _ w => w < 2688) (first5_apply H Z1 Z2 Z3 Z4 Z5 Z6 s x0 x1 x2 x3 x4 x5 x6 h0 h1 h2 h3 h4 h5 h6 v)
    (fun j => by
      refine (pay6_apply H Z1 Z2 Z3 Z4 Z5 Z6 s x0 x6 h0 h6 _ j).trans ?_
      refine (congrArg (· + _) (load (m := 1024) (n := 2688) (o := 0) (p := 2560) (a := 1024) (b := 128) v inb_S1024x2688_S1024x128_0_2560 (first5 v x0 x1 x2 x3 x4 x5 x6) (fun _ _ => 0) (fun _ w => 2560 ≤ w) (first5_zero x0 x1 x2 x3 x4 x5 x6 v) j (by dsimp only; omega))).trans ?_
      exact zero_add _)
    (fun u w hu hw h => by omega) y hy

variable (xo : Vec Ideal S1024x2688 .f32)

/-- The stores of a later point: nothing, -/
noncomputable def later0 : List (View.Piece (Elt Ideal) S1024x2688 .f32) := []

/-- then part 1. -/
noncomputable def later1 (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) (xo : Vec Ideal S1024x2688 .f32) : List (View.Piece (Elt Ideal) S1024x2688 .f32) :=
  ⟨(Rect.unit (s := S1024x2688) ![0, 0] S1024x512.size inb_S1024x2688_S1024x512_0_0), k0_pay5 (F := Ideal) (View.ld (Val := Elt Ideal) xo (Rect.unit (s := S1024x2688) ![0, 0] S1024x512.size inb_S1024x2688_S1024x512_0_0)) x0 x1⟩ :: later0

include h0 h1 h2 h3 h4 h5 h6 in
/-- The parts stored so far hold what was there plus the tile's sums. -/
theorem later1_apply (y : S1024x2688.Idx) (hy : (y 1).val < 512) :
    (View.canon (later1 x0 x1 x2 x3 x4 x5 x6 xo) y : EReal) = at2 xo (y 0).val (y 1).val + tile H Z1 Z2 Z3 Z4 Z5 Z6 s (y 0).val (y 1).val :=
  stored (m := 1024) (n := 2688) (o := 0) (p := 0) (a := 1024) (b := 512) inb_S1024x2688_S1024x512_0_0 _ later0 (fun u w => at2 xo u w + tile H Z1 Z2 Z3 Z4 Z5 Z6 s u w) (fun _ w => w < 0) (fun _ w => w < 512) (fun _ h => absurd h (Nat.not_lt_zero _))
    (fun j => by
      refine (pay1_apply H Z1 Z2 Z3 Z4 Z5 Z6 s x0 x1 h0 h1 _ j).trans (congrArg (· + _) ?_)
      refine at2_of_val xo _ _ _ ?_ ?_
      · show 0 + 1 * (j 0).val = _; omega
      · show 0 + 1 * (j 1).val = _; omega)
    (fun u w hu hw h => by omega) y hy

/-- then part 2. -/
noncomputable def later2 (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) (xo : Vec Ideal S1024x2688 .f32) : List (View.Piece (Elt Ideal) S1024x2688 .f32) :=
  ⟨(Rect.unit (s := S1024x2688) ![0, 512] S1024x512.size inb_S1024x2688_S1024x512_0_512), k0_pay6 (F := Ideal) (View.ld (Val := Elt Ideal) xo (Rect.unit (s := S1024x2688) ![0, 512] S1024x512.size inb_S1024x2688_S1024x512_0_512)) x0 x2⟩ :: (later1 x0 x1 x2 x3 x4 x5 x6 xo)

include h0 h1 h2 h3 h4 h5 h6 in
/-- The parts stored so far hold what was there plus the tile's sums. -/
theorem later2_apply (y : S1024x2688.Idx) (hy : (y 1).val < 1024) :
    (View.canon (later2 x0 x1 x2 x3 x4 x5 x6 xo) y : EReal) = at2 xo (y 0).val (y 1).val + tile H Z1 Z2 Z3 Z4 Z5 Z6 s (y 0).val (y 1).val :=
  stored (m := 1024) (n := 2688) (o := 0) (p := 512) (a := 1024) (b := 512) inb_S1024x2688_S1024x512_0_512 _ (later1 x0 x1 x2 x3 x4 x5 x6 xo) (fun u w => at2 xo u w + tile H Z1 Z2 Z3 Z4 Z5 Z6 s u w) (fun _ w => w < 512) (fun _ w => w < 1024) (later1_apply H Z1 Z2 Z3 Z4 Z5 Z6 s x0 x1 x2 x3 x4 x5 x6 h0 h1 h2 h3 h4 h5 h6 xo)
    (fun j => by
      refine (pay2_apply H Z1 Z2 Z3 Z4 Z5 Z6 s x0 x2 h0 h2 _ j).trans (congrArg (· + _) ?_)
      refine at2_of_val xo _ _ _ ?_ ?_
      · show 0 + 1 * (j 0).val = _; omega
      · show 512 + 1 * (j 1).val = _; omega)
    (fun u w hu hw h => by omega) y hy

/-- then part 3. -/
noncomputable def later3 (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) (xo : Vec Ideal S1024x2688 .f32) : List (View.Piece (Elt Ideal) S1024x2688 .f32) :=
  ⟨(Rect.unit (s := S1024x2688) ![0, 1024] S1024x512.size inb_S1024x2688_S1024x512_0_1024), k0_pay7 (F := Ideal) (View.ld (Val := Elt Ideal) xo (Rect.unit (s := S1024x2688) ![0, 1024] S1024x512.size inb_S1024x2688_S1024x512_0_1024)) x0 x3⟩ :: (later2 x0 x1 x2 x3 x4 x5 x6 xo)

include h0 h1 h2 h3 h4 h5 h6 in
/-- The parts stored so far hold what was there plus the tile's sums. -/
theorem later3_apply (y : S1024x2688.Idx) (hy : (y 1).val < 1536) :
    (View.canon (later3 x0 x1 x2 x3 x4 x5 x6 xo) y : EReal) = at2 xo (y 0).val (y 1).val + tile H Z1 Z2 Z3 Z4 Z5 Z6 s (y 0).val (y 1).val :=
  stored (m := 1024) (n := 2688) (o := 0) (p := 1024) (a := 1024) (b := 512) inb_S1024x2688_S1024x512_0_1024 _ (later2 x0 x1 x2 x3 x4 x5 x6 xo) (fun u w => at2 xo u w + tile H Z1 Z2 Z3 Z4 Z5 Z6 s u w) (fun _ w => w < 1024) (fun _ w => w < 1536) (later2_apply H Z1 Z2 Z3 Z4 Z5 Z6 s x0 x1 x2 x3 x4 x5 x6 h0 h1 h2 h3 h4 h5 h6 xo)
    (fun j => by
      refine (pay3_apply H Z1 Z2 Z3 Z4 Z5 Z6 s x0 x3 h0 h3 _ j).trans (congrArg (· + _) ?_)
      refine at2_of_val xo _ _ _ ?_ ?_
      · show 0 + 1 * (j 0).val = _; omega
      · show 1024 + 1 * (j 1).val = _; omega)
    (fun u w hu hw h => by omega) y hy

/-- then part 4. -/
noncomputable def later4 (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) (xo : Vec Ideal S1024x2688 .f32) : List (View.Piece (Elt Ideal) S1024x2688 .f32) :=
  ⟨(Rect.unit (s := S1024x2688) ![0, 1536] S1024x512.size inb_S1024x2688_S1024x512_0_1536), k0_pay1 (F := Ideal) (View.ld (Val := Elt Ideal) xo (Rect.unit (s := S1024x2688) ![0, 1536] S1024x512.size inb_S1024x2688_S1024x512_0_1536)) x0 x4⟩ :: (later3 x0 x1 x2 x3 x4 x5 x6 xo)

include h0 h1 h2 h3 h4 h5 h6 in
/-- The parts stored so far hold what was there plus the tile's sums. -/
theorem later4_apply (y : S1024x2688.Idx) (hy : (y 1).val < 2048) :
    (View.canon (later4 x0 x1 x2 x3 x4 x5 x6 xo) y : EReal) = at2 xo (y 0).val (y 1).val + tile H Z1 Z2 Z3 Z4 Z5 Z6 s (y 0).val (y 1).val :=
  stored (m := 1024) (n := 2688) (o := 0) (p := 1536) (a := 1024) (b := 512) inb_S1024x2688_S1024x512_0_1536 _ (later3 x0 x1 x2 x3 x4 x5 x6 xo) (fun u w => at2 xo u w + tile H Z1 Z2 Z3 Z4 Z5 Z6 s u w) (fun _ w => w < 1536) (fun _ w => w < 2048) (later3_apply H Z1 Z2 Z3 Z4 Z5 Z6 s x0 x1 x2 x3 x4 x5 x6 h0 h1 h2 h3 h4 h5 h6 xo)
    (fun j => by
      refine (pay4_apply H Z1 Z2 Z3 Z4 Z5 Z6 s x0 x4 h0 h4 _ j).trans (congrArg (· + _) ?_)
      refine at2_of_val xo _ _ _ ?_ ?_
      · show 0 + 1 * (j 0).val = _; omega
      · show 1536 + 1 * (j 1).val = _; omega)
    (fun u w hu hw h => by omega) y hy

/-- then part 5. -/
noncomputable def later5 (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) (xo : Vec Ideal S1024x2688 .f32) : List (View.Piece (Elt Ideal) S1024x2688 .f32) :=
  ⟨(Rect.unit (s := S1024x2688) ![0, 2048] S1024x512.size inb_S1024x2688_S1024x512_0_2048), k0_pay2 (F := Ideal) (View.ld (Val := Elt Ideal) xo (Rect.unit (s := S1024x2688) ![0, 2048] S1024x512.size inb_S1024x2688_S1024x512_0_2048)) x0 x5⟩ :: (later4 x0 x1 x2 x3 x4 x5 x6 xo)

include h0 h1 h2 h3 h4 h5 h6 in
/-- The parts stored so far hold what was there plus the tile's sums. -/
theorem later5_apply (y : S1024x2688.Idx) (hy : (y 1).val < 2560) :
    (View.canon (later5 x0 x1 x2 x3 x4 x5 x6 xo) y : EReal) = at2 xo (y 0).val (y 1).val + tile H Z1 Z2 Z3 Z4 Z5 Z6 s (y 0).val (y 1).val :=
  stored (m := 1024) (n := 2688) (o := 0) (p := 2048) (a := 1024) (b := 512) inb_S1024x2688_S1024x512_0_2048 _ (later4 x0 x1 x2 x3 x4 x5 x6 xo) (fun u w => at2 xo u w + tile H Z1 Z2 Z3 Z4 Z5 Z6 s u w) (fun _ w => w < 2048) (fun _ w => w < 2560) (later4_apply H Z1 Z2 Z3 Z4 Z5 Z6 s x0 x1 x2 x3 x4 x5 x6 h0 h1 h2 h3 h4 h5 h6 xo)
    (fun j => by
      refine (pay5_apply H Z1 Z2 Z3 Z4 Z5 Z6 s x0 x5 h0 h5 _ j).trans (congrArg (· + _) ?_)
      refine at2_of_val xo _ _ _ ?_ ?_
      · show 0 + 1 * (j 0).val = _; omega
      · show 2048 + 1 * (j 1).val = _; omega)
    (fun u w hu hw h => by omega) y hy

/-- then part 6. -/
noncomputable def later6 (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) (xo : Vec Ideal S1024x2688 .f32) : List (View.Piece (Elt Ideal) S1024x2688 .f32) :=
  ⟨(Rect.unit (s := S1024x2688) ![0, 2560] S1024x128.size inb_S1024x2688_S1024x128_0_2560), k0_pay3 (F := Ideal) (View.ld (Val := Elt Ideal) xo (Rect.unit (s := S1024x2688) ![0, 2560] S1024x128.size inb_S1024x2688_S1024x128_0_2560)) x0 x6⟩ :: (later5 x0 x1 x2 x3 x4 x5 x6 xo)

include h0 h1 h2 h3 h4 h5 h6 in
/-- The parts stored so far hold what was there plus the tile's sums. -/
theorem later6_apply (y : S1024x2688.Idx) (hy : (y 1).val < 2688) :
    (View.canon (later6 x0 x1 x2 x3 x4 x5 x6 xo) y : EReal) = at2 xo (y 0).val (y 1).val + tile H Z1 Z2 Z3 Z4 Z5 Z6 s (y 0).val (y 1).val :=
  stored (m := 1024) (n := 2688) (o := 0) (p := 2560) (a := 1024) (b := 128) inb_S1024x2688_S1024x128_0_2560 _ (later5 x0 x1 x2 x3 x4 x5 x6 xo) (fun u w => at2 xo u w + tile H Z1 Z2 Z3 Z4 Z5 Z6 s u w) (fun _ w => w < 2560) (fun _ w => w < 2688) (later5_apply H Z1 Z2 Z3 Z4 Z5 Z6 s x0 x1 x2 x3 x4 x5 x6 h0 h1 h2 h3 h4 h5 h6 xo)
    (fun j => by
      refine (pay6_apply H Z1 Z2 Z3 Z4 Z5 Z6 s x0 x6 h0 h6 _ j).trans (congrArg (· + _) ?_)
      refine at2_of_val xo _ _ _ ?_ ?_
      · show 0 + 1 * (j 0).val = _; omega
      · show 2560 + 1 * (j 1).val = _; omega)
    (fun u w hu hw h => by omega) y hy

end Step

section Cases

/-- What the first point leaves: its stores. -/
theorem outA (c : Dev nD) (i : grid0.Coords) (a1 : Memref sig .tc .vmem S512x1024 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x512 .bf16) (h5 : a5.IsWhole) (a6 : Memref sig .tc .vmem S512x512 .bf16) (h6 : a6.IsWhole) (a7 : Memref sig .tc .vmem S512x128 .bf16) (h7 : a7.IsWhole) (a8 : Memref sig .tc .vmem S1024x2688 .f32) (h8 : a8.IsWhole) (hc : cond0_0 i) (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) :
    out0_A_7 (F := Ideal) c i a1 h1 a2 h2 a3 h3 a4 h4 a5 h5 a6 h6 a7 h7 a8 h8 hc x0 x1 x2 x3 x4 x5 x6 = View.canon (first6 a8.view x0 x1 x2 x3 x4 x5 x6) := by
  unfold out0_A_7
  rw [View.read_writes_eq_canon _ _ _ (cover0_A_7 c i a1 h1 a2 h2 a3 h3 a4 h4 a5 h5 a6 h6 a7 h7 a8 h8 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S512x512) hz]
  rfl

/-- What the a later point leaves: its stores. -/
theorem outB (c : Dev nD) (i : grid0.Coords) (a1 : Memref sig .tc .vmem S512x1024 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x512 .bf16) (h5 : a5.IsWhole) (a6 : Memref sig .tc .vmem S512x512 .bf16) (h6 : a6.IsWhole) (a7 : Memref sig .tc .vmem S512x128 .bf16) (h7 : a7.IsWhole) (a8 : Memref sig .tc .vmem S1024x2688 .f32) (h8 : a8.IsWhole) (hc : ¬cond0_0 i) (x0 : Vec Ideal S512x1024 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x128 .bf16) (xo : Vec Ideal S1024x2688 .f32) :
    out0_B_7 (F := Ideal) c i a1 h1 a2 h2 a3 h3 a4 h4 a5 h5 a6 h6 a7 h7 a8 h8 hc x0 x1 x2 x3 x4 x5 x6 xo = View.canon (later6 x0 x1 x2 x3 x4 x5 x6 xo) := by
  unfold out0_B_7
  rw [View.read_writes_eq_canon _ _ _ (cover0_B_7 c i a1 h1 a2 h2 a3 h3 a4 h4 a5 h5 a6 h6 a7 h7 a8 h8 hc x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S512x1024) hz, View.ld_unit_zero (S := S512x128) hz, View.ld_unit_zero (S := S512x512) hz]
  rfl

end Cases

variable (m : (ℓ : Loc nD τ sig) → Buf (Elt Ideal) ℓ)

/-- The normalised input, one row per token. -/
abbrev gH (c : Dev nD) : S8192x1024.Idx → EReal := m ((c : Thread nD τ).loc main_arg0)
/-- The first part of the projections' gradient, one row per token. -/
abbrev gZ1 (c : Dev nD) : S8192x512.Idx → EReal := m ((c : Thread nD τ).loc main_arg1)
/-- The second part of the projections' gradient, one row per token. -/
abbrev gZ2 (c : Dev nD) : S8192x512.Idx → EReal := m ((c : Thread nD τ).loc main_arg2)
/-- The third part of the projections' gradient, one row per token. -/
abbrev gZ3 (c : Dev nD) : S8192x512.Idx → EReal := m ((c : Thread nD τ).loc main_arg3)
/-- The fourth part of the projections' gradient, one row per token. -/
abbrev gZ4 (c : Dev nD) : S8192x512.Idx → EReal := m ((c : Thread nD τ).loc main_arg4)
/-- The fifth part of the projections' gradient, one row per token. -/
abbrev gZ5 (c : Dev nD) : S8192x512.Idx → EReal := m ((c : Thread nD τ).loc main_arg5)
/-- The sixth part of the projections' gradient, one row per token. -/
abbrev gZ6 (c : Dev nD) : S8192x128.Idx → EReal := m ((c : Thread nD τ).loc main_arg6)

/-- Which block of each array a grid point reads or writes. -/
theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0) :=
  (by decide +kernel : ∀ t : Fin grid0.N, _)

/-- The part of the normalised input that point `t` reads. -/
theorem iblk0 (c : Dev nD) (t : Fin cfg0.N) (j : S512x1024.Idx) :
    (iblk m c 0 t : Vec Ideal S512x1024 .bf16) j = at2 (gH m c) (512 * t.val + (j 0).val) (j 1).val := by
  obtain ⟨⟨e0, e1⟩, -⟩ := idx t
  unfold iblk
  rw [View.read_apply]
  refine at2_of_val (gH m c) _ _ _ ?_ ?_
  · show win0_0.index t 0 * 512 + 1 * (j 0).val = _; rw [e0]; omega
  · show win0_0.index t 1 * 1024 + 1 * (j 1).val = _; rw [e1]; omega

/-- The part of the first part of the gradient that point `t` reads. -/
theorem iblk1 (c : Dev nD) (t : Fin cfg0.N) (j : S512x512.Idx) :
    (iblk m c 1 t : Vec Ideal S512x512 .bf16) j = at2 (gZ1 m c) (512 * t.val + (j 0).val) (j 1).val := by
  obtain ⟨-, ⟨e0, e1⟩, -⟩ := idx t
  unfold iblk
  rw [View.read_apply]
  refine at2_of_val (gZ1 m c) _ _ _ ?_ ?_
  · show win0_1.index t 0 * 512 + 1 * (j 0).val = _; rw [e0]; omega
  · show win0_1.index t 1 * 512 + 1 * (j 1).val = _; rw [e1]; omega

/-- The part of the second part of the gradient that point `t` reads. -/
theorem iblk2 (c : Dev nD) (t : Fin cfg0.N) (j : S512x512.Idx) :
    (iblk m c 2 t : Vec Ideal S512x512 .bf16) j = at2 (gZ2 m c) (512 * t.val + (j 0).val) (j 1).val := by
  obtain ⟨-, -, ⟨e0, e1⟩, -⟩ := idx t
  unfold iblk
  rw [View.read_apply]
  refine at2_of_val (gZ2 m c) _ _ _ ?_ ?_
  · show win0_2.index t 0 * 512 + 1 * (j 0).val = _; rw [e0]; omega
  · show win0_2.index t 1 * 512 + 1 * (j 1).val = _; rw [e1]; omega

/-- The part of the third part of the gradient that point `t` reads. -/
theorem iblk3 (c : Dev nD) (t : Fin cfg0.N) (j : S512x512.Idx) :
    (iblk m c 3 t : Vec Ideal S512x512 .bf16) j = at2 (gZ3 m c) (512 * t.val + (j 0).val) (j 1).val := by
  obtain ⟨-, -, -, ⟨e0, e1⟩, -⟩ := idx t
  unfold iblk
  rw [View.read_apply]
  refine at2_of_val (gZ3 m c) _ _ _ ?_ ?_
  · show win0_3.index t 0 * 512 + 1 * (j 0).val = _; rw [e0]; omega
  · show win0_3.index t 1 * 512 + 1 * (j 1).val = _; rw [e1]; omega

/-- The part of the fourth part of the gradient that point `t` reads. -/
theorem iblk4 (c : Dev nD) (t : Fin cfg0.N) (j : S512x512.Idx) :
    (iblk m c 4 t : Vec Ideal S512x512 .bf16) j = at2 (gZ4 m c) (512 * t.val + (j 0).val) (j 1).val := by
  obtain ⟨-, -, -, -, ⟨e0, e1⟩, -⟩ := idx t
  unfold iblk
  rw [View.read_apply]
  refine at2_of_val (gZ4 m c) _ _ _ ?_ ?_
  · show win0_4.index t 0 * 512 + 1 * (j 0).val = _; rw [e0]; omega
  · show win0_4.index t 1 * 512 + 1 * (j 1).val = _; rw [e1]; omega

/-- The part of the fifth part of the gradient that point `t` reads. -/
theorem iblk5 (c : Dev nD) (t : Fin cfg0.N) (j : S512x512.Idx) :
    (iblk m c 5 t : Vec Ideal S512x512 .bf16) j = at2 (gZ5 m c) (512 * t.val + (j 0).val) (j 1).val := by
  obtain ⟨-, -, -, -, -, ⟨e0, e1⟩, -⟩ := idx t
  unfold iblk
  rw [View.read_apply]
  refine at2_of_val (gZ5 m c) _ _ _ ?_ ?_
  · show win0_5.index t 0 * 512 + 1 * (j 0).val = _; rw [e0]; omega
  · show win0_5.index t 1 * 512 + 1 * (j 1).val = _; rw [e1]; omega

/-- The part of the sixth part of the gradient that point `t` reads. -/
theorem iblk6 (c : Dev nD) (t : Fin cfg0.N) (j : S512x128.Idx) :
    (iblk m c 6 t : Vec Ideal S512x128 .bf16) j = at2 (gZ6 m c) (512 * t.val + (j 0).val) (j 1).val := by
  obtain ⟨-, -, -, -, -, -, ⟨e0, e1⟩, -⟩ := idx t
  unfold iblk
  rw [View.read_apply]
  refine at2_of_val (gZ6 m c) _ _ _ ?_ ?_
  · show win0_6.index t 0 * 512 + 1 * (j 0).val = _; rw [e0]; omega
  · show win0_6.index t 1 * 128 + 1 * (j 1).val = _; rw [e1]; omega

/-- What the block holds after point `n`: the sum over the tiles so far. -/
theorem outs (c : Dev nD) : ∀ (n : ℕ) (hn : n < cfg0.N) (j : S1024x2688.Idx),
    (outsAt0 m c n hn j : EReal) = ∑ s ∈ Finset.range (n + 1), tile (gH m c) (gZ1 m c) (gZ2 m c) (gZ3 m c) (gZ4 m c) (gZ5 m c) (gZ6 m c) s (j 0).val (j 1).val
  | 0, hn, j => by
    rw [outsAt0_A m c ⟨0, hn⟩ rfl, outA]
    rw [Finset.sum_range_one]
    exact first6_apply _ _ _ _ _ _ _ _ (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk0 m c ⟨0, hn⟩) (iblk1 m c ⟨0, hn⟩) (iblk2 m c ⟨0, hn⟩) (iblk3 m c ⟨0, hn⟩) (iblk4 m c ⟨0, hn⟩) (iblk5 m c ⟨0, hn⟩) (iblk6 m c ⟨0, hn⟩) _ j (j 1).isLt
  | n + 1, hn, j => by
    have hN : cfg0.N = 16 := N_0
    have hB : ¬(⟨n + 1, hn⟩ : Fin cfg0.N).val % 16 = 0 := by dsimp only; omega
    rw [outsAt0_B m c ⟨n + 1, hn⟩ hB, outB]
    refine (later6_apply _ _ _ _ _ _ _ _ (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk0 m c ⟨n + 1, hn⟩) (iblk1 m c ⟨n + 1, hn⟩) (iblk2 m c ⟨n + 1, hn⟩) (iblk3 m c ⟨n + 1, hn⟩) (iblk4 m c ⟨n + 1, hn⟩) (iblk5 m c ⟨n + 1, hn⟩) (iblk6 m c ⟨n + 1, hn⟩) _ j (j 1).isLt).trans ?_
    rw [Finset.sum_range_succ _ (n + 1)]
    refine congrArg₂ (· + ·) ((at2_of_val _ j _ _ rfl rfl).symm.trans (outs c n _ j)) rfl

/-- The whole sum over the 8192 tokens. -/
noncomputable def value (H : S8192x1024.Idx → EReal) (Z1 : S8192x512.Idx → EReal) (Z2 : S8192x512.Idx → EReal) (Z3 : S8192x512.Idx → EReal) (Z4 : S8192x512.Idx → EReal) (Z5 : S8192x512.Idx → EReal) (Z6 : S8192x128.Idx → EReal) (p q : ℕ) : EReal := ∑ k : Fin 8192, term H Z1 Z2 Z3 Z4 Z5 Z6 p q k.val

/-- The array that the call leaves in the weight's gradient. -/
noncomputable def whole7 (c : Dev nD) : Buf (Elt Ideal) ((c : Thread nD τ).loc main_v0) :=
  fun (i : S1024x2688.Idx) => (value (gH m c) (gZ1 m c) (gZ2 m c) (gZ3 m c) (gZ4 m c) (gZ5 m c) (gZ6 m c) (i 0).val (i 1).val : EReal)

/-- What point `t` writes back is its block of that array. -/
theorem flushed_eq7 (c : Dev nD) (t : Fin cfg0.N) (hf : (cfg0.win 7).flush t = true) :
    (dats m 0 c).flushed 7 t = ((cfg0.win 7).blk t).view.read (Elt Ideal) (whole7 m c) := by
  obtain ⟨-, -, -, -, -, -, -, ⟨e0, e1⟩⟩ := idx t
  rw [Value.flushed7]
  funext (y : S1024x2688.Idx)
  have h0 : (y 0).val < 1024 := (y 0).isLt
  have h1 : (y 1).val < 2688 := (y 1).isLt
  have hv : ((cfg0.win 7).blk t).view.read (Elt Ideal) (whole7 m c) y = value (gH m c) (gZ1 m c) (gZ2 m c) (gZ3 m c) (gZ4 m c) (gZ5 m c) (gZ6 m c) (y 0).val (y 1).val := by
    rw [View.read_apply, cast_eq]
    show value (gH m c) (gZ1 m c) (gZ2 m c) (gZ3 m c) (gZ4 m c) (gZ5 m c) (gZ6 m c) (win0_7.index t 0 * 1024 + 1 * (y 0).val) (win0_7.index t 1 * 2688 + 1 * (y 1).val) = _
    rw [e0, e1]
    congr 1 <;> omega
  rw [hv]
  show (outsAt0 m c t.val t.isLt y : EReal) = _
  have hN : cfg0.N = 16 := N_0
  have ht : t.val = 15 := by have := (flush0_7 t).mp hf; have := t.isLt; omega
  refine (outs m c t.val t.isLt y).trans ?_
  rw [ht]
  exact sum_tiles 16 512 (term (gH m c) (gZ1 m c) (gZ2 m c) (gZ3 m c) (gZ4 m c) (gZ5 m c) (gZ6 m c) (y 0).val (y 1).val)

/-- Every element of the array is in the block of some point. -/
theorem cover7 (i : S1024x2688.Idx) : ∃ t : Fin cfg0.N, (cfg0.win 7).flush t = true ∧ i ∈ ((cfg0.win 7).blk t).view.set := by
  have h0 : (i 0).val < 1024 := (i 0).isLt
  have h1 : (i 1).val < 2688 := (i 1).isLt
  have hN : cfg0.N = 16 := N_0
  refine ⟨⟨15, by omega⟩, (flush0_7 _).mpr (by dsimp only), ?_⟩
  generalize ht : (⟨15, _⟩ : Fin cfg0.N) = t
  have ht' : t.val = 15 := by rw [← ht]
  obtain ⟨-, -, -, -, -, -, -, ⟨e0, e1⟩⟩ := idx t
  show i ∈ ((View.whole main_v0).slice (win0_7.rect t)).set
  rw [View.set_slice_whole, Rect.mem_set_unit]
  intro a
  match a with
  | ⟨0, _⟩ => exact ⟨by show win0_7.index t 0 * 1024 ≤ (i 0).val; rw [e0]; omega, by show (i 0).val < win0_7.index t 0 * 1024 + 1024; rw [e0]; omega⟩
  | ⟨1, _⟩ => exact ⟨by show win0_7.index t 1 * 2688 ≤ (i 1).val; rw [e1]; omega, by show (i 1).val < win0_7.index t 1 * 2688 + 2688; rw [e1]; omega⟩

/-- The array after the run. -/
theorem result7 (c : Dev nD) : (dats m 0 c).arrAt 7 cfg0.N = whole7 m c :=
  (dats m 0 c).arrAt_eq_of_cover 7 (whole7 m c) (flushed_eq7 m c) cover7

open Cert.Reference9Ideal.Read in
/-- The reference's gradient at an element: the same sum. -/
theorem reference (x0 : S8192x1024.Idx → EReal) (x1 x2 x3 x4 x5 : S8192x512.Idx → EReal) (x6 : S8192x128.Idx → EReal) (i : S1024x2688.Idx) :
    val_main_v6 (F := Ideal) x0 x1 x2 x3 x4 x5 x6 i = value x0 x1 x2 x3 x4 x5 x6 (i 0).val (i 1).val := by
  pointwise [val_main_v6, val_main_v5, val_main_v3, val_main_v1, val_main_v0]
  refine Finset.sum_congr rfl fun k _ => ?_
  rw [mul_comm]
  refine congrArg₂ (· * ·) (at2_of_val x0 _ _ _ rfl rfl) ?_
  unfold joined
  have hi : (i 1).val < 2688 := (i 1).isLt
  by_cases h1 : (i 1).val < 512
  · refine (dif_pos h1).trans (Eq.trans ?_ (if_pos (show (i 1).val < 512 by omega)).symm)
    exact at2_of_val x1 _ _ _ rfl (by show (i 1).val = _; omega)
  refine (dif_neg h1).trans (Eq.trans ?_ (if_neg (show ¬(i 1).val < 512 by omega)).symm)
  by_cases h2 : (i 1).val - 512 < 512
  · refine (dif_pos h2).trans (Eq.trans ?_ (if_pos (show (i 1).val < 1024 by omega)).symm)
    exact at2_of_val x2 _ _ _ rfl (by show (i 1).val - 512 = _; omega)
  refine (dif_neg h2).trans (Eq.trans ?_ (if_neg (show ¬(i 1).val < 1024 by omega)).symm)
  by_cases h3 : (i 1).val - 512 - 512 < 512
  · refine (dif_pos h3).trans (Eq.trans ?_ (if_pos (show (i 1).val < 1536 by omega)).symm)
    exact at2_of_val x3 _ _ _ rfl (by show (i 1).val - 512 - 512 = _; omega)
  refine (dif_neg h3).trans (Eq.trans ?_ (if_neg (show ¬(i 1).val < 1536 by omega)).symm)
  by_cases h4 : (i 1).val - 512 - 512 - 512 < 512
  · refine (dif_pos h4).trans (Eq.trans ?_ (if_pos (show (i 1).val < 2048 by omega)).symm)
    exact at2_of_val x4 _ _ _ rfl (by show (i 1).val - 512 - 512 - 512 = _; omega)
  refine (dif_neg h4).trans (Eq.trans ?_ (if_neg (show ¬(i 1).val < 2048 by omega)).symm)
  by_cases h5 : (i 1).val - 512 - 512 - 512 - 512 < 512
  · refine (dif_pos h5).trans (Eq.trans ?_ (if_pos (show (i 1).val < 2560 by omega)).symm)
    exact at2_of_val x5 _ _ _ rfl (by show (i 1).val - 512 - 512 - 512 - 512 = _; omega)
  refine (dif_neg h5).trans (Eq.trans ?_ (if_neg (show ¬(i 1).val < 2560 by omega)).symm)
  exact at2_of_val x6 _ _ _ rfl (by show (i 1).val - 512 - 512 - 512 - 512 - 512 = _; omega)

end Cert.DwIn
-- ==== Proof.Step.InProj.lean ====
/- The input projection: the RMS norm of 512 rows and their product with the weight, cut into the columns of the heads and
   those of the forget gates. -/
module

public import proofs.«01_k».proof.Proof.Ffn.Common
public import proofs.«01_k».proof.Proof.Gen.Kernel10Ideal.Value
public import proofs.«01_k».proof.Proof.Gen.Reference10Ideal.Read
public import Idealize.ShloMosaic.Lib.Pointwise
public import proofs.«01_k».proof.Proof.Ffn.UpBwd

@[expose] public section

namespace Cert.InProj

open Idealize.ShloMosaic Idealize.ShloMosaic.TcCoe Idealize.SL.Sem
open Cert.Kernel10Ideal Cert.Kernel10Ideal.Gen Cert.Common

theorem hz : (![0, 0] : Fin 2 → Nat) = fun _ => 0 := funext fun a => by fin_cases a <;> rfl

/-- The normalised input at row `p` and column `q`. -/
noncomputable def nrm (X : S8192x1024.Idx → EReal) (G : S1x1024.Idx → EReal) (p q : ℕ) : EReal :=
  at2 X p q * Cert.UpBwd.rs X p * at2 G 0 q

/-- The projection at row `p` and column `q`. -/
noncomputable def value (X : S8192x1024.Idx → EReal) (G : S1x1024.Idx → EReal) (W : S1024x2688.Idx → EReal) (p q : ℕ) : EReal :=
  ∑ x : Fin 1024, nrm X G p x.val * at2 W x.val q

section Tile
variable (X : S8192x1024.Idx → EReal) (G : S1x1024.Idx → EReal) (W : S1024x2688.Idx → EReal)
variable (b : ℕ) (x0 : S512x1024.Idx → EReal) (x1 : S1x1024.Idx → EReal) (x2 : S1024x2688.Idx → EReal)
variable (h0 : ∀ j, x0 j = at2 X (b + (j 0).val) (j 1).val) (h1 : ∀ j, x1 j = at2 G (j 0).val (j 1).val)
  (h2 : ∀ j, x2 j = at2 W (j 0).val (j 1).val)

include h0 h1 in
/-- The tile's normalised rows at an element. -/
theorem pay1_apply (j : S512x1024.Idx) : k0_pay1 (F := Ideal) x0 x1 j = nrm X G (b + (j 0).val) (j 1).val := by
  unfold k0_pay1
  pointwise []
  simp only [h0, h1]
  rfl

include h0 h1 h2 in
/-- The tile's product at an element. -/
theorem pay2_apply (j : S512x2688.Idx) : k0_pay2 (F := Ideal) x0 x1 x2 j = value X G W (b + (j 0).val) (j 1).val := by
  unfold k0_pay2
  pointwise []
  simp only [h2, pay1_apply X G b x0 x1 h0 h1]
  rfl

include h0 h1 h2 in
/-- The heads' columns of the tile's product. -/
theorem pay3_apply (j : S512x2560.Idx) : k0_pay3 (F := Ideal) x0 x1 x2 j = value X G W (b + (j 0).val) (j 1).val := by
  unfold k0_pay3
  pointwise []
  simp only [pay2_apply X G W b x0 x1 x2 h0 h1 h2]
  rfl

include h0 h1 h2 in
/-- The forget gates' columns of the tile's product. -/
theorem pay4_apply (j : S512x128.Idx) : k0_pay4 (F := Ideal) x0 x1 x2 j = value X G W (b + (j 0).val) (2560 + (j 1).val) := by
  unfold k0_pay4
  pointwise []
  simp only [pay2_apply X G W b x0 x1 x2 h0 h1 h2]
  rfl

end Tile

variable (m : (ℓ : Loc nD τ sig) → Buf (Elt Ideal) ℓ)

/-- The residual stream, one row per token. -/
abbrev gX (c : Dev nD) : S8192x1024.Idx → EReal := m ((c : Thread nD τ).loc main_arg0)
/-- The norm's gain. -/
abbrev gG (c : Dev nD) : S1x1024.Idx → EReal := m ((c : Thread nD τ).loc main_arg1)
/-- The weight, all its columns. -/
abbrev gW (c : Dev nD) : S1024x2688.Idx → EReal := m ((c : Thread nD τ).loc main_arg2)

/-- Which block of each array a grid point reads or writes. -/
theorem idx : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0) :=
  (by decide +kernel : ∀ t : Fin grid0.N, _)

/-- The part of the residual stream that point `t` reads. -/
theorem iblk0 (c : Dev nD) (t : Fin cfg0.N) (j : S512x1024.Idx) :
    (iblk m c 0 t : Vec Ideal S512x1024 .f32) j = at2 (gX m c) (512 * t.val + (j 0).val) (j 1).val := by
  obtain ⟨⟨e0, e1⟩, -⟩ := idx t
  unfold iblk
  rw [View.read_apply]
  refine at2_of_val (gX m c) _ _ _ ?_ ?_
  · show win0_0.index t 0 * 512 + 1 * (j 0).val = _; rw [e0]; omega
  · show win0_0.index t 1 * 1024 + 1 * (j 1).val = _; rw [e1]; omega

/-- The part of the gain that point `t` reads. -/
theorem iblk1 (c : Dev nD) (t : Fin cfg0.N) (j : S1x1024.Idx) :
    (iblk m c 1 t : Vec Ideal S1x1024 .f32) j = at2 (gG m c) (j 0).val (j 1).val := by
  obtain ⟨-, ⟨e0, e1⟩, -⟩ := idx t
  unfold iblk
  rw [View.read_apply]
  refine at2_of_val (gG m c) _ _ _ ?_ ?_
  · show win0_1.index t 0 * 1 + 1 * (j 0).val = _; rw [e0]; omega
  · show win0_1.index t 1 * 1024 + 1 * (j 1).val = _; rw [e1]; omega

/-- The part of the weight that point `t` reads. -/
theorem iblk2 (c : Dev nD) (t : Fin cfg0.N) (j : S1024x2688.Idx) :
    (iblk m c 2 t : Vec Ideal S1024x2688 .bf16) j = at2 (gW m c) (j 0).val (j 1).val := by
  obtain ⟨-, -, ⟨e0, e1⟩, -⟩ := idx t
  unfold iblk
  rw [View.read_apply]
  refine at2_of_val (gW m c) _ _ _ ?_ ?_
  · show win0_2.index t 0 * 1024 + 1 * (j 0).val = _; rw [e0]; omega
  · show win0_2.index t 1 * 2688 + 1 * (j 1).val = _; rw [e1]; omega

/-- The array that the call leaves in the heads' columns. -/
noncomputable def whole3 (c : Dev nD) : Buf (Elt Ideal) ((c : Thread nD τ).loc main_v0_0) :=
  fun (i : S8192x2560.Idx) => (value (gX m c) (gG m c) (gW m c) (i 0).val (i 1).val : EReal)

/-- What point `t` writes back is its block of that array. -/
theorem flushed_eq3 (c : Dev nD) (t : Fin cfg0.N) :
    (dats m 0 c).flushed 3 t = ((cfg0.win 3).blk t).view.read (Elt Ideal) (whole3 m c) := by
  obtain ⟨-, -, -, ⟨e0, e1⟩, -⟩ := idx t
  rw [Value.flushed3]
  funext (y : S512x2560.Idx)
  have h0 : (y 0).val < 512 := (y 0).isLt
  have h1 : (y 1).val < 2560 := (y 1).isLt
  have hv : ((cfg0.win 3).blk t).view.read (Elt Ideal) (whole3 m c) y = value (gX m c) (gG m c) (gW m c) (512 * t.val + (y 0).val) (y 1).val := by
    rw [View.read_apply, cast_eq]
    show value (gX m c) (gG m c) (gW m c) (win0_3.index t 0 * 512 + 1 * (y 0).val) (win0_3.index t 1 * 2560 + 1 * (y 1).val) = _
    rw [e0, e1]
    congr 1 <;> omega
  rw [hv]
  have ho : out0_3 (F := Ideal) (iblk m c 0 t) (iblk m c 1 t) (iblk m c 2 t) = k0_pay3 (F := Ideal) (iblk m c 0 t) (iblk m c 1 t) (iblk m c 2 t) := by
    unfold out0_3 r0_0 r0_1 r0_2 r0_3
    rw [View.canon_unit_zero hz, View.ld_unit_zero (S := S512x1024) hz, View.ld_unit_zero (S := S1x1024) hz, View.ld_unit_zero (S := S1024x2688) hz]
  refine (congrFun ho y).trans ?_
  exact pay3_apply _ _ _ _ _ _ _ (iblk0 m c t) (iblk1 m c t) (iblk2 m c t) y

/-- Every element of the array is in the block of some point. -/
theorem cover3 (i : S8192x2560.Idx) : ∃ t : Fin cfg0.N, (cfg0.win 3).flush t = true ∧ i ∈ ((cfg0.win 3).blk t).view.set := by
  have h0 : (i 0).val < 8192 := (i 0).isLt
  have h1 : (i 1).val < 2560 := (i 1).isLt
  have hN : cfg0.N = 16 := N_0
  refine ⟨⟨(i 0).val / 512, by omega⟩, flush0_3 _, ?_⟩
  generalize ht : (⟨(i 0).val / 512, _⟩ : Fin cfg0.N) = t
  have ht' : t.val = (i 0).val / 512 := by rw [← ht]
  obtain ⟨-, -, -, ⟨e0, e1⟩, -⟩ := idx t
  show i ∈ ((View.whole main_v0_0).slice (win0_3.rect t)).set
  rw [View.set_slice_whole, Rect.mem_set_unit]
  intro a
  match a with
  | ⟨0, _⟩ => exact ⟨by show win0_3.index t 0 * 512 ≤ (i 0).val; rw [e0]; omega, by show (i 0).val < win0_3.index t 0 * 512 + 512; rw [e0]; omega⟩
  | ⟨1, _⟩ => exact ⟨by show win0_3.index t 1 * 2560 ≤ (i 1).val; rw [e1]; omega, by show (i 1).val < win0_3.index t 1 * 2560 + 2560; rw [e1]; omega⟩

/-- The array after the run. -/
theorem result3 (c : Dev nD) : (dats m 0 c).arrAt 3 cfg0.N = whole3 m c :=
  (dats m 0 c).arrAt_eq_of_cover 3 (whole3 m c) (fun t _ => flushed_eq3 m c t) cover3

/-- The array that the call leaves in the forget gates' columns. -/
noncomputable def whole4 (c : Dev nD) : Buf (Elt Ideal) ((c : Thread nD τ).loc main_v0_1) :=
  fun (i : S8192x128.Idx) => (value (gX m c) (gG m c) (gW m c) (i 0).val (2560 + (i 1).val) : EReal)

/-- What point `t` writes back is its block of that array. -/
theorem flushed_eq4 (c : Dev nD) (t : Fin cfg0.N) :
    (dats m 0 c).flushed 4 t = ((cfg0.win 4).blk t).view.read (Elt Ideal) (whole4 m c) := by
  obtain ⟨-, -, -, -, ⟨e0, e1⟩, -⟩ := idx t
  rw [Value.flushed4]
  funext (y : S512x128.Idx)
  have h0 : (y 0).val < 512 := (y 0).isLt
  have h1 : (y 1).val < 128 := (y 1).isLt
  have hv : ((cfg0.win 4).blk t).view.read (Elt Ideal) (whole4 m c) y = value (gX m c) (gG m c) (gW m c) (512 * t.val + (y 0).val) (2560 + (y 1).val) := by
    rw [View.read_apply, cast_eq]
    show value (gX m c) (gG m c) (gW m c) (win0_4.index t 0 * 512 + 1 * (y 0).val) (2560 + (win0_4.index t 1 * 128 + 1 * (y 1).val)) = _
    rw [e0, e1]
    congr 1 <;> omega
  rw [hv]
  have ho : out0_4 (F := Ideal) (iblk m c 0 t) (iblk m c 1 t) (iblk m c 2 t) = k0_pay4 (F := Ideal) (iblk m c 0 t) (iblk m c 1 t) (iblk m c 2 t) := by
    unfold out0_4 r0_0 r0_1 r0_2 r0_4
    rw [View.canon_unit_zero hz, View.ld_unit_zero (S := S512x1024) hz, View.ld_unit_zero (S := S1x1024) hz, View.ld_unit_zero (S := S1024x2688) hz]
  refine (congrFun ho y).trans ?_
  exact pay4_apply _ _ _ _ _ _ _ (iblk0 m c t) (iblk1 m c t) (iblk2 m c t) y

/-- Every element of the array is in the block of some point. -/
theorem cover4 (i : S8192x128.Idx) : ∃ t : Fin cfg0.N, (cfg0.win 4).flush t = true ∧ i ∈ ((cfg0.win 4).blk t).view.set := by
  have h0 : (i 0).val < 8192 := (i 0).isLt
  have h1 : (i 1).val < 128 := (i 1).isLt
  have hN : cfg0.N = 16 := N_0
  refine ⟨⟨(i 0).val / 512, by omega⟩, flush0_4 _, ?_⟩
  generalize ht : (⟨(i 0).val / 512, _⟩ : Fin cfg0.N) = t
  have ht' : t.val = (i 0).val / 512 := by rw [← ht]
  obtain ⟨-, -, -, -, ⟨e0, e1⟩, -⟩ := idx t
  show i ∈ ((View.whole main_v0_1).slice (win0_4.rect t)).set
  rw [View.set_slice_whole, Rect.mem_set_unit]
  intro a
  match a with
  | ⟨0, _⟩ => exact ⟨by show win0_4.index t 0 * 512 ≤ (i 0).val; rw [e0]; omega, by show (i 0).val < win0_4.index t 0 * 512 + 512; rw [e0]; omega⟩
  | ⟨1, _⟩ => exact ⟨by show win0_4.index t 1 * 128 ≤ (i 1).val; rw [e1]; omega, by show (i 1).val < win0_4.index t 1 * 128 + 128; rw [e1]; omega⟩

/-- The array after the run. -/
theorem result4 (c : Dev nD) : (dats m 0 c).arrAt 4 cfg0.N = whole4 m c :=
  (dats m 0 c).arrAt_eq_of_cover 4 (whole4 m c) (fun t _ => flushed_eq4 m c t) cover4

/-- The array that the call leaves in the normalised input. -/
noncomputable def whole5 (c : Dev nD) : Buf (Elt Ideal) ((c : Thread nD τ).loc main_v0_2) :=
  fun (i : S8192x1024.Idx) => (nrm (gX m c) (gG m c) (i 0).val (i 1).val : EReal)

/-- What point `t` writes back is its block of that array. -/
theorem flushed_eq5 (c : Dev nD) (t : Fin cfg0.N) :
    (dats m 0 c).flushed 5 t = ((cfg0.win 5).blk t).view.read (Elt Ideal) (whole5 m c) := by
  obtain ⟨-, -, -, -, -, ⟨e0, e1⟩⟩ := idx t
  rw [Value.flushed5]
  funext (y : S512x1024.Idx)
  have h0 : (y 0).val < 512 := (y 0).isLt
  have h1 : (y 1).val < 1024 := (y 1).isLt
  have hv : ((cfg0.win 5).blk t).view.read (Elt Ideal) (whole5 m c) y = nrm (gX m c) (gG m c) (512 * t.val + (y 0).val) (y 1).val := by
    rw [View.read_apply, cast_eq]
    show nrm (gX m c) (gG m c) (win0_5.index t 0 * 512 + 1 * (y 0).val) (win0_5.index t 1 * 1024 + 1 * (y 1).val) = _
    rw [e0, e1]
    congr 1 <;> omega
  rw [hv]
  have ho : out0_5 (F := Ideal) (iblk m c 0 t) (iblk m c 1 t) (iblk m c 2 t) = k0_pay1 (F := Ideal) (iblk m c 0 t) (iblk m c 1 t) := by
    unfold out0_5 r0_0 r0_1
    rw [View.canon_unit_zero hz, View.ld_unit_zero (S := S512x1024) hz, View.ld_unit_zero (S := S1x1024) hz]
  refine (congrFun ho y).trans ?_
  exact pay1_apply _ _ _ _ _ (iblk0 m c t) (iblk1 m c t) y

/-- Every element of the array is in the block of some point. -/
theorem cover5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hN : cfg0.N = 16 := N_0
  refine ⟨⟨(i 0).val / 512, by omega⟩, flush0_5 _, ?_⟩
  generalize ht : (⟨(i 0).val / 512, _⟩ : Fin cfg0.N) = t
  have ht' : t.val = (i 0).val / 512 := by rw [← ht]
  obtain ⟨-, -, -, -, -, ⟨e0, e1⟩⟩ := idx t
  show i ∈ ((View.whole main_v0_2).slice (win0_5.rect t)).set
  rw [View.set_slice_whole, Rect.mem_set_unit]
  intro a
  match a with
  | ⟨0, _⟩ => exact ⟨by show win0_5.index t 0 * 512 ≤ (i 0).val; rw [e0]; omega, by show (i 0).val < win0_5.index t 0 * 512 + 512; rw [e0]; omega⟩
  | ⟨1, _⟩ => exact ⟨by show win0_5.index t 1 * 1024 ≤ (i 1).val; rw [e1]; omega, by show (i 1).val < win0_5.index t 1 * 1024 + 1024; rw [e1]; omega⟩

/-- The array after the run. -/
theorem result5 (c : Dev nD) : (dats m 0 c).arrAt 5 cfg0.N = whole5 m c :=
  (dats m 0 c).arrAt_eq_of_cover 5 (whole5 m c) (fun t _ => flushed_eq5 m c t) cover5

section reference

open Cert.Reference10Ideal.Read

variable (x0 : S8192x1024.Idx → EReal) (x1 : S1x1024.Idx → EReal) (x2 : S1024x2688.Idx → EReal)

/-- The reference's normalised input, before it is rounded. -/
theorem norm (i : S8192x1024.Idx) : val_main_v11 (F := Ideal) x0 x1 i = nrm x0 x1 (i 0).val (i 1).val := by
  have h0 : ∀ j : S8192x1024.Idx, x0 j = at2 x0 (j 0).val (j 1).val := fun j => at2_of_val x0 j _ _ rfl rfl
  pointwise [val_main_v11, val_main_v10, val_main_v9, val_main_v8, val_main_v7, val_main_v6, val_main_v5, val_main_v4, val_main_v3, val_main_v2, val_main_v1, val_main_v0, val_main_cst, val_main_cst_0, val_main_cst_1]
  refine congrArg₂ (· * ·) (congrArg₂ (· * ·) (h0 _) (congrArg (fun z => Ideal.rsqrt (Ideal.div z _ + _)) (Finset.sum_congr rfl fun x _ => ?_)))
    (at2_of_val x1 _ _ _ rfl rfl)
  exact congrArg₂ (· * ·) (h0 _) (h0 _)

/-- The reference's projection at an element. -/
theorem proj (i : Reference10Ideal.S8192x2688.Idx) : val_main_v13 (F := Ideal) x0 x1 x2 i = value x0 x1 x2 (i 0).val (i 1).val := by
  rw [val_main_v13_apply]
  refine Finset.sum_congr rfl fun x _ => congrArg₂ (· * ·) (norm x0 x1 _) ?_
  rw [val_main_v12_apply]
  exact at2_of_val x2 _ _ _ rfl rfl

/-- The reference's columns of the heads. -/
theorem reference3 (i : S8192x2560.Idx) : val_main_v15 (F := Ideal) x0 x1 x2 i = value x0 x1 x2 (i 0).val (i 1).val := by
  rw [val_main_v15_apply, val_main_v14_apply]
  exact proj x0 x1 x2 _

/-- The reference's columns of the forget gates. -/
theorem reference4 (i : S8192x128.Idx) : val_main_v16 (F := Ideal) x0 x1 x2 i = value x0 x1 x2 (i 0).val (2560 + (i 1).val) := by
  rw [val_main_v16_apply]
  exact proj x0 x1 x2 _

/-- The reference's normalised input. -/
theorem reference5 (i : S8192x1024.Idx) : val_main_v17 (F := Ideal) x0 x1 i = nrm x0 x1 (i 0).val (i 1).val := by
  rw [val_main_v17_apply]
  exact norm x0 x1 i

end reference

end Cert.InProj
-- ==== Proof.Step.MixOut.lean ====
/- The output projection: each grid point multiplies 512 rows of the two mixers with the halves of the weight, adds them to
   the residual stream and normalises the sum; the reference multiplies the joined mixers with the whole weight. -/
module

public import proofs.«01_k».proof.Proof.Ffn.Common
public import proofs.«01_k».proof.Proof.Gen.Kernel11Ideal.Value
public import proofs.«01_k».proof.Proof.Gen.Reference11Ideal.Read
public import Idealize.ShloMosaic.Lib.Pointwise

@[expose] public section

namespace Cert.MixOut

open Idealize.ShloMosaic Idealize.ShloMosaic.TcCoe Idealize.SL.Sem
open Cert.Kernel11Ideal Cert.Kernel11Ideal.Gen Cert.Common

theorem hz : (![0, 0] : Fin 2 → Nat) = fun _ => 0 := funext fun a => by fin_cases a <;> rfl

/-- The residual stream after the projection, at row `p` and column `q`. -/
noncomputable def sum (X : S8192x1024.Idx → EReal) (A B : S8192x512.Idx → EReal) (W : S1024x1024.Idx → EReal) (p q : ℕ) : EReal :=
  at2 X p q + (∑ x : Fin 512, at2 A p x.val * at2 W x.val q + ∑ x : Fin 512, at2 B p x.val * at2 W (512 + x.val) q)

/-- The normalised stream at row `p` and column `q`. -/
noncomputable def nrm (X : S8192x1024.Idx → EReal) (A B : S8192x512.Idx → EReal) (W : S1024x1024.Idx → EReal) (G : S1x1024.Idx → EReal) (p q : ℕ) : EReal :=
  sum X A B W p q * Ideal.rsqrt (Ideal.div (∑ x : Fin 1024, sum X A B W p x.val * sum X A B W p x.val) (Ideal.ofBits .f32 0x44800000#32)
    + Ideal.ofBits .f32 0x358637BD#32) * at2 G 0 q

section Tile
variable (X : S8192x1024.Idx → EReal) (A B : S8192x512.Idx → EReal) (W : S1024x1024.Idx → EReal) (G : S1x1024.Idx → EReal)
variable (b : ℕ) (x0 : S512x1024.Idx → EReal) (x1 x2 : S512x512.Idx → EReal) (x3 : S1024x1024.Idx → EReal) (x4 : S1x1024.Idx → EReal)
variable (h0 : ∀ j, x0 j = at2 X (b + (j 0).val) (j 1).val) (h1 : ∀ j, x1 j = at2 A (b + (j 0).val) (j 1).val)
  (h2 : ∀ j, x2 j = at2 B (b + (j 0).val) (j 1).val) (h3 : ∀ j, x3 j = at2 W (j 0).val (j 1).val) (h4 : ∀ j, x4 j = at2 G (j 0).val (j 1).val)

/-- The tile of the stream after the projection. -/
noncomputable def tsum (x0 : Vec Ideal S512x1024 .f32) (x1 x2 : Vec Ideal S512x512 .bf16) (x3 : Vec Ideal S1024x1024 .bf16) : FVec Ideal S512x1024 .f32 :=
  k0_pay1 (F := Ideal) x1 (View.ld (Val := Elt Ideal) x3 r0_1) x2 (View.ld (Val := Elt Ideal) x3 r0_2) x0

include h0 h1 h2 h3 in
/-- The tile of the stream after the projection, at an element. -/
theorem tsum_apply (j : S512x1024.Idx) : tsum x0 x1 x2 x3 j = sum X A B W (b + (j 0).val) (j 1).val := by
  unfold tsum k0_pay1 r0_1 r0_2
  pointwise []
  simp only [h0, h1, h2, h3]
  rfl

include h0 h1 h2 h3 h4 in
/-- The tile of the normalised stream, at an element. -/
theorem tnrm_apply (j : S512x1024.Idx) :
    k0_pay2 (F := Ideal) x1 (View.ld (Val := Elt Ideal) x3 r0_1) x2 (View.ld (Val := Elt Ideal) x3 r0_2) x0 x4 j = nrm X A B W G (b + (j 0).val) (j 1).val := by
  unfold k0_pay2
  rw [show k0_pay1 (F := Ideal) x1 (View.ld (Val := Elt Ideal) x3 r0_1) x2 (View.ld (Val := Elt Ideal) x3 r0_2) x0 = tsum x0 x1 x2 x3 from rfl]
  pointwise []
  simp only [h4, tsum_apply X A B W b x0 x1 x2 x3 h0 h1 h2 h3]
  rfl

end Tile

variable (m : (ℓ : Loc nD τ sig) → Buf (Elt Ideal) ℓ)

/-- The residual stream, one row per token. -/
abbrev gX (c : Dev nD) : S8192x1024.Idx → EReal := m ((c : Thread nD τ).loc main_arg0)
/-- The first mixer's output, one row per token. -/
abbrev gA (c : Dev nD) : S8192x512.Idx → EReal := m ((c : Thread nD τ).loc main_arg1)
/-- The second mixer's output, one row per token. -/
abbrev gB (c : Dev nD) : S8192x512.Idx → EReal := m ((c : Thread nD τ).loc main_arg2)
/-- The weight. -/
abbrev gW (c : Dev nD) : S1024x1024.Idx → EReal := m ((c : Thread nD τ).loc main_arg3)
/-- The norm's gain. -/
abbrev gG (c : Dev nD) : S1x1024.Idx → EReal := m ((c : Thread nD τ).loc main_arg4)

/-- Which block of each array a grid point reads or writes. -/
theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0) :=
  (by decide +kernel : ∀ t : Fin grid0.N, _)

/-- The part of the residual stream that point `t` reads. -/
theorem iblk0 (c : Dev nD) (t : Fin cfg0.N) (j : S512x1024.Idx) :
    (iblk m c 0 t : Vec Ideal S512x1024 .f32) j = at2 (gX m c) (512 * t.val + (j 0).val) (j 1).val := by
  obtain ⟨⟨e0, e1⟩, -⟩ := idx t
  unfold iblk
  rw [View.read_apply]
  refine at2_of_val (gX m c) _ _ _ ?_ ?_
  · show win0_0.index t 0 * 512 + 1 * (j 0).val = _; rw [e0]; omega
  · show win0_0.index t 1 * 1024 + 1 * (j 1).val = _; rw [e1]; omega

/-- The part of the first mixer's output that point `t` reads. -/
theorem iblk1 (c : Dev nD) (t : Fin cfg0.N) (j : S512x512.Idx) :
    (iblk m c 1 t : Vec Ideal S512x512 .bf16) j = at2 (gA m c) (512 * t.val + (j 0).val) (j 1).val := by
  obtain ⟨-, ⟨e0, e1⟩, -⟩ := idx t
  unfold iblk
  rw [View.read_apply]
  refine at2_of_val (gA m c) _ _ _ ?_ ?_
  · show win0_1.index t 0 * 512 + 1 * (j 0).val = _; rw [e0]; omega
  · show win0_1.index t 1 * 512 + 1 * (j 1).val = _; rw [e1]; omega

/-- The part of the second mixer's output that point `t` reads. -/
theorem iblk2 (c : Dev nD) (t : Fin cfg0.N) (j : S512x512.Idx) :
    (iblk m c 2 t : Vec Ideal S512x512 .bf16) j = at2 (gB m c) (512 * t.val + (j 0).val) (j 1).val := by
  obtain ⟨-, -, ⟨e0, e1⟩, -⟩ := idx t
  unfold iblk
  rw [View.read_apply]
  refine at2_of_val (gB m c) _ _ _ ?_ ?_
  · show win0_2.index t 0 * 512 + 1 * (j 0).val = _; rw [e0]; omega
  · show win0_2.index t 1 * 512 + 1 * (j 1).val = _; rw [e1]; omega

/-- The part of the weight that point `t` reads. -/
theorem iblk3 (c : Dev nD) (t : Fin cfg0.N) (j : S1024x1024.Idx) :
    (iblk m c 3 t : Vec Ideal S1024x1024 .bf16) j = at2 (gW m c) (j 0).val (j 1).val := by
  obtain ⟨-, -, -, ⟨e0, e1⟩, -⟩ := idx t
  unfold iblk
  rw [View.read_apply]
  refine at2_of_val (gW m c) _ _ _ ?_ ?_
  · show win0_3.index t 0 * 1024 + 1 * (j 0).val = _; rw [e0]; omega
  · show win0_3.index t 1 * 1024 + 1 * (j 1).val = _; rw [e1]; omega

/-- The part of the gain that point `t` reads. -/
theorem iblk4 (c : Dev nD) (t : Fin cfg0.N) (j : S1x1024.Idx) :
    (iblk m c 4 t : Vec Ideal S1x1024 .f32) j = at2 (gG m c) (j 0).val (j 1).val := by
  obtain ⟨-, -, -, -, ⟨e0, e1⟩, -⟩ := idx t
  unfold iblk
  rw [View.read_apply]
  refine at2_of_val (gG m c) _ _ _ ?_ ?_
  · show win0_4.index t 0 * 1 + 1 * (j 0).val = _; rw [e0]; omega
  · show win0_4.index t 1 * 1024 + 1 * (j 1).val = _; rw [e1]; omega

/-- The array that the call leaves in the residual stream. -/
noncomputable def whole5 (c : Dev nD) : Buf (Elt Ideal) ((c : Thread nD τ).loc main_v0_0) :=
  fun (i : S8192x1024.Idx) => (sum (gX m c) (gA m c) (gB m c) (gW m c) (i 0).val (i 1).val : EReal)

/-- What point `t` writes back is its block of that array. -/
theorem flushed_eq5 (c : Dev nD) (t : Fin cfg0.N) :
    (dats m 0 c).flushed 5 t = ((cfg0.win 5).blk t).view.read (Elt Ideal) (whole5 m c) := by
  obtain ⟨-, -, -, -, -, ⟨e0, e1⟩, -⟩ := idx t
  rw [Value.flushed5]
  funext (y : S512x1024.Idx)
  have h0 : (y 0).val < 512 := (y 0).isLt
  have h1 : (y 1).val < 1024 := (y 1).isLt
  have hv : ((cfg0.win 5).blk t).view.read (Elt Ideal) (whole5 m c) y = sum (gX m c) (gA m c) (gB m c) (gW m c) (512 * t.val + (y 0).val) (y 1).val := by
    rw [View.read_apply, cast_eq]
    show sum (gX m c) (gA m c) (gB m c) (gW m c) (win0_5.index t 0 * 512 + 1 * (y 0).val) (win0_5.index t 1 * 1024 + 1 * (y 1).val) = _
    rw [e0, e1]
    congr 1 <;> omega
  rw [hv]
  have ho : out0_5 (F := Ideal) (iblk m c 0 t) (iblk m c 1 t) (iblk m c 2 t) (iblk m c 3 t) (iblk m c 4 t) = tsum (iblk m c 0 t) (iblk m c 1 t) (iblk m c 2 t) (iblk m c 3 t) := by
    unfold out0_5 tsum r0_0 r0_3
    rw [View.canon_unit_zero hz, View.ld_unit_zero (S := S512x512) hz, View.ld_unit_zero (S := S512x512) hz, View.ld_unit_zero (S := S512x1024) hz]
  refine (congrFun ho y).trans ?_
  exact tsum_apply _ _ _ _ _ _ _ _ _ (iblk0 m c t) (iblk1 m c t) (iblk2 m c t) (iblk3 m c t) y

/-- Every element of the array is in the block of some point. -/
theorem cover5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hN : cfg0.N = 16 := N_0
  refine ⟨⟨(i 0).val / 512, by omega⟩, flush0_5 _, ?_⟩
  generalize ht : (⟨(i 0).val / 512, _⟩ : Fin cfg0.N) = t
  have ht' : t.val = (i 0).val / 512 := by rw [← ht]
  obtain ⟨-, -, -, -, -, ⟨e0, e1⟩, -⟩ := idx t
  show i ∈ ((View.whole main_v0_0).slice (win0_5.rect t)).set
  rw [View.set_slice_whole, Rect.mem_set_unit]
  intro a
  match a with
  | ⟨0, _⟩ => exact ⟨by show win0_5.index t 0 * 512 ≤ (i 0).val; rw [e0]; omega, by show (i 0).val < win0_5.index t 0 * 512 + 512; rw [e0]; omega⟩
  | ⟨1, _⟩ => exact ⟨by show win0_5.index t 1 * 1024 ≤ (i 1).val; rw [e1]; omega, by show (i 1).val < win0_5.index t 1 * 1024 + 1024; rw [e1]; omega⟩

/-- The array after the run. -/
theorem result5 (c : Dev nD) : (dats m 0 c).arrAt 5 cfg0.N = whole5 m c :=
  (dats m 0 c).arrAt_eq_of_cover 5 (whole5 m c) (fun t _ => flushed_eq5 m c t) cover5

/-- The array that the call leaves in the normalised stream. -/
noncomputable def whole6 (c : Dev nD) : Buf (Elt Ideal) ((c : Thread nD τ).loc main_v0_1) :=
  fun (i : S8192x1024.Idx) => (nrm (gX m c) (gA m c) (gB m c) (gW m c) (gG m c) (i 0).val (i 1).val : EReal)

/-- What point `t` writes back is its block of that array. -/
theorem flushed_eq6 (c : Dev nD) (t : Fin cfg0.N) :
    (dats m 0 c).flushed 6 t = ((cfg0.win 6).blk t).view.read (Elt Ideal) (whole6 m c) := by
  obtain ⟨-, -, -, -, -, -, ⟨e0, e1⟩⟩ := idx t
  rw [Value.flushed6]
  funext (y : S512x1024.Idx)
  have h0 : (y 0).val < 512 := (y 0).isLt
  have h1 : (y 1).val < 1024 := (y 1).isLt
  have hv : ((cfg0.win 6).blk t).view.read (Elt Ideal) (whole6 m c) y = nrm (gX m c) (gA m c) (gB m c) (gW m c) (gG m c) (512 * t.val + (y 0).val) (y 1).val := by
    rw [View.read_apply, cast_eq]
    show nrm (gX m c) (gA m c) (gB m c) (gW m c) (gG m c) (win0_6.index t 0 * 512 + 1 * (y 0).val) (win0_6.index t 1 * 1024 + 1 * (y 1).val) = _
    rw [e0, e1]
    congr 1 <;> omega
  rw [hv]
  have ho : out0_6 (F := Ideal) (iblk m c 0 t) (iblk m c 1 t) (iblk m c 2 t) (iblk m c 3 t) (iblk m c 4 t) = k0_pay2 (F := Ideal) (iblk m c 1 t) (View.ld (Val := Elt Ideal) (e' := .bf16) (iblk m c 3 t) r0_1) (iblk m c 2 t) (View.ld (Val := Elt Ideal) (e' := .bf16) (iblk m c 3 t) r0_2) (iblk m c 0 t) (iblk m c 4 t) := by
    unfold out0_6 r0_0 r0_3 r0_4
    rw [View.canon_unit_zero hz, View.ld_unit_zero (S := S512x512) hz, View.ld_unit_zero (S := S512x512) hz, View.ld_unit_zero (S := S512x1024) hz, View.ld_unit_zero (S := S1x1024) hz]
    rfl
  refine (congrFun ho y).trans ?_
  exact tnrm_apply _ _ _ _ _ _ _ _ _ _ _ (iblk0 m c t) (iblk1 m c t) (iblk2 m c t) (iblk3 m c t) (iblk4 m c t) y

/-- Every element of the array is in the block of some point. -/
theorem cover6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hN : cfg0.N = 16 := N_0
  refine ⟨⟨(i 0).val / 512, by omega⟩, flush0_6 _, ?_⟩
  generalize ht : (⟨(i 0).val / 512, _⟩ : Fin cfg0.N) = t
  have ht' : t.val = (i 0).val / 512 := by rw [← ht]
  obtain ⟨-, -, -, -, -, -, ⟨e0, e1⟩⟩ := idx t
  show i ∈ ((View.whole main_v0_1).slice (win0_6.rect t)).set
  rw [View.set_slice_whole, Rect.mem_set_unit]
  intro a
  match a with
  | ⟨0, _⟩ => exact ⟨by show win0_6.index t 0 * 512 ≤ (i 0).val; rw [e0]; omega, by show (i 0).val < win0_6.index t 0 * 512 + 512; rw [e0]; omega⟩
  | ⟨1, _⟩ => exact ⟨by show win0_6.index t 1 * 1024 ≤ (i 1).val; rw [e1]; omega, by show (i 1).val < win0_6.index t 1 * 1024 + 1024; rw [e1]; omega⟩

/-- The array after the run. -/
theorem result6 (c : Dev nD) : (dats m 0 c).arrAt 6 cfg0.N = whole6 m c :=
  (dats m 0 c).arrAt_eq_of_cover 6 (whole6 m c) (fun t _ => flushed_eq6 m c t) cover6

section reference

open Cert.Reference11Ideal.Read

variable (x0 : S8192x1024.Idx → EReal) (x1 x2 : S8192x512.Idx → EReal) (x3 : S1024x1024.Idx → EReal) (x4 : S1x1024.Idx → EReal)

/-- The reference's stream after the projection. -/
theorem reference5 (i : S8192x1024.Idx) : val_main_v4 (F := Ideal) x0 x1 x2 x3 i = sum x0 x1 x2 x3 (i 0).val (i 1).val := by
  pointwise [val_main_v4, val_main_v3, val_main_v2, val_main_v1, val_main_v0]
  refine congrArg₂ (· + ·) (at2_of_val x0 _ _ _ rfl rfl) (congrArg₂ (· + ·) (Finset.sum_congr rfl fun r _ => ?_) (Finset.sum_congr rfl fun r _ => ?_))
  · exact congrArg₂ (· * ·) (at2_of_val x1 _ _ _ rfl rfl) (at2_of_val x3 _ _ _ rfl rfl)
  · exact congrArg₂ (· * ·) (at2_of_val x2 _ _ _ rfl rfl) (at2_of_val x3 _ _ _ rfl rfl)

/-- The reference's normalised stream. -/
theorem reference6 (i : S8192x1024.Idx) : val_main_v17 (F := Ideal) x0 x1 x2 x3 x4 i = nrm x0 x1 x2 x3 x4 (i 0).val (i 1).val := by
  pointwise [val_main_v17, val_main_v16, val_main_v15, val_main_v14, val_main_v13, val_main_v12, val_main_v11, val_main_v10, val_main_v9, val_main_v8, val_main_v7, val_main_v6, val_main_v5, val_main_cst, val_main_cst_0, val_main_cst_1]
  simp only [reference5]
  exact congrArg₂ (· * ·) rfl (at2_of_val x4 _ _ _ rfl rfl)

end reference

end Cert.MixOut
-- ==== Proof.Step.Claims.lean ====
/- The claims of the projections' calls, which need no precondition: the projections of the forward pass with their norms,
   and the gradients of the output projection and of the two projections' weights. -/
module

public import proofs.«01_k».proof.Defs
public import proofs.«01_k».proof.Proof.Step.UpProj
public import proofs.«01_k».proof.Proof.Step.OutBwd
public import proofs.«01_k».proof.Proof.Step.DwOut
public import proofs.«01_k».proof.Proof.Step.DwIn
public import proofs.«01_k».proof.Proof.Step.InProj
public import proofs.«01_k».proof.Proof.Step.MixOut
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import Idealize.ShloMosaic.Lib.Quiescent

@[expose] public section

namespace Cert.Step

open Idealize.ShloMosaic Idealize.SL.Sem

/-- The up projection: the reference runs, keeps its arguments and leaves no semaphore counted up. -/
theorem frame6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The up projection: kernel and reference end with the same array. -/
theorem algebraic6 : Cert.algebraic_Kernel6Ideal_Reference6Ideal := by
  intro m ρ m' ρ' _ hagree
  refine ⟨fun c => Cert.UpProj.whole2 m c, ?_, ?_⟩
  · exact (θ_run Cert.Kernel6Ideal.defs _ _).mono (fun r h c => ⟨(h c).1.trans (Cert.UpProj.result2 m c), (h c).2⟩)
      (Cert.Kernel6Ideal.Value.run_blocks (F := Ideal) m ρ)
  · refine (θ_run Cert.Reference6Ideal.defs _ _).mono (fun r h c => ⟨(h c).1.trans ?_, (h c).2⟩)
      (Cert.Reference6Ideal.Value.run (F := Ideal) m' ρ')
    · refine (Cert.Reference6Ideal.Read.val_main_v12_eq _ _ ).trans (funext fun i => ?_)
      obtain ⟨a0, a1⟩ := hagree c
      rw [a0, a1]
      exact Cert.UpProj.reference _ _ i

/-- The output projection's gradient: the reference runs, keeps its arguments and leaves no semaphore counted up. -/
theorem frame7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The output projection's gradient: kernel and reference end with the same array. -/
theorem algebraic7 : Cert.algebraic_Kernel7Ideal_Reference7Ideal := by
  intro m ρ m' ρ' _ hagree
  refine ⟨fun c => Cert.OutBwd.whole2 m c, ?_, ?_⟩
  · exact (θ_run Cert.Kernel7Ideal.defs _ _).mono (fun r h c => ⟨(h c).1.trans (Cert.OutBwd.result2 m c), (h c).2⟩)
      (Cert.Kernel7Ideal.Value.run_blocks (F := Ideal) m ρ)
  · refine (θ_run Cert.Reference7Ideal.defs _ _).mono (fun r h c => ⟨(h c).1.trans ?_, (h c).2⟩)
      (Cert.Reference7Ideal.Value.run (F := Ideal) m' ρ')
    · refine (Cert.Reference7Ideal.Read.val_main_v4_eq _ _ ).trans (funext fun i => ?_)
      obtain ⟨a0, a1⟩ := hagree c
      rw [a0, a1]
      exact Cert.OutBwd.reference _ _ i

/-- The output projection's weight gradient: the reference runs, keeps its arguments and leaves no semaphore counted up. -/
theorem frame8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The output projection's weight gradient: kernel and reference end with the same array. -/
theorem algebraic8 : Cert.algebraic_Kernel8Ideal_Reference8Ideal := by
  intro m ρ m' ρ' _ hagree
  refine ⟨fun c => Cert.DwOut.whole3 m c, ?_, ?_⟩
  · exact (θ_run Cert.Kernel8Ideal.defs _ _).mono (fun r h c => ⟨(h c).1.trans (Cert.DwOut.result3 m c), (h c).2⟩)
      (Cert.Kernel8Ideal.Value.run_blocks (F := Ideal) m ρ)
  · refine (θ_run Cert.Reference8Ideal.defs _ _).mono (fun r h c => ⟨(h c).1.trans ?_, (h c).2⟩)
      (Cert.Reference8Ideal.Value.run (F := Ideal) m' ρ')
    · refine (Cert.Reference8Ideal.Read.val_main_v5_eq _ _ _ ).trans (funext fun i => ?_)
      obtain ⟨a0, a1, a2⟩ := hagree c
      rw [a0, a1, a2]
      exact Cert.DwOut.reference _ _ _ i

/-- The input projections' weight gradient: the reference runs, keeps its arguments and leaves no semaphore counted up. -/
theorem frame9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The input projections' weight gradient: kernel and reference end with the same array. -/
theorem algebraic9 : Cert.algebraic_Kernel9Ideal_Reference9Ideal := by
  intro m ρ m' ρ' _ hagree
  refine ⟨fun c => Cert.DwIn.whole7 m c, ?_, ?_⟩
  · exact (θ_run Cert.Kernel9Ideal.defs _ _).mono (fun r h c => ⟨(h c).1.trans (Cert.DwIn.result7 m c), (h c).2⟩)
      (Cert.Kernel9Ideal.Value.run_blocks (F := Ideal) m ρ)
  · refine (θ_run Cert.Reference9Ideal.defs _ _).mono (fun r h c => ⟨(h c).1.trans ?_, (h c).2⟩)
      (Cert.Reference9Ideal.Value.run (F := Ideal) m' ρ')
    · refine (Cert.Reference9Ideal.Read.val_main_v6_eq _ _ _ _ _ _ _ ).trans (funext fun i => ?_)
      obtain ⟨a0, a1, a2, a3, a4, a5, a6⟩ := hagree c
      rw [a0, a1, a2, a3, a4, a5, a6]
      exact Cert.DwIn.reference _ _ _ _ _ _ _ i

/-- The input projection: the reference runs, keeps its arguments and leaves no semaphore counted up. -/
theorem frame10 : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The input projection: kernel and reference end with the same arrays. -/
theorem algebraic10 : Cert.algebraic_Kernel10Ideal_Reference10Ideal := by
  intro m ρ m' ρ' _ hagree
  refine ⟨fun c => Cert.InProj.whole3 m c, fun c => Cert.InProj.whole4 m c, fun c => Cert.InProj.whole5 m c, ?_, ?_⟩
  · exact (θ_run Cert.Kernel10Ideal.defs _ _).mono (fun r h c => ⟨(h c).1.trans (Cert.InProj.result3 m c), (h c).2.1.trans (Cert.InProj.result4 m c), (h c).2.2.1.trans (Cert.InProj.result5 m c), (h c).2.2.2⟩)
      (Cert.Kernel10Ideal.Value.run_blocks (F := Ideal) m ρ)
  · refine (θ_run Cert.Reference10Ideal.defs _ _).mono (fun r h c => ⟨(h c).1.trans ?_, (h c).2.1.trans ?_, (h c).2.2.1.trans ?_, (h c).2.2.2⟩)
      (Cert.Reference10Ideal.Value.run (F := Ideal) m' ρ')
    · refine (Cert.Reference10Ideal.Read.val_main_v15_eq _ _ _ ).trans (funext fun i => ?_)
      obtain ⟨a0, a1, a2⟩ := hagree c
      rw [a0, a1, a2]
      exact Cert.InProj.reference3 _ _ _ i
    · refine (Cert.Reference10Ideal.Read.val_main_v16_eq _ _ _ ).trans (funext fun i => ?_)
      obtain ⟨a0, a1, a2⟩ := hagree c
      rw [a0, a1, a2]
      exact Cert.InProj.reference4 _ _ _ i
    · refine (Cert.Reference10Ideal.Read.val_main_v17_eq _ _ ).trans (funext fun i => ?_)
      obtain ⟨a0, a1, a2⟩ := hagree c
      rw [a0, a1]
      exact Cert.InProj.reference5 _ _ i

/-- The mixers' output projection: the reference runs, keeps its arguments and leaves no semaphore counted up. -/
theorem frame11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- The mixers' output projection: kernel and reference end with the same arrays. -/
theorem algebraic11 : Cert.algebraic_Kernel11Ideal_Reference11Ideal := by
  intro m ρ m' ρ' _ hagree
  refine ⟨fun c => Cert.MixOut.whole5 m c, fun c => Cert.MixOut.whole6 m c, ?_, ?_⟩
  · exact (θ_run Cert.Kernel11Ideal.defs _ _).mono (fun r h c => ⟨(h c).1.trans (Cert.MixOut.result5 m c), (h c).2.1.trans (Cert.MixOut.result6 m c), (h c).2.2⟩)
      (Cert.Kernel11Ideal.Value.run_blocks (F := Ideal) m ρ)
  · refine (θ_run Cert.Reference11Ideal.defs _ _).mono (fun r h c => ⟨(h c).1.trans ?_, (h c).2.1.trans ?_, (h c).2.2⟩)
      (Cert.Reference11Ideal.Value.run (F := Ideal) m' ρ')
    · refine (Cert.Reference11Ideal.Read.val_main_v4_eq _ _ _ _ ).trans (funext fun i => ?_)
      obtain ⟨a0, a1, a2, a3, a4⟩ := hagree c
      rw [a0, a1, a2, a3]
      exact Cert.MixOut.reference5 _ _ _ _ i
    · refine (Cert.Reference11Ideal.Read.val_main_v17_eq _ _ _ _ _ ).trans (funext fun i => ?_)
      obtain ⟨a0, a1, a2, a3, a4⟩ := hagree c
      rw [a0, a1, a2, a3, a4]
      exact Cert.MixOut.reference6 _ _ _ _ _ i

end Cert.Step
-- ==== Proof.Step.LossTile.lean ====
/- The forward pass of the ConvFFN with the loss, one tile of 512 rows: the convolution's output and the gate's product in chunks
   of 256 columns, the down projection, the norm, the error and the gradients. Each as the kernel computes it, and at an element,
   in terms of the whole arrays. -/
module

public import proofs.«01_k».proof.Proof.Ffn.Common
public import proofs.«01_k».proof.Proof.Gen.Kernel12Ideal.Value
public import proofs.«01_k».proof.Proof.Gen.Reference12Ideal.Read
public import Idealize.ShloMosaic.Lib.Pointwise
public import proofs.«01_k».proof.Proof.Ffn.GateRef

@[expose] public section

namespace Cert.Loss

open Idealize.ShloMosaic Idealize.ShloMosaic.TcCoe Idealize.SL.Sem
open Cert.Kernel12Ideal Cert.Kernel12Ideal.Gen Cert.Common
open Cert.Gate (tap cv inb)

theorem hz : (![0, 0] : Fin 2 → Nat) = fun _ => 0 := funext fun a => by fin_cases a <;> rfl

section Chunk
variable {F : FTy → Type} [FloatOps F]

/-- The factor of the previous tile's rows: zero for the first tile and one otherwise. -/
noncomputable def factor (i : grid0.Coords) : F .f32 :=
  Scalar.select (Scalar.cmpi .eq (BitVec.ofNat 32 (i 0).val) 0#32) (Scalar.ofBits .f32 0x00000000#32) (Scalar.ofBits .f32 0x3F800000#32)

/-- The previous tile's last rows times the factor. -/
noncomputable def haloT (s : F .f32) (n : FVec F S8x256 .bf16) : FVec F S8x256 .f32 :=
  mulf (extf .f32 n bitsLt_bf16_f32) (broadcast S8x256 s)

/-- The tile rotated down by `w` rows, its first rows filled from the rotated rows before it. -/
noncomputable def shiftT (w : BitVec 32) (x : FVec F S512x256 .f32) (n : FVec F S8x256 .f32) : FVec F S512x256 .f32 :=
  concatenate S512x256 0 [⟨S8x256, select (cmpi .slt (iota .tc S8x256 32 [0] iota_S8x256_d0_w32) (broadcast S8x256 w))
      (dynamicRotate 0 w none n rotates_S8x256_d0) (extractStridedSlice S8x256 ![0, 0] (dynamicRotate 0 w none x rotates_S512x256_d0) slices_S512x256_o0_0_S8x256)⟩,
    ⟨S504x256, extractStridedSlice S504x256 ![8, 0] (dynamicRotate 0 w none x rotates_S512x256_d0) slices_S512x256_o8_0_S504x256⟩]
    concatenates_S8x256_S504x256_S512x256_d0

/-- The convolution's output. -/
noncomputable def preT (s : F .f32) (a : FVec F S512x256 .bf16) (n : FVec F S8x256 .bf16) (w2 w1 w0 b : FVec F S1x256 .f32) : FVec F S512x256 .f32 :=
  addf (addf (addf (mulf (broadcastTo S512x256 w2 broadcasts_S1x256_S512x256) (extf .f32 a bitsLt_bf16_f32))
    (mulf (broadcastTo S512x256 w1 broadcasts_S1x256_S512x256) (shiftT 1#32 (extf .f32 a bitsLt_bf16_f32) (haloT s n))))
    (mulf (broadcastTo S512x256 w0 broadcasts_S1x256_S512x256) (shiftT 2#32 (extf .f32 a bitsLt_bf16_f32) (haloT s n))))
    (broadcastTo S512x256 b broadcasts_S1x256_S512x256)

/-- The gate's product. -/
noncomputable def yT (g v : FVec F S512x256 .f32) : FVec F S512x256 .f32 :=
  mulf (addf (mulf (broadcast S512x256 (Scalar.ofBits .f32 0x3F000000#32)) g)
    (mulf (mulf (broadcast S512x256 (Scalar.ofBits .f32 0x3F000000#32)) g) (tanh (mulf (broadcast S512x256 (Scalar.ofBits .f32 0x3F000000#32)) g)))) v

/-- The convolution's output in 256 columns from column `o` of a tile. -/
noncomputable def gC (s : F .f32) (x : Vec F S512x2816 .bf16) (n : Vec F S8x2816 .bf16) (w : Vec F S3x2816 .f32) (v : Vec F S1x2816 .f32) (o : ℕ) (h : o + 256 ≤ 2816) : FVec F S512x256 .f32 :=
  preT s (View.ld (Val := Elt F) x (Rect.unit (s := S512x2816) ![0, o] ![512, 256] (inb (by omega) (by omega))))
    (View.ld (Val := Elt F) n (Rect.unit (s := S8x2816) ![0, o] ![8, 256] (inb (by omega) (by omega))))
    (View.ld (Val := Elt F) w (Rect.unit (s := S3x2816) ![2, o] ![1, 256] (inb (by omega) (by omega))))
    (View.ld (Val := Elt F) w (Rect.unit (s := S3x2816) ![1, o] ![1, 256] (inb (by omega) (by omega))))
    (View.ld (Val := Elt F) w (Rect.unit (s := S3x2816) ![0, o] ![1, 256] (inb (by omega) (by omega))))
    (View.ld (Val := Elt F) v (Rect.unit (s := S1x2816) ![0, o] ![1, 256] (inb (by omega) (by omega))))

/-- To a tile the part of the down projection that 256 columns from column `o` give. -/
noncomputable def ffT (s : F .f32) (x0 x1 : Vec F S512x2816 .bf16) (x2 x3 : Vec F S8x2816 .bf16) (x4 x5 : Vec F S3x2816 .f32) (x6 x7 : Vec F S1x2816 .f32)
    (x8 : Vec F S2816x1024 .bf16) (o : ℕ) (h : o + 256 ≤ 2816) (acc : FVec F S512x1024 .f32) : FVec F S512x1024 .f32 :=
  addf acc (matmul dot_S512x256_S256x1024_S512x1024_1_0_0_1_n_n none (truncf .bf16 (yT (gC s x0 x2 x4 x6 o h) (gC s x1 x3 x5 x7 o h)) bitsLt_bf16_f32)
    (View.ld (Val := Elt F) x8 (Rect.unit (s := S2816x1024) ![o, 0] ![256, 1024] (inb (by omega) (by omega)))) (constant S512x1024 .f32 0x00000000#32))

/-- The residual stream with the ConvFFN's output. -/
noncomputable def outT (s : F .f32) (x0 x1 : Vec F S512x2816 .bf16) (x2 x3 : Vec F S8x2816 .bf16) (x4 x5 : Vec F S3x2816 .f32) (x6 x7 : Vec F S1x2816 .f32) (x8 : Vec F S2816x1024 .bf16) (x9 : Vec F S512x1024 .f32) : FVec F S512x1024 .f32 :=
  ffT s x0 x1 x2 x3 x4 x5 x6 x7 x8 2560 (by decide) (ffT s x0 x1 x2 x3 x4 x5 x6 x7 x8 2304 (by decide) (ffT s x0 x1 x2 x3 x4 x5 x6 x7 x8 2048 (by decide) (ffT s x0 x1 x2 x3 x4 x5 x6 x7 x8 1792 (by decide) (ffT s x0 x1 x2 x3 x4 x5 x6 x7 x8 1536 (by decide) (ffT s x0 x1 x2 x3 x4 x5 x6 x7 x8 1280 (by decide) (ffT s x0 x1 x2 x3 x4 x5 x6 x7 x8 1024 (by decide) (ffT s x0 x1 x2 x3 x4 x5 x6 x7 x8 768 (by decide) (ffT s x0 x1 x2 x3 x4 x5 x6 x7 x8 512 (by decide) (ffT s x0 x1 x2 x3 x4 x5 x6 x7 x8 256 (by decide) (ffT s x0 x1 x2 x3 x4 x5 x6 x7 x8 0 (by decide) x9))))))))))

/-- The norm's factor of each row. -/
noncomputable def rT (z : FVec F S512x1024 .f32) : FVec F S512x1 .f32 :=
  rsqrt (addf (divf (shapeCast S512x1 (multiReduction .add [1] S512 (mulf z z) 0x00000000#32 reduces_S512x1024_S512 (.inl rfl) rfl) shapeCasts_S512_S512x1)
    (broadcast S512x1 (Scalar.ofBits .f32 0x44800000#32))) (broadcast S512x1 (Scalar.ofBits .f32 0x358637BD#32)))

/-- The normalised stream. -/
noncomputable def nT (z : FVec F S512x1024 .f32) : FVec F S512x1024 .f32 := mulf z (broadcastTo S512x1024 (rT z) broadcasts_S512x1_S512x1024)

end Chunk

section Cases
variable {F : FTy → Type} [FloatOps F]

/-- What a later point leaves in the gradient's block. -/
theorem out12_B (c : Dev nD) (i : grid0.Coords) (a1 : Memref sig .tc .vmem S512x2816 .bf16) (h1 : a1.IsWhole) (a2 : Memref sig .tc .vmem S512x2816 .bf16) (h2 : a2.IsWhole) (a3 : Memref sig .tc .vmem S8x2816 .bf16) (h3 : a3.IsWhole) (a4 : Memref sig .tc .vmem S8x2816 .bf16) (h4 : a4.IsWhole) (a5 : Memref sig .tc .vmem S3x2816 .f32) (h5 : a5.IsWhole) (a6 : Memref sig .tc .vmem S3x2816 .f32) (h6 : a6.IsWhole) (a7 : Memref sig .tc .vmem S1x2816 .f32) (h7 : a7.IsWhole) (a8 : Memref sig .tc .vmem S1x2816 .f32) (h8 : a8.IsWhole) (a9 : Memref sig .tc .vmem S2816x1024 .bf16) (h9 : a9.IsWhole) (a10 : Memref sig .tc .vmem S512x1024 .f32) (h10 : a10.IsWhole) (a11 : Memref sig .tc .vmem S1x1024 .f32) (h11 : a11.IsWhole) (a12 : Memref sig .tc .vmem S512x1024 .f32) (h12 : a12.IsWhole) (a13 : Memref sig .tc .vmem S512x1024 .f32) (h13 : a13.IsWhole) (a14 : Memref sig .tc .vmem S1x1024 .f32) (h14 : a14.IsWhole) (a15 : Memref sig .tc .vmem S1x1024 .f32) (h15 : a15.IsWhole) (hc : ¬cond0_0 i)
    (x0 : Vec F S512x2816 .bf16) (x1 : Vec F S512x2816 .bf16) (x2 : Vec F S8x2816 .bf16) (x3 : Vec F S8x2816 .bf16) (x4 : Vec F S3x2816 .f32) (x5 : Vec F S3x2816 .f32) (x6 : Vec F S1x2816 .f32) (x7 : Vec F S1x2816 .f32) (x8 : Vec F S2816x1024 .bf16) (x9 : Vec F S512x1024 .f32) (x10 : Vec F S1x1024 .f32) (x11 : Vec F S512x1024 .f32) (xo xp : Vec F S1x1024 .f32) :
    out0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 xo xp = k0_pay1 (rT (outT (factor i) x0 x1 x2 x3 x4 x5 x6 x7 x8 x9)) (nT (outT (factor i) x0 x1 x2 x3 x4 x5 x6 x7 x8 x9)) x10 (k0_pay113 (nT (outT (factor i) x0 x1 x2 x3 x4 x5 x6 x7 x8 x9)) x10 x11) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 xo xp)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread,
    View.ld_unit_zero (S := S512x1024) hz, View.ld_unit_zero (S := S1x1024) hz]
  rfl

/-- What a later point leaves in the block of the squared errors. -/
theorem out13_B (c : Dev nD) (i : grid0.Coords) (a1 : Memref sig .tc .vmem S512x2816 .bf16) (h1 : a1.IsWhole) (a2 : Memref sig .tc .vmem S512x2816 .bf16) (h2 : a2.IsWhole) (a3 : Memref sig .tc .vmem S8x2816 .bf16) (h3 : a3.IsWhole) (a4 : Memref sig .tc .vmem S8x2816 .bf16) (h4 : a4.IsWhole) (a5 : Memref sig .tc .vmem S3x2816 .f32) (h5 : a5.IsWhole) (a6 : Memref sig .tc .vmem S3x2816 .f32) (h6 : a6.IsWhole) (a7 : Memref sig .tc .vmem S1x2816 .f32) (h7 : a7.IsWhole) (a8 : Memref sig .tc .vmem S1x2816 .f32) (h8 : a8.IsWhole) (a9 : Memref sig .tc .vmem S2816x1024 .bf16) (h9 : a9.IsWhole) (a10 : Memref sig .tc .vmem S512x1024 .f32) (h10 : a10.IsWhole) (a11 : Memref sig .tc .vmem S1x1024 .f32) (h11 : a11.IsWhole) (a12 : Memref sig .tc .vmem S512x1024 .f32) (h12 : a12.IsWhole) (a13 : Memref sig .tc .vmem S512x1024 .f32) (h13 : a13.IsWhole) (a14 : Memref sig .tc .vmem S1x1024 .f32) (h14 : a14.IsWhole) (a15 : Memref sig .tc .vmem S1x1024 .f32) (h15 : a15.IsWhole) (hc : ¬cond0_0 i)
    (x0 : Vec F S512x2816 .bf16) (x1 : Vec F S512x2816 .bf16) (x2 : Vec F S8x2816 .bf16) (x3 : Vec F S8x2816 .bf16) (x4 : Vec F S3x2816 .f32) (x5 : Vec F S3x2816 .f32) (x6 : Vec F S1x2816 .f32) (x7 : Vec F S1x2816 .f32) (x8 : Vec F S2816x1024 .bf16) (x9 : Vec F S512x1024 .f32) (x10 : Vec F S1x1024 .f32) (x11 : Vec F S512x1024 .f32) (xo xp : Vec F S1x1024 .f32) :
    out0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 xo xp = k0_pay112 (nT (outT (factor i) x0 x1 x2 x3 x4 x5 x6 x7 x8 x9)) x10 x11 xo := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 xo xp)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread,
    View.ld_unit_zero (S := S512x1024) hz, View.ld_unit_zero (S := S1x1024) hz]
  rfl

/-- What a later point leaves in the block of the gain's gradient. -/
theorem out14_B (c : Dev nD) (i : grid0.Coords) (a1 : Memref sig .tc .vmem S512x2816 .bf16) (h1 : a1.IsWhole) (a2 : Memref sig .tc .vmem S512x2816 .bf16) (h2 : a2.IsWhole) (a3 : Memref sig .tc .vmem S8x2816 .bf16) (h3 : a3.IsWhole) (a4 : Memref sig .tc .vmem S8x2816 .bf16) (h4 : a4.IsWhole) (a5 : Memref sig .tc .vmem S3x2816 .f32) (h5 : a5.IsWhole) (a6 : Memref sig .tc .vmem S3x2816 .f32) (h6 : a6.IsWhole) (a7 : Memref sig .tc .vmem S1x2816 .f32) (h7 : a7.IsWhole) (a8 : Memref sig .tc .vmem S1x2816 .f32) (h8 : a8.IsWhole) (a9 : Memref sig .tc .vmem S2816x1024 .bf16) (h9 : a9.IsWhole) (a10 : Memref sig .tc .vmem S512x1024 .f32) (h10 : a10.IsWhole) (a11 : Memref sig .tc .vmem S1x1024 .f32) (h11 : a11.IsWhole) (a12 : Memref sig .tc .vmem S512x1024 .f32) (h12 : a12.IsWhole) (a13 : Memref sig .tc .vmem S512x1024 .f32) (h13 : a13.IsWhole) (a14 : Memref sig .tc .vmem S1x1024 .f32) (h14 : a14.IsWhole) (a15 : Memref sig .tc .vmem S1x1024 .f32) (h15 : a15.IsWhole) (hc : ¬cond0_0 i)
    (x0 : Vec F S512x2816 .bf16) (x1 : Vec F S512x2816 .bf16) (x2 : Vec F S8x2816 .bf16) (x3 : Vec F S8x2816 .bf16) (x4 : Vec F S3x2816 .f32) (x5 : Vec F S3x2816 .f32) (x6 : Vec F S1x2816 .f32) (x7 : Vec F S1x2816 .f32) (x8 : Vec F S2816x1024 .bf16) (x9 : Vec F S512x1024 .f32) (x10 : Vec F S1x1024 .f32) (x11 : Vec F S512x1024 .f32) (xo xp : Vec F S1x1024 .f32) :
    out0_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 xo xp = k0_pay114 (nT (outT (factor i) x0 x1 x2 x3 x4 x5 x6 x7 x8 x9)) x10 x11 xp := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 xo xp)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread,
    View.ld_unit_zero (S := S512x1024) hz, View.ld_unit_zero (S := S1x1024) hz]
  rfl

/-- What a first point leaves in the gradient's block. -/
theorem out12_A (c : Dev nD) (i : grid0.Coords) (a1 : Memref sig .tc .vmem S512x2816 .bf16) (h1 : a1.IsWhole) (a2 : Memref sig .tc .vmem S512x2816 .bf16) (h2 : a2.IsWhole) (a3 : Memref sig .tc .vmem S8x2816 .bf16) (h3 : a3.IsWhole) (a4 : Memref sig .tc .vmem S8x2816 .bf16) (h4 : a4.IsWhole) (a5 : Memref sig .tc .vmem S3x2816 .f32) (h5 : a5.IsWhole) (a6 : Memref sig .tc .vmem S3x2816 .f32) (h6 : a6.IsWhole) (a7 : Memref sig .tc .vmem S1x2816 .f32) (h7 : a7.IsWhole) (a8 : Memref sig .tc .vmem S1x2816 .f32) (h8 : a8.IsWhole) (a9 : Memref sig .tc .vmem S2816x1024 .bf16) (h9 : a9.IsWhole) (a10 : Memref sig .tc .vmem S512x1024 .f32) (h10 : a10.IsWhole) (a11 : Memref sig .tc .vmem S1x1024 .f32) (h11 : a11.IsWhole) (a12 : Memref sig .tc .vmem S512x1024 .f32) (h12 : a12.IsWhole) (a13 : Memref sig .tc .vmem S512x1024 .f32) (h13 : a13.IsWhole) (a14 : Memref sig .tc .vmem S1x1024 .f32) (h14 : a14.IsWhole) (a15 : Memref sig .tc .vmem S1x1024 .f32) (h15 : a15.IsWhole) (hc : cond0_0 i)
    (x0 : Vec F S512x2816 .bf16) (x1 : Vec F S512x2816 .bf16) (x2 : Vec F S8x2816 .bf16) (x3 : Vec F S8x2816 .bf16) (x4 : Vec F S3x2816 .f32) (x5 : Vec F S3x2816 .f32) (x6 : Vec F S1x2816 .f32) (x7 : Vec F S1x2816 .f32) (x8 : Vec F S2816x1024 .bf16) (x9 : Vec F S512x1024 .f32) (x10 : Vec F S1x1024 .f32) (x11 : Vec F S512x1024 .f32) :
    out0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 = k0_pay1 (rT (outT (factor i) x0 x1 x2 x3 x4 x5 x6 x7 x8 x9)) (nT (outT (factor i) x0 x1 x2 x3 x4 x5 x6 x7 x8 x9)) x10 (k0_pay113 (nT (outT (factor i) x0 x1 x2 x3 x4 x5 x6 x7 x8 x9)) x10 x11) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread,
    View.ld_unit_zero (S := S512x1024) hz, View.ld_unit_zero (S := S1x1024) hz]
  rfl

/-- What a first point leaves in the block of the squared errors. -/
theorem out13_A (c : Dev nD) (i : grid0.Coords) (a1 : Memref sig .tc .vmem S512x2816 .bf16) (h1 : a1.IsWhole) (a2 : Memref sig .tc .vmem S512x2816 .bf16) (h2 : a2.IsWhole) (a3 : Memref sig .tc .vmem S8x2816 .bf16) (h3 : a3.IsWhole) (a4 : Memref sig .tc .vmem S8x2816 .bf16) (h4 : a4.IsWhole) (a5 : Memref sig .tc .vmem S3x2816 .f32) (h5 : a5.IsWhole) (a6 : Memref sig .tc .vmem S3x2816 .f32) (h6 : a6.IsWhole) (a7 : Memref sig .tc .vmem S1x2816 .f32) (h7 : a7.IsWhole) (a8 : Memref sig .tc .vmem S1x2816 .f32) (h8 : a8.IsWhole) (a9 : Memref sig .tc .vmem S2816x1024 .bf16) (h9 : a9.IsWhole) (a10 : Memref sig .tc .vmem S512x1024 .f32) (h10 : a10.IsWhole) (a11 : Memref sig .tc .vmem S1x1024 .f32) (h11 : a11.IsWhole) (a12 : Memref sig .tc .vmem S512x1024 .f32) (h12 : a12.IsWhole) (a13 : Memref sig .tc .vmem S512x1024 .f32) (h13 : a13.IsWhole) (a14 : Memref sig .tc .vmem S1x1024 .f32) (h14 : a14.IsWhole) (a15 : Memref sig .tc .vmem S1x1024 .f32) (h15 : a15.IsWhole) (hc : cond0_0 i)
    (x0 : Vec F S512x2816 .bf16) (x1 : Vec F S512x2816 .bf16) (x2 : Vec F S8x2816 .bf16) (x3 : Vec F S8x2816 .bf16) (x4 : Vec F S3x2816 .f32) (x5 : Vec F S3x2816 .f32) (x6 : Vec F S1x2816 .f32) (x7 : Vec F S1x2816 .f32) (x8 : Vec F S2816x1024 .bf16) (x9 : Vec F S512x1024 .f32) (x10 : Vec F S1x1024 .f32) (x11 : Vec F S512x1024 .f32) :
    out0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 = k0_pay112 (nT (outT (factor i) x0 x1 x2 x3 x4 x5 x6 x7 x8 x9)) x10 x11 k0_pay2 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread,
    View.ld_unit_zero (S := S512x1024) hz, View.ld_unit_zero (S := S1x1024) hz]
  rfl

/-- What a first point leaves in the block of the gain's gradient. -/
theorem out14_A (c : Dev nD) (i : grid0.Coords) (a1 : Memref sig .tc .vmem S512x2816 .bf16) (h1 : a1.IsWhole) (a2 : Memref sig .tc .vmem S512x2816 .bf16) (h2 : a2.IsWhole) (a3 : Memref sig .tc .vmem S8x2816 .bf16) (h3 : a3.IsWhole) (a4 : Memref sig .tc .vmem S8x2816 .bf16) (h4 : a4.IsWhole) (a5 : Memref sig .tc .vmem S3x2816 .f32) (h5 : a5.IsWhole) (a6 : Memref sig .tc .vmem S3x2816 .f32) (h6 : a6.IsWhole) (a7 : Memref sig .tc .vmem S1x2816 .f32) (h7 : a7.IsWhole) (a8 : Memref sig .tc .vmem S1x2816 .f32) (h8 : a8.IsWhole) (a9 : Memref sig .tc .vmem S2816x1024 .bf16) (h9 : a9.IsWhole) (a10 : Memref sig .tc .vmem S512x1024 .f32) (h10 : a10.IsWhole) (a11 : Memref sig .tc .vmem S1x1024 .f32) (h11 : a11.IsWhole) (a12 : Memref sig .tc .vmem S512x1024 .f32) (h12 : a12.IsWhole) (a13 : Memref sig .tc .vmem S512x1024 .f32) (h13 : a13.IsWhole) (a14 : Memref sig .tc .vmem S1x1024 .f32) (h14 : a14.IsWhole) (a15 : Memref sig .tc .vmem S1x1024 .f32) (h15 : a15.IsWhole) (hc : cond0_0 i)
    (x0 : Vec F S512x2816 .bf16) (x1 : Vec F S512x2816 .bf16) (x2 : Vec F S8x2816 .bf16) (x3 : Vec F S8x2816 .bf16) (x4 : Vec F S3x2816 .f32) (x5 : Vec F S3x2816 .f32) (x6 : Vec F S1x2816 .f32) (x7 : Vec F S1x2816 .f32) (x8 : Vec F S2816x1024 .bf16) (x9 : Vec F S512x1024 .f32) (x10 : Vec F S1x1024 .f32) (x11 : Vec F S512x1024 .f32) :
    out0_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11 = k0_pay114 (nT (outT (factor i) x0 x1 x2 x3 x4 x5 x6 x7 x8 x9)) x10 x11 k0_pay3 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 x11)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread,
    View.ld_unit_zero (S := S512x1024) hz, View.ld_unit_zero (S := S1x1024) hz]
  rfl

end Cases

end Cert.Loss
-- ==== Proof.Step.LossElem.lean ====
/- The forward pass of the ConvFFN with the loss: one tile at an element, in terms of the whole arrays its blocks are cut out of. -/
module

public import proofs.«01_k».proof.Proof.Step.LossTile
public import Idealize.ShloMosaic.Lib.Pointwise

@[expose] public section

namespace Cert.Loss

open Idealize.ShloMosaic Idealize.ShloMosaic.TcCoe Idealize.SL.Sem
open Cert.Kernel12Ideal Cert.Kernel12Ideal.Gen Cert.Common
open Cert.Gate (tap cv inb)

section Global

/-- Half of the gate's input. -/
noncomputable def hv (A : S8192x5632.Idx → EReal) (W : S3x5632.Idx → EReal) (B : S1x5632.Idx → EReal) (R q : ℕ) : EReal :=
  Ideal.ofBits .f32 0x3F000000#32 * cv A W B R (0 + q)

/-- The gate's product in row `R` and column `q`, as the kernel computes it. -/
noncomputable def yv (A : S8192x5632.Idx → EReal) (W : S3x5632.Idx → EReal) (B : S1x5632.Idx → EReal) (R q : ℕ) : EReal :=
  (hv A W B R q + hv A W B R q * Ideal.tanh (hv A W B R q)) * cv A W B R (2816 + q)

/-- The residual stream with the ConvFFN's output. -/
noncomputable def zv (A : S8192x5632.Idx → EReal) (W : S3x5632.Idx → EReal) (B : S1x5632.Idx → EReal) (Wd : S2816x1024.Idx → EReal) (X : S8192x1024.Idx → EReal) (R k : ℕ) : EReal :=
  at2 X R k + ∑ q : Fin 2816, yv A W B R q.val * at2 Wd q.val k

/-- The same as an array. -/
noncomputable def za (A : S8192x5632.Idx → EReal) (W : S3x5632.Idx → EReal) (B : S1x5632.Idx → EReal) (Wd : S2816x1024.Idx → EReal) (X : S8192x1024.Idx → EReal) : S8192x1024.Idx → EReal := fun i => zv A W B Wd X (i 0).val (i 1).val

theorem za_at (A : S8192x5632.Idx → EReal) (W : S3x5632.Idx → EReal) (B : S1x5632.Idx → EReal) (Wd : S2816x1024.Idx → EReal) (X : S8192x1024.Idx → EReal) (R k : ℕ) (hR : R < 8192) (hk : k < 1024) : at2 (za A W B Wd X) R k = zv A W B Wd X R k :=
  (at2_of_val (za A W B Wd X) (ValueIdx.ix2 ⟨R, hR⟩ ⟨k, hk⟩) R k rfl rfl).symm

/-- The error: the normalised stream times the gain, less the target. -/
noncomputable def err (z : S8192x1024.Idx → EReal) (G : S1x1024.Idx → EReal) (Y : S8192x1024.Idx → EReal) (R k : ℕ) : EReal :=
  at2 z R k * Cert.UpBwd.rs z R * at2 G 0 k - at2 Y R k

/-- The gradient at the norm's output. -/
noncomputable def dyv (z : S8192x1024.Idx → EReal) (G : S1x1024.Idx → EReal) (Y : S8192x1024.Idx → EReal) (R k : ℕ) : EReal := err z G Y R k * Ideal.ofBits .f32 0x3A800000#32

/-- One row's squared error. -/
noncomputable def lterm (z : S8192x1024.Idx → EReal) (G : S1x1024.Idx → EReal) (Y : S8192x1024.Idx → EReal) (k R : ℕ) : EReal := err z G Y R k * err z G Y R k

/-- One row's term of the gain's gradient. -/
noncomputable def gterm (z : S8192x1024.Idx → EReal) (G : S1x1024.Idx → EReal) (Y : S8192x1024.Idx → EReal) (k R : ℕ) : EReal := dyv z G Y R k * (at2 z R k * Cert.UpBwd.rs z R)

/-- The squared errors of column `k`, summed over all rows. -/
noncomputable def lsum (z : S8192x1024.Idx → EReal) (G : S1x1024.Idx → EReal) (Y : S8192x1024.Idx → EReal) (k : ℕ) : EReal := ∑ R : Fin 8192, lterm z G Y k R.val

/-- The gain's gradient in column `k`. -/
noncomputable def gsum (z : S8192x1024.Idx → EReal) (G : S1x1024.Idx → EReal) (Y : S8192x1024.Idx → EReal) (k : ℕ) : EReal := ∑ R : Fin 8192, gterm z G Y k R.val

/-- The gradient at the norm's input in row `R` and column `k`, as the kernel computes it. -/
noncomputable def inp (z : S8192x1024.Idx → EReal) (G : S1x1024.Idx → EReal) (Y : S8192x1024.Idx → EReal) (R k : ℕ) : EReal :=
  Cert.UpBwd.rs z R * (dyv z G Y R k * at2 G 0 k - at2 z R k * Cert.UpBwd.rs z R
    * Ideal.div (∑ x : Fin 1024, dyv z G Y R x.val * at2 G 0 x.val * (at2 z R x.val * Cert.UpBwd.rs z R)) (Ideal.ofBits .f32 0x44800000#32))

end Global

/-- One tile's blocks, cut out of the whole arrays at row `b`. -/
structure Tile (A : S8192x5632.Idx → EReal) (W : S3x5632.Idx → EReal) (B : S1x5632.Idx → EReal) (Wd : S2816x1024.Idx → EReal) (X : S8192x1024.Idx → EReal) (G : S1x1024.Idx → EReal) (Y : S8192x1024.Idx → EReal)
    (b : ℕ) (s : EReal) (x0 x1 : Vec Ideal S512x2816 .bf16) (x2 x3 : Vec Ideal S8x2816 .bf16)
    (x4 x5 : Vec Ideal S3x2816 .f32) (x6 x7 : Vec Ideal S1x2816 .f32) (x8 : Vec Ideal S2816x1024 .bf16)
    (x9 : Vec Ideal S512x1024 .f32) (x10 : Vec Ideal S1x1024 .f32) (x11 : Vec Ideal S512x1024 .f32) : Prop where
  hb : b + 512 ≤ 8192
  h0 : ∀ j, (x0 j : EReal) = at2 A (b + (j 0).val) (0 + (j 1).val)
  h1 : ∀ j, (x1 j : EReal) = at2 A (b + (j 0).val) (2816 + (j 1).val)
  h2 : ∀ j, (x2 j : EReal) * s = if 8 ≤ b + (j 0).val then at2 A (b + (j 0).val - 8) (0 + (j 1).val) else 0
  h3 : ∀ j, (x3 j : EReal) * s = if 8 ≤ b + (j 0).val then at2 A (b + (j 0).val - 8) (2816 + (j 1).val) else 0
  h4 : ∀ j, (x4 j : EReal) = at2 W (j 0).val (0 + (j 1).val)
  h5 : ∀ j, (x5 j : EReal) = at2 W (j 0).val (2816 + (j 1).val)
  h6 : ∀ j, (x6 j : EReal) = at2 B (j 0).val (0 + (j 1).val)
  h7 : ∀ j, (x7 j : EReal) = at2 B (j 0).val (2816 + (j 1).val)
  h8 : ∀ j, (x8 j : EReal) = at2 Wd (j 0).val (j 1).val
  h9 : ∀ j, (x9 j : EReal) = at2 X (b + (j 0).val) (j 1).val
  h10 : ∀ j, (x10 j : EReal) = at2 G (j 0).val (j 1).val
  h11 : ∀ j, (x11 j : EReal) = at2 Y (b + (j 0).val) (j 1).val

section Elements

/-- A tile moved down by `a` rows at an element: its own row, or one of the rows before it. -/
theorem shiftT_apply (a : ℕ) (ha : 1 ≤ a ∧ a ≤ 2) (w : BitVec 32) (hw : w = BitVec.ofNat 32 a) (x : S512x256.Idx → EReal) (n : S8x256.Idx → EReal) (j : S512x256.Idx) :
    shiftT (F := Ideal) w x n j = if a ≤ (j 0).val then at2 x ((j 0).val - a) (j 1).val else at2 n ((j 0).val + 8 - a) (j 1).val := by
  obtain ⟨p, q, rfl⟩ : ∃ (p : Fin 512) (q : Fin 256), j = ValueIdx.ix2 p q := ⟨j 0, j 1, ValueIdx.eq_ix2 j⟩
  have hp := p.isLt
  have hwn : w.toNat = a := by subst hw; rw [BitVec.toNat_ofNat]; omega
  unfold shiftT
  pointwise
  by_cases h : p.val < 8
  · rw [dif_pos h]
    have hw8 : IntOp.cmpi .slt (BitVec.ofNat 32 (ValueIdx.ix2 p q 0).val) w = BitVec.ofBool (decide (p.val < a)) := by
      show IntOp.cmpi .slt (BitVec.ofNat 32 p.val) w = _
      subst hw
      generalize p.val = r at h
      obtain ⟨h1, h2⟩ := ha
      interval_cases a <;> interval_cases r <;> rfl
    rw [hw8]
    by_cases h' : a ≤ p.val
    · rw [decide_eq_false (by omega)]
      refine Eq.trans ?_ (if_pos h').symm
      refine at2_of_val x _ _ _ ?_ rfl
      show (p.val + 512 - w.toNat % 512) % 512 = p.val - a
      rw [hwn]; omega
    · rw [decide_eq_true (by omega)]
      refine Eq.trans ?_ (if_neg h').symm
      refine at2_of_val n _ _ _ ?_ rfl
      show (p.val + 8 - w.toNat % 8) % 8 = p.val + 8 - a
      rw [hwn]; omega
  · rw [dif_neg h]
    have h' : a ≤ p.val := by omega
    refine Eq.trans ?_ (if_pos h').symm
    refine at2_of_val x _ _ _ ?_ rfl
    show (8 + (p.val - 8) + 512 - w.toNat % 512) % 512 = p.val - a
    rw [hwn]; omega

/-- A tile's columns moved down by `a` rows, at an element, from the whole array. -/
theorem tapT_apply (a : ℕ) (ha : 1 ≤ a ∧ a ≤ 2) (w : BitVec 32) (hw : w = BitVec.ofNat 32 a) (A : S8192x5632.Idx → EReal) (b c0 o : ℕ) (ho : o + 256 ≤ 2816) (s : EReal)
    (x : S512x2816.Idx → EReal) (hx : ∀ j, x j = at2 A (b + (j 0).val) (c0 + (j 1).val))
    (n : S8x2816.Idx → EReal) (hn : ∀ j, n j * s = if 8 ≤ b + (j 0).val then at2 A (b + (j 0).val - 8) (c0 + (j 1).val) else 0)
    (h0 h1) (j : S512x256.Idx) :
    shiftT (F := Ideal) w (extf .f32 (View.ld (Val := Elt Ideal) (e' := .bf16) x (Rect.unit (s := S512x2816) ![0, o] ![512, 256] h0) : FVec Ideal S512x256 .bf16) bitsLt_bf16_f32)
      (haloT s (View.ld (Val := Elt Ideal) (e' := .bf16) n (Rect.unit (s := S8x2816) ![0, o] ![8, 256] h1))) j
      = tap A (b + (j 0).val) (c0 + (o + (j 1).val)) a := by
  have hj0 : (j 0).val < 512 := (j 0).isLt
  have hj1 : (j 1).val < 256 := (j 1).isLt
  unfold tap
  rw [shiftT_apply a ha w hw]
  by_cases h : a ≤ (j 0).val
  · rw [if_pos h, if_pos (by omega)]
    rw [← at2_of_val (a := 512) (b := 256) _ (ValueIdx.ix2 ⟨(j 0).val - a, by omega⟩ ⟨(j 1).val, hj1⟩) _ _ rfl rfl]
    refine (hx _).trans ?_
    refine congrArg₂ (at2 A) ?_ ?_
    · show b + (0 + 1 * ((j 0).val - a)) = _; omega
    · show c0 + (o + 1 * (j 1).val) = _; omega
  · rw [if_neg h]
    rw [← at2_of_val (a := 8) (b := 256) _ (ValueIdx.ix2 ⟨(j 0).val + 8 - a, by omega⟩ ⟨(j 1).val, hj1⟩) _ _ rfl rfl]
    refine (hn _).trans ?_
    show (if 8 ≤ b + (0 + 1 * ((j 0).val + 8 - a)) then at2 A (b + (0 + 1 * ((j 0).val + 8 - a)) - 8) (c0 + (o + 1 * (j 1).val)) else 0) = _
    by_cases h' : a ≤ b + (j 0).val
    · rw [if_pos h', if_pos (by omega)]
      refine congrArg₂ (at2 A) ?_ ?_ <;> omega
    · rw [if_neg h', if_neg (by omega)]

/-- A tile's columns at an element, from the whole array. -/
theorem tap0T_apply (A : S8192x5632.Idx → EReal) (b c0 o : ℕ)
    (x : S512x2816.Idx → EReal) (hx : ∀ j, x j = at2 A (b + (j 0).val) (c0 + (j 1).val)) (h0) (j : S512x256.Idx) :
    extf (F := Ideal) .f32 (View.ld (Val := Elt Ideal) (e' := .bf16) x (Rect.unit (s := S512x2816) ![0, o] ![512, 256] h0) : FVec Ideal S512x256 .bf16) bitsLt_bf16_f32 j
      = tap A (b + (j 0).val) (c0 + (o + (j 1).val)) 0 := by
  unfold tap
  rw [if_pos (Nat.zero_le _)]
  refine (hx _).trans ?_
  refine congrArg₂ (at2 A) ?_ ?_
  · show b + (0 + 1 * (j 0).val) = _; omega
  · show c0 + (o + 1 * (j 1).val) = _; omega

/-- A row cut out of a block of rows, spread over a tile, at an element. -/
theorem row_apply {n : ℕ} (W : (⟨2, ![n, 5632]⟩ : Shape).Idx → EReal) (c0 o u : ℕ) (x : (⟨2, ![n, 2816]⟩ : Shape).Idx → EReal)
    (hx : ∀ j, x j = at2 W (j 0).val (c0 + (j 1).val)) (h) (j : S512x256.Idx) :
    broadcastTo S512x256 (View.ld (Val := Elt Ideal) (e' := .f32) x (Rect.unit (s := ⟨2, ![n, 2816]⟩) ![u, o] ![1, 256] h) : FVec Ideal S1x256 .f32)
      broadcasts_S1x256_S512x256 j = at2 W u (c0 + (o + (j 1).val)) := by
  pointwise
  refine (hx _).trans ?_
  refine congrArg₂ (at2 W) ?_ ?_
  · rfl
  · rfl

/-- The convolution's output for a chunk at an element, from the whole arrays. -/
theorem gC_apply (A : S8192x5632.Idx → EReal) (W : S3x5632.Idx → EReal) (B : S1x5632.Idx → EReal) (b c0 o : ℕ) (ho : o + 256 ≤ 2816) (s : EReal)
    (x : S512x2816.Idx → EReal) (hx : ∀ j, x j = at2 A (b + (j 0).val) (c0 + (j 1).val))
    (n : S8x2816.Idx → EReal) (hn : ∀ j, n j * s = if 8 ≤ b + (j 0).val then at2 A (b + (j 0).val - 8) (c0 + (j 1).val) else 0)
    (w : S3x2816.Idx → EReal) (hw : ∀ j, w j = at2 W (j 0).val (c0 + (j 1).val))
    (v : S1x2816.Idx → EReal) (hv : ∀ j, v j = at2 B (j 0).val (c0 + (j 1).val)) (j : S512x256.Idx) :
    gC (F := Ideal) s x n w v o ho j = cv A W B (b + (j 0).val) (c0 + (o + (j 1).val)) := by
  unfold gC preT cv
  exact congrArg₂ (· + ·) (congrArg₂ (· + ·) (congrArg₂ (· + ·)
    (congrArg₂ (· * ·) (row_apply W c0 o 2 w hw _ j) (tap0T_apply A b c0 o x hx _ j))
    (congrArg₂ (· * ·) (row_apply W c0 o 1 w hw _ j) (tapT_apply 1 (by decide) _ rfl A b c0 o ho s x hx n hn _ _ j)))
    (congrArg₂ (· * ·) (row_apply W c0 o 0 w hw _ j) (tapT_apply 2 (by decide) _ rfl A b c0 o ho s x hx n hn _ _ j)))
    (row_apply B c0 o 0 v hv _ j)

variable {A : S8192x5632.Idx → EReal} {W : S3x5632.Idx → EReal} {B : S1x5632.Idx → EReal} {Wd : S2816x1024.Idx → EReal} {X : S8192x1024.Idx → EReal}
  {G : S1x1024.Idx → EReal} {Y : S8192x1024.Idx → EReal} {b : ℕ} {s : EReal} {x0 x1 : Vec Ideal S512x2816 .bf16} {x2 x3 : Vec Ideal S8x2816 .bf16}
  {x4 x5 : Vec Ideal S3x2816 .f32} {x6 x7 : Vec Ideal S1x2816 .f32} {x8 : Vec Ideal S2816x1024 .bf16}
  {x9 : Vec Ideal S512x1024 .f32} {x10 : Vec Ideal S1x1024 .f32} {x11 : Vec Ideal S512x1024 .f32}
  (t : Tile A W B Wd X G Y b s x0 x1 x2 x3 x4 x5 x6 x7 x8 x9 x10 x11)

include t in
/-- The gate's product for a chunk at an element. -/
theorem yT_apply (o : ℕ) (h : o + 256 ≤ 2816) (j : S512x256.Idx) :
    yT (F := Ideal) (gC (F := Ideal) s x0 x2 x4 x6 o h) (gC (F := Ideal) s x1 x3 x5 x7 o h) j = yv A W B (b + (j 0).val) (o + (j 1).val) := by
  have e0 := gC_apply A W B b 0 o h s x0 t.h0 x2 t.h2 x4 t.h4 x6 t.h6 j
  have e1 := gC_apply A W B b 2816 o h s x1 t.h1 x3 t.h3 x5 t.h5 x7 t.h7 j
  unfold yv hv
  rw [← e0, ← e1]
  rfl

include t in
/-- What one chunk adds to the stream at an element. -/
theorem ffT_apply (o : ℕ) (h : o + 256 ≤ 2816) (acc : S512x1024.Idx → EReal) (j : S512x1024.Idx) :
    ffT (F := Ideal) s x0 x1 x2 x3 x4 x5 x6 x7 x8 o h acc j
      = acc j + ∑ x : Fin 256, yv A W B (b + (j 0).val) (o + x.val) * at2 Wd (o + x.val) (j 1).val := by
  have hy := yT_apply t o h
  unfold ffT
  generalize yT (F := Ideal) (gC (F := Ideal) s x0 x2 x4 x6 o h) (gC (F := Ideal) s x1 x3 x5 x7 o h) = Q at hy ⊢
  pointwise []
  refine congrArg (acc j + ·) (Finset.sum_congr rfl fun k _ => congrArg₂ (· * ·) ?_ ?_)
  · exact hy _
  · refine (t.h8 _).trans ?_
    exact congrArg₂ (at2 Wd) rfl rfl

/-- A sum over 2816 numbers, in eleven parts. -/
theorem sum_eleven (f : ℕ → EReal) : ∑ x : Fin 2816, f x.val
    = ∑ x : Fin 256, f (0 + x.val) + ∑ x : Fin 256, f (256 + x.val) + ∑ x : Fin 256, f (512 + x.val) + ∑ x : Fin 256, f (768 + x.val) + ∑ x : Fin 256, f (1024 + x.val) + ∑ x : Fin 256, f (1280 + x.val) + ∑ x : Fin 256, f (1536 + x.val) + ∑ x : Fin 256, f (1792 + x.val) + ∑ x : Fin 256, f (2048 + x.val) + ∑ x : Fin 256, f (2304 + x.val) + ∑ x : Fin 256, f (2560 + x.val) := by
  refine (sum_tiles 11 256 f).symm.trans ?_
  rw [Finset.sum_range_succ, Finset.sum_range_succ, Finset.sum_range_succ, Finset.sum_range_succ, Finset.sum_range_succ, Finset.sum_range_succ, Finset.sum_range_succ, Finset.sum_range_succ, Finset.sum_range_succ, Finset.sum_range_succ, Finset.sum_range_one]

include t in
/-- The stream with the ConvFFN's output at an element. -/
theorem outT_apply (j : S512x1024.Idx) :
    outT (F := Ideal) s x0 x1 x2 x3 x4 x5 x6 x7 x8 x9 j = at2 (za A W B Wd X) (b + (j 0).val) (j 1).val := by
  have hj0 : (j 0).val < 512 := (j 0).isLt
  have hj1 : (j 1).val < 1024 := (j 1).isLt
  have hb := t.hb
  rw [za_at A W B Wd X _ _ (by omega) hj1]
  unfold outT zv
  rw [ffT_apply t, ffT_apply t, ffT_apply t, ffT_apply t, ffT_apply t, ffT_apply t, ffT_apply t, ffT_apply t, ffT_apply t, ffT_apply t, ffT_apply t, t.h9, sum_eleven (fun q => yv A W B (b + (j 0).val) q * at2 Wd q (j 1).val)]
  simp only [add_assoc]

/-- The norm's factor of a tile's row. -/
theorem rT_apply (z : S8192x1024.Idx → EReal) (d : S512x1024.Idx → EReal) (hd : ∀ j, d j = at2 z (b + (j 0).val) (j 1).val) (j : S512x1.Idx) :
    rT (F := Ideal) d j = Cert.UpBwd.rs z (b + (j 0).val) := by
  unfold rT
  pointwise []
  simp only [hd]
  rfl

/-- A tile of the normalised stream at an element. -/
theorem nT_apply (z : S8192x1024.Idx → EReal) (d : S512x1024.Idx → EReal) (hd : ∀ j, d j = at2 z (b + (j 0).val) (j 1).val) (j : S512x1024.Idx) :
    nT (F := Ideal) d j = at2 z (b + (j 0).val) (j 1).val * Cert.UpBwd.rs z (b + (j 0).val) := by
  have hr := rT_apply z d hd
  unfold nT
  generalize rT (F := Ideal) d = r at hr ⊢
  pointwise []
  exact congrArg₂ (· * ·) (hd _) (hr _)

section Ends
variable (z : S8192x1024.Idx → EReal) (n : S512x1024.Idx → EReal) (hn : ∀ j, n j = at2 z (b + (j 0).val) (j 1).val * Cert.UpBwd.rs z (b + (j 0).val))

include t hn in
/-- A tile's errors at an element. -/
theorem pay111_apply (j : S512x1024.Idx) : k0_pay111 (F := Ideal) n x10 x11 j = err z G Y (b + (j 0).val) (j 1).val := by
  unfold k0_pay111
  pointwise []
  unfold err
  rw [hn, t.h11, t.h10]
  rfl

include t hn in
/-- A tile's gradient at the norm's output at an element. -/
theorem pay113_apply (j : S512x1024.Idx) : k0_pay113 (F := Ideal) n x10 x11 j = dyv z G Y (b + (j 0).val) (j 1).val := by
  have he := pay111_apply t z n hn
  unfold k0_pay113
  generalize k0_pay111 (F := Ideal) n x10 x11 = E at he ⊢
  pointwise []
  unfold dyv
  rw [he]

include t hn in
/-- To the squared errors' row a tile adds its own. -/
theorem pay112_apply (xo : S1x1024.Idx → EReal) (j : S1x1024.Idx) :
    k0_pay112 (F := Ideal) n x10 x11 xo j = xo j + ∑ r : Fin 512, lterm z G Y (j 1).val (b + r.val) := by
  have he := pay111_apply t z n hn
  unfold k0_pay112
  generalize k0_pay111 (F := Ideal) n x10 x11 = E at he ⊢
  pointwise []
  simp only [he]
  rfl

include t hn in
/-- To the gain's gradient a tile adds its own rows' terms. -/
theorem pay114_apply (xo : S1x1024.Idx → EReal) (j : S1x1024.Idx) :
    k0_pay114 (F := Ideal) n x10 x11 xo j = xo j + ∑ r : Fin 512, gterm z G Y (j 1).val (b + r.val) := by
  have he := pay113_apply t z n hn
  unfold k0_pay114
  generalize k0_pay113 (F := Ideal) n x10 x11 = E at he ⊢
  pointwise []
  simp only [he, hn]
  rfl

include t hn in
/-- A tile's gradient at the norm's input at an element. -/
theorem pay1_apply (r : S512x1.Idx → EReal) (hr : ∀ j, r j = Cert.UpBwd.rs z (b + (j 0).val)) (d : S512x1024.Idx → EReal)
    (hd : ∀ j, d j = dyv z G Y (b + (j 0).val) (j 1).val) (j : S512x1024.Idx) :
    k0_pay1 (F := Ideal) r n x10 d j = inp z G Y (b + (j 0).val) (j 1).val := by
  unfold k0_pay1
  pointwise []
  simp only [hr, hn, hd, t.h10]
  rfl

end Ends

end Elements

end Cert.Loss
-- ==== Proof.Step.Loss.lean ====
/- The forward pass of the ConvFFN with the loss: what the call's three result arrays hold after the run, element by element. -/
module

public import proofs.«01_k».proof.Proof.Step.LossElem

@[expose] public section

namespace Cert.Loss

open Idealize.ShloMosaic Idealize.ShloMosaic.TcCoe Idealize.SL.Sem
open Cert.Kernel12Ideal Cert.Kernel12Ideal.Gen Cert.Common
open Cert.Gate (tap cv inb)

variable (m : (ℓ : Loc nD τ sig) → Buf (Elt Ideal) ℓ)

/-- The convolution's input, one row per token. -/
abbrev gA (c : Dev nD) : S8192x5632.Idx → EReal := m ((c : Thread nD τ).loc main_arg0)
/-- The convolution's weight. -/
abbrev gW (c : Dev nD) : S3x5632.Idx → EReal := m ((c : Thread nD τ).loc main_arg1)
/-- The convolution's bias. -/
abbrev gB (c : Dev nD) : S1x5632.Idx → EReal := m ((c : Thread nD τ).loc main_arg2)
/-- The down projection's weight. -/
abbrev gD (c : Dev nD) : S2816x1024.Idx → EReal := m ((c : Thread nD τ).loc main_arg3)
/-- The residual stream. -/
abbrev gX (c : Dev nD) : S8192x1024.Idx → EReal := m ((c : Thread nD τ).loc main_arg4)
/-- The last norm's gain. -/
abbrev gG (c : Dev nD) : S1x1024.Idx → EReal := m ((c : Thread nD τ).loc main_arg5)
/-- The target. -/
abbrev gY (c : Dev nD) : S8192x1024.Idx → EReal := m ((c : Thread nD τ).loc main_arg6)

/-- Which block of each array a grid point reads or writes. -/
theorem idx : ∀ t : Fin cfg0.N, (win0_0.index t 0 = t.val ∧ win0_0.index t 1 = 0)
    ∧ (win0_1.index t 0 = t.val ∧ win0_1.index t 1 = 1)
    ∧ (win0_2.index t 0 = 64 * t.val - 1 ∧ win0_2.index t 1 = 0)
    ∧ (win0_3.index t 0 = 64 * t.val - 1 ∧ win0_3.index t 1 = 1)
    ∧ (win0_4.index t 0 = 0 ∧ win0_4.index t 1 = 0)
    ∧ (win0_5.index t 0 = 0 ∧ win0_5.index t 1 = 1)
    ∧ (win0_6.index t 0 = 0 ∧ win0_6.index t 1 = 0)
    ∧ (win0_7.index t 0 = 0 ∧ win0_7.index t 1 = 1)
    ∧ (win0_8.index t 0 = 0 ∧ win0_8.index t 1 = 0)
    ∧ (win0_9.index t 0 = t.val ∧ win0_9.index t 1 = 0)
    ∧ (win0_10.index t 0 = 0 ∧ win0_10.index t 1 = 0)
    ∧ (win0_11.index t 0 = t.val ∧ win0_11.index t 1 = 0)
    ∧ (win0_12.index t 0 = t.val ∧ win0_12.index t 1 = 0)
    ∧ (win0_13.index t 0 = 0 ∧ win0_13.index t 1 = 0)
    ∧ (win0_14.index t 0 = 0 ∧ win0_14.index t 1 = 0) :=
  (by decide +kernel : ∀ t : Fin grid0.N, _)

/-- The gate's half of the tile. -/
theorem iblk0 (c : Dev nD) (t : Fin cfg0.N) (j : S512x2816.Idx) :
    (iblk m c 0 t : Vec Ideal S512x2816 .bf16) j = at2 (gA m c) (512 * t.val + (j 0).val) (0 + (j 1).val) := by
  obtain ⟨⟨e0, e1⟩, -⟩ := idx t
  unfold iblk
  rw [View.read_apply]
  refine at2_of_val (gA m c) _ _ _ ?_ ?_
  · show win0_0.index t 0 * 512 + 1 * (j 0).val = _; rw [e0]; omega
  · show win0_0.index t 1 * 2816 + 1 * (j 1).val = _; rw [e1]; omega

/-- The value's half of the tile. -/
theorem iblk1 (c : Dev nD) (t : Fin cfg0.N) (j : S512x2816.Idx) :
    (iblk m c 1 t : Vec Ideal S512x2816 .bf16) j = at2 (gA m c) (512 * t.val + (j 0).val) (2816 + (j 1).val) := by
  obtain ⟨-, ⟨e0, e1⟩, -⟩ := idx t
  unfold iblk
  rw [View.read_apply]
  refine at2_of_val (gA m c) _ _ _ ?_ ?_
  · show win0_1.index t 0 * 512 + 1 * (j 0).val = _; rw [e0]; omega
  · show win0_1.index t 1 * 2816 + 1 * (j 1).val = _; rw [e1]; omega

/-- The gate's half of the rows before the tile. -/
theorem iblk2 (c : Dev nD) (t : Fin cfg0.N) (j : S8x2816.Idx) :
    (iblk m c 2 t : Vec Ideal S8x2816 .bf16) j = at2 (gA m c) (8 * (64 * t.val - 1) + (j 0).val) (0 + (j 1).val) := by
  obtain ⟨-, -, ⟨e0, e1⟩, -⟩ := idx t
  unfold iblk
  rw [View.read_apply]
  refine at2_of_val (gA m c) _ _ _ ?_ ?_
  · show win0_2.index t 0 * 8 + 1 * (j 0).val = _; rw [e0]; omega
  · show win0_2.index t 1 * 2816 + 1 * (j 1).val = _; rw [e1]; omega

/-- The value's half of the rows before the tile. -/
theorem iblk3 (c : Dev nD) (t : Fin cfg0.N) (j : S8x2816.Idx) :
    (iblk m c 3 t : Vec Ideal S8x2816 .bf16) j = at2 (gA m c) (8 * (64 * t.val - 1) + (j 0).val) (2816 + (j 1).val) := by
  obtain ⟨-, -, -, ⟨e0, e1⟩, -⟩ := idx t
  unfold iblk
  rw [View.read_apply]
  refine at2_of_val (gA m c) _ _ _ ?_ ?_
  · show win0_3.index t 0 * 8 + 1 * (j 0).val = _; rw [e0]; omega
  · show win0_3.index t 1 * 2816 + 1 * (j 1).val = _; rw [e1]; omega

/-- The gate's half of the convolution's weight. -/
theorem iblk4 (c : Dev nD) (t : Fin cfg0.N) (j : S3x2816.Idx) :
    (iblk m c 4 t : Vec Ideal S3x2816 .f32) j = at2 (gW m c) ((j 0).val) (0 + (j 1).val) := by
  obtain ⟨-, -, -, -, ⟨e0, e1⟩, -⟩ := idx t
  unfold iblk
  rw [View.read_apply]
  refine at2_of_val (gW m c) _ _ _ ?_ ?_
  · show win0_4.index t 0 * 3 + 1 * (j 0).val = _; rw [e0]; omega
  · show win0_4.index t 1 * 2816 + 1 * (j 1).val = _; rw [e1]; omega

/-- The value's half of the convolution's weight. -/
theorem iblk5 (c : Dev nD) (t : Fin cfg0.N) (j : S3x2816.Idx) :
    (iblk m c 5 t : Vec Ideal S3x2816 .f32) j = at2 (gW m c) ((j 0).val) (2816 + (j 1).val) := by
  obtain ⟨-, -, -, -, -, ⟨e0, e1⟩, -⟩ := idx t
  unfold iblk
  rw [View.read_apply]
  refine at2_of_val (gW m c) _ _ _ ?_ ?_
  · show win0_5.index t 0 * 3 + 1 * (j 0).val = _; rw [e0]; omega
  · show win0_5.index t 1 * 2816 + 1 * (j 1).val = _; rw [e1]; omega

/-- The gate's half of the bias. -/
theorem iblk6 (c : Dev nD) (t : Fin cfg0.N) (j : S1x2816.Idx) :
    (iblk m c 6 t : Vec Ideal S1x2816 .f32) j = at2 (gB m c) ((j 0).val) (0 + (j 1).val) := by
  obtain ⟨-, -, -, -, -, -, ⟨e0, e1⟩, -⟩ := idx t
  unfold iblk
  rw [View.read_apply]
  refine at2_of_val (gB m c) _ _ _ ?_ ?_
  · show win0_6.index t 0 * 1 + 1 * (j 0).val = _; rw [e0]; omega
  · show win0_6.index t 1 * 2816 + 1 * (j 1).val = _; rw [e1]; omega

/-- The value's half of the bias. -/
theorem iblk7 (c : Dev nD) (t : Fin cfg0.N) (j : S1x2816.Idx) :
    (iblk m c 7 t : Vec Ideal S1x2816 .f32) j = at2 (gB m c) ((j 0).val) (2816 + (j 1).val) := by
  obtain ⟨-, -, -, -, -, -, -, ⟨e0, e1⟩, -⟩ := idx t
  unfold iblk
  rw [View.read_apply]
  refine at2_of_val (gB m c) _ _ _ ?_ ?_
  · show win0_7.index t 0 * 1 + 1 * (j 0).val = _; rw [e0]; omega
  · show win0_7.index t 1 * 2816 + 1 * (j 1).val = _; rw [e1]; omega

/-- Every point reads the whole weight of the down projection. -/
theorem iblk8 (c : Dev nD) (t : Fin cfg0.N) (j : S2816x1024.Idx) :
    (iblk m c 8 t : Vec Ideal S2816x1024 .bf16) j = at2 (gD m c) ((j 0).val) ((j 1).val) := by
  obtain ⟨-, -, -, -, -, -, -, -, ⟨e0, e1⟩, -⟩ := idx t
  unfold iblk
  rw [View.read_apply]
  refine at2_of_val (gD m c) _ _ _ ?_ ?_
  · show win0_8.index t 0 * 2816 + 1 * (j 0).val = _; rw [e0]; omega
  · show win0_8.index t 1 * 1024 + 1 * (j 1).val = _; rw [e1]; omega

/-- The tile of the residual stream. -/
theorem iblk9 (c : Dev nD) (t : Fin cfg0.N) (j : S512x1024.Idx) :
    (iblk m c 9 t : Vec Ideal S512x1024 .f32) j = at2 (gX m c) (512 * t.val + (j 0).val) ((j 1).val) := by
  obtain ⟨-, -, -, -, -, -, -, -, -, ⟨e0, e1⟩, -⟩ := idx t
  unfold iblk
  rw [View.read_apply]
  refine at2_of_val (gX m c) _ _ _ ?_ ?_
  · show win0_9.index t 0 * 512 + 1 * (j 0).val = _; rw [e0]; omega
  · show win0_9.index t 1 * 1024 + 1 * (j 1).val = _; rw [e1]; omega

/-- Every point reads the whole gain. -/
theorem iblk10 (c : Dev nD) (t : Fin cfg0.N) (j : S1x1024.Idx) :
    (iblk m c 10 t : Vec Ideal S1x1024 .f32) j = at2 (gG m c) ((j 0).val) ((j 1).val) := by
  obtain ⟨-, -, -, -, -, -, -, -, -, -, ⟨e0, e1⟩, -⟩ := idx t
  unfold iblk
  rw [View.read_apply]
  refine at2_of_val (gG m c) _ _ _ ?_ ?_
  · show win0_10.index t 0 * 1 + 1 * (j 0).val = _; rw [e0]; omega
  · show win0_10.index t 1 * 1024 + 1 * (j 1).val = _; rw [e1]; omega

/-- The tile of the target. -/
theorem iblk11 (c : Dev nD) (t : Fin cfg0.N) (j : S512x1024.Idx) :
    (iblk m c 11 t : Vec Ideal S512x1024 .f32) j = at2 (gY m c) (512 * t.val + (j 0).val) ((j 1).val) := by
  obtain ⟨-, -, -, -, -, -, -, -, -, -, -, ⟨e0, e1⟩, -⟩ := idx t
  unfold iblk
  rw [View.read_apply]
  refine at2_of_val (gY m c) _ _ _ ?_ ?_
  · show win0_11.index t 0 * 512 + 1 * (j 0).val = _; rw [e0]; omega
  · show win0_11.index t 1 * 1024 + 1 * (j 1).val = _; rw [e1]; omega

/-- The grid's only coordinate is the point's number. -/
theorem coord : ∀ t : Fin cfg0.N, (grid0.coords t 0).val = t.val :=
  (by decide +kernel : ∀ t : Fin grid0.N, _)

/-- The factor of the previous tile's rows at point `t`. -/
theorem factor_eq (t : Fin cfg0.N) : factor (F := Ideal) (grid0.coords t) = if t.val = 0 then (0 : EReal) else 1 := by
  have e := coord t
  have hN : cfg0.N = 16 := N_0
  have ht : t.val < 16 := by have := t.isLt; omega
  unfold factor
  rw [e]
  generalize t.val = r at ht
  by_cases h : r = 0
  · subst h; exact Ideal.ofBits_zero_f32
  · rw [if_neg h]
    refine Eq.trans ?_ Ideal.ofBits_one_f32
    have : (Scalar.cmpi .eq (BitVec.ofNat 32 r) 0#32 : BitVec 1) = 0#1 := by
      interval_cases r <;> first | rfl | exact absurd rfl h
    rw [this]; rfl

/-- A row before the tile, times the factor: the array's row, or zero before the first row. -/
theorem halo (A : S8192x5632.Idx → EReal) (t : Fin cfg0.N) (r q : ℕ) (hr : r < 8) :
    at2 A (8 * (64 * t.val - 1) + r) q * factor (F := Ideal) (grid0.coords t)
      = if 8 ≤ 512 * t.val + r then at2 A (512 * t.val + r - 8) q else 0 := by
  rw [factor_eq]
  by_cases h : t.val = 0
  · rw [if_pos h, mul_zero, if_neg (by omega)]
  · rw [if_neg h, mul_one, if_pos (by omega)]
    exact congrArg (fun k => at2 A k q) (by omega)

/-- The blocks point `t` reads are cut out of the arrays at row `512 t`. -/
theorem tile (c : Dev nD) (t : Fin cfg0.N) : Tile (gA m c) (gW m c) (gB m c) (gD m c) (gX m c) (gG m c) (gY m c) (512 * t.val) (factor (F := Ideal) (grid0.coords t))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  hb := by have hN : cfg0.N = 16 := N_0; have := t.isLt; omega
  h0 := iblk0 m c t
  h1 := iblk1 m c t
  h2 j := (congrArg (fun x : EReal => x * factor (F := Ideal) (grid0.coords t)) (iblk2 m c t j)).trans (halo (gA m c) t (j 0).val _ (j 0).isLt)
  h3 j := (congrArg (fun x : EReal => x * factor (F := Ideal) (grid0.coords t)) (iblk3 m c t j)).trans (halo (gA m c) t (j 0).val _ (j 0).isLt)
  h4 := iblk4 m c t
  h5 := iblk5 m c t
  h6 := iblk6 m c t
  h7 := iblk7 m c t
  h8 := iblk8 m c t
  h9 := iblk9 m c t
  h10 := iblk10 m c t
  h11 := iblk11 m c t

/-- The residual stream with the ConvFFN's output, of the arrays the call takes. -/
noncomputable abbrev gZ (c : Dev nD) : S8192x1024.Idx → EReal := za (gA m c) (gW m c) (gB m c) (gD m c) (gX m c)

/-- The kernel's stream at a tile. -/
noncomputable abbrev zT (c : Dev nD) (t : Fin cfg0.N) : S512x1024.Idx → EReal :=
  outT (F := Ideal) (factor (grid0.coords t)) (iblk m c 0 t) (iblk m c 1 t) (iblk m c 2 t) (iblk m c 3 t) (iblk m c 4 t) (iblk m c 5 t) (iblk m c 6 t) (iblk m c 7 t) (iblk m c 8 t) (iblk m c 9 t)

theorem zT_apply (c : Dev nD) (t : Fin cfg0.N) (j : S512x1024.Idx) : zT m c t j = at2 (gZ m c) (512 * t.val + (j 0).val) (j 1).val :=
  outT_apply (tile m c t) j

/-- What every point leaves in the gradient's block. -/
theorem outs12 (c : Dev nD) (t : Fin cfg0.N) (j : S512x1024.Idx) :
    (outsAt0 m c t.val t.isLt).1 j = inp (gZ m c) (gG m c) (gY m c) (512 * t.val + (j 0).val) (j 1).val := by
  have hz := zT_apply m c t
  have hn := nT_apply (gZ m c) (zT m c t) hz
  have hr := rT_apply (gZ m c) (zT m c t) hz
  have hd := pay113_apply (tile m c t) (gZ m c) _ hn
  by_cases h : t.val % 16 = 0
  · rw [outsAt0_A m c t h]
    dsimp only
    rw [out12_A]
    exact pay1_apply (tile m c t) (gZ m c) _ hn _ hr _ hd j
  · rw [outsAt0_B m c t h]
    dsimp only
    rw [out12_B]
    exact pay1_apply (tile m c t) (gZ m c) _ hn _ hr _ hd j

/-- What the squared errors' row holds after point `n`: the sum over the rows of the tiles so far. -/
theorem outs13 (c : Dev nD) : ∀ (n : ℕ) (hn : n < cfg0.N) (j : S1x1024.Idx),
    (outsAt0 m c n hn).2.1 j = ∑ s ∈ Finset.range (n + 1), ∑ r : Fin 512, lterm (gZ m c) (gG m c) (gY m c) (j 1).val (512 * s + r.val)
  | 0, hn, j => by
    have hm := nT_apply (gZ m c) (zT m c ⟨0, hn⟩) (zT_apply m c ⟨0, hn⟩)
    rw [outsAt0_A m c ⟨0, hn⟩ rfl]
    dsimp only
    rw [out13_A]
    refine (pay112_apply (tile m c ⟨0, hn⟩) (gZ m c) _ hm _ j).trans ?_
    rw [Finset.sum_range_one]
    refine (congrArg (· + _) ?_).trans (zero_add _)
    exact Ideal.ofBits_zero_f32
  | n + 1, hn, j => by
    have hm := nT_apply (gZ m c) (zT m c ⟨n + 1, hn⟩) (zT_apply m c ⟨n + 1, hn⟩)
    have hN : cfg0.N = 16 := N_0
    have hB : ¬(⟨n + 1, hn⟩ : Fin cfg0.N).val % 16 = 0 := by dsimp only; omega
    rw [outsAt0_B m c ⟨n + 1, hn⟩ hB]
    dsimp only
    rw [out13_B]
    refine (pay112_apply (tile m c ⟨n + 1, hn⟩) (gZ m c) _ hm _ j).trans ?_
    rw [Finset.sum_range_succ _ (n + 1)]
    exact congrArg (· + _) (outs13 c n _ j)

/-- What the gain gradient's block holds after point `n`: the sum over the rows of the tiles so far. -/
theorem outs14 (c : Dev nD) : ∀ (n : ℕ) (hn : n < cfg0.N) (j : S1x1024.Idx),
    (outsAt0 m c n hn).2.2 j = ∑ s ∈ Finset.range (n + 1), ∑ r : Fin 512, gterm (gZ m c) (gG m c) (gY m c) (j 1).val (512 * s + r.val)
  | 0, hn, j => by
    have hm := nT_apply (gZ m c) (zT m c ⟨0, hn⟩) (zT_apply m c ⟨0, hn⟩)
    rw [outsAt0_A m c ⟨0, hn⟩ rfl]
    dsimp only
    rw [out14_A]
    refine (pay114_apply (tile m c ⟨0, hn⟩) (gZ m c) _ hm _ j).trans ?_
    rw [Finset.sum_range_one]
    refine (congrArg (· + _) ?_).trans (zero_add _)
    exact Ideal.ofBits_zero_f32
  | n + 1, hn, j => by
    have hm := nT_apply (gZ m c) (zT m c ⟨n + 1, hn⟩) (zT_apply m c ⟨n + 1, hn⟩)
    have hN : cfg0.N = 16 := N_0
    have hB : ¬(⟨n + 1, hn⟩ : Fin cfg0.N).val % 16 = 0 := by dsimp only; omega
    rw [outsAt0_B m c ⟨n + 1, hn⟩ hB]
    dsimp only
    rw [out14_B]
    refine (pay114_apply (tile m c ⟨n + 1, hn⟩) (gZ m c) _ hm _ j).trans ?_
    rw [Finset.sum_range_succ _ (n + 1)]
    exact congrArg (· + _) (outs14 c n _ j)

/-- The array that the call leaves in the gradient at the last norm's input. -/
noncomputable def whole12 (c : Dev nD) : Buf (Elt Ideal) ((c : Thread nD τ).loc main_v0_0) :=
  fun (i : S8192x1024.Idx) => (inp (gZ m c) (gG m c) (gY m c) (i 0).val (i 1).val : EReal)

/-- What point `t` writes back is its block of that array. -/
theorem flushed_eq12 (c : Dev nD) (t : Fin cfg0.N) :
    (dats m 0 c).flushed 12 t = ((cfg0.win 12).blk t).view.read (Elt Ideal) (whole12 m c) := by
  obtain ⟨-, -, -, -, -, -, -, -, -, -, -, -, ⟨e0, e1⟩, -⟩ := idx t
  rw [Value.flushed12]
  funext (y : S512x1024.Idx)
  have h0 : (y 0).val < 512 := (y 0).isLt
  have h1 : (y 1).val < 1024 := (y 1).isLt
  have hv : ((cfg0.win 12).blk t).view.read (Elt Ideal) (whole12 m c) y = inp (gZ m c) (gG m c) (gY m c) (512 * t.val + (y 0).val) (y 1).val := by
    rw [View.read_apply, cast_eq]
    show inp (gZ m c) (gG m c) (gY m c) (win0_12.index t 0 * 512 + 1 * (y 0).val) (win0_12.index t 1 * 1024 + 1 * (y 1).val) = _
    rw [e0, e1]
    congr 1 <;> omega
  rw [hv]
  exact outs12 m c t y

/-- Every element of the array is in the block of some point. -/
theorem cover12 (i : S8192x1024.Idx) : ∃ t : Fin cfg0.N, (cfg0.win 12).flush t = true ∧ i ∈ ((cfg0.win 12).blk t).view.set := by
  have h0 : (i 0).val < 8192 := (i 0).isLt
  have h1 : (i 1).val < 1024 := (i 1).isLt
  have hN : cfg0.N = 16 := N_0
  refine ⟨⟨(i 0).val / 512, by omega⟩, flush0_12 _, ?_⟩
  generalize ht : (⟨(i 0).val / 512, _⟩ : Fin cfg0.N) = t
  have ht' : t.val = (i 0).val / 512 := by rw [← ht]
  obtain ⟨-, -, -, -, -, -, -, -, -, -, -, -, ⟨e0, e1⟩, -⟩ := idx t
  show i ∈ ((View.whole main_v0_0).slice (win0_12.rect t)).set
  rw [View.set_slice_whole, Rect.mem_set_unit]
  intro a
  match a with
  | ⟨0, _⟩ => exact ⟨by show win0_12.index t 0 * 512 ≤ (i 0).val; rw [e0]; omega, by show (i 0).val < win0_12.index t 0 * 512 + 512; rw [e0]; omega⟩
  | ⟨1, _⟩ => exact ⟨by show win0_12.index t 1 * 1024 ≤ (i 1).val; rw [e1]; omega, by show (i 1).val < win0_12.index t 1 * 1024 + 1024; rw [e1]; omega⟩

/-- The array after the run. -/
theorem result12 (c : Dev nD) : (dats m 0 c).arrAt 12 cfg0.N = whole12 m c :=
  (dats m 0 c).arrAt_eq_of_cover 12 (whole12 m c) (fun t _ => flushed_eq12 m c t) cover12

/-- The squared errors' row that the call leaves: the sums over all rows. -/
noncomputable def whole13 (c : Dev nD) : Buf (Elt Ideal) ((c : Thread nD τ).loc main_v0_1) :=
  fun (i : S1x1024.Idx) => (lsum (gZ m c) (gG m c) (gY m c) (i 1).val : EReal)

/-- The same at an element whose column is `k`. -/
theorem whole13_apply (c : Dev nD) (i : S1x1024.Idx) (k : ℕ) (h : (i 1).val = k) :
    whole13 m c i = lsum (gZ m c) (gG m c) (gY m c) k := by
  subst h
  rfl

/-- The last point writes back the whole of it. -/
theorem flushed_eq13 (c : Dev nD) (t : Fin cfg0.N) (hf : (cfg0.win 13).flush t = true) :
    (dats m 0 c).flushed 13 t = ((cfg0.win 13).blk t).view.read (Elt Ideal) (whole13 m c) := by
  obtain ⟨-, -, -, -, -, -, -, -, -, -, -, -, -, ⟨e0, e1⟩, -⟩ := idx t
  have hN : cfg0.N = 16 := N_0
  have h15 : t.val = 15 := by have := (flush0_13 t).mp hf; have := t.isLt; omega
  rw [Value.flushed13]
  funext (y : S1x1024.Idx)
  have hv : ((cfg0.win 13).blk t).view.read (Elt Ideal) (whole13 m c) y = lsum (gZ m c) (gG m c) (gY m c) (y 1).val := by
    rw [View.read_apply]
    have hk : win0_13.index t 1 * 1024 + 1 * (y 1).val = (y 1).val := by rw [e1]; omega
    rw [cast_eq]
    exact whole13_apply m c _ _ hk
  rw [hv]
  refine (outs13 m c t.val t.isLt y).trans ?_
  rw [h15]
  unfold lsum
  exact sum_tiles 16 512 (lterm (gZ m c) (gG m c) (gY m c) (y 1).val)

/-- Every element is in the last point's block. -/
theorem cover13 (i : S1x1024.Idx) : ∃ t : Fin cfg0.N, (cfg0.win 13).flush t = true ∧ i ∈ ((cfg0.win 13).blk t).view.set := by
  have h0 : (i 0).val < 1 := (i 0).isLt
  have h1 : (i 1).val < 1024 := (i 1).isLt
  have hN : cfg0.N = 16 := N_0
  refine ⟨⟨15, by omega⟩, (flush0_13 _).mpr rfl, ?_⟩
  generalize ht : (⟨15, _⟩ : Fin cfg0.N) = t
  obtain ⟨-, -, -, -, -, -, -, -, -, -, -, -, -, ⟨e0, e1⟩, -⟩ := idx t
  show i ∈ ((View.whole main_v0_1).slice (win0_13.rect t)).set
  rw [View.set_slice_whole, Rect.mem_set_unit]
  intro a
  match a with
  | ⟨0, _⟩ => exact ⟨by show win0_13.index t 0 * 1 ≤ (i 0).val; rw [e0]; omega, by show (i 0).val < win0_13.index t 0 * 1 + 1; rw [e0]; omega⟩
  | ⟨1, _⟩ => exact ⟨by show win0_13.index t 1 * 1024 ≤ (i 1).val; rw [e1]; omega, by show (i 1).val < win0_13.index t 1 * 1024 + 1024; rw [e1]; omega⟩

/-- The array after the run. -/
theorem result13 (c : Dev nD) : (dats m 0 c).arrAt 13 cfg0.N = whole13 m c :=
  (dats m 0 c).arrAt_eq_of_cover 13 (whole13 m c) (flushed_eq13 m c) cover13

/-- The gain's gradient that the call leaves: the sums over all rows. -/
noncomputable def whole14 (c : Dev nD) : Buf (Elt Ideal) ((c : Thread nD τ).loc main_v0_2) :=
  fun (i : S1x1024.Idx) => (gsum (gZ m c) (gG m c) (gY m c) (i 1).val : EReal)

/-- The same at an element whose column is `k`. -/
theorem whole14_apply (c : Dev nD) (i : S1x1024.Idx) (k : ℕ) (h : (i 1).val = k) :
    whole14 m c i = gsum (gZ m c) (gG m c) (gY m c) k := by
  subst h
  rfl

/-- The last point writes back the whole of it. -/
theorem flushed_eq14 (c : Dev nD) (t : Fin cfg0.N) (hf : (cfg0.win 14).flush t = true) :
    (dats m 0 c).flushed 14 t = ((cfg0.win 14).blk t).view.read (Elt Ideal) (whole14 m c) := by
  obtain ⟨-, -, -, -, -, -, -, -, -, -, -, -, -, -, ⟨e0, e1⟩⟩ := idx t
  have hN : cfg0.N = 16 := N_0
  have h15 : t.val = 15 := by have := (flush0_14 t).mp hf; have := t.isLt; omega
  rw [Value.flushed14]
  funext (y : S1x1024.Idx)
  have hv : ((cfg0.win 14).blk t).view.read (Elt Ideal) (whole14 m c) y = gsum (gZ m c) (gG m c) (gY m c) (y 1).val := by
    rw [View.read_apply]
    have hk : win0_14.index t 1 * 1024 + 1 * (y 1).val = (y 1).val := by rw [e1]; omega
    rw [cast_eq]
    exact whole14_apply m c _ _ hk
  rw [hv]
  refine (outs14 m c t.val t.isLt y).trans ?_
  rw [h15]
  unfold gsum
  exact sum_tiles 16 512 (gterm (gZ m c) (gG m c) (gY m c) (y 1).val)

/-- Every element is in the last point's block. -/
theorem cover14 (i : S1x1024.Idx) : ∃ t : Fin cfg0.N, (cfg0.win 14).flush t = true ∧ i ∈ ((cfg0.win 14).blk t).view.set := by
  have h0 : (i 0).val < 1 := (i 0).isLt
  have h1 : (i 1).val < 1024 := (i 1).isLt
  have hN : cfg0.N = 16 := N_0
  refine ⟨⟨15, by omega⟩, (flush0_14 _).mpr rfl, ?_⟩
  generalize ht : (⟨15, _⟩ : Fin cfg0.N) = t
  obtain ⟨-, -, -, -, -, -, -, -, -, -, -, -, -, -, ⟨e0, e1⟩⟩ := idx t
  show i ∈ ((View.whole main_v0_2).slice (win0_14.rect t)).set
  rw [View.set_slice_whole, Rect.mem_set_unit]
  intro a
  match a with
  | ⟨0, _⟩ => exact ⟨by show win0_14.index t 0 * 1 ≤ (i 0).val; rw [e0]; omega, by show (i 0).val < win0_14.index t 0 * 1 + 1; rw [e0]; omega⟩
  | ⟨1, _⟩ => exact ⟨by show win0_14.index t 1 * 1024 ≤ (i 1).val; rw [e1]; omega, by show (i 1).val < win0_14.index t 1 * 1024 + 1024; rw [e1]; omega⟩

/-- The array after the run. -/
theorem result14 (c : Dev nD) : (dats m 0 c).arrAt 14 cfg0.N = whole14 m c :=
  (dats m 0 c).arrAt_eq_of_cover 14 (whole14 m c) (flushed_eq14 m c) cover14

end Cert.Loss
-- ==== Proof.Step.LossRef.lean ====
/- The forward pass of the ConvFFN with the loss: what the reference computes, element by element, and that over finite arrays it is
   what the kernel computes. -/
module

public import proofs.«01_k».proof.Proof.Step.LossElem

@[expose] public section

namespace Cert.LossRef

open Idealize.ShloMosaic
open Cert.Reference12Ideal Cert.Reference12Ideal.Gen Cert.Reference12Ideal.Read Cert.Common
open Cert.Gate (tap cv sg)
open Cert.GateRef (lg lg_coe sg_coe cv_real Finite2)
open Cert.Loss

variable (x0 : S8192x5632.Idx → EReal) (x1 : S3x5632.Idx → EReal) (x2 : S1x5632.Idx → EReal) (x3 : S2816x1024.Idx → EReal) (x4 : S8192x1024.Idx → EReal)
variable (x5 : S1x1024.Idx → EReal) (x6 : S8192x1024.Idx → EReal)

/-- The input itself. -/
theorem v0_apply (i : S8192x5632.Idx) : val_main_v0 (F := Ideal) x0 i = tap x0 (i 0).val (i 1).val 0 := by
  pointwise [val_main_v0]
  unfold tap
  rw [if_pos (Nat.zero_le _)]
  exact at2_of_val x0 _ _ _ rfl rfl

/-- The input moved down by one row. -/
theorem v3_apply (i : S8192x5632.Idx) : val_main_v3 (F := Ideal) x0 i = tap x0 (i 0).val (i 1).val 1 := by
  pointwise [val_main_v3, val_main_v2, val_main_v1, val_main_v0, val_main_cst]
  unfold tap
  by_cases h : (i 0).val < 1
  · rw [dif_pos h, if_neg (by omega)]
  · rw [dif_neg h]
    exact (at2_of_val x0 _ _ _ rfl rfl).trans (if_pos (by omega)).symm

/-- The input moved down by two rows. -/
theorem v6_apply (i : S8192x5632.Idx) : val_main_v6 (F := Ideal) x0 i = tap x0 (i 0).val (i 1).val 2 := by
  pointwise [val_main_v6, val_main_v5, val_main_v4, val_main_v0, val_main_cst_0]
  unfold tap
  by_cases h : (i 0).val < 2
  · rw [dif_pos h, if_neg (by omega)]
  · rw [dif_neg h]
    exact (at2_of_val x0 _ _ _ rfl rfl).trans (if_pos (by omega)).symm

/-- The convolution's output: the reference adds the taps in the other order. -/
theorem v19_apply (p : Fin 8192) (q : Fin 5632) : val_main_v19 (F := Ideal) x0 x1 x2 (ValueIdx.ix2 p q) = cv x0 x1 x2 p.val q.val := by
  pointwise [val_main_v19, val_main_v18, val_main_v17, val_main_v16, val_main_v15, val_main_v14, val_main_v13, val_main_v12, val_main_v11, val_main_v10, val_main_v9, val_main_v8, val_main_v7]
  unfold cv
  refine congrArg₂ (· + ·) ?_ (at2_of_val x2 _ _ _ rfl rfl)
  refine Eq.trans (b := at2 x1 0 q.val * tap x0 p.val q.val 2 + at2 x1 1 q.val * tap x0 p.val q.val 1 + at2 x1 2 q.val * tap x0 p.val q.val 0)
    (congrArg₂ (· + ·) (congrArg₂ (· + ·)
      (congrArg₂ (· * ·) (at2_of_val x1 _ _ _ rfl rfl) (v6_apply x0 _)) (congrArg₂ (· * ·) (at2_of_val x1 _ _ _ rfl rfl) (v3_apply x0 _)))
      (congrArg₂ (· * ·) (at2_of_val x1 _ _ _ rfl rfl) (v0_apply x0 _))) ?_
  rw [add_comm, add_comm (at2 x1 0 q.val * tap x0 p.val q.val 2), add_assoc]

/-- The gate's input. -/
theorem v20_apply (p : Fin 8192) (q : Fin 2816) : val_main_v20 (F := Ideal) x0 x1 x2 (ValueIdx.ix2 p q) = cv x0 x1 x2 p.val q.val := by
  pointwise [val_main_v20]
  exact v19_apply x0 x1 x2 p ⟨q.val, _⟩

/-- The gated value. -/
theorem v21_apply (p : Fin 8192) (q : Fin 2816) : val_main_v21 (F := Ideal) x0 x1 x2 (ValueIdx.ix2 p q) = cv x0 x1 x2 p.val (2816 + q.val) := by
  pointwise [val_main_v21]
  exact v19_apply x0 x1 x2 p ⟨2816 + q.val, _⟩

/-- The gate's product, as the reference computes it. -/
theorem v23_apply (p : Fin 8192) (q : Fin 2816) : val_main_v23 (F := Ideal) x0 x1 x2 (ValueIdx.ix2 p q)
    = cv x0 x1 x2 p.val q.val * lg (cv x0 x1 x2 p.val q.val) * cv x0 x1 x2 p.val (2816 + q.val) := by
  pointwise [val_main_v23, val_main_v22, val_main_call0_v5, val_main_call0_v4, val_main_call0_v3, val_main_call0_v2, val_main_call0_v1, val_main_call0_v0, val_main_call0_cst, val_main_call0_cst_0]
  rw [v20_apply, v21_apply]
  rfl

/-- The gate's product is the kernel's. -/
theorem v23_eq (h0 : Finite2 x0) (h1 : Finite2 x1) (h2 : Finite2 x2) (p : Fin 8192) (q : Fin 2816) :
    val_main_v23 (F := Ideal) x0 x1 x2 (ValueIdx.ix2 p q) = yv x0 x1 x2 p.val q.val := by
  refine (v23_apply x0 x1 x2 p q).trans ?_
  unfold yv hv
  rw [Nat.zero_add]
  obtain ⟨g, hg⟩ := cv_real x0 x1 x2 h0 h1 h2 p.val q.val
  have hs := sg_coe g
  unfold sg at hs
  rw [hg, lg_coe, ← hs, Cert.GateRef.const_half, ← EReal.coe_mul, Ideal.tanh_coe]
  refine congrArg (· * _) ?_
  simp only [← EReal.coe_mul, ← EReal.coe_add]
  exact congrArg _ (by ring)

/-- The reference's form of the norm's gradient where nothing arrives beside the norm. -/
theorem refInp_zero (s v : EReal) (x y : Fin 1024 → EReal) (k : Fin 1024) :
    Cert.UpBwd.refInp 0 s v x y k = y k * s + x k * (∑ _u : Fin 1, Ideal.div ((∑ a, x a * y a) * (Ideal.ofBits .f32 0xBF000000#32 * Ideal.div s v)) (Ideal.ofBits .f32 0x44800000#32))
      + (∑ _u : Fin 1, Ideal.div ((∑ a, x a * y a) * (Ideal.ofBits .f32 0xBF000000#32 * Ideal.div s v)) (Ideal.ofBits .f32 0x44800000#32)) * x k := by
  unfold Cert.UpBwd.refInp
  rw [zero_add]

/-- The residual stream with the ConvFFN's output is the kernel's. -/
theorem v26_eq (h0 : Finite2 x0) (h1 : Finite2 x1) (h2 : Finite2 x2) : val_main_v26 (F := Ideal) x0 x1 x2 x3 x4 = za x0 x1 x2 x3 x4 := by
  funext (i : S8192x1024.Idx)
  pointwise [val_main_v26, val_main_v25, val_main_v24]
  unfold za zv
  refine congrArg₂ (· + ·) (at2_of_val x4 _ _ _ rfl rfl) (Finset.sum_congr rfl fun k _ => congrArg₂ (· * ·) ?_ (at2_of_val x3 _ _ _ rfl rfl))
  exact v23_eq x0 x1 x2 h0 h1 h2 (i 0) k

section Ends
variable (z : S8192x1024.Idx → EReal) (hz : val_main_v26 (F := Ideal) x0 x1 x2 x3 x4 = z)

include hz in
/-- The errors. -/
theorem v39_apply (i : S8192x1024.Idx) : val_main_v39 (F := Ideal) x0 x1 x2 x3 x4 x5 x6 i = err z x5 x6 (i 0).val (i 1).val := by
  pointwise [val_main_v39, val_main_v38, val_main_v37, val_main_v36, val_main_v35, val_main_v34, val_main_v33, val_main_v32, val_main_v31, val_main_v30, val_main_v29, val_main_v28, val_main_v27, val_main_cst_1, val_main_cst_2, val_main_cst_3]
  rw [hz]
  have hZ : ∀ j : S8192x1024.Idx, z j = at2 z (j 0).val (j 1).val := fun j => at2_of_val z j _ _ rfl rfl
  refine congrArg₂ (· - ·) (congrArg₂ (· * ·) (congrArg₂ (· * ·) (hZ _) (congrArg (fun z => Ideal.rsqrt (Ideal.div z _ + _)) (Finset.sum_congr rfl fun x _ => ?_))) (at2_of_val x5 _ _ _ rfl rfl)) (at2_of_val x6 _ _ _ rfl rfl)
  exact congrArg₂ (· * ·) (hZ _) (hZ _)

include hz in
/-- The normalised stream, taken again for the gradient. -/
theorem v52_apply (i : S8192x1024.Idx) : val_main_v52 (F := Ideal) x0 x1 x2 x3 x4 i = at2 z (i 0).val (i 1).val * Cert.UpBwd.rs z (i 0).val := by
  pointwise [val_main_v52, val_main_v51, val_main_v47, val_main_v46, val_main_v45, val_main_v44, val_main_v43, val_main_v42, val_main_v41, val_main_v40, val_main_cst_4, val_main_cst_5, val_main_cst_6]
  rw [hz]
  have hZ : ∀ j : S8192x1024.Idx, z j = at2 z (j 0).val (j 1).val := fun j => at2_of_val z j _ _ rfl rfl
  refine congrArg₂ (· * ·) (hZ _) (congrArg (fun z => Ideal.rsqrt (Ideal.div z _ + _)) (Finset.sum_congr rfl fun x _ => ?_))
  exact congrArg₂ (· * ·) (hZ _) (hZ _)

include hz in
/-- The errors, taken again for the gradient. -/
theorem v55_apply (i : S8192x1024.Idx) : val_main_v55 (F := Ideal) x0 x1 x2 x3 x4 x5 x6 i = err z x5 x6 (i 0).val (i 1).val := by
  pointwise [val_main_v55, val_main_v54, val_main_v53]
  exact congrArg₂ (· - ·) (congrArg₂ (· * ·) (v52_apply x0 x1 x2 x3 x4 z hz _) (at2_of_val x5 _ _ _ rfl rfl)) (at2_of_val x6 _ _ _ rfl rfl)

include hz in
/-- The squared errors' sums are the kernel's. -/
theorem v91_apply (i : S1x1024.Idx) : val_main_v91 (F := Ideal) x0 x1 x2 x3 x4 x5 x6 i = lsum z x5 x6 (i 1).val := by
  pointwise [val_main_v91, val_main_v90, val_main_v89, val_main_cst_20]
  exact Finset.sum_congr rfl fun R _ => congrArg₂ (· * ·) (v39_apply x0 x1 x2 x3 x4 x5 x6 z hz _) (v39_apply x0 x1 x2 x3 x4 x5 x6 z hz _)

theorem const_two : Ideal.ofBits .f32 0x40000000#32 = ((2 : ℝ) : EReal) := by
  simp [Ideal.ofBits, Ideal.ieee, -EReal.coe_mul]; norm_num

theorem const_inv : Ideal.ofBits .f32 0x3A800000#32 = ((1 / 1024 : ℝ) : EReal) := by
  simp [Ideal.ofBits, Ideal.ieee, -EReal.coe_mul]; norm_num

/-- The loss's derivative by an error: half over the row's length times twice the error. -/
theorem scale (e : ℝ) : Ideal.div (Ideal.ofBits .f32 0x3F000000#32) (Ideal.ofBits .f32 0x44800000#32) * (Ideal.ofBits .f32 0x40000000#32 * (e : EReal))
    = (e : EReal) * Ideal.ofBits .f32 0x3A800000#32 := by
  rw [Cert.GateRef.const_half, const_two, const_inv, Cert.UpBwd.const_len, Ideal.div_coe (by norm_num : (1024 : ℝ) ≠ 0)]
  simp only [← EReal.coe_mul]
  exact congrArg _ (by ring)

include hz in
/-- The gradient at the norm's output is the kernel's. -/
theorem v69_apply (he : ∀ p q, ∃ e : ℝ, err z x5 x6 p q = e) (i : S8192x1024.Idx) :
    val_main_v69 (F := Ideal) x0 x1 x2 x3 x4 x5 x6 i = dyv z x5 x6 (i 0).val (i 1).val := by
  pointwise [val_main_v69, val_main_v68, val_main_v67, val_main_v66, val_main_v65, val_main_v64, val_main_v58, val_main_v57, val_main_cst_8, val_main_cst_13, val_main_cst_14, val_main_cst_15]
  unfold dyv
  rw [v55_apply x0 x1 x2 x3 x4 x5 x6 z hz]
  obtain ⟨e, he⟩ := he (i 0).val (i 1).val
  rw [he]
  exact scale e

include hz in
/-- The gain's gradient is the kernel's. -/
theorem v72_apply (he : ∀ p q, ∃ e : ℝ, err z x5 x6 p q = e) (i : S1x1024.Idx) :
    val_main_v72 (F := Ideal) x0 x1 x2 x3 x4 x5 x6 i = gsum z x5 x6 (i 1).val := by
  pointwise [val_main_v72, val_main_v71, val_main_v70, val_main_cst_16]
  unfold gsum gterm
  refine Finset.sum_congr rfl fun R _ => ?_
  rw [mul_comm]
  exact congrArg₂ (· * ·) (v69_apply x0 x1 x2 x3 x4 x5 x6 z hz he _) (v52_apply x0 x1 x2 x3 x4 z hz _)

include hz in
/-- The gradient at the norm's input, as the reference computes it. -/
theorem v88_apply (he : ∀ p q, ∃ e : ℝ, err z x5 x6 p q = e) (p : Fin 8192) (q : Fin 1024) :
    val_main_v88 (F := Ideal) x0 x1 x2 x3 x4 x5 x6 (ValueIdx.ix2 p q)
      = Cert.UpBwd.refInp 0 (Cert.UpBwd.rs z p.val) (Cert.UpBwd.msq z p.val) (fun a => at2 z p.val a.val)
        (fun a => dyv z x5 x6 p.val a.val * at2 x5 0 a.val) q := by
  pointwise [val_main_v88, val_main_v87, val_main_v86, val_main_v85, val_main_v84, val_main_v83, val_main_v82, val_main_v81, val_main_v80, val_main_v79, val_main_v78, val_main_v77, val_main_v76, val_main_v75, val_main_v74, val_main_v73, val_main_v50, val_main_v49, val_main_v48, val_main_v47, val_main_v46, val_main_v45, val_main_v44, val_main_v43, val_main_v42, val_main_v41, val_main_v40, val_main_cst_4, val_main_cst_5, val_main_cst_6, val_main_cst_7, val_main_cst_17, val_main_cst_18, val_main_cst_19]
  rw [hz]
  have hx : ∀ a : Fin 1024, z (ValueIdx.ix2 p a) = at2 z p.val a.val := fun a => at2_of_val z _ _ _ rfl rfl
  have hm : Ideal.div (∑ x, z (ValueIdx.ix2 p x) * z (ValueIdx.ix2 p x)) (Ideal.ofBits .f32 0x44800000#32) + Ideal.ofBits .f32 0x358637BD#32
      = Cert.UpBwd.msq z p.val :=
    congrArg (fun z => Ideal.div z _ + _) (Finset.sum_congr rfl fun x _ => congrArg₂ (· * ·) (hx x) (hx x))
  have hy : ∀ a : Fin 1024, val_main_v69 (F := Ideal) x0 x1 x2 x3 x4 x5 x6 (ValueIdx.ix2 p a) * x5 (ValueIdx.ix2 0 a)
      = dyv z x5 x6 p.val a.val * at2 x5 0 a.val := fun a => congrArg₂ (· * ·) (v69_apply x0 x1 x2 x3 x4 x5 x6 z hz he _) (at2_of_val x5 _ _ _ rfl rfl)
  refine Eq.trans (b := Cert.UpBwd.refInp 0 (Ideal.rsqrt (Ideal.div (∑ x, z (ValueIdx.ix2 p x) * z (ValueIdx.ix2 p x)) (Ideal.ofBits .f32 0x44800000#32) + Ideal.ofBits .f32 0x358637BD#32))
    (Ideal.div (∑ x, z (ValueIdx.ix2 p x) * z (ValueIdx.ix2 p x)) (Ideal.ofBits .f32 0x44800000#32) + Ideal.ofBits .f32 0x358637BD#32)
    (fun a => z (ValueIdx.ix2 p a)) (fun a => val_main_v69 (F := Ideal) x0 x1 x2 x3 x4 x5 x6 (ValueIdx.ix2 p a) * x5 (ValueIdx.ix2 0 a)) q) ?_ ?_
  · rw [refInp_zero]
    rfl
  · rw [hm, funext hx, funext hy]
    rfl

end Ends

/-- Of finite arrays the stream is finite. -/
theorem za_real (h0 : Finite2 x0) (h1 : Finite2 x1) (h2 : Finite2 x2) (h3 : Finite2 x3) (h4 : Finite2 x4) : Finite2 (za x0 x1 x2 x3 x4) := by
  intro R k
  by_cases h : R < 8192 ∧ k < 1024
  · rw [za_at x0 x1 x2 x3 x4 R k h.1 h.2]
    have hy : ∀ q, ∃ y : ℝ, yv x0 x1 x2 R q = y := fun q => by
      unfold yv hv
      obtain ⟨g, hg⟩ := cv_real x0 x1 x2 h0 h1 h2 R (0 + q)
      obtain ⟨v, hv⟩ := cv_real x0 x1 x2 h0 h1 h2 R (2816 + q)
      rw [hg, hv, Cert.GateRef.const_half, ← EReal.coe_mul, Ideal.tanh_coe]
      simp only [← EReal.coe_mul, ← EReal.coe_add]
      exact ⟨_, rfl⟩
    choose y hy using hy
    choose w hw using h3
    choose e he using h4
    unfold zv
    simp only [hy, hw, he, ← EReal.coe_mul, Cert.UpBwd.coe_sum, ← EReal.coe_add]
    exact ⟨_, rfl⟩
  · unfold at2
    rw [dif_neg h]
    exact ⟨0, rfl⟩

/-- Of a finite array the norm's factor is finite. -/
theorem rs_real (z : S8192x1024.Idx → EReal) (hz : Finite2 z) (R : ℕ) : ∃ s : ℝ, Cert.UpBwd.rs z R = s := by
  obtain ⟨eps, heps, he⟩ := Cert.UpBwd.const_eps
  choose x hx using hz
  have h : (0 : ℝ) < (∑ a : Fin 1024, x R a.val * x R a.val) * (1024 : ℝ)⁻¹ + eps := by
    have : 0 ≤ ∑ a : Fin 1024, x R a.val * x R a.val := Finset.sum_nonneg fun a _ => mul_self_nonneg _
    positivity
  unfold Cert.UpBwd.rs Cert.UpBwd.msq
  simp only [hx, ← EReal.coe_mul, Cert.UpBwd.coe_sum]
  rw [he, Cert.UpBwd.const_len, Ideal.div_coe (by norm_num : (1024 : ℝ) ≠ 0), ← EReal.coe_mul, ← EReal.coe_add]
  rw [one_div, Ideal.rsqrt_coe, if_neg (not_lt.mpr h.le), if_neg h.ne']
  exact ⟨_, rfl⟩

/-- Of finite arrays the error is finite. -/
theorem err_real (z : S8192x1024.Idx → EReal) (hz : Finite2 z) (h5 : Finite2 x5) (h6 : Finite2 x6) (R k : ℕ) : ∃ e : ℝ, err z x5 x6 R k = e := by
  obtain ⟨s, hs⟩ := rs_real z hz R
  choose x hx using hz
  choose g hg using h5
  choose y hy using h6
  unfold err
  rw [hs, hx, hg, hy]
  simp only [← EReal.coe_mul, ← EReal.coe_sub]
  exact ⟨_, rfl⟩

/-- Over finite arrays the kernel's gradient at the norm's input is the reference's. -/
theorem inp_eq (z : S8192x1024.Idx → EReal) (hz : Finite2 z) (h5 : Finite2 x5) (h6 : Finite2 x6) (r : ℕ) (k : Fin 1024) :
    Cert.UpBwd.refInp 0 (Cert.UpBwd.rs z r) (Cert.UpBwd.msq z r) (fun a => at2 z r a.val) (fun a => dyv z x5 x6 r a.val * at2 x5 0 a.val) k
      = inp z x5 x6 r k.val := by
  have hy : ∀ a : ℕ, ∃ y : ℝ, dyv z x5 x6 r a * at2 x5 0 a = y := fun a => by
    obtain ⟨e, he⟩ := err_real x5 x6 z hz h5 h6 r a
    obtain ⟨g, hg⟩ := h5 0 a
    unfold dyv
    rw [he, hg, const_inv, ← EReal.coe_mul, ← EReal.coe_mul]
    exact ⟨_, rfl⟩
  choose y hy using hy
  choose x hx using hz
  refine Eq.trans ?_ ((Cert.UpBwd.identity (fun a => x r a.val) (fun a => y a.val) 0 k (Cert.UpBwd.msq z r) (Cert.UpBwd.rs z r) ?_ rfl).trans ?_)
  · congr 1
    · exact funext fun a => hx r a.val
    · exact funext fun a => hy a.val
  · unfold Cert.UpBwd.msq
    simp only [hx]
  · unfold inp
    simp only [hy, hx]
    exact zero_add _

/-- Over finite arrays the three results are the kernel's. -/
theorem results (h0 : Finite2 x0) (h1 : Finite2 x1) (h2 : Finite2 x2) (h3 : Finite2 x3) (h4 : Finite2 x4) (h5 : Finite2 x5) (h6 : Finite2 x6) :
    (∀ i : S8192x1024.Idx, val_main_v88 (F := Ideal) x0 x1 x2 x3 x4 x5 x6 i = inp (za x0 x1 x2 x3 x4) x5 x6 (i 0).val (i 1).val)
      ∧ (∀ i : S1x1024.Idx, val_main_v91 (F := Ideal) x0 x1 x2 x3 x4 x5 x6 i = lsum (za x0 x1 x2 x3 x4) x5 x6 (i 1).val)
      ∧ ∀ i : S1x1024.Idx, val_main_v72 (F := Ideal) x0 x1 x2 x3 x4 x5 x6 i = gsum (za x0 x1 x2 x3 x4) x5 x6 (i 1).val := by
  have hz := v26_eq x0 x1 x2 x3 x4 h0 h1 h2
  have hr := za_real x0 x1 x2 x3 x4 h0 h1 h2 h3 h4
  have he := err_real x5 x6 _ hr h5 h6
  refine ⟨fun i => ?_, fun i => v91_apply x0 x1 x2 x3 x4 x5 x6 _ hz i, fun i => v72_apply x0 x1 x2 x3 x4 x5 x6 _ hz he i⟩
  refine (congrArg _ (ValueIdx.eq_ix2 i)).trans ((v88_apply x0 x1 x2 x3 x4 x5 x6 _ hz he (i 0) (i 1)).trans ?_)
  exact inp_eq x5 x6 _ hr h5 h6 (i 0).val (i 1)

end Cert.LossRef
-- ==== Proof.Step.LossClaim.lean ====
/- The claim of the ConvFFN's forward call with the loss: over finite arrays the kernel and the reference end with the same
   gradient at the last norm's input, the same sums of squared errors and the same gradient of the norm's gain. -/
module

public import proofs.«01_k».proof.Defs
public import proofs.«01_k».proof.Proof.Ffn.Finite
public import proofs.«01_k».proof.Proof.Step.Loss
public import proofs.«01_k».proof.Proof.Step.LossRef
public import proofs.«01_k».proof.Proof.Gen.Reference12Ideal.Run
public import proofs.«01_k».proof.Proof.Gen.Pre_finite_loss
public import Idealize.ShloMosaic.Lib.Quiescent

@[expose] public section

namespace Cert.LossClaim

open Idealize.ShloMosaic Idealize.SL.Sem Cert.Common

/-- The precondition says that every element of the seven arguments is a real. -/
theorem finite (x0 : FVec Ideal ⟨2, ![8192, 5632]⟩ .bf16) (x1 : FVec Ideal ⟨2, ![3, 5632]⟩ .f32) (x2 : FVec Ideal ⟨2, ![1, 5632]⟩ .f32)
    (x3 : FVec Ideal ⟨2, ![2816, 1024]⟩ .bf16) (x4 : FVec Ideal ⟨2, ![8192, 1024]⟩ .f32) (x5 : FVec Ideal ⟨2, ![1, 1024]⟩ .f32) (x6 : FVec Ideal ⟨2, ![8192, 1024]⟩ .f32)
    (h : Cert.Pre_finite_loss.fn (F := Ideal) x0 x1 x2 x3 x4 x5 x6 = fun _ => 1#1) :
    (∀ i, ∃ z : ℝ, x0 i = z) ∧ (∀ i, ∃ z : ℝ, x1 i = z) ∧ (∀ i, ∃ z : ℝ, x2 i = z) ∧ (∀ i, ∃ z : ℝ, x3 i = z) ∧ (∀ i, ∃ z : ℝ, x4 i = z) ∧ (∀ i, ∃ z : ℝ, x5 i = z) ∧ (∀ i, ∃ z : ℝ, x6 i = z) := by
  have h := congrFun h (fun a : Fin 0 => a.elim0)
  unfold Cert.Pre_finite_loss.fn at h
  dsimp only at h
  unfold Cert.Pre_finite_loss.fn_part1 at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Cert.Finite.real_of_all _ Cert.Finite.inf_bf16 x0 _ _ _ _ h0,
    Cert.Finite.real_of_all _ Cert.Finite.inf_f32 x1 _ _ _ _ h1,
    Cert.Finite.real_of_all _ Cert.Finite.inf_f32 x2 _ _ _ _ h2,
    Cert.Finite.real_of_all _ Cert.Finite.inf_bf16 x3 _ _ _ _ h3,
    Cert.Finite.real_of_all _ Cert.Finite.inf_f32 x4 _ _ _ _ h4,
    Cert.Finite.real_of_all _ Cert.Finite.inf_f32 x5 _ _ _ _ h5,
    Cert.Finite.real_of_all _ Cert.Finite.inf_f32 x6 _ _ _ _ h6⟩

/-- The reference of the ConvFFN's forward call runs, keeps its arguments and leaves no semaphore counted up. -/
theorem frame12 : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- Over finite arrays the kernel and the reference end with the same three results. -/
theorem algebraic12 : Cert.algebraic_Kernel12Ideal_Reference12Ideal_pre_finite_loss := by
  intro m ρ m' ρ' hpre hagree
  refine ⟨fun c => Cert.Loss.whole12 m c, fun c => Cert.Loss.whole13 m c, fun c => Cert.Loss.whole14 m c, ?_, ?_⟩
  · exact (θ_run Cert.Kernel12Ideal.defs _ _).mono
      (fun r h c => ⟨(h c).1.trans (Cert.Loss.result12 m c), (h c).2.1.trans (Cert.Loss.result13 m c), (h c).2.2.1.trans (Cert.Loss.result14 m c), (h c).2.2.2⟩)
      (Cert.Kernel12Ideal.Value.run_blocks (F := Ideal) m ρ)
  · have hres : ∀ c, _ := fun c => by
      obtain ⟨f0, f1, f2, f3, f4, f5, f6⟩ := finite _ _ _ _ _ _ _ (hpre c)
      exact Cert.LossRef.results _ _ _ _ _ _ _ (Cert.Finite.real_at2 _ f0) (Cert.Finite.real_at2 _ f1) (Cert.Finite.real_at2 _ f2) (Cert.Finite.real_at2 _ f3) (Cert.Finite.real_at2 _ f4) (Cert.Finite.real_at2 _ f5) (Cert.Finite.real_at2 _ f6)
    refine (θ_run Cert.Reference12Ideal.defs _ _).mono (fun r h c => ⟨(h c).1.trans ?_, (h c).2.1.trans ?_, (h c).2.2.1.trans ?_, (h c).2.2.2⟩)
      (Cert.Reference12Ideal.Value.run (F := Ideal) m' ρ')
    · refine (Cert.Reference12Ideal.Read.val_main_v88_eq _).trans (funext fun i => ?_)
      show Cert.Reference12Ideal.Read.val_main_v88 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6)) i = _
      obtain ⟨a0, a1, a2, a3, a4, a5, a6⟩ := hagree c
      rw [a0, a1, a2, a3, a4, a5, a6]
      exact (hres c).1 i
    · refine (Cert.Reference12Ideal.Read.val_main_v91_eq _).trans (funext fun i => ?_)
      show Cert.Reference12Ideal.Read.val_main_v91 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6)) i = _
      obtain ⟨a0, a1, a2, a3, a4, a5, a6⟩ := hagree c
      rw [a0, a1, a2, a3, a4, a5, a6]
      exact (hres c).2.1 i
    · refine (Cert.Reference12Ideal.Read.val_main_v72_eq _).trans (funext fun i => ?_)
      show Cert.Reference12Ideal.Read.val_main_v72 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6)) i = _
      obtain ⟨a0, a1, a2, a3, a4, a5, a6⟩ := hagree c
      rw [a0, a1, a2, a3, a4, a5, a6]
      exact (hres c).2.2 i

end Cert.LossClaim
-- ==== Proof.Step.InBwd.lean ====
/- The backward pass of the input projection and of the norm before it: six parts of the projection's gradient, each times its
   columns of the weight, and the norm's gradient of their sum. -/
module

public import proofs.«01_k».proof.Proof.Ffn.Common
public import proofs.«01_k».proof.Proof.Gen.Kernel14Ideal.Value
public import proofs.«01_k».proof.Proof.Gen.Reference14Ideal.Read
public import Idealize.ShloMosaic.Lib.Pointwise
public import proofs.«01_k».proof.Proof.Ffn.UpBwd

@[expose] public section

namespace Cert.InBwd

open Idealize.ShloMosaic Idealize.ShloMosaic.TcCoe Idealize.SL.Sem
open Cert.Kernel14Ideal Cert.Kernel14Ideal.Gen Cert.Common

theorem hz : (![0, 0] : Fin 2 → Nat) = fun _ => 0 := funext fun a => by fin_cases a <;> rfl

/-- The gradient at the norm's output without its last part, for a tile of rows. -/
noncomputable def dhP {F : FTy → Type} [FloatOps F] (x0 : Vec F S512x512 .bf16) (x1 : Vec F S512x512 .bf16) (x2 : Vec F S512x512 .bf16) (x3 : Vec F S512x512 .bf16) (x4 : Vec F S512x512 .bf16) (x6 : Vec F S1024x2688 .bf16) : FVec F S512x1024 .f32 :=
  k0_pay7 x0 (View.ld (Val := Elt F) (e' := .bf16) x6 (Rect.unit (s := S1024x2688) ![0, 0] S1024x512.size inb_S1024x2688_S1024x512_0_0)) x1 (View.ld (Val := Elt F) (e' := .bf16) x6 (Rect.unit (s := S1024x2688) ![0, 512] S1024x512.size inb_S1024x2688_S1024x512_0_512)) x2 (View.ld (Val := Elt F) (e' := .bf16) x6 (Rect.unit (s := S1024x2688) ![0, 1024] S1024x512.size inb_S1024x2688_S1024x512_0_1024)) x3 (View.ld (Val := Elt F) (e' := .bf16) x6 (Rect.unit (s := S1024x2688) ![0, 1536] S1024x512.size inb_S1024x2688_S1024x512_0_1536)) x4 (View.ld (Val := Elt F) (e' := .bf16) x6 (Rect.unit (s := S1024x2688) ![0, 2048] S1024x512.size inb_S1024x2688_S1024x512_0_2048))

/-- The forget gates' columns of the weight. -/
noncomputable def wP {F : FTy → Type} [FloatOps F] (x6 : Vec F S1024x2688 .bf16) : Vec F S1024x128 .bf16 := (View.ld (Val := Elt F) (e' := .bf16) x6 (Rect.unit (s := S1024x2688) ![0, 2560] S1024x128.size inb_S1024x2688_S1024x128_0_2560))

/-- The gradient at the norm's output, for a tile of rows. -/
noncomputable def dhT {F : FTy → Type} [FloatOps F] (x0 : Vec F S512x512 .bf16) (x1 : Vec F S512x512 .bf16) (x2 : Vec F S512x512 .bf16) (x3 : Vec F S512x512 .bf16) (x4 : Vec F S512x512 .bf16) (x5 : Vec F S512x128 .bf16) (x6 : Vec F S1024x2688 .bf16) : FVec F S512x1024 .f32 :=
  k0_pay1 (dhP x0 x1 x2 x3 x4 x6) x5 (wP x6)

section Cases
variable {F : FTy → Type} [FloatOps F]

/-- A later point leaves in the input gradient's block what the body computes from the blocks read. -/
theorem out10_B (c : Dev nD) (i : grid0.Coords) (a1 : Memref sig .tc .vmem S512x512 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x512 .bf16) (h5 : a5.IsWhole) (a6 : Memref sig .tc .vmem S512x128 .bf16) (h6 : a6.IsWhole) (a7 : Memref sig .tc .vmem S1024x2688 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .f32) (h10 : a10.IsWhole) (a11 : Memref sig .tc .vmem S512x1024 .f32) (h11 : a11.IsWhole) (a12 : Memref sig .tc .vmem S1x1024 .f32) (h12 : a12.IsWhole) (hc : ¬cond0_0 i)
    (x0 : Vec F S512x512 .bf16) (x1 : Vec F S512x512 .bf16) (x2 : Vec F S512x512 .bf16) (x3 : Vec F S512x512 .bf16) (x4 : Vec F S512x512 .bf16) (x5 : Vec F S512x128 .bf16) (x6 : Vec F S1024x2688 .bf16) (x7 : Vec F S512x1024 .f32) (x8 : Vec F S1x1024 .f32) (x9 : Vec F S512x1024 .f32) (xo : Vec F S1x1024 .f32) :
    out0_B_10 c i a1 h1 a2 h2 a3 h3 a4 h4 a5 h5 a6 h6 a7 h7 a8 h8 a9 h9 a10 h10 a11 h11 a12 h12 hc x0 x1 x2 x3 x4 x5 x6 x7 x8 x9 xo = k0_pay5 (dhP x0 x1 x2 x3 x4 x6) x5 (wP x6) x7 x8 x9 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 x7 x8 x9 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h12.read_unread,
    View.ld_unit_zero (S := S512x512) hz, View.ld_unit_zero (S := S512x128) hz, View.ld_unit_zero (S := S512x1024) hz, View.ld_unit_zero (S := S1x1024) hz]
  rfl

/-- A later point adds its tile's part of the gain's gradient to what the point before left. -/
theorem out11_B (c : Dev nD) (i : grid0.Coords) (a1 : Memref sig .tc .vmem S512x512 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x512 .bf16) (h5 : a5.IsWhole) (a6 : Memref sig .tc .vmem S512x128 .bf16) (h6 : a6.IsWhole) (a7 : Memref sig .tc .vmem S1024x2688 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .f32) (h10 : a10.IsWhole) (a11 : Memref sig .tc .vmem S512x1024 .f32) (h11 : a11.IsWhole) (a12 : Memref sig .tc .vmem S1x1024 .f32) (h12 : a12.IsWhole) (hc : ¬cond0_0 i)
    (x0 : Vec F S512x512 .bf16) (x1 : Vec F S512x512 .bf16) (x2 : Vec F S512x512 .bf16) (x3 : Vec F S512x512 .bf16) (x4 : Vec F S512x512 .bf16) (x5 : Vec F S512x128 .bf16) (x6 : Vec F S1024x2688 .bf16) (x7 : Vec F S512x1024 .f32) (x8 : Vec F S1x1024 .f32) (x9 : Vec F S512x1024 .f32) (xo : Vec F S1x1024 .f32) :
    out0_B_11 c i a1 h1 a2 h2 a3 h3 a4 h4 a5 h5 a6 h6 a7 h7 a8 h8 a9 h9 a10 h10 a11 h11 a12 h12 hc x0 x1 x2 x3 x4 x5 x6 x7 x8 x9 xo = k0_pay4 (dhP x0 x1 x2 x3 x4 x6) x5 (wP x6) x7 xo := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 x5 x6 x7 x8 x9 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h12.read_unread,
    View.ld_unit_zero (S := S512x512) hz, View.ld_unit_zero (S := S512x128) hz, View.ld_unit_zero (S := S512x1024) hz, View.ld_unit_zero (S := S1x1024) hz]
  rfl

/-- The first point leaves the same in the input gradient's block. -/
theorem out10_A (c : Dev nD) (i : grid0.Coords) (a1 : Memref sig .tc .vmem S512x512 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x512 .bf16) (h5 : a5.IsWhole) (a6 : Memref sig .tc .vmem S512x128 .bf16) (h6 : a6.IsWhole) (a7 : Memref sig .tc .vmem S1024x2688 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .f32) (h10 : a10.IsWhole) (a11 : Memref sig .tc .vmem S512x1024 .f32) (h11 : a11.IsWhole) (a12 : Memref sig .tc .vmem S1x1024 .f32) (h12 : a12.IsWhole) (hc : cond0_0 i)
    (x0 : Vec F S512x512 .bf16) (x1 : Vec F S512x512 .bf16) (x2 : Vec F S512x512 .bf16) (x3 : Vec F S512x512 .bf16) (x4 : Vec F S512x512 .bf16) (x5 : Vec F S512x128 .bf16) (x6 : Vec F S1024x2688 .bf16) (x7 : Vec F S512x1024 .f32) (x8 : Vec F S1x1024 .f32) (x9 : Vec F S512x1024 .f32) :
    out0_A_10 c i a1 h1 a2 h2 a3 h3 a4 h4 a5 h5 a6 h6 a7 h7 a8 h8 a9 h9 a10 h10 a11 h11 a12 h12 hc x0 x1 x2 x3 x4 x5 x6 x7 x8 x9 = k0_pay5 (dhP x0 x1 x2 x3 x4 x6) x5 (wP x6) x7 x8 x9 := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h12.read_unread,
    View.ld_unit_zero (S := S512x512) hz, View.ld_unit_zero (S := S512x128) hz, View.ld_unit_zero (S := S512x1024) hz, View.ld_unit_zero (S := S1x1024) hz]
  rfl

/-- The first point adds its tile's part of the gain's gradient to zero. -/
theorem out11_A (c : Dev nD) (i : grid0.Coords) (a1 : Memref sig .tc .vmem S512x512 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x512 .bf16) (h5 : a5.IsWhole) (a6 : Memref sig .tc .vmem S512x128 .bf16) (h6 : a6.IsWhole) (a7 : Memref sig .tc .vmem S1024x2688 .bf16) (h7 : a7.IsWhole) (a8 : Memref sig .tc .vmem S512x1024 .f32) (h8 : a8.IsWhole) (a9 : Memref sig .tc .vmem S1x1024 .f32) (h9 : a9.IsWhole) (a10 : Memref sig .tc .vmem S512x1024 .f32) (h10 : a10.IsWhole) (a11 : Memref sig .tc .vmem S512x1024 .f32) (h11 : a11.IsWhole) (a12 : Memref sig .tc .vmem S1x1024 .f32) (h12 : a12.IsWhole) (hc : cond0_0 i)
    (x0 : Vec F S512x512 .bf16) (x1 : Vec F S512x512 .bf16) (x2 : Vec F S512x512 .bf16) (x3 : Vec F S512x512 .bf16) (x4 : Vec F S512x512 .bf16) (x5 : Vec F S512x128 .bf16) (x6 : Vec F S1024x2688 .bf16) (x7 : Vec F S512x1024 .f32) (x8 : Vec F S1x1024 .f32) (x9 : Vec F S512x1024 .f32) :
    out0_A_11 c i a1 h1 a2 h2 a3 h3 a4 h4 a5 h5 a6 h6 a7 h7 a8 h8 a9 h9 a10 h10 a11 h11 a12 h12 hc x0 x1 x2 x3 x4 x5 x6 x7 x8 x9 = k0_pay4 (dhP x0 x1 x2 x3 x4 x6) x5 (wP x6) x7 k0_pay6 := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h12.read_unread,
    View.ld_unit_zero (S := S512x512) hz, View.ld_unit_zero (S := S512x128) hz, View.ld_unit_zero (S := S512x1024) hz, View.ld_unit_zero (S := S1x1024) hz]
  rfl

end Cases

/-- The gradient at the norm's output in row `r` and column `k`: the six parts of the sum over the projection's columns. -/
noncomputable def dh (P0 P1 P2 P3 P4 : S8192x512.Idx → EReal) (P5 : S8192x128.Idx → EReal) (W : S1024x2688.Idx → EReal) (r k : ℕ) : EReal :=
  ∑ x : Fin 512, at2 P0 r x.val * at2 W k x.val + ∑ x : Fin 512, at2 P1 r x.val * at2 W k (512 + x.val) + ∑ x : Fin 512, at2 P2 r x.val * at2 W k (1024 + x.val) + ∑ x : Fin 512, at2 P3 r x.val * at2 W k (1536 + x.val) + ∑ x : Fin 512, at2 P4 r x.val * at2 W k (2048 + x.val) + ∑ x : Fin 128, at2 P5 r x.val * at2 W k (2560 + x.val)

/-- One row's term of the gain's gradient. -/
noncomputable def gterm (H : ℕ → ℕ → EReal) (X : S8192x1024.Idx → EReal) (k r : ℕ) : EReal :=
  H r k * (at2 X r k * Cert.UpBwd.rs X r)

/-- The gain's gradient in column `k`: the sum over all rows. -/
noncomputable def gsum (H : ℕ → ℕ → EReal) (X : S8192x1024.Idx → EReal) (k : ℕ) : EReal :=
  ∑ r : Fin 8192, gterm H X k r.val

/-- The input's gradient in row `r` and column `k`, as the kernel computes it. -/
noncomputable def inp (H : ℕ → ℕ → EReal) (X : S8192x1024.Idx → EReal) (G : S1x1024.Idx → EReal) (E : S8192x1024.Idx → EReal) (r k : ℕ) : EReal :=
  at2 E r k + Cert.UpBwd.rs X r * (H r k * at2 G 0 k - at2 X r k * Cert.UpBwd.rs X r
    * Ideal.div (∑ x : Fin 1024, H r x.val * at2 G 0 x.val * (at2 X r x.val * Cert.UpBwd.rs X r)) (Ideal.ofBits .f32 0x44800000#32))

section Tile
variable (P0 P1 P2 P3 P4 : S8192x512.Idx → EReal) (P5 : S8192x128.Idx → EReal) (W : S1024x2688.Idx → EReal)
variable (X : S8192x1024.Idx → EReal) (G : S1x1024.Idx → EReal) (E : S8192x1024.Idx → EReal)
variable (b : ℕ) (x0 x1 x2 x3 x4 : S512x512.Idx → EReal) (x5 : S512x128.Idx → EReal) (x6 : S1024x2688.Idx → EReal)
variable (x7 : S512x1024.Idx → EReal) (x8 : S1x1024.Idx → EReal) (x9 : S512x1024.Idx → EReal)
variable (h0 : ∀ j, x0 j = at2 P0 (b + (j 0).val) (j 1).val) (h1 : ∀ j, x1 j = at2 P1 (b + (j 0).val) (j 1).val) (h2 : ∀ j, x2 j = at2 P2 (b + (j 0).val) (j 1).val) (h3 : ∀ j, x3 j = at2 P3 (b + (j 0).val) (j 1).val) (h4 : ∀ j, x4 j = at2 P4 (b + (j 0).val) (j 1).val) (h5 : ∀ j, x5 j = at2 P5 (b + (j 0).val) (j 1).val) (h6 : ∀ j, x6 j = at2 W (j 0).val (j 1).val)
  (h7 : ∀ j, x7 j = at2 X (b + (j 0).val) (j 1).val) (h8 : ∀ j, x8 j = at2 G (j 0).val (j 1).val) (h9 : ∀ j, x9 j = at2 E (b + (j 0).val) (j 1).val)

include h0 h1 h2 h3 h4 h5 h6 in
/-- The tile's gradient at the norm's output at an element. -/
theorem dhT_apply (j : S512x1024.Idx) :
    k0_pay1 (F := Ideal) (dhP x0 x1 x2 x3 x4 x6) x5 (wP x6) j = dh P0 P1 P2 P3 P4 P5 W (b + (j 0).val) (j 1).val := by
  unfold k0_pay1 dhP wP k0_pay7
  pointwise []
  simp only [h0, h1, h2, h3, h4, h5, h6]
  rfl

include h0 h1 h2 h3 h4 h5 h6 h7 h8 h9 in
/-- The tile's input gradient at an element. -/
theorem pay5_apply (j : S512x1024.Idx) :
    k0_pay5 (F := Ideal) (dhP x0 x1 x2 x3 x4 x6) x5 (wP x6) x7 x8 x9 j = inp (dh P0 P1 P2 P3 P4 P5 W) X G E (b + (j 0).val) (j 1).val := by
  unfold k0_pay5 k0_pay3 k0_pay2
  have hd := dhT_apply P0 P1 P2 P3 P4 P5 W b x0 x1 x2 x3 x4 x5 x6 h0 h1 h2 h3 h4 h5 h6
  generalize k0_pay1 (F := Ideal) (dhP x0 x1 x2 x3 x4 x6) x5 (wP x6) = D at hd ⊢
  pointwise []
  simp only [h7, h8, h9, hd]
  rfl

include h0 h1 h2 h3 h4 h5 h6 h7 in
/-- The tile's part of the gain's gradient at an element. -/
theorem pay4_apply (xo : S1x1024.Idx → EReal) (j : S1x1024.Idx) :
    k0_pay4 (F := Ideal) (dhP x0 x1 x2 x3 x4 x6) x5 (wP x6) x7 xo j = xo j + ∑ r : Fin 512, gterm (dh P0 P1 P2 P3 P4 P5 W) X (j 1).val (b + r.val) := by
  unfold k0_pay4 k0_pay3 k0_pay2
  have hd := dhT_apply P0 P1 P2 P3 P4 P5 W b x0 x1 x2 x3 x4 x5 x6 h0 h1 h2 h3 h4 h5 h6
  generalize k0_pay1 (F := Ideal) (dhP x0 x1 x2 x3 x4 x6) x5 (wP x6) = D at hd ⊢
  pointwise []
  simp only [h7, hd]
  rfl

end Tile

variable (m : (ℓ : Loc nD τ sig) → Buf (Elt Ideal) ℓ)

/-- Part 1 of the projection's gradient, one row per token. -/
abbrev gP0 (c : Dev nD) : S8192x512.Idx → EReal := m ((c : Thread nD τ).loc main_arg0)
/-- Part 2 of the projection's gradient, one row per token. -/
abbrev gP1 (c : Dev nD) : S8192x512.Idx → EReal := m ((c : Thread nD τ).loc main_arg1)
/-- Part 3 of the projection's gradient, one row per token. -/
abbrev gP2 (c : Dev nD) : S8192x512.Idx → EReal := m ((c : Thread nD τ).loc main_arg2)
/-- Part 4 of the projection's gradient, one row per token. -/
abbrev gP3 (c : Dev nD) : S8192x512.Idx → EReal := m ((c : Thread nD τ).loc main_arg3)
/-- Part 5 of the projection's gradient, one row per token. -/
abbrev gP4 (c : Dev nD) : S8192x512.Idx → EReal := m ((c : Thread nD τ).loc main_arg4)
/-- The forget gates' part of the projection's gradient. -/
abbrev gP5 (c : Dev nD) : S8192x128.Idx → EReal := m ((c : Thread nD τ).loc main_arg5)
/-- The weight, all its columns. -/
abbrev gW (c : Dev nD) : S1024x2688.Idx → EReal := m ((c : Thread nD τ).loc main_arg6)
/-- The norm's input. -/
abbrev gX (c : Dev nD) : S8192x1024.Idx → EReal := m ((c : Thread nD τ).loc main_arg7)
/-- The norm's gain. -/
abbrev gG (c : Dev nD) : S1x1024.Idx → EReal := m ((c : Thread nD τ).loc main_arg8)
/-- The gradient that arrives beside the norm. -/
abbrev gE (c : Dev nD) : S8192x1024.Idx → EReal := m ((c : Thread nD τ).loc main_arg9)

/-- The gradient at the norm's output, of the arrays that the call takes. -/
noncomputable abbrev gH (c : Dev nD) : ℕ → ℕ → EReal := dh (gP0 m c) (gP1 m c) (gP2 m c) (gP3 m c) (gP4 m c) (gP5 m c) (gW m c)

/-- Which block of each array a grid point reads or writes. -/
theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0)
    ∧ (win0_7.index t 0 = t.val ∧ win0_7.index t 1 = 0)
    ∧ (win0_8.index t 0 = 0 ∧ win0_8.index t 1 = 0)
    ∧ (win0_9.index t 0 = t.val ∧ win0_9.index t 1 = 0)
    ∧ (win0_10.index t 0 = t.val ∧ win0_10.index t 1 = 0)
    ∧ (win0_11.index t 0 = 0 ∧ win0_11.index t 1 = 0) :=
  (by decide +kernel : ∀ t : Fin grid0.N, _)

/-- The part of the part 1 of the projection's gradient that point `t` reads. -/
theorem iblk0 (c : Dev nD) (t : Fin cfg0.N) (j : S512x512.Idx) :
    (iblk m c 0 t : Vec Ideal S512x512 .bf16) j = at2 (gP0 m c) (512 * t.val + (j 0).val) (j 1).val := by
  obtain ⟨⟨e0, e1⟩, -⟩ := idx t
  unfold iblk
  rw [View.read_apply]
  refine at2_of_val (gP0 m c) _ _ _ ?_ ?_
  · show win0_0.index t 0 * 512 + 1 * (j 0).val = _; rw [e0]; omega
  · show win0_0.index t 1 * 512 + 1 * (j 1).val = _; rw [e1]; omega

/-- The part of the part 2 of the projection's gradient that point `t` reads. -/
theorem iblk1 (c : Dev nD) (t : Fin cfg0.N) (j : S512x512.Idx) :
    (iblk m c 1 t : Vec Ideal S512x512 .bf16) j = at2 (gP1 m c) (512 * t.val + (j 0).val) (j 1).val := by
  obtain ⟨-, ⟨e0, e1⟩, -⟩ := idx t
  unfold iblk
  rw [View.read_apply]
  refine at2_of_val (gP1 m c) _ _ _ ?_ ?_
  · show win0_1.index t 0 * 512 + 1 * (j 0).val = _; rw [e0]; omega
  · show win0_1.index t 1 * 512 + 1 * (j 1).val = _; rw [e1]; omega

/-- The part of the part 3 of the projection's gradient that point `t` reads. -/
theorem iblk2 (c : Dev nD) (t : Fin cfg0.N) (j : S512x512.Idx) :
    (iblk m c 2 t : Vec Ideal S512x512 .bf16) j = at2 (gP2 m c) (512 * t.val + (j 0).val) (j 1).val := by
  obtain ⟨-, -, ⟨e0, e1⟩, -⟩ := idx t
  unfold iblk
  rw [View.read_apply]
  refine at2_of_val (gP2 m c) _ _ _ ?_ ?_
  · show win0_2.index t 0 * 512 + 1 * (j 0).val = _; rw [e0]; omega
  · show win0_2.index t 1 * 512 + 1 * (j 1).val = _; rw [e1]; omega

/-- The part of the part 4 of the projection's gradient that point `t` reads. -/
theorem iblk3 (c : Dev nD) (t : Fin cfg0.N) (j : S512x512.Idx) :
    (iblk m c 3 t : Vec Ideal S512x512 .bf16) j = at2 (gP3 m c) (512 * t.val + (j 0).val) (j 1).val := by
  obtain ⟨-, -, -, ⟨e0, e1⟩, -⟩ := idx t
  unfold iblk
  rw [View.read_apply]
  refine at2_of_val (gP3 m c) _ _ _ ?_ ?_
  · show win0_3.index t 0 * 512 + 1 * (j 0).val = _; rw [e0]; omega
  · show win0_3.index t 1 * 512 + 1 * (j 1).val = _; rw [e1]; omega

/-- The part of the part 5 of the projection's gradient that point `t` reads. -/
theorem iblk4 (c : Dev nD) (t : Fin cfg0.N) (j : S512x512.Idx) :
    (iblk m c 4 t : Vec Ideal S512x512 .bf16) j = at2 (gP4 m c) (512 * t.val + (j 0).val) (j 1).val := by
  obtain ⟨-, -, -, -, ⟨e0, e1⟩, -⟩ := idx t
  unfold iblk
  rw [View.read_apply]
  refine at2_of_val (gP4 m c) _ _ _ ?_ ?_
  · show win0_4.index t 0 * 512 + 1 * (j 0).val = _; rw [e0]; omega
  · show win0_4.index t 1 * 512 + 1 * (j 1).val = _; rw [e1]; omega

/-- The part of the forget gates' part of the projection's gradient that point `t` reads. -/
theorem iblk5 (c : Dev nD) (t : Fin cfg0.N) (j : S512x128.Idx) :
    (iblk m c 5 t : Vec Ideal S512x128 .bf16) j = at2 (gP5 m c) (512 * t.val + (j 0).val) (j 1).val := by
  obtain ⟨-, -, -, -, -, ⟨e0, e1⟩, -⟩ := idx t
  unfold iblk
  rw [View.read_apply]
  refine at2_of_val (gP5 m c) _ _ _ ?_ ?_
  · show win0_5.index t 0 * 512 + 1 * (j 0).val = _; rw [e0]; omega
  · show win0_5.index t 1 * 128 + 1 * (j 1).val = _; rw [e1]; omega

/-- The part of the weight that point `t` reads. -/
theorem iblk6 (c : Dev nD) (t : Fin cfg0.N) (j : S1024x2688.Idx) :
    (iblk m c 6 t : Vec Ideal S1024x2688 .bf16) j = at2 (gW m c) (j 0).val (j 1).val := by
  obtain ⟨-, -, -, -, -, -, ⟨e0, e1⟩, -⟩ := idx t
  unfold iblk
  rw [View.read_apply]
  refine at2_of_val (gW m c) _ _ _ ?_ ?_
  · show win0_6.index t 0 * 1024 + 1 * (j 0).val = _; rw [e0]; omega
  · show win0_6.index t 1 * 2688 + 1 * (j 1).val = _; rw [e1]; omega

/-- The part of the norm's input that point `t` reads. -/
theorem iblk7 (c : Dev nD) (t : Fin cfg0.N) (j : S512x1024.Idx) :
    (iblk m c 7 t : Vec Ideal S512x1024 .f32) j = at2 (gX m c) (512 * t.val + (j 0).val) (j 1).val := by
  obtain ⟨-, -, -, -, -, -, -, ⟨e0, e1⟩, -⟩ := idx t
  unfold iblk
  rw [View.read_apply]
  refine at2_of_val (gX m c) _ _ _ ?_ ?_
  · show win0_7.index t 0 * 512 + 1 * (j 0).val = _; rw [e0]; omega
  · show win0_7.index t 1 * 1024 + 1 * (j 1).val = _; rw [e1]; omega

/-- The part of the gain that point `t` reads. -/
theorem iblk8 (c : Dev nD) (t : Fin cfg0.N) (j : S1x1024.Idx) :
    (iblk m c 8 t : Vec Ideal S1x1024 .f32) j = at2 (gG m c) (j 0).val (j 1).val := by
  obtain ⟨-, -, -, -, -, -, -, -, ⟨e0, e1⟩, -⟩ := idx t
  unfold iblk
  rw [View.read_apply]
  refine at2_of_val (gG m c) _ _ _ ?_ ?_
  · show win0_8.index t 0 * 1 + 1 * (j 0).val = _; rw [e0]; omega
  · show win0_8.index t 1 * 1024 + 1 * (j 1).val = _; rw [e1]; omega

/-- The part of the gradient that arrives beside the norm that point `t` reads. -/
theorem iblk9 (c : Dev nD) (t : Fin cfg0.N) (j : S512x1024.Idx) :
    (iblk m c 9 t : Vec Ideal S512x1024 .f32) j = at2 (gE m c) (512 * t.val + (j 0).val) (j 1).val := by
  obtain ⟨-, -, -, -, -, -, -, -, -, ⟨e0, e1⟩, -⟩ := idx t
  unfold iblk
  rw [View.read_apply]
  refine at2_of_val (gE m c) _ _ _ ?_ ?_
  · show win0_9.index t 0 * 512 + 1 * (j 0).val = _; rw [e0]; omega
  · show win0_9.index t 1 * 1024 + 1 * (j 1).val = _; rw [e1]; omega

/-- What every point leaves in the input gradient's block. -/
theorem outs10 (c : Dev nD) (t : Fin cfg0.N) (j : S512x1024.Idx) :
    (outsAt0 m c t.val t.isLt).1 j = inp (gH m c) (gX m c) (gG m c) (gE m c) (512 * t.val + (j 0).val) (j 1).val := by
  by_cases h : t.val % 16 = 0
  · rw [outsAt0_A m c t h]
    dsimp only
    rw [out10_A]
    exact pay5_apply _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) (iblk9 m c t) j
  · rw [outsAt0_B m c t h]
    dsimp only
    rw [out10_B]
    exact pay5_apply _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) (iblk9 m c t) j

/-- What the gain gradient's block holds after point `n`: the sum over the rows of the tiles so far. -/
theorem outs11 (c : Dev nD) : ∀ (n : ℕ) (hn : n < cfg0.N) (j : S1x1024.Idx),
    (outsAt0 m c n hn).2 j = ∑ s ∈ Finset.range (n + 1), ∑ r : Fin 512, gterm (gH m c) (gX m c) (j 1).val (512 * s + r.val)
  | 0, hn, j => by
    rw [outsAt0_A m c ⟨0, hn⟩ rfl]
    dsimp only
    rw [out11_A]
    refine (pay4_apply _ _ _ _ _ _ _ _ _ _ _ _ _ _ _ _ _ (iblk0 m c ⟨0, hn⟩) (iblk1 m c ⟨0, hn⟩) (iblk2 m c ⟨0, hn⟩) (iblk3 m c ⟨0, hn⟩) (iblk4 m c ⟨0, hn⟩) (iblk5 m c ⟨0, hn⟩) (iblk6 m c ⟨0, hn⟩) (iblk7 m c ⟨0, hn⟩) _ j).trans ?_
    rw [Finset.sum_range_one]
    refine (congrArg (· + _) ?_).trans (zero_add _)
    exact Ideal.ofBits_zero_f32
  | n + 1, hn, j => by
    have hN : cfg0.N = 16 := N_0
    have hB : ¬(⟨n + 1, hn⟩ : Fin cfg0.N).val % 16 = 0 := by dsimp only; omega
    rw [outsAt0_B m c ⟨n + 1, hn⟩ hB]
    dsimp only
    rw [out11_B]
    refine (pay4_apply _ _ _ _ _ _ _ _ _ _ _ _ _ _ _ _ _ (iblk0 m c ⟨n + 1, hn⟩) (iblk1 m c ⟨n + 1, hn⟩) (iblk2 m c ⟨n + 1, hn⟩) (iblk3 m c ⟨n + 1, hn⟩) (iblk4 m c ⟨n + 1, hn⟩) (iblk5 m c ⟨n + 1, hn⟩) (iblk6 m c ⟨n + 1, hn⟩) (iblk7 m c ⟨n + 1, hn⟩) _ j).trans ?_
    rw [Finset.sum_range_succ _ (n + 1)]
    exact congrArg (· + _) (outs11 c n _ j)

/-- The array that the call leaves in the input's gradient. -/
noncomputable def whole10 (c : Dev nD) : Buf (Elt Ideal) ((c : Thread nD τ).loc main_v0_0) :=
  fun (i : S8192x1024.Idx) => (inp (gH m c) (gX m c) (gG m c) (gE m c) (i 0).val (i 1).val : EReal)

/-- What point `t` writes back is its block of that array. -/
theorem flushed_eq10 (c : Dev nD) (t : Fin cfg0.N) :
    (dats m 0 c).flushed 10 t = ((cfg0.win 10).blk t).view.read (Elt Ideal) (whole10 m c) := by
  obtain ⟨-, -, -, -, -, -, -, -, -, -, ⟨e0, e1⟩, -⟩ := idx t
  rw [Value.flushed10]
  funext (y : S512x1024.Idx)
  have h0 : (y 0).val < 512 := (y 0).isLt
  have h1 : (y 1).val < 1024 := (y 1).isLt
  have hv : ((cfg0.win 10).blk t).view.read (Elt Ideal) (whole10 m c) y = inp (gH m c) (gX m c) (gG m c) (gE m c) (512 * t.val + (y 0).val) (y 1).val := by
    rw [View.read_apply, cast_eq]
    show inp (gH m c) (gX m c) (gG m c) (gE m c) (win0_10.index t 0 * 512 + 1 * (y 0).val) (win0_10.index t 1 * 1024 + 1 * (y 1).val) = _
    rw [e0, e1]
    congr 1 <;> omega
  rw [hv]
  exact outs10 m c t y

/-- Every element of the array is in the block of some point. -/
theorem cover10 (i : S8192x1024.Idx) : ∃ t : Fin cfg0.N, (cfg0.win 10).flush t = true ∧ i ∈ ((cfg0.win 10).blk t).view.set := by
  have h0 : (i 0).val < 8192 := (i 0).isLt
  have h1 : (i 1).val < 1024 := (i 1).isLt
  have hN : cfg0.N = 16 := N_0
  refine ⟨⟨(i 0).val / 512, by omega⟩, flush0_10 _, ?_⟩
  generalize ht : (⟨(i 0).val / 512, _⟩ : Fin cfg0.N) = t
  have ht' : t.val = (i 0).val / 512 := by rw [← ht]
  obtain ⟨-, -, -, -, -, -, -, -, -, -, ⟨e0, e1⟩, -⟩ := idx t
  show i ∈ ((View.whole main_v0_0).slice (win0_10.rect t)).set
  rw [View.set_slice_whole, Rect.mem_set_unit]
  intro a
  match a with
  | ⟨0, _⟩ => exact ⟨by show win0_10.index t 0 * 512 ≤ (i 0).val; rw [e0]; omega, by show (i 0).val < win0_10.index t 0 * 512 + 512; rw [e0]; omega⟩
  | ⟨1, _⟩ => exact ⟨by show win0_10.index t 1 * 1024 ≤ (i 1).val; rw [e1]; omega, by show (i 1).val < win0_10.index t 1 * 1024 + 1024; rw [e1]; omega⟩

/-- The array after the run. -/
theorem result10 (c : Dev nD) : (dats m 0 c).arrAt 10 cfg0.N = whole10 m c :=
  (dats m 0 c).arrAt_eq_of_cover 10 (whole10 m c) (fun t _ => flushed_eq10 m c t) cover10

/-- The gain's gradient that the call leaves: the sum over all rows. -/
noncomputable def whole11 (c : Dev nD) : Buf (Elt Ideal) ((c : Thread nD τ).loc main_v0_1) :=
  fun (i : S1x1024.Idx) => (gsum (gH m c) (gX m c) (i 1).val : EReal)

/-- The gain's gradient at an element whose column is `k`. -/
theorem whole11_apply (c : Dev nD) (i : S1x1024.Idx) (k : ℕ) (h : (i 1).val = k) :
    whole11 m c i = gsum (gH m c) (gX m c) k := by
  subst h
  rfl

/-- The last point writes back the whole of it. -/
theorem flushed_eq11 (c : Dev nD) (t : Fin cfg0.N) (hf : (cfg0.win 11).flush t = true) :
    (dats m 0 c).flushed 11 t = ((cfg0.win 11).blk t).view.read (Elt Ideal) (whole11 m c) := by
  obtain ⟨-, -, -, -, -, -, -, -, -, -, -, ⟨e0, e1⟩⟩ := idx t
  have hN : cfg0.N = 16 := N_0
  have h15 : t.val = 15 := by have := (flush0_11 t).mp hf; have := t.isLt; omega
  rw [Value.flushed11]
  funext (y : S1x1024.Idx)
  have hv : ((cfg0.win 11).blk t).view.read (Elt Ideal) (whole11 m c) y = gsum (gH m c) (gX m c) (y 1).val := by
    rw [View.read_apply]
    have hk : win0_11.index t 1 * 1024 + 1 * (y 1).val = (y 1).val := by rw [e1]; omega
    rw [cast_eq]
    exact whole11_apply m c _ _ hk
  rw [hv]
  refine (outs11 m c t.val t.isLt y).trans ?_
  rw [h15]
  unfold gsum
  exact sum_tiles 16 512 (gterm (gH m c) (gX m c) (y 1).val)

/-- Every element of the gain's gradient is in the last point's block. -/
theorem cover11 (i : S1x1024.Idx) : ∃ t : Fin cfg0.N, (cfg0.win 11).flush t = true ∧ i ∈ ((cfg0.win 11).blk t).view.set := by
  have h0 : (i 0).val < 1 := (i 0).isLt
  have h1 : (i 1).val < 1024 := (i 1).isLt
  have hN : cfg0.N = 16 := N_0
  refine ⟨⟨15, by omega⟩, (flush0_11 _).mpr rfl, ?_⟩
  generalize ht : (⟨15, _⟩ : Fin cfg0.N) = t
  obtain ⟨-, -, -, -, -, -, -, -, -, -, -, ⟨e0, e1⟩⟩ := idx t
  show i ∈ ((View.whole main_v0_1).slice (win0_11.rect t)).set
  rw [View.set_slice_whole, Rect.mem_set_unit]
  intro a
  match a with
  | ⟨0, _⟩ => exact ⟨by show win0_11.index t 0 * 1 ≤ (i 0).val; rw [e0]; omega, by show (i 0).val < win0_11.index t 0 * 1 + 1; rw [e0]; omega⟩
  | ⟨1, _⟩ => exact ⟨by show win0_11.index t 1 * 1024 ≤ (i 1).val; rw [e1]; omega, by show (i 1).val < win0_11.index t 1 * 1024 + 1024; rw [e1]; omega⟩

/-- The gain gradient's array after the run. -/
theorem result11 (c : Dev nD) : (dats m 0 c).arrAt 11 cfg0.N = whole11 m c :=
  (dats m 0 c).arrAt_eq_of_cover 11 (whole11 m c) (flushed_eq11 m c) cover11

/-- The six parts side by side, in row `r` and column `n`. -/
noncomputable def joined (P0 P1 P2 P3 P4 : S8192x512.Idx → EReal) (P5 : S8192x128.Idx → EReal)  (r n : ℕ) : EReal :=
  if n < 512 then at2 P0 r n else if n - 512 < 512 then at2 P1 r (n - 512) else if n - 512 - 512 < 512 then at2 P2 r (n - 512 - 512)
  else if n - 512 - 512 - 512 < 512 then at2 P3 r (n - 512 - 512 - 512) else if n - 512 - 512 - 512 - 512 < 512 then at2 P4 r (n - 512 - 512 - 512 - 512)
  else at2 P5 r (n - 512 - 512 - 512 - 512 - 512)

/-- A sum over the first `a + b` numbers is the sum over the first `a` and that over the next `b`. -/
theorem sum_two (f : ℕ → EReal) (a b : ℕ) : ∑ x : Fin (a + b), f x.val = ∑ x : Fin a, f x.val + ∑ x : Fin b, f (a + x.val) := by
  rw [Fin.sum_univ_eq_sum_range f, Fin.sum_univ_eq_sum_range f, Fin.sum_univ_eq_sum_range (fun n => f (a + n)), Finset.sum_range_add]

/-- A sum over 2688 numbers, in six parts. -/
theorem sum_six (f : ℕ → EReal) : ∑ x : Fin 2688, f x.val
    = ∑ x : Fin 512, f x.val + ∑ x : Fin 512, f (512 + x.val) + ∑ x : Fin 512, f (512 + 512 + x.val) + ∑ x : Fin 512, f (512 + 512 + 512 + x.val)
      + ∑ x : Fin 512, f (512 + 512 + 512 + 512 + x.val) + ∑ x : Fin 128, f (512 + 512 + 512 + 512 + 512 + x.val) := by
  refine (sum_two f (512 + 512 + 512 + 512 + 512) 128).trans ?_
  rw [sum_two f (512 + 512 + 512 + 512) 512, sum_two f (512 + 512 + 512) 512, sum_two f (512 + 512) 512, sum_two f 512 512]

/-- The product with the whole weight is the sum of the six parts' products. -/
theorem dh_split (P0 P1 P2 P3 P4 : S8192x512.Idx → EReal) (P5 : S8192x128.Idx → EReal) (W : S1024x2688.Idx → EReal) (r k : ℕ) :
    ∑ x : Fin 2688, joined P0 P1 P2 P3 P4 P5 r x.val * at2 W k x.val = dh P0 P1 P2 P3 P4 P5 W r k := by
  refine (sum_six (fun n => joined P0 P1 P2 P3 P4 P5 r n * at2 W k n)).trans ?_
  unfold dh
  refine congrArg₂ (· + ·) (congrArg₂ (· + ·) (congrArg₂ (· + ·) (congrArg₂ (· + ·) (congrArg₂ (· + ·) ?_ ?_) ?_) ?_) ?_) ?_
  · refine Finset.sum_congr rfl fun x _ => congrArg₂ (· * ·) ?_ rfl
    have hx : x.val < 512 := x.isLt
    unfold joined
    rw [if_pos hx]
  · refine Finset.sum_congr rfl fun x _ => congrArg₂ (· * ·) ?_ rfl
    have hx : x.val < 512 := x.isLt
    unfold joined
    rw [if_neg (by omega), if_pos (by omega)]
    exact congrArg _ (by omega)
  · refine Finset.sum_congr rfl fun x _ => congrArg₂ (· * ·) ?_ rfl
    have hx : x.val < 512 := x.isLt
    unfold joined
    rw [if_neg (by omega), if_neg (by omega), if_pos (by omega)]
    exact congrArg _ (by omega)
  · refine Finset.sum_congr rfl fun x _ => congrArg₂ (· * ·) ?_ rfl
    have hx : x.val < 512 := x.isLt
    unfold joined
    rw [if_neg (by omega), if_neg (by omega), if_neg (by omega), if_pos (by omega)]
    exact congrArg _ (by omega)
  · refine Finset.sum_congr rfl fun x _ => congrArg₂ (· * ·) ?_ rfl
    have hx : x.val < 512 := x.isLt
    unfold joined
    rw [if_neg (by omega), if_neg (by omega), if_neg (by omega), if_neg (by omega), if_pos (by omega)]
    exact congrArg _ (by omega)
  · refine Finset.sum_congr rfl fun x _ => congrArg₂ (· * ·) ?_ rfl
    have hx : x.val < 128 := x.isLt
    unfold joined
    rw [if_neg (by omega), if_neg (by omega), if_neg (by omega), if_neg (by omega), if_neg (by omega)]
    exact congrArg _ (by omega)

section reference

open Cert.Reference14Ideal.Read

variable (x0 x1 x2 x3 x4 : S8192x512.Idx → EReal) (x5 : S8192x128.Idx → EReal) (x6 : S1024x2688.Idx → EReal)
variable (x7 : S8192x1024.Idx → EReal) (x8 : S1x1024.Idx → EReal) (x9 : S8192x1024.Idx → EReal)

/-- The reference's gradient at the norm's output. -/
theorem reference_dh (i : S8192x1024.Idx) :
    val_main_v19 (F := Ideal) x0 x1 x2 x3 x4 x5 x6 i = dh x0 x1 x2 x3 x4 x5 x6 (i 0).val (i 1).val := by
  pointwise [val_main_v19, val_main_v17, val_main_v1, val_main_v0]
  refine (Finset.sum_congr rfl fun x _ => ?_).trans (dh_split x0 x1 x2 x3 x4 x5 x6 (i 0).val (i 1).val)
  refine congrArg₂ (· * ·) ?_ (at2_of_val x6 _ _ _ rfl rfl)
  unfold joined
  by_cases h0 : x.val < 512
  · exact (dif_pos h0).trans ((at2_of_val x0 _ _ _ rfl rfl).trans (if_pos h0).symm)
  refine (dif_neg h0).trans (Eq.trans ?_ (if_neg h0).symm)
  by_cases h1 : x.val - 512 < 512
  · exact (dif_pos h1).trans ((at2_of_val x1 _ _ _ rfl rfl).trans (if_pos h1).symm)
  refine (dif_neg h1).trans (Eq.trans ?_ (if_neg h1).symm)
  by_cases h2 : x.val - 512 - 512 < 512
  · exact (dif_pos h2).trans ((at2_of_val x2 _ _ _ rfl rfl).trans (if_pos h2).symm)
  refine (dif_neg h2).trans (Eq.trans ?_ (if_neg h2).symm)
  by_cases h3 : x.val - 512 - 512 - 512 < 512
  · exact (dif_pos h3).trans ((at2_of_val x3 _ _ _ rfl rfl).trans (if_pos h3).symm)
  refine (dif_neg h3).trans (Eq.trans ?_ (if_neg h3).symm)
  by_cases h4 : x.val - 512 - 512 - 512 - 512 < 512
  · exact (dif_pos h4).trans ((at2_of_val x4 _ _ _ rfl rfl).trans (if_pos h4).symm)
  refine (dif_neg h4).trans (Eq.trans ?_ (if_neg h4).symm)
  exact at2_of_val x5 _ _ _ rfl rfl

/-- The reference's gain gradient. -/
theorem reference_dg (i : S1x1024.Idx) :
    val_main_v22 (F := Ideal) x0 x1 x2 x3 x4 x5 x6 x7 i = gsum (dh x0 x1 x2 x3 x4 x5 x6) x7 (i 1).val := by
  have h7 : ∀ j : S8192x1024.Idx, x7 j = at2 x7 (j 0).val (j 1).val := fun j => at2_of_val x7 j _ _ rfl rfl
  pointwise [val_main_v22, val_main_v21, val_main_v20, val_main_v14, val_main_v13, val_main_v9, val_main_v8, val_main_v7, val_main_v6, val_main_v5, val_main_v4, val_main_v3, val_main_v2, val_main_cst, val_main_cst_0, val_main_cst_1, val_main_cst_3]
  refine Finset.sum_congr rfl fun r _ => ?_
  rw [reference_dh, mul_comm]
  refine congrArg₂ (· * ·) rfl (congrArg₂ (· * ·) (h7 _) (congrArg (fun z => Ideal.rsqrt (Ideal.div z _ + _)) (Finset.sum_congr rfl fun x _ => ?_)))
  exact congrArg₂ (· * ·) (h7 _) (h7 _)

/-- The reference's input gradient at an element. -/
theorem reference_dx (p : Fin 8192) (q : Fin 1024) :
    val_main_v39 (F := Ideal) x0 x1 x2 x3 x4 x5 x6 x7 x8 x9 (ValueIdx.ix2 p q)
      = Cert.UpBwd.refInp (at2 x9 p.val q.val) (Cert.UpBwd.rs x7 p.val) (Cert.UpBwd.msq x7 p.val) (fun a => at2 x7 p.val a.val)
        (fun a => dh x0 x1 x2 x3 x4 x5 x6 p.val a.val * at2 x8 0 a.val) q := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_4, val_main_cst_5, val_main_cst_6]
  have hx : ∀ a : Fin 1024, x7 (ValueIdx.ix2 p a) = at2 x7 p.val a.val := fun a => at2_of_val x7 _ _ _ rfl rfl
  have hm : Ideal.div (∑ x, x7 (ValueIdx.ix2 p x) * x7 (ValueIdx.ix2 p x)) (Ideal.ofBits .f32 0x44800000#32) + Ideal.ofBits .f32 0x358637BD#32
      = Cert.UpBwd.msq x7 p.val :=
    congrArg (fun z => Ideal.div z _ + _) (Finset.sum_congr rfl fun x _ => congrArg₂ (· * ·) (hx x) (hx x))
  have hy : ∀ a : Fin 1024, val_main_v19 (F := Ideal) x0 x1 x2 x3 x4 x5 x6 (ValueIdx.ix2 p a) * x8 (ValueIdx.ix2 0 a)
      = dh x0 x1 x2 x3 x4 x5 x6 p.val a.val * at2 x8 0 a.val := fun a => congrArg₂ (· * ·) (reference_dh x0 x1 x2 x3 x4 x5 x6 _) (at2_of_val x8 _ _ _ rfl rfl)
  have h9 : x9 (ValueIdx.ix2 p q) = at2 x9 p.val q.val := at2_of_val x9 _ _ _ rfl rfl
  refine Eq.trans (b := Cert.UpBwd.refInp (x9 (ValueIdx.ix2 p q)) (Ideal.rsqrt (Ideal.div (∑ x, x7 (ValueIdx.ix2 p x) * x7 (ValueIdx.ix2 p x)) (Ideal.ofBits .f32 0x44800000#32) + Ideal.ofBits .f32 0x358637BD#32))
    (Ideal.div (∑ x, x7 (ValueIdx.ix2 p x) * x7 (ValueIdx.ix2 p x)) (Ideal.ofBits .f32 0x44800000#32) + Ideal.ofBits .f32 0x358637BD#32)
    (fun a => x7 (ValueIdx.ix2 p a)) (fun a => val_main_v19 (F := Ideal) x0 x1 x2 x3 x4 x5 x6 (ValueIdx.ix2 p a) * x8 (ValueIdx.ix2 0 a)) q) rfl ?_
  rw [hm, h9, funext hx, funext hy]
  rfl

end reference

/-- Over finite arrays the kernel's input gradient is the reference's. -/
theorem inp_eq (H : ℕ → ℕ → EReal) (X : S8192x1024.Idx → EReal) (G : S1x1024.Idx → EReal)
    (E : S8192x1024.Idx → EReal) (r : ℕ) (k : Fin 1024)
    (hH : ∀ p q, ∃ z : ℝ, H p q = z) (hX : ∀ p q, ∃ z : ℝ, at2 X p q = z)
    (hG : ∀ p q, ∃ z : ℝ, at2 G p q = z) (hE : ∀ p q, ∃ z : ℝ, at2 E p q = z) :
    Cert.UpBwd.refInp (at2 E r k.val) (Cert.UpBwd.rs X r) (Cert.UpBwd.msq X r) (fun a => at2 X r a.val) (fun a => H r a.val * at2 G 0 a.val) k
      = inp H X G E r k.val := by
  choose d hd using hH
  choose x hx using hX
  choose g hg using hG
  choose e he using hE
  have hy : ∀ a : ℕ, ∃ z : ℝ, H r a * at2 G 0 a = z := fun a => by
    simp only [hd, hg, ← EReal.coe_mul]
    exact ⟨_, rfl⟩
  choose y hy using hy
  refine Eq.trans ?_ ((Cert.UpBwd.identity (fun a => x r a.val) (fun a => y a.val) (e r k.val) k (Cert.UpBwd.msq X r) (Cert.UpBwd.rs X r) ?_ rfl).trans ?_)
  · rw [he]
    congr 1
    · exact funext fun a => hx r a.val
    · exact funext fun a => hy a.val
  · unfold Cert.UpBwd.msq
    simp only [hx]
  · unfold inp
    simp only [hy, hx, he]

/-- Of finite arrays the gradient at the norm's output is finite. -/
theorem dh_real (P0 P1 P2 P3 P4 : S8192x512.Idx → EReal) (P5 : S8192x128.Idx → EReal) (W : S1024x2688.Idx → EReal) (h0 : ∀ p q, ∃ z : ℝ, at2 P0 p q = z) (h1 : ∀ p q, ∃ z : ℝ, at2 P1 p q = z) (h2 : ∀ p q, ∃ z : ℝ, at2 P2 p q = z) (h3 : ∀ p q, ∃ z : ℝ, at2 P3 p q = z) (h4 : ∀ p q, ∃ z : ℝ, at2 P4 p q = z) (h5 : ∀ p q, ∃ z : ℝ, at2 P5 p q = z)
    (hW : ∀ p q, ∃ z : ℝ, at2 W p q = z) (p q : ℕ) : ∃ z : ℝ, dh P0 P1 P2 P3 P4 P5 W p q = z := by
  choose f0 e0 using h0
  choose f1 e1 using h1
  choose f2 e2 using h2
  choose f3 e3 using h3
  choose f4 e4 using h4
  choose f5 e5 using h5
  choose w hw using hW
  unfold dh
  simp only [e0, e1, e2, e3, e4, e5, hw, ← EReal.coe_mul, Cert.UpBwd.coe_sum, ← EReal.coe_add]
  exact ⟨_, rfl⟩

end Cert.InBwd
-- ==== Proof.Step.InBwdClaim.lean ====
/- The claim of the input projection's backward call: over finite arrays the kernel and the reference end with the same two
   gradients. -/
module

public import proofs.«01_k».proof.Defs
public import proofs.«01_k».proof.Proof.Ffn.Finite
public import proofs.«01_k».proof.Proof.Step.InBwd
public import proofs.«01_k».proof.Proof.Gen.Reference14Ideal.Run
public import proofs.«01_k».proof.Proof.Gen.Pre_finite_in
public import Idealize.ShloMosaic.Lib.Quiescent

@[expose] public section

namespace Cert.InBwdClaim

open Idealize.ShloMosaic Idealize.SL.Sem Cert.Common

/-- The precondition says that every element of the ten arguments is a real. -/
theorem finite (x0 x1 x2 x3 x4 : FVec Ideal ⟨2, ![8192, 512]⟩ .bf16) (x5 : FVec Ideal ⟨2, ![8192, 128]⟩ .bf16) (x6 : FVec Ideal ⟨2, ![1024, 2688]⟩ .bf16)
    (x7 : FVec Ideal ⟨2, ![8192, 1024]⟩ .f32) (x8 : FVec Ideal ⟨2, ![1, 1024]⟩ .f32) (x9 : FVec Ideal ⟨2, ![8192, 1024]⟩ .f32)
    (h : Cert.Pre_finite_in.fn (F := Ideal) x0 x1 x2 x3 x4 x5 x6 x7 x8 x9 = fun _ => 1#1) :
    (∀ i, ∃ z : ℝ, x0 i = z) ∧ (∀ i, ∃ z : ℝ, x1 i = z) ∧ (∀ i, ∃ z : ℝ, x2 i = z) ∧ (∀ i, ∃ z : ℝ, x3 i = z) ∧ (∀ i, ∃ z : ℝ, x4 i = z) ∧ (∀ i, ∃ z : ℝ, x5 i = z) ∧ (∀ i, ∃ z : ℝ, x6 i = z) ∧ (∀ i, ∃ z : ℝ, x7 i = z) ∧ (∀ i, ∃ z : ℝ, x8 i = z) ∧ (∀ i, ∃ z : ℝ, x9 i = z) := by
  have h := congrFun h (fun a : Fin 0 => a.elim0)
  unfold Cert.Pre_finite_in.fn at h
  dsimp only at h
  unfold Cert.Pre_finite_in.fn_part1 at h
  dsimp only at h
  unfold Cert.Pre_finite_in.fn_part2 at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Cert.Finite.real_of_all _ Cert.Finite.inf_bf16 x0 _ _ _ _ h0,
    Cert.Finite.real_of_all _ Cert.Finite.inf_bf16 x1 _ _ _ _ h1,
    Cert.Finite.real_of_all _ Cert.Finite.inf_bf16 x2 _ _ _ _ h2,
    Cert.Finite.real_of_all _ Cert.Finite.inf_bf16 x3 _ _ _ _ h3,
    Cert.Finite.real_of_all _ Cert.Finite.inf_bf16 x4 _ _ _ _ h4,
    Cert.Finite.real_of_all _ Cert.Finite.inf_bf16 x5 _ _ _ _ h5,
    Cert.Finite.real_of_all _ Cert.Finite.inf_bf16 x6 _ _ _ _ h6,
    Cert.Finite.real_of_all _ Cert.Finite.inf_f32 x7 _ _ _ _ h7,
    Cert.Finite.real_of_all _ Cert.Finite.inf_f32 x8 _ _ _ _ h8,
    Cert.Finite.real_of_all _ Cert.Finite.inf_f32 x9 _ _ _ _ h9⟩

/-- The reference of the input projection's backward call runs, keeps its arguments and leaves no semaphore counted up. -/
theorem frame14 : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

/-- Over finite arrays the kernel and the reference end with the same gradient of the input and of the norm's gain. -/
theorem algebraic14 : Cert.algebraic_Kernel14Ideal_Reference14Ideal_pre_finite_in := by
  intro m ρ m' ρ' hpre hagree
  refine ⟨fun c => Cert.InBwd.whole10 m c, fun c => Cert.InBwd.whole11 m c, ?_, ?_⟩
  · exact (θ_run Cert.Kernel14Ideal.defs _ _).mono
      (fun r h c => ⟨(h c).1.trans (Cert.InBwd.result10 m c), (h c).2.1.trans (Cert.InBwd.result11 m c), (h c).2.2⟩)
      (Cert.Kernel14Ideal.Value.run_blocks (F := Ideal) m ρ)
  · refine (θ_run Cert.Reference14Ideal.defs _ _).mono (fun r h c => ⟨(h c).1.trans ?_, (h c).2.1.trans ?_, (h c).2.2⟩)
      (Cert.Reference14Ideal.Value.run (F := Ideal) m' ρ')
    · refine (Cert.Reference14Ideal.Read.val_main_v39_eq _ _).trans (funext fun i => ?_)
      obtain ⟨a0, a1, a2, a3, a4, a5, a6, a7, a8, a9⟩ := hagree c
      rw [a0, a1, a2, a3, a4, a5, a6, a7, a8, a9]
      obtain ⟨f0, f1, f2, f3, f4, f5, f6, f7, f8, f9⟩ := finite _ _ _ _ _ _ _ _ _ _ (hpre c)
      refine (congrArg _ (ValueIdx.eq_ix2 i)).trans ((Cert.InBwd.reference_dx _ _ _ _ _ _ _ _ _ _ _ _ ).trans ?_)
      exact Cert.InBwd.inp_eq _ _ _ _ _ _ (Cert.InBwd.dh_real _ _ _ _ _ _ _ (Cert.Finite.real_at2 _ f0) (Cert.Finite.real_at2 _ f1) (Cert.Finite.real_at2 _ f2) (Cert.Finite.real_at2 _ f3) (Cert.Finite.real_at2 _ f4) (Cert.Finite.real_at2 _ f5) (Cert.Finite.real_at2 _ f6)) (Cert.Finite.real_at2 _ f7)
        (Cert.Finite.real_at2 _ f8) (Cert.Finite.real_at2 _ f9)
    · refine (Cert.Reference14Ideal.Read.val_main_v22_eq _ _ _ _ _ _ _ _ ).trans (funext fun i => ?_)
      obtain ⟨a0, a1, a2, a3, a4, a5, a6, a7, -⟩ := hagree c
      rw [a0, a1, a2, a3, a4, a5, a6, a7]
      exact Cert.InBwd.reference_dg _ _ _ _ _ _ _ _ i

end Cert.InBwdClaim
-- ==== Proof.Step.AttnTile.lean ====
/- One tile of the attention forward: the new running maximum and the new running sums of one head, as the kernel takes them, and
   the stores of the eight heads read back. -/
module

public import proofs.«01_k».proof.Proof.Gen.Kernel15Ideal.Skeleton
public import proofs.«01_k».proof.Proof.Gen.Kernel15Ideal.Flash.Pins
public import proofs.«01_k».proof.Proof.Ffn.Common
public import Idealize.ShloMosaic.Lib.Pointwise
public import Idealize.ShloMosaic.Lib.Pipeline.ReadBack

@[expose] public section

noncomputable section

namespace Cert.Attn

open Cert.Kernel15Ideal Cert.Kernel15Ideal.Gen Cert.Common
open Idealize.ShloMosaic Idealize.ShloMosaic.TcCoe

/-- The scores of one head: keys against queries. -/
def scT (a b : FVec Ideal S512x128 .bf16) : FVec Ideal S512x512 .f32 :=
  matmul dot_S512x128_S512x128_S512x512_1_1_0_0_n_n none a b (constant S512x512 .f32 0x00000000#32)

/-- On the diagonal the keys after the query are masked. -/
def mskT (st : FVec Ideal S512x512 .f32) : FVec Ideal S512x512 .f32 :=
  select (cmpi .sge (iota .tc S512x512 32 [1] iota_S512x512_d1_w32) (addi (broadcast S512x512 0#32) (iota .tc S512x512 32 [0] iota_S512x512_d0_w32)))
    st (broadcast S512x512 (Named.named κ "mask" 0xF149F2CA#32))

/-- The running maximum before the tile. -/
def mpT (mp : FVec Ideal S1x8x512 .f32) : FVec Ideal S1x512 .f32 :=
  extractStridedSlice S1x512 ![0, 0] (shapeCast S8x512 mp shapeCasts_S1x8x512_S8x512) slices_S8x512_o0_0_S1x512

/-- The running maximum after the tile. -/
def mxT (st : FVec Ideal S512x512 .f32) (mp : FVec Ideal S1x8x512 .f32) : FVec Ideal S1x512 .f32 :=
  maximumf (mpT mp) (shapeCast S1x512 (multiReduction .maximumf [0] S512 st 0xFF800000#32 reduces_S512x512_S512 (.inl rfl) rfl) shapeCasts_S512_S1x512)

/-- The maximum as it is stored. -/
def mOutT (st : FVec Ideal S512x512 .f32) (mp : FVec Ideal S1x8x512 .f32) : FVec Ideal S1x8x512 .f32 :=
  shapeCast S1x8x512 (broadcastTo S8x512 (shapeCast S1x512 (mxT st mp) shapeCasts_S1x512_S1x512) broadcasts_S1x512_S8x512) shapeCasts_S8x512_S1x8x512

/-- The sums as they are stored. -/
def accT (st : FVec Ideal S512x512 .f32) (mp : FVec Ideal S1x8x512 .f32) (ap : FVec Ideal S1x128x512 .f32) (vt : FVec Ideal S1x128x512 .bf16) :
    FVec Ideal S1x128x512 .f32 :=
  shapeCast S1x128x512
    (addf (mulf (broadcastTo S128x512 (exp2 (subf (mpT mp) (mxT st mp))) broadcasts_S1x512_S128x512) (shapeCast S128x512 ap shapeCasts_S1x128x512_S128x512))
      (matmul dot_S128x512_S512x512_S128x512_1_0_0_1_n_n none (shapeCast S128x512 vt shapeCasts_S1x128x512_S128x512)
        (truncf .bf16 (exp2 (subf (shapeCast S512x512 st shapeCasts_S512x512_S512x512) (broadcastTo S512x512 (mxT st mp) broadcasts_S1x512_S512x512))) bitsLt_bf16_f32)
        (constant S128x512 .f32 0x00000000#32))) shapeCasts_S128x512_S1x128x512

/-- The normalised output of one head. -/
def otT (ac : FVec Ideal S1x128x512 .f32) : FVec Ideal S128x512 .bf16 :=
  shapeCast S128x512 (truncf .bf16 (divf (shapeCast S128x512 ac shapeCasts_S1x128x512_S128x512)
    (broadcastTo S128x512 (extractStridedSlice S1x512 ![64, 0] (shapeCast S128x512 ac shapeCasts_S1x128x512_S128x512) slices_S128x512_o64_0_S1x512)
      broadcasts_S1x512_S128x512)) bitsLt_bf16_f32) shapeCasts_S128x512_S128x512

/-- The logarithm of one head's sum of weights, to the base two. -/
def lseT (ac : FVec Ideal S1x128x512 .f32) (mp : FVec Ideal S1x8x512 .f32) : FVec Ideal S1x512 .f32 :=
  addf (mpT mp) (mulf (log (extractStridedSlice S1x512 ![64, 0] (shapeCast S128x512 ac shapeCasts_S1x128x512_S128x512) slices_S128x512_o64_0_S1x512))
    (broadcast S1x512 (Scalar.ofBits .f32 0x3FB8AA3B#32)))

/-- The 128 columns of one head. -/
def slabQ (x : S512x1024.Idx → EReal) (o : ℕ) : S512x128.Idx → EReal := fun j => at2 x (j 0).val (o + (j 1).val)

/-- The 128 rows of one head. -/
def slabV (x : S1x1024x512.Idx → EReal) (o : ℕ) : S1x128x512.Idx → EReal := fun j => at3 x 0 (o + (j 1).val) (j 2).val

/-- The maxima of one head. -/
def slabM (x : S8x8x512.Idx → EReal) (o : ℕ) : S1x8x512.Idx → EReal := fun j => at3 x o (j 1).val (j 2).val

/-- The sums of one head. -/
def slabA (x : S8x128x512.Idx → EReal) (o : ℕ) : S1x128x512.Idx → EReal := fun j => at3 x o (j 1).val (j 2).val

theorem ld_q (x : S512x1024.Idx → Elt Ideal .bf16) (o : ℕ) (inb) :
    View.ld x (Rect.unit (s := S512x1024) ![0, o] ![512, 128] inb) = slabQ x o :=
  funext fun j => at2_of_val x _ _ _ (by show 0 + 1 * (j 0).val = _; omega) (by show o + 1 * (j 1).val = _; omega)

theorem ld_v (x : S1x1024x512.Idx → Elt Ideal .bf16) (o : ℕ) (inb) :
    View.ld x (Rect.unit (s := S1x1024x512) ![0, o, 0] ![1, 128, 512] inb) = slabV x o :=
  funext fun j => at3_of_val x _ _ _ _ (by show 0 + 1 * (j 0).val = 0; have : (j 0).val < 1 := (j 0).isLt; omega)
    (by show o + 1 * (j 1).val = _; omega) (by show 0 + 1 * (j 2).val = _; omega)

theorem ld_m (x : S8x8x512.Idx → Elt Ideal .f32) (o : ℕ) (inb) :
    View.ld x (Rect.unit (s := S8x8x512) ![o, 0, 0] ![1, 8, 512] inb) = slabM x o :=
  funext fun j => at3_of_val x _ _ _ _ (by show o + 1 * (j 0).val = o; have : (j 0).val < 1 := (j 0).isLt; omega)
    (by show 0 + 1 * (j 1).val = _; omega) (by show 0 + 1 * (j 2).val = _; omega)

theorem ld_a (x : S8x128x512.Idx → Elt Ideal .f32) (o : ℕ) (inb) :
    View.ld x (Rect.unit (s := S8x128x512) ![o, 0, 0] ![1, 128, 512] inb) = slabA x o :=
  funext fun j => at3_of_val x _ _ _ _ (by show o + 1 * (j 0).val = o; have : (j 0).val < 1 := (j 0).isLt; omega)
    (by show 0 + 1 * (j 1).val = _; omega) (by show 0 + 1 * (j 2).val = _; omega)

theorem ld_p (x : S1024x512.Idx → Elt Ideal .bf16) (inb) :
    View.ld x (Rect.unit (s := S1024x512) ![0, 0] ![1024, 512] inb) = x :=
  funext fun j => congrArg x (funext fun a => Fin.ext (by fin_cases a <;> (show 0 + 1 * _ = _; omega)))

/-- The stores of the eight maxima, the last first. -/
def mL (pay : ℕ → S1x8x512.Idx → Elt Ideal .f32) : List (View.Piece (Elt Ideal) S8x8x512 .f32) :=
  [⟨Rect.unit (s := S8x8x512) ![7, 0, 0] S1x8x512.size inb_S8x8x512_S1x8x512_7_0_0, pay 7⟩,
    ⟨Rect.unit (s := S8x8x512) ![6, 0, 0] S1x8x512.size inb_S8x8x512_S1x8x512_6_0_0, pay 6⟩,
    ⟨Rect.unit (s := S8x8x512) ![5, 0, 0] S1x8x512.size inb_S8x8x512_S1x8x512_5_0_0, pay 5⟩,
    ⟨Rect.unit (s := S8x8x512) ![4, 0, 0] S1x8x512.size inb_S8x8x512_S1x8x512_4_0_0, pay 4⟩,
    ⟨Rect.unit (s := S8x8x512) ![3, 0, 0] S1x8x512.size inb_S8x8x512_S1x8x512_3_0_0, pay 3⟩,
    ⟨Rect.unit (s := S8x8x512) ![2, 0, 0] S1x8x512.size inb_S8x8x512_S1x8x512_2_0_0, pay 2⟩,
    ⟨Rect.unit (s := S8x8x512) ![1, 0, 0] S1x8x512.size inb_S8x8x512_S1x8x512_1_0_0, pay 1⟩,
    ⟨Rect.unit (s := S8x8x512) ![0, 0, 0] S1x8x512.size inb_S8x8x512_S1x8x512_0_0_0, pay 0⟩]

/-- The stores of the eight sums, the last first. -/
def accL (pay : ℕ → S1x128x512.Idx → Elt Ideal .f32) : List (View.Piece (Elt Ideal) S8x128x512 .f32) :=
  [⟨Rect.unit (s := S8x128x512) ![7, 0, 0] S1x128x512.size inb_S8x128x512_S1x128x512_7_0_0, pay 7⟩,
    ⟨Rect.unit (s := S8x128x512) ![6, 0, 0] S1x128x512.size inb_S8x128x512_S1x128x512_6_0_0, pay 6⟩,
    ⟨Rect.unit (s := S8x128x512) ![5, 0, 0] S1x128x512.size inb_S8x128x512_S1x128x512_5_0_0, pay 5⟩,
    ⟨Rect.unit (s := S8x128x512) ![4, 0, 0] S1x128x512.size inb_S8x128x512_S1x128x512_4_0_0, pay 4⟩,
    ⟨Rect.unit (s := S8x128x512) ![3, 0, 0] S1x128x512.size inb_S8x128x512_S1x128x512_3_0_0, pay 3⟩,
    ⟨Rect.unit (s := S8x128x512) ![2, 0, 0] S1x128x512.size inb_S8x128x512_S1x128x512_2_0_0, pay 2⟩,
    ⟨Rect.unit (s := S8x128x512) ![1, 0, 0] S1x128x512.size inb_S8x128x512_S1x128x512_1_0_0, pay 1⟩,
    ⟨Rect.unit (s := S8x128x512) ![0, 0, 0] S1x128x512.size inb_S8x128x512_S1x128x512_0_0_0, pay 0⟩]

/-- The stores of the eight heads' outputs, the last first. -/
def otL (pay : ℕ → S128x512.Idx → Elt Ideal .bf16) : List (View.Piece (Elt Ideal) S1024x512 .bf16) :=
  [⟨Rect.unit (s := S1024x512) ![896, 0] S128x512.size inb_S1024x512_S128x512_896_0, pay 7⟩,
    ⟨Rect.unit (s := S1024x512) ![768, 0] S128x512.size inb_S1024x512_S128x512_768_0, pay 6⟩,
    ⟨Rect.unit (s := S1024x512) ![640, 0] S128x512.size inb_S1024x512_S128x512_640_0, pay 5⟩,
    ⟨Rect.unit (s := S1024x512) ![512, 0] S128x512.size inb_S1024x512_S128x512_512_0, pay 4⟩,
    ⟨Rect.unit (s := S1024x512) ![384, 0] S128x512.size inb_S1024x512_S128x512_384_0, pay 3⟩,
    ⟨Rect.unit (s := S1024x512) ![256, 0] S128x512.size inb_S1024x512_S128x512_256_0, pay 2⟩,
    ⟨Rect.unit (s := S1024x512) ![128, 0] S128x512.size inb_S1024x512_S128x512_128_0, pay 1⟩,
    ⟨Rect.unit (s := S1024x512) ![0, 0] S128x512.size inb_S1024x512_S128x512_0_0, pay 0⟩]

/-- The stores of the eight rows of logarithms, the last first. -/
def lseL (pay : ℕ → S1x512.Idx → Elt Ideal .f32) : List (View.Piece (Elt Ideal) S16x512 .f32) :=
  [⟨Rect.unit (s := S16x512) ![7, 0] S1x512.size inb_S16x512_S1x512_7_0, pay 7⟩,
    ⟨Rect.unit (s := S16x512) ![6, 0] S1x512.size inb_S16x512_S1x512_6_0, pay 6⟩,
    ⟨Rect.unit (s := S16x512) ![5, 0] S1x512.size inb_S16x512_S1x512_5_0, pay 5⟩,
    ⟨Rect.unit (s := S16x512) ![4, 0] S1x512.size inb_S16x512_S1x512_4_0, pay 4⟩,
    ⟨Rect.unit (s := S16x512) ![3, 0] S1x512.size inb_S16x512_S1x512_3_0, pay 3⟩,
    ⟨Rect.unit (s := S16x512) ![2, 0] S1x512.size inb_S16x512_S1x512_2_0, pay 2⟩,
    ⟨Rect.unit (s := S16x512) ![1, 0] S1x512.size inb_S16x512_S1x512_1_0, pay 1⟩,
    ⟨Rect.unit (s := S16x512) ![0, 0] S1x512.size inb_S16x512_S1x512_0_0, pay 0⟩]

end Cert.Attn

end
-- ==== Proof.Step.AttnRead.lean ====
/- The tile's terms read at an element. -/
module

public import proofs.«01_k».proof.Proof.Step.AttnTile

@[expose] public section

set_option maxHeartbeats 1000000

noncomputable section

namespace Cert.Attn

open Cert.Kernel15Ideal Cert.Kernel15Ideal.Gen Cert.Common
open Idealize.ShloMosaic Idealize.ShloMosaic.TcCoe

theorem scT_apply (a b : FVec Ideal S512x128 .bf16) (i q : Fin 512) :
    scT a b (ix2 i q) = ∑ l : Fin 128, a (ix2 i l) * b (ix2 q l) := by
  unfold scT
  pointwise []

/-- The comparison of the two counters below 512. -/
theorem cmp_apply (i q : Fin 512) : IntOp.cmpi CmpIPredicate.sge (BitVec.ofNat 32 q.val) (IntOp.addi 0#32 (BitVec.ofNat 32 i.val)) =
    if i.val ≤ q.val then 1#1 else 0#1 := by
  have hi := i.isLt
  have hq := q.isLt
  have e : IntOp.addi 0#32 (BitVec.ofNat 32 i.val) = BitVec.ofNat 32 i.val := by simp [IntOp.addi]
  rw [e]
  have t1 : (BitVec.ofNat 32 q.val).toInt = q.val := by rw [BitVec.toInt_eq_toNat_of_lt (by rw [BitVec.toNat_ofNat]; omega), BitVec.toNat_ofNat, Nat.mod_eq_of_lt (by omega)]
  have t2 : (BitVec.ofNat 32 i.val).toInt = i.val := by rw [BitVec.toInt_eq_toNat_of_lt (by rw [BitVec.toNat_ofNat]; omega), BitVec.toNat_ofNat, Nat.mod_eq_of_lt (by omega)]
  have h : IntOp.cmpi CmpIPredicate.sge (BitVec.ofNat 32 q.val) (BitVec.ofNat 32 i.val) = BitVec.ofBool ((BitVec.ofNat 32 i.val).sle (BitVec.ofNat 32 q.val)) := rfl
  rw [h, BitVec.sle_eq_decide, t1, t2]
  by_cases hh : i.val ≤ q.val
  · rw [if_pos hh, decide_eq_true (by omega)]; rfl
  · rw [if_neg hh, decide_eq_false (by omega)]; rfl

theorem mask_val : (Named.named (F := Ideal) κ "mask" (φ := .f32) 0xF149F2CA#32) = (⊥ : EReal) :=
  IdealRules.named_const.ideal_named_scalar _ _ _ _ rfl

theorem ninf_f32 : Ideal.ofBits .f32 0xFF800000#32 = ⊥ := by
  simp [Ideal.ofBits, Ideal.ieee]

theorem mskT_apply (st : FVec Ideal S512x512 .f32) (i q : Fin 512) :
    mskT st (ix2 i q) = if i.val ≤ q.val then st (ix2 i q) else ⊥ := by
  unfold mskT
  pointwise []
  rw [cmp_apply]
  by_cases h : i.val ≤ q.val
  · rw [if_pos h, if_pos h]; rfl
  · rw [if_neg h, if_neg h]; exact mask_val

theorem mpT_apply (mp : FVec Ideal S1x8x512 .f32) (q : Fin 512) : mpT mp (ix2 0 q) = mp (ix3 0 0 q) := by
  unfold mpT
  pointwise []

theorem mxT_apply (st : FVec Ideal S512x512 .f32) (mp : FVec Ideal S1x8x512 .f32) (q : Fin 512) :
    mxT st mp (ix2 0 q) = max (mp (ix3 0 0 q)) (Finset.univ.sup fun i : Fin 512 => st (ix2 i q)) := by
  unfold mxT
  pointwise [mpT_apply]
  rw [ninf_f32]
  rfl

theorem mOutT_apply (st : FVec Ideal S512x512 .f32) (mp : FVec Ideal S1x8x512 .f32) (s : Fin 8) (q : Fin 512) :
    mOutT st mp (ix3 0 s q) = mxT st mp (ix2 0 q) := by
  unfold mOutT
  generalize mxT st mp = u
  pointwise []

theorem accT_apply (st : FVec Ideal S512x512 .f32) (mp : FVec Ideal S1x8x512 .f32) (ap : FVec Ideal S1x128x512 .f32) (vt : FVec Ideal S1x128x512 .bf16)
    (r : Fin 128) (q : Fin 512) :
    accT st mp ap vt (ix3 0 r q) = Ideal.exp2 (mpT mp (ix2 0 q) - mxT st mp (ix2 0 q)) * ap (ix3 0 r q)
      + ∑ k : Fin 512, vt (ix3 0 r k) * Ideal.exp2 (st (ix2 k q) - mxT st mp (ix2 0 q)) := by
  unfold accT
  generalize mxT st mp = u
  generalize mpT mp = v
  pointwise []
  rfl

theorem otT_apply (ac : FVec Ideal S1x128x512 .f32) (r : Fin 128) (q : Fin 512) :
    otT ac (ix2 r q) = Ideal.div (ac (ix3 0 r q)) (ac (ix3 0 (64 : Fin 128) q)) := by
  unfold otT
  pointwise []

theorem lseT_apply (ac : FVec Ideal S1x128x512 .f32) (mp : FVec Ideal S1x8x512 .f32) (q : Fin 512) :
    lseT ac mp (ix2 0 q) = mpT mp (ix2 0 q) + Ideal.log (ac (ix3 0 (64 : Fin 128) q)) * Ideal.ofBits .f32 0x3FB8AA3B#32 := by
  unfold lseT
  generalize mpT mp = v
  pointwise []

end Cert.Attn

end
-- ==== Proof.Step.AttnLists.lean ====
/- The stores of the eight heads read back. -/
module

public import proofs.«01_k».proof.Proof.Step.AttnTile

@[expose] public section

set_option maxHeartbeats 1000000

noncomputable section

namespace Cert.Attn

open Cert.Kernel15Ideal Cert.Kernel15Ideal.Gen Cert.Common
open Idealize.ShloMosaic Idealize.ShloMosaic.TcCoe

/-- The stored maxima, read back. -/
theorem mL_canon (pay : ℕ → S1x8x512.Idx → Elt Ideal .f32) (L' : List (View.Piece (Elt Ideal) S8x8x512 .f32)) (h s i : ℕ) (hh : h < 8) (hs : s < 8) (hi : i < 512) :
    at3 (View.canon (mL pay ++ L')) h s i = at3 (pay h) 0 s i := by
  have hG : ∀ (o : ℕ) (x : S1x8x512.Idx), pay o x = at3 (pay (o + 1 * (x 0).val)) 0 (0 + 1 * (x 1).val) (0 + 1 * (x 2).val) := fun o x => by
    have x0 : (x 0).val = 0 := by have : (x 0).val < 1 := (x 0).isLt; omega
    rw [x0]
    exact at3_of_val (pay o) x 0 _ _ x0 (by omega) (by omega)
  refine (at3_of_val _ (ValueIdx.ix3 ⟨h, hh⟩ ⟨s, hs⟩ ⟨i, hi⟩) h s i rfl rfl rfl).symm.trans ?_
  have hP : View.PiecesOf (Val := Elt Ideal) (e := .f32) (fun y : S8x8x512.Idx => (at3 (pay (y 0).val) 0 (y 1).val (y 2).val : EReal)) (mL pay) :=
    ⟨hG 7, hG 6, hG 5, hG 4, hG 3, hG 2, hG 1, hG 0, trivial⟩
  refine View.canon_append_of_piecesOf _ L' (mL pay) hP _ ?_
  have hm : ∀ (o : ℕ) (inb) (w), o = h → (⟨Rect.unit (s := S8x8x512) ![o, 0, 0] S1x8x512.size inb, w⟩ : View.Piece (Elt Ideal) S8x8x512 .f32) ∈ mL pay →
      ∃ p ∈ mL pay, ((ValueIdx.ix3 ⟨h, hh⟩ ⟨s, hs⟩ ⟨i, hi⟩ : S8x8x512.Idx)) ∈ p.1.set := fun o inb w ho hp => ⟨_, hp, by
    rw [Rect.mem_set_unit]
    intro a
    match a with
    | ⟨0, _⟩ => show o ≤ h ∧ h < o + 1; omega
    | ⟨1, _⟩ => show 0 ≤ s ∧ s < 0 + 8; omega
    | ⟨2, _⟩ => show 0 ≤ i ∧ i < 0 + 512; omega⟩
  unfold mL at hm ⊢
  interval_cases h
  · exact hm 0 _ _ rfl (.tail _ (.tail _ (.tail _ (.tail _ (.tail _ (.tail _ (.tail _ (.head _))))))))
  · exact hm 1 _ _ rfl (.tail _ (.tail _ (.tail _ (.tail _ (.tail _ (.tail _ (.head _)))))))
  · exact hm 2 _ _ rfl (.tail _ (.tail _ (.tail _ (.tail _ (.tail _ (.head _))))))
  · exact hm 3 _ _ rfl (.tail _ (.tail _ (.tail _ (.tail _ (.head _)))))
  · exact hm 4 _ _ rfl (.tail _ (.tail _ (.tail _ (.head _))))
  · exact hm 5 _ _ rfl (.tail _ (.tail _ (.head _)))
  · exact hm 6 _ _ rfl (.tail _ (.head _))
  · exact hm 7 _ _ rfl (.head _)

/-- The stored sums, read back. -/
theorem accL_canon (pay : ℕ → S1x128x512.Idx → Elt Ideal .f32) (L' : List (View.Piece (Elt Ideal) S8x128x512 .f32)) (h s i : ℕ) (hh : h < 8) (hs : s < 128) (hi : i < 512) :
    at3 (View.canon (accL pay ++ L')) h s i = at3 (pay h) 0 s i := by
  have hG : ∀ (o : ℕ) (x : S1x128x512.Idx), pay o x = at3 (pay (o + 1 * (x 0).val)) 0 (0 + 1 * (x 1).val) (0 + 1 * (x 2).val) := fun o x => by
    have x0 : (x 0).val = 0 := by have : (x 0).val < 1 := (x 0).isLt; omega
    rw [x0]
    exact at3_of_val (pay o) x 0 _ _ x0 (by omega) (by omega)
  refine (at3_of_val _ (ValueIdx.ix3 ⟨h, hh⟩ ⟨s, hs⟩ ⟨i, hi⟩) h s i rfl rfl rfl).symm.trans ?_
  have hP : View.PiecesOf (Val := Elt Ideal) (e := .f32) (fun y : S8x128x512.Idx => (at3 (pay (y 0).val) 0 (y 1).val (y 2).val : EReal)) (accL pay) :=
    ⟨hG 7, hG 6, hG 5, hG 4, hG 3, hG 2, hG 1, hG 0, trivial⟩
  refine View.canon_append_of_piecesOf _ L' (accL pay) hP _ ?_
  have hm : ∀ (o : ℕ) (inb) (w), o = h → (⟨Rect.unit (s := S8x128x512) ![o, 0, 0] S1x128x512.size inb, w⟩ : View.Piece (Elt Ideal) S8x128x512 .f32) ∈ accL pay →
      ∃ p ∈ accL pay, ((ValueIdx.ix3 ⟨h, hh⟩ ⟨s, hs⟩ ⟨i, hi⟩ : S8x128x512.Idx)) ∈ p.1.set := fun o inb w ho hp => ⟨_, hp, by
    rw [Rect.mem_set_unit]
    intro a
    match a with
    | ⟨0, _⟩ => show o ≤ h ∧ h < o + 1; omega
    | ⟨1, _⟩ => show 0 ≤ s ∧ s < 0 + 128; omega
    | ⟨2, _⟩ => show 0 ≤ i ∧ i < 0 + 512; omega⟩
  unfold accL at hm ⊢
  interval_cases h
  · exact hm 0 _ _ rfl (.tail _ (.tail _ (.tail _ (.tail _ (.tail _ (.tail _ (.tail _ (.head _))))))))
  · exact hm 1 _ _ rfl (.tail _ (.tail _ (.tail _ (.tail _ (.tail _ (.tail _ (.head _)))))))
  · exact hm 2 _ _ rfl (.tail _ (.tail _ (.tail _ (.tail _ (.tail _ (.head _))))))
  · exact hm 3 _ _ rfl (.tail _ (.tail _ (.tail _ (.tail _ (.head _)))))
  · exact hm 4 _ _ rfl (.tail _ (.tail _ (.tail _ (.head _))))
  · exact hm 5 _ _ rfl (.tail _ (.tail _ (.head _)))
  · exact hm 6 _ _ rfl (.tail _ (.head _))
  · exact hm 7 _ _ rfl (.head _)

/-- The stored outputs of the heads, read back. -/
theorem otL_canon (pay : ℕ → S128x512.Idx → Elt Ideal .bf16) (L' : List (View.Piece (Elt Ideal) S1024x512 .bf16)) (c i : ℕ) (hc : c < 1024) (hi : i < 512) :
    at2 (View.canon (otL pay ++ L')) c i = at2 (pay (c / 128)) (c % 128) i := by
  have hG : ∀ (o : ℕ) (x : S128x512.Idx), pay o x = at2 (pay ((128 * o + 1 * (x 0).val) / 128)) ((128 * o + 1 * (x 0).val) % 128) (0 + 1 * (x 1).val) := fun o x => by
    have x0 : (x 0).val < 128 := (x 0).isLt
    rw [show (128 * o + 1 * (x 0).val) / 128 = o by omega, show (128 * o + 1 * (x 0).val) % 128 = (x 0).val by omega]
    exact at2_of_val (pay o) x _ _ rfl (by omega)
  refine (at2_of_val _ (ValueIdx.ix2 ⟨c, hc⟩ ⟨i, hi⟩) c i rfl rfl).symm.trans ?_
  have hP : View.PiecesOf (Val := Elt Ideal) (e := .bf16) (fun y : S1024x512.Idx => (at2 (pay ((y 0).val / 128)) ((y 0).val % 128) (y 1).val : EReal)) (otL pay) :=
    ⟨hG 7, hG 6, hG 5, hG 4, hG 3, hG 2, hG 1, hG 0, trivial⟩
  refine View.canon_append_of_piecesOf _ L' (otL pay) hP _ ?_
  have hm : ∀ (o : ℕ) (inb) (w), o = 128 * (c / 128) → (⟨Rect.unit (s := S1024x512) ![o, 0] S128x512.size inb, w⟩ : View.Piece (Elt Ideal) S1024x512 .bf16) ∈ otL pay →
      ∃ p ∈ otL pay, ((ValueIdx.ix2 ⟨c, hc⟩ ⟨i, hi⟩ : S1024x512.Idx)) ∈ p.1.set := fun o inb w ho hp => ⟨_, hp, by
    rw [Rect.mem_set_unit]
    intro a
    match a with
    | ⟨0, _⟩ => show o ≤ c ∧ c < o + 128; omega
    | ⟨1, _⟩ => show 0 ≤ i ∧ i < 0 + 512; omega⟩
  have hd : c / 128 < 8 := by omega
  unfold otL at hm ⊢
  generalize c / 128 = h at hm hd
  interval_cases h
  · exact hm 0 _ _ rfl (.tail _ (.tail _ (.tail _ (.tail _ (.tail _ (.tail _ (.tail _ (.head _))))))))
  · exact hm 128 _ _ rfl (.tail _ (.tail _ (.tail _ (.tail _ (.tail _ (.tail _ (.head _)))))))
  · exact hm 256 _ _ rfl (.tail _ (.tail _ (.tail _ (.tail _ (.tail _ (.head _))))))
  · exact hm 384 _ _ rfl (.tail _ (.tail _ (.tail _ (.tail _ (.head _)))))
  · exact hm 512 _ _ rfl (.tail _ (.tail _ (.tail _ (.head _))))
  · exact hm 640 _ _ rfl (.tail _ (.tail _ (.head _)))
  · exact hm 768 _ _ rfl (.tail _ (.head _))
  · exact hm 896 _ _ rfl (.head _)

/-- The stored rows of logarithms, read back. -/
theorem lseL_canon (pay : ℕ → S1x512.Idx → Elt Ideal .f32) (L' : List (View.Piece (Elt Ideal) S16x512 .f32)) (h i : ℕ) (hh : h < 8) (hi : i < 512) :
    at2 (View.canon (lseL pay ++ L')) h i = at2 (pay h) 0 i := by
  have hG : ∀ (o : ℕ) (x : S1x512.Idx), pay o x = at2 (pay (o + 1 * (x 0).val)) 0 (0 + 1 * (x 1).val) := fun o x => by
    have x0 : (x 0).val = 0 := by have : (x 0).val < 1 := (x 0).isLt; omega
    rw [x0]
    exact at2_of_val (pay o) x 0 _ x0 (by omega)
  refine (at2_of_val _ (ValueIdx.ix2 ⟨h, by omega⟩ ⟨i, hi⟩) h i rfl rfl).symm.trans ?_
  have hP : View.PiecesOf (Val := Elt Ideal) (e := .f32) (fun y : S16x512.Idx => (at2 (pay (y 0).val) 0 (y 1).val : EReal)) (lseL pay) :=
    ⟨hG 7, hG 6, hG 5, hG 4, hG 3, hG 2, hG 1, hG 0, trivial⟩
  refine View.canon_append_of_piecesOf _ L' (lseL pay) hP _ ?_
  have hm : ∀ (o : ℕ) (inb) (w), o = h → (⟨Rect.unit (s := S16x512) ![o, 0] S1x512.size inb, w⟩ : View.Piece (Elt Ideal) S16x512 .f32) ∈ lseL pay →
      ∃ p ∈ lseL pay, ((ValueIdx.ix2 ⟨h, by omega⟩ ⟨i, hi⟩ : S16x512.Idx)) ∈ p.1.set := fun o inb w ho hp => ⟨_, hp, by
    rw [Rect.mem_set_unit]
    intro a
    match a with
    | ⟨0, _⟩ => show o ≤ h ∧ h < o + 1; omega
    | ⟨1, _⟩ => show 0 ≤ i ∧ i < 0 + 512; omega⟩
  unfold lseL at hm ⊢
  interval_cases h
  · exact hm 0 _ _ rfl (.tail _ (.tail _ (.tail _ (.tail _ (.tail _ (.tail _ (.tail _ (.head _))))))))
  · exact hm 1 _ _ rfl (.tail _ (.tail _ (.tail _ (.tail _ (.tail _ (.tail _ (.head _)))))))
  · exact hm 2 _ _ rfl (.tail _ (.tail _ (.tail _ (.tail _ (.tail _ (.head _))))))
  · exact hm 3 _ _ rfl (.tail _ (.tail _ (.tail _ (.tail _ (.head _)))))
  · exact hm 4 _ _ rfl (.tail _ (.tail _ (.tail _ (.head _))))
  · exact hm 5 _ _ rfl (.tail _ (.tail _ (.head _)))
  · exact hm 6 _ _ rfl (.tail _ (.head _))
  · exact hm 7 _ _ rfl (.head _)

/-- Below the stored rows the fill is left. -/
theorem lseL_rest (pay : ℕ → S1x512.Idx → Elt Ideal .f32) (L' : List (View.Piece (Elt Ideal) S16x512 .f32)) (h : Fin 16) (i : Fin 512) (hh : 8 ≤ h.val) :
    View.canon (lseL pay ++ L') (ValueIdx.ix2 h i) = View.canon L' (ValueIdx.ix2 h i) := by
  have hn : ∀ (o : ℕ) (inb : ∀ a, (![o, 0] : Fin 2 → ℕ) a + S1x512.size a ≤ S16x512.size a), o < 8 → (ValueIdx.ix2 h i : S16x512.Idx) ∉ (Rect.unit (s := S16x512) ![o, 0] S1x512.size inb).set := fun o inb ho hc => by
    rw [Rect.mem_set_unit] at hc
    have := (hc 0).2
    have h1 : h.val < o + 1 := this
    omega
  unfold lseL
  refine (View.canon_cons_of_not_mem (⟨Rect.unit (s := S16x512) ![7, 0] S1x512.size inb_S16x512_S1x512_7_0, pay 7⟩ : View.Piece (Elt Ideal) S16x512 .f32) _ (hn 7 inb_S16x512_S1x512_7_0 (by omega))).trans ?_
  refine (View.canon_cons_of_not_mem (⟨Rect.unit (s := S16x512) ![6, 0] S1x512.size inb_S16x512_S1x512_6_0, pay 6⟩ : View.Piece (Elt Ideal) S16x512 .f32) _ (hn 6 inb_S16x512_S1x512_6_0 (by omega))).trans ?_
  refine (View.canon_cons_of_not_mem (⟨Rect.unit (s := S16x512) ![5, 0] S1x512.size inb_S16x512_S1x512_5_0, pay 5⟩ : View.Piece (Elt Ideal) S16x512 .f32) _ (hn 5 inb_S16x512_S1x512_5_0 (by omega))).trans ?_
  refine (View.canon_cons_of_not_mem (⟨Rect.unit (s := S16x512) ![4, 0] S1x512.size inb_S16x512_S1x512_4_0, pay 4⟩ : View.Piece (Elt Ideal) S16x512 .f32) _ (hn 4 inb_S16x512_S1x512_4_0 (by omega))).trans ?_
  refine (View.canon_cons_of_not_mem (⟨Rect.unit (s := S16x512) ![3, 0] S1x512.size inb_S16x512_S1x512_3_0, pay 3⟩ : View.Piece (Elt Ideal) S16x512 .f32) _ (hn 3 inb_S16x512_S1x512_3_0 (by omega))).trans ?_
  refine (View.canon_cons_of_not_mem (⟨Rect.unit (s := S16x512) ![2, 0] S1x512.size inb_S16x512_S1x512_2_0, pay 2⟩ : View.Piece (Elt Ideal) S16x512 .f32) _ (hn 2 inb_S16x512_S1x512_2_0 (by omega))).trans ?_
  refine (View.canon_cons_of_not_mem (⟨Rect.unit (s := S16x512) ![1, 0] S1x512.size inb_S16x512_S1x512_1_0, pay 1⟩ : View.Piece (Elt Ideal) S16x512 .f32) _ (hn 1 inb_S16x512_S1x512_1_0 (by omega))).trans ?_
  refine (View.canon_cons_of_not_mem (⟨Rect.unit (s := S16x512) ![0, 0] S1x512.size inb_S16x512_S1x512_0_0, pay 0⟩ : View.Piece (Elt Ideal) S16x512 .f32) _ (hn 0 inb_S16x512_S1x512_0_0 (by omega))).trans ?_
  rfl

end Cert.Attn

end
-- ==== Proof.Step.AttnMath.lean ====
/- The running maximum and the running sums of a softmax taken tile by tile: what they hold after each tile. -/
module

public import Idealize.ShloMosaic.PureOps.Ideal.Laws
public import Idealize.ShloMosaic.PureOps.Ideal

@[expose] public section

noncomputable section

namespace Cert.Attn

open Idealize.ShloMosaic

/-- Two to the power `e - m`, zero where `e` is minus infinity. -/
def wt (e : EReal) (m : ℝ) : ℝ := if e = ⊥ then 0 else Real.rpow 2 (e.toReal - m)

theorem wt_bot (m : ℝ) : wt ⊥ m = 0 := by simp [wt]

theorem wt_coe (x m : ℝ) : wt (x : EReal) m = Real.rpow 2 (x - m) := by simp [wt]

theorem wt_nonneg (e : EReal) (m : ℝ) : 0 ≤ wt e m := by
  unfold wt
  split
  · exact le_refl _
  · exact Real.rpow_nonneg (by norm_num) _

theorem wt_pos {e : EReal} (he : e ≠ ⊥) (m : ℝ) : 0 < wt e m := by
  unfold wt
  rw [if_neg he]
  exact Real.rpow_pos_of_pos (by norm_num) _

/-- The weight as the kernel takes it. -/
theorem exp2_sub {e : EReal} (he : e ≠ ⊤) (m : ℝ) : Ideal.exp2 (e - (m : EReal)) = ((wt e m : ℝ) : EReal) := by
  induction e with
  | bot => rw [wt_bot, EReal.bot_sub, Ideal.exp2_bot, EReal.coe_zero]
  | coe x => rw [wt_coe, ← EReal.coe_sub, Ideal.exp2_coe]
  | top => exact absurd rfl he

/-- The weight as the reference takes it. -/
theorem pow_sub {e : EReal} (he : e ≠ ⊤) (m : ℝ) : Ideal.pow ((2 : ℝ) : EReal) (e - (m : EReal)) = ((wt e m : ℝ) : EReal) := by
  induction e with
  | bot =>
    rw [wt_bot, EReal.bot_sub, Ideal.pow_coe_bot, if_neg (by norm_num), if_pos (by norm_num), EReal.coe_zero]
  | coe x => rw [wt_coe, ← EReal.coe_sub, Ideal.pow_coe_coe]
  | top => exact absurd rfl he

theorem wt_rescale (e : EReal) (m m' : ℝ) : Real.rpow 2 (m - m') * wt e m = wt e m' := by
  unfold wt
  split
  · simp
  · refine (Real.rpow_add (by norm_num) _ _).symm.trans ?_
    exact congrArg (Real.rpow 2) (by ring)

/-- A sum of reals, seen among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A real that is not negative goes into a sum of extended reals. -/
theorem mul_sum_ereal {ι : Type} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- After `n` keys: the running maximum is that of the first `n` scores, the running sum is over the first `n` keys. -/
def Inv (E V : ℕ → EReal) (n : ℕ) (m a : EReal) : Prop :=
  m = (Finset.range n).sup E ∧ a = ∑ j ∈ Finset.range n, V j * ((wt (E j) m.toReal : ℝ) : EReal)

theorem inv_zero (E V : ℕ → EReal) : Inv E V 0 ⊥ 0 := ⟨by simp, by simp⟩

theorem sup_ne_top (E : ℕ → EReal) (hE : ∀ j, E j ≠ ⊤) (n : ℕ) : (Finset.range n).sup E ≠ ⊤ := by
  refine ne_of_lt ((Finset.sup_lt_iff (by exact bot_lt_top)).mpr fun j _ => lt_top_iff_ne_top.mpr (hE j))

theorem sup_range_add (E : ℕ → EReal) (n b : ℕ) :
    (Finset.range (n + b)).sup E = max ((Finset.range n).sup E) ((Finset.univ : Finset (Fin b)).sup fun j => E (n + j.val)) := by
  apply le_antisymm
  · refine Finset.sup_le fun j hj => ?_
    by_cases h : j < n
    · exact le_max_of_le_left (Finset.le_sup (f := E) (Finset.mem_range.mpr h))
    · have hb : j < n + b := Finset.mem_range.mp hj
      refine le_max_of_le_right ?_
      have := Finset.le_sup (f := fun j : Fin b => E (n + j.val)) (Finset.mem_univ (⟨j - n, by omega⟩ : Fin b))
      simpa [Nat.add_sub_cancel' (Nat.not_lt.mp h)] using this
  · refine max_le (Finset.sup_mono fun j hj => Finset.mem_range.mpr (lt_of_lt_of_le (Finset.mem_range.mp hj) (Nat.le_add_right _ _))) ?_
    exact Finset.sup_le fun j _ => Finset.le_sup (f := E) (Finset.mem_range.mpr (by omega))

/-- One tile of `b` keys more. -/
theorem inv_step (E V : ℕ → EReal) (hE : ∀ j, E j ≠ ⊤) (n b : ℕ) (hn : (Finset.range (n + b)).sup E ≠ ⊥)
    (m a mc : EReal) (e : Fin b → EReal) (v : Fin b → EReal) (he : ∀ j, e j = E (n + j.val)) (hv : ∀ j, v j = V (n + j.val))
    (hmc : mc = (Finset.univ : Finset (Fin b)).sup e) (h : Inv E V n m a) :
    Inv E V (n + b) (max m mc) (Ideal.exp2 (m - max m mc) * a + ∑ j, v j * Ideal.exp2 (e j - max m mc)) := by
  obtain ⟨hm, ha⟩ := h
  have hee : e = fun j => E (n + j.val) := funext he
  have hM : max m mc = (Finset.range (n + b)).sup E := by rw [hmc, hee, sup_range_add, hm]
  refine ⟨hM, ?_⟩
  have hr : max m mc ≠ ⊤ := by rw [hM]; exact sup_ne_top E hE _
  have hb : max m mc ≠ ⊥ := by rw [hM]; exact hn
  generalize hx : max m mc = x at hr hb ⊢
  lift x to ℝ using ⟨hr, hb⟩
  rw [EReal.toReal_coe]
  have h1 : Ideal.exp2 (m - (x : EReal)) * a = ∑ j ∈ Finset.range n, V j * ((wt (E j) x : ℝ) : EReal) := by
    have hmt : m ≠ ⊤ := by rw [hm]; exact sup_ne_top E hE _
    rw [exp2_sub hmt]
    by_cases hmb : m = ⊥
    · have hz : ∀ j ∈ Finset.range n, E j = ⊥ := by
        intro j hj
        have := Finset.le_sup (f := E) hj
        rw [← hm, hmb] at this
        exact le_bot_iff.mp this
      rw [hmb, wt_bot, EReal.coe_zero, zero_mul, Finset.sum_eq_zero]
      intro j hj
      rw [hz j hj, wt_bot, EReal.coe_zero, mul_zero]
    · rw [ha]
      lift m to ℝ using ⟨hmt, hmb⟩
      rw [EReal.toReal_coe, mul_sum_ereal _ (wt_nonneg _ _)]
      refine Finset.sum_congr rfl fun j _ => ?_
      rw [← wt_rescale (E j) m x, wt_coe, EReal.coe_mul, mul_left_comm]
  have h2 : ∑ j, v j * Ideal.exp2 (e j - (x : EReal)) = ∑ j : Fin b, V (n + j.val) * ((wt (E (n + j.val)) x : ℝ) : EReal) := by
    refine Finset.sum_congr rfl fun j _ => ?_
    rw [hv, he, exp2_sub (hE _)]
  rw [h1, h2, Finset.sum_range_add, Finset.sum_range (fun r => V (n + r) * ((wt (E (n + r)) x : ℝ) : EReal))]

/-- Keys whose score is minus infinity neither raise the maximum nor add to the sums. -/
theorem sup_extend (E : ℕ → EReal) (n N : ℕ) (hnN : n ≤ N) (h : ∀ j, n ≤ j → E j = ⊥) : (Finset.range N).sup E = (Finset.range n).sup E := by
  apply le_antisymm
  · refine Finset.sup_le fun j _ => ?_
    by_cases hj : j < n
    · exact Finset.le_sup (f := E) (Finset.mem_range.mpr hj)
    · rw [h j (Nat.not_lt.mp hj)]; exact bot_le
  · exact Finset.sup_mono fun j hj => Finset.mem_range.mpr (lt_of_lt_of_le (Finset.mem_range.mp hj) hnN)

theorem sum_extend (E V : ℕ → EReal) (m : ℝ) (n N : ℕ) (hnN : n ≤ N) (h : ∀ j, n ≤ j → E j = ⊥) :
    ∑ j ∈ Finset.range N, V j * ((wt (E j) m : ℝ) : EReal) = ∑ j ∈ Finset.range n, V j * ((wt (E j) m : ℝ) : EReal) := by
  refine (Finset.sum_subset (fun j hj => Finset.mem_range.mpr (lt_of_lt_of_le (Finset.mem_range.mp hj) hnN)) fun j _ hj => ?_).symm
  rw [h j (Nat.not_lt.mp fun hl => hj (Finset.mem_range.mpr hl)), wt_bot, EReal.coe_zero, mul_zero]

/-- The sum of the weights is positive as soon as one score is not minus infinity. -/
theorem sum_wt_pos (E : ℕ → EReal) (m : ℝ) (n j : ℕ) (hj : j < n) (h : E j ≠ ⊥) : 0 < ∑ j ∈ Finset.range n, wt (E j) m :=
  Finset.sum_pos' (fun _ _ => wt_nonneg _ _) ⟨j, Finset.mem_range.mpr hj, wt_pos h m⟩

end Cert.Attn

end
-- ==== Proof.Step.AttnState.lean ====
/- The running maxima and sums of the eight heads after a tile, and what the last tile of a row writes out. -/
module

public import proofs.«01_k».proof.Proof.Step.AttnRead
public import proofs.«01_k».proof.Proof.Step.AttnLists
public import proofs.«01_k».proof.Proof.Step.AttnMath

@[expose] public section

set_option maxHeartbeats 1000000

noncomputable section

namespace Cert.Attn

open Cert.Kernel15Ideal Cert.Kernel15Ideal.Gen Cert.Common
open Idealize.ShloMosaic Idealize.ShloMosaic.TcCoe

/-- After `n` keys every head's maxima and sums are those of the first `n` keys. -/
def Good (E : ℕ → ℕ → ℕ → EReal) (V : ℕ → ℕ → ℕ → EReal) (n : ℕ) (M : S8x8x512.Idx → EReal) (A : S8x128x512.Idx → EReal) : Prop :=
  ∀ h s r i, h < 8 → s < 8 → r < 128 → i < 512 → Inv (E h i) (V h r) n (at3 M h s i) (at3 A h r i)

theorem init_max : (k0_pay1 (F := Ideal) : S8x8x512.Idx → EReal) = fun _ => ⊥ := by
  funext j
  exact mask_val

theorem init_sums : (k0_pay2 (F := Ideal) : S8x128x512.Idx → EReal) = fun _ => 0 := by
  funext j
  unfold k0_pay2
  show Ideal.ofBits .f32 0x00000000#32 = 0
  simp [Ideal.ofBits, Ideal.ieee]

theorem good_zero (E : ℕ → ℕ → ℕ → EReal) (V : ℕ → ℕ → ℕ → EReal) : Good E V 0 (k0_pay1 (F := Ideal)) (k0_pay2 (F := Ideal)) := by
  intro h s r i hh hs hr hi
  rw [init_max, init_sums]
  have e1 : at3 (a := 8) (b := 8) (d := 512) (fun _ => (⊥ : EReal)) h s i = ⊥ := by unfold at3; rw [dif_pos ⟨hh, hs, hi⟩]
  have e2 : at3 (a := 8) (b := 128) (d := 512) (fun _ => (0 : EReal)) h r i = 0 := by unfold at3; rw [dif_pos ⟨hh, hr, hi⟩]
  exact (congrArg₂ (Inv (E h i) (V h r) 0) e1 e2).mpr (inv_zero _ _)

section
variable (E : ℕ → ℕ → ℕ → EReal) (V : ℕ → ℕ → ℕ → EReal) (n : ℕ) (hE : ∀ h i j, E h i j ≠ ⊤)
  (hn : ∀ h i, h < 8 → i < 512 → (Finset.range (n + 512)).sup (E h i) ≠ ⊥)
  (st : ℕ → S512x512.Idx → EReal) (hst : ∀ h i k, h < 8 → i < 512 → k < 512 → at2 (st h) k i = E h i (n + k))
  (x2 : S1x1024x512.Idx → EReal) (hv : ∀ h r k, h < 8 → r < 128 → k < 512 → at3 x2 0 (128 * h + r) k = V h r (n + k))
  (M : S8x8x512.Idx → EReal) (A : S8x128x512.Idx → EReal) (hg : Good E V n M A)

/-- The maxima that the tile stores. -/
abbrev mNew (h : ℕ) : S1x8x512.Idx → EReal := mOutT (st h) (slabM M h)
/-- The sums that the tile stores. -/
abbrev aNew (h : ℕ) : S1x128x512.Idx → EReal := accT (st h) (slabM M h) (slabA A h) (slabV x2 (128 * h))

include hE hn hst hv hg in
theorem good_tile (h s r i : ℕ) (hh : h < 8) (hs : s < 8) (hr : r < 128) (hi : i < 512) :
    Inv (E h i) (V h r) (n + 512) (at3 (mNew st M h) 0 s i) (at3 (aNew st x2 M A h) 0 r i) := by
  have e1 : at3 (mNew st M h) 0 s i = mNew st M h (ix3 0 ⟨s, hs⟩ ⟨i, hi⟩) := (at3_of_val _ (ix3 0 ⟨s, hs⟩ ⟨i, hi⟩) 0 s i rfl rfl rfl).symm
  have e2 : at3 (aNew st x2 M A h) 0 r i = aNew st x2 M A h (ix3 0 ⟨r, hr⟩ ⟨i, hi⟩) := (at3_of_val _ (ix3 0 ⟨r, hr⟩ ⟨i, hi⟩) 0 r i rfl rfl rfl).symm
  have hs' := hg h 0 r i hh (by omega) hr hi
  have hI := inv_step (E h i) (V h r) (hE h i) n 512 (hn h i hh hi) (at3 M h 0 i) (at3 A h r i)
    ((Finset.univ : Finset (Fin 512)).sup fun k => st h (ix2 k ⟨i, hi⟩)) (fun k => st h (ix2 k ⟨i, hi⟩)) (fun k => at3 x2 0 (128 * h + r) k.val)
    (fun k => (at2_of_val (st h) (ix2 k ⟨i, hi⟩) k.val i rfl rfl).trans (hst h i k.val hh hi k.isLt)) (fun k => hv h r k.val hh hr k.isLt) rfl hs'
  rw [e1, e2]
  have f1 : mNew st M h (ix3 0 ⟨s, hs⟩ ⟨i, hi⟩) = max (at3 M h 0 i) ((Finset.univ : Finset (Fin 512)).sup fun k => st h (ix2 k ⟨i, hi⟩)) :=
    (mOutT_apply _ _ _ _).trans (mxT_apply _ _ _)
  have f2 : aNew st x2 M A h (ix3 0 ⟨r, hr⟩ ⟨i, hi⟩) = _ := accT_apply (st h) (slabM M h) (slabA A h) (slabV x2 (128 * h)) ⟨r, hr⟩ ⟨i, hi⟩
  rw [f1, f2, mpT_apply, mxT_apply]
  exact hI

include hE hn hst hv hg in
theorem good_step (L' : List (View.Piece (Elt Ideal) S8x8x512 .f32)) (L'' : List (View.Piece (Elt Ideal) S8x128x512 .f32)) :
    Good E V (n + 512) (View.canon (mL (mNew st M) ++ L')) (View.canon (accL (aNew st x2 M A) ++ L'')) := by
  intro h s r i hh hs hr hi
  have e1 := mL_canon (mNew st M) L' h s i hh hs hi
  have e2 := accL_canon (aNew st x2 M A) L'' h r i hh hr hi
  exact (congrArg₂ (Inv (E h i) (V h r) (n + 512)) e1 e2).mpr (good_tile E V n hE hn st hst x2 hv M A hg h s r i hh hs hr hi)

/-- The sum of the first `N` keys. -/
def num (E : ℕ → ℕ → ℕ → EReal) (V : ℕ → ℕ → ℕ → EReal) (N h r i : ℕ) : EReal :=
  ∑ j ∈ Finset.range N, V h r j * ((wt (E h i j) ((Finset.range N).sup (E h i)).toReal : ℝ) : EReal)

include hE hn hst hv hg in
theorem num_eq (h r i : ℕ) (hh : h < 8) (hr : r < 128) (hi : i < 512) : at3 (aNew st x2 M A h) 0 r i = num E V (n + 512) h r i := by
  obtain ⟨a, b⟩ := good_tile E V n hE hn st hst x2 hv M A hg h 0 r i hh (by omega) hr hi
  rw [b, a]
  rfl

include hE hn hst hv hg in
theorem max_eq (h i : ℕ) (hh : h < 8) (hi : i < 512) : at3 (mNew st M h) 0 0 i = (Finset.range (n + 512)).sup (E h i) :=
  (good_tile E V n hE hn st hst x2 hv M A hg h 0 0 i hh (by omega) (by omega) hi).1

/-- The output of a row, from its sums. -/
theorem out_apply (ot : FVec Ideal S1024x512 .bf16) (p : FVec Ideal S1024x512 .bf16) (i q : Fin 512) :
    k0_pay166 (F := Ideal) ot p (ix2 i q) = ∑ c : Fin 1024, ot (ix2 c i) * p (ix2 c q) := by
  unfold k0_pay166
  pointwise []

include hE hn hst hv hg in
theorem fin_out (x3 : S1024x512.Idx → EReal) (i q : Fin 512) :
    k0_pay166 (F := Ideal) (scM0_2.view.readCov (otL (fun h => otT (aNew st x2 M A h)))
      (Rect.unit (s := S1024x512) ![0, 0] S1024x512.size inb_S1024x512_S1024x512_0_0).toLoadRect) x3 (ix2 i q)
      = ∑ c : Fin 1024, Ideal.div (num E V (n + 512) (c.val / 128) (c.val % 128) i.val) (num E V (n + 512) (c.val / 128) 64 i.val) * at2 x3 c.val q.val := by
  refine (out_apply _ _ i q).trans (Finset.sum_congr rfl fun c _ => ?_)
  have hc := c.isLt
  refine congrArg₂ (· * ·) ?_ (at2_of_val x3 (ix2 c q) c.val q.val rfl rfl)
  rw [View.readCov_eq_canon']
  have e := otL_canon (fun h => otT (aNew st x2 M A h)) [] c.val i.val hc i.isLt
  rw [List.append_nil] at e
  refine (at2_of_val (View.canon (otL fun h => otT (aNew st x2 M A h))) _ c.val i.val (by show 0 + 1 * c.val = _; omega) (by show 0 + 1 * i.val = _; omega)).trans (e.trans ?_)
  refine (at2_of_val _ (ix2 (⟨c.val % 128, by omega⟩ : Fin 128) i) (c.val % 128) i.val rfl rfl).symm.trans ?_
  refine (otT_apply _ _ _).trans ?_
  refine congrArg₂ Ideal.div ?_ ?_
  · exact (at3_of_val _ (ix3 0 (⟨c.val % 128, by omega⟩ : Fin 128) i) 0 (c.val % 128) i.val rfl rfl rfl).trans
      (num_eq E V n hE hn st hst x2 hv M A hg _ _ _ (by omega) (by omega) i.isLt)
  · exact (at3_of_val _ (ix3 0 (64 : Fin 128) i) 0 64 i.val rfl rfl rfl).trans
      (num_eq E V n hE hn st hst x2 hv M A hg _ _ _ (by omega) (by omega) i.isLt)

include hE hn hst hv hg in
theorem fin_lse (L' : List (View.Piece (Elt Ideal) S16x512 .f32)) (h i : ℕ) (hh : h < 8) (hi : i < 512) :
    at2 (View.canon (lseL (fun h => lseT (aNew st x2 M A h) (mNew st M h)) ++ L')) h i
      = (Finset.range (n + 512)).sup (E h i) + Ideal.log (num E V (n + 512) h 64 i) * Ideal.ofBits .f32 0x3FB8AA3B#32 := by
  refine (lseL_canon _ L' h i hh hi).trans ?_
  refine (at2_of_val _ (ix2 (0 : Fin 1) (⟨i, hi⟩ : Fin 512)) 0 i rfl rfl).symm.trans ?_
  refine (lseT_apply _ _ _).trans ?_
  rw [mpT_apply]
  have a1 : mNew st M h (ix3 0 0 ⟨i, hi⟩) = (Finset.range (n + 512)).sup (E h i) :=
    (at3_of_val _ (ix3 0 0 ⟨i, hi⟩) 0 0 i rfl rfl rfl).trans (max_eq E V n hE hn st hst x2 hv M A hg h i hh hi)
  have a2 : aNew st x2 M A h (ix3 0 (64 : Fin 128) ⟨i, hi⟩) = (num E V (n + 512) h 64 i) :=
    (at3_of_val _ (ix3 0 (64 : Fin 128) ⟨i, hi⟩) 0 64 i rfl rfl rfl).trans (num_eq E V n hE hn st hst x2 hv M A hg h 64 i hh (by omega) hi)
  rw [a1, a2]

end

end Cert.Attn

end
-- ==== Proof.Step.AttnDefs.lean ====
/- Causal attention as a formula: the scores, the largest of a row, the weighted sums and what is written out. -/
module

public import proofs.«01_k».proof.Kernel15Ideal
public import proofs.«01_k».proof.Proof.Step.AttnMath
public import proofs.«01_k».proof.Proof.Ffn.Common

@[expose] public section

noncomputable section

namespace Cert.Attn

open Cert.Kernel15Ideal Cert.Common
open Idealize.ShloMosaic

/-- The score of a key against a query in one head. -/
def eS (Q K : S8192x1024.Idx → EReal) (h r j : ℕ) : EReal := ∑ l : Fin 128, at2 K j (128 * h + l.val) * at2 Q r (128 * h + l.val)
/-- The same where the key may be seen, minus infinity elsewhere. -/
def eT (Q K : S8192x1024.Idx → EReal) (h r j : ℕ) : EReal := if j ≤ r then eS Q K h r j else ⊥
/-- A value of a key. -/
def vT (X : S16x1024x512.Idx → EReal) (h r j : ℕ) : EReal := at3 X (j / 512) (128 * h + r) (j % 512)

theorem eS_real (Q K : S8192x1024.Idx → EReal) (hQ : ∀ i j, ∃ z : ℝ, at2 Q i j = z) (hK : ∀ i j, ∃ z : ℝ, at2 K i j = z) (h r j : ℕ) :
    ∃ z : ℝ, eS Q K h r j = z := by
  choose q hq using hQ
  choose k hk using hK
  refine ⟨∑ l : Fin 128, k j (128 * h + l.val) * q r (128 * h + l.val), ?_⟩
  rw [coe_sum]
  refine Finset.sum_congr rfl fun l _ => ?_
  rw [hq, hk, EReal.coe_mul]

theorem eT_ne_top (Q K : S8192x1024.Idx → EReal) (hQ : ∀ i j, ∃ z : ℝ, at2 Q i j = z) (hK : ∀ i j, ∃ z : ℝ, at2 K i j = z) (h r j : ℕ) :
    eT Q K h r j ≠ ⊤ := by
  unfold eT
  split
  · obtain ⟨z, hz⟩ := eS_real Q K hQ hK h r j
    rw [hz]; exact EReal.coe_ne_top z
  · exact bot_ne_top

theorem eT_zero (Q K : S8192x1024.Idx → EReal) (hQ : ∀ i j, ∃ z : ℝ, at2 Q i j = z) (hK : ∀ i j, ∃ z : ℝ, at2 K i j = z) (h r : ℕ) :
    eT Q K h r 0 ≠ ⊥ := by
  unfold eT
  rw [if_pos (Nat.zero_le r)]
  obtain ⟨z, hz⟩ := eS_real Q K hQ hK h r 0
  rw [hz]; exact EReal.coe_ne_bot z

theorem eT_sup (Q K : S8192x1024.Idx → EReal) (hQ : ∀ i j, ∃ z : ℝ, at2 Q i j = z) (hK : ∀ i j, ∃ z : ℝ, at2 K i j = z) (h r n : ℕ) (hn : 0 < n) :
    (Finset.range n).sup (eT Q K h r) ≠ ⊥ := fun e =>
  eT_zero Q K hQ hK h r (le_bot_iff.mp (e ▸ Finset.le_sup (f := eT Q K h r) (Finset.mem_range.mpr hn)))

/-- The largest score of a row. -/
def supR (Q K : S8192x1024.Idx → EReal) (h r : ℕ) : EReal := (Finset.range 8192).sup (eT Q K h r)
/-- A sum over a row. -/
def numR (Q K : S8192x1024.Idx → EReal) (X : S16x1024x512.Idx → EReal) (h d r : ℕ) : EReal :=
  ∑ j ∈ Finset.range 8192, vT X h d j * ((wt (eT Q K h r j) (supR Q K h r).toReal : ℝ) : EReal)

/-- An element of the output. -/
def outR (Q K : S8192x1024.Idx → EReal) (X : S16x1024x512.Idx → EReal) (P : S1024x512.Idx → EReal) (r b : ℕ) : EReal :=
  ∑ e : Fin 1024, Ideal.div (numR Q K X (e.val / 128) (e.val % 128) r) (numR Q K X (e.val / 128) 64 r) * at2 P e.val b

/-- An element of the row statistics. -/
def lseR (Q K : S8192x1024.Idx → EReal) (X : S16x1024x512.Idx → EReal) (h r : ℕ) : EReal :=
  if h < 8 then supR Q K h r + Ideal.log (numR Q K X h 64 r) * Ideal.ofBits .f32 0x3FB8AA3B#32 else 0

end Cert.Attn

end
-- ==== Proof.Step.AttnCtl.lean ====
/- The grid of the attention forward: which blocks each point reads and writes, and which path it takes. -/
module

public import proofs.«01_k».proof.Proof.Gen.Kernel15Ideal.Flash
public import proofs.«01_k».proof.Proof.Ffn.Common
public import Idealize.ShloMosaic.Lib.Pipeline.ValueKit.Geometry

@[expose] public section

set_option maxHeartbeats 4000000
set_option maxRecDepth 100000

noncomputable section

namespace Cert.Attn

open Cert.Kernel15Ideal Cert.Kernel15Ideal.Gen Cert.Common
open Idealize.ShloMosaic Idealize.ShloMosaic.TcCoe Idealize.SL.Sem

/-- The one member of the schedule. -/
abbrev ch0 : Fin 1 := ⟨0, by omega⟩

def j0 (t : Fin (cfgA ch0).N) : Fin 2 → ℕ := ((cfgA ch0).win (0 : Fin 6)).index t
def j1 (t : Fin (cfgA ch0).N) : Fin 2 → ℕ := ((cfgA ch0).win (1 : Fin 6)).index t
def j2 (t : Fin (cfgA ch0).N) : Fin 3 → ℕ := ((cfgA ch0).win (2 : Fin 6)).index t
def j3 (t : Fin (cfgA ch0).N) : Fin 2 → ℕ := ((cfgA ch0).win (3 : Fin 6)).index t
def j4 (t : Fin (cfgA ch0).N) : Fin 2 → ℕ := ((cfgA ch0).win (4 : Fin 6)).index t
def j5 (t : Fin (cfgA ch0).N) : Fin 2 → ℕ := ((cfgA ch0).win (5 : Fin 6)).index t

/-- The block of queries of a point. -/
def qN (t : Fin (cfgA ch0).N) : ℕ := j0 t 0
/-- The block of keys of a point. -/
def kN (t : Fin (cfgA ch0).N) : ℕ := j1 t 0

theorem ctl1 : ∀ t : Fin (cfgA ch0).N, j0 t 1 = 0 ∧ j1 t 1 = 0 ∧ (j2 t 0 = kN t ∧ j2 t 1 = 0 ∧ j2 t 2 = 0) ∧ (j3 t 0 = 0 ∧ j3 t 1 = 0)
    ∧ (j4 t 0 = qN t ∧ j4 t 1 = 0) ∧ (j5 t 0 = 0 ∧ j5 t 1 = qN t) ∧ kN t ≤ qN t ∧ qN t < 16 := by decide +kernel

theorem ctl2 : ∀ t : Fin (cfgA ch0).N, (P0_0 ch0 t ↔ kN t = 0) ∧ (P0_1 ch0 t ↔ kN t < qN t) := by decide +kernel

theorem ctl3 : ∀ t : Fin (cfgA ch0).N, (((cfgA ch0).win (4 : Fin 6)).flush t = true → kN t = qN t) ∧ (((cfgA ch0).win (5 : Fin 6)).flush t = true → kN t = qN t) := by
  decide +kernel

theorem ctl4 : ∀ n : Fin 135, kN ⟨n.val + 1, by have := n.isLt; show n.val + 1 < 136; omega⟩ ≠ 0 →
    qN ⟨n.val, by have := n.isLt; show n.val < 136; omega⟩ = qN ⟨n.val + 1, by have := n.isLt; show n.val + 1 < 136; omega⟩
      ∧ kN ⟨n.val, by have := n.isLt; show n.val < 136; omega⟩ + 1 = kN ⟨n.val + 1, by have := n.isLt; show n.val + 1 < 136; omega⟩ := by decide +kernel

theorem ctl5 : kN ⟨0, by show 0 < 136; omega⟩ = 0 := by decide +kernel

theorem cov4 : ((cfgA ch0).win (4 : Fin 6)).Covers := by decide +kernel
theorem cov5 : ((cfgA ch0).win (5 : Fin 6)).Covers := by decide +kernel

variable (m : (ℓ : Loc nD τ sig) → Buf (Elt Ideal) ℓ) (ρ : Dev nD → PrngReg)

/-- The queries. -/
abbrev gQ (c : Dev nD) : S8192x1024.Idx → EReal := m ((c : Thread nD τ).loc main_arg2)
/-- The keys. -/
abbrev gK (c : Dev nD) : S8192x1024.Idx → EReal := m ((c : Thread nD τ).loc main_arg3)
/-- The values, transposed, one tile per block of keys. -/
abbrev gV (c : Dev nD) : S16x1024x512.Idx → EReal := m ((c : Thread nD τ).loc main_arg4)
/-- The placement. -/
abbrev gP (c : Dev nD) : S1024x512.Idx → EReal := m ((c : Thread nD τ).loc main_arg5)

theorem iblk0 (c : Dev nD) (t : Fin (cfgA ch0).N) (j : S512x1024.Idx) :
    (iblk ch0 m ρ c (0 : Fin 6) t : Vec Ideal S512x1024 .bf16) j = at2 (gQ m c) (512 * qN t + (j 0).val) (j 1).val := by
  obtain ⟨e1, -⟩ := ctl1 t
  unfold iblk
  rw [View.read_apply]
  refine at2_of_val (gQ m c) _ _ _ ?_ ?_
  · show j0 t 0 * 512 + 1 * (j 0).val = 512 * j0 t 0 + _; omega
  · show j0 t 1 * 1024 + 1 * (j 1).val = _; rw [e1]; omega

theorem iblk1 (c : Dev nD) (t : Fin (cfgA ch0).N) (j : S512x1024.Idx) :
    (iblk ch0 m ρ c (1 : Fin 6) t : Vec Ideal S512x1024 .bf16) j = at2 (gK m c) (512 * kN t + (j 0).val) (j 1).val := by
  obtain ⟨-, e1, -⟩ := ctl1 t
  unfold iblk
  rw [View.read_apply]
  refine at2_of_val (gK m c) _ _ _ ?_ ?_
  · show j1 t 0 * 512 + 1 * (j 0).val = 512 * j1 t 0 + _; omega
  · show j1 t 1 * 1024 + 1 * (j 1).val = _; rw [e1]; omega

theorem iblk2 (c : Dev nD) (t : Fin (cfgA ch0).N) (j : S1x1024x512.Idx) :
    (iblk ch0 m ρ c (2 : Fin 6) t : Vec Ideal S1x1024x512 .bf16) j = at3 (gV m c) (kN t) (j 1).val (j 2).val := by
  obtain ⟨-, -, ⟨e0, e1, e2⟩, -⟩ := ctl1 t
  have hj : (j 0).val < 1 := (j 0).isLt
  unfold iblk
  rw [View.read_apply]
  refine at3_of_val (gV m c) _ _ _ _ ?_ ?_ ?_
  · show j2 t 0 * 1 + 1 * (j 0).val = _; omega
  · show j2 t 1 * 1024 + 1 * (j 1).val = _; rw [e1]; omega
  · show j2 t 2 * 512 + 1 * (j 2).val = _; rw [e2]; omega

theorem iblk3 (c : Dev nD) (t : Fin (cfgA ch0).N) (j : S1024x512.Idx) :
    (iblk ch0 m ρ c (3 : Fin 6) t : Vec Ideal S1024x512 .bf16) j = at2 (gP m c) (j 0).val (j 1).val := by
  obtain ⟨-, -, -, ⟨e0, e1⟩, -⟩ := ctl1 t
  unfold iblk
  rw [View.read_apply]
  refine at2_of_val (gP m c) _ _ _ ?_ ?_
  · show j3 t 0 * 1024 + 1 * (j 0).val = _; rw [e0]; omega
  · show j3 t 1 * 512 + 1 * (j 1).val = _; rw [e1]; omega

end Cert.Attn

end
-- ==== Proof.Step.AttnPathA.lean ====
/- The first tile of all: row zero, which is the diagonal. -/
module

public import proofs.«01_k».proof.Proof.Gen.Kernel15Ideal.Flash.Runs
public import proofs.«01_k».proof.Proof.Step.AttnTile
public import Idealize.ShloMosaic.Lib.Pipeline.ValueKit.Acc

@[expose] public section

set_option maxHeartbeats 400000
set_option maxRecDepth 100000

noncomputable section

namespace Cert.Attn

open Cert.Kernel15Ideal Cert.Kernel15Ideal.Gen Cert.Common
open Idealize.ShloMosaic Idealize.ShloMosaic.TcCoe

/-- The maxima after the tile. -/
theorem max_A (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
     (h1) (h2) (h3) :
    (kernelRun0_A c i arg3 harg3 arg4 harg4 arg5 harg5 arg6 harg6 arg7 harg7 arg8 harg8 T0 T1 x0 x1 x2 x3  h1 h2 h3).2.2.1 =
      scM0_0.view.writes (Elt Ideal) scM0_0.view.junk (mL (fun h => mOutT (mskT (scT (slabQ x1 (128 * h)) (slabQ x0 (128 * h)))) (slabM (k0_pay1 (F := Ideal)) h)) ++ [⟨Rect.unit (s := S8x8x512) ![0, 0, 0] S8x8x512.size inb_S8x8x512_S8x8x512_0_0_0, (k0_pay1 (F := Ideal))⟩]) := by
  unfold kernelRun0_A
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

/-- The sums after the tile. -/
theorem sums_A (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
     (h1) (h2) (h3) :
    (kernelRun0_A c i arg3 harg3 arg4 harg4 arg5 harg5 arg6 harg6 arg7 harg7 arg8 harg8 T0 T1 x0 x1 x2 x3  h1 h2 h3).2.2.2.1 =
      scM0_1.view.writes (Elt Ideal) scM0_1.view.junk (accL (fun h => accT (mskT (scT (slabQ x1 (128 * h)) (slabQ x0 (128 * h)))) (slabM (k0_pay1 (F := Ideal)) h) (slabA (k0_pay2 (F := Ideal)) h) (slabV x2 (128 * h))) ++ [⟨Rect.unit (s := S8x128x512) ![0, 0, 0] S8x128x512.size inb_S8x128x512_S8x128x512_0_0_0, (k0_pay2 (F := Ideal))⟩]) := by
  unfold kernelRun0_A
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

/-- The output of the row. -/
theorem out_A (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
     (h1) (h2) (h3) :
    (kernelRun0_A c i arg3 harg3 arg4 harg4 arg5 harg5 arg6 harg6 arg7 harg7 arg8 harg8 T0 T1 x0 x1 x2 x3  h1 h2 h3).1 =
      [⟨Rect.unit (s := S512x512) ![0, 0] S512x512.size inb_S512x512_S512x512_0_0, k0_pay166 (scM0_2.view.readCov (otL (fun h => otT (accT (mskT (scT (slabQ x1 (128 * h)) (slabQ x0 (128 * h)))) (slabM (k0_pay1 (F := Ideal)) h) (slabA (k0_pay2 (F := Ideal)) h) (slabV x2 (128 * h))))) (Rect.unit (s := S1024x512) ![0, 0] S1024x512.size inb_S1024x512_S1024x512_0_0).toLoadRect) x3⟩] := by
  unfold kernelRun0_A
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

/-- The logarithms of the row. -/
theorem lse_A (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
     (h1) (h2) (h3) :
    (kernelRun0_A c i arg3 harg3 arg4 harg4 arg5 harg5 arg6 harg6 arg7 harg7 arg8 harg8 T0 T1 x0 x1 x2 x3  h1 h2 h3).2.1 =
      lseL (fun h => lseT (accT (mskT (scT (slabQ x1 (128 * h)) (slabQ x0 (128 * h)))) (slabM (k0_pay1 (F := Ideal)) h) (slabA (k0_pay2 (F := Ideal)) h) (slabV x2 (128 * h))) (mOutT (mskT (scT (slabQ x1 (128 * h)) (slabQ x0 (128 * h)))) (slabM (k0_pay1 (F := Ideal)) h))) ++ [⟨Rect.unit (s := S16x512) ![0, 0] S16x512.size inb_S16x512_S16x512_0_0, (k0_pay129 (F := Ideal))⟩] := by
  unfold kernelRun0_A
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

end Cert.Attn

end
-- ==== Proof.Step.AttnPathB.lean ====
/- The first tile of a later row. -/
module

public import proofs.«01_k».proof.Proof.Gen.Kernel15Ideal.Flash.Runs
public import proofs.«01_k».proof.Proof.Step.AttnTile
public import Idealize.ShloMosaic.Lib.Pipeline.ValueKit.Acc

@[expose] public section

set_option maxHeartbeats 400000
set_option maxRecDepth 100000

noncomputable section

namespace Cert.Attn

open Cert.Kernel15Ideal Cert.Kernel15Ideal.Gen Cert.Common
open Idealize.ShloMosaic Idealize.ShloMosaic.TcCoe

/-- The maxima after the tile. -/
theorem max_B (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
    (xa2 : Buf (Elt Ideal) ((c : Thread nD τ).loc cc0_scratch2)) (h1) (h2) (h3) :
    (kernelRun0_B c i arg3 harg3 arg4 harg4 arg5 harg5 arg6 harg6 arg7 harg7 arg8 harg8 T0 T1 x0 x1 x2 x3 xa2 h1 h2 h3).1 =
      scM0_0.view.writes (Elt Ideal) scM0_0.view.junk (mL (fun h => mOutT (scT (slabQ x1 (128 * h)) (slabQ x0 (128 * h))) (slabM (k0_pay1 (F := Ideal)) h)) ++ [⟨Rect.unit (s := S8x8x512) ![0, 0, 0] S8x8x512.size inb_S8x8x512_S8x8x512_0_0_0, (k0_pay1 (F := Ideal))⟩]) := by
  unfold kernelRun0_B
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

/-- The sums after the tile. -/
theorem sums_B (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
    (xa2 : Buf (Elt Ideal) ((c : Thread nD τ).loc cc0_scratch2)) (h1) (h2) (h3) :
    (kernelRun0_B c i arg3 harg3 arg4 harg4 arg5 harg5 arg6 harg6 arg7 harg7 arg8 harg8 T0 T1 x0 x1 x2 x3 xa2 h1 h2 h3).2.1 =
      scM0_1.view.writes (Elt Ideal) scM0_1.view.junk (accL (fun h => accT (scT (slabQ x1 (128 * h)) (slabQ x0 (128 * h))) (slabM (k0_pay1 (F := Ideal)) h) (slabA (k0_pay2 (F := Ideal)) h) (slabV x2 (128 * h))) ++ [⟨Rect.unit (s := S8x128x512) ![0, 0, 0] S8x128x512.size inb_S8x128x512_S8x128x512_0_0_0, (k0_pay2 (F := Ideal))⟩]) := by
  unfold kernelRun0_B
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

end Cert.Attn

end
-- ==== Proof.Step.AttnPathC.lean ====
/- The last tile of a later row: the diagonal. -/
module

public import proofs.«01_k».proof.Proof.Gen.Kernel15Ideal.Flash.Runs
public import proofs.«01_k».proof.Proof.Step.AttnTile
public import Idealize.ShloMosaic.Lib.Pipeline.ValueKit.Acc

@[expose] public section

set_option maxHeartbeats 400000
set_option maxRecDepth 100000

noncomputable section

namespace Cert.Attn

open Cert.Kernel15Ideal Cert.Kernel15Ideal.Gen Cert.Common
open Idealize.ShloMosaic Idealize.ShloMosaic.TcCoe

/-- The maxima after the tile. -/
theorem max_C (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
    (xa0 : Buf (Elt Ideal) ((c : Thread nD τ).loc cc0_scratch0)) (xa1 : Buf (Elt Ideal) ((c : Thread nD τ).loc cc0_scratch1)) (h1) (h2) (h3) :
    (kernelRun0_C c i arg3 harg3 arg4 harg4 arg5 harg5 arg6 harg6 arg7 harg7 arg8 harg8 T0 T1 x0 x1 x2 x3 xa0 xa1 h1 h2 h3).2.2.1 =
      scM0_0.view.writes (Elt Ideal) scM0_0.view.junk (mL (fun h => mOutT (mskT (scT (slabQ x1 (128 * h)) (slabQ x0 (128 * h)))) (slabM xa0 h))) := by
  unfold kernelRun0_C
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

/-- The sums after the tile. -/
theorem sums_C (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
    (xa0 : Buf (Elt Ideal) ((c : Thread nD τ).loc cc0_scratch0)) (xa1 : Buf (Elt Ideal) ((c : Thread nD τ).loc cc0_scratch1)) (h1) (h2) (h3) :
    (kernelRun0_C c i arg3 harg3 arg4 harg4 arg5 harg5 arg6 harg6 arg7 harg7 arg8 harg8 T0 T1 x0 x1 x2 x3 xa0 xa1 h1 h2 h3).2.2.2.1 =
      scM0_1.view.writes (Elt Ideal) scM0_1.view.junk (accL (fun h => accT (mskT (scT (slabQ x1 (128 * h)) (slabQ x0 (128 * h)))) (slabM xa0 h) (slabA xa1 h) (slabV x2 (128 * h)))) := by
  unfold kernelRun0_C
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

/-- The output of the row. -/
theorem out_C (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
    (xa0 : Buf (Elt Ideal) ((c : Thread nD τ).loc cc0_scratch0)) (xa1 : Buf (Elt Ideal) ((c : Thread nD τ).loc cc0_scratch1)) (h1) (h2) (h3) :
    (kernelRun0_C c i arg3 harg3 arg4 harg4 arg5 harg5 arg6 harg6 arg7 harg7 arg8 harg8 T0 T1 x0 x1 x2 x3 xa0 xa1 h1 h2 h3).1 =
      [⟨Rect.unit (s := S512x512) ![0, 0] S512x512.size inb_S512x512_S512x512_0_0, k0_pay166 (scM0_2.view.readCov (otL (fun h => otT (accT (mskT (scT (slabQ x1 (128 * h)) (slabQ x0 (128 * h)))) (slabM xa0 h) (slabA xa1 h) (slabV x2 (128 * h))))) (Rect.unit (s := S1024x512) ![0, 0] S1024x512.size inb_S1024x512_S1024x512_0_0).toLoadRect) x3⟩] := by
  unfold kernelRun0_C
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

/-- The logarithms of the row. -/
theorem lse_C (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
    (xa0 : Buf (Elt Ideal) ((c : Thread nD τ).loc cc0_scratch0)) (xa1 : Buf (Elt Ideal) ((c : Thread nD τ).loc cc0_scratch1)) (h1) (h2) (h3) :
    (kernelRun0_C c i arg3 harg3 arg4 harg4 arg5 harg5 arg6 harg6 arg7 harg7 arg8 harg8 T0 T1 x0 x1 x2 x3 xa0 xa1 h1 h2 h3).2.1 =
      lseL (fun h => lseT (accT (mskT (scT (slabQ x1 (128 * h)) (slabQ x0 (128 * h)))) (slabM xa0 h) (slabA xa1 h) (slabV x2 (128 * h))) (mOutT (mskT (scT (slabQ x1 (128 * h)) (slabQ x0 (128 * h)))) (slabM xa0 h))) ++ [⟨Rect.unit (s := S16x512) ![0, 0] S16x512.size inb_S16x512_S16x512_0_0, (k0_pay129 (F := Ideal))⟩] := by
  unfold kernelRun0_C
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

end Cert.Attn

end
-- ==== Proof.Step.AttnPathD.lean ====
/- A tile within a row. -/
module

public import proofs.«01_k».proof.Proof.Gen.Kernel15Ideal.Flash.Runs
public import proofs.«01_k».proof.Proof.Step.AttnTile
public import Idealize.ShloMosaic.Lib.Pipeline.ValueKit.Acc

@[expose] public section

set_option maxHeartbeats 400000
set_option maxRecDepth 100000

noncomputable section

namespace Cert.Attn

open Cert.Kernel15Ideal Cert.Kernel15Ideal.Gen Cert.Common
open Idealize.ShloMosaic Idealize.ShloMosaic.TcCoe

/-- The maxima after the tile. -/
theorem max_D (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (h1) (h2) (h3) :
    (kernelRun0_D c i arg3 harg3 arg4 harg4 arg5 harg5 arg6 harg6 arg7 harg7 arg8 harg8 T0 T1 x0 x1 x2 x3 xa0 xa1 xa2 h1 h2 h3).1 =
      scM0_0.view.writes (Elt Ideal) scM0_0.view.junk (mL (fun h => mOutT (scT (slabQ x1 (128 * h)) (slabQ x0 (128 * h))) (slabM xa0 h))) := by
  unfold kernelRun0_D
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

/-- The sums after the tile. -/
theorem sums_D (c : Dev nD) (i : grid0.Coords) (arg3 : Memref sig .tc .vmem S512x1024 .bf16) (harg3 : arg3.IsWhole)
    (arg4 : Memref sig .tc .vmem S512x1024 .bf16) (harg4 : arg4.IsWhole) (arg5 : Memref sig .tc .vmem S1x1024x512 .bf16) (harg5 : arg5.IsWhole)
    (arg6 : Memref sig .tc .vmem S1024x512 .bf16) (harg6 : arg6.IsWhole) (arg7 : Memref sig .tc .vmem S512x512 .bf16) (harg7 : arg7.IsWhole)
    (arg8 : Memref sig .tc .vmem S16x512 .f32) (harg8 : arg8.IsWhole) (T0 T1 : S136.Idx → Elt Ideal .i32)
    (x0 x1 : S512x1024.Idx → Elt Ideal .bf16) (x2 : S1x1024x512.Idx → Elt Ideal .bf16) (x3 : S1024x512.Idx → Elt Ideal .bf16)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (h1) (h2) (h3) :
    (kernelRun0_D c i arg3 harg3 arg4 harg4 arg5 harg5 arg6 harg6 arg7 harg7 arg8 harg8 T0 T1 x0 x1 x2 x3 xa0 xa1 xa2 h1 h2 h3).2.1 =
      scM0_1.view.writes (Elt Ideal) scM0_1.view.junk (accL (fun h => accT (scT (slabQ x1 (128 * h)) (slabQ x0 (128 * h))) (slabM xa0 h) (slabA xa1 h) (slabV x2 (128 * h)))) := by
  unfold kernelRun0_D
  sl_unfold_words
  simp (disch := decide) only [↓View.readCov_skip, ↓View.readCov_cons_toLoadRect, ↓View.readCov_fill]
  simp only [View.readAt_eq_ld, View.read_rep,
    View.read_whole, Memref.view_whole, ld_q, ld_v, ld_m, ld_a, ld_p]
  rfl

end Cert.Attn

end
-- ==== Proof.Step.AttnTraj.lean ====
/- The attention forward along its grid: the maxima and sums after every point, and what the last point of a row writes. -/
module

public import proofs.«01_k».proof.Proof.Step.AttnState
public import proofs.«01_k».proof.Proof.Step.AttnDefs
public import proofs.«01_k».proof.Proof.Step.AttnCtl
public import proofs.«01_k».proof.Proof.Step.AttnPathA
public import proofs.«01_k».proof.Proof.Step.AttnPathB
public import proofs.«01_k».proof.Proof.Step.AttnPathC
public import proofs.«01_k».proof.Proof.Step.AttnPathD

@[expose] public section

set_option maxHeartbeats 400000
set_option maxRecDepth 100000

noncomputable section

namespace Cert.Attn

open Cert.Kernel15Ideal Cert.Kernel15Ideal.Gen Cert.Common
open Idealize.ShloMosaic Idealize.ShloMosaic.TcCoe Idealize.SL.Sem

section tile
variable (Q K : S8192x1024.Idx → EReal) (q k : ℕ) (x0 x1 : S512x1024.Idx → EReal)
  (e0 : ∀ j, x0 j = at2 Q (512 * q + (j 0).val) (j 1).val) (e1 : ∀ j, x1 j = at2 K (512 * k + (j 0).val) (j 1).val)

include e0 e1 in
theorem sc_eq (h a i : ℕ) (hh : h < 8) (ha : a < 512) (hi : i < 512) :
    at2 (scT (slabQ x1 (128 * h)) (slabQ x0 (128 * h))) a i = eS Q K h (512 * q + i) (512 * k + a) := by
  refine (at2_of_val _ (ix2 (⟨a, ha⟩ : Fin 512) (⟨i, hi⟩ : Fin 512)) a i rfl rfl).symm.trans ?_
  refine (scT_apply _ _ _ _).trans ?_
  unfold eS
  refine Finset.sum_congr rfl fun l _ => ?_
  have hl := l.isLt
  refine congrArg₂ (· * ·) ?_ ?_
  · exact (at2_of_val x1 (ix2 (⟨a, ha⟩ : Fin 512) (⟨128 * h + l.val, by omega⟩ : Fin 1024)) a (128 * h + l.val) rfl rfl).symm.trans (e1 _)
  · exact (at2_of_val x0 (ix2 (⟨i, hi⟩ : Fin 512) (⟨128 * h + l.val, by omega⟩ : Fin 1024)) i (128 * h + l.val) rfl rfl).symm.trans (e0 _)

include e0 e1 in
theorem sc_low (hkq : k < q) (h i a : ℕ) (hh : h < 8) (hi : i < 512) (ha : a < 512) :
    at2 (scT (slabQ x1 (128 * h)) (slabQ x0 (128 * h))) a i = eT Q K h (512 * q + i) (512 * k + a) := by
  rw [sc_eq Q K q k x0 x1 e0 e1 h a i hh ha hi]
  unfold eT
  rw [if_pos (by omega)]

include e0 e1 in
theorem sc_diag (hkq : k = q) (h i a : ℕ) (hh : h < 8) (hi : i < 512) (ha : a < 512) :
    at2 (mskT (scT (slabQ x1 (128 * h)) (slabQ x0 (128 * h)))) a i = eT Q K h (512 * q + i) (512 * k + a) := by
  refine (at2_of_val _ (ix2 (⟨a, ha⟩ : Fin 512) (⟨i, hi⟩ : Fin 512)) a i rfl rfl).symm.trans ?_
  refine (mskT_apply _ _ _).trans ?_
  unfold eT
  by_cases hc : a ≤ i
  · refine (if_pos hc).trans (Eq.trans ?_ (if_pos (by omega)).symm)
    exact (at2_of_val _ (ix2 (⟨a, ha⟩ : Fin 512) (⟨i, hi⟩ : Fin 512)) a i rfl rfl).trans (sc_eq Q K q k x0 x1 e0 e1 h a i hh ha hi)
  · exact (if_neg hc).trans (if_neg (by omega)).symm

end tile

theorem v_eq (X : S16x1024x512.Idx → EReal) (k : ℕ) (x2 : S1x1024x512.Idx → EReal) (e2 : ∀ j, x2 j = at3 X k (j 1).val (j 2).val)
    (h r a : ℕ) (hh : h < 8) (hr : r < 128) (ha : a < 512) : at3 x2 0 (128 * h + r) a = vT X h r (512 * k + a) := by
  refine (at3_of_val x2 (ix3 (0 : Fin 1) (⟨128 * h + r, by omega⟩ : Fin 1024) (⟨a, ha⟩ : Fin 512)) 0 (128 * h + r) a rfl rfl rfl).symm.trans ?_
  refine (e2 _).trans ?_
  unfold vT
  rw [show (512 * k + a) / 512 = k by omega, show (512 * k + a) % 512 = a by omega]
  rfl

theorem buf0 (L : List (View.Piece (Elt Ideal) S8x8x512 .f32)) :
    (scM0_0.view.writes (Elt Ideal) scM0_0.view.junk L : S8x8x512.Idx → EReal) = View.canon L :=
  funext fun y => View.read_writes_junk_apply_eq_canon scM0_0.view y L

theorem buf1 (L : List (View.Piece (Elt Ideal) S8x128x512 .f32)) :
    (scM0_1.view.writes (Elt Ideal) scM0_1.view.junk L : S8x128x512.Idx → EReal) = View.canon L :=
  funext fun y => View.read_writes_junk_apply_eq_canon scM0_1.view y L

variable (m : (ℓ : Loc nD τ sig) → Buf (Elt Ideal) ℓ) (ρ : Dev nD → PrngReg)

abbrev X0 (c : Dev nD) (t : Fin (cfgA ch0).N) : S512x1024.Idx → EReal := iblk ch0 m ρ c (0 : Fin 6) t
abbrev X1 (c : Dev nD) (t : Fin (cfgA ch0).N) : S512x1024.Idx → EReal := iblk ch0 m ρ c (1 : Fin 6) t
abbrev X2 (c : Dev nD) (t : Fin (cfgA ch0).N) : S1x1024x512.Idx → EReal := iblk ch0 m ρ c (2 : Fin 6) t
abbrev X3 (c : Dev nD) (t : Fin (cfgA ch0).N) : S1024x512.Idx → EReal := iblk ch0 m ρ c (3 : Fin 6) t

/-- The maxima after a point. -/
abbrev tM (c : Dev nD) (t : Fin (cfgA ch0).N) : S8x8x512.Idx → EReal := (traj0 ch0 m ρ c t.val t.isLt).2.2.1
/-- The sums after a point. -/
abbrev tA (c : Dev nD) (t : Fin (cfgA ch0).N) : S8x128x512.Idx → EReal := (traj0 ch0 m ρ c t.val t.isLt).2.2.2.1
/-- The maxima before a point. -/
abbrev pM (c : Dev nD) (t : Fin (cfgA ch0).N) : S8x8x512.Idx → EReal := (prev0 ch0 m ρ c t).2.2.1
/-- The sums before a point. -/
abbrev pA (c : Dev nD) (t : Fin (cfgA ch0).N) : S8x128x512.Idx → EReal := (prev0 ch0 m ρ c t).2.2.2.1
/-- The output's block after a point. -/
abbrev tO (c : Dev nD) (t : Fin (cfgA ch0).N) : S512x512.Idx → EReal := (traj0 ch0 m ρ c t.val t.isLt).1
/-- The block of the row statistics after a point. -/
abbrev tL (c : Dev nD) (t : Fin (cfgA ch0).N) : S16x512.Idx → EReal := (traj0 ch0 m ρ c t.val t.isLt).2.1

/-- The scores of a point's tile. -/
abbrev stU (c : Dev nD) (t : Fin (cfgA ch0).N) (h : ℕ) : S512x512.Idx → EReal := scT (slabQ (X1 m ρ c t) (128 * h)) (slabQ (X0 m ρ c t) (128 * h))
/-- The scores of a point's tile, masked. -/
abbrev stM (c : Dev nD) (t : Fin (cfgA ch0).N) (h : ℕ) : S512x512.Idx → EReal := mskT (stU m ρ c t h)

/-- A point updates the maxima `M` and the sums `A` with the scores `st`. -/
def Upd (c : Dev nD) (t : Fin (cfgA ch0).N) (st : ℕ → S512x512.Idx → EReal) (M : S8x8x512.Idx → EReal) (A : S8x128x512.Idx → EReal) : Prop :=
  (∃ L', tM m ρ c t = View.canon (mL (mNew st M) ++ L')) ∧ (∃ L'', tA m ρ c t = View.canon (accL (aNew st (X2 m ρ c t) M A) ++ L''))

/-- A point writes out the row's results. -/
def Fin' (c : Dev nD) (t : Fin (cfgA ch0).N) (st : ℕ → S512x512.Idx → EReal) (M : S8x8x512.Idx → EReal) (A : S8x128x512.Idx → EReal) : Prop :=
  (tO m ρ c t = k0_pay166 (F := Ideal) (scM0_2.view.readCov (otL (fun h => otT (aNew st (X2 m ρ c t) M A h)))
      (Rect.unit (s := S1024x512) ![0, 0] S1024x512.size inb_S1024x512_S1024x512_0_0).toLoadRect) (X3 m ρ c t)) ∧
  (tL m ρ c t = View.canon (lseL (fun h => lseT (aNew st (X2 m ρ c t) M A h) (mNew st M h)) ++
      [⟨Rect.unit ![0, 0] S16x512.size inb_S16x512_S16x512_0_0, k0_pay129 (F := Ideal)⟩]))

theorem hz00 : (![0, 0] : Fin 2 → ℕ) = fun _ => 0 := funext fun a => by fin_cases a <;> rfl

theorem upd_A (c : Dev nD) (t : Fin (cfgA ch0).N) (q0 : P0_0 ch0 t) (q1 : ¬P0_1 ch0 t) : Upd m ρ c t (stM m ρ c t) (k0_pay1 (F := Ideal)) (k0_pay2 (F := Ideal)) := by
  refine ⟨?_, ?_⟩
  · have e := congrArg (fun x => x.2.2.1) ((traj0_eq ch0 m ρ c t).trans (step0_A ch0 m ρ c t _ q0 q1))
    dsimp only at e
    have e' := e.trans (max_A c (crd ch0 t) _ _ _ _ _ _ _ _ _ _ _ _ (pinT_0 ch0) (pinT_1 ch0) (X0 m ρ c t) (X1 m ρ c t) (X2 m ρ c t) (X3 m ρ c t) _ _ _)
    rw [show tM m ρ c t = _ from e']
    exact ⟨_, buf0 _⟩
  · have e := congrArg (fun x => x.2.2.2.1) ((traj0_eq ch0 m ρ c t).trans (step0_A ch0 m ρ c t _ q0 q1))
    dsimp only at e
    have e' := e.trans (sums_A c (crd ch0 t) _ _ _ _ _ _ _ _ _ _ _ _ (pinT_0 ch0) (pinT_1 ch0) (X0 m ρ c t) (X1 m ρ c t) (X2 m ρ c t) (X3 m ρ c t) _ _ _)
    rw [show tA m ρ c t = _ from e']
    exact ⟨_, buf1 _⟩

theorem fin_A (c : Dev nD) (t : Fin (cfgA ch0).N) (q0 : P0_0 ch0 t) (q1 : ¬P0_1 ch0 t) : Fin' m ρ c t (stM m ρ c t) (k0_pay1 (F := Ideal)) (k0_pay2 (F := Ideal)) := by
  refine ⟨?_, ?_⟩
  · have e := congrArg (fun x => x.1) ((traj0_eq ch0 m ρ c t).trans (step0_A ch0 m ρ c t _ q0 q1))
    dsimp only at e
    rw [show tO m ρ c t = _ from e]
    refine (funext fun y => View.read_writes_junk_apply_eq_canon VO0_4 y _).trans ?_
    refine (congrArg View.canon (out_A c (crd ch0 t) _ _ _ _ _ _ _ _ _ _ _ _ (pinT_0 ch0) (pinT_1 ch0) (X0 m ρ c t) (X1 m ρ c t) (X2 m ρ c t) (X3 m ρ c t) _ _ _)).trans ?_
    exact View.canon_unit_zero hz00 _ _
  · have e := congrArg (fun x => x.2.1) ((traj0_eq ch0 m ρ c t).trans (step0_A ch0 m ρ c t _ q0 q1))
    dsimp only at e
    rw [show tL m ρ c t = _ from e]
    refine (funext fun y => View.read_writes_junk_apply_eq_canon VO0_5 y _).trans ?_
    exact congrArg View.canon (lse_A c (crd ch0 t) _ _ _ _ _ _ _ _ _ _ _ _ (pinT_0 ch0) (pinT_1 ch0) (X0 m ρ c t) (X1 m ρ c t) (X2 m ρ c t) (X3 m ρ c t) _ _ _)

theorem upd_B (c : Dev nD) (t : Fin (cfgA ch0).N) (q0 : P0_0 ch0 t) (q1 : P0_1 ch0 t) : Upd m ρ c t (stU m ρ c t) (k0_pay1 (F := Ideal)) (k0_pay2 (F := Ideal)) := by
  refine ⟨?_, ?_⟩
  · have e := congrArg (fun x => x.2.2.1) ((traj0_eq ch0 m ρ c t).trans (step0_B ch0 m ρ c t _ q0 q1))
    dsimp only at e
    have e' := e.trans (max_B c (crd ch0 t) _ _ _ _ _ _ _ _ _ _ _ _ (pinT_0 ch0) (pinT_1 ch0) (X0 m ρ c t) (X1 m ρ c t) (X2 m ρ c t) (X3 m ρ c t) _ _ _ _)
    rw [show tM m ρ c t = _ from e']
    exact ⟨_, buf0 _⟩
  · have e := congrArg (fun x => x.2.2.2.1) ((traj0_eq ch0 m ρ c t).trans (step0_B ch0 m ρ c t _ q0 q1))
    dsimp only at e
    have e' := e.trans (sums_B c (crd ch0 t) _ _ _ _ _ _ _ _ _ _ _ _ (pinT_0 ch0) (pinT_1 ch0) (X0 m ρ c t) (X1 m ρ c t) (X2 m ρ c t) (X3 m ρ c t) _ _ _ _)
    rw [show tA m ρ c t = _ from e']
    exact ⟨_, buf1 _⟩

theorem upd_C (c : Dev nD) (t : Fin (cfgA ch0).N) (q0 : ¬P0_0 ch0 t) (q1 : ¬P0_1 ch0 t) : Upd m ρ c t (stM m ρ c t) (pM m ρ c t) (pA m ρ c t) := by
  refine ⟨?_, ?_⟩
  · have e := congrArg (fun x => x.2.2.1) ((traj0_eq ch0 m ρ c t).trans (step0_C ch0 m ρ c t _ q0 q1))
    dsimp only at e
    have e' := e.trans (max_C c (crd ch0 t) _ _ _ _ _ _ _ _ _ _ _ _ (pinT_0 ch0) (pinT_1 ch0) (X0 m ρ c t) (X1 m ρ c t) (X2 m ρ c t) (X3 m ρ c t) _ _ _ _ _)
    rw [show tM m ρ c t = _ from e']
    exact ⟨[], (buf0 _).trans (congrArg View.canon (List.append_nil _).symm)⟩
  · have e := congrArg (fun x => x.2.2.2.1) ((traj0_eq ch0 m ρ c t).trans (step0_C ch0 m ρ c t _ q0 q1))
    dsimp only at e
    have e' := e.trans (sums_C c (crd ch0 t) _ _ _ _ _ _ _ _ _ _ _ _ (pinT_0 ch0) (pinT_1 ch0) (X0 m ρ c t) (X1 m ρ c t) (X2 m ρ c t) (X3 m ρ c t) _ _ _ _ _)
    rw [show tA m ρ c t = _ from e']
    exact ⟨[], (buf1 _).trans (congrArg View.canon (List.append_nil _).symm)⟩

theorem fin_C (c : Dev nD) (t : Fin (cfgA ch0).N) (q0 : ¬P0_0 ch0 t) (q1 : ¬P0_1 ch0 t) : Fin' m ρ c t (stM m ρ c t) (pM m ρ c t) (pA m ρ c t) := by
  refine ⟨?_, ?_⟩
  · have e := congrArg (fun x => x.1) ((traj0_eq ch0 m ρ c t).trans (step0_C ch0 m ρ c t _ q0 q1))
    dsimp only at e
    rw [show tO m ρ c t = _ from e]
    refine (funext fun y => View.read_writes_junk_apply_eq_canon VO0_4 y _).trans ?_
    refine (congrArg View.canon (out_C c (crd ch0 t) _ _ _ _ _ _ _ _ _ _ _ _ (pinT_0 ch0) (pinT_1 ch0) (X0 m ρ c t) (X1 m ρ c t) (X2 m ρ c t) (X3 m ρ c t) _ _ _ _ _)).trans ?_
    exact View.canon_unit_zero hz00 _ _
  · have e := congrArg (fun x => x.2.1) ((traj0_eq ch0 m ρ c t).trans (step0_C ch0 m ρ c t _ q0 q1))
    dsimp only at e
    rw [show tL m ρ c t = _ from e]
    refine (funext fun y => View.read_writes_junk_apply_eq_canon VO0_5 y _).trans ?_
    exact congrArg View.canon (lse_C c (crd ch0 t) _ _ _ _ _ _ _ _ _ _ _ _ (pinT_0 ch0) (pinT_1 ch0) (X0 m ρ c t) (X1 m ρ c t) (X2 m ρ c t) (X3 m ρ c t) _ _ _ _ _)

theorem upd_D (c : Dev nD) (t : Fin (cfgA ch0).N) (q0 : ¬P0_0 ch0 t) (q1 : P0_1 ch0 t) : Upd m ρ c t (stU m ρ c t) (pM m ρ c t) (pA m ρ c t) := by
  refine ⟨?_, ?_⟩
  · have e := congrArg (fun x => x.2.2.1) ((traj0_eq ch0 m ρ c t).trans (step0_D ch0 m ρ c t _ q0 q1))
    dsimp only at e
    have e' := e.trans (max_D c (crd ch0 t) _ _ _ _ _ _ _ _ _ _ _ _ (pinT_0 ch0) (pinT_1 ch0) (X0 m ρ c t) (X1 m ρ c t) (X2 m ρ c t) (X3 m ρ c t) _ _ _ _ _ _)
    rw [show tM m ρ c t = _ from e']
    exact ⟨[], (buf0 _).trans (congrArg View.canon (List.append_nil _).symm)⟩
  · have e := congrArg (fun x => x.2.2.2.1) ((traj0_eq ch0 m ρ c t).trans (step0_D ch0 m ρ c t _ q0 q1))
    dsimp only at e
    have e' := e.trans (sums_D c (crd ch0 t) _ _ _ _ _ _ _ _ _ _ _ _ (pinT_0 ch0) (pinT_1 ch0) (X0 m ρ c t) (X1 m ρ c t) (X2 m ρ c t) (X3 m ρ c t) _ _ _ _ _ _)
    rw [show tA m ρ c t = _ from e']
    exact ⟨[], (buf1 _).trans (congrArg View.canon (List.append_nil _).symm)⟩

section
variable (c : Dev nD) (hQ : ∀ i j, ∃ z : ℝ, at2 (gQ m c) i j = z) (hK : ∀ i j, ∃ z : ℝ, at2 (gK m c) i j = z)

/-- The scores of a row of blocks. -/
abbrev eB (t : Fin (cfgA ch0).N) (h i : ℕ) : ℕ → EReal := eT (gQ m c) (gK m c) h (512 * qN t + i)

/-- Before every point but the first of a row, the maxima and sums are those of the keys so far. -/
def Before (t : Fin (cfgA ch0).N) : Prop := kN t ≠ 0 → Good (eB m c t) (vT (gV m c)) (512 * kN t) (pM m ρ c t) (pA m ρ c t)

/-- What a point starts from and does. -/
def Does (t : Fin (cfgA ch0).N) : Prop := ∃ st M A, (∀ h i k, h < 8 → i < 512 → k < 512 → at2 (st h) k i = eB m c t h i (512 * kN t + k)) ∧
  Good (eB m c t) (vT (gV m c)) (512 * kN t) M A ∧ Upd m ρ c t st M A ∧ (kN t = qN t → Fin' m ρ c t st M A)

theorem does (t : Fin (cfgA ch0).N) (hb : Before m ρ c t) : Does m ρ c t := by
  obtain ⟨-, -, -, -, -, -, hkq, -⟩ := ctl1 t
  obtain ⟨c0, c1⟩ := ctl2 t
  have d := fun (h : kN t = qN t) => sc_diag (gQ m c) (gK m c) (qN t) (kN t) (X0 m ρ c t) (X1 m ρ c t) (iblk0 m ρ c t) (iblk1 m ρ c t) h
  have l := fun (h : kN t < qN t) => sc_low (gQ m c) (gK m c) (qN t) (kN t) (X0 m ρ c t) (X1 m ρ c t) (iblk0 m ρ c t) (iblk1 m ρ c t) h
  by_cases q0 : P0_0 ch0 t
  · have hk : kN t = 0 := c0.mp q0
    have hg : Good (eB m c t) (vT (gV m c)) (512 * kN t) (k0_pay1 (F := Ideal)) (k0_pay2 (F := Ideal)) := by
      rw [hk]; exact good_zero _ _
    by_cases q1 : P0_1 ch0 t
    · have hq : kN t < qN t := c1.mp q1
      exact ⟨_, _, _, l hq, hg, upd_B m ρ c t q0 q1, fun h => absurd h (by omega)⟩
    · have hq : kN t = qN t := by have : ¬ kN t < qN t := fun h => q1 (c1.mpr h); omega
      exact ⟨_, _, _, d hq, hg, upd_A m ρ c t q0 q1, fun _ => fin_A m ρ c t q0 q1⟩
  · have hk : kN t ≠ 0 := fun h => q0 (c0.mpr h)
    by_cases q1 : P0_1 ch0 t
    · have hq : kN t < qN t := c1.mp q1
      exact ⟨_, _, _, l hq, hb hk, upd_D m ρ c t q0 q1, fun h => absurd h (by omega)⟩
    · have hq : kN t = qN t := by have : ¬ kN t < qN t := fun h => q1 (c1.mpr h); omega
      exact ⟨_, _, _, d hq, hb hk, upd_C m ρ c t q0 q1, fun _ => fin_C m ρ c t q0 q1⟩

include hQ hK in
theorem after (t : Fin (cfgA ch0).N) (hd : Does m ρ c t) : Good (eB m c t) (vT (gV m c)) (512 * kN t + 512) (tM m ρ c t) (tA m ρ c t) := by
  obtain ⟨st, M, A, hst, hg, ⟨⟨L', h0⟩, ⟨L'', h1⟩⟩, -⟩ := hd
  rw [h0, h1]
  exact good_step (eB m c t) (vT (gV m c)) (512 * kN t) (fun h i j => eT_ne_top _ _ hQ hK _ _ _) (fun h i _ _ => eT_sup _ _ hQ hK _ _ _ (by omega)) st hst
    (X2 m ρ c t) (v_eq (gV m c) (kN t) (X2 m ρ c t) (iblk2 m ρ c t)) M A hg L' L''

include hQ hK in
theorem before_all : ∀ n (hn : n < (cfgA ch0).N), Before m ρ c ⟨n, hn⟩
  | 0, hn => fun h => absurd ctl5 h
  | n + 1, hn => fun h => by
    have hN : (cfgA ch0).N = 136 := rfl
    have hn' : n < (cfgA ch0).N := by omega
    obtain ⟨a, b⟩ := ctl4 ⟨n, by omega⟩ h
    have ih := after m ρ c hQ hK ⟨n, hn'⟩ (does m ρ c _ (before_all n hn'))
    have e : prev0 ch0 m ρ c ⟨n + 1, hn⟩ = traj0 ch0 m ρ c n hn' := by
      unfold prev0
      exact dif_neg (Nat.succ_ne_zero n)
    have e0 : pM m ρ c ⟨n + 1, hn⟩ = tM m ρ c ⟨n, hn'⟩ := congrArg (fun x => x.2.2.1) e
    have e1 : pA m ρ c ⟨n + 1, hn⟩ = tA m ρ c ⟨n, hn'⟩ := congrArg (fun x => x.2.2.2.1) e
    rw [e0, e1, show 512 * kN ⟨n + 1, hn⟩ = 512 * kN ⟨n, hn'⟩ + 512 by rw [← b]; rfl]
    have ee : eB m c ⟨n + 1, hn⟩ = eB m c ⟨n, hn'⟩ := by
      funext h i
      show eT _ _ h (512 * qN ⟨n + 1, hn⟩ + i) = eT _ _ h (512 * qN ⟨n, hn'⟩ + i)
      exact congrArg (fun z => eT (gQ m c) (gK m c) h (512 * z + i)) a.symm
    rw [ee]
    exact ih

theorem sup_row (Q K : S8192x1024.Idx → EReal) (h r n : ℕ) (hr : r < n) (hn : n ≤ 8192) : (Finset.range n).sup (eT Q K h r) = supR Q K h r :=
  (sup_extend (eT Q K h r) n 8192 hn fun j hj => by unfold eT; rw [if_neg (by omega)]).symm

theorem num_row (Q K : S8192x1024.Idx → EReal) (X : S16x1024x512.Idx → EReal) (q h d i n : ℕ) (hr : 512 * q + i < n) (hn : n ≤ 8192) :
    num (fun h i => eT Q K h (512 * q + i)) (vT X) n h d i = numR Q K X h d (512 * q + i) := by
  unfold num numR
  beta_reduce
  rw [sup_row Q K h (512 * q + i) n hr hn]
  exact (sum_extend (eT Q K h (512 * q + i)) (vT X h d) _ n 8192 hn fun j hj => by unfold eT; rw [if_neg (by omega)]).symm

include hQ hK in
theorem out_last (t : Fin (cfgA ch0).N) (hl : kN t = qN t) (y : S512x512.Idx) :
    tO m ρ c t y = outR (gQ m c) (gK m c) (gV m c) (gP m c) (512 * qN t + (y 0).val) (y 1).val := by
  obtain ⟨-, -, -, -, -, -, -, hq⟩ := ctl1 t
  obtain ⟨st, M, A, hst, hg, -, hf⟩ := does m ρ c t (before_all m ρ c hQ hK t.val t.isLt)
  have h0 : (y 0).val < 512 := (y 0).isLt
  have h1 : (y 1).val < 512 := (y 1).isLt
  obtain ⟨o, -⟩ := hf hl
  have ey : y = ix2 (⟨(y 0).val, h0⟩ : Fin 512) (⟨(y 1).val, h1⟩ : Fin 512) := by
    funext a; match a with | ⟨0, _⟩ => rfl | ⟨1, _⟩ => rfl
  have o' := (congrFun o (ix2 (⟨(y 0).val, h0⟩ : Fin 512) (⟨(y 1).val, h1⟩ : Fin 512))).trans
    (fin_out (eB m c t) (vT (gV m c)) (512 * kN t) (fun h i j => eT_ne_top _ _ hQ hK _ _ _) (fun h i _ _ => eT_sup _ _ hQ hK _ _ _ (by omega)) st hst
    (X2 m ρ c t) (v_eq (gV m c) (kN t) (X2 m ρ c t) (iblk2 m ρ c t)) M A hg (X3 m ρ c t) ⟨(y 0).val, h0⟩ ⟨(y 1).val, h1⟩)
  refine ((congrArg (tO m ρ c t) ey).trans o').trans ?_
  unfold outR
  refine Finset.sum_congr rfl fun e _ => congrArg₂ (· * ·) (congrArg₂ Ideal.div ?_ ?_) ?_
  · exact num_row _ _ _ _ _ _ _ _ (by show 512 * qN t + (y 0).val < _; omega) (by omega)
  · exact num_row _ _ _ _ _ _ _ _ (by show 512 * qN t + (y 0).val < _; omega) (by omega)
  · exact (at2_of_val (X3 m ρ c t) (ix2 e (⟨(y 1).val, h1⟩ : Fin 512)) e.val (y 1).val rfl rfl).symm.trans (iblk3 m ρ c t _)

theorem zero_rows : (k0_pay129 (F := Ideal) : S16x512.Idx → EReal) = fun _ => 0 := by
  funext j
  unfold k0_pay129
  show Ideal.ofBits .f32 0x00000000#32 = 0
  simp [Ideal.ofBits, Ideal.ieee]

include hQ hK in
theorem lse_last (t : Fin (cfgA ch0).N) (hl : kN t = qN t) (y : S16x512.Idx) :
    tL m ρ c t y = lseR (gQ m c) (gK m c) (gV m c) (y 0).val (512 * qN t + (y 1).val) := by
  obtain ⟨-, -, -, -, -, -, -, hq⟩ := ctl1 t
  obtain ⟨st, M, A, hst, hg, -, hf⟩ := does m ρ c t (before_all m ρ c hQ hK t.val t.isLt)
  have h0 : (y 0).val < 16 := (y 0).isLt
  have h1 : (y 1).val < 512 := (y 1).isLt
  obtain ⟨-, o⟩ := hf hl
  unfold lseR
  by_cases h8 : (y 0).val < 8
  · rw [if_pos h8]
    have o' := fin_lse (eB m c t) (vT (gV m c)) (512 * kN t) (fun h i j => eT_ne_top _ _ hQ hK _ _ _) (fun h i _ _ => eT_sup _ _ hQ hK _ _ _ (by omega)) st hst
      (X2 m ρ c t) (v_eq (gV m c) (kN t) (X2 m ρ c t) (iblk2 m ρ c t)) M A hg
      [⟨Rect.unit ![0, 0] S16x512.size inb_S16x512_S16x512_0_0, k0_pay129 (F := Ideal)⟩] (y 0).val (y 1).val h8 h1
    refine (congrFun o y).trans ((at2_of_val _ y (y 0).val (y 1).val rfl rfl).trans (o'.trans ?_))
    refine congrArg₂ (· + ·) ?_ (congrArg₂ (· * ·) (congrArg Ideal.log ?_) rfl)
    · exact sup_row _ _ _ _ _ (by omega) (by omega)
    · exact num_row _ _ _ _ _ _ _ _ (by omega) (by omega)
  · rw [if_neg h8]
    have ey : y = ValueIdx.ix2 (⟨(y 0).val, h0⟩ : Fin 16) (⟨(y 1).val, h1⟩ : Fin 512) := by
      funext a; match a with | ⟨0, _⟩ => rfl | ⟨1, _⟩ => rfl
    refine (congrArg (tL m ρ c t) ey).trans ((congrFun o _).trans ((lseL_rest _ _ _ _ (Nat.not_lt.mp h8)).trans ?_))
    rw [View.canon_unit_zero hz00, zero_rows]

end

end Cert.Attn

end
-- ==== Proof.Step.AttnOut.lean ====
/- The two arrays that the attention forward leaves. -/
module

public import proofs.«01_k».proof.Proof.Step.AttnTraj

@[expose] public section

set_option maxHeartbeats 4000000
set_option maxRecDepth 100000

noncomputable section

namespace Cert.Attn

open Cert.Kernel15Ideal Cert.Kernel15Ideal.Gen Cert.Common
open Idealize.ShloMosaic Idealize.ShloMosaic.TcCoe Idealize.SL.Sem

variable (m : (ℓ : Loc nD τ sig) → Buf (Elt Ideal) ℓ) (ρ : Dev nD → PrngReg)

/-- The output. -/
def whole4 (c : Dev nD) : Buf (Elt Ideal) ((c : Thread nD τ).loc main_v0_0) :=
  fun (i : S8192x512.Idx) => (outR (gQ m c) (gK m c) (gV m c) (gP m c) (i 0).val (i 1).val : EReal)

/-- The row sums' logarithms. -/
def whole5 (c : Dev nD) : Buf (Elt Ideal) ((c : Thread nD τ).loc main_v0_1) :=
  fun (i : S16x8192.Idx) => (lseR (gQ m c) (gK m c) (gV m c) (i 0).val (i 1).val : EReal)

theorem result4 (c : Dev nD) (hQ : ∀ i j, ∃ z : ℝ, at2 (gQ m c) i j = z) (hK : ∀ i j, ∃ z : ℝ, at2 (gK m c) i j = z) :
    (dats ch0 m ρ 0 c).arrAt (4 : Fin 6) (cfgA ch0).N = whole4 m c := by
  refine (dats ch0 m ρ 0 c).arrAt_eq_of_covers (4 : Fin 6) (whole4 m c) cov4 fun t hf y => ?_
  obtain ⟨-, -, -, -, ⟨e0, e1⟩, -⟩ := ctl1 t
  have hl := (ctl3 t).1 hf
  rw [cast_eq, after0_4]
  refine (out_last m ρ c hQ hK t hl _).trans ?_
  show outR (gQ m c) (gK m c) (gV m c) (gP m c) (512 * qN t + (y 0).val) (y 1).val
    = outR (gQ m c) (gK m c) (gV m c) (gP m c) (j4 t 0 * 512 + 1 * (y 0).val) (j4 t 1 * 512 + 1 * (y 1).val)
  rw [e0, e1]
  congr 1 <;> omega

theorem result5 (c : Dev nD) (hQ : ∀ i j, ∃ z : ℝ, at2 (gQ m c) i j = z) (hK : ∀ i j, ∃ z : ℝ, at2 (gK m c) i j = z) :
    (dats ch0 m ρ 0 c).arrAt (5 : Fin 6) (cfgA ch0).N = whole5 m c := by
  refine (dats ch0 m ρ 0 c).arrAt_eq_of_covers (5 : Fin 6) (whole5 m c) cov5 fun t hf y => ?_
  obtain ⟨-, -, -, -, -, ⟨e0, e1⟩, -⟩ := ctl1 t
  have hl := (ctl3 t).2 hf
  rw [cast_eq, after0_5]
  refine (lse_last m ρ c hQ hK t hl _).trans ?_
  show lseR (gQ m c) (gK m c) (gV m c) (y 0).val (512 * qN t + (y 1).val)
    = lseR (gQ m c) (gK m c) (gV m c) (j5 t 0 * 16 + 1 * (y 0).val) (j5 t 1 * 512 + 1 * (y 1).val)
  rw [e0, e1]
  congr 1 <;> omega

end Cert.Attn

end
-- ==== Proof.Step.AttnPre.lean ====
/- What the precondition of the attention forward says: the two tables hold the pairs of blocks, the row of the values that carries
   the row sum holds ones, and the queries and the keys are reals. -/
module

public import proofs.«01_k».proof.Defs
public import proofs.«01_k».proof.Proof.Ffn.Finite
public import proofs.«01_k».proof.Proof.Step.AttnDefs
public import proofs.«01_k».proof.Proof.Gen.Pre_causal_attention
public import Idealize.ShloMosaic.Lib.Pointwise

@[expose] public section

set_option maxRecDepth 100000

namespace Cert.Attn

open Idealize.ShloMosaic Cert.Common Cert.Pre_causal_attention

/-- The two tables. -/
theorem pre_tables {F : FTy → Type} [FloatOps F] (x0 x1 : IVec S136 32) (x2 x3 : FVec F S8192x1024 .bf16) (x4 : FVec F S16x1024x512 .bf16)
    (x5 : FVec F S1024x512 .bf16) (h : Cert.Pre_causal_attention.fn (F := F) x0 x1 x2 x3 x4 x5 = fun _ => 1#1) :
    (∀ i, x0 i = lit0 (S136.rowMajor i)) ∧ (∀ i, x1 i = lit1 (S136.rowMajor i)) := by
  have h := congrFun h (fun a : Fin 0 => a.elim0)
  unfold Cert.Pre_causal_attention.fn at h
  dsimp only at h
  unfold Cert.Pre_causal_attention.fn_part1 at h
  obtain ⟨h, -⟩ := IntOp.andi_eq_one.1 h
  obtain ⟨h, -⟩ := IntOp.andi_eq_one.1 h
  obtain ⟨h0, h1⟩ := IntOp.andi_eq_one.1 h
  refine ⟨fun i => ?_, fun i => ?_⟩
  · have h2 := Host.reduce_andi_all _ _ _ _ _ h0 i
    have h3 : BitVec.ofBool (x0 i == lit0 (S136.rowMajor i)) = 1#1 := h2
    by_contra h4
    rw [beq_eq_false_iff_ne.mpr h4] at h3
    exact absurd h3 (by decide)
  · have h2 := Host.reduce_andi_all _ _ _ _ _ h1 i
    have h3 : BitVec.ofBool (x1 i == lit1 (S136.rowMajor i)) = 1#1 := h2
    by_contra h4
    rw [beq_eq_false_iff_ne.mpr h4] at h3
    exact absurd h3 (by decide)

/-- A comparison that came out true. -/
theorem of_dec {p : Prop} {d : Decidable p} (h : BitVec.ofBool (@decide p d) = 1#1) : p := by
  by_contra h4
  rw [decide_eq_false h4] at h
  exact absurd h (by decide)

/-- The numbers. -/
theorem pre_numbers (x0 x1 : IVec S136 32) (x2 x3 : FVec Ideal S8192x1024 .bf16) (x4 : FVec Ideal S16x1024x512 .bf16)
    (x5 : FVec Ideal S1024x512 .bf16) (h : Cert.Pre_causal_attention.fn (F := Ideal) x0 x1 x2 x3 x4 x5 = fun _ => 1#1) :
    (∀ i j, ∃ z : ℝ, at2 x2 i j = z) ∧ (∀ i j, ∃ z : ℝ, at2 x3 i j = z) ∧ (∀ h j, h < 8 → j < 8192 → vT x4 h 64 j = 1) := by
  have h := congrFun h (fun a : Fin 0 => a.elim0)
  unfold Cert.Pre_causal_attention.fn at h
  dsimp only at h
  unfold Cert.Pre_causal_attention.fn_part1 at h
  obtain ⟨h, hf⟩ := IntOp.andi_eq_one.1 h
  obtain ⟨f2, f3⟩ := IntOp.andi_eq_one.1 hf
  obtain ⟨-, h1⟩ := IntOp.andi_eq_one.1 h
  refine ⟨Cert.Finite.real_at2 _ (Cert.Finite.real_of_all _ Cert.Finite.inf_bf16 x2 _ _ _ _ f2),
    Cert.Finite.real_at2 _ (Cert.Finite.real_of_all _ Cert.Finite.inf_bf16 x3 _ _ _ _ f3), fun n j hn hj => ?_⟩
  have h2 := Host.reduce_andi_all _ _ _ _ _ h1 (ValueIdx.ix3 (⟨j / 512, by omega⟩ : Fin 16) (⟨n, hn⟩ : Fin 8) (⟨j % 512, by omega⟩ : Fin 512))
  revert h2
  pointwise []
  intro h2
  exact (at3_of_val x4 _ _ _ _ rfl (by show n * 128 + 64 = 128 * n + 64; omega) rfl).symm.trans (of_dec h2)

end Cert.Attn
-- ==== Proof.Step.AttnRef.lean ====
/- The reference's causal attention, read element by element. -/
module

public import proofs.«01_k».proof.Proof.Gen.Reference15Ideal.Read
public import proofs.«01_k».proof.Proof.Step.AttnDefs
public import Idealize.ShloMosaic.Lib.Pointwise

@[expose] public section

set_option maxHeartbeats 400000

noncomputable section

namespace Cert.Attn

open Cert.Common Cert.Reference15Ideal.Read
open Idealize.ShloMosaic

variable (Q K : (⟨2, ![8192, 1024]⟩ : Shape).Idx → EReal) (X : (⟨3, ![16, 1024, 512]⟩ : Shape).Idx → EReal) (P : (⟨2, ![1024, 512]⟩ : Shape).Idx → EReal)

theorem r_v3 (i : (⟨3, ![8192, 8, 128]⟩ : Shape).Idx) : val_main_v3 (F := Ideal) X i = vT X (i 1).val (i 2).val (i 0).val := by
  have h0 : (i 0).val < 8192 := (i 0).isLt
  have h1 : (i 1).val < 8 := (i 1).isLt
  have h2 : (i 2).val < 128 := (i 2).isLt
  rw [val_main_v3_apply, val_main_v2_apply, val_main_v1_apply, val_main_v0_apply]
  refine at3_of_val X _ _ _ _ ?_ ?_ ?_
  · show ((((i 0).val * 8 + (i 1).val) * 128 + (i 2).val) / 1024 * 1024 + (((i 0).val * 8 + (i 1).val) * 128 + (i 2).val) % 1024) / 524288 = (i 0).val / 512
    omega
  · show ((((i 0).val * 8 + (i 1).val) * 128 + (i 2).val) / 1024 * 1024 + (((i 0).val * 8 + (i 1).val) * 128 + (i 2).val) % 1024) % 1024 = 128 * (i 1).val + (i 2).val
    omega
  · show ((((i 0).val * 8 + (i 1).val) * 128 + (i 2).val) / 1024 * 1024 + (((i 0).val * 8 + (i 1).val) * 128 + (i 2).val) % 1024) / 1024 % 512 = (i 0).val % 512
    omega

theorem r_v5 (i : (⟨3, ![8192, 8, 128]⟩ : Shape).Idx) : val_main_v5 (F := Ideal) Q i = at2 Q (i 0).val (128 * (i 1).val + (i 2).val) := by
  have h0 : (i 0).val < 8192 := (i 0).isLt
  have h1 : (i 1).val < 8 := (i 1).isLt
  have h2 : (i 2).val < 128 := (i 2).isLt
  rw [val_main_v5_apply, val_main_v4_apply]
  refine at2_of_val Q _ _ _ ?_ ?_
  · show (((i 0).val * 8 + (i 1).val) * 128 + (i 2).val) / 1024 = (i 0).val
    omega
  · show (((i 0).val * 8 + (i 1).val) * 128 + (i 2).val) % 1024 = 128 * (i 1).val + (i 2).val
    omega

theorem r_v7 (i : (⟨3, ![8192, 8, 128]⟩ : Shape).Idx) : val_main_v7 (F := Ideal) K i = at2 K (i 0).val (128 * (i 1).val + (i 2).val) := by
  have h0 : (i 0).val < 8192 := (i 0).isLt
  have h1 : (i 1).val < 8 := (i 1).isLt
  have h2 : (i 2).val < 128 := (i 2).isLt
  rw [val_main_v7_apply, val_main_v6_apply]
  refine at2_of_val K _ _ _ ?_ ?_
  · show (((i 0).val * 8 + (i 1).val) * 128 + (i 2).val) / 1024 = (i 0).val
    omega
  · show (((i 0).val * 8 + (i 1).val) * 128 + (i 2).val) % 1024 = 128 * (i 1).val + (i 2).val
    omega

theorem r_v8 (i : (⟨3, ![8, 8192, 8192]⟩ : Shape).Idx) : val_main_v8 (F := Ideal) Q K i = eS Q K (i 0).val (i 1).val (i 2).val := by
  rw [val_main_v8_apply]
  unfold eS
  refine Finset.sum_congr rfl fun l _ => ?_
  rw [r_v5, r_v7]
  exact mul_comm _ _

theorem r_cmp (a b : ℕ) (ha : a < 8192) (hb : b < 8192) : IntOp.cmpi CmpIPredicate.sle (BitVec.ofNat 32 a) (BitVec.ofNat 32 b) =
    if a ≤ b then 1#1 else 0#1 := by
  have t1 : (BitVec.ofNat 32 b).toInt = b := by rw [BitVec.toInt_eq_toNat_of_lt (by rw [BitVec.toNat_ofNat]; omega), BitVec.toNat_ofNat, Nat.mod_eq_of_lt (by omega)]
  have t2 : (BitVec.ofNat 32 a).toInt = a := by rw [BitVec.toInt_eq_toNat_of_lt (by rw [BitVec.toNat_ofNat]; omega), BitVec.toNat_ofNat, Nat.mod_eq_of_lt (by omega)]
  have h : IntOp.cmpi CmpIPredicate.sle (BitVec.ofNat 32 a) (BitVec.ofNat 32 b) = BitVec.ofBool ((BitVec.ofNat 32 a).sle (BitVec.ofNat 32 b)) := rfl
  rw [h, BitVec.sle_eq_decide, t1, t2]
  by_cases hh : a ≤ b
  · rw [if_pos hh, decide_eq_true (by omega)]; rfl
  · rw [if_neg hh, decide_eq_false (by omega)]; rfl

theorem r_ninf : Ideal.ofBits .f32 0xFF800000#32 = ⊥ := by
  simp [Ideal.ofBits, Ideal.ieee]

theorem r_mask (i : (⟨3, ![8, 8192, 8192]⟩ : Shape).Idx) : val_main_call0_v1 (F := Ideal) i = if (i 2).val ≤ (i 1).val then 1#1 else 0#1 := by
  have h1 : (i 1).val < 8192 := (i 1).isLt
  have h2 : (i 2).val < 8192 := (i 2).isLt
  rw [val_main_call0_v1_apply, val_main_v14_apply, val_main_v12_apply, val_main_v10_apply, val_main_v9_apply, val_main_v13_apply, val_main_v11_apply, val_main_v9_apply]
  exact r_cmp (i 2).val (i 1).val h2 h1

theorem r_v15 (i : (⟨3, ![8, 8192, 8192]⟩ : Shape).Idx) : val_main_v15 (F := Ideal) Q K i = eT Q K (i 0).val (i 1).val (i 2).val := by
  rw [val_main_v15_apply, r_mask, r_v8, val_main_call0_v2_apply, val_main_call0_v0_apply, val_main_cst_apply]
  unfold eT
  by_cases h : (i 2).val ≤ (i 1).val
  · rw [if_pos h, if_pos h]; rfl
  · rw [if_neg h, if_neg h]; exact r_ninf

theorem sup_fin (f : ℕ → EReal) (n : ℕ) : ((Finset.univ : Finset (Fin n)).sup fun j => f j.val) = (Finset.range n).sup f := by
  apply le_antisymm
  · exact Finset.sup_le fun j _ => Finset.le_sup (f := f) (Finset.mem_range.mpr j.isLt)
  · exact Finset.sup_le fun j hj => Finset.le_sup (f := fun j : Fin n => f j.val) (Finset.mem_univ (⟨j, Finset.mem_range.mp hj⟩ : Fin n))

theorem r_v16 (i : (⟨2, ![8, 8192]⟩ : Shape).Idx) : val_main_v16 (F := Ideal) Q K i = supR Q K (i 0).val (i 1).val := by
  have e := r_v15 Q K
  unfold val_main_v16
  generalize val_main_v15 (F := Ideal) Q K = u at e ⊢
  pointwise [val_main_cst_0]
  simp only [e]
  refine (congrArg (fun b => Finset.fold max b (fun x : Fin 8192 => eT Q K (i 0).val (i 1).val x.val) Finset.univ) r_ninf).trans ?_
  exact sup_fin (fun j => eT Q K (i 0).val (i 1).val j) 8192

section
variable (hQ : ∀ i j, ∃ z : ℝ, at2 Q i j = z) (hK : ∀ i j, ∃ z : ℝ, at2 K i j = z)

include hQ hK in
theorem sup_real (h r : ℕ) : supR Q K h r = ((supR Q K h r).toReal : EReal) :=
  (EReal.coe_toReal (sup_ne_top _ (fun j => eT_ne_top Q K hQ hK h r j) _) (eT_sup Q K hQ hK h r 8192 (by omega))).symm

theorem r_two : Ideal.ofBits .f32 0x40000000#32 = ((2 : ℝ) : EReal) := by
  simp [Ideal.ofBits, Ideal.ieee]
  rw [← EReal.coe_mul]
  congr 1
  norm_num

theorem r_zero : Ideal.ofBits .f32 0x00000000#32 = 0 := by
  simp [Ideal.ofBits, Ideal.ieee]

/-- The weight of a key. -/
abbrev wR (Q K : (⟨2, ![8192, 1024]⟩ : Shape).Idx → EReal) (h r j : ℕ) : ℝ := wt (eT Q K h r j) (supR Q K h r).toReal

include hQ hK in
theorem r_v21 (i : (⟨3, ![8, 8192, 8192]⟩ : Shape).Idx) : val_main_v21 (F := Ideal) Q K i = ((wR Q K (i 0).val (i 1).val (i 2).val : ℝ) : EReal) := by
  rw [val_main_v21_apply, val_main_v20_apply, val_main_cst_1_apply, val_main_v19_apply, r_v15, val_main_v18_apply, val_main_v17_apply, r_v16]
  show Ideal.pow (Ideal.ofBits .f32 0x40000000#32) (eT Q K (i 0).val (i 1).val (i 2).val - supR Q K (i 0).val (i 1).val) = _
  rw [r_two, sup_real Q K hQ hK]
  exact pow_sub (eT_ne_top Q K hQ hK _ _ _) _

/-- The sum of the weights of a row. -/
def dR (Q K : (⟨2, ![8192, 1024]⟩ : Shape).Idx → EReal) (h r : ℕ) : ℝ := ∑ j ∈ Finset.range 8192, wR Q K h r j

include hQ hK in
theorem dR_pos (h r : ℕ) : 0 < dR Q K h r := sum_wt_pos _ _ 8192 0 (by omega) (eT_zero Q K hQ hK h r)

include hQ hK in
theorem r_v22 (i : (⟨2, ![8, 8192]⟩ : Shape).Idx) : val_main_v22 (F := Ideal) Q K i = ((dR Q K (i 0).val (i 1).val : ℝ) : EReal) := by
  rw [val_main_v22_apply, val_main_cst_2_apply]
  refine (congrArg₂ (· + ·) r_zero rfl).trans ((zero_add _).trans ?_)
  unfold dR
  rw [coe_sum, Finset.sum_range (fun j => ((wR Q K (i 0).val (i 1).val j : ℝ) : EReal))]
  refine Finset.sum_congr rfl fun k _ => ?_
  exact r_v21 Q K hQ hK _

theorem num_one (X : (⟨3, ![16, 1024, 512]⟩ : Shape).Idx → EReal) (hO : ∀ h j, h < 8 → j < 8192 → vT X h 64 j = 1) (h r : ℕ) (hh : h < 8) :
    numR Q K X h 64 r = ((dR Q K h r : ℝ) : EReal) := by
  unfold numR dR
  rw [coe_sum]
  refine Finset.sum_congr rfl fun j hj => ?_
  rw [hO h j hh (Finset.mem_range.mp hj), one_mul]

include hQ hK in
theorem r_v26 (i : (⟨3, ![8, 128, 8192]⟩ : Shape).Idx) :
    val_main_v26 (F := Ideal) Q K X i = Ideal.div (numR Q K X (i 0).val (i 1).val (i 2).val) ((dR Q K (i 0).val (i 2).val : ℝ) : EReal) := by
  rw [val_main_v26_apply, Ideal.div_coe (ne_of_gt (dR_pos Q K hQ hK _ _)), mul_comm]
  unfold numR
  rw [mul_sum_ereal _ (le_of_lt (one_div_pos.mpr (dR_pos Q K hQ hK _ _))), Finset.sum_range (fun j => (((1 / dR Q K (i 0).val (i 2).val : ℝ)) : EReal) * (vT X (i 0).val (i 1).val j * ((wR Q K (i 0).val (i 2).val j : ℝ) : EReal)))]
  refine Finset.sum_congr rfl fun k _ => ?_
  rw [r_v3, val_main_v25_apply, r_v21 Q K hQ hK, val_main_v24_apply, val_main_v23_apply, r_v22 Q K hQ hK]
  refine (congrArg₂ (· * ·) rfl (Ideal.div_coe (ne_of_gt (dR_pos Q K hQ hK _ _)) _)).trans ?_
  refine (mul_assoc _ _ _).symm.trans ((mul_comm _ _).trans ?_)
  rfl

include hQ hK in
theorem r_v36 (hO : ∀ h j, h < 8 → j < 8192 → vT X h 64 j = 1) (i : (⟨2, ![8192, 512]⟩ : Shape).Idx) :
    val_main_v36 (F := Ideal) Q K X P i = outR Q K X P (i 0).val (i 1).val := by
  have h0 : (i 0).val < 8192 := (i 0).isLt
  rw [val_main_v36_apply]
  refine (val_main_v30_apply Q K X P i).trans ?_
  unfold outR
  refine Finset.sum_congr rfl fun e _ => ?_
  have he := e.isLt
  refine congrArg₂ (· * ·) ?_ ?_
  · rw [val_main_v28_apply, val_main_v27_apply, r_v26 Q K X hQ hK, num_one Q K X hO _ _ (by omega)]
    have a0 : ((i 0).val * 1024 + e.val) / 128 % 8 = e.val / 128 := by omega
    have a1 : ((i 0).val * 1024 + e.val) % 128 = e.val % 128 := by omega
    have a2 : ((i 0).val * 1024 + e.val) / 1024 = (i 0).val := by omega
    show Ideal.div (numR Q K X (((i 0).val * 1024 + e.val) / 128 % 8) (((i 0).val * 1024 + e.val) % 128) (((i 0).val * 1024 + e.val) / 1024))
      ((dR Q K (((i 0).val * 1024 + e.val) / 128 % 8) (((i 0).val * 1024 + e.val) / 1024) : ℝ) : EReal) = _
    rw [a0, a1, a2]
  · rw [val_main_v29_apply]
    exact at2_of_val P _ _ _ rfl rfl

include hQ hK in
theorem r_v35 (hO : ∀ h j, h < 8 → j < 8192 → vT X h 64 j = 1) (i : (⟨2, ![8, 8192]⟩ : Shape).Idx) :
    val_main_v35 (F := Ideal) Q K i = lseR Q K X (i 0).val (i 1).val := by
  have h0 : (i 0).val < 8 := (i 0).isLt
  have h1 : (i 1).val < 8192 := (i 1).isLt
  rw [val_main_v35_apply, val_main_v34_apply, val_main_v17_apply, r_v16, val_main_v33_apply, val_main_v31_apply, val_main_v23_apply, r_v22 Q K hQ hK, val_main_v32_apply, val_main_cst_3_apply]
  unfold lseR
  rw [if_pos h0, num_one Q K X hO _ _ h0]
  have a0 : ((i 0).val * 8192 + (i 1).val) / 8192 = (i 0).val := by omega
  have a1 : ((i 0).val * 8192 + (i 1).val) / 1 % 8192 = (i 1).val := by omega
  show supR Q K (((i 0).val * 8192 + (i 1).val) / 8192) (((i 0).val * 8192 + (i 1).val) / 1 % 8192)
    + Ideal.log ((dR Q K (((i 0).val * 8192 + (i 1).val) / 8192) (((i 0).val * 8192 + (i 1).val) / 1 % 8192) : ℝ) : EReal) * Ideal.ofBits .f32 0x3FB8AA3B#32 = _
  rw [a0, a1]

include hQ hK in
theorem r_v38 (hO : ∀ h j, h < 8 → j < 8192 → vT X h 64 j = 1) (i : (⟨2, ![16, 8192]⟩ : Shape).Idx) :
    val_main_v38 (F := Ideal) Q K i = lseR Q K X (i 0).val (i 1).val := by
  have e := r_v35 Q K X hQ hK hO
  have z : ∀ j, val_main_v37 (F := Ideal) j = 0 := fun j => (val_main_v37_apply j).trans r_zero
  unfold val_main_v38
  generalize val_main_v35 (F := Ideal) Q K = u at e ⊢
  generalize val_main_v37 (F := Ideal) = w at z ⊢
  pointwise []
  by_cases h : (i 0).val < 8
  · exact (dif_pos h).trans (e _)
  · refine (dif_neg h).trans ((z _).trans ?_)
    unfold lseR
    rw [if_neg h]

end

end Cert.Attn

end
-- ==== Proof.Step.AttnClaim.lean ====
/- The claims of the attention forward: where the tables list the pairs of blocks, the values carry their row of ones, and the
   queries and keys are finite, the kernel runs, and it ends with the reference's output and row sums. -/
module

public import proofs.«01_k».proof.Defs
public import proofs.«01_k».proof.Proof.Step.AttnOut
public import proofs.«01_k».proof.Proof.Step.AttnPre
public import proofs.«01_k».proof.Proof.Step.AttnRef
public import proofs.«01_k».proof.Proof.Gen.Kernel15.Flash
public import proofs.«01_k».proof.Proof.Gen.Reference15Ideal.Run
public import proofs.«01_k».proof.Proof.Gen.Reference15Ideal.Read
public import Idealize.ShloMosaic.Lib.Quiescent

@[expose] public section

set_option maxRecDepth 100000

namespace Cert.Attn

open Idealize.ShloMosaic Idealize.SL.Sem Cert.Common Cert.Pre_causal_attention

/-- The tables of the precondition are the tables of the kernel. -/
theorem tab0 : ∀ k : Fin 136, lit0 (S136.rowMajor (ValueIdx.ix1 k)) = Cert.Kernel15Ideal.Gen.pinT_0 ch0 (ValueIdx.ix1 k) := by decide +kernel
theorem tab1 : ∀ k : Fin 136, lit1 (S136.rowMajor (ValueIdx.ix1 k)) = Cert.Kernel15Ideal.Gen.pinT_1 ch0 (ValueIdx.ix1 k) := by decide +kernel
theorem tab0' : ∀ k : Fin 136, lit0 (S136.rowMajor (ValueIdx.ix1 k)) = Cert.Kernel15.Gen.pinT_0 ch0 (ValueIdx.ix1 k) := by decide +kernel
theorem tab1' : ∀ k : Fin 136, lit1 (S136.rowMajor (ValueIdx.ix1 k)) = Cert.Kernel15.Gen.pinT_1 ch0 (ValueIdx.ix1 k) := by decide +kernel

theorem idx1 (i : S136.Idx) : i = ValueIdx.ix1 (⟨(i 0).val, (i 0).isLt⟩ : Fin 136) := funext fun a => by fin_cases a; rfl

theorem pinned_kernel (m : (ℓ : Loc Cert.Kernel15.nD Cert.Kernel15.τ Cert.Kernel15.sig) → Buf (Elt Bits) ℓ)
    (h : Cert.Pre_Kernel15 m) : Cert.Kernel15.Gen.Pinned ch0 m := by
  refine ⟨fun c => funext fun i => ?_, fun c => funext fun i => ?_⟩
  · refine ((pre_tables _ _ _ _ _ _ (h c)).1 i).trans ?_
    exact (idx1 i) ▸ tab0' _
  · refine ((pre_tables _ _ _ _ _ _ (h c)).2 i).trans ?_
    exact (idx1 i) ▸ tab1' _

theorem pinned_ideal (m : (ℓ : Loc Cert.Kernel15Ideal.nD Cert.Kernel15Ideal.τ Cert.Kernel15Ideal.sig) → Buf (Elt Ideal) ℓ)
    (h : Cert.Pre_Kernel15Ideal m) : Cert.Kernel15Ideal.Gen.Pinned ch0 m := by
  refine ⟨fun c => funext fun i => ?_, fun c => funext fun i => ?_⟩
  · refine ((pre_tables _ _ _ _ _ _ (h c)).1 i).trans ?_
    exact (idx1 i) ▸ tab0 _
  · refine ((pre_tables _ _ _ _ _ _ (h c)).2 i).trans ?_
    exact (idx1 i) ▸ tab1 _

/-- The kernel runs, keeps its arguments and leaves no semaphore counted up. -/
theorem frame_kernel : Cert.quiescent_Kernel15 := fun m ρ h => Cert.Kernel15.Gen.frame ch0 m ρ (pinned_kernel m h)

/-- So does the idealized kernel. -/
theorem frame_ideal : Cert.quiescent_Kernel15Ideal := fun m ρ h => Cert.Kernel15Ideal.Gen.frame ch0 m ρ (pinned_ideal m h)

/-- So does the reference. -/
theorem frame15 : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

/-- The kernel and the reference end with the same output and the same row sums. -/
theorem algebraic15 : Cert.algebraic_Kernel15Ideal_Reference15Ideal := by
  intro m ρ m' ρ' hpre hagree
  have hp := pinned_ideal m hpre
  refine ⟨fun c => whole4 m c, fun c => whole5 m c, ?_, ?_⟩
  · refine (θ_run Cert.Kernel15Ideal.defs _ _).mono (fun r h c => ?_)
      (θ_run_and (Cert.Kernel15Ideal.Gen.run_main ch0 m ρ hp) (Cert.Kernel15Ideal.Gen.unchanged ch0 m ρ hp))
    obtain ⟨hQ, hK, -⟩ := pre_numbers _ _ _ _ _ _ (hpre c)
    exact ⟨((h.1 c).1 (4 : Fin 6)).trans (result4 m ρ c hQ hK), ((h.1 c).1 (5 : Fin 6)).trans (result5 m ρ c hQ hK), h.2 c⟩
  · refine (θ_run Cert.Reference15Ideal.defs _ _).mono (fun r h c => ⟨(h c).1.trans ?_, (h c).2.1.trans ?_, (h c).2.2⟩)
      (Cert.Reference15Ideal.Value.run (F := Ideal) m' ρ')
    · refine (Cert.Reference15Ideal.Read.val_main_v36_eq _ _).trans (funext fun i => ?_)
      obtain ⟨-, -, a2, a3, a4, a5⟩ := hagree c
      rw [a2, a3, a4, a5]
      obtain ⟨hQ, hK, hO⟩ := pre_numbers _ _ _ _ _ _ (hpre c)
      exact r_v36 _ _ _ _ hQ hK hO i
    · refine (Cert.Reference15Ideal.Read.val_main_v38_eq _ _).trans (funext fun i => ?_)
      obtain ⟨-, -, a2, a3, -⟩ := hagree c
      rw [a2, a3]
      obtain ⟨hQ, hK, hO⟩ := pre_numbers _ _ _ _ _ _ (hpre c)
      exact r_v38 _ _ _ hQ hK hO i

end Cert.Attn
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Flash
public import proofs.«01_k».proof.Proof.Gen.Kernel15Ideal.Flash
public import proofs.«01_k».proof.Proof.Gen.Reference15Ideal.Run
public import proofs.«01_k».proof.Proof.Gen.Reference15Ideal.Read
public import proofs.«01_k».proof.Proof.Gen.Pre_causal_attention
public import proofs.«01_k».proof.Proof.Gen.Pre_finite_loss
public import proofs.«01_k».proof.Proof.Gen.Pre_finite_in
public import proofs.«01_k».proof.Proof.Gen.Pre_finite_ffn
public import proofs.«01_k».proof.Proof.Gen.Pre_finite_up
public import proofs.«01_k».proof.Proof.Ffn.GateClaim
public import proofs.«01_k».proof.Proof.Ffn.Linear
public import proofs.«01_k».proof.Proof.Ffn.Up
public import proofs.«01_k».proof.Proof.Step.Claims
public import proofs.«01_k».proof.Proof.Step.LossClaim
public import proofs.«01_k».proof.Proof.Step.InBwdClaim
public import proofs.«01_k».proof.Proof.Step.AttnClaim

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite_ffn.Gen.facts, Cert.Pre_finite_up.Gen.facts, Cert.Pre_finite_loss.Gen.facts, Cert.Pre_finite_in.Gen.facts, Cert.Pre_causal_attention.Gen.facts,
    fun m ρ _ => Cert.Kernel.Gen.frame m ρ, fun m ρ _ => Cert.KernelIdeal.Gen.frame m ρ,
    fun m ρ _ => Cert.KernelIdeal.Gen.frame m ρ, Cert.GateClaim.frame1, fun m ρ _ => Cert.GateClaim.frame1 m ρ trivial,
    fun m ρ _ => Cert.Kernel2.Gen.frame m ρ, fun m ρ _ => Cert.Kernel2Ideal.Gen.frame m ρ, Cert.Linear.frame2,
    fun m ρ _ => Cert.Kernel3.Gen.frame m ρ, fun m ρ _ => Cert.Kernel3Ideal.Gen.frame m ρ,
    fun m ρ _ => Cert.Kernel3Ideal.Gen.frame m ρ, Cert.Up.frame3, fun m ρ _ => Cert.Up.frame3 m ρ trivial,
    fun m ρ _ => Cert.Kernel4.Gen.frame m ρ, fun m ρ _ => Cert.Kernel4Ideal.Gen.frame m ρ, Cert.Linear.frame4,
    fun m ρ _ => Cert.Kernel5.Gen.frame m ρ, fun m ρ _ => Cert.Kernel5Ideal.Gen.frame m ρ, Cert.Linear.frame5,
    fun m ρ _ => Cert.Kernel6.Gen.frame m ρ, fun m ρ _ => Cert.Kernel6Ideal.Gen.frame m ρ, Cert.Step.frame6,
    fun m ρ _ => Cert.Kernel7.Gen.frame m ρ, fun m ρ _ => Cert.Kernel7Ideal.Gen.frame m ρ, Cert.Step.frame7,
    fun m ρ _ => Cert.Kernel8.Gen.frame m ρ, fun m ρ _ => Cert.Kernel8Ideal.Gen.frame m ρ, Cert.Step.frame8,
    fun m ρ _ => Cert.Kernel9.Gen.frame m ρ, fun m ρ _ => Cert.Kernel9Ideal.Gen.frame m ρ, Cert.Step.frame9,
    fun m ρ _ => Cert.Kernel10.Gen.frame m ρ, fun m ρ _ => Cert.Kernel10Ideal.Gen.frame m ρ, Cert.Step.frame10,
    fun m ρ _ => Cert.Kernel11.Gen.frame m ρ, fun m ρ _ => Cert.Kernel11Ideal.Gen.frame m ρ, Cert.Step.frame11,
    fun m ρ _ => Cert.Kernel12.Gen.frame m ρ, fun m ρ _ => Cert.Kernel12Ideal.Gen.frame m ρ,
    fun m ρ _ => Cert.Kernel12Ideal.Gen.frame m ρ, Cert.LossClaim.frame12, fun m ρ _ => Cert.LossClaim.frame12 m ρ trivial,
    fun m ρ _ => Cert.Kernel14.Gen.frame m ρ, fun m ρ _ => Cert.Kernel14Ideal.Gen.frame m ρ,
    fun m ρ _ => Cert.Kernel14Ideal.Gen.frame m ρ, Cert.InBwdClaim.frame14, fun m ρ _ => Cert.InBwdClaim.frame14 m ρ trivial,
    Cert.Attn.frame_kernel, Cert.Attn.frame_ideal, Cert.Attn.frame15, fun m ρ _ => Cert.Attn.frame15 m ρ trivial,
    trivial, Cert.GateClaim.algebraic1, trivial, Cert.Linear.algebraic2, trivial, Cert.Up.algebraic3, trivial, Cert.Linear.algebraic4, trivial, Cert.Linear.algebraic5,
    trivial, Cert.Step.algebraic6,
    trivial, Cert.Step.algebraic7,
    trivial, Cert.Step.algebraic8,
    trivial, Cert.Step.algebraic9,
    trivial, Cert.Step.algebraic10,
    trivial, Cert.Step.algebraic11,
    trivial, Cert.LossClaim.algebraic12,
    trivial, Cert.InBwdClaim.algebraic14,
    IdealRules.named_const.statement Cert.Kernel15Ideal.κ "mask" .f32 0xF149F2CA#32 ⊥ rfl, Cert.Attn.algebraic15⟩

end Cert.Proof

end
